-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_finite_pooled [hPre_finite_pooled : Cert.Pre_finite_pooled.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_finite_pooled.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3))) = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_finite_pooled [hPre_finite_pooled : Cert.Pre_finite_pooled.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_finite_pooled.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3))) = (fun _ => 1#1)

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Kernel9Ideal_finite_gated [hPre_finite_gated : Cert.Pre_finite_gated.Facts] (m : (ℓ : Loc Cert.Kernel9Ideal.nD Cert.Kernel9Ideal.τ Cert.Kernel9Ideal.sig) → Buf (Elt Ideal) ℓ) : Prop :=
  ∀ c : Dev Cert.Kernel9Ideal.nD,
    (Cert.Pre_finite_gated.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4)) (m ((c.tc : Thread Cert.Kernel9Ideal.nD Cert.Kernel9Ideal.τ).loc Cert.Kernel9Ideal.main_arg5)) (m ((c.tc : Thread Cert.Kernel9Ideal.nD Cert.Kernel9Ideal.τ).loc Cert.Kernel9Ideal.main_arg6)) (m ((c.tc : Thread Cert.Kernel9Ideal.nD Cert.Kernel9Ideal.τ).loc Cert.Kernel9Ideal.main_arg7))) = (fun _ => 1#1)

def Pre_Reference9Ideal (m : (ℓ : Loc Cert.Reference9Ideal.nD Cert.Reference9Ideal.τ Cert.Reference9Ideal.sig) → Buf (Elt Ideal) ℓ) : Prop :=
  True

def Pre_Reference9Ideal_finite_gated [hPre_finite_gated : Cert.Pre_finite_gated.Facts] (m : (ℓ : Loc Cert.Reference9Ideal.nD Cert.Reference9Ideal.τ Cert.Reference9Ideal.sig) → Buf (Elt Ideal) ℓ) : Prop :=
  ∀ c : Dev Cert.Reference9Ideal.nD,
    (Cert.Pre_finite_gated.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3)) (m ((c.tc : Thread Cert.Reference9Ideal.nD Cert.Reference9Ideal.τ).loc Cert.Reference9Ideal.main_arg4)) (m ((c.tc : Thread Cert.Reference9Ideal.nD Cert.Reference9Ideal.τ).loc Cert.Reference9Ideal.main_arg5)) (m ((c.tc : Thread Cert.Reference9Ideal.nD Cert.Reference9Ideal.τ).loc Cert.Reference9Ideal.main_arg6)) (m ((c.tc : Thread Cert.Reference9Ideal.nD Cert.Reference9Ideal.τ).loc Cert.Reference9Ideal.main_arg7))) = (fun _ => 1#1)

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Kernel7Ideal_pre_finite_pooled [hKernel7Ideal : Cert.Kernel7Ideal.Facts] [hPre_finite_pooled : Cert.Pre_finite_pooled.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_finite_pooled m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Reference7Ideal_pre_finite_pooled [hReference7Ideal : Cert.Reference7Ideal.Facts] [hPre_finite_pooled : Cert.Pre_finite_pooled.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_finite_pooled m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5)
      ∧ r.2.mem ((c.tc : Thread Cert.Kernel9.nD Cert.Kernel9.τ).loc Cert.Kernel9.main_arg6) = m ((c.tc : Thread Cert.Kernel9.nD Cert.Kernel9.τ).loc Cert.Kernel9.main_arg6)
      ∧ r.2.mem ((c.tc : Thread Cert.Kernel9.nD Cert.Kernel9.τ).loc Cert.Kernel9.main_arg7) = m ((c.tc : Thread Cert.Kernel9.nD Cert.Kernel9.τ).loc Cert.Kernel9.main_arg7))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
      ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
      ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7))
      ∧ r.2.sem = fun _ => 0)

def quiescent_Kernel9Ideal_pre_finite_gated [hKernel9Ideal : Cert.Kernel9Ideal.Facts] [hPre_finite_gated : Cert.Pre_finite_gated.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal_finite_gated m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
      ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
      ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5)
      ∧ r.2.mem ((c.tc : Thread Cert.Reference9Ideal.nD Cert.Reference9Ideal.τ).loc Cert.Reference9Ideal.main_arg6) = m ((c.tc : Thread Cert.Reference9Ideal.nD Cert.Reference9Ideal.τ).loc Cert.Reference9Ideal.main_arg6)
      ∧ r.2.mem ((c.tc : Thread Cert.Reference9Ideal.nD Cert.Reference9Ideal.τ).loc Cert.Reference9Ideal.main_arg7) = m ((c.tc : Thread Cert.Reference9Ideal.nD Cert.Reference9Ideal.τ).loc Cert.Reference9Ideal.main_arg7))
      ∧ r.2.sem = fun _ => 0)

def quiescent_Reference9Ideal_pre_finite_gated [hReference9Ideal : Cert.Reference9Ideal.Facts] [hPre_finite_gated : Cert.Pre_finite_gated.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal_finite_gated m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5)
      ∧ r.2.mem ((c.tc : Thread Cert.Reference9Ideal.nD Cert.Reference9Ideal.τ).loc Cert.Reference9Ideal.main_arg6) = m ((c.tc : Thread Cert.Reference9Ideal.nD Cert.Reference9Ideal.τ).loc Cert.Reference9Ideal.main_arg6)
      ∧ r.2.mem ((c.tc : Thread Cert.Reference9Ideal.nD Cert.Reference9Ideal.τ).loc Cert.Reference9Ideal.main_arg7) = m ((c.tc : Thread Cert.Reference9Ideal.nD Cert.Reference9Ideal.τ).loc Cert.Reference9Ideal.main_arg7))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4)
      ∧ r.2.mem ((c.tc : Thread Cert.Kernel11.nD Cert.Kernel11.τ).loc Cert.Kernel11.main_arg5) = m ((c.tc : Thread Cert.Kernel11.nD Cert.Kernel11.τ).loc Cert.Kernel11.main_arg5)
      ∧ r.2.mem ((c.tc : Thread Cert.Kernel11.nD Cert.Kernel11.τ).loc Cert.Kernel11.main_arg6) = m ((c.tc : Thread Cert.Kernel11.nD Cert.Kernel11.τ).loc Cert.Kernel11.main_arg6)
      ∧ r.2.mem ((c.tc : Thread Cert.Kernel11.nD Cert.Kernel11.τ).loc Cert.Kernel11.main_arg7) = m ((c.tc : Thread Cert.Kernel11.nD Cert.Kernel11.τ).loc Cert.Kernel11.main_arg7)
      ∧ r.2.mem ((c.tc : Thread Cert.Kernel11.nD Cert.Kernel11.τ).loc Cert.Kernel11.main_arg8) = m ((c.tc : Thread Cert.Kernel11.nD Cert.Kernel11.τ).loc Cert.Kernel11.main_arg8))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
      ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
      ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6)
      ∧ r.2.mem ((c.tc : Thread Cert.Kernel11Ideal.nD Cert.Kernel11Ideal.τ).loc Cert.Kernel11Ideal.main_arg7) = m ((c.tc : Thread Cert.Kernel11Ideal.nD Cert.Kernel11Ideal.τ).loc Cert.Kernel11Ideal.main_arg7)
      ∧ r.2.mem ((c.tc : Thread Cert.Kernel11Ideal.nD Cert.Kernel11Ideal.τ).loc Cert.Kernel11Ideal.main_arg8) = m ((c.tc : Thread Cert.Kernel11Ideal.nD Cert.Kernel11Ideal.τ).loc Cert.Kernel11Ideal.main_arg8))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4)
      ∧ r.2.mem ((c.tc : Thread Cert.Reference11Ideal.nD Cert.Reference11Ideal.τ).loc Cert.Reference11Ideal.main_arg5) = m ((c.tc : Thread Cert.Reference11Ideal.nD Cert.Reference11Ideal.τ).loc Cert.Reference11Ideal.main_arg5)
      ∧ r.2.mem ((c.tc : Thread Cert.Reference11Ideal.nD Cert.Reference11Ideal.τ).loc Cert.Reference11Ideal.main_arg6) = m ((c.tc : Thread Cert.Reference11Ideal.nD Cert.Reference11Ideal.τ).loc Cert.Reference11Ideal.main_arg6)
      ∧ r.2.mem ((c.tc : Thread Cert.Reference11Ideal.nD Cert.Reference11Ideal.τ).loc Cert.Reference11Ideal.main_arg7) = m ((c.tc : Thread Cert.Reference11Ideal.nD Cert.Reference11Ideal.τ).loc Cert.Reference11Ideal.main_arg7)
      ∧ r.2.mem ((c.tc : Thread Cert.Reference11Ideal.nD Cert.Reference11Ideal.τ).loc Cert.Reference11Ideal.main_arg8) = m ((c.tc : Thread Cert.Reference11Ideal.nD Cert.Reference11Ideal.τ).loc Cert.Reference11Ideal.main_arg8))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0))
      ∧ r.2.sem = fun _ => 0)

def preserves_Kernel_KernelIdeal : Prop :=
  True

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v165) = v0 c
          ∧ r.2.mem ((c.tc : Thread Cert.ReferenceIdeal.nD Cert.ReferenceIdeal.τ).loc Cert.ReferenceIdeal.main_v170) = v1 c
          ∧ r.2.mem ((c.tc : Thread Cert.ReferenceIdeal.nD Cert.ReferenceIdeal.τ).loc Cert.ReferenceIdeal.main_v169) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v29) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v34) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v0_0)) (v1 : (c : Dev Cert.Kernel4Ideal.nD) → Buf (Elt Ideal) ((c.tc : Thread Cert.Kernel4Ideal.nD Cert.Kernel4Ideal.τ).loc Cert.Kernel4Ideal.main_v0_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0_0) = v0 c
          ∧ r.2.mem ((c.tc : Thread Cert.Kernel4Ideal.nD Cert.Kernel4Ideal.τ).loc Cert.Kernel4Ideal.main_v0_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v65) = v0 c
          ∧ r.2.mem ((c.tc : Thread Cert.Reference4Ideal.nD Cert.Reference4Ideal.τ).loc Cert.Reference4Ideal.main_v70) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v0_0)) (v1 : (c : Dev Cert.Kernel5Ideal.nD) → Buf (Elt Ideal) ((c.tc : Thread Cert.Kernel5Ideal.nD Cert.Kernel5Ideal.τ).loc Cert.Kernel5Ideal.main_v0_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0_0) = v0 c
          ∧ r.2.mem ((c.tc : Thread Cert.Kernel5Ideal.nD Cert.Kernel5Ideal.τ).loc Cert.Kernel5Ideal.main_v0_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v4) = v0 c
          ∧ r.2.mem ((c.tc : Thread Cert.Reference5Ideal.nD Cert.Reference5Ideal.τ).loc Cert.Reference5Ideal.main_v27) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v5_0)) (v1 : (c : Dev Cert.Kernel6Ideal.nD) → Buf (Elt Ideal) ((c.tc : Thread Cert.Kernel6Ideal.nD Cert.Kernel6Ideal.τ).loc Cert.Kernel6Ideal.main_v5_1)) (v2 : (c : Dev Cert.Kernel6Ideal.nD) → Buf (Elt Ideal) ((c.tc : Thread Cert.Kernel6Ideal.nD Cert.Kernel6Ideal.τ).loc Cert.Kernel6Ideal.main_v5_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v5_0) = v0 c
          ∧ r.2.mem ((c.tc : Thread Cert.Kernel6Ideal.nD Cert.Kernel6Ideal.τ).loc Cert.Kernel6Ideal.main_v5_1) = v1 c
          ∧ r.2.mem ((c.tc : Thread Cert.Kernel6Ideal.nD Cert.Kernel6Ideal.τ).loc Cert.Kernel6Ideal.main_v5_2) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v57) = v0 c
          ∧ r.2.mem ((c.tc : Thread Cert.Reference6Ideal.nD Cert.Reference6Ideal.τ).loc Cert.Reference6Ideal.main_v63) = v1 c
          ∧ r.2.mem ((c.tc : Thread Cert.Reference6Ideal.nD Cert.Reference6Ideal.τ).loc Cert.Reference6Ideal.main_v61) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  True

def algebraic_Kernel7Ideal_Reference7Ideal_pre_finite_pooled [hKernel7Ideal : Cert.Kernel7Ideal.Facts] [hReference7Ideal : Cert.Reference7Ideal.Facts] [hPre_finite_pooled : Cert.Pre_finite_pooled.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_finite_pooled m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v88) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)) →
    ∃ (v0 : (c : Dev Cert.Kernel8Ideal.nD) → Buf (Elt Ideal) ((c.tc : Thread Cert.Kernel8Ideal.nD Cert.Kernel8Ideal.τ).loc Cert.Kernel8Ideal.main_v1)) (v1 : (c : Dev Cert.Kernel8Ideal.nD) → Buf (Elt Ideal) ((c.tc : Thread Cert.Kernel8Ideal.nD Cert.Kernel8Ideal.τ).loc Cert.Kernel8Ideal.main_v0_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v1) = v0 c
          ∧ r.2.mem ((c.tc : Thread Cert.Kernel8Ideal.nD Cert.Kernel8Ideal.τ).loc Cert.Kernel8Ideal.main_v0_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v98) = v0 c
          ∧ r.2.mem ((c.tc : Thread Cert.Reference8Ideal.nD Cert.Reference8Ideal.τ).loc Cert.Reference8Ideal.main_v93_4) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4))

def preserves_Kernel9_Kernel9Ideal : Prop :=
  True

def algebraic_Kernel9Ideal_Reference9Ideal_pre_finite_gated [hKernel9Ideal : Cert.Kernel9Ideal.Facts] [hReference9Ideal : Cert.Reference9Ideal.Facts] [hPre_finite_gated : Cert.Pre_finite_gated.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal_finite_gated m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)
      ∧ m' ((c.tc : Thread Cert.Reference9Ideal.nD Cert.Reference9Ideal.τ).loc Cert.Reference9Ideal.main_arg6) = m ((c.tc : Thread Cert.Kernel9Ideal.nD Cert.Kernel9Ideal.τ).loc Cert.Kernel9Ideal.main_arg6)
      ∧ m' ((c.tc : Thread Cert.Reference9Ideal.nD Cert.Reference9Ideal.τ).loc Cert.Reference9Ideal.main_arg7) = m ((c.tc : Thread Cert.Kernel9Ideal.nD Cert.Kernel9Ideal.τ).loc Cert.Kernel9Ideal.main_arg7)) →
    ∃ (v0 : (c : Dev Cert.Kernel9Ideal.nD) → Buf (Elt Ideal) ((c.tc : Thread Cert.Kernel9Ideal.nD Cert.Kernel9Ideal.τ).loc Cert.Kernel9Ideal.main_v2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v2) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
          ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
          ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v7) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5)
          ∧ r.2.mem ((c.tc : Thread Cert.Reference9Ideal.nD Cert.Reference9Ideal.τ).loc Cert.Reference9Ideal.main_arg6) = m' ((c.tc : Thread Cert.Reference9Ideal.nD Cert.Reference9Ideal.τ).loc Cert.Reference9Ideal.main_arg6)
          ∧ r.2.mem ((c.tc : Thread Cert.Reference9Ideal.nD Cert.Reference9Ideal.τ).loc Cert.Reference9Ideal.main_arg7) = m' ((c.tc : Thread Cert.Reference9Ideal.nD Cert.Reference9Ideal.τ).loc Cert.Reference9Ideal.main_arg7))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)) →
    ∃ (v0 : (c : Dev Cert.Kernel10Ideal.nD) → Buf (Elt Ideal) ((c.tc : Thread Cert.Kernel10Ideal.nD Cert.Kernel10Ideal.τ).loc Cert.Kernel10Ideal.main_v0_0)) (v1 : (c : Dev Cert.Kernel10Ideal.nD) → Buf (Elt Ideal) ((c.tc : Thread Cert.Kernel10Ideal.nD Cert.Kernel10Ideal.τ).loc Cert.Kernel10Ideal.main_v0_1)) (v2 : (c : Dev Cert.Kernel10Ideal.nD) → Buf (Elt Ideal) ((c.tc : Thread Cert.Kernel10Ideal.nD Cert.Kernel10Ideal.τ).loc Cert.Kernel10Ideal.main_v0_2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0_0) = v0 c
          ∧ r.2.mem ((c.tc : Thread Cert.Kernel10Ideal.nD Cert.Kernel10Ideal.τ).loc Cert.Kernel10Ideal.main_v0_1) = v1 c
          ∧ r.2.mem ((c.tc : Thread Cert.Kernel10Ideal.nD Cert.Kernel10Ideal.τ).loc Cert.Kernel10Ideal.main_v0_2) = v2 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v4) = v0 c
          ∧ r.2.mem ((c.tc : Thread Cert.Reference10Ideal.nD Cert.Reference10Ideal.τ).loc Cert.Reference10Ideal.main_v45) = v1 c
          ∧ r.2.mem ((c.tc : Thread Cert.Reference10Ideal.nD Cert.Reference10Ideal.τ).loc Cert.Reference10Ideal.main_v46) = v2 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)
      ∧ m' ((c.tc : Thread Cert.Reference11Ideal.nD Cert.Reference11Ideal.τ).loc Cert.Reference11Ideal.main_arg5) = m ((c.tc : Thread Cert.Kernel11Ideal.nD Cert.Kernel11Ideal.τ).loc Cert.Kernel11Ideal.main_arg5)
      ∧ m' ((c.tc : Thread Cert.Reference11Ideal.nD Cert.Reference11Ideal.τ).loc Cert.Reference11Ideal.main_arg6) = m ((c.tc : Thread Cert.Kernel11Ideal.nD Cert.Kernel11Ideal.τ).loc Cert.Kernel11Ideal.main_arg6)
      ∧ m' ((c.tc : Thread Cert.Reference11Ideal.nD Cert.Reference11Ideal.τ).loc Cert.Reference11Ideal.main_arg7) = m ((c.tc : Thread Cert.Kernel11Ideal.nD Cert.Kernel11Ideal.τ).loc Cert.Kernel11Ideal.main_arg7)
      ∧ m' ((c.tc : Thread Cert.Reference11Ideal.nD Cert.Reference11Ideal.τ).loc Cert.Reference11Ideal.main_arg8) = m ((c.tc : Thread Cert.Kernel11Ideal.nD Cert.Kernel11Ideal.τ).loc Cert.Kernel11Ideal.main_arg8)) →
    ∃ (v0 : (c : Dev Cert.Kernel11Ideal.nD) → Buf (Elt Ideal) ((c.tc : Thread Cert.Kernel11Ideal.nD Cert.Kernel11Ideal.τ).loc Cert.Kernel11Ideal.main_v3_0)) (v1 : (c : Dev Cert.Kernel11Ideal.nD) → Buf (Elt Ideal) ((c.tc : Thread Cert.Kernel11Ideal.nD Cert.Kernel11Ideal.τ).loc Cert.Kernel11Ideal.main_v3_1)) (v2 : (c : Dev Cert.Kernel11Ideal.nD) → Buf (Elt Ideal) ((c.tc : Thread Cert.Kernel11Ideal.nD Cert.Kernel11Ideal.τ).loc Cert.Kernel11Ideal.main_v3_2)) (v3 : (c : Dev Cert.Kernel11Ideal.nD) → Buf (Elt Ideal) ((c.tc : Thread Cert.Kernel11Ideal.nD Cert.Kernel11Ideal.τ).loc Cert.Kernel11Ideal.main_v3_3)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v3_0) = v0 c
          ∧ r.2.mem ((c.tc : Thread Cert.Kernel11Ideal.nD Cert.Kernel11Ideal.τ).loc Cert.Kernel11Ideal.main_v3_1) = v1 c
          ∧ r.2.mem ((c.tc : Thread Cert.Kernel11Ideal.nD Cert.Kernel11Ideal.τ).loc Cert.Kernel11Ideal.main_v3_2) = v2 c
          ∧ r.2.mem ((c.tc : Thread Cert.Kernel11Ideal.nD Cert.Kernel11Ideal.τ).loc Cert.Kernel11Ideal.main_v3_3) = v3 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
          ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
          ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6)
          ∧ r.2.mem ((c.tc : Thread Cert.Kernel11Ideal.nD Cert.Kernel11Ideal.τ).loc Cert.Kernel11Ideal.main_arg7) = m ((c.tc : Thread Cert.Kernel11Ideal.nD Cert.Kernel11Ideal.τ).loc Cert.Kernel11Ideal.main_arg7)
          ∧ r.2.mem ((c.tc : Thread Cert.Kernel11Ideal.nD Cert.Kernel11Ideal.τ).loc Cert.Kernel11Ideal.main_arg8) = m ((c.tc : Thread Cert.Kernel11Ideal.nD Cert.Kernel11Ideal.τ).loc Cert.Kernel11Ideal.main_arg8))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v34) = v0 c
          ∧ r.2.mem ((c.tc : Thread Cert.Reference11Ideal.nD Cert.Reference11Ideal.τ).loc Cert.Reference11Ideal.main_v36) = v1 c
          ∧ r.2.mem ((c.tc : Thread Cert.Reference11Ideal.nD Cert.Reference11Ideal.τ).loc Cert.Reference11Ideal.main_v38) = v2 c
          ∧ r.2.mem ((c.tc : Thread Cert.Reference11Ideal.nD Cert.Reference11Ideal.τ).loc Cert.Reference11Ideal.main_v40) = v3 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4)
          ∧ r.2.mem ((c.tc : Thread Cert.Reference11Ideal.nD Cert.Reference11Ideal.τ).loc Cert.Reference11Ideal.main_arg5) = m' ((c.tc : Thread Cert.Reference11Ideal.nD Cert.Reference11Ideal.τ).loc Cert.Reference11Ideal.main_arg5)
          ∧ r.2.mem ((c.tc : Thread Cert.Reference11Ideal.nD Cert.Reference11Ideal.τ).loc Cert.Reference11Ideal.main_arg6) = m' ((c.tc : Thread Cert.Reference11Ideal.nD Cert.Reference11Ideal.τ).loc Cert.Reference11Ideal.main_arg6)
          ∧ r.2.mem ((c.tc : Thread Cert.Reference11Ideal.nD Cert.Reference11Ideal.τ).loc Cert.Reference11Ideal.main_arg7) = m' ((c.tc : Thread Cert.Reference11Ideal.nD Cert.Reference11Ideal.τ).loc Cert.Reference11Ideal.main_arg7)
          ∧ r.2.mem ((c.tc : Thread Cert.Reference11Ideal.nD Cert.Reference11Ideal.τ).loc Cert.Reference11Ideal.main_arg8) = m' ((c.tc : Thread Cert.Reference11Ideal.nD Cert.Reference11Ideal.τ).loc Cert.Reference11Ideal.main_arg8))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v0) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hPre_finite_inputs : Cert.Pre_finite_inputs.Facts) (hPre_finite_pooled : Cert.Pre_finite_pooled.Facts) (hPre_finite_gated : Cert.Pre_finite_gated.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Kernel7Ideal_pre_finite_pooled (hKernel7Ideal := hKernel7Ideal) (hPre_finite_pooled := hPre_finite_pooled)
    ∧ quiescent_Reference7Ideal (hReference7Ideal := hReference7Ideal)
    ∧ quiescent_Reference7Ideal_pre_finite_pooled (hReference7Ideal := hReference7Ideal) (hPre_finite_pooled := hPre_finite_pooled)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Kernel9Ideal_pre_finite_gated (hKernel9Ideal := hKernel9Ideal) (hPre_finite_gated := hPre_finite_gated)
    ∧ quiescent_Reference9Ideal (hReference9Ideal := hReference9Ideal)
    ∧ quiescent_Reference9Ideal_pre_finite_gated (hReference9Ideal := hReference9Ideal) (hPre_finite_gated := hPre_finite_gated)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal_pre_finite_pooled (hKernel7Ideal := hKernel7Ideal) (hReference7Ideal := hReference7Ideal) (hPre_finite_pooled := hPre_finite_pooled)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal_pre_finite_gated (hKernel9Ideal := hKernel9Ideal) (hReference9Ideal := hReference9Ideal) (hPre_finite_gated := hPre_finite_gated)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
-- ==== Pre_finite_gated.lean ====
abbrev S4x4096x1024 : Shape := ⟨3, ![4, 4096, 1024]⟩
abbrev S4096x1024 : Shape := ⟨2, ![4096, 1024]⟩
abbrev S4096x2048 : Shape := ⟨2, ![4096, 2048]⟩
abbrev S4x1024 : Shape := ⟨2, ![4, 1024]⟩
abbrev S8x1024 : Shape := ⟨2, ![8, 1024]⟩
abbrev S8x128x128 : Shape := ⟨3, ![8, 128, 128]⟩
abbrev S8x128 : Shape := ⟨2, ![8, 128]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  slices_S4096x2048_S4096x1024_0_0 : S4096x2048.Slices ![0, 0] S4096x1024

variable [Facts]

def fn {F : FTy → Type} [FloatOps F] (main_arg0 : FVec F S4x4096x1024 .f32) (main_arg1 : FVec F S4096x1024 .f32) (main_arg2 : FVec F S4096x2048 .f32) (main_arg3 : FVec F S4x1024 .f32) (main_arg4 : FVec F S8x1024 .f32) (main_arg5 : FVec F S8x128x128 .bf16) (main_arg6 : FVec F S8x128x128 .bf16) (main_arg7 : FVec F S8x128 .f32) : IVec S_ 1 :=
  let main_v0 : FVec F S4096x1024 .f32 := Host.absf main_arg1
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := (extractStridedSlice S4096x1024 ![0, 0] · slices_S4096x2048_S4096x1024_0_0) main_arg2
  let main_v5 : FVec F S4096x1024 .f32 := Host.absf main_v4
  let main_cst_0 : FVec F S_ .f32 := constant S_ .f32 0x7F800000#32
  let main_v6 : FVec F S4096x1024 .f32 := broadcastInDim S4096x1024 ![] bcast_S_S4096x1024 main_cst_0
  let main_v7 : IVec S4096x1024 1 := cmpf .olt main_v5 main_v6
  let main_c_1 : IVec S_ 1 := constantI S_ 1 1#1
  let main_v8 : IVec S_ 1 := (fun x v => Host.reduce IntOp.andi x v reducesTo_S4096x1024_S_d0_1 h_S_) main_v7 main_c_1
  let main_v9 : IVec S_ 1 := andi main_v3 main_v8
  main_v9
-- ==== Pre_finite_inputs.lean ====
abbrev S4x4096x1024 : Shape := ⟨3, ![4, 4096, 1024]⟩
abbrev S4096x2048 : Shape := ⟨2, ![4096, 2048]⟩
abbrev S4x256x256 : Shape := ⟨3, ![4, 256, 256]⟩
abbrev S8x1024 : Shape := ⟨2, ![8, 1024]⟩
abbrev S2x4096x1024 : Shape := ⟨3, ![2, 4096, 1024]⟩
abbrev S_ : Shape := ⟨0, ![]⟩
abbrev S4096x1024 : Shape := ⟨2, ![4096, 1024]⟩
abbrev S2x1024 : Shape := ⟨2, ![2, 1024]⟩

class Facts : Prop where
  slices_S4x4096x1024_S2x4096x1024_2_0_0 : S4x4096x1024.Slices ![2, 0, 0] S2x4096x1024
  bcast_S_S2x4096x1024 : S_.BroadcastsInDim S2x4096x1024 (![] : Fin 0 → Fin S2x4096x1024.rank)
  reducesTo_S2x4096x1024_S_d0_1_2 : S2x4096x1024.ReducesTo [0, 1, 2] S_
  h_S_ : 0 < S_.numel
  slices_S4096x2048_S4096x1024_0_1024 : S4096x2048.Slices ![0, 1024] S4096x1024
  bcast_S_S4096x1024 : S_.BroadcastsInDim S4096x1024 (![] : Fin 0 → Fin S4096x1024.rank)
  reducesTo_S4096x1024_S_d0_1 : S4096x1024.ReducesTo [0, 1] S_
  bitsLt_bf16_f32 : FTy.bits .bf16 < FTy.bits .f32
  bcast_S_S4x256x256 : S_.BroadcastsInDim S4x256x256 (![] : Fin 0 → Fin S4x256x256.rank)
  reducesTo_S4x256x256_S_d0_1_2 : S4x256x256.ReducesTo [0, 1, 2] S_
  slices_S8x1024_S2x1024_0_0 : S8x1024.Slices ![0, 0] S2x1024
  bcast_S_S2x1024 : S_.BroadcastsInDim S2x1024 (![] : Fin 0 → Fin S2x1024.rank)
  reducesTo_S2x1024_S_d0_1 : S2x1024.ReducesTo [0, 1] S_

variable [Facts]

def fn_part1 {F : FTy → Type} [FloatOps F] (main_v16 : IVec S_ 1) (main_v17 : FVec F S2x1024 .f32) : IVec S_ 1 :=
  let main_v18 : FVec F S2x1024 .f32 := Host.absf main_v17
  let main_cst_4 : FVec F S_ .f32 := constant S_ .f32 0x7F800000#32
  let main_v19 : FVec F S2x1024 .f32 := broadcastInDim S2x1024 ![] bcast_S_S2x1024 main_cst_4
  let main_v20 : IVec S2x1024 1 := cmpf .olt main_v18 main_v19
  let main_c_5 : IVec S_ 1 := constantI S_ 1 1#1
  let main_v21 : IVec S_ 1 := (fun x v => Host.reduce IntOp.andi x v reducesTo_S2x1024_S_d0_1 h_S_) main_v20 main_c_5
  let main_v22 : IVec S_ 1 := andi main_v16 main_v21
  main_v22

def fn {F : FTy → Type} [FloatOps F] (main_arg0 : FVec F S4x4096x1024 .f32) (main_arg1 : FVec F S4096x2048 .f32) (main_arg2 : FVec F S4x4096x1024 .bf16) (main_arg3 : FVec F S4x256x256 .bf16) (main_arg4 : FVec F S8x1024 .f32) : IVec S_ 1 :=
  let main_v0 : FVec F S2x4096x1024 .f32 := (extractStridedSlice S2x4096x1024 ![2, 0, 0] · slices_S4x4096x1024_S2x4096x1024_2_0_0) main_arg0
  let main_v1 : FVec F S2x4096x1024 .f32 := Host.absf main_v0
  let main_cst : FVec F S_ .f32 := constant S_ .f32 0x7F800000#32
  let main_v2 : FVec F S2x4096x1024 .f32 := broadcastInDim S2x4096x1024 ![] bcast_S_S2x4096x1024 main_cst
  let main_v3 : IVec S2x4096x1024 1 := cmpf .olt main_v1 main_v2
  let main_c : IVec S_ 1 := constantI S_ 1 1#1
  let main_v4 : IVec S_ 1 := (fun x v => Host.reduce IntOp.andi x v reducesTo_S2x4096x1024_S_d0_1_2 h_S_) main_v3 main_c
  let main_v5 : FVec F S4096x1024 .f32 := (extractStridedSlice S4096x1024 ![0, 1024] · slices_S4096x2048_S4096x1024_0_1024) main_arg1
  let main_v6 : FVec F S4096x1024 .f32 := Host.absf main_v5
  let main_cst_0 : FVec F S_ .f32 := constant S_ .f32 0x7F800000#32
  let main_v7 : FVec F S4096x1024 .f32 := broadcastInDim S4096x1024 ![] bcast_S_S4096x1024 main_cst_0
  let main_v8 : IVec S4096x1024 1 := cmpf .olt main_v6 main_v7
  let main_c_1 : IVec S_ 1 := constantI S_ 1 1#1
  let main_v9 : IVec S_ 1 := (fun x v => Host.reduce IntOp.andi x v reducesTo_S4096x1024_S_d0_1 h_S_) main_v8 main_c_1
  let main_v10 : IVec S_ 1 := andi main_v4 main_v9
  let main_v11 : FVec F S4x256x256 .f32 := (extf .f32 · bitsLt_bf16_f32) main_arg3
  let main_v12 : FVec F S4x256x256 .f32 := Host.absf main_v11
  let main_cst_2 : FVec F S_ .f32 := constant S_ .f32 0x7F800000#32
  let main_v13 : FVec F S4x256x256 .f32 := broadcastInDim S4x256x256 ![] bcast_S_S4x256x256 main_cst_2
  let main_v14 : IVec S4x256x256 1 := cmpf .olt main_v12 main_v13
  let main_c_3 : IVec S_ 1 := constantI S_ 1 1#1
  let main_v15 : IVec S_ 1 := (fun x v => Host.reduce IntOp.andi x v reducesTo_S4x256x256_S_d0_1_2 h_S_) main_v14 main_c_3
  let main_v16 : IVec S_ 1 := andi main_v10 main_v15
  let main_v17 : FVec F S2x1024 .f32 := (extractStridedSlice S2x1024 ![0, 0] · slices_S8x1024_S2x1024_0_0) main_arg4
  fn_part1 (F := F) main_v16 main_v17
-- ==== Pre_finite_pooled.lean ====
abbrev S4x4096x1024 : Shape := ⟨3, ![4, 4096, 1024]⟩
abbrev S4096x2048 : Shape := ⟨2, ![4096, 2048]⟩
abbrev S4x256x256 : Shape := ⟨3, ![4, 256, 256]⟩
abbrev S8x1024 : Shape := ⟨2, ![8, 1024]⟩
abbrev S1x4096x1024 : Shape := ⟨3, ![1, 4096, 1024]⟩
abbrev S4096x1024 : Shape := ⟨2, ![4096, 1024]⟩
abbrev S_ : Shape := ⟨0, ![]⟩

class Facts : Prop where
  slices_S4x4096x1024_S1x4096x1024_2_0_0 : S4x4096x1024.Slices ![2, 0, 0] S1x4096x1024
  shapeCasts_S1x4096x1024_S4096x1024 : S1x4096x1024.ShapeCasts S4096x1024
  bcast_S_S4096x1024 : S_.BroadcastsInDim S4096x1024 (![] : Fin 0 → Fin S4096x1024.rank)
  reducesTo_S4096x1024_S_d0_1 : S4096x1024.ReducesTo [0, 1] S_
  h_S_ : 0 < S_.numel

variable [Facts]

def fn {F : FTy → Type} [FloatOps F] (main_arg0 : FVec F S4x4096x1024 .f32) (main_arg1 : FVec F S4096x2048 .bf16) (main_arg2 : FVec F S4x256x256 .bf16) (main_arg3 : FVec F S8x1024 .f32) : IVec S_ 1 :=
  let main_v0 : FVec F S1x4096x1024 .f32 := (extractStridedSlice S1x4096x1024 ![2, 0, 0] · slices_S4x4096x1024_S1x4096x1024_2_0_0) main_arg0
  let main_v1 : FVec F S4096x1024 .f32 := shapeCast S4096x1024 main_v0 shapeCasts_S1x4096x1024_S4096x1024
  let main_v2 : FVec F S4096x1024 .f32 := Host.absf main_v1
  let main_cst : FVec F S_ .f32 := constant S_ .f32 0x7F800000#32
  let main_v3 : FVec F S4096x1024 .f32 := broadcastInDim S4096x1024 ![] bcast_S_S4096x1024 main_cst
  let main_v4 : IVec S4096x1024 1 := cmpf .olt main_v2 main_v3
  let main_c : IVec S_ 1 := constantI S_ 1 1#1
  let main_v5 : IVec S_ 1 := (fun x v => Host.reduce IntOp.andi x v reducesTo_S4096x1024_S_d0_1 h_S_) main_v4 main_c
  main_v5
-- ==== Kernel.lean ====
abbrev S4x4096x1024 : Shape := ⟨3, ![4, 4096, 1024]⟩
abbrev S4096x2048 : Shape := ⟨2, ![4096, 2048]⟩
abbrev S4x256x256 : Shape := ⟨3, ![4, 256, 256]⟩
abbrev S8x1024 : Shape := ⟨2, ![8, 1024]⟩
abbrev S2x512x1024 : Shape := ⟨3, ![2, 512, 1024]⟩
abbrev S1x16x1024 : Shape := ⟨3, ![1, 16, 1024]⟩
abbrev S512x1024 : Shape := ⟨2, ![512, 1024]⟩
abbrev S528x1024 : Shape := ⟨2, ![528, 1024]⟩
abbrev S16x1024 : Shape := ⟨2, ![16, 1024]⟩
abbrev S1x512x1024 : Shape := ⟨3, ![1, 512, 1024]⟩
abbrev S1x512x256 : Shape := ⟨3, ![1, 512, 256]⟩
abbrev S512x256 : Shape := ⟨2, ![512, 256]⟩
abbrev S528x256 : Shape := ⟨2, ![528, 256]⟩
abbrev S1x256x256 : Shape := ⟨3, ![1, 256, 256]⟩
abbrev S256x256 : Shape := ⟨2, ![256, 256]⟩
abbrev S1x256 : Shape := ⟨2, ![1, 256]⟩
abbrev S256 : Shape := ⟨1, ![256]⟩

abbrev nBuf : Space → Nat
  | .hbm => 8
  | .vmem => 15
  | .smem => 0
  | _ => 0

abbrev bufTy : (tb : Table) → Fin (tcTables nBuf tb) → BufTy
  | .hbm, ⟨0, _⟩ => ⟨S4x4096x1024, .f32⟩
  | .hbm, ⟨1, _⟩ => ⟨S4096x2048, .f32⟩
  | .hbm, ⟨2, _⟩ => ⟨S4x4096x1024, .bf16⟩
  | .hbm, ⟨3, _⟩ => ⟨S4x256x256, .bf16⟩
  | .hbm, ⟨4, _⟩ => ⟨S8x1024, .f32⟩
  | .hbm, ⟨5, _⟩ => ⟨S4x4096x1024, .bf16⟩
  | .hbm, ⟨6, _⟩ => ⟨S4x256x256, .bf16⟩
  | .hbm, ⟨7, _⟩ => ⟨S8x1024, .f32⟩
  | .local _ .vmem, ⟨0, _⟩ => ⟨S2x512x1024, .f32⟩
  | .local _ .vmem, ⟨1, _⟩ => ⟨S2x512x1024, .f32⟩
  | .local _ .vmem, ⟨2, _⟩ => ⟨S1x16x1024, .f32⟩
  | .local _ .vmem, ⟨3, _⟩ => ⟨S1x16x1024, .f32⟩
  | .local _ .vmem, ⟨4, _⟩ => ⟨S512x1024, .f32⟩
  | .local _ .vmem, ⟨5, _⟩ => ⟨S512x1024, .f32⟩
  | .local _ .vmem, ⟨6, _⟩ => ⟨S4x256x256, .bf16⟩
  | .local _ .vmem, ⟨7, _⟩ => ⟨S8x1024, .f32⟩
  | .local _ .vmem, ⟨8, _⟩ => ⟨S2x512x1024, .bf16⟩
  | .local _ .vmem, ⟨9, _⟩ => ⟨S2x512x1024, .bf16⟩
  | .local _ .vmem, ⟨10, _⟩ => ⟨S4x256x256, .bf16⟩
  | .local _ .vmem, ⟨11, _⟩ => ⟨S8x1024, .f32⟩
  | .local _ .vmem, ⟨12, _⟩ => ⟨S528x1024, .f32⟩
  | .local _ .vmem, ⟨13, _⟩ => ⟨S528x1024, .f32⟩
  | .local _ .vmem, ⟨14, _⟩ => ⟨S4x256x256, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32_250 : BitVec 32 := 7#32
  let v413 : BitVec 1 := Scalar.cmpi .eq arg0 c7_i32_250
  let v414 : BitVec 32 := Scalar.extui v413
  let c0_i32_251 : BitVec 32 := 0#32
  let v415 : BitVec 1 := Scalar.cmpi .ne v414 c0_i32_251
  v415

def cc0_transform_0 (i : grid0.Coords) : Fin 3 → Nat :=
  let arg0 : BitVec 32 := BitVec.ofNat 32 (i 0).val
  let c7_i32 : BitVec 32 := 7#32
  let v0 : BitVec 32 := Scalar.subi c7_i32 arg0
  let c1_i32 : BitVec 32 := 1#32
  let c0_i32 : BitVec 32 := 0#32
  let c0_i32_0 : BitVec 32 := 0#32
  ![c1_i32.toNat, v0.toNat, c0_i32.toNat]

def cc0_transform_1 (i : grid0.Coords) : Fin 3 → Nat :=
  let arg0 : BitVec 32 := BitVec.ofNat 32 (i 0).val
  let c7_i32 : BitVec 32 := 7#32
  let v0 : BitVec 32 := Scalar.subi c7_i32 arg0
  let c32_i32 : BitVec 32 := 32#32
  let v1 : BitVec 32 := Scalar.muli v0 c32_i32
  let c1_i32 : BitVec 32 := 1#32
  let v2 : BitVec 32 := Scalar.subi v1 c1_i32
  let c0_i32 : BitVec 32 := 0#32
  let v3 : BitVec 32 := Scalar.maxsi v2 c0_i32
  let c2_i32 : BitVec 32 := 2#32
  let c0_i32_0 : BitVec 32 := 0#32
  let c0_i32_1 : BitVec 32 := 0#32
  ![c2_i32.toNat, v3.toNat, c0_i32_0.toNat]

def cc0_transform_2 (i : grid0.Coords) : Fin 2 → Nat :=
  let arg0 : BitVec 32 := BitVec.ofNat 32 (i 0).val
  let c7_i32 : BitVec 32 := 7#32
  let v0 : BitVec 32 := Scalar.subi c7_i32 arg0
  let c1_i32 : BitVec 32 := 1#32
  let c0_i32 : BitVec 32 := 0#32
  ![v0.toNat, c1_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c7_i32 : BitVec 32 := 7#32
  let v0 : BitVec 32 := Scalar.subi c7_i32 arg0
  let c1_i32 : BitVec 32 := 1#32
  let c0_i32 : BitVec 32 := 0#32
  let c0_i32_0 : BitVec 32 := 0#32
  ![c1_i32.toNat, v0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2x512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S4x256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ReferenceIdeal.lean ====
abbrev S4x4096x1024 : Shape := ⟨3, ![4, 4096, 1024]⟩
abbrev S4096x2048 : Shape := ⟨2, ![4096, 2048]⟩
abbrev S4x256x256 : Shape := ⟨3, ![4, 256, 256]⟩
abbrev S8x1024 : Shape := ⟨2, ![8, 1024]⟩
abbrev S1x1024 : Shape := ⟨2, ![1, 1024]⟩
abbrev S1024 : Shape := ⟨1, ![1024]⟩
abbrev S4x256 : Shape := ⟨2, ![4, 256]⟩
abbrev S1x4096x1024 : Shape := ⟨3, ![1, 4096, 1024]⟩
abbrev S4096x1024 : Shape := ⟨2, ![4096, 1024]⟩
abbrev S4096x4x256 : Shape := ⟨3, ![4096, 4, 256]⟩
abbrev S_ : Shape := ⟨0, ![]⟩
abbrev S4096 : Shape := ⟨1, ![4096]⟩
abbrev S4096x1x256 : Shape := ⟨3, ![4096, 1, 256]⟩
abbrev S4096x256 : Shape := ⟨2, ![4096, 256]⟩
abbrev S2x256 : Shape := ⟨2, ![2, 256]⟩
abbrev S4094x256 : Shape := ⟨2, ![4094, 256]⟩
abbrev S4096x1 : Shape := ⟨2, ![4096, 1]⟩
abbrev S4092x256 : Shape := ⟨2, ![4092, 256]⟩
abbrev S8x256 : Shape := ⟨2, ![8, 256]⟩
abbrev S4088x256 : Shape := ⟨2, ![4088, 256]⟩
abbrev S16x256 : Shape := ⟨2, ![16, 256]⟩
abbrev S4080x256 : Shape := ⟨2, ![4080, 256]⟩
abbrev S4x256x4096 : Shape := ⟨3, ![4, 256, 4096]⟩
abbrev S1x4x256 : Shape := ⟨3, ![1, 4, 256]⟩
abbrev S4x4096x256 : Shape := ⟨3, ![4, 4096, 256]⟩
abbrev S2x4096x1024 : Shape := ⟨3, ![2, 4096, 1024]⟩
abbrev S6x1024 : Shape := ⟨2, ![6, 1024]⟩

abbrev nBuf : Space → Nat
  | .hbm => 224
  | .vmem => 0
  | .smem => 0
  | _ => 0

abbrev hbmTy0_0 (i : Nat) : BufTy := match i % 128 with
  | 0 => ⟨S4x4096x1024, .f32⟩
  | 1 => ⟨S4096x2048, .f32⟩
  | 2 => ⟨S4x4096x1024, .bf16⟩
  | 3 => ⟨S4x256x256, .bf16⟩
  | 4 => ⟨S8x1024, .f32⟩
  | 5 => ⟨S1x1024, .f32⟩
  | 6 => ⟨S1024, .f32⟩
  | 7 => ⟨S4x256, .f32⟩
  | 8 => ⟨S1x4096x1024, .f32⟩
  | 9 => ⟨S4096x1024, .f32⟩
  | 10 => ⟨S1x4096x1024, .f32⟩
  | 11 => ⟨S4096x1024, .f32⟩
  | 12 => ⟨S4x256x256, .f32⟩
  | 13 => ⟨S1x1024, .f32⟩
  | 14 => ⟨S1024, .f32⟩
  | 15 => ⟨S4096x4x256, .f32⟩
  | 16 => ⟨S_, .f32⟩
  | 17 => ⟨S_, .f32⟩
  | 18 => ⟨S4096x4x256, .f32⟩
  | 19 => ⟨S4096, .i32⟩
  | 20 => ⟨S4096x1x256, .f32⟩
  | 21 => ⟨S4096x256, .f32⟩
  | 22 => ⟨S_, .f32⟩
  | 23 => ⟨S2x256, .f32⟩
  | 24 => ⟨S4094x256, .f32⟩
  | 25 => ⟨S4096x256, .f32⟩
  | 26 => ⟨S_, .f32⟩
  | 27 => ⟨S2x256, .f32⟩
  | 28 => ⟨S_, .i32⟩
  | 29 => ⟨S4096, .i32⟩
  | 30 => ⟨S4096, .i32⟩
  | 31 => ⟨S_, .i32⟩
  | 32 => ⟨S4096, .i32⟩
  | 33 => ⟨S4096, .i32⟩
  | 34 => ⟨S4096, .f32⟩
  | 35 => ⟨S4096x1, .f32⟩
  | 36 => ⟨S4096x256, .f32⟩
  | 37 => ⟨S4096x256, .f32⟩
  | 38 => ⟨S4096x256, .f32⟩
  | 39 => ⟨S4096x1x256, .f32⟩
  | 40 => ⟨S4096x256, .f32⟩
  | 41 => ⟨S_, .f32⟩
  | 42 => ⟨S4x256, .f32⟩
  | 43 => ⟨S4092x256, .f32⟩
  | 44 => ⟨S4096x256, .f32⟩
  | 45 => ⟨S_, .f32⟩
  | 46 => ⟨S4x256, .f32⟩
  | 47 => ⟨S_, .i32⟩
  | 48 => ⟨S4096, .i32⟩
  | 49 => ⟨S4096, .i32⟩
  | 50 => ⟨S_, .i32⟩
  | 51 => ⟨S4096, .i32⟩
  | 52 => ⟨S4096, .i32⟩
  | 53 => ⟨S4096, .f32⟩
  | 54 => ⟨S4096x1, .f32⟩
  | 55 => ⟨S4096x256, .f32⟩
  | 56 => ⟨S4096x256, .f32⟩
  | 57 => ⟨S4096x256, .f32⟩
  | 58 => ⟨S4096x1x256, .f32⟩
  | 59 => ⟨S4096x256, .f32⟩
  | 60 => ⟨S_, .f32⟩
  | 61 => ⟨S8x256, .f32⟩
  | 62 => ⟨S4088x256, .f32⟩
  | 63 => ⟨S4096x256, .f32⟩
  | 64 => ⟨S_, .f32⟩
  | 65 => ⟨S8x256, .f32⟩
  | 66 => ⟨S_, .i32⟩
  | 67 => ⟨S4096, .i32⟩
  | 68 => ⟨S4096, .i32⟩
  | 69 => ⟨S_, .i32⟩
  | 70 => ⟨S4096, .i32⟩
  | 71 => ⟨S4096, .i32⟩
  | 72 => ⟨S4096, .f32⟩
  | 73 => ⟨S4096x1, .f32⟩
  | 74 => ⟨S4096x256, .f32⟩
  | 75 => ⟨S4096x256, .f32⟩
  | 76 => ⟨S4096x256, .f32⟩
  | 77 => ⟨S4096x1x256, .f32⟩
  | 78 => ⟨S4096x256, .f32⟩
  | 79 => ⟨S_, .f32⟩
  | 80 => ⟨S16x256, .f32⟩
  | 81 => ⟨S4080x256, .f32⟩
  | 82 => ⟨S4096x256, .f32⟩
  | 83 => ⟨S_, .f32⟩
  | 84 => ⟨S16x256, .f32⟩
  | 85 => ⟨S_, .i32⟩
  | 86 => ⟨S4096, .i32⟩
  | 87 => ⟨S4096, .i32⟩
  | 88 => ⟨S_, .i32⟩
  | 89 => ⟨S4096, .i32⟩
  | 90 => ⟨S4096, .i32⟩
  | 91 => ⟨S4096, .f32⟩
  | 92 => ⟨S4096x1, .f32⟩
  | 93 => ⟨S4096x256, .f32⟩
  | 94 => ⟨S4096x256, .f32⟩
  | 95 => ⟨S4096x256, .f32⟩
  | 96 => ⟨S4096x1x256, .f32⟩
  | 97 => ⟨S4096x1x256, .f32⟩
  | 98 => ⟨S4096x1x256, .f32⟩
  | 99 => ⟨S4096x1x256, .f32⟩
  | 100 => ⟨S4096x4x256, .f32⟩
  | 101 => ⟨S4096x4x256, .f32⟩
  | 102 => ⟨S4x256x4096, .f32⟩
  | 103 => ⟨S4096x4x256, .f32⟩
  | 104 => ⟨S1x4x256, .f32⟩
  | 105 => ⟨S4096x4x256, .f32⟩
  | 106 => ⟨S4096x4x256, .f32⟩
  | 107 => ⟨S4096x1024, .f32⟩
  | 108 => ⟨S1x1024, .f32⟩
  | 109 => ⟨S4096x1024, .f32⟩
  | 110 => ⟨S4096x1024, .f32⟩
  | 111 => ⟨S4096x1024, .f32⟩
  | 112 => ⟨S4096x1024, .f32⟩
  | 113 => ⟨S_, .f32⟩
  | 114 => ⟨S4096x1024, .f32⟩
  | 115 => ⟨S4096x1024, .f32⟩
  | 116 => ⟨S_, .f32⟩
  | 117 => ⟨S4096x1024, .f32⟩
  | 118 => ⟨S4096x1024, .f32⟩
  | 119 => ⟨S_, .f32⟩
  | 120 => ⟨S4096x1024, .f32⟩
  | 121 => ⟨S4096x1024, .f32⟩
  | 122 => ⟨S4096x1024, .f32⟩
  | 123 => ⟨S4096x1024, .f32⟩
  | 124 => ⟨S4096x1024, .f32⟩
  | 125 => ⟨S4096x1024, .f32⟩
  | 126 => ⟨S4096x1024, .f32⟩
  | 127 => ⟨S4096x1024, .f32⟩
  | _ => ⟨S4x4096x1024, .f32⟩

abbrev hbmTy0_1 (i : Nat) : BufTy := match i % 128 with
  | 0 => ⟨S4096x1024, .f32⟩
  | 1 => ⟨S4096x1024, .f32⟩
  | 2 => ⟨S4096x1024, .f32⟩
  | 3 => ⟨S4096x1024, .f32⟩
  | 4 => ⟨S4096x1024, .f32⟩
  | 5 => ⟨S_, .f32⟩
  | 6 => ⟨S1024, .f32⟩
  | 7 => ⟨S1x1024, .f32⟩
  | 8 => ⟨S4096x1024, .f32⟩
  | 9 => ⟨S4096x1024, .f32⟩
  | 10 => ⟨S_, .f32⟩
  | 11 => ⟨S1024, .f32⟩
  | 12 => ⟨S4096x4x256, .f32⟩
  | 13 => ⟨S_, .f32⟩
  | 14 => ⟨S4x256, .f32⟩
  | 15 => ⟨S1x4x256, .f32⟩
  | 16 => ⟨S_, .f32⟩
  | 17 => ⟨S4x256, .f32⟩
  | 18 => ⟨S4x256x4096, .f32⟩
  | 19 => ⟨S4x4096x256, .f32⟩
  | 20 => ⟨S4096x4x256, .f32⟩
  | 21 => ⟨S4x256x256, .f32⟩
  | 22 => ⟨S4x256x256, .f32⟩
  | 23 => ⟨S4096x4x256, .f32⟩
  | 24 => ⟨S4096x1x256, .f32⟩
  | 25 => ⟨S4096x256, .f32⟩
  | 26 => ⟨S4096x1x256, .f32⟩
  | 27 => ⟨S4096x256, .f32⟩
  | 28 => ⟨S4096x1x256, .f32⟩
  | 29 => ⟨S4096x256, .f32⟩
  | 30 => ⟨S4096x1x256, .f32⟩
  | 31 => ⟨S4096x256, .f32⟩
  | 32 => ⟨S4096x256, .f32⟩
  | 33 => ⟨S4096x256, .f32⟩
  | 34 => ⟨S4096x256, .f32⟩
  | 35 => ⟨S16x256, .f32⟩
  | 36 => ⟨S4080x256, .f32⟩
  | 37 => ⟨S_, .f32⟩
  | 38 => ⟨S4096x256, .f32⟩
  | 39 => ⟨S4096x256, .f32⟩
  | 40 => ⟨S4096x1x256, .f32⟩
  | 41 => ⟨S_, .f32⟩
  | 42 => ⟨S4096x4x256, .f32⟩
  | 43 => ⟨S4096x256, .f32⟩
  | 44 => ⟨S4096x256, .f32⟩
  | 45 => ⟨S4096x256, .f32⟩
  | 46 => ⟨S8x256, .f32⟩
  | 47 => ⟨S4088x256, .f32⟩
  | 48 => ⟨S_, .f32⟩
  | 49 => ⟨S4096x256, .f32⟩
  | 50 => ⟨S4096x256, .f32⟩
  | 51 => ⟨S4096x1x256, .f32⟩
  | 52 => ⟨S_, .f32⟩
  | 53 => ⟨S4096x4x256, .f32⟩
  | 54 => ⟨S4096x4x256, .f32⟩
  | 55 => ⟨S4096x256, .f32⟩
  | 56 => ⟨S4096x256, .f32⟩
  | 57 => ⟨S4096x256, .f32⟩
  | 58 => ⟨S4x256, .f32⟩
  | 59 => ⟨S4092x256, .f32⟩
  | 60 => ⟨S_, .f32⟩
  | 61 => ⟨S4096x256, .f32⟩
  | 62 => ⟨S4096x256, .f32⟩
  | 63 => ⟨S4096x1x256, .f32⟩
  | 64 => ⟨S_, .f32⟩
  | 65 => ⟨S4096x4x256, .f32⟩
  | 66 => ⟨S4096x4x256, .f32⟩
  | 67 => ⟨S4096x256, .f32⟩
  | 68 => ⟨S4096x256, .f32⟩
  | 69 => ⟨S4096x256, .f32⟩
  | 70 => ⟨S2x256, .f32⟩
  | 71 => ⟨S4094x256, .f32⟩
  | 72 => ⟨S_, .f32⟩
  | 73 => ⟨S4096x256, .f32⟩
  | 74 => ⟨S4096x256, .f32⟩
  | 75 => ⟨S4096x1x256, .f32⟩
  | 76 => ⟨S_, .f32⟩
  | 77 => ⟨S4096x4x256, .f32⟩
  | 78 => ⟨S4096x4x256, .f32⟩
  | 79 => ⟨S_, .f32⟩
  | 80 => ⟨S_, .f32⟩
  | 81 => ⟨S4096x4x256, .f32⟩
  | 82 => ⟨S4096x4x256, .f32⟩
  | 83 => ⟨S4096x1024, .f32⟩
  | 84 => ⟨S2x4096x1024, .bf16⟩
  | 85 => ⟨S1x4096x1024, .f32⟩
  | 86 => ⟨S1x4096x1024, .f32⟩
  | 87 => ⟨S2x4096x1024, .f32⟩
  | 88 => ⟨S2x4096x1024, .bf16⟩
  | 89 => ⟨S4x4096x1024, .bf16⟩
  | 90 => ⟨S1x1024, .f32⟩
  | 91 => ⟨S1x1024, .f32⟩
  | 92 => ⟨S_, .f32⟩
  | 93 => ⟨S6x1024, .f32⟩
  | 94 => ⟨S8x1024, .f32⟩
  | 95 => ⟨S4x256x256, .bf16⟩
  | _ => ⟨S4x4096x1024, .f32⟩

abbrev hbmTy (i : Nat) : BufTy := match i / 128 with
  | 0 => hbmTy0_0 i
  | 1 => hbmTy0_1 i
  | _ => ⟨S4x4096x1024, .f32⟩

abbrev bufTy : (tb : Table) → Fin (tcTables nBuf tb) → BufTy
  | .hbm, ⟨i, _⟩ => hbmTy i
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_call0_call0_cst : Ref sig .tc := ⟨.hbm, 16, rfl⟩
abbrev main_call0_call0_v0 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_0 : Ref sig .tc := ⟨.hbm, 26, rfl⟩
abbrev main_v18 : Ref sig .tc := ⟨.hbm, 27, rfl⟩
abbrev main_c : Ref sig .tc := ⟨.hbm, 28, rfl⟩
abbrev main_v19 : Ref sig .tc := ⟨.hbm, 29, rfl⟩
abbrev main_v20 : Ref sig .tc := ⟨.hbm, 30, rfl⟩
abbrev main_c_1 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_2 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_3 : Ref sig .tc := ⟨.hbm, 45, rfl⟩
abbrev main_v33 : Ref sig .tc := ⟨.hbm, 46, rfl⟩
abbrev main_c_4 : Ref sig .tc := ⟨.hbm, 47, rfl⟩
abbrev main_v34 : Ref sig .tc := ⟨.hbm, 48, rfl⟩
abbrev main_v35 : Ref sig .tc := ⟨.hbm, 49, rfl⟩
abbrev main_c_5 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_cst_6 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_cst_7 : Ref sig .tc := ⟨.hbm, 64, rfl⟩
abbrev main_v48 : Ref sig .tc := ⟨.hbm, 65, rfl⟩
abbrev main_c_8 : Ref sig .tc := ⟨.hbm, 66, rfl⟩
abbrev main_v49 : Ref sig .tc := ⟨.hbm, 67, rfl⟩
abbrev main_v50 : Ref sig .tc := ⟨.hbm, 68, rfl⟩
abbrev main_c_9 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_cst_10 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_cst_11 : Ref sig .tc := ⟨.hbm, 83, rfl⟩
abbrev main_v63 : Ref sig .tc := ⟨.hbm, 84, rfl⟩
abbrev main_c_12 : Ref sig .tc := ⟨.hbm, 85, rfl⟩
abbrev main_v64 : Ref sig .tc := ⟨.hbm, 86, rfl⟩
abbrev main_v65 : Ref sig .tc := ⟨.hbm, 87, rfl⟩
abbrev main_c_13 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_call1_v0 : Ref sig .tc := ⟨.hbm, 111, rfl⟩
abbrev main_call1_v1 : Ref sig .tc := ⟨.hbm, 112, rfl⟩
abbrev main_call1_cst : Ref sig .tc := ⟨.hbm, 113, rfl⟩
abbrev main_call1_v2 : Ref sig .tc := ⟨.hbm, 114, rfl⟩
abbrev main_call1_v3 : Ref sig .tc := ⟨.hbm, 115, rfl⟩
abbrev main_call1_cst_0 : Ref sig .tc := ⟨.hbm, 116, rfl⟩
abbrev main_call1_v4 : Ref sig .tc := ⟨.hbm, 117, rfl⟩
abbrev main_v88_2 : Ref sig .tc := ⟨.hbm, 118, rfl⟩
abbrev main_call1_cst_1 : Ref sig .tc := ⟨.hbm, 119, rfl⟩
abbrev main_call1_v6 : Ref sig .tc := ⟨.hbm, 120, rfl⟩
abbrev main_call1_v7 : Ref sig .tc := ⟨.hbm, 121, rfl⟩
abbrev main_v88_1 : Ref sig .tc := ⟨.hbm, 122, rfl⟩
abbrev main_v88_0 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_call2_v0 : Ref sig .tc := ⟨.hbm, 128, rfl⟩
abbrev main_call2_v1 : Ref sig .tc := ⟨.hbm, 129, rfl⟩
abbrev main_call2_v2 : Ref sig .tc := ⟨.hbm, 130, rfl⟩
abbrev main_v93 : Ref sig .tc := ⟨.hbm, 131, rfl⟩
abbrev main_v94 : Ref sig .tc := ⟨.hbm, 132, rfl⟩
abbrev main_cst_14 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_cst_15 : Ref sig .tc := ⟨.hbm, 138, rfl⟩
abbrev main_v99 : Ref sig .tc := ⟨.hbm, 139, rfl⟩
abbrev main_v100 : Ref sig .tc := ⟨.hbm, 140, rfl⟩
abbrev main_cst_16 : Ref sig .tc := ⟨.hbm, 141, rfl⟩
abbrev main_v101 : Ref sig .tc := ⟨.hbm, 142, rfl⟩
abbrev main_v102 : Ref sig .tc := ⟨.hbm, 143, rfl⟩
abbrev main_cst_17 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_v109 : Ref sig .tc := ⟨.hbm, 151, rfl⟩
abbrev main_v110 : Ref sig .tc := ⟨.hbm, 152, rfl⟩
abbrev main_v111 : Ref sig .tc := ⟨.hbm, 153, rfl⟩
abbrev main_v112 : Ref sig .tc := ⟨.hbm, 154, rfl⟩
abbrev main_v113 : Ref sig .tc := ⟨.hbm, 155, rfl⟩
abbrev main_v114 : Ref sig .tc := ⟨.hbm, 156, rfl⟩
abbrev main_v115 : Ref sig .tc := ⟨.hbm, 157, rfl⟩
abbrev main_v116 : Ref sig .tc := ⟨.hbm, 158, rfl⟩
abbrev main_v117 : Ref sig .tc := ⟨.hbm, 159, rfl⟩
abbrev main_v118 : Ref sig .tc := ⟨.hbm, 160, rfl⟩
abbrev main_v119 : Ref sig .tc := ⟨.hbm, 161, rfl⟩
abbrev main_v120 : Ref sig .tc := ⟨.hbm, 162, rfl⟩
abbrev main_v121 : Ref sig .tc := ⟨.hbm, 163, rfl⟩
abbrev main_v122 : Ref sig .tc := ⟨.hbm, 164, rfl⟩
abbrev main_cst_18 : Ref sig .tc := ⟨.hbm, 165, rfl⟩
abbrev main_v123 : Ref sig .tc := ⟨.hbm, 166, rfl⟩
abbrev main_v124 : Ref sig .tc := ⟨.hbm, 167, rfl⟩
abbrev main_v125 : Ref sig .tc := ⟨.hbm, 168, rfl⟩
abbrev main_cst_19 : Ref sig .tc := ⟨.hbm, 169, rfl⟩
abbrev main_v126 : Ref sig .tc := ⟨.hbm, 170, rfl⟩
abbrev main_v127 : Ref sig .tc := ⟨.hbm, 171, rfl⟩
abbrev main_v128 : Ref sig .tc := ⟨.hbm, 172, rfl⟩
abbrev main_v129 : Ref sig .tc := ⟨.hbm, 173, rfl⟩
abbrev main_v130 : Ref sig .tc := ⟨.hbm, 174, rfl⟩
abbrev main_v131 : Ref sig .tc := ⟨.hbm, 175, rfl⟩
abbrev main_cst_20 : Ref sig .tc := ⟨.hbm, 176, rfl⟩
abbrev main_v132 : Ref sig .tc := ⟨.hbm, 177, rfl⟩
abbrev main_v133 : Ref sig .tc := ⟨.hbm, 178, rfl⟩
abbrev main_v134 : Ref sig .tc := ⟨.hbm, 179, rfl⟩
abbrev main_cst_21 : Ref sig .tc := ⟨.hbm, 180, rfl⟩
abbrev main_v135 : Ref sig .tc := ⟨.hbm, 181, rfl⟩
abbrev main_v136 : Ref sig .tc := ⟨.hbm, 182, rfl⟩
abbrev main_v137 : Ref sig .tc := ⟨.hbm, 183, rfl⟩
abbrev main_v138 : Ref sig .tc := ⟨.hbm, 184, rfl⟩
abbrev main_v139 : Ref sig .tc := ⟨.hbm, 185, rfl⟩
abbrev main_v140 : Ref sig .tc := ⟨.hbm, 186, rfl⟩
abbrev main_v141 : Ref sig .tc := ⟨.hbm, 187, rfl⟩
abbrev main_cst_22 : Ref sig .tc := ⟨.hbm, 188, rfl⟩
abbrev main_v142 : Ref sig .tc := ⟨.hbm, 189, rfl⟩
abbrev main_v143 : Ref sig .tc := ⟨.hbm, 190, rfl⟩
abbrev main_v144 : Ref sig .tc := ⟨.hbm, 191, rfl⟩
abbrev main_cst_23 : Ref sig .tc := ⟨.hbm, 192, rfl⟩
abbrev main_v145 : Ref sig .tc := ⟨.hbm, 193, rfl⟩
abbrev main_v146 : Ref sig .tc := ⟨.hbm, 194, rfl⟩
abbrev main_v147 : Ref sig .tc := ⟨.hbm, 195, rfl⟩
abbrev main_v148 : Ref sig .tc := ⟨.hbm, 196, rfl⟩
abbrev main_v149 : Ref sig .tc := ⟨.hbm, 197, rfl⟩
abbrev main_v150 : Ref sig .tc := ⟨.hbm, 198, rfl⟩
abbrev main_v151 : Ref sig .tc := ⟨.hbm, 199, rfl⟩
abbrev main_cst_24 : Ref sig .tc := ⟨.hbm, 200, rfl⟩
abbrev main_v152 : Ref sig .tc := ⟨.hbm, 201, rfl⟩
abbrev main_v153 : Ref sig .tc := ⟨.hbm, 202, rfl⟩
abbrev main_v154 : Ref sig .tc := ⟨.hbm, 203, rfl⟩
abbrev main_cst_25 : Ref sig .tc := ⟨.hbm, 204, rfl⟩
abbrev main_v155 : Ref sig .tc := ⟨.hbm, 205, rfl⟩
abbrev main_v156 : Ref sig .tc := ⟨.hbm, 206, rfl⟩
abbrev main_call3_call0_cst : Ref sig .tc := ⟨.hbm, 207, rfl⟩
abbrev main_call3_call0_v0 : Ref sig .tc := ⟨.hbm, 208, rfl⟩
abbrev main_v157 : Ref sig .tc := ⟨.hbm, 209, rfl⟩
abbrev main_v158 : Ref sig .tc := ⟨.hbm, 210, rfl⟩
abbrev main_v159 : Ref sig .tc := ⟨.hbm, 211, rfl⟩
abbrev main_v160 : Ref sig .tc := ⟨.hbm, 212, rfl⟩
abbrev main_v161 : Ref sig .tc := ⟨.hbm, 213, rfl⟩
abbrev main_v162 : Ref sig .tc := ⟨.hbm, 214, rfl⟩
abbrev main_v163 : Ref sig .tc := ⟨.hbm, 215, rfl⟩
abbrev main_v164 : Ref sig .tc := ⟨.hbm, 216, rfl⟩
abbrev main_v165 : Ref sig .tc := ⟨.hbm, 217, rfl⟩
abbrev main_v166 : Ref sig .tc := ⟨.hbm, 218, rfl⟩
abbrev main_v167 : Ref sig .tc := ⟨.hbm, 219, rfl⟩
abbrev main_cst_26 : Ref sig .tc := ⟨.hbm, 220, rfl⟩
abbrev main_v168 : Ref sig .tc := ⟨.hbm, 221, rfl⟩
abbrev main_v169 : Ref sig .tc := ⟨.hbm, 222, rfl⟩
abbrev main_v170 : Ref sig .tc := ⟨.hbm, 223, rfl⟩

abbrev nD : Nat := 1
abbrev τ : Topo := Topo.v7x

variable {F : FTy → Type} [FloatOps F]
-- ==== Kernel2.lean ====
abbrev S4096x1024 : Shape := ⟨2, ![4096, 1024]⟩
abbrev S8x1024 : Shape := ⟨2, ![8, 1024]⟩
abbrev S4x1024x1024 : Shape := ⟨3, ![4, 1024, 1024]⟩
abbrev S4x4096x1024 : Shape := ⟨3, ![4, 4096, 1024]⟩
abbrev S512x1024 : Shape := ⟨2, ![512, 1024]⟩
abbrev S4x512x1024 : Shape := ⟨3, ![4, 512, 1024]⟩
abbrev S512 : Shape := ⟨1, ![512]⟩
abbrev S512x1 : Shape := ⟨2, ![512, 1]⟩
abbrev S1x1024 : Shape := ⟨2, ![1, 1024]⟩
abbrev S1x1024x1024 : Shape := ⟨3, ![1, 1024, 1024]⟩
abbrev S1024x1024 : Shape := ⟨2, ![1024, 1024]⟩
abbrev S1x512x1024 : Shape := ⟨3, ![1, 512, 1024]⟩

abbrev nBuf : Space → Nat
  | .hbm => 4
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S8x1024, .f32⟩
  | .hbm, ⟨2, _⟩ => ⟨S4x1024x1024, .bf16⟩
  | .hbm, ⟨3, _⟩ => ⟨S4x4096x1024, .f32⟩
  | .local _ .vmem, ⟨0, _⟩ => ⟨S512x1024, .f32⟩
  | .local _ .vmem, ⟨1, _⟩ => ⟨S512x1024, .f32⟩
  | .local _ .vmem, ⟨2, _⟩ => ⟨S8x1024, .f32⟩
  | .local _ .vmem, ⟨3, _⟩ => ⟨S4x1024x1024, .bf16⟩
  | .local _ .vmem, ⟨4, _⟩ => ⟨S4x512x1024, .f32⟩
  | .local _ .vmem, ⟨5, _⟩ => ⟨S4x512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference2Ideal.lean ====
abbrev S4096x1024 : Shape := ⟨2, ![4096, 1024]⟩
abbrev S8x1024 : Shape := ⟨2, ![8, 1024]⟩
abbrev S4x1024x1024 : Shape := ⟨3, ![4, 1024, 1024]⟩
abbrev S1x1024 : Shape := ⟨2, ![1, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S4x1024x4096 : Shape := ⟨3, ![4, 1024, 4096]⟩
abbrev S4x4096x1024 : Shape := ⟨3, ![4, 4096, 1024]⟩

abbrev nBuf : Space → Nat
  | .hbm => 37
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S8x1024, .f32⟩
  | .hbm, ⟨2, _⟩ => ⟨S4x1024x1024, .bf16⟩
  | .hbm, ⟨3, _⟩ => ⟨S1x1024, .f32⟩
  | .hbm, ⟨4, _⟩ => ⟨S1024, .f32⟩
  | .hbm, ⟨5, _⟩ => ⟨S1x1024, .f32⟩
  | .hbm, ⟨6, _⟩ => ⟨S1024, .f32⟩
  | .hbm, ⟨7, _⟩ => ⟨S1x1024, .f32⟩
  | .hbm, ⟨8, _⟩ => ⟨S1024, .f32⟩
  | .hbm, ⟨9, _⟩ => ⟨S4x1024x1024, .f32⟩
  | .hbm, ⟨10, _⟩ => ⟨S4096x1024, .f32⟩
  | .hbm, ⟨11, _⟩ => ⟨S_, .f32⟩
  | .hbm, ⟨12, _⟩ => ⟨S4096, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S1x1024, .f32⟩
  | .hbm, ⟨24, _⟩ => ⟨S4096x1024, .f32⟩
  | .hbm, ⟨25, _⟩ => ⟨S4096x1024, .f32⟩
  | .hbm, ⟨26, _⟩ => ⟨S_, .f32⟩
  | .hbm, ⟨27, _⟩ => ⟨S1024, .f32⟩
  | .hbm, ⟨28, _⟩ => ⟨S1024, .f32⟩
  | .hbm, ⟨29, _⟩ => ⟨S1x1024, .f32⟩
  | .hbm, ⟨30, _⟩ => ⟨S4096x1024, .f32⟩
  | .hbm, ⟨31, _⟩ => ⟨S4096x1024, .f32⟩
  | .hbm, ⟨32, _⟩ => ⟨S1x1024, .f32⟩
  | .hbm, ⟨33, _⟩ => ⟨S4096x1024, .f32⟩
  | .hbm, ⟨34, _⟩ => ⟨S4096x1024, .f32⟩
  | .hbm, ⟨35, _⟩ => ⟨S4x1024x4096, .f32⟩
  | .hbm, ⟨36, _⟩ => ⟨S4x4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_2 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩

abbrev nD : Nat := 1
abbrev τ : Topo := Topo.v7x

variable {F : FTy → Type} [FloatOps F]
-- ==== Kernel3.lean ====
abbrev S4x4096x1024 : Shape := ⟨3, ![4, 4096, 1024]⟩
abbrev S4096x1024 : Shape := ⟨2, ![4096, 1024]⟩
abbrev S8x1024 : Shape := ⟨2, ![8, 1024]⟩
abbrev S8x128 : Shape := ⟨2, ![8, 128]⟩
abbrev S4x1024x1024 : Shape := ⟨3, ![4, 1024, 1024]⟩
abbrev S4x512x1024 : Shape := ⟨3, ![4, 512, 1024]⟩
abbrev S512x1024 : Shape := ⟨2, ![512, 1024]⟩
abbrev S512 : Shape := ⟨1, ![512]⟩
abbrev S512x1 : Shape := ⟨2, ![512, 1]⟩
abbrev S1x1024 : Shape := ⟨2, ![1, 1024]⟩
abbrev S1x1024x1024 : Shape := ⟨3, ![1, 1024, 1024]⟩
abbrev S1024x1024 : Shape := ⟨2, ![1024, 1024]⟩
abbrev S1x512x1024 : Shape := ⟨3, ![1, 512, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4x4096x1024, .bf16⟩
  | .hbm, ⟨1, _⟩ => ⟨S4096x1024, .f32⟩
  | .hbm, ⟨2, _⟩ => ⟨S8x1024, .f32⟩
  | .hbm, ⟨3, _⟩ => ⟨S8x128, .f32⟩
  | .hbm, ⟨4, _⟩ => ⟨S4x1024x1024, .bf16⟩
  | .local _ .vmem, ⟨0, _⟩ => ⟨S4x512x1024, .bf16⟩
  | .local _ .vmem, ⟨1, _⟩ => ⟨S4x512x1024, .bf16⟩
  | .local _ .vmem, ⟨2, _⟩ => ⟨S512x1024, .f32⟩
  | .local _ .vmem, ⟨3, _⟩ => ⟨S512x1024, .f32⟩
  | .local _ .vmem, ⟨4, _⟩ => ⟨S8x1024, .f32⟩
  | .local _ .vmem, ⟨5, _⟩ => ⟨S4x1024x1024, .bf16⟩
  | .local _ .vmem, ⟨6, _⟩ => ⟨S4x1024x1024, .f32⟩
  | _, _ => ⟨S4x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v62 : BitVec 1 := Scalar.cmpi .eq arg0 c7_i32
  let v63 : BitVec 32 := Scalar.extui v62
  let c0_i32_48 : BitVec 32 := 0#32
  let v64 : BitVec 1 := Scalar.cmpi .ne v63 c0_i32_48
  v64

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S4x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== Reference3Ideal.lean ====
abbrev S4x4096x1024 : Shape := ⟨3, ![4, 4096, 1024]⟩
abbrev S4096x1024 : Shape := ⟨2, ![4096, 1024]⟩
abbrev S8x1024 : Shape := ⟨2, ![8, 1024]⟩
abbrev S8x128 : Shape := ⟨2, ![8, 128]⟩
abbrev S_ : Shape := ⟨0, ![]⟩
abbrev S4x1024x1024 : Shape := ⟨3, ![4, 1024, 1024]⟩
abbrev S1x1024 : Shape := ⟨2, ![1, 1024]⟩
abbrev S1024 : Shape := ⟨1, ![1024]⟩
abbrev S4096 : Shape := ⟨1, ![4096]⟩
abbrev S4096x1 : Shape := ⟨2, ![4096, 1]⟩
abbrev S4x1024x4096 : Shape := ⟨3, ![4, 1024, 4096]⟩

abbrev nBuf : Space → Nat
  | .hbm => 44
  | .vmem => 0
  | .smem => 0
  | _ => 0

abbrev bufTy : (tb : Table) → Fin (tcTables nBuf tb) → BufTy
  | .hbm, ⟨0, _⟩ => ⟨S4x4096x1024, .bf16⟩
  | .hbm, ⟨1, _⟩ => ⟨S4096x1024, .f32⟩
  | .hbm, ⟨2, _⟩ => ⟨S8x1024, .f32⟩
  | .hbm, ⟨3, _⟩ => ⟨S8x128, .f32⟩
  | .hbm, ⟨4, _⟩ => ⟨S_, .f32⟩
  | .hbm, ⟨5, _⟩ => ⟨S4x1024x1024, .f32⟩
  | .hbm, ⟨6, _⟩ => ⟨S1x1024, .f32⟩
  | .hbm, ⟨7, _⟩ => ⟨S1024, .f32⟩
  | .hbm, ⟨8, _⟩ => ⟨S1x1024, .f32⟩
  | .hbm, ⟨9, _⟩ => ⟨S1024, .f32⟩
  | .hbm, ⟨10, _⟩ => ⟨S1x1024, .f32⟩
  | .hbm, ⟨11, _⟩ => ⟨S1024, .f32⟩
  | .hbm, ⟨12, _⟩ => ⟨S4096x1024, .f32⟩
  | .hbm, ⟨13, _⟩ => ⟨S_, .f32⟩
  | .hbm, ⟨14, _⟩ => ⟨S4096, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1, .f32⟩
  | .hbm, ⟨23, _⟩ => ⟨S4096x1024, .f32⟩
  | .hbm, ⟨24, _⟩ => ⟨S4096x1024, .f32⟩
  | .hbm, ⟨25, _⟩ => ⟨S1x1024, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S1024, .f32⟩
  | .hbm, ⟨30, _⟩ => ⟨S1024, .f32⟩
  | .hbm, ⟨31, _⟩ => ⟨S1x1024, .f32⟩
  | .hbm, ⟨32, _⟩ => ⟨S4096x1024, .f32⟩
  | .hbm, ⟨33, _⟩ => ⟨S4096x1024, .f32⟩
  | .hbm, ⟨34, _⟩ => ⟨S1x1024, .f32⟩
  | .hbm, ⟨35, _⟩ => ⟨S4096x1024, .f32⟩
  | .hbm, ⟨36, _⟩ => ⟨S4096x1024, .f32⟩
  | .hbm, ⟨37, _⟩ => ⟨S4x1024x4096, .f32⟩
  | .hbm, ⟨38, _⟩ => ⟨S4x4096x1024, .f32⟩
  | .hbm, ⟨39, _⟩ => ⟨S4x4096x1024, .f32⟩
  | .hbm, ⟨40, _⟩ => ⟨S4x1024x4096, .f32⟩
  | .hbm, ⟨41, _⟩ => ⟨S4x1024x1024, .f32⟩
  | .hbm, ⟨42, _⟩ => ⟨S4x1024x1024, .f32⟩
  | .hbm, ⟨43, _⟩ => ⟨S4x1024x1024, .bf16⟩
  | _, _ => ⟨S4x4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩

abbrev nD : Nat := 1
abbrev τ : Topo := Topo.v7x

variable {F : FTy → Type} [FloatOps F]
-- ==== Kernel4.lean ====
abbrev S4x4096x1024 : Shape := ⟨3, ![4, 4096, 1024]⟩
abbrev S4x1024x1024 : Shape := ⟨3, ![4, 1024, 1024]⟩
abbrev S4096x1024 : Shape := ⟨2, ![4096, 1024]⟩
abbrev S8x1024 : Shape := ⟨2, ![8, 1024]⟩
abbrev S8x128 : Shape := ⟨2, ![8, 128]⟩
abbrev S4x512x1024 : Shape := ⟨3, ![4, 512, 1024]⟩
abbrev S512x1024 : Shape := ⟨2, ![512, 1024]⟩
abbrev S1x512x1024 : Shape := ⟨3, ![1, 512, 1024]⟩
abbrev S1x1024x1024 : Shape := ⟨3, ![1, 1024, 1024]⟩
abbrev S1024x1024 : Shape := ⟨2, ![1024, 1024]⟩
abbrev S512 : Shape := ⟨1, ![512]⟩
abbrev S512x1 : Shape := ⟨2, ![512, 1]⟩
abbrev S1x1024 : Shape := ⟨2, ![1, 1024]⟩
abbrev S1024 : Shape := ⟨1, ![1024]⟩

abbrev nBuf : Space → Nat
  | .hbm => 8
  | .vmem => 11
  | .smem => 0
  | _ => 0

abbrev bufTy : (tb : Table) → Fin (tcTables nBuf tb) → BufTy
  | .hbm, ⟨0, _⟩ => ⟨S4x4096x1024, .bf16⟩
  | .hbm, ⟨1, _⟩ => ⟨S4x1024x1024, .bf16⟩
  | .hbm, ⟨2, _⟩ => ⟨S4096x1024, .f32⟩
  | .hbm, ⟨3, _⟩ => ⟨S4096x1024, .f32⟩
  | .hbm, ⟨4, _⟩ => ⟨S8x1024, .f32⟩
  | .hbm, ⟨5, _⟩ => ⟨S8x128, .f32⟩
  | .hbm, ⟨6, _⟩ => ⟨S4096x1024, .f32⟩
  | .hbm, ⟨7, _⟩ => ⟨S8x1024, .f32⟩
  | .local _ .vmem, ⟨0, _⟩ => ⟨S4x512x1024, .bf16⟩
  | .local _ .vmem, ⟨1, _⟩ => ⟨S4x512x1024, .bf16⟩
  | .local _ .vmem, ⟨2, _⟩ => ⟨S4x1024x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S8x1024, .f32⟩
  | .local _ .vmem, ⟨8, _⟩ => ⟨S512x1024, .f32⟩
  | .local _ .vmem, ⟨9, _⟩ => ⟨S512x1024, .f32⟩
  | .local _ .vmem, ⟨10, _⟩ => ⟨S8x1024, .f32⟩
  | _, _ => ⟨S4x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference4Ideal.lean ====
abbrev S4x4096x1024 : Shape := ⟨3, ![4, 4096, 1024]⟩
abbrev S4x1024x1024 : Shape := ⟨3, ![4, 1024, 1024]⟩
abbrev S4096x1024 : Shape := ⟨2, ![4096, 1024]⟩
abbrev S8x1024 : Shape := ⟨2, ![8, 1024]⟩
abbrev S8x128 : Shape := ⟨2, ![8, 128]⟩
abbrev S1x1024 : Shape := ⟨2, ![1, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S4x1024x4096 : Shape := ⟨3, ![4, 1024, 4096]⟩
abbrev S5x1024 : Shape := ⟨2, ![5, 1024]⟩

abbrev nBuf : Space → Nat
  | .hbm => 92
  | .vmem => 0
  | .smem => 0
  | _ => 0

abbrev bufTy : (tb : Table) → Fin (tcTables nBuf tb) → BufTy
  | .hbm, ⟨0, _⟩ => ⟨S4x4096x1024, .bf16⟩
  | .hbm, ⟨1, _⟩ => ⟨S4x1024x1024, .bf16⟩
  | .hbm, ⟨2, _⟩ => ⟨S4096x1024, .f32⟩
  | .hbm, ⟨3, _⟩ => ⟨S4096x1024, .f32⟩
  | .hbm, ⟨4, _⟩ => ⟨S8x1024, .f32⟩
  | .hbm, ⟨5, _⟩ => ⟨S8x128, .f32⟩
  | .hbm, ⟨6, _⟩ => ⟨S1x1024, .f32⟩
  | .hbm, ⟨7, _⟩ => ⟨S1024, .f32⟩
  | .hbm, ⟨8, _⟩ => ⟨S1x1024, .f32⟩
  | .hbm, ⟨9, _⟩ => ⟨S1024, .f32⟩
  | .hbm, ⟨10, _⟩ => ⟨S1x1024, .f32⟩
  | .hbm, ⟨11, _⟩ => ⟨S1024, .f32⟩
  | .hbm, ⟨12, _⟩ => ⟨S4x1024x1024, .f32⟩
  | .hbm, ⟨13, _⟩ => ⟨S4096x1024, .f32⟩
  | .hbm, ⟨14, _⟩ => ⟨S_, .f32⟩
  | .hbm, ⟨15, _⟩ => ⟨S4096, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1, .f32⟩
  | .hbm, ⟨24, _⟩ => ⟨S4096x1, .f32⟩
  | .hbm, ⟨25, _⟩ => ⟨S_, .f32⟩
  | .hbm, ⟨26, _⟩ => ⟨S4096x1, .f32⟩
  | .hbm, ⟨27, _⟩ => ⟨S4096x1, .f32⟩
  | .hbm, ⟨28, _⟩ => ⟨S4096x1024, .f32⟩
  | .hbm, ⟨29, _⟩ => ⟨S4096x1024, .f32⟩
  | .hbm, ⟨30, _⟩ => ⟨S1x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S1024, .f32⟩
  | .hbm, ⟨35, _⟩ => ⟨S1024, .f32⟩
  | .hbm, ⟨36, _⟩ => ⟨S1x1024, .f32⟩
  | .hbm, ⟨37, _⟩ => ⟨S4096x1024, .f32⟩
  | .hbm, ⟨38, _⟩ => ⟨S4096x1024, .f32⟩
  | .hbm, ⟨39, _⟩ => ⟨S1x1024, .f32⟩
  | .hbm, ⟨40, _⟩ => ⟨S4096x1024, .f32⟩
  | .hbm, ⟨41, _⟩ => ⟨S4096x1024, .f32⟩
  | .hbm, ⟨42, _⟩ => ⟨S4x1024x4096, .f32⟩
  | .hbm, ⟨43, _⟩ => ⟨S4x4096x1024, .f32⟩
  | .hbm, ⟨44, _⟩ => ⟨S4x4096x1024, .f32⟩
  | .hbm, ⟨45, _⟩ => ⟨S4x1024x4096, .f32⟩
  | .hbm, ⟨46, _⟩ => ⟨S4096x1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S_, .f32⟩
  | .hbm, ⟨51, _⟩ => ⟨S1024, .f32⟩
  | .hbm, ⟨52, _⟩ => ⟨S4096x1024, .f32⟩
  | .hbm, ⟨53, _⟩ => ⟨S_, .f32⟩
  | .hbm, ⟨54, _⟩ => ⟨S1024, .f32⟩
  | .hbm, ⟨55, _⟩ => ⟨S1x1024, .f32⟩
  | .hbm, ⟨56, _⟩ => ⟨S4096x1024, .f32⟩
  | .hbm, ⟨57, _⟩ => ⟨S4096x1024, .f32⟩
  | .hbm, ⟨58, _⟩ => ⟨S_, .f32⟩
  | .hbm, ⟨59, _⟩ => ⟨S1024, .f32⟩
  | .hbm, ⟨60, _⟩ => ⟨S4096x1024, .f32⟩
  | .hbm, ⟨61, _⟩ => ⟨S_, .f32⟩
  | .hbm, ⟨62, _⟩ => ⟨S1024, .f32⟩
  | .hbm, ⟨63, _⟩ => ⟨S1x1024, .f32⟩
  | .hbm, ⟨64, _⟩ => ⟨S4096x1024, .f32⟩
  | .hbm, ⟨65, _⟩ => ⟨S4096x1024, .f32⟩
  | .hbm, ⟨66, _⟩ => ⟨S_, .f32⟩
  | .hbm, ⟨67, _⟩ => ⟨S1024, .f32⟩
  | .hbm, ⟨68, _⟩ => ⟨S4096x1024, .f32⟩
  | .hbm, ⟨69, _⟩ => ⟨S_, .f32⟩
  | .hbm, ⟨70, _⟩ => ⟨S4096, .f32⟩
  | .hbm, ⟨71, _⟩ => ⟨S4096x1, .f32⟩
  | .hbm, ⟨72, _⟩ => ⟨S4096x1024, .f32⟩
  | .hbm, ⟨73, _⟩ => ⟨S4096x1024, .f32⟩
  | .hbm, ⟨74, _⟩ => ⟨S4096x1024, .f32⟩
  | .hbm, ⟨75, _⟩ => ⟨S4096x1, .f32⟩
  | .hbm, ⟨76, _⟩ => ⟨S_, .f32⟩
  | .hbm, ⟨77, _⟩ => ⟨S4096x1, .f32⟩
  | .hbm, ⟨78, _⟩ => ⟨S4096x1, .f32⟩
  | .hbm, ⟨79, _⟩ => ⟨S_, .f32⟩
  | .hbm, ⟨80, _⟩ => ⟨S4096, .f32⟩
  | .hbm, ⟨81, _⟩ => ⟨S4096x1024, .f32⟩
  | .hbm, ⟨82, _⟩ => ⟨S4096x1024, .f32⟩
  | .hbm, ⟨83, _⟩ => ⟨S4096x1024, .f32⟩
  | .hbm, ⟨84, _⟩ => ⟨S4096x1024, .f32⟩
  | .hbm, ⟨85, _⟩ => ⟨S4096x1024, .f32⟩
  | .hbm, ⟨86, _⟩ => ⟨S1x1024, .f32⟩
  | .hbm, ⟨87, _⟩ => ⟨S1x1024, .f32⟩
  | .hbm, ⟨88, _⟩ => ⟨S1x1024, .f32⟩
  | .hbm, ⟨89, _⟩ => ⟨S_, .f32⟩
  | .hbm, ⟨90, _⟩ => ⟨S5x1024, .f32⟩
  | .hbm, ⟨91, _⟩ => ⟨S8x1024, .f32⟩
  | _, _ => ⟨S4x4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_3 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_cst_4 : Ref sig .tc := ⟨.hbm, 47, rfl⟩
abbrev main_v36 : Ref sig .tc := ⟨.hbm, 48, rfl⟩
abbrev main_v37 : Ref sig .tc := ⟨.hbm, 49, rfl⟩
abbrev main_cst_5 : Ref sig .tc := ⟨.hbm, 50, rfl⟩
abbrev main_v38 : Ref sig .tc := ⟨.hbm, 51, rfl⟩
abbrev main_v39 : Ref sig .tc := ⟨.hbm, 52, rfl⟩
abbrev main_cst_6 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_cst_7 : Ref sig .tc := ⟨.hbm, 58, rfl⟩
abbrev main_v44 : Ref sig .tc := ⟨.hbm, 59, rfl⟩
abbrev main_v45 : Ref sig .tc := ⟨.hbm, 60, rfl⟩
abbrev main_cst_8 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_cst_9 : Ref sig .tc := ⟨.hbm, 66, rfl⟩
abbrev main_v50 : Ref sig .tc := ⟨.hbm, 67, rfl⟩
abbrev main_v51 : Ref sig .tc := ⟨.hbm, 68, rfl⟩
abbrev main_cst_10 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_cst_11 : Ref sig .tc := ⟨.hbm, 76, rfl⟩
abbrev main_v58 : Ref sig .tc := ⟨.hbm, 77, rfl⟩
abbrev main_v59 : Ref sig .tc := ⟨.hbm, 78, rfl⟩
abbrev main_cst_12 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_cst_13 : Ref sig .tc := ⟨.hbm, 89, rfl⟩
abbrev main_v69 : Ref sig .tc := ⟨.hbm, 90, rfl⟩
abbrev main_v70 : Ref sig .tc := ⟨.hbm, 91, rfl⟩

abbrev nD : Nat := 1
abbrev τ : Topo := Topo.v7x

variable {F : FTy → Type} [FloatOps F]
-- ==== Kernel5.lean ====
abbrev S4096x2048 : Shape := ⟨2, ![4096, 2048]⟩
abbrev S4x512x1024 : Shape := ⟨3, ![4, 512, 1024]⟩
abbrev S4096x1024 : Shape := ⟨2, ![4096, 1024]⟩
abbrev S8x1024 : Shape := ⟨2, ![8, 1024]⟩
abbrev S512x2048 : Shape := ⟨2, ![512, 2048]⟩
abbrev S512x1024 : Shape := ⟨2, ![512, 1024]⟩
abbrev S512x512 : Shape := ⟨2, ![512, 512]⟩
abbrev S1x512x1024 : Shape := ⟨3, ![1, 512, 1024]⟩
abbrev S512 : Shape := ⟨1, ![512]⟩
abbrev S512x1 : Shape := ⟨2, ![512, 1]⟩
abbrev S1x1024 : Shape := ⟨2, ![1, 1024]⟩

abbrev nBuf : Space → Nat
  | .hbm => 6
  | .vmem => 10
  | .smem => 0
  | _ => 0

abbrev bufTy : (tb : Table) → Fin (tcTables nBuf tb) → BufTy
  | .hbm, ⟨0, _⟩ => ⟨S4096x2048, .bf16⟩
  | .hbm, ⟨1, _⟩ => ⟨S4x512x1024, .bf16⟩
  | .hbm, ⟨2, _⟩ => ⟨S4096x1024, .f32⟩
  | .hbm, ⟨3, _⟩ => ⟨S8x1024, .f32⟩
  | .hbm, ⟨4, _⟩ => ⟨S4096x1024, .bf16⟩
  | .hbm, ⟨5, _⟩ => ⟨S4096x1024, .f32⟩
  | .local _ .vmem, ⟨0, _⟩ => ⟨S512x2048, .bf16⟩
  | .local _ .vmem, ⟨1, _⟩ => ⟨S512x2048, .bf16⟩
  | .local _ .vmem, ⟨2, _⟩ => ⟨S4x512x1024, .bf16⟩
  | .local _ .vmem, ⟨3, _⟩ => ⟨S512x1024, .f32⟩
  | .local _ .vmem, ⟨4, _⟩ => ⟨S512x1024, .f32⟩
  | .local _ .vmem, ⟨5, _⟩ => ⟨S8x1024, .f32⟩
  | .local _ .vmem, ⟨6, _⟩ => ⟨S512x1024, .bf16⟩
  | .local _ .vmem, ⟨7, _⟩ => ⟨S512x1024, .bf16⟩
  | .local _ .vmem, ⟨8, _⟩ => ⟨S512x1024, .f32⟩
  | .local _ .vmem, ⟨9, _⟩ => ⟨S512x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference5Ideal.lean ====
abbrev S4096x2048 : Shape := ⟨2, ![4096, 2048]⟩
abbrev S4x512x1024 : Shape := ⟨3, ![4, 512, 1024]⟩
abbrev S4096x1024 : Shape := ⟨2, ![4096, 1024]⟩
abbrev S8x1024 : Shape := ⟨2, ![8, 1024]⟩
abbrev S2048x1024 : Shape := ⟨2, ![2048, 1024]⟩
abbrev S1x1024 : Shape := ⟨2, ![1, 1024]⟩
abbrev S1024 : Shape := ⟨1, ![1024]⟩
abbrev S_ : Shape := ⟨0, ![]⟩
abbrev S4096 : Shape := ⟨1, ![4096]⟩
abbrev S4096x1 : Shape := ⟨2, ![4096, 1]⟩

abbrev nBuf : Space → Nat
  | .hbm => 35
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4x512x1024, .bf16⟩
  | .hbm, ⟨2, _⟩ => ⟨S4096x1024, .f32⟩
  | .hbm, ⟨3, _⟩ => ⟨S8x1024, .f32⟩
  | .hbm, ⟨4, _⟩ => ⟨S2048x1024, .bf16⟩
  | .hbm, ⟨5, _⟩ => ⟨S2048x1024, .f32⟩
  | .hbm, ⟨6, _⟩ => ⟨S4096x2048, .f32⟩
  | .hbm, ⟨7, _⟩ => ⟨S4096x1024, .f32⟩
  | .hbm, ⟨8, _⟩ => ⟨S4096x1024, .bf16⟩
  | .hbm, ⟨9, _⟩ => ⟨S4096x2048, .f32⟩
  | .hbm, ⟨10, _⟩ => ⟨S1x1024, .f32⟩
  | .hbm, ⟨11, _⟩ => ⟨S1024, .f32⟩
  | .hbm, ⟨12, _⟩ => ⟨S1x1024, .f32⟩
  | .hbm, ⟨13, _⟩ => ⟨S1024, .f32⟩
  | .hbm, ⟨14, _⟩ => ⟨S4096x1024, .f32⟩
  | .hbm, ⟨15, _⟩ => ⟨S4096x1024, .f32⟩
  | .hbm, ⟨16, _⟩ => ⟨S_, .f32⟩
  | .hbm, ⟨17, _⟩ => ⟨S4096, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S_, .f32⟩
  | .hbm, ⟨23, _⟩ => ⟨S4096x1, .f32⟩
  | .hbm, ⟨24, _⟩ => ⟨S4096x1, .f32⟩
  | .hbm, ⟨25, _⟩ => ⟨S4096x1, .f32⟩
  | .hbm, ⟨26, _⟩ => ⟨S4096x1024, .f32⟩
  | .hbm, ⟨27, _⟩ => ⟨S4096x1024, .f32⟩
  | .hbm, ⟨28, _⟩ => ⟨S1x1024, .f32⟩
  | .hbm, ⟨29, _⟩ => ⟨S4096x1024, .f32⟩
  | .hbm, ⟨30, _⟩ => ⟨S4096x1024, .f32⟩
  | .hbm, ⟨31, _⟩ => ⟨S1x1024, .f32⟩
  | .hbm, ⟨32, _⟩ => ⟨S4096x1024, .f32⟩
  | .hbm, ⟨33, _⟩ => ⟨S4096x1024, .f32⟩
  | .hbm, ⟨34, _⟩ => ⟨S4096x1024, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst : Ref sig .tc := ⟨.hbm, 16, rfl⟩
abbrev main_v12 : Ref sig .tc := ⟨.hbm, 17, rfl⟩
abbrev main_v13 : Ref sig .tc := ⟨.hbm, 18, rfl⟩
abbrev main_cst_0 : Ref sig .tc := ⟨.hbm, 19, rfl⟩
abbrev main_v14 : Ref sig .tc := ⟨.hbm, 20, rfl⟩
abbrev main_v15 : Ref sig .tc := ⟨.hbm, 21, rfl⟩
abbrev main_cst_1 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩

abbrev nD : Nat := 1
abbrev τ : Topo := Topo.v7x

variable {F : FTy → Type} [FloatOps F]
-- ==== Kernel6.lean ====
abbrev S4096x1024 : Shape := ⟨2, ![4096, 1024]⟩
abbrev S4096x2048 : Shape := ⟨2, ![4096, 2048]⟩
abbrev S4x512x1024 : Shape := ⟨3, ![4, 512, 1024]⟩
abbrev S8x1024 : Shape := ⟨2, ![8, 1024]⟩
abbrev S8x128 : Shape := ⟨2, ![8, 128]⟩
abbrev S2048x1024 : Shape := ⟨2, ![2048, 1024]⟩
abbrev S512x1024 : Shape := ⟨2, ![512, 1024]⟩
abbrev S512x2048 : Shape := ⟨2, ![512, 2048]⟩
abbrev S512 : Shape := ⟨1, ![512]⟩
abbrev S512x1 : Shape := ⟨2, ![512, 1]⟩
abbrev S1x1024 : Shape := ⟨2, ![1, 1024]⟩
abbrev S1024 : Shape := ⟨1, ![1024]⟩
abbrev S1x512x1024 : Shape := ⟨3, ![1, 512, 1024]⟩
abbrev S512x512 : Shape := ⟨2, ![512, 512]⟩

abbrev nBuf : Space → Nat
  | .hbm => 13
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S4096x2048, .bf16⟩
  | .hbm, ⟨2, _⟩ => ⟨S4x512x1024, .bf16⟩
  | .hbm, ⟨3, _⟩ => ⟨S8x1024, .f32⟩
  | .hbm, ⟨4, _⟩ => ⟨S8x128, .f32⟩
  | .hbm, ⟨5, _⟩ => ⟨S4096x2048, .f32⟩
  | .hbm, ⟨6, _⟩ => ⟨S2048x1024, .bf16⟩
  | .hbm, ⟨7, _⟩ => ⟨S2048x1024, .f32⟩
  | .hbm, ⟨8, _⟩ => ⟨S4096x1024, .f32⟩
  | .hbm, ⟨9, _⟩ => ⟨S4096x1024, .bf16⟩
  | .hbm, ⟨10, _⟩ => ⟨S4096x2048, .f32⟩
  | .hbm, ⟨11, _⟩ => ⟨S4x512x1024, .bf16⟩
  | .hbm, ⟨12, _⟩ => ⟨S8x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x2048, .bf16⟩
  | .local _ .vmem, ⟨5, _⟩ => ⟨S512x2048, .bf16⟩
  | .local _ .vmem, ⟨6, _⟩ => ⟨S4x512x1024, .bf16⟩
  | .local _ .vmem, ⟨7, _⟩ => ⟨S8x1024, .f32⟩
  | .local _ .vmem, ⟨8, _⟩ => ⟨S512x2048, .f32⟩
  | .local _ .vmem, ⟨9, _⟩ => ⟨S512x2048, .f32⟩
  | .local _ .vmem, ⟨10, _⟩ => ⟨S4x512x1024, .bf16⟩
  | .local _ .vmem, ⟨11, _⟩ => ⟨S8x1024, .f32⟩
  | .local _ .vmem, ⟨12, _⟩ => ⟨S4x512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v98 : BitVec 1 := Scalar.cmpi .eq arg0 c7_i32
  let v99 : BitVec 32 := Scalar.extui v98
  let c0_i32_75 : BitVec 32 := 0#32
  let v100 : BitVec 1 := Scalar.cmpi .ne v99 c0_i32_75
  v100

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S4x512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference6Ideal.lean ====
abbrev S4096x1024 : Shape := ⟨2, ![4096, 1024]⟩
abbrev S4096x2048 : Shape := ⟨2, ![4096, 2048]⟩
abbrev S4x512x1024 : Shape := ⟨3, ![4, 512, 1024]⟩
abbrev S8x1024 : Shape := ⟨2, ![8, 1024]⟩
abbrev S8x128 : Shape := ⟨2, ![8, 128]⟩
abbrev S2048x1024 : Shape := ⟨2, ![2048, 1024]⟩
abbrev S1x1024 : Shape := ⟨2, ![1, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1024x2048 : Shape := ⟨2, ![1024, 2048]⟩
abbrev S6x1024 : Shape := ⟨2, ![6, 1024]⟩

abbrev nBuf : Space → Nat
  | .hbm => 82
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x2048, .bf16⟩
  | .hbm, ⟨2, _⟩ => ⟨S4x512x1024, .bf16⟩
  | .hbm, ⟨3, _⟩ => ⟨S8x1024, .f32⟩
  | .hbm, ⟨4, _⟩ => ⟨S8x128, .f32⟩
  | .hbm, ⟨5, _⟩ => ⟨S2048x1024, .bf16⟩
  | .hbm, ⟨6, _⟩ => ⟨S2048x1024, .f32⟩
  | .hbm, ⟨7, _⟩ => ⟨S4096x2048, .f32⟩
  | .hbm, ⟨8, _⟩ => ⟨S1x1024, .f32⟩
  | .hbm, ⟨9, _⟩ => ⟨S1024, .f32⟩
  | .hbm, ⟨10, _⟩ => ⟨S1x1024, .f32⟩
  | .hbm, ⟨11, _⟩ => ⟨S1024, .f32⟩
  | .hbm, ⟨12, _⟩ => ⟨S_, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S_, .f32⟩
  | .hbm, ⟨17, _⟩ => ⟨S4096, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S_, .f32⟩
  | .hbm, ⟨23, _⟩ => ⟨S4096x1, .f32⟩
  | .hbm, ⟨24, _⟩ => ⟨S4096x1, .f32⟩
  | .hbm, ⟨25, _⟩ => ⟨S4096x1, .f32⟩
  | .hbm, ⟨26, _⟩ => ⟨S4096x1, .f32⟩
  | .hbm, ⟨27, _⟩ => ⟨S_, .f32⟩
  | .hbm, ⟨28, _⟩ => ⟨S4096x1, .f32⟩
  | .hbm, ⟨29, _⟩ => ⟨S4096x1, .f32⟩
  | .hbm, ⟨30, _⟩ => ⟨S4096x1024, .f32⟩
  | .hbm, ⟨31, _⟩ => ⟨S4096x1024, .f32⟩
  | .hbm, ⟨32, _⟩ => ⟨S1x1024, .f32⟩
  | .hbm, ⟨33, _⟩ => ⟨S4096x1024, .f32⟩
  | .hbm, ⟨34, _⟩ => ⟨S4096x1024, .f32⟩
  | .hbm, ⟨35, _⟩ => ⟨S1x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S_, .f32⟩
  | .hbm, ⟨43, _⟩ => ⟨S1024, .f32⟩
  | .hbm, ⟨44, _⟩ => ⟨S1x1024, .f32⟩
  | .hbm, ⟨45, _⟩ => ⟨S_, .f32⟩
  | .hbm, ⟨46, _⟩ => ⟨S1024, .f32⟩
  | .hbm, ⟨47, _⟩ => ⟨S4096x1024, .f32⟩
  | .hbm, ⟨48, _⟩ => ⟨S_, .f32⟩
  | .hbm, ⟨49, _⟩ => ⟨S1024, .f32⟩
  | .hbm, ⟨50, _⟩ => ⟨S1x1024, .f32⟩
  | .hbm, ⟨51, _⟩ => ⟨S4096x1024, .f32⟩
  | .hbm, ⟨52, _⟩ => ⟨S4096x1024, .f32⟩
  | .hbm, ⟨53, _⟩ => ⟨S_, .f32⟩
  | .hbm, ⟨54, _⟩ => ⟨S1024, .f32⟩
  | .hbm, ⟨55, _⟩ => ⟨S4096x1024, .f32⟩
  | .hbm, ⟨56, _⟩ => ⟨S_, .f32⟩
  | .hbm, ⟨57, _⟩ => ⟨S4096, .f32⟩
  | .hbm, ⟨58, _⟩ => ⟨S4096x1, .f32⟩
  | .hbm, ⟨59, _⟩ => ⟨S4096x1024, .f32⟩
  | .hbm, ⟨60, _⟩ => ⟨S4096x1024, .f32⟩
  | .hbm, ⟨61, _⟩ => ⟨S4096x1, .f32⟩
  | .hbm, ⟨62, _⟩ => ⟨S_, .f32⟩
  | .hbm, ⟨63, _⟩ => ⟨S4096x1, .f32⟩
  | .hbm, ⟨64, _⟩ => ⟨S4096x1, .f32⟩
  | .hbm, ⟨65, _⟩ => ⟨S_, .f32⟩
  | .hbm, ⟨66, _⟩ => ⟨S4096, .f32⟩
  | .hbm, ⟨67, _⟩ => ⟨S4096x1024, .f32⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S4096x1024, .f32⟩
  | .hbm, ⟨72, _⟩ => ⟨S1024x2048, .f32⟩
  | .hbm, ⟨73, _⟩ => ⟨S2048x1024, .f32⟩
  | .hbm, ⟨74, _⟩ => ⟨S4096x2048, .f32⟩
  | .hbm, ⟨75, _⟩ => ⟨S1x1024, .f32⟩
  | .hbm, ⟨76, _⟩ => ⟨S1x1024, .f32⟩
  | .hbm, ⟨77, _⟩ => ⟨S_, .f32⟩
  | .hbm, ⟨78, _⟩ => ⟨S6x1024, .f32⟩
  | .hbm, ⟨79, _⟩ => ⟨S8x1024, .f32⟩
  | .hbm, ⟨80, _⟩ => ⟨S4x512x1024, .f32⟩
  | .hbm, ⟨81, _⟩ => ⟨S4x512x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_4 : Ref sig .tc := ⟨.hbm, 42, rfl⟩
abbrev main_v32 : Ref sig .tc := ⟨.hbm, 43, rfl⟩
abbrev main_v33 : Ref sig .tc := ⟨.hbm, 44, rfl⟩
abbrev main_cst_5 : Ref sig .tc := ⟨.hbm, 45, rfl⟩
abbrev main_v34 : Ref sig .tc := ⟨.hbm, 46, rfl⟩
abbrev main_v35 : Ref sig .tc := ⟨.hbm, 47, rfl⟩
abbrev main_cst_6 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_7 : Ref sig .tc := ⟨.hbm, 53, rfl⟩
abbrev main_v40 : Ref sig .tc := ⟨.hbm, 54, rfl⟩
abbrev main_v41 : Ref sig .tc := ⟨.hbm, 55, rfl⟩
abbrev main_cst_8 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_cst_9 : Ref sig .tc := ⟨.hbm, 62, rfl⟩
abbrev main_v47 : Ref sig .tc := ⟨.hbm, 63, rfl⟩
abbrev main_v48 : Ref sig .tc := ⟨.hbm, 64, rfl⟩
abbrev main_cst_10 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_cst_11 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩

abbrev nD : Nat := 1
abbrev τ : Topo := Topo.v7x

variable {F : FTy → Type} [FloatOps F]
-- ==== Kernel7.lean ====
abbrev S4x4096x1024 : Shape := ⟨3, ![4, 4096, 1024]⟩
abbrev S4096x2048 : Shape := ⟨2, ![4096, 2048]⟩
abbrev S4x256x256 : Shape := ⟨3, ![4, 256, 256]⟩
abbrev S8x1024 : Shape := ⟨2, ![8, 1024]⟩
abbrev S2x512x1024 : Shape := ⟨3, ![2, 512, 1024]⟩
abbrev S512x1024 : Shape := ⟨2, ![512, 1024]⟩
abbrev S528x1024 : Shape := ⟨2, ![528, 1024]⟩
abbrev S16x1024 : Shape := ⟨2, ![16, 1024]⟩
abbrev S1x512x1024 : Shape := ⟨3, ![1, 512, 1024]⟩
abbrev S1x512x256 : Shape := ⟨3, ![1, 512, 256]⟩
abbrev S512x256 : Shape := ⟨2, ![512, 256]⟩
abbrev S528x256 : Shape := ⟨2, ![528, 256]⟩
abbrev S1x256x256 : Shape := ⟨3, ![1, 256, 256]⟩
abbrev S256x256 : Shape := ⟨2, ![256, 256]⟩
abbrev S1x256 : Shape := ⟨2, ![1, 256]⟩

abbrev nBuf : Space → Nat
  | .hbm => 5
  | .vmem => 7
  | .smem => 0
  | _ => 0

abbrev bufTy : (tb : Table) → Fin (tcTables nBuf tb) → BufTy
  | .hbm, ⟨0, _⟩ => ⟨S4x4096x1024, .f32⟩
  | .hbm, ⟨1, _⟩ => ⟨S4096x2048, .bf16⟩
  | .hbm, ⟨2, _⟩ => ⟨S4x256x256, .bf16⟩
  | .hbm, ⟨3, _⟩ => ⟨S8x1024, .f32⟩
  | .hbm, ⟨4, _⟩ => ⟨S4096x2048, .bf16⟩
  | .local _ .vmem, ⟨0, _⟩ => ⟨S2x512x1024, .f32⟩
  | .local _ .vmem, ⟨1, _⟩ => ⟨S2x512x1024, .f32⟩
  | .local _ .vmem, ⟨2, _⟩ => ⟨S4x256x256, .bf16⟩
  | .local _ .vmem, ⟨3, _⟩ => ⟨S8x1024, .f32⟩
  | .local _ .vmem, ⟨4, _⟩ => ⟨S512x1024, .bf16⟩
  | .local _ .vmem, ⟨5, _⟩ => ⟨S512x1024, .bf16⟩
  | .local _ .vmem, ⟨6, _⟩ => ⟨S528x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

abbrev stage0_0 : Fin 2 → Memref sig .tc .vmem S2x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference7Ideal.lean ====
abbrev S4x4096x1024 : Shape := ⟨3, ![4, 4096, 1024]⟩
abbrev S4096x2048 : Shape := ⟨2, ![4096, 2048]⟩
abbrev S4x256x256 : Shape := ⟨3, ![4, 256, 256]⟩
abbrev S8x1024 : Shape := ⟨2, ![8, 1024]⟩
abbrev S1x1024 : Shape := ⟨2, ![1, 1024]⟩
abbrev S1024 : Shape := ⟨1, ![1024]⟩
abbrev S4x256 : Shape := ⟨2, ![4, 256]⟩
abbrev S1x4096x1024 : Shape := ⟨3, ![1, 4096, 1024]⟩
abbrev S4096x1024 : Shape := ⟨2, ![4096, 1024]⟩
abbrev S4096x4x256 : Shape := ⟨3, ![4096, 4, 256]⟩
abbrev S_ : Shape := ⟨0, ![]⟩
abbrev S4096 : Shape := ⟨1, ![4096]⟩
abbrev S4096x1x256 : Shape := ⟨3, ![4096, 1, 256]⟩
abbrev S4096x256 : Shape := ⟨2, ![4096, 256]⟩
abbrev S2x256 : Shape := ⟨2, ![2, 256]⟩
abbrev S4094x256 : Shape := ⟨2, ![4094, 256]⟩
abbrev S4096x1 : Shape := ⟨2, ![4096, 1]⟩
abbrev S4092x256 : Shape := ⟨2, ![4092, 256]⟩
abbrev S8x256 : Shape := ⟨2, ![8, 256]⟩
abbrev S4088x256 : Shape := ⟨2, ![4088, 256]⟩
abbrev S16x256 : Shape := ⟨2, ![16, 256]⟩
abbrev S4080x256 : Shape := ⟨2, ![4080, 256]⟩
abbrev S4x256x4096 : Shape := ⟨3, ![4, 256, 4096]⟩
abbrev S1x4x256 : Shape := ⟨3, ![1, 4, 256]⟩

abbrev nBuf : Space → Nat
  | .hbm => 115
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4096x2048, .bf16⟩
  | .hbm, ⟨2, _⟩ => ⟨S4x256x256, .bf16⟩
  | .hbm, ⟨3, _⟩ => ⟨S8x1024, .f32⟩
  | .hbm, ⟨4, _⟩ => ⟨S1x1024, .f32⟩
  | .hbm, ⟨5, _⟩ => ⟨S1024, .f32⟩
  | .hbm, ⟨6, _⟩ => ⟨S4x256, .f32⟩
  | .hbm, ⟨7, _⟩ => ⟨S1x4096x1024, .f32⟩
  | .hbm, ⟨8, _⟩ => ⟨S4096x1024, .f32⟩
  | .hbm, ⟨9, _⟩ => ⟨S1x4096x1024, .f32⟩
  | .hbm, ⟨10, _⟩ => ⟨S4096x1024, .f32⟩
  | .hbm, ⟨11, _⟩ => ⟨S4x256x256, .f32⟩
  | .hbm, ⟨12, _⟩ => ⟨S1x1024, .f32⟩
  | .hbm, ⟨13, _⟩ => ⟨S1024, .f32⟩
  | .hbm, ⟨14, _⟩ => ⟨S4096x4x256, .f32⟩
  | .hbm, ⟨15, _⟩ => ⟨S_, .f32⟩
  | .hbm, ⟨16, _⟩ => ⟨S_, .f32⟩
  | .hbm, ⟨17, _⟩ => ⟨S4096x4x256, .f32⟩
  | .hbm, ⟨18, _⟩ => ⟨S4096, .i32⟩
  | .hbm, ⟨19, _⟩ => ⟨S4096x1x256, .f32⟩
  | .hbm, ⟨20, _⟩ => ⟨S4096x256, .f32⟩
  | .hbm, ⟨21, _⟩ => ⟨S_, .f32⟩
  | .hbm, ⟨22, _⟩ => ⟨S2x256, .f32⟩
  | .hbm, ⟨23, _⟩ => ⟨S4094x256, .f32⟩
  | .hbm, ⟨24, _⟩ => ⟨S4096x256, .f32⟩
  | .hbm, ⟨25, _⟩ => ⟨S_, .i32⟩
  | .hbm, ⟨26, _⟩ => ⟨S4096, .i32⟩
  | .hbm, ⟨27, _⟩ => ⟨S4096, .i32⟩
  | .hbm, ⟨28, _⟩ => ⟨S_, .i32⟩
  | .hbm, ⟨29, _⟩ => ⟨S4096, .i32⟩
  | .hbm, ⟨30, _⟩ => ⟨S4096, .i32⟩
  | .hbm, ⟨31, _⟩ => ⟨S4096, .f32⟩
  | .hbm, ⟨32, _⟩ => ⟨S4096x1, .f32⟩
  | .hbm, ⟨33, _⟩ => ⟨S4096x256, .f32⟩
  | .hbm, ⟨34, _⟩ => ⟨S4096x256, .f32⟩
  | .hbm, ⟨35, _⟩ => ⟨S4096x256, .f32⟩
  | .hbm, ⟨36, _⟩ => ⟨S4096x1x256, .f32⟩
  | .hbm, ⟨37, _⟩ => ⟨S4096x256, .f32⟩
  | .hbm, ⟨38, _⟩ => ⟨S_, .f32⟩
  | .hbm, ⟨39, _⟩ => ⟨S4x256, .f32⟩
  | .hbm, ⟨40, _⟩ => ⟨S4092x256, .f32⟩
  | .hbm, ⟨41, _⟩ => ⟨S4096x256, .f32⟩
  | .hbm, ⟨42, _⟩ => ⟨S_, .i32⟩
  | .hbm, ⟨43, _⟩ => ⟨S4096, .i32⟩
  | .hbm, ⟨44, _⟩ => ⟨S4096, .i32⟩
  | .hbm, ⟨45, _⟩ => ⟨S_, .i32⟩
  | .hbm, ⟨46, _⟩ => ⟨S4096, .i32⟩
  | .hbm, ⟨47, _⟩ => ⟨S4096, .i32⟩
  | .hbm, ⟨48, _⟩ => ⟨S4096, .f32⟩
  | .hbm, ⟨49, _⟩ => ⟨S4096x1, .f32⟩
  | .hbm, ⟨50, _⟩ => ⟨S4096x256, .f32⟩
  | .hbm, ⟨51, _⟩ => ⟨S4096x256, .f32⟩
  | .hbm, ⟨52, _⟩ => ⟨S4096x256, .f32⟩
  | .hbm, ⟨53, _⟩ => ⟨S4096x1x256, .f32⟩
  | .hbm, ⟨54, _⟩ => ⟨S4096x256, .f32⟩
  | .hbm, ⟨55, _⟩ => ⟨S_, .f32⟩
  | .hbm, ⟨56, _⟩ => ⟨S8x256, .f32⟩
  | .hbm, ⟨57, _⟩ => ⟨S4088x256, .f32⟩
  | .hbm, ⟨58, _⟩ => ⟨S4096x256, .f32⟩
  | .hbm, ⟨59, _⟩ => ⟨S_, .i32⟩
  | .hbm, ⟨60, _⟩ => ⟨S4096, .i32⟩
  | .hbm, ⟨61, _⟩ => ⟨S4096, .i32⟩
  | .hbm, ⟨62, _⟩ => ⟨S_, .i32⟩
  | .hbm, ⟨63, _⟩ => ⟨S4096, .i32⟩
  | .hbm, ⟨64, _⟩ => ⟨S4096, .i32⟩
  | .hbm, ⟨65, _⟩ => ⟨S4096, .f32⟩
  | .hbm, ⟨66, _⟩ => ⟨S4096x1, .f32⟩
  | .hbm, ⟨67, _⟩ => ⟨S4096x256, .f32⟩
  | .hbm, ⟨68, _⟩ => ⟨S4096x256, .f32⟩
  | .hbm, ⟨69, _⟩ => ⟨S4096x256, .f32⟩
  | .hbm, ⟨70, _⟩ => ⟨S4096x1x256, .f32⟩
  | .hbm, ⟨71, _⟩ => ⟨S4096x256, .f32⟩
  | .hbm, ⟨72, _⟩ => ⟨S_, .f32⟩
  | .hbm, ⟨73, _⟩ => ⟨S16x256, .f32⟩
  | .hbm, ⟨74, _⟩ => ⟨S4080x256, .f32⟩
  | .hbm, ⟨75, _⟩ => ⟨S4096x256, .f32⟩
  | .hbm, ⟨76, _⟩ => ⟨S_, .i32⟩
  | .hbm, ⟨77, _⟩ => ⟨S4096, .i32⟩
  | .hbm, ⟨78, _⟩ => ⟨S4096, .i32⟩
  | .hbm, ⟨79, _⟩ => ⟨S_, .i32⟩
  | .hbm, ⟨80, _⟩ => ⟨S4096, .i32⟩
  | .hbm, ⟨81, _⟩ => ⟨S4096, .i32⟩
  | .hbm, ⟨82, _⟩ => ⟨S4096, .f32⟩
  | .hbm, ⟨83, _⟩ => ⟨S4096x1, .f32⟩
  | .hbm, ⟨84, _⟩ => ⟨S4096x256, .f32⟩
  | .hbm, ⟨85, _⟩ => ⟨S4096x256, .f32⟩
  | .hbm, ⟨86, _⟩ => ⟨S4096x256, .f32⟩
  | .hbm, ⟨87, _⟩ => ⟨S4096x1x256, .f32⟩
  | .hbm, ⟨88, _⟩ => ⟨S4096x1x256, .f32⟩
  | .hbm, ⟨89, _⟩ => ⟨S4096x1x256, .f32⟩
  | .hbm, ⟨90, _⟩ => ⟨S4096x1x256, .f32⟩
  | .hbm, ⟨91, _⟩ => ⟨S4096x4x256, .f32⟩
  | .hbm, ⟨92, _⟩ => ⟨S4096x4x256, .f32⟩
  | .hbm, ⟨93, _⟩ => ⟨S4x256x4096, .f32⟩
  | .hbm, ⟨94, _⟩ => ⟨S4096x4x256, .f32⟩
  | .hbm, ⟨95, _⟩ => ⟨S1x4x256, .f32⟩
  | .hbm, ⟨96, _⟩ => ⟨S4096x4x256, .f32⟩
  | .hbm, ⟨97, _⟩ => ⟨S4096x4x256, .f32⟩
  | .hbm, ⟨98, _⟩ => ⟨S4096x1024, .f32⟩
  | .hbm, ⟨99, _⟩ => ⟨S1x1024, .f32⟩
  | .hbm, ⟨100, _⟩ => ⟨S4096x1024, .f32⟩
  | .hbm, ⟨101, _⟩ => ⟨S4096x1024, .f32⟩
  | .hbm, ⟨102, _⟩ => ⟨S4096x1024, .f32⟩
  | .hbm, ⟨103, _⟩ => ⟨S4096x1024, .f32⟩
  | .hbm, ⟨104, _⟩ => ⟨S_, .f32⟩
  | .hbm, ⟨105, _⟩ => ⟨S4096x1024, .f32⟩
  | .hbm, ⟨106, _⟩ => ⟨S4096x1024, .f32⟩
  | .hbm, ⟨107, _⟩ => ⟨S_, .f32⟩
  | .hbm, ⟨108, _⟩ => ⟨S4096x1024, .f32⟩
  | .hbm, ⟨109, _⟩ => ⟨S4096x1024, .f32⟩
  | .hbm, ⟨110, _⟩ => ⟨S4096x1024, .f32⟩
  | .hbm, ⟨111, _⟩ => ⟨S4096x1024, .f32⟩
  | .hbm, ⟨112, _⟩ => ⟨S4096x1024, .bf16⟩
  | .hbm, ⟨113, _⟩ => ⟨S4096x1024, .bf16⟩
  | .hbm, ⟨114, _⟩ => ⟨S4096x2048, .bf16⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_call0_call0_cst : Ref sig .tc := ⟨.hbm, 15, rfl⟩
abbrev main_call0_call0_v0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_c : Ref sig .tc := ⟨.hbm, 25, rfl⟩
abbrev main_v18 : Ref sig .tc := ⟨.hbm, 26, rfl⟩
abbrev main_v19 : Ref sig .tc := ⟨.hbm, 27, rfl⟩
abbrev main_c_0 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_1 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_c_2 : Ref sig .tc := ⟨.hbm, 42, rfl⟩
abbrev main_v32 : Ref sig .tc := ⟨.hbm, 43, rfl⟩
abbrev main_v33 : Ref sig .tc := ⟨.hbm, 44, rfl⟩
abbrev main_c_3 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_cst_4 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_c_5 : Ref sig .tc := ⟨.hbm, 59, rfl⟩
abbrev main_v46 : Ref sig .tc := ⟨.hbm, 60, rfl⟩
abbrev main_v47 : Ref sig .tc := ⟨.hbm, 61, rfl⟩
abbrev main_c_6 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_cst_7 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_c_8 : Ref sig .tc := ⟨.hbm, 76, rfl⟩
abbrev main_v60 : Ref sig .tc := ⟨.hbm, 77, rfl⟩
abbrev main_v61 : Ref sig .tc := ⟨.hbm, 78, rfl⟩
abbrev main_c_9 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_call1_v0 : Ref sig .tc := ⟨.hbm, 102, rfl⟩
abbrev main_call1_v1 : Ref sig .tc := ⟨.hbm, 103, rfl⟩
abbrev main_call1_cst : Ref sig .tc := ⟨.hbm, 104, rfl⟩
abbrev main_call1_v2 : Ref sig .tc := ⟨.hbm, 105, rfl⟩
abbrev main_call1_v3 : Ref sig .tc := ⟨.hbm, 106, rfl⟩
abbrev main_call1_cst_0 : Ref sig .tc := ⟨.hbm, 107, rfl⟩
abbrev main_call1_v4 : Ref sig .tc := ⟨.hbm, 108, rfl⟩
abbrev main_call1_v5 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩

abbrev nD : Nat := 1
abbrev τ : Topo := Topo.v7x

variable {F : FTy → Type} [FloatOps F]
-- ==== Kernel8.lean ====
abbrev S4x4096x1024 : Shape := ⟨3, ![4, 4096, 1024]⟩
abbrev S4x1024 : Shape := ⟨2, ![4, 1024]⟩
abbrev S8x1024 : Shape := ⟨2, ![8, 1024]⟩
abbrev S8x128x128 : Shape := ⟨3, ![8, 128, 128]⟩
abbrev S4096x2048 : Shape := ⟨2, ![4096, 2048]⟩
abbrev S4096x1024 : Shape := ⟨2, ![4096, 1024]⟩
abbrev S2x512x256 : Shape := ⟨3, ![2, 512, 256]⟩
abbrev S4x256 : Shape := ⟨2, ![4, 256]⟩
abbrev S8x256 : Shape := ⟨2, ![8, 256]⟩
abbrev S2x128x128 : Shape := ⟨3, ![2, 128, 128]⟩
abbrev S512x256 : Shape := ⟨2, ![512, 256]⟩
abbrev S528x256 : Shape := ⟨2, ![528, 256]⟩
abbrev S16x256 : Shape := ⟨2, ![16, 256]⟩
abbrev S1x512x256 : Shape := ⟨3, ![1, 512, 256]⟩
abbrev S1x128 : Shape := ⟨2, ![1, 128]⟩
abbrev S512x128 : Shape := ⟨2, ![512, 128]⟩
abbrev S1x128x128 : Shape := ⟨3, ![1, 128, 128]⟩
abbrev S128x128 : Shape := ⟨2, ![128, 128]⟩
abbrev S8x128 : Shape := ⟨2, ![8, 128]⟩
abbrev S504x128 : Shape := ⟨2, ![504, 128]⟩
abbrev S16x128 : Shape := ⟨2, ![16, 128]⟩
abbrev S496x128 : Shape := ⟨2, ![496, 128]⟩
abbrev S32x128 : Shape := ⟨2, ![32, 128]⟩
abbrev S480x128 : Shape := ⟨2, ![480, 128]⟩
abbrev S64x128 : Shape := ⟨2, ![64, 128]⟩
abbrev S448x128 : Shape := ⟨2, ![448, 128]⟩
abbrev S384x128 : Shape := ⟨2, ![384, 128]⟩
abbrev S256x128 : Shape := ⟨2, ![256, 128]⟩
abbrev S1x512x128 : Shape := ⟨3, ![1, 512, 128]⟩

abbrev nBuf : Space → Nat
  | .hbm => 8
  | .vmem => 16
  | .smem => 0
  | _ => 0

abbrev bufTy : (tb : Table) → Fin (tcTables nBuf tb) → BufTy
  | .hbm, ⟨0, _⟩ => ⟨S4x4096x1024, .f32⟩
  | .hbm, ⟨1, _⟩ => ⟨S4x1024, .f32⟩
  | .hbm, ⟨2, _⟩ => ⟨S8x1024, .f32⟩
  | .hbm, ⟨3, _⟩ => ⟨S8x128x128, .bf16⟩
  | .hbm, ⟨4, _⟩ => ⟨S8x128x128, .bf16⟩
  | .hbm, ⟨5, _⟩ => ⟨S4096x2048, .bf16⟩
  | .hbm, ⟨6, _⟩ => ⟨S4096x1024, .f32⟩
  | .hbm, ⟨7, _⟩ => ⟨S4096x1024, .bf16⟩
  | .local _ .vmem, ⟨0, _⟩ => ⟨S2x512x256, .f32⟩
  | .local _ .vmem, ⟨1, _⟩ => ⟨S2x512x256, .f32⟩
  | .local _ .vmem, ⟨2, _⟩ => ⟨S4x256, .f32⟩
  | .local _ .vmem, ⟨3, _⟩ => ⟨S4x256, .f32⟩
  | .local _ .vmem, ⟨4, _⟩ => ⟨S8x256, .f32⟩
  | .local _ .vmem, ⟨5, _⟩ => ⟨S8x256, .f32⟩
  | .local _ .vmem, ⟨6, _⟩ => ⟨S2x128x128, .bf16⟩
  | .local _ .vmem, ⟨7, _⟩ => ⟨S2x128x128, .bf16⟩
  | .local _ .vmem, ⟨8, _⟩ => ⟨S2x128x128, .bf16⟩
  | .local _ .vmem, ⟨9, _⟩ => ⟨S2x128x128, .bf16⟩
  | .local _ .vmem, ⟨10, _⟩ => ⟨S512x256, .bf16⟩
  | .local _ .vmem, ⟨11, _⟩ => ⟨S512x256, .bf16⟩
  | .local _ .vmem, ⟨12, _⟩ => ⟨S512x256, .f32⟩
  | .local _ .vmem, ⟨13, _⟩ => ⟨S512x256, .f32⟩
  | .local _ .vmem, ⟨14, _⟩ => ⟨S528x256, .f32⟩
  | .local _ .vmem, ⟨15, _⟩ => ⟨S8x256, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2x512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2x128x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2x128x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference8Ideal.lean ====
abbrev S4x4096x1024 : Shape := ⟨3, ![4, 4096, 1024]⟩
abbrev S4x1024 : Shape := ⟨2, ![4, 1024]⟩
abbrev S8x1024 : Shape := ⟨2, ![8, 1024]⟩
abbrev S8x128x128 : Shape := ⟨3, ![8, 128, 128]⟩
abbrev S1x4096x1024 : Shape := ⟨3, ![1, 4096, 1024]⟩
abbrev S4096x1024 : Shape := ⟨2, ![4096, 1024]⟩
abbrev S1x1024 : Shape := ⟨2, ![1, 1024]⟩
abbrev S1024 : Shape := ⟨1, ![1024]⟩
abbrev S_ : Shape := ⟨0, ![]⟩
abbrev S3x1024 : Shape := ⟨2, ![3, 1024]⟩
abbrev S4093x1024 : Shape := ⟨2, ![4093, 1024]⟩
abbrev S2x1024 : Shape := ⟨2, ![2, 1024]⟩
abbrev S4094x1024 : Shape := ⟨2, ![4094, 1024]⟩
abbrev S4095x1024 : Shape := ⟨2, ![4095, 1024]⟩
abbrev S8x128 : Shape := ⟨2, ![8, 128]⟩
abbrev S4096x8x128 : Shape := ⟨3, ![4096, 8, 128]⟩
abbrev S8x128x4096 : Shape := ⟨3, ![8, 128, 4096]⟩
abbrev S1x8x128 : Shape := ⟨3, ![1, 8, 128]⟩

abbrev nBuf : Space → Nat
  | .hbm => 157
  | .vmem => 0
  | .smem => 0
  | _ => 0

abbrev hbmTy0_0 (i : Nat) : BufTy := match i % 128 with
  | 0 => ⟨S4x4096x1024, .f32⟩
  | 1 => ⟨S4x1024, .f32⟩
  | 2 => ⟨S8x1024, .f32⟩
  | 3 => ⟨S8x128x128, .bf16⟩
  | 4 => ⟨S8x128x128, .bf16⟩
  | 5 => ⟨S1x4096x1024, .f32⟩
  | 6 => ⟨S4096x1024, .f32⟩
  | 7 => ⟨S1x1024, .f32⟩
  | 8 => ⟨S1024, .f32⟩
  | 9 => ⟨S1x1024, .f32⟩
  | 10 => ⟨S1024, .f32⟩
  | 11 => ⟨S_, .f32⟩
  | 12 => ⟨S3x1024, .f32⟩
  | 13 => ⟨S4093x1024, .f32⟩
  | 14 => ⟨S4096x1024, .f32⟩
  | 15 => ⟨S1x1024, .f32⟩
  | 16 => ⟨S4096x1024, .f32⟩
  | 17 => ⟨S4096x1024, .f32⟩
  | 18 => ⟨S_, .f32⟩
  | 19 => ⟨S4096x1024, .f32⟩
  | 20 => ⟨S4096x1024, .f32⟩
  | 21 => ⟨S1x1024, .f32⟩
  | 22 => ⟨S1024, .f32⟩
  | 23 => ⟨S_, .f32⟩
  | 24 => ⟨S2x1024, .f32⟩
  | 25 => ⟨S4094x1024, .f32⟩
  | 26 => ⟨S4096x1024, .f32⟩
  | 27 => ⟨S1x1024, .f32⟩
  | 28 => ⟨S4096x1024, .f32⟩
  | 29 => ⟨S4096x1024, .f32⟩
  | 30 => ⟨S4096x1024, .f32⟩
  | 31 => ⟨S1x1024, .f32⟩
  | 32 => ⟨S1024, .f32⟩
  | 33 => ⟨S_, .f32⟩
  | 34 => ⟨S1x1024, .f32⟩
  | 35 => ⟨S4095x1024, .f32⟩
  | 36 => ⟨S4096x1024, .f32⟩
  | 37 => ⟨S1x1024, .f32⟩
  | 38 => ⟨S4096x1024, .f32⟩
  | 39 => ⟨S4096x1024, .f32⟩
  | 40 => ⟨S4096x1024, .f32⟩
  | 41 => ⟨S1x1024, .f32⟩
  | 42 => ⟨S1024, .f32⟩
  | 43 => ⟨S1x1024, .f32⟩
  | 44 => ⟨S4096x1024, .f32⟩
  | 45 => ⟨S4096x1024, .f32⟩
  | 46 => ⟨S4096x1024, .f32⟩
  | 47 => ⟨S1x1024, .f32⟩
  | 48 => ⟨S4096x1024, .f32⟩
  | 49 => ⟨S4096x1024, .f32⟩
  | 50 => ⟨S8x128x128, .f32⟩
  | 51 => ⟨S1x1024, .f32⟩
  | 52 => ⟨S1024, .f32⟩
  | 53 => ⟨S8x128, .f32⟩
  | 54 => ⟨S8x128x128, .f32⟩
  | 55 => ⟨S1x1024, .f32⟩
  | 56 => ⟨S1024, .f32⟩
  | 57 => ⟨S8x128, .f32⟩
  | 58 => ⟨S1x1024, .f32⟩
  | 59 => ⟨S1024, .f32⟩
  | 60 => ⟨S4096x8x128, .f32⟩
  | 61 => ⟨S8x128x4096, .f32⟩
  | 62 => ⟨S4096x8x128, .f32⟩
  | 63 => ⟨S1x8x128, .f32⟩
  | 64 => ⟨S4096x8x128, .f32⟩
  | 65 => ⟨S4096x8x128, .f32⟩
  | 66 => ⟨S4096x8x128, .f32⟩
  | 67 => ⟨S4096x8x128, .f32⟩
  | 68 => ⟨S_, .f32⟩
  | 69 => ⟨S4096x8x128, .f32⟩
  | 70 => ⟨S4096x8x128, .f32⟩
  | 71 => ⟨S_, .f32⟩
  | 72 => ⟨S4096x8x128, .f32⟩
  | 73 => ⟨S4096x8x128, .f32⟩
  | 74 => ⟨S4096x1024, .f32⟩
  | 75 => ⟨S8x128x4096, .f32⟩
  | 76 => ⟨S4096x8x128, .f32⟩
  | 77 => ⟨S1x8x128, .f32⟩
  | 78 => ⟨S4096x8x128, .f32⟩
  | 79 => ⟨S4096x8x128, .f32⟩
  | 80 => ⟨S4096x8x128, .f32⟩
  | 81 => ⟨S4096x8x128, .f32⟩
  | 82 => ⟨S_, .f32⟩
  | 83 => ⟨S4096x8x128, .f32⟩
  | 84 => ⟨S4096x8x128, .f32⟩
  | 85 => ⟨S_, .f32⟩
  | 86 => ⟨S4096x8x128, .f32⟩
  | 87 => ⟨S4096x8x128, .f32⟩
  | 88 => ⟨S4096x1024, .f32⟩
  | 89 => ⟨S_, .f32⟩
  | 90 => ⟨S4096x1024, .f32⟩
  | 91 => ⟨S4096x1024, .f32⟩
  | 92 => ⟨S1024, .f32⟩
  | 93 => ⟨S_, .f32⟩
  | 94 => ⟨S1024, .f32⟩
  | 95 => ⟨S1024, .f32⟩
  | 96 => ⟨S1024, .f32⟩
  | 97 => ⟨S1024, .f32⟩
  | 98 => ⟨S1024, .i1⟩
  | 99 => ⟨S1024, .f32⟩
  | 100 => ⟨S1024, .f32⟩
  | 101 => ⟨S1024, .f32⟩
  | 102 => ⟨S1024, .f32⟩
  | 103 => ⟨S1024, .f32⟩
  | 104 => ⟨S1024, .f32⟩
  | 105 => ⟨S1024, .f32⟩
  | 106 => ⟨S1024, .f32⟩
  | 107 => ⟨S1x1024, .f32⟩
  | 108 => ⟨S4096x1024, .f32⟩
  | 109 => ⟨S4096x1024, .f32⟩
  | 110 => ⟨S4096x1024, .f32⟩
  | 111 => ⟨S_, .f32⟩
  | 112 => ⟨S4096x1024, .f32⟩
  | 113 => ⟨S4096x1024, .f32⟩
  | 114 => ⟨S4096x1024, .f32⟩
  | 115 => ⟨S4096x1024, .f32⟩
  | 116 => ⟨S4096x1024, .f32⟩
  | 117 => ⟨S4096x1024, .f32⟩
  | 118 => ⟨S4096x1024, .f32⟩
  | 119 => ⟨S_, .f32⟩
  | 120 => ⟨S1024, .f32⟩
  | 121 => ⟨S_, .f32⟩
  | 122 => ⟨S4096x1024, .f32⟩
  | 123 => ⟨S_, .i32⟩
  | 124 => ⟨S4096x1024, .f32⟩
  | 125 => ⟨S4096x1024, .f32⟩
  | 126 => ⟨S_, .i32⟩
  | 127 => ⟨S1024, .f32⟩
  | _ => ⟨S4x4096x1024, .f32⟩

abbrev hbmTy0_1 (i : Nat) : BufTy := match i % 128 with
  | 0 => ⟨S4096x1024, .f32⟩
  | 1 => ⟨S_, .i32⟩
  | 2 => ⟨S_, .i1⟩
  | 3 => ⟨S_, .i32⟩
  | 4 => ⟨S1x1024, .f32⟩
  | 5 => ⟨S1024, .f32⟩
  | 6 => ⟨S_, .i32⟩
  | 7 => ⟨S1x1024, .f32⟩
  | 8 => ⟨S1024, .f32⟩
  | 9 => ⟨S1024, .f32⟩
  | 10 => ⟨S1024, .f32⟩
  | 11 => ⟨S1x1024, .f32⟩
  | 12 => ⟨S_, .i32⟩
  | 13 => ⟨S4096x1024, .f32⟩
  | 14 => ⟨S_, .i32⟩
  | 15 => ⟨S_, .i32⟩
  | 16 => ⟨S1x4096x1024, .f32⟩
  | 17 => ⟨S4096x1024, .f32⟩
  | 18 => ⟨S4096x1024, .f32⟩
  | 19 => ⟨S4096x1024, .f32⟩
  | 20 => ⟨S_, .f32⟩
  | 21 => ⟨S4096x1024, .f32⟩
  | 22 => ⟨S4096x1024, .f32⟩
  | 23 => ⟨S_, .f32⟩
  | 24 => ⟨S4096x1024, .f32⟩
  | 25 => ⟨S4096x1024, .f32⟩
  | 26 => ⟨S4096x1024, .f32⟩
  | 27 => ⟨S4096x1024, .f32⟩
  | 28 => ⟨S4096x1024, .bf16⟩
  | _ => ⟨S4x4096x1024, .f32⟩

abbrev hbmTy (i : Nat) : BufTy := match i / 128 with
  | 0 => hbmTy0_0 i
  | 1 => hbmTy0_1 i
  | _ => ⟨S4x4096x1024, .f32⟩

abbrev bufTy : (tb : Table) → Fin (tcTables nBuf tb) → BufTy
  | .hbm, ⟨i, _⟩ => hbmTy i
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_1 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_2 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_cst_3 : Ref sig .tc := ⟨.hbm, 68, rfl⟩
abbrev main_v59 : Ref sig .tc := ⟨.hbm, 69, rfl⟩
abbrev main_v60 : Ref sig .tc := ⟨.hbm, 70, rfl⟩
abbrev main_cst_4 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_cst_5 : Ref sig .tc := ⟨.hbm, 82, rfl⟩
abbrev main_v71 : Ref sig .tc := ⟨.hbm, 83, rfl⟩
abbrev main_v72 : Ref sig .tc := ⟨.hbm, 84, rfl⟩
abbrev main_cst_6 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_cst_7 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_call0_cst : Ref sig .tc := ⟨.hbm, 93, rfl⟩
abbrev main_call0_v0 : Ref sig .tc := ⟨.hbm, 94, rfl⟩
abbrev main_call0_v1 : Ref sig .tc := ⟨.hbm, 95, rfl⟩
abbrev main_call0_v2 : Ref sig .tc := ⟨.hbm, 96, rfl⟩
abbrev main_call0_v3 : Ref sig .tc := ⟨.hbm, 97, rfl⟩
abbrev main_call0_v4 : Ref sig .tc := ⟨.hbm, 98, rfl⟩
abbrev main_call0_v5 : Ref sig .tc := ⟨.hbm, 99, rfl⟩
abbrev main_call0_v6 : Ref sig .tc := ⟨.hbm, 100, rfl⟩
abbrev main_call0_v7 : Ref sig .tc := ⟨.hbm, 101, rfl⟩
abbrev main_call0_v8 : Ref sig .tc := ⟨.hbm, 102, rfl⟩
abbrev main_call0_v9 : Ref sig .tc := ⟨.hbm, 103, rfl⟩
abbrev main_call0_v10 : Ref sig .tc := ⟨.hbm, 104, rfl⟩
abbrev main_call0_v11 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_cst_8 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_cst_9 : Ref sig .tc := ⟨.hbm, 119, rfl⟩
abbrev main_v91 : Ref sig .tc := ⟨.hbm, 120, rfl⟩
abbrev main_cst_10 : Ref sig .tc := ⟨.hbm, 121, rfl⟩
abbrev main_v92 : Ref sig .tc := ⟨.hbm, 122, rfl⟩
abbrev main_c : Ref sig .tc := ⟨.hbm, 123, rfl⟩
abbrev main_v93_0 : Ref sig .tc := ⟨.hbm, 124, rfl⟩
abbrev main_v93_1 : Ref sig .tc := ⟨.hbm, 125, rfl⟩
abbrev main_v93_2 : Ref sig .tc := ⟨.hbm, 126, rfl⟩
abbrev main_v93_3 : Ref sig .tc := ⟨.hbm, 127, rfl⟩
abbrev main_v93_4 : Ref sig .tc := ⟨.hbm, 128, rfl⟩
abbrev main_while0c_c_15 : Ref sig .tc := ⟨.hbm, 129, rfl⟩
abbrev main_while0c_v99 : Ref sig .tc := ⟨.hbm, 130, rfl⟩
abbrev main_while0b_call1_c : Ref sig .tc := ⟨.hbm, 131, rfl⟩
abbrev main_while0b_call1_v0 : Ref sig .tc := ⟨.hbm, 132, rfl⟩
abbrev main_while0b_v99 : Ref sig .tc := ⟨.hbm, 133, rfl⟩
abbrev main_while0b_call2_c : Ref sig .tc := ⟨.hbm, 134, rfl⟩
abbrev main_while0b_call2_v0 : Ref sig .tc := ⟨.hbm, 135, rfl⟩
abbrev main_while0b_v100 : Ref sig .tc := ⟨.hbm, 136, rfl⟩
abbrev main_while0b_v101 : Ref sig .tc := ⟨.hbm, 137, rfl⟩
abbrev main_while0b_v102 : Ref sig .tc := ⟨.hbm, 138, rfl⟩
abbrev main_while0b_call3_v0 : Ref sig .tc := ⟨.hbm, 139, rfl⟩
abbrev main_while0b_call3_c : Ref sig .tc := ⟨.hbm, 140, rfl⟩
abbrev main_while0b_v103 : Ref sig .tc := ⟨.hbm, 141, rfl⟩
abbrev main_while0b_c_15 : Ref sig .tc := ⟨.hbm, 142, rfl⟩
abbrev main_while0b_v104 : Ref sig .tc := ⟨.hbm, 143, rfl⟩
abbrev main_v94 : Ref sig .tc := ⟨.hbm, 144, rfl⟩
abbrev main_v95 : Ref sig .tc := ⟨.hbm, 145, rfl⟩
abbrev main_call4_v0 : Ref sig .tc := ⟨.hbm, 146, rfl⟩
abbrev main_call4_v1 : Ref sig .tc := ⟨.hbm, 147, rfl⟩
abbrev main_call4_cst : Ref sig .tc := ⟨.hbm, 148, rfl⟩
abbrev main_call4_v2 : Ref sig .tc := ⟨.hbm, 149, rfl⟩
abbrev main_call4_v3 : Ref sig .tc := ⟨.hbm, 150, rfl⟩
abbrev main_call4_cst_0 : Ref sig .tc := ⟨.hbm, 151, rfl⟩
abbrev main_call4_v4 : Ref sig .tc := ⟨.hbm, 152, rfl⟩
abbrev main_call4_v5 : Ref sig .tc := ⟨.hbm, 153, rfl⟩
abbrev main_v96 : Ref sig .tc := ⟨.hbm, 154, rfl⟩
abbrev main_v97 : Ref sig .tc := ⟨.hbm, 155, rfl⟩
abbrev main_v98 : Ref sig .tc := ⟨.hbm, 156, rfl⟩

abbrev nD : Nat := 1
abbrev τ : Topo := Topo.v7x

variable {F : FTy → Type} [FloatOps F]

abbrev main_while0_count : Scf.Loop 32 := ⟨0#32, 4096#32, 1#32⟩
-- ==== Kernel9.lean ====
abbrev S4x4096x1024 : Shape := ⟨3, ![4, 4096, 1024]⟩
abbrev S4096x1024 : Shape := ⟨2, ![4096, 1024]⟩
abbrev S4096x2048 : Shape := ⟨2, ![4096, 2048]⟩
abbrev S4x1024 : Shape := ⟨2, ![4, 1024]⟩
abbrev S8x1024 : Shape := ⟨2, ![8, 1024]⟩
abbrev S8x128x128 : Shape := ⟨3, ![8, 128, 128]⟩
abbrev S8x128 : Shape := ⟨2, ![8, 128]⟩
abbrev S2x8x128x128 : Shape := ⟨4, ![2, 8, 128, 128]⟩
abbrev S16x1024 : Shape := ⟨2, ![16, 1024]⟩
abbrev S2x1024x128 : Shape := ⟨3, ![2, 1024, 128]⟩
abbrev S1x16x128 : Shape := ⟨3, ![1, 16, 128]⟩
abbrev S1024x128 : Shape := ⟨2, ![1024, 128]⟩
abbrev S16x128 : Shape := ⟨2, ![16, 128]⟩
abbrev S4x128 : Shape := ⟨2, ![4, 128]⟩
abbrev S1x128x128 : Shape := ⟨3, ![1, 128, 128]⟩
abbrev S2x1x128x128 : Shape := ⟨4, ![2, 1, 128, 128]⟩
abbrev S1040x128 : Shape := ⟨2, ![1040, 128]⟩
abbrev S1x1024x128 : Shape := ⟨3, ![1, 1024, 128]⟩
abbrev S128x128 : Shape := ⟨2, ![128, 128]⟩
abbrev S1x128 : Shape := ⟨2, ![1, 128]⟩
abbrev S1016x128 : Shape := ⟨2, ![1016, 128]⟩
abbrev S1008x128 : Shape := ⟨2, ![1008, 128]⟩
abbrev S992x128 : Shape := ⟨2, ![992, 128]⟩
abbrev S32x128 : Shape := ⟨2, ![32, 128]⟩
abbrev S960x128 : Shape := ⟨2, ![960, 128]⟩
abbrev S64x128 : Shape := ⟨2, ![64, 128]⟩
abbrev S896x128 : Shape := ⟨2, ![896, 128]⟩
abbrev S768x128 : Shape := ⟨2, ![768, 128]⟩
abbrev S256x128 : Shape := ⟨2, ![256, 128]⟩
abbrev S512x128 : Shape := ⟨2, ![512, 128]⟩
abbrev S128 : Shape := ⟨1, ![128]⟩
abbrev S1x1x128x128 : Shape := ⟨4, ![1, 1, 128, 128]⟩
abbrev S1x4096x1024 : Shape := ⟨3, ![1, 4096, 1024]⟩

abbrev nBuf : Space → Nat
  | .hbm => 13
  | .vmem => 29
  | .smem => 0
  | _ => 0

abbrev bufTy : (tb : Table) → Fin (tcTables nBuf tb) → BufTy
  | .hbm, ⟨0, _⟩ => ⟨S4x4096x1024, .f32⟩
  | .hbm, ⟨1, _⟩ => ⟨S4096x1024, .f32⟩
  | .hbm, ⟨2, _⟩ => ⟨S4096x2048, .f32⟩
  | .hbm, ⟨3, _⟩ => ⟨S4x1024, .f32⟩
  | .hbm, ⟨4, _⟩ => ⟨S8x1024, .f32⟩
  | .hbm, ⟨5, _⟩ => ⟨S8x128x128, .bf16⟩
  | .hbm, ⟨6, _⟩ => ⟨S8x128x128, .bf16⟩
  | .hbm, ⟨7, _⟩ => ⟨S8x128, .f32⟩
  | .hbm, ⟨8, _⟩ => ⟨S4x4096x1024, .bf16⟩
  | .hbm, ⟨9, _⟩ => ⟨S2x8x128x128, .bf16⟩
  | .hbm, ⟨10, _⟩ => ⟨S16x1024, .f32⟩
  | .hbm, ⟨11, _⟩ => ⟨S1x4096x1024, .bf16⟩
  | .hbm, ⟨12, _⟩ => ⟨S4096x1024, .bf16⟩
  | .local _ .vmem, ⟨0, _⟩ => ⟨S2x1024x128, .f32⟩
  | .local _ .vmem, ⟨1, _⟩ => ⟨S2x1024x128, .f32⟩
  | .local _ .vmem, ⟨2, _⟩ => ⟨S1x16x128, .f32⟩
  | .local _ .vmem, ⟨3, _⟩ => ⟨S1x16x128, .f32⟩
  | .local _ .vmem, ⟨4, _⟩ => ⟨S1024x128, .f32⟩
  | .local _ .vmem, ⟨5, _⟩ => ⟨S1024x128, .f32⟩
  | .local _ .vmem, ⟨6, _⟩ => ⟨S16x128, .f32⟩
  | .local _ .vmem, ⟨7, _⟩ => ⟨S16x128, .f32⟩
  | .local _ .vmem, ⟨8, _⟩ => ⟨S1024x128, .f32⟩
  | .local _ .vmem, ⟨9, _⟩ => ⟨S1024x128, .f32⟩
  | .local _ .vmem, ⟨10, _⟩ => ⟨S4x128, .f32⟩
  | .local _ .vmem, ⟨11, _⟩ => ⟨S4x128, .f32⟩
  | .local _ .vmem, ⟨12, _⟩ => ⟨S8x128, .f32⟩
  | .local _ .vmem, ⟨13, _⟩ => ⟨S8x128, .f32⟩
  | .local _ .vmem, ⟨14, _⟩ => ⟨S1x128x128, .bf16⟩
  | .local _ .vmem, ⟨15, _⟩ => ⟨S1x128x128, .bf16⟩
  | .local _ .vmem, ⟨16, _⟩ => ⟨S1x128x128, .bf16⟩
  | .local _ .vmem, ⟨17, _⟩ => ⟨S1x128x128, .bf16⟩
  | .local _ .vmem, ⟨18, _⟩ => ⟨S2x1024x128, .bf16⟩
  | .local _ .vmem, ⟨19, _⟩ => ⟨S2x1024x128, .bf16⟩
  | .local _ .vmem, ⟨20, _⟩ => ⟨S2x1x128x128, .bf16⟩
  | .local _ .vmem, ⟨21, _⟩ => ⟨S2x1x128x128, .bf16⟩
  | .local _ .vmem, ⟨22, _⟩ => ⟨S16x128, .f32⟩
  | .local _ .vmem, ⟨23, _⟩ => ⟨S16x128, .f32⟩
  | .local _ .vmem, ⟨24, _⟩ => ⟨S1040x128, .f32⟩
  | .local _ .vmem, ⟨25, _⟩ => ⟨S1040x128, .f32⟩
  | .local _ .vmem, ⟨26, _⟩ => ⟨S1040x128, .f32⟩
  | .local _ .vmem, ⟨27, _⟩ => ⟨S8x128, .f32⟩
  | .local _ .vmem, ⟨28, _⟩ => ⟨S2x1x128x128, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v1 : Ref sig .tc := ⟨.hbm, 11, rfl⟩
abbrev main_v2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_scratch0 : Ref sig .tc := ⟨.vmem, 24, rfl⟩
abbrev cc0_scratch1 : Ref sig .tc := ⟨.vmem, 25, rfl⟩
abbrev cc0_scratch2 : Ref sig .tc := ⟨.vmem, 26, rfl⟩
abbrev cc0_scratch3 : Ref sig .tc := ⟨.vmem, 27, rfl⟩
abbrev cc0_scratch4 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v0 : BitVec 1 := Scalar.cmpi .eq arg1 c3_i32
  let v401 : BitVec 32 := Scalar.extui v0
  let c0_i32_210 : BitVec 32 := 0#32
  let v402 : BitVec 1 := Scalar.cmpi .ne v401 c0_i32_210
  v402

def cc0_transform_0 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.subi c3_i32 arg1
  let c0_i32 : BitVec 32 := 0#32
  let c0_i32_0 : BitVec 32 := 0#32
  ![c0_i32.toNat, v0.toNat, arg0.toNat]

def cc0_transform_1 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.subi c3_i32 arg1
  let c64_i32 : BitVec 32 := 64#32
  let v1 : BitVec 32 := Scalar.muli v0 c64_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  ![c0_i32_0.toNat, v3.toNat, arg0.toNat]

def cc0_transform_2 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.subi c3_i32 arg1
  let c0_i32 : BitVec 32 := 0#32
  ![v0.toNat, arg0.toNat]

def cc0_transform_3 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.subi c3_i32 arg1
  let c64_i32 : BitVec 32 := 64#32
  let v1 : BitVec 32 := Scalar.muli v0 c64_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  ![v3.toNat, arg0.toNat]

def cc0_transform_4 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.subi c3_i32 arg1
  let c0_i32 : BitVec 32 := 0#32
  ![v0.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.subi c3_i32 arg1
  let c0_i32 : BitVec 32 := 0#32
  let c0_i32_0 : BitVec 32 := 0#32
  ![c0_i32.toNat, v0.toNat, arg0.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2x1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S16x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S4x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S8x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x128x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x128x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S2x1024x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S2x1x128x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S16x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== Reference9Ideal.lean ====
abbrev S4x4096x1024 : Shape := ⟨3, ![4, 4096, 1024]⟩
abbrev S4096x1024 : Shape := ⟨2, ![4096, 1024]⟩
abbrev S4096x2048 : Shape := ⟨2, ![4096, 2048]⟩
abbrev S4x1024 : Shape := ⟨2, ![4, 1024]⟩
abbrev S8x1024 : Shape := ⟨2, ![8, 1024]⟩
abbrev S8x128x128 : Shape := ⟨3, ![8, 128, 128]⟩
abbrev S8x128 : Shape := ⟨2, ![8, 128]⟩
abbrev S1x4096x1024 : Shape := ⟨3, ![1, 4096, 1024]⟩
abbrev S_ : Shape := ⟨0, ![]⟩

abbrev nBuf : Space → Nat
  | .hbm => 31
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4096x1024, .f32⟩
  | .hbm, ⟨2, _⟩ => ⟨S4096x2048, .f32⟩
  | .hbm, ⟨3, _⟩ => ⟨S4x1024, .f32⟩
  | .hbm, ⟨4, _⟩ => ⟨S8x1024, .f32⟩
  | .hbm, ⟨5, _⟩ => ⟨S8x128x128, .bf16⟩
  | .hbm, ⟨6, _⟩ => ⟨S8x128x128, .bf16⟩
  | .hbm, ⟨7, _⟩ => ⟨S8x128, .f32⟩
  | .hbm, ⟨8, _⟩ => ⟨S1x4096x1024, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S_, .f32⟩
  | .hbm, ⟨13, _⟩ => ⟨S4096x1024, .f32⟩
  | .hbm, ⟨14, _⟩ => ⟨S4096x1024, .f32⟩
  | .hbm, ⟨15, _⟩ => ⟨S_, .f32⟩
  | .hbm, ⟨16, _⟩ => ⟨S4096x1024, .f32⟩
  | .hbm, ⟨17, _⟩ => ⟨S4096x1024, .f32⟩
  | .hbm, ⟨18, _⟩ => ⟨S_, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .bf16⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_v2_2 : Ref sig .tc := ⟨.hbm, 17, rfl⟩
abbrev main_call0_cst_1 : Ref sig .tc := ⟨.hbm, 18, rfl⟩
abbrev main_call0_v6 : Ref sig .tc := ⟨.hbm, 19, rfl⟩
abbrev main_call0_v7 : Ref sig .tc := ⟨.hbm, 20, rfl⟩
abbrev main_v2_1 : Ref sig .tc := ⟨.hbm, 21, rfl⟩
abbrev main_v2_0 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_v6 : Ref sig .tc := ⟨.hbm, 29, rfl⟩
abbrev main_v7 : Ref sig .tc := ⟨.hbm, 30, rfl⟩

abbrev nD : Nat := 1
abbrev τ : Topo := Topo.v7x

variable {F : FTy → Type} [FloatOps F]
-- ==== Kernel10.lean ====
abbrev S4096x2048 : Shape := ⟨2, ![4096, 2048]⟩
abbrev S4x512x1024 : Shape := ⟨3, ![4, 512, 1024]⟩
abbrev S4096x1024 : Shape := ⟨2, ![4096, 1024]⟩
abbrev S8x1024 : Shape := ⟨2, ![8, 1024]⟩
abbrev S8x128 : Shape := ⟨2, ![8, 128]⟩
abbrev S512x2048 : Shape := ⟨2, ![512, 2048]⟩
abbrev S512x1024 : Shape := ⟨2, ![512, 1024]⟩
abbrev S512x512 : Shape := ⟨2, ![512, 512]⟩
abbrev S1x512x1024 : Shape := ⟨3, ![1, 512, 1024]⟩
abbrev S512 : Shape := ⟨1, ![512]⟩
abbrev S512x1 : Shape := ⟨2, ![512, 1]⟩
abbrev S1x1024 : Shape := ⟨2, ![1, 1024]⟩
abbrev S1 : Shape := ⟨1, ![1]⟩
abbrev S1x1x1 : Shape := ⟨3, ![1, 1, 1]⟩

abbrev nBuf : Space → Nat
  | .hbm => 8
  | .vmem => 13
  | .smem => 0
  | _ => 0

abbrev bufTy : (tb : Table) → Fin (tcTables nBuf tb) → BufTy
  | .hbm, ⟨0, _⟩ => ⟨S4096x2048, .bf16⟩
  | .hbm, ⟨1, _⟩ => ⟨S4x512x1024, .bf16⟩
  | .hbm, ⟨2, _⟩ => ⟨S4096x1024, .f32⟩
  | .hbm, ⟨3, _⟩ => ⟨S8x1024, .f32⟩
  | .hbm, ⟨4, _⟩ => ⟨S4096x1024, .f32⟩
  | .hbm, ⟨5, _⟩ => ⟨S4096x1024, .bf16⟩
  | .hbm, ⟨6, _⟩ => ⟨S4096x1024, .f32⟩
  | .hbm, ⟨7, _⟩ => ⟨S8x128, .f32⟩
  | .local _ .vmem, ⟨0, _⟩ => ⟨S512x2048, .bf16⟩
  | .local _ .vmem, ⟨1, _⟩ => ⟨S512x2048, .bf16⟩
  | .local _ .vmem, ⟨2, _⟩ => ⟨S4x512x1024, .bf16⟩
  | .local _ .vmem, ⟨3, _⟩ => ⟨S512x1024, .f32⟩
  | .local _ .vmem, ⟨4, _⟩ => ⟨S512x1024, .f32⟩
  | .local _ .vmem, ⟨5, _⟩ => ⟨S8x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | .local _ .vmem, ⟨10, _⟩ => ⟨S512x1024, .f32⟩
  | .local _ .vmem, ⟨11, _⟩ => ⟨S512x1024, .f32⟩
  | .local _ .vmem, ⟨12, _⟩ => ⟨S8x128, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference10Ideal.lean ====
abbrev S4096x2048 : Shape := ⟨2, ![4096, 2048]⟩
abbrev S4x512x1024 : Shape := ⟨3, ![4, 512, 1024]⟩
abbrev S4096x1024 : Shape := ⟨2, ![4096, 1024]⟩
abbrev S8x1024 : Shape := ⟨2, ![8, 1024]⟩
abbrev S2048x1024 : Shape := ⟨2, ![2048, 1024]⟩
abbrev S1x1024 : Shape := ⟨2, ![1, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S8x128 : Shape := ⟨2, ![8, 128]⟩

abbrev nBuf : Space → Nat
  | .hbm => 64
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4x512x1024, .bf16⟩
  | .hbm, ⟨2, _⟩ => ⟨S4096x1024, .f32⟩
  | .hbm, ⟨3, _⟩ => ⟨S8x1024, .f32⟩
  | .hbm, ⟨4, _⟩ => ⟨S4096x1024, .f32⟩
  | .hbm, ⟨5, _⟩ => ⟨S2048x1024, .bf16⟩
  | .hbm, ⟨6, _⟩ => ⟨S2048x1024, .f32⟩
  | .hbm, ⟨7, _⟩ => ⟨S4096x2048, .f32⟩
  | .hbm, ⟨8, _⟩ => ⟨S4096x1024, .f32⟩
  | .hbm, ⟨9, _⟩ => ⟨S4096x1024, .bf16⟩
  | .hbm, ⟨10, _⟩ => ⟨S4096x2048, .f32⟩
  | .hbm, ⟨11, _⟩ => ⟨S1x1024, .f32⟩
  | .hbm, ⟨12, _⟩ => ⟨S1024, .f32⟩
  | .hbm, ⟨13, _⟩ => ⟨S1x1024, .f32⟩
  | .hbm, ⟨14, _⟩ => ⟨S1024, .f32⟩
  | .hbm, ⟨15, _⟩ => ⟨S4096x1024, .f32⟩
  | .hbm, ⟨16, _⟩ => ⟨S4096x1024, .f32⟩
  | .hbm, ⟨17, _⟩ => ⟨S_, .f32⟩
  | .hbm, ⟨18, _⟩ => ⟨S4096, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S_, .f32⟩
  | .hbm, ⟨24, _⟩ => ⟨S4096x1, .f32⟩
  | .hbm, ⟨25, _⟩ => ⟨S4096x1, .f32⟩
  | .hbm, ⟨26, _⟩ => ⟨S4096x1, .f32⟩
  | .hbm, ⟨27, _⟩ => ⟨S4096x1024, .f32⟩
  | .hbm, ⟨28, _⟩ => ⟨S4096x1024, .f32⟩
  | .hbm, ⟨29, _⟩ => ⟨S1x1024, .f32⟩
  | .hbm, ⟨30, _⟩ => ⟨S4096x1024, .f32⟩
  | .hbm, ⟨31, _⟩ => ⟨S4096x1024, .f32⟩
  | .hbm, ⟨32, _⟩ => ⟨S1x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S_, .f32⟩
  | .hbm, ⟨39, _⟩ => ⟨S_, .f32⟩
  | .hbm, ⟨40, _⟩ => ⟨S4096x1024, .f32⟩
  | .hbm, ⟨41, _⟩ => ⟨S4096x1024, .f32⟩
  | .hbm, ⟨42, _⟩ => ⟨S_, .f32⟩
  | .hbm, ⟨43, _⟩ => ⟨S4096x1024, .f32⟩
  | .hbm, ⟨44, _⟩ => ⟨S4096x1024, .f32⟩
  | .hbm, ⟨45, _⟩ => ⟨S_, .f32⟩
  | .hbm, ⟨46, _⟩ => ⟨S4096, .f32⟩
  | .hbm, ⟨47, _⟩ => ⟨S_, .f32⟩
  | .hbm, ⟨48, _⟩ => ⟨S4096, .f32⟩
  | .hbm, ⟨49, _⟩ => ⟨S4096, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S4096, .f32⟩
  | .hbm, ⟨58, _⟩ => ⟨S_, .f32⟩
  | .hbm, ⟨59, _⟩ => ⟨S4096, .f32⟩
  | .hbm, ⟨60, _⟩ => ⟨S4096, .f32⟩
  | .hbm, ⟨61, _⟩ => ⟨S4096x1024, .f32⟩
  | .hbm, ⟨62, _⟩ => ⟨S4096x1024, .f32⟩
  | .hbm, ⟨63, _⟩ => ⟨S8x128, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_v12 : Ref sig .tc := ⟨.hbm, 18, rfl⟩
abbrev main_v13 : Ref sig .tc := ⟨.hbm, 19, rfl⟩
abbrev main_cst_0 : Ref sig .tc := ⟨.hbm, 20, rfl⟩
abbrev main_v14 : Ref sig .tc := ⟨.hbm, 21, rfl⟩
abbrev main_v15 : Ref sig .tc := ⟨.hbm, 22, rfl⟩
abbrev main_cst_1 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_cst_2 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_cst_3 : Ref sig .tc := ⟨.hbm, 42, rfl⟩
abbrev main_v33 : Ref sig .tc := ⟨.hbm, 43, rfl⟩
abbrev main_v34 : Ref sig .tc := ⟨.hbm, 44, rfl⟩
abbrev main_cst_4 : Ref sig .tc := ⟨.hbm, 45, rfl⟩
abbrev main_v35 : Ref sig .tc := ⟨.hbm, 46, rfl⟩
abbrev main_cst_5 : Ref sig .tc := ⟨.hbm, 47, rfl⟩
abbrev main_v36 : Ref sig .tc := ⟨.hbm, 48, rfl⟩
abbrev main_v37 : Ref sig .tc := ⟨.hbm, 49, rfl⟩
abbrev main_cst_6 : Ref sig .tc := ⟨.hbm, 50, rfl⟩
abbrev main_v38 : Ref sig .tc := ⟨.hbm, 51, rfl⟩
abbrev main_cst_7 : Ref sig .tc := ⟨.hbm, 52, rfl⟩
abbrev main_v39 : Ref sig .tc := ⟨.hbm, 53, rfl⟩
abbrev main_cst_8 : Ref sig .tc := ⟨.hbm, 54, rfl⟩
abbrev main_cst_9 : Ref sig .tc := ⟨.hbm, 55, rfl⟩
abbrev main_v40 : Ref sig .tc := ⟨.hbm, 56, rfl⟩
abbrev main_v41 : Ref sig .tc := ⟨.hbm, 57, rfl⟩
abbrev main_cst_10 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩

abbrev nD : Nat := 1
abbrev τ : Topo := Topo.v7x

variable {F : FTy → Type} [FloatOps F]
-- ==== Kernel11.lean ====
abbrev S2x1024x1024 : Shape := ⟨3, ![2, 1024, 1024]⟩
abbrev S1024x1024 : Shape := ⟨2, ![1024, 1024]⟩
abbrev S2048x1024 : Shape := ⟨2, ![2048, 1024]⟩
abbrev S512x1024 : Shape := ⟨2, ![512, 1024]⟩

abbrev nBuf : Space → Nat
  | .hbm => 16
  | .vmem => 18
  | .smem => 0
  | _ => 0

abbrev bufTy : (tb : Table) → Fin (tcTables nBuf tb) → BufTy
  | .hbm, ⟨0, _⟩ => ⟨S2x1024x1024, .f32⟩
  | .hbm, ⟨1, _⟩ => ⟨S2x1024x1024, .f32⟩
  | .hbm, ⟨2, _⟩ => ⟨S2x1024x1024, .f32⟩
  | .hbm, ⟨3, _⟩ => ⟨S1024x1024, .bf16⟩
  | .hbm, ⟨4, _⟩ => ⟨S1024x1024, .bf16⟩
  | .hbm, ⟨5, _⟩ => ⟨S2048x1024, .f32⟩
  | .hbm, ⟨6, _⟩ => ⟨S2048x1024, .f32⟩
  | .hbm, ⟨7, _⟩ => ⟨S2048x1024, .f32⟩
  | .hbm, ⟨8, _⟩ => ⟨S2048x1024, .f32⟩
  | .hbm, ⟨9, _⟩ => ⟨S2048x1024, .f32⟩
  | .hbm, ⟨10, _⟩ => ⟨S2048x1024, .f32⟩
  | .hbm, ⟨11, _⟩ => ⟨S2048x1024, .f32⟩
  | .hbm, ⟨12, _⟩ => ⟨S2048x1024, .f32⟩
  | .hbm, ⟨13, _⟩ => ⟨S2048x1024, .f32⟩
  | .hbm, ⟨14, _⟩ => ⟨S2048x1024, .f32⟩
  | .hbm, ⟨15, _⟩ => ⟨S2048x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | .local _ .vmem, ⟨17, _⟩ => ⟨S512x1024, .f32⟩
  | _, _ => ⟨S2x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3_0 : Ref sig .tc := ⟨.hbm, 12, rfl⟩
abbrev main_v3_1 : Ref sig .tc := ⟨.hbm, 13, rfl⟩
abbrev main_v3_2 : Ref sig .tc := ⟨.hbm, 14, rfl⟩
abbrev main_v3_3 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_9 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_10 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_11 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_12 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference11Ideal.lean ====
abbrev S2x1024x1024 : Shape := ⟨3, ![2, 1024, 1024]⟩
abbrev S1024x1024 : Shape := ⟨2, ![1024, 1024]⟩
abbrev S2048x1024 : Shape := ⟨2, ![2048, 1024]⟩
abbrev S1x1024x1024 : Shape := ⟨3, ![1, 1024, 1024]⟩
abbrev S_ : Shape := ⟨0, ![]⟩

abbrev nBuf : Space → Nat
  | .hbm => 59
  | .vmem => 0
  | .smem => 0
  | _ => 0

abbrev bufTy : (tb : Table) → Fin (tcTables nBuf tb) → BufTy
  | .hbm, ⟨0, _⟩ => ⟨S2x1024x1024, .f32⟩
  | .hbm, ⟨1, _⟩ => ⟨S2x1024x1024, .f32⟩
  | .hbm, ⟨2, _⟩ => ⟨S2x1024x1024, .f32⟩
  | .hbm, ⟨3, _⟩ => ⟨S1024x1024, .bf16⟩
  | .hbm, ⟨4, _⟩ => ⟨S1024x1024, .bf16⟩
  | .hbm, ⟨5, _⟩ => ⟨S2048x1024, .f32⟩
  | .hbm, ⟨6, _⟩ => ⟨S2048x1024, .f32⟩
  | .hbm, ⟨7, _⟩ => ⟨S2048x1024, .f32⟩
  | .hbm, ⟨8, _⟩ => ⟨S2048x1024, .f32⟩
  | .hbm, ⟨9, _⟩ => ⟨S1024x1024, .f32⟩
  | .hbm, ⟨10, _⟩ => ⟨S1024x1024, .f32⟩
  | .hbm, ⟨11, _⟩ => ⟨S1024x1024, .f32⟩
  | .hbm, ⟨12, _⟩ => ⟨S1x1024x1024, .f32⟩
  | .hbm, ⟨13, _⟩ => ⟨S1024x1024, .f32⟩
  | .hbm, ⟨14, _⟩ => ⟨S1x1024x1024, .f32⟩
  | .hbm, ⟨15, _⟩ => ⟨S1024x1024, .f32⟩
  | .hbm, ⟨16, _⟩ => ⟨S1x1024x1024, .f32⟩
  | .hbm, ⟨17, _⟩ => ⟨S1024x1024, .f32⟩
  | .hbm, ⟨18, _⟩ => ⟨S_, .f32⟩
  | .hbm, ⟨19, _⟩ => ⟨S1024x1024, .f32⟩
  | .hbm, ⟨20, _⟩ => ⟨S1024x1024, .f32⟩
  | .hbm, ⟨21, _⟩ => ⟨S_, .f32⟩
  | .hbm, ⟨22, _⟩ => ⟨S1024x1024, .f32⟩
  | .hbm, ⟨23, _⟩ => ⟨S1024x1024, .f32⟩
  | .hbm, ⟨24, _⟩ => ⟨S1024x1024, .f32⟩
  | .hbm, ⟨25, _⟩ => ⟨S_, .f32⟩
  | .hbm, ⟨26, _⟩ => ⟨S1024x1024, .f32⟩
  | .hbm, ⟨27, _⟩ => ⟨S1024x1024, .f32⟩
  | .hbm, ⟨28, _⟩ => ⟨S1024x1024, .f32⟩
  | .hbm, ⟨29, _⟩ => ⟨S_, .f32⟩
  | .hbm, ⟨30, _⟩ => ⟨S1024x1024, .f32⟩
  | .hbm, ⟨31, _⟩ => ⟨S1024x1024, .f32⟩
  | .hbm, ⟨32, _⟩ => ⟨S1024x1024, .f32⟩
  | .hbm, ⟨33, _⟩ => ⟨S_, .f32⟩
  | .hbm, ⟨34, _⟩ => ⟨S1024x1024, .f32⟩
  | .hbm, ⟨35, _⟩ => ⟨S1024x1024, .f32⟩
  | .hbm, ⟨36, _⟩ => ⟨S_, .f32⟩
  | .hbm, ⟨37, _⟩ => ⟨S1024x1024, .f32⟩
  | .hbm, ⟨38, _⟩ => ⟨S1024x1024, .f32⟩
  | .hbm, ⟨39, _⟩ => ⟨S1024x1024, .f32⟩
  | .hbm, ⟨40, _⟩ => ⟨S_, .f32⟩
  | .hbm, ⟨41, _⟩ => ⟨S1024x1024, .f32⟩
  | .hbm, ⟨42, _⟩ => ⟨S1024x1024, .f32⟩
  | .hbm, ⟨43, _⟩ => ⟨S1024x1024, .f32⟩
  | .hbm, ⟨44, _⟩ => ⟨S_, .f32⟩
  | .hbm, ⟨45, _⟩ => ⟨S1024x1024, .f32⟩
  | .hbm, ⟨46, _⟩ => ⟨S1024x1024, .f32⟩
  | .hbm, ⟨47, _⟩ => ⟨S1024x1024, .f32⟩
  | .hbm, ⟨48, _⟩ => ⟨S_, .f32⟩
  | .hbm, ⟨49, _⟩ => ⟨S1024x1024, .f32⟩
  | .hbm, ⟨50, _⟩ => ⟨S1024x1024, .f32⟩
  | .hbm, ⟨51, _⟩ => ⟨S1024x1024, .f32⟩
  | .hbm, ⟨52, _⟩ => ⟨S2048x1024, .f32⟩
  | .hbm, ⟨53, _⟩ => ⟨S1024x1024, .f32⟩
  | .hbm, ⟨54, _⟩ => ⟨S2048x1024, .f32⟩
  | .hbm, ⟨55, _⟩ => ⟨S1024x1024, .f32⟩
  | .hbm, ⟨56, _⟩ => ⟨S2048x1024, .f32⟩
  | .hbm, ⟨57, _⟩ => ⟨S1024x1024, .f32⟩
  | .hbm, ⟨58, _⟩ => ⟨S2048x1024, .f32⟩
  | _, _ => ⟨S2x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst : Ref sig .tc := ⟨.hbm, 18, rfl⟩
abbrev main_v9 : Ref sig .tc := ⟨.hbm, 19, rfl⟩
abbrev main_v10 : Ref sig .tc := ⟨.hbm, 20, rfl⟩
abbrev main_cst_0 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_2 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_3 : Ref sig .tc := ⟨.hbm, 33, rfl⟩
abbrev main_v20 : Ref sig .tc := ⟨.hbm, 34, rfl⟩
abbrev main_v21 : Ref sig .tc := ⟨.hbm, 35, rfl⟩
abbrev main_cst_4 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_6 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_7 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩

abbrev nD : Nat := 1
abbrev τ : Topo := Topo.v7x

variable {F : FTy → Type} [FloatOps F]
-- ==== Kernel12.lean ====
abbrev S8x48x1024 : Shape := ⟨3, ![8, 48, 1024]⟩
abbrev S48x1024 : Shape := ⟨2, ![48, 1024]⟩
abbrev S1x48x1024 : Shape := ⟨3, ![1, 48, 1024]⟩

abbrev nBuf : Space → Nat
  | .hbm => 2
  | .vmem => 2
  | .smem => 0
  | _ => 0

abbrev bufTy : (tb : Table) → Fin (tcTables nBuf tb) → BufTy
  | .hbm, ⟨0, _⟩ => ⟨S8x48x1024, .f32⟩
  | .hbm, ⟨1, _⟩ => ⟨S48x1024, .f32⟩
  | .local _ .vmem, ⟨0, _⟩ => ⟨S8x48x1024, .f32⟩
  | .local _ .vmem, ⟨1, _⟩ => ⟨S48x1024, .f32⟩
  | _, _ => ⟨S8x48x1024, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x48x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S48x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== Reference12Ideal.lean ====
abbrev S8x48x1024 : Shape := ⟨3, ![8, 48, 1024]⟩
abbrev S_ : Shape := ⟨0, ![]⟩
abbrev S48x1024 : Shape := ⟨2, ![48, 1024]⟩

abbrev nBuf : Space → Nat
  | .hbm => 3
  | .vmem => 0
  | .smem => 0
  | _ => 0

abbrev bufTy : (tb : Table) → Fin (tcTables nBuf tb) → BufTy
  | .hbm, ⟨0, _⟩ => ⟨S8x48x1024, .f32⟩
  | .hbm, ⟨1, _⟩ => ⟨S_, .f32⟩
  | .hbm, ⟨2, _⟩ => ⟨S48x1024, .f32⟩
  | _, _ => ⟨S8x48x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.PoolSpec.lean ====
module

public import proofs.«01_k».proof.Proof.Gen.KernelIdeal.Skeleton
public import Idealize.ShloMosaic.Lib.Pointwise
public import Idealize.ShloMosaic.Lib.Pointwise.Tactic

/-!
# The gradient of the pooled branch, on time steps and lanes

Everything the two programs compute is written here as a function of natural numbers: a time step `t`, a group `g` of
256 lanes and a lane `c` inside the group. Group `g` averages a window of `2 ^ (g + 1)` steps.
-/

@[expose] public section

set_option maxRecDepth 16384

noncomputable section

namespace Cert.Pool

open Idealize.ShloMosaic
open scoped BigOperators

/-- What the gradient reads: the pooled branch's input `X`, its gate `G`, the incoming gradient `D` (all by step and
    lane), the four mixing matrices `W`, the bias `B` and the scale `Sc`. -/
structure Data where
  X : ℕ → ℕ → EReal
  G : ℕ → ℕ → EReal
  D : ℕ → ℕ → EReal
  W : ℕ → ℕ → ℕ → EReal
  B : ℕ → EReal
  Sc : ℕ → EReal

/-- `f` at `k` steps before `t`, zero before the beginning. -/
def back (f : ℕ → EReal) (t k : ℕ) : EReal := if k ≤ t then f (t - k) else 0

/-- The sum of the last `w` steps up to `t`. -/
def wsum (f : ℕ → EReal) (w t : ℕ) : EReal := ∑ k ∈ Finset.range w, back f t k

/-- One over the number of steps the window of `w` steps holds at `t`. -/
def inv (w t : ℕ) : EReal := Ideal.div 1 (((min (t + 1) w : ℕ) : ℝ) : EReal)

/-- The logistic function, spelt out. -/
def sgm (x : EReal) : EReal := Ideal.div 1 (1 + Ideal.exp (0 - x))

namespace Data

variable (d : Data)

/-- The window's mean less the step itself. -/
def pooled (g t c : ℕ) : EReal :=
  wsum (fun s => d.X s (256 * g + c)) (2 ^ (g + 1)) t * inv (2 ^ (g + 1)) t - d.X t (256 * g + c)

/-- The mixed and biased mean. -/
def z (g t c : ℕ) : EReal := (∑ j : Fin 256, d.pooled g t j * d.W g j c) + d.B (256 * g + c)

/-- The gradient at the gated mean. -/
def dyp (g t c : ℕ) : EReal := d.D t (256 * g + c) * (d.G t (256 * g + c) * sgm (d.G t (256 * g + c)))

/-- The gradient of the gate. -/
def dgate (g t c : ℕ) : EReal :=
  d.D t (256 * g + c) * (d.z g t c * d.Sc (256 * g + c)) *
    (sgm (d.G t (256 * g + c)) * (1 + d.G t (256 * g + c) * (1 - sgm (d.G t (256 * g + c)))))

/-- The gradient of the mixed mean. -/
def dz (g t c : ℕ) : EReal := d.dyp g t c * d.Sc (256 * g + c)

/-- The gradient of the mean. -/
def dpl (g t c : ℕ) : EReal := ∑ j : Fin 256, d.dz g t j * d.W g c j

/-- The gradient of the window's sum. -/
def q (g t c : ℕ) : EReal := d.dpl g t c * inv (2 ^ (g + 1)) t

/-- The gradient of the branch's input. -/
def dx (g t c : ℕ) : EReal :=
  (∑ k ∈ Finset.range (2 ^ (g + 1)), d.q g (t + k) c) - d.dpl g t c

/-- The gradient of the mixing matrices, over the steps from `s` on. -/
def dW (g i j s : ℕ) : EReal := ∑ t ∈ Finset.Ico s 4096, d.pooled g t i * d.dz g t j

/-- The gradient of the bias, over the steps from `s` on. -/
def dB (g c s : ℕ) : EReal := ∑ t ∈ Finset.Ico s 4096, d.dz g t c

/-- The gradient of the scale, over the steps from `s` on. -/
def dSc (g c s : ℕ) : EReal := ∑ t ∈ Finset.Ico s 4096, d.dyp g t c * d.z g t c

/-- The input with sixteen rows of history before tile `T` (zero before the beginning). -/
def xb (T k l : ℕ) : EReal := if 16 ≤ 512 * T + k then d.X (512 * T + k - 16) l else 0

end Data

/-- A matrix reads as a function of row and column. -/
def M2 {n m : ℕ} (f : (⟨2, ![n, m]⟩ : Shape).Idx → EReal) (F : ℕ → ℕ → EReal) : Prop :=
  ∀ (r : Fin n) (c : Fin m), f (ix2 r c) = F r.val c.val

/-- A stack of matrices reads as a function of three coordinates. -/
def M3 {k n m : ℕ} (f : (⟨3, ![k, n, m]⟩ : Shape).Idx → EReal) (F : ℕ → ℕ → ℕ → EReal) : Prop :=
  ∀ (a : Fin k) (r : Fin n) (c : Fin m), f (ix3 a r c) = F a.val r.val c.val

/-- A sum over the steps from tile `T` on is tile `T`'s 512 steps added to the sum from the next tile on. -/
theorem sum_tile (f : ℕ → EReal) {T : ℕ} (hT : T < 8) :
    (∑ t ∈ Finset.Ico (512 * (T + 1)) 4096, f t) + ∑ r : Fin 512, f (512 * T + r.val)
      = ∑ t ∈ Finset.Ico (512 * T) 4096, f t := by
  rw [Fin.sum_univ_eq_sum_range (fun r => f (512 * T + r)) 512, add_comm]
  have h := Finset.sum_Ico_consecutive f (show 512 * T ≤ 512 * (T + 1) by omega) (show 512 * (T + 1) ≤ 4096 by omega)
  rw [← h, Finset.sum_Ico_eq_sum_range f (512 * T) (512 * (T + 1))]
  rw [show 512 * (T + 1) - 512 * T = 512 by omega]

theorem toInt_ofNat {a : ℕ} (h : a < 2 ^ 31) : (BitVec.ofNat 32 a).toInt = (a : ℤ) := by
  rw [BitVec.toInt_ofNat', Int.bmod_def]; omega

/-- The count of steps a window holds, computed on 32-bit integers. -/
theorem count_eq {v : BitVec 32} {T r w : ℕ} (hv : v = BitVec.ofNat 32 T) (hT : T < 8) (hr : r < 512) (hw : w < 64) :
    FloatOps.sitofp (F := Ideal) FTy.f32 (IntOp.minsi (IntOp.addi (IntOp.addi (Scalar.muli v 512#32) (BitVec.ofNat 32 r)) 1#32)
      (BitVec.ofNat 32 w)) = ((((min (512 * T + r + 1) w : ℕ) : ℝ)) : EReal) := by
  subst hv
  have e : IntOp.addi (IntOp.addi (Scalar.muli (BitVec.ofNat 32 T) 512#32) (BitVec.ofNat 32 r)) 1#32
      = BitVec.ofNat 32 (512 * T + r + 1) := by
    apply BitVec.eq_of_toNat_eq
    simp only [IntOp.addi, Scalar.muli, IntOp.muli, BitVec.toNat_add, BitVec.toNat_mul, BitVec.toNat_ofNat]
    omega
  have m : IntOp.minsi (BitVec.ofNat 32 (512 * T + r + 1)) (BitVec.ofNat 32 w) = BitVec.ofNat 32 (min (512 * T + r + 1) w) := by
    unfold IntOp.minsi
    rw [BitVec.slt, toInt_ofNat (show 512 * T + r + 1 < 2 ^ 31 by omega), toInt_ofNat (show w < 2 ^ 31 by omega)]
    rcases le_total (512 * T + r + 1) w with h | h
    · by_cases h' : 512 * T + r + 1 < w
      · rw [min_eq_left h, if_pos (by simpa using (by exact_mod_cast h'))]
      · have : 512 * T + r + 1 = w := by omega
        simp [this]
    · have : ¬ (512 * T + r + 1 < w) := by omega
      rw [min_eq_right h, if_neg (by simpa using (by exact_mod_cast h))]
  rw [e, m]
  show ((((BitVec.ofNat 32 (min (512 * T + r + 1) w)).toInt : ℤ) : ℝ) : EReal) = _
  rw [toInt_ofNat (by omega)]
  norm_cast

end Cert.Pool
-- ==== Proof.PoolPay.lean ====
module

public import proofs.«01_k».proof.Proof.PoolSpec

/-!
# What each step of the kernel's body leaves in a tile

The body's intermediate matrices, one lemma each: read at a row and a lane, they are the specification's functions at
the row's time step `512 * T + r`, where `T` is the tile the grid point works on. The windows of 2, 4, 8 and 16 steps are built by
doubling, each doubling adding a rotated copy; no rotation wraps where the result is read.
-/

@[expose] public section

set_option maxRecDepth 16384

noncomputable section

namespace Cert.Pool

open Cert.KernelIdeal Cert.KernelIdeal.Gen Idealize.ShloMosaic Idealize.ShloMosaic.TcCoe Idealize.SL.Sem

/-- A row of the extended tile is the stream some steps back. -/
theorem xb_back {d : Data} {T l r a k : ℕ} (ha : a = 16 + r - k) (hk : k < 16) : d.xb T a l = back (fun s => d.X s l) (512 * T + r) k := by
  subst ha
  simp only [Data.xb, back]
  by_cases h : k ≤ 512 * T + r
  · rw [if_pos (by omega), if_pos h]
    congr 1
    omega
  · rw [if_neg (by omega), if_neg h]

theorem q_later {d : Data} {T n l r a k : ℕ} (ha : a = r + k) : d.q n (512 * T + a) l = d.q n (512 * T + r + k) l := by
  rw [ha, Nat.add_assoc]

variable {d : Data} {T : ℕ} {x : FVec Ideal S1x512x256 .f32} {y : FVec Ideal S512x256 .f32}
  {xb : FVec Ideal S528x256 .f32} {w : FVec Ideal S1x256x256 .bf16} {b : FVec Ideal S1x256 .f32} {g : FVec Ideal S1x512x256 .f32}
  {dd : FVec Ideal S512x256 .f32} {sc : FVec Ideal S1x256 .f32} {z : FVec Ideal S512x256 .f32} {o : FVec Ideal S1x256 .f32}
  {pl : FVec Ideal S512x256 .bf16} {v : FVec Ideal S512x256 .f32} {p : FVec Ideal S512x256 .f32} {qb : FVec Ideal S528x256 .f32}
  {ee : FVec Ideal S512x256 .f32} {oo : FVec Ideal S512x256 .f32} {s : FVec Ideal S512x256 .f32}

theorem pay8 (h1 : M3 x (fun _ r c => d.X (512 * T + r) (256 * 0 + c))) : M2 (k0_pay8 (F := Ideal) x) (fun r c => d.X (512 * T + r) (256 * 0 + c)) := by
  simp only [M2, M3] at *
  intro r c
  unfold k0_pay8
  pointwise
  simpa using h1 0 r c

theorem pay9 (i : grid0.Coords) (hv : Scalar.subi 7#32 (BitVec.ofNat 32 (i 0).val) = BitVec.ofNat 32 T) (hT : T < 8) : M2 (k0_pay9 (F := Ideal) i) (fun r _ => inv 2 (512 * T + r)) := by
  simp only [M2, M3] at *
  intro r c
  unfold k0_pay9
  pointwise
  refine congrArg (Ideal.div 1) ?_
  exact count_eq (w := 2) hv hT r.isLt (by norm_num)

theorem pay10 {x : FVec Ideal S512x256 .f32} (h1 : M2 x (fun r c => d.X (512 * T + r) (256 * 0 + c))) (h2 : M2 y (fun r _ => inv 2 (512 * T + r))) (h3 : M2 xb (fun k c => d.xb T k (256 * 0 + c))) : M2 (k0_pay10 (F := Ideal) x y xb 1#32) (fun r c => d.pooled 0 (512 * T + r) c) := by
  simp only [M2, M3] at *
  intro r c
  unfold k0_pay10
  pointwise
  simp only [h1, h2, h3]
  have key := fun a k => xb_back (d := d) (T := T) (l := 256 * 0 + c.val) (r := r.val) (a := a) (k := k)
  unfold Data.pooled
  simp only [show 2 ^ (0 + 1) = 2 from rfl, wsum, Finset.sum_range_succ, Finset.sum_range_zero, zero_add, add_assoc]
  refine congrArg₂ HSub.hSub (congrArg₂ HMul.hMul ?_ rfl) rfl
  exact (congrArg₂ HAdd.hAdd (key _ 0 (by omega) (by omega))
    (key _ 1 (by omega) (by omega)))

theorem pay11 {x : FVec Ideal S512x256 .f32} (h1 : M2 x (fun r c => d.X (512 * T + r) (256 * 0 + c))) (h2 : M2 y (fun r _ => inv 2 (512 * T + r))) (h3 : M2 xb (fun k c => d.xb T k (256 * 0 + c))) (h4 : M3 w (fun _ i j => d.W 0 i j)) (h5 : M2 b (fun _ c => d.B (256 * 0 + c))) : M2 (k0_pay11 (F := Ideal) x y xb 1#32 w b) (fun r c => d.z 0 (512 * T + r) c) := by
  have e0 := pay10 h1 h2 h3
  simp only [M2, M3] at *
  intro r c
  unfold k0_pay11
  pointwise
  simp only [h4, h5, e0]
  rfl

theorem pay12 (h1 : M3 g (fun _ r c => d.G (512 * T + r) (256 * 0 + c))) : M2 (k0_pay12 (F := Ideal) g) (fun r c => d.G (512 * T + r) (256 * 0 + c)) := by
  simp only [M2, M3] at *
  intro r c
  unfold k0_pay12
  pointwise
  simpa using h1 0 r c

theorem pay13 (h1 : M3 g (fun _ r c => d.G (512 * T + r) (256 * 0 + c))) : M2 (k0_pay13 (F := Ideal) g) (fun r c => sgm (d.G (512 * T + r) (256 * 0 + c))) := by
  have e0 := pay12 h1
  simp only [M2, M3] at *
  intro r c
  unfold k0_pay13
  pointwise
  simp only [h1, e0]
  simp only [Nat.mul_zero, Nat.zero_add]
  rfl

theorem pay14 (h6 : M3 g (fun _ r c => d.G (512 * T + r) (256 * 0 + c))) (h7 : M2 dd (fun r c => d.D (512 * T + r) (256 * 0 + c))) : M2 (k0_pay14 (F := Ideal) g dd) (fun r c => d.dyp 0 (512 * T + r) c) := by
  have e0 := pay12 h6
  have e1 := pay13 h6
  simp only [M2, M3] at *
  intro r c
  unfold k0_pay14
  pointwise
  simp only [h6, h7, e0, e1]
  rfl

theorem pay15 {x : FVec Ideal S512x256 .f32} (h1 : M2 x (fun r c => d.X (512 * T + r) (256 * 0 + c))) (h2 : M2 y (fun r _ => inv 2 (512 * T + r))) (h3 : M2 xb (fun k c => d.xb T k (256 * 0 + c))) (h4 : M3 w (fun _ i j => d.W 0 i j)) (h5 : M2 b (fun _ c => d.B (256 * 0 + c))) (h8 : M2 sc (fun _ c => d.Sc (256 * 0 + c))) (h6 : M3 g (fun _ r c => d.G (512 * T + r) (256 * 0 + c))) (h7 : M2 dd (fun r c => d.D (512 * T + r) (256 * 0 + c))) : M3 (k0_pay15 (F := Ideal) x y xb 1#32 w b sc g dd) (fun _ r c => d.dgate 0 (512 * T + r) c) := by
  have e0 := pay11 h1 h2 h3 h4 h5
  have e1 := pay12 h6
  have e2 := pay13 h6
  simp only [M2, M3] at *
  intro k r c
  obtain rfl : k = 0 := Subsingleton.elim _ _
  unfold k0_pay15
  pointwise
  simp only [h7, h8, e0, e1, e2]
  rfl

theorem pay16 (hT : T < 8) (h1 : M2 z (fun r c => d.z 0 (512 * T + r) c)) (h2 : M2 y (fun r c => d.dyp 0 (512 * T + r) c)) (h3 : M2 o (fun _ c => d.dSc 0 c (512 * (T + 1)))) : M2 (k0_pay16 (F := Ideal) z y o) (fun _ c => d.dSc 0 c (512 * T)) := by
  simp only [M2, M3] at *
  intro r c
  unfold k0_pay16
  pointwise
  simp only [h1, h2, h3]
  exact sum_tile (fun t => d.dyp 0 t c.val * d.z 0 t c.val) hT

theorem pay17 (h1 : M2 sc (fun _ c => d.Sc (256 * 0 + c))) (h2 : M2 y (fun r c => d.dyp 0 (512 * T + r) c)) : M2 (k0_pay17 (F := Ideal) sc y) (fun r c => d.dz 0 (512 * T + r) c) := by
  simp only [M2, M3] at *
  intro r c
  unfold k0_pay17
  pointwise
  simp only [h1, h2]
  rfl

theorem pay18 (hT : T < 8) (h1 : M2 sc (fun _ c => d.Sc (256 * 0 + c))) (h2 : M2 y (fun r c => d.dyp 0 (512 * T + r) c)) (h3 : M2 o (fun _ c => d.dB 0 c (512 * (T + 1)))) : M2 (k0_pay18 (F := Ideal) sc y o) (fun _ c => d.dB 0 c (512 * T)) := by
  have e0 := pay17 h1 h2
  simp only [M2, M3] at *
  intro r c
  unfold k0_pay18
  pointwise
  simp only [h3, e0]
  exact sum_tile (fun t => d.dz 0 t c.val) hT

theorem pay19 (h1 : M2 sc (fun _ c => d.Sc (256 * 0 + c))) (h2 : M2 y (fun r c => d.dyp 0 (512 * T + r) c)) : M2 (k0_pay19 (F := Ideal) sc y) (fun r c => d.dz 0 (512 * T + r) c) := by
  have e0 := pay17 h1 h2
  simp only [M2, M3] at *
  intro r c
  unfold k0_pay19
  pointwise
  simp only [e0]

theorem pay20 (hT : T < 8) (h4 : M2 pl (fun r c => d.pooled 0 (512 * T + r) c)) (h1 : M2 sc (fun _ c => d.Sc (256 * 0 + c))) (h2 : M2 y (fun r c => d.dyp 0 (512 * T + r) c)) {o : FVec Ideal S1x256x256 .f32} (h3 : M3 o (fun _ i j => d.dW 0 i j (512 * (T + 1)))) : M3 (k0_pay20 (F := Ideal) pl sc y o) (fun _ i j => d.dW 0 i j (512 * T)) := by
  have e0 := pay19 h1 h2
  simp only [M2, M3] at *
  intro k r c
  obtain rfl : k = 0 := Subsingleton.elim _ _
  unfold k0_pay20
  pointwise
  simp only [h3, h4, e0]
  exact sum_tile (fun t => d.pooled 0 t r.val * d.dz 0 t c.val) hT

theorem pay21 (h1 : M2 sc (fun _ c => d.Sc (256 * 0 + c))) (h2 : M2 y (fun r c => d.dyp 0 (512 * T + r) c)) (h3 : M3 w (fun _ i j => d.W 0 i j)) : M2 (k0_pay21 (F := Ideal) sc y w) (fun r c => d.dpl 0 (512 * T + r) c) := by
  have e0 := pay19 h1 h2
  simp only [M2, M3] at *
  intro r c
  unfold k0_pay21
  pointwise
  simp only [h3, e0]
  rfl

theorem pay22 (h4 : M2 v (fun r _ => inv 2 (512 * T + r))) (h1 : M2 sc (fun _ c => d.Sc (256 * 0 + c))) (h2 : M2 y (fun r c => d.dyp 0 (512 * T + r) c)) (h3 : M3 w (fun _ i j => d.W 0 i j)) : M2 (k0_pay22 (F := Ideal) v sc y w) (fun r c => d.q 0 (512 * T + r) c) := by
  have e0 := pay21 h1 h2 h3
  simp only [M2, M3] at *
  intro r c
  unfold k0_pay22
  pointwise
  simp only [h4, e0]
  rfl

theorem pay23 (h1 : M2 p (fun r c => d.dpl 0 (512 * T + r) c)) (h2 : M2 qb (fun k c => d.q 0 (512 * T + k) c)) : M3 (k0_pay23 (F := Ideal) p qb) (fun _ r c => d.dx 0 (512 * T + r) c) := by
  simp only [M2, M3] at *
  intro k r c
  obtain rfl : k = 0 := Subsingleton.elim _ _
  unfold k0_pay23
  pointwise
  simp only [h1, h2]
  have key := fun a k => q_later (d := d) (T := T) (n := 0) (l := c.val) (r := r.val) (a := a) (k := k)
  unfold Data.dx
  simp only [show 2 ^ (0 + 1) = 2 from rfl, Finset.sum_range_succ, Finset.sum_range_zero, zero_add, add_assoc] at *
  refine congrArg₂ HSub.hSub ?_ rfl
  exact (congrArg₂ HAdd.hAdd (key _ 0 (by omega))
    (key _ 1 (by omega)))

theorem pay24 {v : BitVec 32} (hv : v = BitVec.ofNat 32 T) (hT : T < 8) : M2 (k0_pay24 (F := Ideal) v) (fun r _ => inv 4 (512 * T + r)) := by
  simp only [M2, M3] at *
  intro r c
  unfold k0_pay24
  pointwise
  refine congrArg (Ideal.div 1) ?_
  exact count_eq (w := 4) hv hT r.isLt (by norm_num)

theorem pay25 {v : BitVec 32} (hv : v = BitVec.ofNat 32 T) (hT : T < 8) (h1 : M3 x (fun _ r c => d.X (512 * T + r) (256 * 1 + c))) (h3 : M2 xb (fun k c => d.xb T k (256 * 1 + c))) : M2 (k0_pay25 (F := Ideal) v x xb) (fun r c => d.pooled 1 (512 * T + r) c) := by
  have e0 := pay24 hv hT
  simp only [M2, M3] at *
  intro r c
  unfold k0_pay25
  pointwise
  simp only [h1, e0, h3]
  have key := fun a k => xb_back (d := d) (T := T) (l := 256 * 1 + c.val) (r := r.val) (a := a) (k := k)
  unfold Data.pooled
  simp only [show 2 ^ (1 + 1) = 4 from rfl, wsum, Finset.sum_range_succ, Finset.sum_range_zero, zero_add, add_assoc]
  refine congrArg₂ HSub.hSub (congrArg₂ HMul.hMul ?_ rfl) rfl
  exact (congrArg₂ HAdd.hAdd (key _ 0 (by omega) (by omega))
    (congrArg₂ HAdd.hAdd (key _ 1 (by omega) (by omega))
    (congrArg₂ HAdd.hAdd (key _ 2 (by omega) (by omega))
    (key _ 3 (by omega) (by omega)))))

theorem pay26 {v : BitVec 32} (hv : v = BitVec.ofNat 32 T) (hT : T < 8) (h1 : M3 x (fun _ r c => d.X (512 * T + r) (256 * 1 + c))) (h3 : M2 xb (fun k c => d.xb T k (256 * 1 + c))) (h4 : M3 w (fun _ i j => d.W 1 i j)) (h5 : M2 b (fun _ c => d.B (256 * 1 + c))) : M2 (k0_pay26 (F := Ideal) v x xb w b) (fun r c => d.z 1 (512 * T + r) c) := by
  have e0 := pay25 hv hT h1 h3
  simp only [M2, M3] at *
  intro r c
  unfold k0_pay26
  pointwise
  simp only [h4, h5, e0]
  rfl

theorem pay27 (h1 : M3 g (fun _ r c => d.G (512 * T + r) (256 * 1 + c))) : M2 (k0_pay27 (F := Ideal) g) (fun r c => d.G (512 * T + r) (256 * 1 + c)) := by
  simp only [M2, M3] at *
  intro r c
  unfold k0_pay27
  pointwise
  exact h1 0 r c

theorem pay28 (h1 : M3 g (fun _ r c => d.G (512 * T + r) (256 * 1 + c))) : M2 (k0_pay28 (F := Ideal) g) (fun r c => sgm (d.G (512 * T + r) (256 * 1 + c))) := by
  have e0 := pay27 h1
  simp only [M2, M3] at *
  intro r c
  unfold k0_pay28
  pointwise
  simp only [h1, e0]
  rfl

theorem pay29 (h6 : M3 g (fun _ r c => d.G (512 * T + r) (256 * 1 + c))) (h7 : M2 dd (fun r c => d.D (512 * T + r) (256 * 1 + c))) : M2 (k0_pay29 (F := Ideal) g dd) (fun r c => d.dyp 1 (512 * T + r) c) := by
  have e0 := pay27 h6
  have e1 := pay28 h6
  simp only [M2, M3] at *
  intro r c
  unfold k0_pay29
  pointwise
  simp only [h6, h7, e0, e1]
  rfl

theorem pay30 (h1 : M2 z (fun r c => d.z 1 (512 * T + r) c)) (h8 : M2 sc (fun _ c => d.Sc (256 * 1 + c))) (h6 : M3 g (fun _ r c => d.G (512 * T + r) (256 * 1 + c))) (h7 : M2 dd (fun r c => d.D (512 * T + r) (256 * 1 + c))) : M3 (k0_pay30 (F := Ideal) z sc g dd) (fun _ r c => d.dgate 1 (512 * T + r) c) := by
  have e0 := pay27 h6
  have e1 := pay28 h6
  simp only [M2, M3] at *
  intro k r c
  obtain rfl : k = 0 := Subsingleton.elim _ _
  unfold k0_pay30
  pointwise
  simp only [h1, h7, h8, e0, e1]
  rfl

theorem pay31 (hT : T < 8) (h1 : M2 z (fun r c => d.z 1 (512 * T + r) c)) (h6 : M3 g (fun _ r c => d.G (512 * T + r) (256 * 1 + c))) (h7 : M2 dd (fun r c => d.D (512 * T + r) (256 * 1 + c))) (h3 : M2 o (fun _ c => d.dSc 1 c (512 * (T + 1)))) : M2 (k0_pay31 (F := Ideal) z g dd o) (fun _ c => d.dSc 1 c (512 * T)) := by
  have e0 := pay29 h6 h7
  simp only [M2, M3] at *
  intro r c
  unfold k0_pay31
  pointwise
  simp only [h1, e0, h3]
  exact sum_tile (fun t => d.dyp 1 t c.val * d.z 1 t c.val) hT

theorem pay32 (h1 : M2 sc (fun _ c => d.Sc (256 * 1 + c))) (h6 : M3 g (fun _ r c => d.G (512 * T + r) (256 * 1 + c))) (h7 : M2 dd (fun r c => d.D (512 * T + r) (256 * 1 + c))) : M2 (k0_pay32 (F := Ideal) sc g dd) (fun r c => d.dz 1 (512 * T + r) c) := by
  have e0 := pay29 h6 h7
  simp only [M2, M3] at *
  intro r c
  unfold k0_pay32
  pointwise
  simp only [h1, e0]
  rfl

theorem pay33 (hT : T < 8) (h1 : M2 z (fun r c => d.dz 1 (512 * T + r) c)) (h3 : M2 o (fun _ c => d.dB 1 c (512 * (T + 1)))) : M2 (k0_pay33 (F := Ideal) z o) (fun _ c => d.dB 1 c (512 * T)) := by
  simp only [M2, M3] at *
  intro r c
  unfold k0_pay33
  pointwise
  simp only [h1, h3]
  exact sum_tile (fun t => d.dz 1 t c.val) hT

theorem pay34 (h1 : M2 z (fun r c => d.dz 1 (512 * T + r) c)) : M2 (k0_pay34 (F := Ideal) z) (fun r c => d.dz 1 (512 * T + r) c) := by
  simp only [M2, M3] at *
  intro r c
  unfold k0_pay34
  pointwise
  exact h1 r c

theorem pay35 (hT : T < 8) (h4 : M2 pl (fun r c => d.pooled 1 (512 * T + r) c)) (h1 : M2 z (fun r c => d.dz 1 (512 * T + r) c)) {o : FVec Ideal S1x256x256 .f32} (h3 : M3 o (fun _ i j => d.dW 1 i j (512 * (T + 1)))) : M3 (k0_pay35 (F := Ideal) pl z o) (fun _ i j => d.dW 1 i j (512 * T)) := by
  have e0 := pay34 h1
  simp only [M2, M3] at *
  intro k r c
  obtain rfl : k = 0 := Subsingleton.elim _ _
  unfold k0_pay35
  pointwise
  simp only [h3, h4, e0]
  exact sum_tile (fun t => d.pooled 1 t r.val * d.dz 1 t c.val) hT

theorem pay36 (h1 : M2 z (fun r c => d.dz 1 (512 * T + r) c)) (h3 : M3 w (fun _ i j => d.W 1 i j)) : M2 (k0_pay36 (F := Ideal) z w) (fun r c => d.dpl 1 (512 * T + r) c) := by
  have e0 := pay34 h1
  simp only [M2, M3] at *
  intro r c
  unfold k0_pay36
  pointwise
  simp only [h3, e0]
  rfl

theorem pay37 (h4 : M2 v (fun r _ => inv 4 (512 * T + r))) (h1 : M2 z (fun r c => d.dz 1 (512 * T + r) c)) (h3 : M3 w (fun _ i j => d.W 1 i j)) : M2 (k0_pay37 (F := Ideal) v z w) (fun r c => d.q 1 (512 * T + r) c) := by
  have e0 := pay36 h1 h3
  simp only [M2, M3] at *
  intro r c
  unfold k0_pay37
  pointwise
  simp only [h4, e0]
  rfl

theorem pay38 (h1 : M2 z (fun r c => d.dz 1 (512 * T + r) c)) (h3 : M3 w (fun _ i j => d.W 1 i j)) (h2 : M2 qb (fun k c => d.q 1 (512 * T + k) c)) : M3 (k0_pay38 (F := Ideal) z w qb) (fun _ r c => d.dx 1 (512 * T + r) c) := by
  have e0 := pay36 h1 h3
  simp only [M2, M3] at *
  intro k r c
  obtain rfl : k = 0 := Subsingleton.elim _ _
  unfold k0_pay38
  pointwise
  simp only [e0, h2]
  have key := fun a k => q_later (d := d) (T := T) (n := 1) (l := c.val) (r := r.val) (a := a) (k := k)
  unfold Data.dx
  simp only [show 2 ^ (1 + 1) = 4 from rfl, Finset.sum_range_succ, Finset.sum_range_zero, zero_add, add_assoc] at *
  refine congrArg₂ HSub.hSub ?_ rfl
  exact (congrArg₂ HAdd.hAdd (key _ 0 (by omega))
    (congrArg₂ HAdd.hAdd (key _ 1 (by omega))
    (congrArg₂ HAdd.hAdd (key _ 2 (by omega))
    (key _ 3 (by omega)))))

theorem pay39 {v : BitVec 32} (hv : v = BitVec.ofNat 32 T) (hT : T < 8) : M2 (k0_pay39 (F := Ideal) v) (fun r _ => inv 8 (512 * T + r)) := by
  simp only [M2, M3] at *
  intro r c
  unfold k0_pay39
  pointwise
  refine congrArg (Ideal.div 1) ?_
  exact count_eq (w := 8) hv hT r.isLt (by norm_num)

theorem pay40 {v : BitVec 32} (hv : v = BitVec.ofNat 32 T) (hT : T < 8) (h1 : M3 x (fun _ r c => d.X (512 * T + r) (256 * 2 + c))) (h3 : M2 xb (fun k c => d.xb T k (256 * 2 + c))) : M2 (k0_pay40 (F := Ideal) v x xb) (fun r c => d.pooled 2 (512 * T + r) c) := by
  have e0 := pay39 hv hT
  simp only [M2, M3] at *
  intro r c
  unfold k0_pay40
  pointwise
  simp only [h1, e0, h3]
  have key := fun a k => xb_back (d := d) (T := T) (l := 256 * 2 + c.val) (r := r.val) (a := a) (k := k)
  unfold Data.pooled
  simp only [show 2 ^ (2 + 1) = 8 from rfl, wsum, Finset.sum_range_succ, Finset.sum_range_zero, zero_add, add_assoc]
  refine congrArg₂ HSub.hSub (congrArg₂ HMul.hMul ?_ rfl) rfl
  exact (congrArg₂ HAdd.hAdd (key _ 0 (by omega) (by omega))
    (congrArg₂ HAdd.hAdd (key _ 1 (by omega) (by omega))
    (congrArg₂ HAdd.hAdd (key _ 2 (by omega) (by omega))
    (congrArg₂ HAdd.hAdd (key _ 3 (by omega) (by omega))
    (congrArg₂ HAdd.hAdd (key _ 4 (by omega) (by omega))
    (congrArg₂ HAdd.hAdd (key _ 5 (by omega) (by omega))
    (congrArg₂ HAdd.hAdd (key _ 6 (by omega) (by omega))
    (key _ 7 (by omega) (by omega)))))))))

theorem pay41 {v : BitVec 32} (hv : v = BitVec.ofNat 32 T) (hT : T < 8) (h1 : M3 x (fun _ r c => d.X (512 * T + r) (256 * 2 + c))) (h3 : M2 xb (fun k c => d.xb T k (256 * 2 + c))) (h4 : M3 w (fun _ i j => d.W 2 i j)) (h5 : M2 b (fun _ c => d.B (256 * 2 + c))) : M2 (k0_pay41 (F := Ideal) v x xb w b) (fun r c => d.z 2 (512 * T + r) c) := by
  have e0 := pay40 hv hT h1 h3
  simp only [M2, M3] at *
  intro r c
  unfold k0_pay41
  pointwise
  simp only [h4, h5, e0]
  rfl

theorem pay42 (h1 : M3 g (fun _ r c => d.G (512 * T + r) (256 * 2 + c))) : M2 (k0_pay42 (F := Ideal) g) (fun r c => d.G (512 * T + r) (256 * 2 + c)) := by
  simp only [M2, M3] at *
  intro r c
  unfold k0_pay42
  pointwise
  exact h1 0 r c

theorem pay43 (h1 : M3 g (fun _ r c => d.G (512 * T + r) (256 * 2 + c))) : M2 (k0_pay43 (F := Ideal) g) (fun r c => Ideal.exp (0 - d.G (512 * T + r) (256 * 2 + c))) := by
  have e0 := pay42 h1
  simp only [M2, M3] at *
  intro r c
  unfold k0_pay43
  pointwise
  simp only [e0]

theorem pay44 : M2 (k0_pay44 (F := Ideal)) (fun _ _ => 1) := by
  simp only [M2, M3] at *
  intro r c
  unfold k0_pay44
  pointwise

theorem pay45 (h7 : M2 ee (fun r c => Ideal.exp (0 - d.G (512 * T + r) (256 * 2 + c)))) (h8 : M2 oo (fun _ _ => 1)) : M2 (k0_pay45 (F := Ideal) ee oo) (fun r c => sgm (d.G (512 * T + r) (256 * 2 + c))) := by
  simp only [M2, M3] at *
  intro r c
  unfold k0_pay45
  pointwise
  simp only [h7, h8]
  rfl

theorem pay46 {g : FVec Ideal S512x256 .f32} (h6 : M2 g (fun r c => d.G (512 * T + r) (256 * 2 + c))) (h7 : M2 ee (fun r c => Ideal.exp (0 - d.G (512 * T + r) (256 * 2 + c)))) (h8 : M2 oo (fun _ _ => 1)) (h9 : M2 dd (fun r c => d.D (512 * T + r) (256 * 2 + c))) : M2 (k0_pay46 (F := Ideal) g ee oo dd) (fun r c => d.dyp 2 (512 * T + r) c) := by
  have e0 := pay45 h7 h8
  simp only [M2, M3] at *
  intro r c
  unfold k0_pay46
  pointwise
  simp only [h6, h9, e0]
  rfl

theorem pay47 (h1 : M2 z (fun r c => d.z 2 (512 * T + r) c)) (h2 : M2 sc (fun _ c => d.Sc (256 * 2 + c))) {g : FVec Ideal S512x256 .f32} (h6 : M2 g (fun r c => d.G (512 * T + r) (256 * 2 + c))) (h7 : M2 ee (fun r c => Ideal.exp (0 - d.G (512 * T + r) (256 * 2 + c)))) (h8 : M2 oo (fun _ _ => 1)) (h9 : M2 dd (fun r c => d.D (512 * T + r) (256 * 2 + c))) : M3 (k0_pay47 (F := Ideal) z sc g ee oo dd) (fun _ r c => d.dgate 2 (512 * T + r) c) := by
  have e0 := pay45 h7 h8
  simp only [M2, M3] at *
  intro k r c
  obtain rfl : k = 0 := Subsingleton.elim _ _
  unfold k0_pay47
  pointwise
  simp only [h1, h2, h6, h9, e0]
  rfl

theorem pay48 (hT : T < 8) (h1 : M2 z (fun r c => d.z 2 (512 * T + r) c)) {g : FVec Ideal S512x256 .f32} (h6 : M2 g (fun r c => d.G (512 * T + r) (256 * 2 + c))) (h7 : M2 ee (fun r c => Ideal.exp (0 - d.G (512 * T + r) (256 * 2 + c)))) (h8 : M2 oo (fun _ _ => 1)) (h9 : M2 dd (fun r c => d.D (512 * T + r) (256 * 2 + c))) (h3 : M2 o (fun _ c => d.dSc 2 c (512 * (T + 1)))) : M2 (k0_pay48 (F := Ideal) z g ee oo dd o) (fun _ c => d.dSc 2 c (512 * T)) := by
  have e0 := pay46 h6 h7 h8 h9
  simp only [M2, M3] at *
  intro r c
  unfold k0_pay48
  pointwise
  simp only [h1, e0, h3]
  exact sum_tile (fun t => d.dyp 2 t c.val * d.z 2 t c.val) hT

theorem pay49 (h1 : M2 sc (fun _ c => d.Sc (256 * 2 + c))) {g : FVec Ideal S512x256 .f32} (h6 : M2 g (fun r c => d.G (512 * T + r) (256 * 2 + c))) (h7 : M2 ee (fun r c => Ideal.exp (0 - d.G (512 * T + r) (256 * 2 + c)))) (h8 : M2 oo (fun _ _ => 1)) (h9 : M2 dd (fun r c => d.D (512 * T + r) (256 * 2 + c))) : M2 (k0_pay49 (F := Ideal) sc g ee oo dd) (fun r c => d.dz 2 (512 * T + r) c) := by
  have e0 := pay46 h6 h7 h8 h9
  simp only [M2, M3] at *
  intro r c
  unfold k0_pay49
  pointwise
  simp only [h1, e0]
  rfl

theorem pay50 (hT : T < 8) (h1 : M2 sc (fun _ c => d.Sc (256 * 2 + c))) {g : FVec Ideal S512x256 .f32} (h6 : M2 g (fun r c => d.G (512 * T + r) (256 * 2 + c))) (h7 : M2 ee (fun r c => Ideal.exp (0 - d.G (512 * T + r) (256 * 2 + c)))) (h8 : M2 oo (fun _ _ => 1)) (h9 : M2 dd (fun r c => d.D (512 * T + r) (256 * 2 + c))) (h3 : M2 o (fun _ c => d.dB 2 c (512 * (T + 1)))) : M2 (k0_pay50 (F := Ideal) sc g ee oo dd o) (fun _ c => d.dB 2 c (512 * T)) := by
  have e0 := pay49 h1 h6 h7 h8 h9
  simp only [M2, M3] at *
  intro r c
  unfold k0_pay50
  pointwise
  simp only [e0, h3]
  exact sum_tile (fun t => d.dz 2 t c.val) hT

theorem pay51 (h1 : M2 sc (fun _ c => d.Sc (256 * 2 + c))) {g : FVec Ideal S512x256 .f32} (h6 : M2 g (fun r c => d.G (512 * T + r) (256 * 2 + c))) (h7 : M2 ee (fun r c => Ideal.exp (0 - d.G (512 * T + r) (256 * 2 + c)))) (h8 : M2 oo (fun _ _ => 1)) (h9 : M2 dd (fun r c => d.D (512 * T + r) (256 * 2 + c))) : M2 (k0_pay51 (F := Ideal) sc g ee oo dd) (fun r c => d.dz 2 (512 * T + r) c) := by
  have e0 := pay49 h1 h6 h7 h8 h9
  simp only [M2, M3] at *
  intro r c
  unfold k0_pay51
  pointwise
  simp only [e0]

theorem pay52 (hT : T < 8) (h4 : M2 pl (fun r c => d.pooled 2 (512 * T + r) c)) {z : FVec Ideal S512x256 .bf16} (h1 : M2 z (fun r c => d.dz 2 (512 * T + r) c)) {o : FVec Ideal S1x256x256 .f32} (h3 : M3 o (fun _ i j => d.dW 2 i j (512 * (T + 1)))) : M3 (k0_pay52 (F := Ideal) pl z o) (fun _ i j => d.dW 2 i j (512 * T)) := by
  simp only [M2, M3] at *
  intro k r c
  obtain rfl : k = 0 := Subsingleton.elim _ _
  unfold k0_pay52
  pointwise
  simp only [h3, h4, h1]
  exact sum_tile (fun t => d.pooled 2 t r.val * d.dz 2 t c.val) hT

theorem pay53 {z : FVec Ideal S512x256 .bf16} (h1 : M2 z (fun r c => d.dz 2 (512 * T + r) c)) (h3 : M3 w (fun _ i j => d.W 2 i j)) : M2 (k0_pay53 (F := Ideal) z w) (fun r c => d.dpl 2 (512 * T + r) c) := by
  simp only [M2, M3] at *
  intro r c
  unfold k0_pay53
  pointwise
  simp only [h1, h3]
  rfl

theorem pay54 (h4 : M2 v (fun r _ => inv 8 (512 * T + r))) {z : FVec Ideal S512x256 .bf16} (h1 : M2 z (fun r c => d.dz 2 (512 * T + r) c)) (h3 : M3 w (fun _ i j => d.W 2 i j)) : M2 (k0_pay54 (F := Ideal) v z w) (fun r c => d.q 2 (512 * T + r) c) := by
  have e0 := pay53 h1 h3
  simp only [M2, M3] at *
  intro r c
  unfold k0_pay54
  pointwise
  simp only [h4, e0]
  rfl

theorem pay55 {z : FVec Ideal S512x256 .bf16} (h1 : M2 z (fun r c => d.dz 2 (512 * T + r) c)) (h3 : M3 w (fun _ i j => d.W 2 i j)) (h2 : M2 qb (fun k c => d.q 2 (512 * T + k) c)) : M3 (k0_pay55 (F := Ideal) z w qb) (fun _ r c => d.dx 2 (512 * T + r) c) := by
  have e0 := pay53 h1 h3
  simp only [M2, M3] at *
  intro k r c
  obtain rfl : k = 0 := Subsingleton.elim _ _
  unfold k0_pay55
  pointwise
  simp only [e0, h2]
  have key := fun a k => q_later (d := d) (T := T) (n := 2) (l := c.val) (r := r.val) (a := a) (k := k)
  unfold Data.dx
  simp only [show 2 ^ (2 + 1) = 8 from rfl, Finset.sum_range_succ, Finset.sum_range_zero, zero_add, add_assoc] at *
  refine congrArg₂ HSub.hSub ?_ rfl
  exact (congrArg₂ HAdd.hAdd (key _ 0 (by omega))
    (congrArg₂ HAdd.hAdd (key _ 1 (by omega))
    (congrArg₂ HAdd.hAdd (key _ 2 (by omega))
    (congrArg₂ HAdd.hAdd (key _ 3 (by omega))
    (congrArg₂ HAdd.hAdd (key _ 4 (by omega))
    (congrArg₂ HAdd.hAdd (key _ 5 (by omega))
    (congrArg₂ HAdd.hAdd (key _ 6 (by omega))
    (key _ 7 (by omega)))))))))

theorem pay56 (h1 : M3 x (fun _ r c => d.X (512 * T + r) (256 * 3 + c))) : M2 (k0_pay56 (F := Ideal) x) (fun r c => d.X (512 * T + r) (256 * 3 + c)) := by
  simp only [M2, M3] at *
  intro r c
  unfold k0_pay56
  pointwise
  exact h1 0 r c

theorem pay59 {v : BitVec 32} (hv : v = BitVec.ofNat 32 T) (hT : T < 8) : M2 (k0_pay59 (F := Ideal) (k0_pay57 v) k0_pay58) (fun r _ => inv 16 (512 * T + r)) := by
  simp only [M2, M3] at *
  intro r c
  unfold k0_pay59 k0_pay57 k0_pay58
  pointwise
  refine congrArg (Ideal.div 1) ?_
  exact count_eq (w := 16) hv hT r.isLt (by norm_num)

set_option maxHeartbeats 2000000 in
theorem pay60 {v : BitVec 32} (hv : v = BitVec.ofNat 32 T) (hT : T < 8) {x : FVec Ideal S512x256 .f32} (h1 : M2 x (fun r c => d.X (512 * T + r) (256 * 3 + c))) (h3 : M2 xb (fun k c => d.xb T k (256 * 3 + c))) : M2 (k0_pay60 (F := Ideal) x (k0_pay57 v) k0_pay58 xb) (fun r c => d.pooled 3 (512 * T + r) c) := by
  have e0 := pay59 hv hT
  simp only [M2, M3] at *
  intro r c
  unfold k0_pay60
  pointwise
  simp only [h1, e0, h3]
  have key := fun a k => xb_back (d := d) (T := T) (l := 256 * 3 + c.val) (r := r.val) (a := a) (k := k)
  unfold Data.pooled
  simp only [show 2 ^ (3 + 1) = 16 from rfl, wsum, Finset.sum_range_succ, Finset.sum_range_zero, zero_add, add_assoc]
  refine congrArg₂ HSub.hSub (congrArg₂ HMul.hMul ?_ rfl) rfl
  exact (congrArg₂ HAdd.hAdd (key _ 0 (by omega) (by omega))
    (congrArg₂ HAdd.hAdd (key _ 1 (by omega) (by omega))
    (congrArg₂ HAdd.hAdd (key _ 2 (by omega) (by omega))
    (congrArg₂ HAdd.hAdd (key _ 3 (by omega) (by omega))
    (congrArg₂ HAdd.hAdd (key _ 4 (by omega) (by omega))
    (congrArg₂ HAdd.hAdd (key _ 5 (by omega) (by omega))
    (congrArg₂ HAdd.hAdd (key _ 6 (by omega) (by omega))
    (congrArg₂ HAdd.hAdd (key _ 7 (by omega) (by omega))
    (congrArg₂ HAdd.hAdd (key _ 8 (by omega) (by omega))
    (congrArg₂ HAdd.hAdd (key _ 9 (by omega) (by omega))
    (congrArg₂ HAdd.hAdd (key _ 10 (by omega) (by omega))
    (congrArg₂ HAdd.hAdd (key _ 11 (by omega) (by omega))
    (congrArg₂ HAdd.hAdd (key _ 12 (by omega) (by omega))
    (congrArg₂ HAdd.hAdd (key _ 13 (by omega) (by omega))
    (congrArg₂ HAdd.hAdd (key _ 14 (by omega) (by omega))
    (key _ 15 (by omega) (by omega)))))))))))))))))

theorem pay61 {v : BitVec 32} (hv : v = BitVec.ofNat 32 T) (hT : T < 8) {x : FVec Ideal S512x256 .f32} (h1 : M2 x (fun r c => d.X (512 * T + r) (256 * 3 + c))) (h3 : M2 xb (fun k c => d.xb T k (256 * 3 + c))) (h4 : M3 w (fun _ i j => d.W 3 i j)) (h5 : M2 b (fun _ c => d.B (256 * 3 + c))) : M2 (k0_pay61 (F := Ideal) x (k0_pay57 v) k0_pay58 xb w b) (fun r c => d.z 3 (512 * T + r) c) := by
  have e0 := pay60 hv hT h1 h3
  simp only [M2, M3] at *
  intro r c
  unfold k0_pay61
  pointwise
  simp only [h4, h5, e0]
  rfl

theorem pay62 (h1 : M3 g (fun _ r c => d.G (512 * T + r) (256 * 3 + c))) : M2 (k0_pay62 (F := Ideal) g) (fun r c => d.G (512 * T + r) (256 * 3 + c)) := by
  simp only [M2, M3] at *
  intro r c
  unfold k0_pay62
  pointwise
  exact h1 0 r c

theorem pay63 (h1 : M3 g (fun _ r c => d.G (512 * T + r) (256 * 3 + c))) : M2 (k0_pay63 (F := Ideal) g) (fun r c => sgm (d.G (512 * T + r) (256 * 3 + c))) := by
  have e0 := pay62 h1
  simp only [M2, M3] at *
  intro r c
  unfold k0_pay63
  pointwise
  simp only [h1, e0]
  rfl

theorem pay64 {g : FVec Ideal S512x256 .f32} (h6 : M2 g (fun r c => d.G (512 * T + r) (256 * 3 + c))) (h7 : M2 s (fun r c => sgm (d.G (512 * T + r) (256 * 3 + c)))) (h9 : M2 dd (fun r c => d.D (512 * T + r) (256 * 3 + c))) : M2 (k0_pay64 (F := Ideal) g s dd) (fun r c => d.dyp 3 (512 * T + r) c) := by
  simp only [M2, M3] at *
  intro r c
  unfold k0_pay64
  pointwise
  simp only [h6, h7, h9]
  rfl

theorem pay65 (h1 : M2 z (fun r c => d.z 3 (512 * T + r) c)) (h2 : M2 sc (fun _ c => d.Sc (256 * 3 + c))) {g : FVec Ideal S512x256 .f32} (h6 : M2 g (fun r c => d.G (512 * T + r) (256 * 3 + c))) (h7 : M2 s (fun r c => sgm (d.G (512 * T + r) (256 * 3 + c)))) (h9 : M2 dd (fun r c => d.D (512 * T + r) (256 * 3 + c))) : M3 (k0_pay65 (F := Ideal) z sc g s dd) (fun _ r c => d.dgate 3 (512 * T + r) c) := by
  simp only [M2, M3] at *
  intro k r c
  obtain rfl : k = 0 := Subsingleton.elim _ _
  unfold k0_pay65
  pointwise
  simp only [h1, h2, h6, h7, h9]
  rfl

theorem pay66 (hT : T < 8) (h1 : M2 z (fun r c => d.z 3 (512 * T + r) c)) {g : FVec Ideal S512x256 .f32} (h6 : M2 g (fun r c => d.G (512 * T + r) (256 * 3 + c))) (h7 : M2 s (fun r c => sgm (d.G (512 * T + r) (256 * 3 + c)))) (h9 : M2 dd (fun r c => d.D (512 * T + r) (256 * 3 + c))) (h3 : M2 o (fun _ c => d.dSc 3 c (512 * (T + 1)))) : M2 (k0_pay66 (F := Ideal) z g s dd o) (fun _ c => d.dSc 3 c (512 * T)) := by
  have e0 := pay64 h6 h7 h9
  simp only [M2, M3] at *
  intro r c
  unfold k0_pay66
  pointwise
  simp only [h1, e0, h3]
  exact sum_tile (fun t => d.dyp 3 t c.val * d.z 3 t c.val) hT

theorem pay67 (h1 : M2 sc (fun _ c => d.Sc (256 * 3 + c))) {g : FVec Ideal S512x256 .f32} (h6 : M2 g (fun r c => d.G (512 * T + r) (256 * 3 + c))) (h7 : M2 s (fun r c => sgm (d.G (512 * T + r) (256 * 3 + c)))) (h9 : M2 dd (fun r c => d.D (512 * T + r) (256 * 3 + c))) : M2 (k0_pay67 (F := Ideal) sc g s dd) (fun r c => d.dz 3 (512 * T + r) c) := by
  have e0 := pay64 h6 h7 h9
  simp only [M2, M3] at *
  intro r c
  unfold k0_pay67
  pointwise
  simp only [h1, e0]
  rfl

theorem pay68 (hT : T < 8) (h1 : M2 sc (fun _ c => d.Sc (256 * 3 + c))) {g : FVec Ideal S512x256 .f32} (h6 : M2 g (fun r c => d.G (512 * T + r) (256 * 3 + c))) (h7 : M2 s (fun r c => sgm (d.G (512 * T + r) (256 * 3 + c)))) (h9 : M2 dd (fun r c => d.D (512 * T + r) (256 * 3 + c))) (h3 : M2 o (fun _ c => d.dB 3 c (512 * (T + 1)))) : M2 (k0_pay68 (F := Ideal) sc g s dd o) (fun _ c => d.dB 3 c (512 * T)) := by
  have e0 := pay67 h1 h6 h7 h9
  simp only [M2, M3] at *
  intro r c
  unfold k0_pay68
  pointwise
  simp only [e0, h3]
  exact sum_tile (fun t => d.dz 3 t c.val) hT

theorem pay69 (h1 : M2 sc (fun _ c => d.Sc (256 * 3 + c))) {g : FVec Ideal S512x256 .f32} (h6 : M2 g (fun r c => d.G (512 * T + r) (256 * 3 + c))) (h7 : M2 s (fun r c => sgm (d.G (512 * T + r) (256 * 3 + c)))) (h9 : M2 dd (fun r c => d.D (512 * T + r) (256 * 3 + c))) : M2 (k0_pay69 (F := Ideal) sc g s dd) (fun r c => d.dz 3 (512 * T + r) c) := by
  have e0 := pay67 h1 h6 h7 h9
  simp only [M2, M3] at *
  intro r c
  unfold k0_pay69
  pointwise
  simp only [e0]

theorem pay70 (hT : T < 8) (h4 : M2 pl (fun r c => d.pooled 3 (512 * T + r) c)) (h1 : M2 sc (fun _ c => d.Sc (256 * 3 + c))) {g : FVec Ideal S512x256 .f32} (h6 : M2 g (fun r c => d.G (512 * T + r) (256 * 3 + c))) (h7 : M2 s (fun r c => sgm (d.G (512 * T + r) (256 * 3 + c)))) (h9 : M2 dd (fun r c => d.D (512 * T + r) (256 * 3 + c))) {o : FVec Ideal S1x256x256 .f32} (h3 : M3 o (fun _ i j => d.dW 3 i j (512 * (T + 1)))) : M2 (k0_pay70 (F := Ideal) pl sc g s dd o) (fun i j => d.dW 3 i j (512 * T)) := by
  have e0 := pay69 h1 h6 h7 h9
  simp only [M2, M3] at *
  intro r c
  unfold k0_pay70
  pointwise
  simp only [h3, h4, e0]
  exact sum_tile (fun t => d.pooled 3 t r.val * d.dz 3 t c.val) hT

theorem pay71 {x : FVec Ideal S256x256 .f32} (h1 : M2 x (fun i j => d.dW 3 i j (512 * T))) : M3 (k0_pay71 (F := Ideal) x) (fun _ i j => d.dW 3 i j (512 * T)) := by
  simp only [M2, M3] at *
  intro k r c
  obtain rfl : k = 0 := Subsingleton.elim _ _
  unfold k0_pay71
  pointwise
  exact h1 r c

theorem pay72 {z : FVec Ideal S512x256 .bf16} (h1 : M2 z (fun r c => d.dz 3 (512 * T + r) c)) (h3 : M3 w (fun _ i j => d.W 3 i j)) : M2 (k0_pay72 (F := Ideal) z w) (fun r c => d.dpl 3 (512 * T + r) c) := by
  simp only [M2, M3] at *
  intro r c
  unfold k0_pay72
  pointwise
  simp only [h1, h3]
  rfl

theorem pay73 (h4 : M2 v (fun r _ => inv 16 (512 * T + r))) {z : FVec Ideal S512x256 .bf16} (h1 : M2 z (fun r c => d.dz 3 (512 * T + r) c)) (h3 : M3 w (fun _ i j => d.W 3 i j)) : M2 (k0_pay73 (F := Ideal) v z w) (fun r c => d.q 3 (512 * T + r) c) := by
  have e0 := pay72 h1 h3
  simp only [M2, M3] at *
  intro r c
  unfold k0_pay73
  pointwise
  simp only [h4, e0]
  rfl

set_option maxHeartbeats 2000000 in
theorem pay74 {z : FVec Ideal S512x256 .bf16} (h1 : M2 z (fun r c => d.dz 3 (512 * T + r) c)) (h3 : M3 w (fun _ i j => d.W 3 i j)) (h2 : M2 qb (fun k c => d.q 3 (512 * T + k) c)) : M3 (k0_pay74 (F := Ideal) z w qb) (fun _ r c => d.dx 3 (512 * T + r) c) := by
  have e0 := pay72 h1 h3
  simp only [M2, M3] at *
  intro k r c
  obtain rfl : k = 0 := Subsingleton.elim _ _
  unfold k0_pay74
  pointwise
  simp only [e0, h2]
  have key := fun a k => q_later (d := d) (T := T) (n := 3) (l := c.val) (r := r.val) (a := a) (k := k)
  unfold Data.dx
  simp only [show 2 ^ (3 + 1) = 16 from rfl, Finset.sum_range_succ, Finset.sum_range_zero, zero_add, add_assoc] at *
  refine congrArg₂ HSub.hSub ?_ rfl
  exact (congrArg₂ HAdd.hAdd (key _ 0 (by omega))
    (congrArg₂ HAdd.hAdd (key _ 1 (by omega))
    (congrArg₂ HAdd.hAdd (key _ 2 (by omega))
    (congrArg₂ HAdd.hAdd (key _ 3 (by omega))
    (congrArg₂ HAdd.hAdd (key _ 4 (by omega))
    (congrArg₂ HAdd.hAdd (key _ 5 (by omega))
    (congrArg₂ HAdd.hAdd (key _ 6 (by omega))
    (congrArg₂ HAdd.hAdd (key _ 7 (by omega))
    (congrArg₂ HAdd.hAdd (key _ 8 (by omega))
    (congrArg₂ HAdd.hAdd (key _ 9 (by omega))
    (congrArg₂ HAdd.hAdd (key _ 10 (by omega))
    (congrArg₂ HAdd.hAdd (key _ 11 (by omega))
    (congrArg₂ HAdd.hAdd (key _ 12 (by omega))
    (congrArg₂ HAdd.hAdd (key _ 13 (by omega))
    (congrArg₂ HAdd.hAdd (key _ 14 (by omega))
    (key _ 15 (by omega)))))))))))))))))

end Cert.Pool
-- ==== Proof.PoolTile.lean ====
module

public import proofs.«01_k».proof.Proof.PoolPay
public import proofs.«01_k».proof.Proof.Gen.KernelIdeal.Frame
public import Idealize.ShloMosaic.Lib.Pipeline.ReadBack
public import Idealize.ShloMosaic.Lib.Pipeline.ValueKit.Tiles

/-!
# Blocks of a tile, read at coordinates

A store's rectangle as a block of one function of the buffer's coordinates, a load's rectangle likewise, and the five
input blocks the body reads.
-/

@[expose] public section

set_option maxRecDepth 16384

noncomputable section

namespace Cert.Pool

open Cert.KernelIdeal Cert.KernelIdeal.Gen Idealize.ShloMosaic Idealize.ShloMosaic.TcCoe Idealize.SL.Sem

section Pieces

variable {e : EltTy} {s : Shape}

/-- Writes that are blocks of `G` read back as `G` wherever one of them lies or the contents before were `G` already. -/
theorem read_writes_at {sig : RefSig} {κ : Kind} {sp : Space} {Val : EltTy → Type} (v : View sig κ sp s e) (f : v.ty.Contents Val)
    (G : s.Idx → Val e) (y : s.Idx) :
    ∀ (L : List (View.Piece Val s e)), View.PiecesOf G L → (v.read Val f y = G y ∨ ∃ p ∈ L, y ∈ p.1.set) →
      v.read Val (v.writes Val f L) y = G y
  | [], _, h => by
    rcases h with h | ⟨p, hp, _⟩
    · rw [View.writes_nil]; exact h
    · exact absurd hp List.not_mem_nil
  | p :: L, hL, h => by
    by_cases hy : y ∈ p.1.set
    · obtain ⟨r, w⟩ := p
      obtain ⟨x, rfl⟩ : ∃ x, r.emb x = y := r.exists_idx_of_mem hy
      rw [View.read_writes_cons_emb]
      exact hL.1 x
    · have hy' : y ∉ Finset.univ.map p.1.emb := by rwa [Rect.map_emb_univ]
      rw [View.writes_cons, View.read_slice_write_of_not_mem p.1 _ _ _ hy']
      refine read_writes_at v f G y L hL.2 ?_
      rcases h with h | ⟨q, hq, hyq⟩
      · exact Or.inl h
      · rcases List.mem_cons.mp hq with rfl | hq'
        · exact absurd hyq hy
        · exact Or.inr ⟨q, hq', hyq⟩

/-- The same for the contents a list of writes names by itself. -/
theorem canon_at {Val : EltTy → Type} [∀ e, Nonempty (Val e)] (G : s.Idx → Val e) (L : List (View.Piece Val s e)) (h : View.PiecesOf G L)
    (y : s.Idx) (hy : ∃ p ∈ L, y ∈ p.1.set) : View.canon L y = G y :=
  View.canon_apply_of_pieces G L h.mem y hy

/-- A store of a matrix block. -/
theorem piece2 {A B a b o0 o1 : ℕ} {inb} (G : ℕ → ℕ → EReal) {F : ℕ → ℕ → EReal} {w : (⟨2, ![a, b]⟩ : Shape).Idx → EReal}
    (hw : M2 w F) (hF : ∀ i j, i < a → j < b → F i j = G (o0 + i) (o1 + j))
    (x : (Rect.unit (s := ⟨2, ![A, B]⟩) ![o0, o1] ![a, b] inb).shape.Idx) :
    w x = (fun y : (⟨2, ![A, B]⟩ : Shape).Idx => G (y 0).val (y 1).val) ((Rect.unit (s := ⟨2, ![A, B]⟩) ![o0, o1] ![a, b] inb).emb x) := by
  have e : w x = F (x 0).val (x 1).val := by
    rw [← hw (x 0) (x 1)]
    congr 1
    funext k
    fin_cases k <;> rfl
  have e0 : ((Rect.unit (s := ⟨2, ![A, B]⟩) ![o0, o1] ![a, b] inb).emb x 0).val = o0 + (x 0).val :=
    Rect.idx_unit_val _ _ _ _ _
  have e1 : ((Rect.unit (s := ⟨2, ![A, B]⟩) ![o0, o1] ![a, b] inb).emb x 1).val = o1 + (x 1).val :=
    Rect.idx_unit_val _ _ _ _ _
  show w x = G ((Rect.unit (s := ⟨2, ![A, B]⟩) ![o0, o1] ![a, b] inb).emb x 0).val ((Rect.unit (s := ⟨2, ![A, B]⟩) ![o0, o1] ![a, b] inb).emb x 1).val
  rw [e, e0, e1]
  exact hF _ _ (x 0).isLt (x 1).isLt

/-- A store of a block of a stack. -/
theorem piece3 {A B C a b c o0 o1 o2 : ℕ} {inb} (G : ℕ → ℕ → ℕ → EReal) {F : ℕ → ℕ → ℕ → EReal}
    {w : (⟨3, ![a, b, c]⟩ : Shape).Idx → EReal} (hw : M3 w F)
    (hF : ∀ i j k, i < a → j < b → k < c → F i j k = G (o0 + i) (o1 + j) (o2 + k))
    (x : (Rect.unit (s := ⟨3, ![A, B, C]⟩) ![o0, o1, o2] ![a, b, c] inb).shape.Idx) :
    w x = (fun y : (⟨3, ![A, B, C]⟩ : Shape).Idx => G (y 0).val (y 1).val (y 2).val)
      ((Rect.unit (s := ⟨3, ![A, B, C]⟩) ![o0, o1, o2] ![a, b, c] inb).emb x) := by
  have e : w x = F (x 0).val (x 1).val (x 2).val := by
    rw [← hw (x 0) (x 1) (x 2)]
    congr 1
    funext k
    fin_cases k <;> rfl
  have e0 : ((Rect.unit (s := ⟨3, ![A, B, C]⟩) ![o0, o1, o2] ![a, b, c] inb).emb x 0).val = o0 + (x 0).val :=
    Rect.idx_unit_val _ _ _ _ _
  have e1 : ((Rect.unit (s := ⟨3, ![A, B, C]⟩) ![o0, o1, o2] ![a, b, c] inb).emb x 1).val = o1 + (x 1).val :=
    Rect.idx_unit_val _ _ _ _ _
  have e2 : ((Rect.unit (s := ⟨3, ![A, B, C]⟩) ![o0, o1, o2] ![a, b, c] inb).emb x 2).val = o2 + (x 2).val :=
    Rect.idx_unit_val _ _ _ _ _
  show w x = G ((Rect.unit (s := ⟨3, ![A, B, C]⟩) ![o0, o1, o2] ![a, b, c] inb).emb x 0).val
    ((Rect.unit (s := ⟨3, ![A, B, C]⟩) ![o0, o1, o2] ![a, b, c] inb).emb x 1).val
    ((Rect.unit (s := ⟨3, ![A, B, C]⟩) ![o0, o1, o2] ![a, b, c] inb).emb x 2).val
  rw [e, e0, e1, e2]
  exact hF _ _ _ (x 0).isLt (x 1).isLt (x 2).isLt

/-- A load of a matrix block. -/
theorem load2 {A B a b o0 o1 : ℕ} {e : EltTy} {Val : EltTy → Type} {inb} (X : (⟨2, ![A, B]⟩ : Shape).Idx → Val e)
    (i : Fin a) (j : Fin b) (h0 : o0 + i.val < A) (h1 : o1 + j.val < B) :
    View.ld X (Rect.unit (s := ⟨2, ![A, B]⟩) ![o0, o1] ![a, b] inb) (ix2 i j) = X (ix2 ⟨o0 + i.val, h0⟩ ⟨o1 + j.val, h1⟩) :=
  View.ld_unit_apply_of X _ _ _ _ _ fun k => by fin_cases k <;> rfl

/-- A load of a block of a stack. -/
theorem load3 {A B C a b c o0 o1 o2 : ℕ} {e : EltTy} {Val : EltTy → Type} {inb} (X : (⟨3, ![A, B, C]⟩ : Shape).Idx → Val e)
    (i : Fin a) (j : Fin b) (k : Fin c) (h0 : o0 + i.val < A) (h1 : o1 + j.val < B) (h2 : o2 + k.val < C) :
    View.ld X (Rect.unit (s := ⟨3, ![A, B, C]⟩) ![o0, o1, o2] ![a, b, c] inb) (ix3 i j k)
      = X (ix3 ⟨o0 + i.val, h0⟩ ⟨o1 + j.val, h1⟩ ⟨o2 + k.val, h2⟩) :=
  View.ld_unit_apply_of X _ _ _ _ _ fun k => by fin_cases k <;> rfl

end Pieces

/-- The five blocks the body reads at tile `T`. -/
structure Tile (d : Data) (T : ℕ) (x0 : Vec Ideal S2x512x1024 .f32) (x1 : Vec Ideal S1x16x1024 .f32) (x2 : Vec Ideal S512x1024 .f32)
    (x3 : Vec Ideal S4x256x256 .bf16) (x4 : Vec Ideal S8x1024 .f32) : Prop where
  lt : T < 8
  x : ∀ (r : Fin 512) (l : Fin 1024), x0 (ix3 0 r l) = d.X (512 * T + r.val) l.val
  g : ∀ (r : Fin 512) (l : Fin 1024), x0 (ix3 1 r l) = d.G (512 * T + r.val) l.val
  halo : T ≠ 0 → ∀ (r : Fin 16) (l : Fin 1024), x1 (ix3 0 r l) = d.X (512 * T + r.val - 16) l.val
  dy : M2 (n := 512) (m := 1024) x2 (fun r l => d.D (512 * T + r) l)
  w : M3 (k := 4) (n := 256) (m := 256) x3 d.W
  b : ∀ l : Fin 1024, x4 (ix2 0 l) = d.B l.val
  sc : ∀ l : Fin 1024, x4 (ix2 1 l) = d.Sc l.val

namespace Tile

variable {d : Data} {T : ℕ} {x0 : Vec Ideal S2x512x1024 .f32} {x1 : Vec Ideal S1x16x1024 .f32} {x2 : Vec Ideal S512x1024 .f32}
  {x3 : Vec Ideal S4x256x256 .bf16} {x4 : Vec Ideal S8x1024 .f32} (h : Tile d T x0 x1 x2 x3 x4)
include h

theorem ldX {g : ℕ} (hg : g < 4) {inb} : M3 (View.ld x0 (Rect.unit ![0, 0, 256 * g] S1x512x256.size inb)) (fun _ r c => d.X (512 * T + r) (256 * g + c)) := by
  intro a r c
  obtain rfl : a = 0 := Subsingleton.elim _ _
  refine (load3 x0 _ _ _ (by decide) (by omega) (by omega)).trans ?_
  simpa using h.x r ⟨256 * g + c.val, by omega⟩

theorem ldG {g : ℕ} (hg : g < 4) {inb} : M3 (View.ld x0 (Rect.unit ![1, 0, 256 * g] S1x512x256.size inb)) (fun _ r c => d.G (512 * T + r) (256 * g + c)) := by
  intro a r c
  obtain rfl : a = 0 := Subsingleton.elim _ _
  refine (load3 x0 _ _ _ (by decide) (by omega) (by omega)).trans ?_
  simpa using h.g r ⟨256 * g + c.val, by omega⟩

theorem ldD {g : ℕ} (hg : g < 4) {inb} : M2 (View.ld x2 (Rect.unit ![0, 256 * g] S512x256.size inb)) (fun r c => d.D (512 * T + r) (256 * g + c)) := by
  intro r c
  refine (load2 x2 _ _ (by omega) (by omega)).trans ?_
  simpa using h.dy r ⟨256 * g + c.val, by omega⟩

theorem ldW {g : ℕ} (hg : g < 4) {inb} : M3 (View.ld x3 (Rect.unit ![g, 0, 0] S1x256x256.size inb)) (fun _ i j => d.W g i j) := by
  intro a i j
  obtain rfl : a = 0 := Subsingleton.elim _ _
  refine (load3 x3 _ _ _ (by simpa using hg) (by omega) (by omega)).trans ?_
  simpa using h.w ⟨g, hg⟩ i j

theorem ldB {g : ℕ} (hg : g < 4) {inb} : M2 (View.ld x4 (Rect.unit ![0, 256 * g] S1x256.size inb)) (fun _ c => d.B (256 * g + c)) := by
  intro r c
  obtain rfl : r = 0 := Subsingleton.elim _ _
  refine (load2 x4 _ _ (by decide) (by omega)).trans ?_
  simpa using h.b ⟨256 * g + c.val, by omega⟩

theorem ldSc {g : ℕ} (hg : g < 4) {inb} : M2 (View.ld x4 (Rect.unit ![1, 256 * g] S1x256.size inb)) (fun _ c => d.Sc (256 * g + c)) := by
  intro r c
  obtain rfl : r = 0 := Subsingleton.elim _ _
  refine (load2 x4 _ _ (by decide) (by omega)).trans ?_
  simpa using h.sc ⟨256 * g + c.val, by omega⟩

end Tile

end Cert.Pool
-- ==== Proof.PoolBlocks.lean ====
module

public import proofs.«01_k».proof.Proof.PoolTile

/-!
# The buffers a tile leaves, as functions of their coordinates
-/

@[expose] public section

set_option maxRecDepth 16384

noncomputable section

namespace Cert.Pool

open Cert.KernelIdeal Cert.KernelIdeal.Gen Idealize.ShloMosaic Idealize.ShloMosaic.TcCoe Idealize.SL.Sem

/-- The block of the input's gradient: the branch's input above, its gate below. -/
def out5G (d : Data) (T a r l : ℕ) : EReal :=
  if a = 0 then d.dx (l / 256) (512 * T + r) (l % 256) else d.dgate (l / 256) (512 * T + r) (l % 256)

/-- The bias' and the scale's gradients over the steps from `s` on; the other rows are zero. -/
def dvG (d : Data) (s a l : ℕ) : EReal :=
  if a = 0 then d.dB (l / 256) (l % 256) s else if a = 1 then d.dSc (l / 256) (l % 256) s else 0

/-- The gradient of the windows' sums at row `k` counted from the tile's first step. -/
def qG (d : Data) (T k l : ℕ) : EReal := d.q (l / 256) (512 * T + k) (l % 256)

/-- What the tile hands down: its own rows, and its first sixteen rows again below them. -/
def soG (d : Data) (T k l : ℕ) : EReal := if k < 512 then qG d T k l else qG d T (k - 512) l

/-- The mixing matrices' gradients over the steps from `s` on. -/
def accG (d : Data) (s a i j : ℕ) : EReal := d.dW a i j s

theorem lane_div {g c : ℕ} (hc : c < 256) : (256 * g + c) / 256 = g := by omega
theorem lane_mod {g c : ℕ} (hc : c < 256) : (256 * g + c) % 256 = c := by omega

/-- An index of a matrix block's rectangle. -/
theorem mem2 {A B a b o0 o1 : ℕ} {inb} (y : (⟨2, ![A, B]⟩ : Shape).Idx) (h0 : o0 ≤ (y 0).val) (h1 : (y 0).val < o0 + a)
    (h2 : o1 ≤ (y 1).val) (h3 : (y 1).val < o1 + b) : y ∈ (Rect.unit (s := ⟨2, ![A, B]⟩) ![o0, o1] ![a, b] inb).set :=
  Rect.mem_set_unit.mpr fun k => by fin_cases k; exacts [⟨h0, h1⟩, ⟨h2, h3⟩]

/-- An index of a stack block's rectangle. -/
theorem mem3 {A B C a b c o0 o1 o2 : ℕ} {inb} (y : (⟨3, ![A, B, C]⟩ : Shape).Idx) (h0 : o0 ≤ (y 0).val) (h1 : (y 0).val < o0 + a)
    (h2 : o1 ≤ (y 1).val) (h3 : (y 1).val < o1 + b) (h4 : o2 ≤ (y 2).val) (h5 : (y 2).val < o2 + c) :
    y ∈ (Rect.unit (s := ⟨3, ![A, B, C]⟩) ![o0, o1, o2] ![a, b, c] inb).set :=
  Rect.mem_set_unit.mpr fun k => by fin_cases k; exacts [⟨h0, h1⟩, ⟨h2, h3⟩, ⟨h4, h5⟩]

/-- Where a load of a matrix block reads. -/
theorem idx2 {A B a b o0 o1 : ℕ} {inb} (i : Fin a) (j : Fin b) {i' : Fin A} {j' : Fin B} (h0 : i'.val = o0 + i.val) (h1 : j'.val = o1 + j.val) :
    (Rect.unit (s := ⟨2, ![A, B]⟩) ![o0, o1] ![a, b] inb).idx (ix2 i j) = ix2 i' j' :=
  funext fun k => Fin.ext ((Rect.idx_unit_val _ _ _ _ k).trans (by fin_cases k; exacts [h0.symm, h1.symm]))

section Blocks

variable (d : Data) (T : ℕ) (g : ℕ)

theorem p5x : ∀ i j k, i < 1 → j < 512 → k < 256 → d.dx g (512 * T + j) k = out5G d T (0 + i) (0 + j) (256 * g + k) := by
  intro i j k hi hj hk
  obtain rfl : i = 0 := by omega
  simp only [out5G, lane_div hk, lane_mod hk, Nat.zero_add, if_true]

theorem p5g : ∀ i j k, i < 1 → j < 512 → k < 256 → d.dgate g (512 * T + j) k = out5G d T (1 + i) (0 + j) (256 * g + k) := by
  intro i j k hi hj hk
  obtain rfl : i = 0 := by omega
  simp only [out5G, lane_div hk, lane_mod hk, Nat.zero_add, Nat.add_zero, one_ne_zero, if_false]

theorem pvb (s : ℕ) : ∀ i j, i < 1 → j < 256 → d.dB g j s = dvG d s (0 + i) (256 * g + j) := by
  intro i j hi hj
  obtain rfl : i = 0 := by omega
  simp only [dvG, lane_div hj, lane_mod hj, Nat.zero_add, if_true]

theorem pvs (s : ℕ) : ∀ i j, i < 1 → j < 256 → d.dSc g j s = dvG d s (1 + i) (256 * g + j) := by
  intro i j hi hj
  obtain rfl : i = 0 := by omega
  simp only [dvG, lane_div hj, lane_mod hj, Nat.add_zero, one_ne_zero, if_false, if_true]

theorem pq : ∀ i j, i < 512 → j < 256 → d.q g (512 * T + i) j = qG d T (0 + i) (256 * g + j) := by
  intro i j hi hj
  simp only [qG, lane_div hj, lane_mod hj, Nat.zero_add]

theorem pso : ∀ i j, i < 512 → j < 256 → d.q g (512 * T + i) j = soG d T (0 + i) (256 * g + j) := by
  intro i j hi hj
  simp only [soG, qG, lane_div hj, lane_mod hj, Nat.zero_add, hi, if_true]

theorem psh : ∀ i j, i < 16 → j < 1024 → qG d T i j = soG d T (512 + i) (0 + j) := by
  intro i j hi hj
  simp only [soG, show ¬ (512 + i < 512) by omega, if_false, Nat.add_sub_cancel_left, Nat.zero_add]

theorem pacc (s : ℕ) : ∀ i j k, i < 1 → j < 256 → k < 256 → d.dW g j k s = accG d s (g + i) (0 + j) (0 + k) := by
  intro i j k hi hj hk
  obtain rfl : i = 0 := by omega
  simp only [accG, Nat.zero_add, Nat.add_zero]

end Blocks

/-- No gradient comes from past the last step. -/
theorem q_past (d : Data) (hD : ∀ t l, 4096 ≤ t → d.D t l = 0) (g t c : ℕ) (ht : 4096 ≤ t) : d.q g t c = 0 := by
  simp only [Data.q, Data.dpl, Data.dz, Data.dyp, hD _ _ ht, zero_mul, Finset.sum_const_zero]

section Payloads

variable {d : Data} {T : ℕ}

theorem pay1 {x : FVec Ideal S16x1024 .f32} {F : ℕ → ℕ → EReal} (h : M2 x F) : M2 (k0_pay1 (F := Ideal) x) F := by
  intro r c
  unfold k0_pay1
  pointwise
  exact h r c

theorem pay2 {x : FVec Ideal S4x256x256 .f32} {F : ℕ → ℕ → ℕ → EReal} (h : M3 x F) : M3 (k0_pay2 (F := Ideal) x) F := by
  intro a r c
  unfold k0_pay2
  pointwise
  exact h a r c

theorem pay3 : M2 (k0_pay3 (F := Ideal)) (fun _ _ => 0) := by
  intro r c
  unfold k0_pay3
  pointwise

theorem pay4 : M3 (k0_pay4 (F := Ideal)) (fun _ _ _ => 0) := by
  intro a r c
  unfold k0_pay4
  pointwise

theorem pay5 : M2 (k0_pay5 (F := Ideal)) (fun _ _ => 0) := by
  intro r c
  unfold k0_pay5
  pointwise

theorem pay7 {x : FVec Ideal S1x512x1024 .f32} {F : ℕ → ℕ → EReal} (h : M3 x (fun _ => F)) : M2 (k0_pay7 (F := Ideal) x) F := by
  intro r c
  unfold k0_pay7
  pointwise
  exact h 0 r c

theorem pay6 {i : grid0.Coords} (hv : Scalar.subi 7#32 (BitVec.ofNat 32 (i 0).val) = BitVec.ofNat 32 T) (hT : T < 8)
    {x : FVec Ideal S1x16x1024 .f32} (h : T ≠ 0 → M3 x (fun _ r l => d.X (512 * T + r - 16) l)) :
    M2 (k0_pay6 (F := Ideal) i x) (fun r l => d.xb T r l) := by
  intro r c
  unfold k0_pay6
  pointwise
  rw [hv]
  by_cases hz : T = 0
  · subst hz
    have e : d.xb 0 r.val c.val = 0 := if_neg (by omega)
    rw [e]
    rfl
  · have e : d.xb T r.val c.val = d.X (512 * T + r.val - 16) c.val := if_pos (by omega)
    have e3 : x (ix3 0 r c) = d.X (512 * T + r.val - 16) c.val := h hz 0 r c
    rw [e, ← e3]
    have e2 : Scalar.cmpi .eq (BitVec.ofNat 32 T) 0#32 = 0#1 := by interval_cases T <;> first | exact absurd rfl hz | rfl
    rw [e2]
    rfl

end Payloads

namespace Tile

variable {d : Data} {T : ℕ} {x0 : Vec Ideal S2x512x1024 .f32} {x1 : Vec Ideal S1x16x1024 .f32} {x2 : Vec Ideal S512x1024 .f32}
  {x3 : Vec Ideal S4x256x256 .bf16} {x4 : Vec Ideal S8x1024 .f32} (h : Tile d T x0 x1 x2 x3 x4)
include h

/-- The input with its history, read at a group's lanes. -/
theorem xbl {i : grid0.Coords} (hv : Scalar.subi 7#32 (BitVec.ofNat 32 (i 0).val) = BitVec.ofNat 32 T) {g : ℕ} (hg : g < 4)
    {sig : RefSig} {κ : Kind} {sp : Space} (v : View sig κ sp S528x1024 .f32) {inb1 inb2 inb3 inb4 inb} :
    M2 (v.readCov (Val := Elt Ideal) [⟨Rect.unit ![16, 0] S512x1024.size inb1, k0_pay7 (View.ld x0 (Rect.unit ![0, 0, 0] S1x512x1024.size inb2))⟩,
        ⟨Rect.unit ![0, 0] S16x1024.size inb3, k0_pay6 i (View.ld x1 (Rect.unit ![0, 0, 0] S1x16x1024.size inb4))⟩]
        (Rect.unit (s := S528x1024) ![0, 256 * g] S528x256.size inb).toLoadRect) (fun k c => d.xb T k (256 * g + c)) := by
  intro r c
  rw [View.readCov_eq_canon']
  have hr := r.isLt
  have e : (Rect.unit (s := S528x1024) ![0, 256 * g] S528x256.size inb).toLoadRect.idx (ix2 r c)
      = ix2 r ⟨256 * g + c.val, by omega⟩ := idx2 _ _ (by simp) (by simp)
  dsimp only
  rw [e]
  refine (canon_at (fun y : S528x1024.Idx => d.xb T (y 0).val (y 1).val) _ ?_ _ ?_).trans ?_
  · refine ⟨?_, ?_, trivial⟩
    · dsimp only
      refine piece2 (d.xb T) (pay7 (F := fun r l => d.X (512 * T + r) l) ?_) ?_
      · intro a r c
        obtain rfl : a = 0 := Subsingleton.elim _ _
        refine (load3 x0 _ _ _ (by decide) (by omega) (by omega)).trans ?_
        simpa using h.x r c
      · intro i j hi hj
        rw [Data.xb, if_pos (by omega), Nat.zero_add]
        congr 1
        omega
    · dsimp only
      refine piece2 (d.xb T) (pay6 (d := d) hv h.lt ?_) ?_
      · intro hz a r c
        obtain rfl : a = 0 := Subsingleton.elim _ _
        refine (load3 x1 _ _ _ (by decide) (by omega) (by omega)).trans ?_
        simpa using h.halo hz r c
      · intro i j hi hj
        rw [Nat.zero_add, Nat.zero_add]
  · by_cases hlt : r.val < 16
    · refine List.exists_mem_cons_of_exists (List.exists_mem_cons_of _ ?_)
      exact mem2 (inb := inb3) _ (Nat.zero_le _) (by simpa using hlt) (Nat.zero_le _) (by simp <;> omega)
    · refine List.exists_mem_cons_of _ ?_
      exact mem2 (inb := inb1) _ (by simpa using hlt) (by simp <;> omega) (Nat.zero_le _) (by simp <;> omega)
  · rfl

end Tile

section Carried

variable {d : Data} {T : ℕ}

/-- The window sums' gradients read back over what the next tile left. -/
theorem qbl {sig : RefSig} {κ : Kind} {sp : Space} (v : View sig κ sp S528x1024 .f32) (f : v.ty.Contents (Elt Ideal))
    {g : ℕ} (hg : g < 4) {inb inb'} {w : (⟨2, ![512, 256]⟩ : Shape).Idx → EReal} {L : List (View.Piece (Elt Ideal) S528x1024 .f32)}
    (hf : ∀ y : S528x1024.Idx, 512 ≤ (y 0).val → v.read (Elt Ideal) f y = qG d T (y 0).val (y 1).val)
    (hL : View.PiecesOf (Val := Elt Ideal) (e := .f32) (fun y : S528x1024.Idx => qG d T (y 0).val (y 1).val)
      (⟨Rect.unit (s := S528x1024) ![0, 256 * g] ![512, 256] inb, w⟩ :: L)) :
    M2 (View.ld (v.read (Elt Ideal) (v.writes (Elt Ideal) f (⟨Rect.unit (s := S528x1024) ![0, 256 * g] ![512, 256] inb, w⟩ :: L)))
      (Rect.unit (s := S528x1024) ![0, 256 * g] ![528, 256] inb')) (fun k c => d.q g (512 * T + k) c) := by
  intro r c
  have hr := r.isLt
  have hc := c.isLt
  refine (load2 _ _ _ (by omega) (by omega)).trans ?_
  refine (read_writes_at v f _ _ _ hL ?_).trans ?_
  · by_cases h : 512 ≤ r.val
    · exact Or.inl (hf _ (by simpa using h))
    · refine Or.inr (List.exists_mem_cons_of _ ?_)
      exact mem2 (inb := inb) _ (by simp) (by simp; omega) (by simp) (by simp)
  · simp [qG, lane_div hc, lane_mod hc]

/-- The same where the rows below are the last store's. -/
theorem qblc {sig : RefSig} {κ : Kind} {sp : Space} (v : View sig κ sp S528x1024 .f32)
    {g : ℕ} (hg : g < 4) {inb inb'} {w : (⟨2, ![512, 256]⟩ : Shape).Idx → EReal} {L : List (View.Piece (Elt Ideal) S528x1024 .f32)}
    (hL : View.PiecesOf (Val := Elt Ideal) (e := .f32) (fun y : S528x1024.Idx => qG d T (y 0).val (y 1).val)
      (⟨Rect.unit (s := S528x1024) ![0, 256 * g] ![512, 256] inb, w⟩ :: L))
    (hf : ∀ y : S528x1024.Idx, 512 ≤ (y 0).val → ∃ p ∈ L, y ∈ p.1.set) :
    M2 (v.readCov (⟨Rect.unit (s := S528x1024) ![0, 256 * g] ![512, 256] inb, w⟩ :: L)
      (Rect.unit (s := S528x1024) ![0, 256 * g] ![528, 256] inb').toLoadRect) (fun k c => d.q g (512 * T + k) c) := by
  intro r c
  have hr := r.isLt
  have hc := c.isLt
  rw [View.readCov_eq_canon']
  have e : (Rect.unit (s := S528x1024) ![0, 256 * g] ![528, 256] inb').toLoadRect.idx (ix2 r c)
      = ix2 r ⟨256 * g + c.val, by omega⟩ := idx2 _ _ (by simp) (by simp)
  dsimp only
  rw [e]
  refine (canon_at _ _ hL _ ?_).trans ?_
  · by_cases h : 512 ≤ r.val
    · exact List.exists_mem_cons_of_exists (hf _ (by simpa using h))
    · refine List.exists_mem_cons_of _ ?_
      exact mem2 (inb := inb) _ (by simp) (by simp; omega) (by simp) (by simp)
  · simp [qG, lane_div hc, lane_mod hc]

/-- The first sixteen rows read back. -/
theorem hbl {sig : RefSig} {κ : Kind} {sp : Space} (v : View sig κ sp S528x1024 .f32) {inb'}
    {L : List (View.Piece (Elt Ideal) S528x1024 .f32)}
    (hL : View.PiecesOf (Val := Elt Ideal) (e := .f32) (fun y : S528x1024.Idx => qG d T (y 0).val (y 1).val) L)
    (hf : ∀ y : S528x1024.Idx, (y 0).val < 512 → ∃ p ∈ L, y ∈ p.1.set) :
    M2 (v.readCov L (Rect.unit (s := S528x1024) ![0, 0] ![16, 1024] inb').toLoadRect) (qG d T) := by
  intro r c
  rw [View.readCov_eq_canon']
  have e : (Rect.unit (s := S528x1024) ![0, 0] ![16, 1024] inb').toLoadRect.idx (ix2 r c)
      = ix2 ⟨r.val, by omega⟩ c := idx2 _ _ (by simp) (by simp)
  dsimp only
  rw [e]
  exact canon_at _ _ hL _ (hf _ (by simp; omega))

/-- A gradient row read from what the next tile left. -/
theorem vldb {xo : Vec Ideal S8x1024 .f32} {s : ℕ} (h : ∀ y : S8x1024.Idx, xo y = dvG d s (y 0).val (y 1).val) {g : ℕ} (hg : g < 4) {inb} :
    M2 (View.ld xo (Rect.unit (s := S8x1024) ![0, 256 * g] ![1, 256] inb)) (fun _ c => d.dB g c s) := by
  intro r c
  have hc := c.isLt
  obtain rfl : r = 0 := Subsingleton.elim _ _
  refine (load2 xo _ _ (by decide) (by omega)).trans ((h _).trans ?_)
  simp [dvG, lane_div hc, lane_mod hc]

theorem vlds {xo : Vec Ideal S8x1024 .f32} {s : ℕ} (h : ∀ y : S8x1024.Idx, xo y = dvG d s (y 0).val (y 1).val) {g : ℕ} (hg : g < 4) {inb} :
    M2 (View.ld xo (Rect.unit (s := S8x1024) ![1, 256 * g] ![1, 256] inb)) (fun _ c => d.dSc g c s) := by
  intro r c
  have hc := c.isLt
  obtain rfl : r = 0 := Subsingleton.elim _ _
  refine (load2 xo _ _ (by decide) (by omega)).trans ((h _).trans ?_)
  simp [dvG, lane_div hc, lane_mod hc]

/-- A matrix' gradient read from what the next tile left. -/
theorem acl {xs : Vec Ideal S4x256x256 .f32} {s : ℕ} (h : ∀ y : S4x256x256.Idx, xs y = accG d s (y 0).val (y 1).val (y 2).val)
    {g : ℕ} (hg : g < 4) {inb} :
    M3 (View.ld xs (Rect.unit (s := S4x256x256) ![g, 0, 0] ![1, 256, 256] inb)) (fun _ i j => d.dW g i j s) := by
  intro a i j
  obtain rfl : a = 0 := Subsingleton.elim _ _
  refine (load3 xs _ _ _ (by simpa using hg) (by omega) (by omega)).trans ((h _).trans ?_)
  simp [accG]

/-- Before the last tile the sums are empty. -/
theorem pay5_dv : ∀ y : S8x1024.Idx, k0_pay5 (F := Ideal) y = dvG d 4096 (y 0).val (y 1).val := by
  intro y
  have e : k0_pay5 (F := Ideal) y = 0 := by
    have hy : y = ix2 (y 0) (y 1) := funext fun k => by fin_cases k <;> rfl
    rw [hy]
    exact pay5 (y 0) (y 1)
  rw [e]
  simp [dvG, Data.dB, Data.dSc]

theorem pay4_acc : ∀ y : S4x256x256.Idx, k0_pay4 (F := Ideal) y = accG d 4096 (y 0).val (y 1).val (y 2).val := by
  intro y
  have e : k0_pay4 (F := Ideal) y = 0 := by
    have hy : y = ix3 (y 0) (y 1) (y 2) := funext fun k => by fin_cases k <;> rfl
    rw [hy]
    exact pay4 (y 0) (y 1) (y 2)
  rw [e]
  simp [accG, Data.dW]

end Carried

theorem pcons {s : Shape} {e : EltTy} {Val : EltTy → Type} {G : s.Idx → Val e} {r : Rect s} {w : r.shape.Idx → Val e} {L : List (View.Piece Val s e)}
    (h1 : ∀ x : r.shape.Idx, w x = G (r.emb x)) (h2 : View.PiecesOf G L) : View.PiecesOf G (⟨r, w⟩ :: L) := ⟨h1, h2⟩

theorem pnil {s : Shape} {e : EltTy} {Val : EltTy → Type} {G : s.Idx → Val e} : View.PiecesOf G ([] : List (View.Piece Val s e)) := trivial

theorem canon_or {s : Shape} {e : EltTy} {Val : EltTy → Type} [∀ e, Nonempty (Val e)] {G : s.Idx → Val e} {y : s.Idx} (L L0 : List (View.Piece Val s e))
    (h : View.PiecesOf G L) (hb : View.canon L0 y = G y ∨ ∃ p ∈ L, y ∈ p.1.set) : View.canon (L ++ L0) y = G y := by
  induction L with
  | nil =>
    rcases hb with hb | ⟨p, hp, _⟩
    · exact hb
    · exact absurd hp List.not_mem_nil
  | cons p L ih =>
    by_cases hy : y ∈ p.1.set
    · obtain ⟨r, w⟩ := p
      obtain ⟨x, rfl⟩ : ∃ x, r.emb x = y := r.exists_idx_of_mem hy
      rw [List.cons_append, View.canon_cons_emb]
      exact h.1 x
    · rw [List.cons_append, View.canon_cons_of_not_mem _ _ hy]
      refine ih h.2 ?_
      rcases hb with hb | ⟨q, hq, hyq⟩
      · exact Or.inl hb
      · rcases List.mem_cons.mp hq with rfl | hq'
        · exact absurd hyq hy
        · exact Or.inr ⟨q, hq', hyq⟩

section Or

variable {s : Shape} {e : EltTy} {Val : EltTy → Type} [∀ e, Nonempty (Val e)] {G : s.Idx → Val e} {y : s.Idx} {L0 : List (View.Piece Val s e)}
  {p1 p2 p3 p4 p5 p6 p7 p8 : View.Piece Val s e}

theorem canon_or4 (h : View.PiecesOf G [p1, p2, p3, p4]) (hb : View.canon L0 y = G y ∨ ∃ p ∈ [p1, p2, p3, p4], y ∈ p.1.set) :
    View.canon (p1 :: p2 :: p3 :: p4 :: L0) y = G y := canon_or [p1, p2, p3, p4] L0 h hb

theorem canon_or5 (h : View.PiecesOf G [p1, p2, p3, p4, p5]) (hb : View.canon L0 y = G y ∨ ∃ p ∈ [p1, p2, p3, p4, p5], y ∈ p.1.set) :
    View.canon (p1 :: p2 :: p3 :: p4 :: p5 :: L0) y = G y := canon_or [p1, p2, p3, p4, p5] L0 h hb

theorem canon_or8 (h : View.PiecesOf G [p1, p2, p3, p4, p5, p6, p7, p8])
    (hb : View.canon L0 y = G y ∨ ∃ p ∈ [p1, p2, p3, p4, p5, p6, p7, p8], y ∈ p.1.set) :
    View.canon (p1 :: p2 :: p3 :: p4 :: p5 :: p6 :: p7 :: p8 :: L0) y = G y := canon_or [p1, p2, p3, p4, p5, p6, p7, p8] L0 h hb

end Or

/-- A read that an earlier-written block does not meet skips it. -/
theorem skip2 {sig : RefSig} {κ : Kind} {sp : Space} {A B n m o0 o1 : ℕ} {inb'} (v : View sig κ sp (⟨2, ![A, B]⟩ : Shape) .f32) {r : Rect (⟨2, ![A, B]⟩ : Shape)}
    {w : r.shape.Idx → EReal} {L : List (View.Piece (Elt Ideal) (⟨2, ![A, B]⟩ : Shape) .f32)} {F : ℕ → ℕ → EReal}
    (h : LoadRect.disj r (Rect.unit (s := ⟨2, ![A, B]⟩) ![o0, o1] ![n, m] inb').toLoadRect = true)
    (hL : M2 (v.readCov (Val := Elt Ideal) L (Rect.unit (s := ⟨2, ![A, B]⟩) ![o0, o1] ![n, m] inb').toLoadRect) F) :
    M2 (v.readCov (Val := Elt Ideal) (⟨r, w⟩ :: L) (Rect.unit (s := ⟨2, ![A, B]⟩) ![o0, o1] ![n, m] inb').toLoadRect) F := by
  rw [View.readCov_skip v r w L _ h]
  exact hL

theorem skip3 {sig : RefSig} {κ : Kind} {sp : Space} {A B C n m k o0 o1 o2 : ℕ} {inb'} (v : View sig κ sp (⟨3, ![A, B, C]⟩ : Shape) .f32) {r : Rect (⟨3, ![A, B, C]⟩ : Shape)}
    {w : r.shape.Idx → EReal} {L : List (View.Piece (Elt Ideal) (⟨3, ![A, B, C]⟩ : Shape) .f32)} {F : ℕ → ℕ → ℕ → EReal}
    (h : LoadRect.disj r (Rect.unit (s := ⟨3, ![A, B, C]⟩) ![o0, o1, o2] ![n, m, k] inb').toLoadRect = true)
    (hL : M3 (v.readCov (Val := Elt Ideal) L (Rect.unit (s := ⟨3, ![A, B, C]⟩) ![o0, o1, o2] ![n, m, k] inb').toLoadRect) F) :
    M3 (v.readCov (Val := Elt Ideal) (⟨r, w⟩ :: L) (Rect.unit (s := ⟨3, ![A, B, C]⟩) ![o0, o1, o2] ![n, m, k] inb').toLoadRect) F := by
  rw [View.readCov_skip v r w L _ h]
  exact hL

/-- A block read from a buffer one store filled. -/
theorem fill2 {sig : RefSig} {κ : Kind} {sp : Space} {A B n m o0 o1 : ℕ} {inb inb'} (v : View sig κ sp (⟨2, ![A, B]⟩ : Shape) .f32)
    {w : Vec Ideal (⟨2, ![A, B]⟩ : Shape) .f32} {F : ℕ → ℕ → EReal}
    (h : M2 (View.ld w (Rect.unit (s := ⟨2, ![A, B]⟩) ![o0, o1] ![n, m] inb')) F) :
    M2 (v.readCov (Val := Elt Ideal) [⟨Rect.unit (s := ⟨2, ![A, B]⟩) ![0, 0] ![A, B] inb, w⟩] (Rect.unit (s := ⟨2, ![A, B]⟩) ![o0, o1] ![n, m] inb').toLoadRect) F := by
  have e := View.readCov_fill v inb w [] (Rect.unit (s := ⟨2, ![A, B]⟩) ![o0, o1] ![n, m] inb') (fun a => by fin_cases a <;> rfl)
  have e' : v.readCov (Val := Elt Ideal) [⟨Rect.unit (s := ⟨2, ![A, B]⟩) ![0, 0] ![A, B] inb, w⟩] (Rect.unit (s := ⟨2, ![A, B]⟩) ![o0, o1] ![n, m] inb').toLoadRect
    = View.ld w (Rect.unit (s := ⟨2, ![A, B]⟩) ![o0, o1] ![n, m] inb') := e
  rw [e']
  exact h

theorem fill3 {sig : RefSig} {κ : Kind} {sp : Space} {A B C n m k o0 o1 o2 : ℕ} {inb inb'} (v : View sig κ sp (⟨3, ![A, B, C]⟩ : Shape) .f32)
    {w : Vec Ideal (⟨3, ![A, B, C]⟩ : Shape) .f32} {F : ℕ → ℕ → ℕ → EReal}
    (h : M3 (View.ld w (Rect.unit (s := ⟨3, ![A, B, C]⟩) ![o0, o1, o2] ![n, m, k] inb')) F) :
    M3 (v.readCov (Val := Elt Ideal) [⟨Rect.unit (s := ⟨3, ![A, B, C]⟩) ![0, 0, 0] ![A, B, C] inb, w⟩] (Rect.unit (s := ⟨3, ![A, B, C]⟩) ![o0, o1, o2] ![n, m, k] inb').toLoadRect) F := by
  have e' : v.readCov (Val := Elt Ideal) [⟨Rect.unit (s := ⟨3, ![A, B, C]⟩) ![0, 0, 0] ![A, B, C] inb, w⟩] (Rect.unit (s := ⟨3, ![A, B, C]⟩) ![o0, o1, o2] ![n, m, k] inb').toLoadRect
    = View.ld w (Rect.unit (s := ⟨3, ![A, B, C]⟩) ![o0, o1, o2] ![n, m, k] inb') :=
    View.readCov_fill v inb w [] (Rect.unit (s := ⟨3, ![A, B, C]⟩) ![o0, o1, o2] ![n, m, k] inb') (fun a => by fin_cases a <;> rfl)
  rw [e']
  exact h

theorem cov512 (y : S528x1024.Idx) (h : 512 ≤ (y 0).val) {w : (⟨2, ![16, 1024]⟩ : Shape).Idx → EReal} {inb} {L : List (View.Piece (Elt Ideal) S528x1024 .f32)} :
    ∃ p ∈ ((⟨Rect.unit (s := S528x1024) ![512, 0] ![16, 1024] inb, w⟩ :: L) : List (View.Piece (Elt Ideal) S528x1024 .f32)), y ∈ p.1.set := by
  have hy : (y 0).val < 528 := (y 0).isLt
  have hy1 : (y 1).val < 1024 := (y 1).isLt
  exact List.exists_mem_cons_of _ (mem2 (inb := inb) _ (by omega) (by omega) (by omega) (by omega))

theorem pz {d : Data} (hD : ∀ t l, 4096 ≤ t → d.D t l = 0) : ∀ i j, i < 16 → j < 1024 → (0 : EReal) = qG d 7 (512 + i) (0 + j) := by
  intro i j _ _
  exact (q_past d hD _ _ _ (by omega)).symm

theorem planes4 (y : S4x256x256.Idx) {w0 w1 w2 w3 : (⟨3, ![1, 256, 256]⟩ : Shape).Idx → EReal} {i0 i1 i2 i3} {L : List (View.Piece (Elt Ideal) S4x256x256 .f32)} :
    ∃ p ∈ ((⟨Rect.unit (s := S4x256x256) ![3, 0, 0] ![1, 256, 256] i0, w0⟩ :: ⟨Rect.unit (s := S4x256x256) ![2, 0, 0] ![1, 256, 256] i1, w1⟩ ::
      ⟨Rect.unit (s := S4x256x256) ![1, 0, 0] ![1, 256, 256] i2, w2⟩ :: ⟨Rect.unit (s := S4x256x256) ![0, 0, 0] ![1, 256, 256] i3, w3⟩ :: L) :
        List (View.Piece (Elt Ideal) S4x256x256 .f32)), y ∈ p.1.set := by
  have h0 : (y 0).val < 4 := (y 0).isLt
  have h1 : (y 1).val < 256 := (y 1).isLt
  have h2 : (y 2).val < 256 := (y 2).isLt
  by_cases a : 3 ≤ (y 0).val
  · exact List.exists_mem_cons_of _ (mem3 (inb := i0) _ (by omega) (by omega) (by omega) (by omega) (by omega) (by omega))
  refine List.exists_mem_cons_of_exists ?_
  by_cases b : 2 ≤ (y 0).val
  · exact List.exists_mem_cons_of _ (mem3 (inb := i1) _ (by omega) (by omega) (by omega) (by omega) (by omega) (by omega))
  refine List.exists_mem_cons_of_exists ?_
  by_cases c : 1 ≤ (y 0).val
  · exact List.exists_mem_cons_of _ (mem3 (inb := i2) _ (by omega) (by omega) (by omega) (by omega) (by omega) (by omega))
  refine List.exists_mem_cons_of_exists ?_
  exact List.exists_mem_cons_of _ (mem3 (inb := i3) _ (by omega) (by omega) (by omega) (by omega) (by omega) (by omega))

/-- The whole stack read back. -/
theorem accw {sig : RefSig} {κ : Kind} {sp : Space} (v : View sig κ sp S4x256x256 .f32) {inb'} {d : Data} {s : ℕ}
    {L : List (View.Piece (Elt Ideal) S4x256x256 .f32)}
    (hL : View.PiecesOf (Val := Elt Ideal) (e := .f32) (fun y : S4x256x256.Idx => accG d s (y 0).val (y 1).val (y 2).val) L)
    (hf : ∀ y : S4x256x256.Idx, ∃ p ∈ L, y ∈ p.1.set) :
    M3 (v.readCov L (Rect.unit (s := S4x256x256) ![0, 0, 0] ![4, 256, 256] inb').toLoadRect) (accG d s) := by
  intro a r c
  rw [View.readCov_eq_canon']
  have e : (Rect.unit (s := S4x256x256) ![0, 0, 0] ![4, 256, 256] inb').toLoadRect.idx (ix3 a r c) = ix3 a r c :=
    funext fun k => Fin.ext ((Rect.idx_unit_val _ _ _ _ k).trans (by fin_cases k <;> simp))
  dsimp only
  rw [e]
  exact canon_at _ _ hL _ (hf _)

theorem rows8 {v : EReal} {d : Data} {s s' : ℕ} (y : S8x1024.Idx) (h : v = dvG d s (y 0).val (y 1).val)
    {w0 w1 w2 w3 w4 w5 w6 w7 : (⟨2, ![1, 256]⟩ : Shape).Idx → EReal} {i0 i1 i2 i3 i4 i5 i6 i7} :
    v = dvG d s' (y 0).val (y 1).val ∨ ∃ p ∈ ([⟨Rect.unit (s := S8x1024) ![0, 768] ![1, 256] i0, w0⟩, ⟨Rect.unit (s := S8x1024) ![1, 768] ![1, 256] i1, w1⟩,
      ⟨Rect.unit (s := S8x1024) ![0, 512] ![1, 256] i2, w2⟩, ⟨Rect.unit (s := S8x1024) ![1, 512] ![1, 256] i3, w3⟩,
      ⟨Rect.unit (s := S8x1024) ![0, 256] ![1, 256] i4, w4⟩, ⟨Rect.unit (s := S8x1024) ![1, 256] ![1, 256] i5, w5⟩,
      ⟨Rect.unit (s := S8x1024) ![0, 0] ![1, 256] i6, w6⟩, ⟨Rect.unit (s := S8x1024) ![1, 0] ![1, 256] i7, w7⟩] : List (View.Piece (Elt Ideal) S8x1024 .f32)), y ∈ p.1.set := by
  by_cases h2 : 2 ≤ (y 0).val
  · left
    rw [h]
    simp only [dvG, show ¬ ((y 0).val = 0) by omega, show ¬ ((y 0).val = 1) by omega, if_false]
  · right
    have hy : (y 1).val < 1024 := (y 1).isLt
    simp only [List.exists_mem_cons_iff, Rect.mem_set_unit, Fin.forall_fin_two, List.not_mem_nil, false_and, exists_false, or_false]
    simp
    omega

theorem lanes4 (y : S528x1024.Idx) (h : (y 0).val < 512)
    {w0 w1 w2 w3 : (⟨2, ![512, 256]⟩ : Shape).Idx → EReal} {i0 i1 i2 i3} {L : List (View.Piece (Elt Ideal) S528x1024 .f32)} :
    ∃ p ∈ ((⟨Rect.unit (s := S528x1024) ![0, 768] ![512, 256] i0, w0⟩ :: ⟨Rect.unit (s := S528x1024) ![0, 512] ![512, 256] i1, w1⟩ ::
      ⟨Rect.unit (s := S528x1024) ![0, 256] ![512, 256] i2, w2⟩ :: ⟨Rect.unit (s := S528x1024) ![0, 0] ![512, 256] i3, w3⟩ :: L) : List (View.Piece (Elt Ideal) S528x1024 .f32)), y ∈ p.1.set := by
  have hy : (y 1).val < 1024 := (y 1).isLt
  by_cases a : 768 ≤ (y 1).val
  · exact List.exists_mem_cons_of _ (mem2 (inb := i0) _ (by omega) (by omega) (by omega) (by omega))
  refine List.exists_mem_cons_of_exists ?_
  by_cases b : 512 ≤ (y 1).val
  · exact List.exists_mem_cons_of _ (mem2 (inb := i1) _ (by omega) (by omega) (by omega) (by omega))
  refine List.exists_mem_cons_of_exists ?_
  by_cases c : 256 ≤ (y 1).val
  · exact List.exists_mem_cons_of _ (mem2 (inb := i2) _ (by omega) (by omega) (by omega) (by omega))
  refine List.exists_mem_cons_of_exists ?_
  exact List.exists_mem_cons_of _ (mem2 (inb := i3) _ (by omega) (by omega) (by omega) (by omega))

end Cert.Pool
-- ==== Proof.PoolMath.lean ====
module

public import proofs.«01_k».proof.Proof.PoolBlocks

/-!
# Running sums, windows and finiteness

A window's sum is the difference of two running sums, and the adjoint of that difference is again a window's sum. Both
hold of finite terms. The sums, products and quotients the gradient takes of finite inputs are finite.
-/

@[expose] public section

noncomputable section

namespace Cert.Pool

open Idealize.ShloMosaic
open scoped BigOperators

/-- A finite extended real. -/
def IsR (x : EReal) : Prop := ∃ r : ℝ, x = (r : EReal)

namespace IsR

theorem coe (r : ℝ) : IsR (r : EReal) := ⟨r, rfl⟩
theorem zero : IsR 0 := ⟨0, rfl⟩
theorem one : IsR 1 := ⟨1, rfl⟩

theorem add {x y : EReal} : IsR x → IsR y → IsR (x + y)
  | ⟨a, ha⟩, ⟨b, hb⟩ => ⟨a + b, by rw [ha, hb, EReal.coe_add]⟩

theorem neg {x : EReal} : IsR x → IsR (-x)
  | ⟨a, ha⟩ => ⟨-a, by rw [ha, EReal.coe_neg]⟩

theorem sub {x y : EReal} : IsR x → IsR y → IsR (x - y)
  | ⟨a, ha⟩, ⟨b, hb⟩ => ⟨a - b, by rw [ha, hb, EReal.coe_sub]⟩

theorem mul {x y : EReal} : IsR x → IsR y → IsR (x * y)
  | ⟨a, ha⟩, ⟨b, hb⟩ => ⟨a * b, by rw [ha, hb, EReal.coe_mul]⟩

theorem sum {ι : Type} (s : Finset ι) (f : ι → EReal) (h : ∀ i, IsR (f i)) : IsR (∑ i ∈ s, f i) := by
  classical
  induction s using Finset.induction_on with
  | empty => exact zero
  | insert a s ha ih => rw [Finset.sum_insert ha]; exact (h a).add ih

theorem sgm {x : EReal} : IsR x → IsR (sgm x)
  | ⟨a, ha⟩ => by
    subst ha
    unfold Cert.Pool.sgm
    rw [show (0 : EReal) - (a : EReal) = ((0 - a : ℝ) : EReal) by rw [EReal.coe_sub]; rfl, Ideal.exp_coe]
    rw [show (1 : EReal) + ((Real.exp (0 - a) : ℝ) : EReal) = ((1 + Real.exp (0 - a) : ℝ) : EReal) by rw [EReal.coe_add]; rfl]
    rw [Ideal.div_coe (by positivity)]
    exact one.mul (coe _)

end IsR

/-- The count of a window's steps is at least one. -/
theorem count_ne {w t : ℕ} (hw : 0 < w) : ((min (t + 1) w : ℕ) : ℝ) ≠ 0 := by
  have : 0 < min (t + 1) w := by omega
  exact_mod_cast this.ne'

theorem inv_eq {w : ℕ} (t : ℕ) (hw : 0 < w) : inv w t = (((1 / ((min (t + 1) w : ℕ) : ℝ)) : ℝ) : EReal) := by
  unfold inv
  rw [Ideal.div_coe (count_ne hw), one_mul]

/-- Dividing by the count is multiplying by one over it. -/
theorem div_count {w : ℕ} (t : ℕ) (hw : 0 < w) (x : EReal) : Ideal.div x (((min (t + 1) w : ℕ) : ℝ) : EReal) = x * inv w t := by
  rw [inv_eq t hw, Ideal.div_coe (count_ne hw)]

theorem inv_fin {w : ℕ} (t : ℕ) (hw : 0 < w) : IsR (inv w t) := by rw [inv_eq t hw]; exact .coe _

theorem wsum_fin {f : ℕ → EReal} (hf : ∀ t, IsR (f t)) (w t : ℕ) : IsR (wsum f w t) :=
  IsR.sum _ _ fun k => by unfold back; split; exacts [hf _, .zero]

/-- The running sum `w` steps before `t`. -/
def lag (f : ℕ → EReal) (w t : ℕ) : EReal := if w ≤ t then ∑ s ∈ Finset.range (t - w + 1), f s else 0

theorem sum_eq_wsum_add_lag (f : ℕ → EReal) (t : ℕ) : ∀ w, ∑ s ∈ Finset.range (t + 1), f s = wsum f w t + lag f w t
  | 0 => by unfold wsum lag; simp
  | w + 1 => by
    rw [sum_eq_wsum_add_lag f t w]
    have hw : wsum f (w + 1) t = wsum f w t + back f t w := Finset.sum_range_succ _ _
    rw [hw, add_assoc]
    congr 1
    unfold lag back
    by_cases h : w ≤ t
    · rw [if_pos h, if_pos h, Finset.sum_range_succ, add_comm]
      by_cases h' : w + 1 ≤ t
      · rw [if_pos h', show t - (w + 1) + 1 = t - w by omega]
      · rw [if_neg h', show t - w = 0 by omega, Finset.sum_range_zero]
    · rw [if_neg h, if_neg h, if_neg (by omega), add_zero]

/-- A window's sum is the running sum less the running sum before the window. -/
theorem cum_sub_lag {f : ℕ → EReal} (hf : ∀ t, IsR (f t)) (w t : ℕ) :
    (∑ s ∈ Finset.range (t + 1), f s) - lag f w t = wsum f w t := by
  have hl : IsR (lag f w t) := by unfold lag; split; exacts [.sum _ _ hf, .zero]
  obtain ⟨a, ha⟩ := wsum_fin hf w t
  obtain ⟨b, hb⟩ := hl
  rw [sum_eq_wsum_add_lag f t w, ha, hb, ← EReal.coe_add, ← EReal.coe_sub, add_sub_cancel_right]

/-- The running sum from the end of `q t - q (t + w)` is the sum of `w` steps from `t` on. -/
theorem rev_sum {q : ℕ → EReal} (hq : ∀ t, IsR (q t)) (w : ℕ) {N : ℕ} (hz : ∀ t, N ≤ t → q t = 0) :
    ∀ n t, N ≤ t + n → ∑ s ∈ Finset.Ico t N, (q s + -q (s + w)) = ∑ k ∈ Finset.range w, q (t + k)
  | 0, t, h => by
    rw [Finset.Ico_eq_empty_of_le (by omega), Finset.sum_empty]
    exact (Finset.sum_eq_zero fun k _ => hz _ (by omega)).symm
  | n + 1, t, h => by
    by_cases ht : t < N
    · rw [Finset.sum_eq_sum_Ico_succ_bot ht, rev_sum hq w hz n (t + 1) (by omega)]
      obtain ⟨a, ha⟩ := hq (t + w)
      have e : (∑ k ∈ Finset.range w, q (t + k)) + q (t + w) = q t + ∑ k ∈ Finset.range w, q (t + 1 + k) := by
        rw [← Finset.sum_range_succ (fun k => q (t + k)) w, Finset.sum_range_succ', add_comm, Nat.add_zero]
        congr 1
        exact Finset.sum_congr rfl fun k _ => by congr 1; omega
      obtain ⟨b, hb⟩ := IsR.sum (Finset.range w) (fun k => q (t + k)) fun k => hq _
      obtain ⟨c, hc⟩ := IsR.sum (Finset.range w) (fun k => q (t + 1 + k)) fun k => hq _
      obtain ⟨x, hx⟩ := hq t
      rw [hb, hc, hx, ha, ← EReal.coe_add, ← EReal.coe_add] at e
      have e' : b + a = x + c := by exact_mod_cast e
      rw [hb, hc, hx, ha, ← EReal.coe_neg, ← EReal.coe_add, ← EReal.coe_add]
      exact congrArg _ (by linarith)
    · rw [Finset.Ico_eq_empty_of_le (by omega), Finset.sum_empty]
      exact (Finset.sum_eq_zero fun k _ => hz _ (by omega)).symm

/-- Finite inputs. -/
structure Fin' (d : Data) : Prop where
  x : ∀ t l, IsR (d.X t l)
  g : ∀ t l, IsR (d.G t l)
  dy : ∀ t l, IsR (d.D t l)
  w : ∀ g i j, IsR (d.W g i j)
  b : ∀ l, IsR (d.B l)
  sc : ∀ l, IsR (d.Sc l)

namespace Fin'

variable {d : Data} (h : Fin' d)
include h

theorem pooled (g t c : ℕ) : IsR (d.pooled g t c) :=
  ((wsum_fin (fun s => h.x s _) _ _).mul (inv_fin _ (Nat.two_pow_pos _))).sub (h.x _ _)

theorem z (g t c : ℕ) : IsR (d.z g t c) := by
  unfold Data.z
  refine IsR.add (IsR.sum _ _ fun j => ?_) (h.b _)
  exact (h.pooled g t j).mul (h.w g j c)

theorem dyp (g t c : ℕ) : IsR (d.dyp g t c) := (h.dy _ _).mul ((h.g _ _).mul (h.g _ _).sgm)

theorem dz (g t c : ℕ) : IsR (d.dz g t c) := (h.dyp g t c).mul (h.sc _)

theorem dpl (g t c : ℕ) : IsR (d.dpl g t c) := IsR.sum _ _ fun j => (h.dz g t j).mul (h.w g c j)

theorem q (g t c : ℕ) : IsR (d.q g t c) := (h.dpl g t c).mul (inv_fin _ (Nat.two_pow_pos _))

end Fin'

/-- The gate's gradient, multiplied out. -/
theorem gate_eq {a b s g : EReal} : IsR a → IsR b → IsR s → IsR g →
    b * a * s + g * (b * a) * (s * (1 - s)) = a * b * (s * (1 + g * (1 - s)))
  | ⟨a, ha⟩, ⟨b, hb⟩, ⟨s, hs⟩, ⟨g, hg⟩ => by
    subst ha; subst hb; subst hs; subst hg
    have e1 : (1 : EReal) = ((1 : ℝ) : EReal) := rfl
    rw [e1]
    simp only [← EReal.coe_mul, ← EReal.coe_add, ← EReal.coe_sub]
    exact congrArg _ (by ring)

end Cert.Pool
end
-- ==== Proof.PoolA.lean ====
module

public import proofs.«01_k».proof.Proof.PoolBlocks

/-!
# The first grid point: the last tile
-/

@[expose] public section

set_option maxRecDepth 16384

noncomputable section

namespace Cert.Pool

open Cert.KernelIdeal Cert.KernelIdeal.Gen Idealize.ShloMosaic Idealize.ShloMosaic.TcCoe Idealize.SL.Sem

section

variable (c : Dev nD) (i : grid0.Coords) (arg1 : Memref sig .tc .vmem S2x512x1024 .f32) (harg1 : arg1.IsWhole) (arg2 : Memref sig .tc .vmem S1x16x1024 .f32) (harg2 : arg2.IsWhole) (arg3 : Memref sig .tc .vmem S512x1024 .f32) (harg3 : arg3.IsWhole) (arg5 : Memref sig .tc .vmem S4x256x256 .bf16) (harg5 : arg5.IsWhole) (arg6 : Memref sig .tc .vmem S8x1024 .f32) (harg6 : arg6.IsWhole) (arg7 : Memref sig .tc .vmem S2x512x1024 .bf16) (harg7 : arg7.IsWhole) (arg8 : Memref sig .tc .vmem S4x256x256 .bf16) (harg8 : arg8.IsWhole) (arg9 : Memref sig .tc .vmem S8x1024 .f32) (harg9 : arg9.IsWhole) (arg10 : Memref sig .tc .vmem S528x1024 .f32) (harg10 : arg10.IsWhole) (arg11 : Memref sig .tc .vmem S528x1024 .f32) (harg11 : arg11.IsWhole) (arg12 : Memref sig .tc .vmem S4x256x256 .f32) (harg12 : arg12.IsWhole) (hc0 : cond0_0 i) (hc1 : ¬cond0_1 i)
  {d : Data} {T : ℕ} (x0 : Vec Ideal S2x512x1024 .f32) (x1 : Vec Ideal S1x16x1024 .f32) (x2 : Vec Ideal S512x1024 .f32)
  (x3 : Vec Ideal S4x256x256 .bf16) (x4 : Vec Ideal S8x1024 .f32)

theorem out5_A (h : Tile d T x0 x1 x2 x3 x4) (hv : Scalar.subi 7#32 (BitVec.ofNat 32 (i 0).val) = BitVec.ofNat 32 T) (hD : ∀ t l, 4096 ≤ t → d.D t l = 0) (h7 : T = 7) (y : S2x512x1024.Idx) :
    out0_A_5 (F := Ideal) c i arg1 harg1 arg2 harg2 arg3 harg3 arg5 harg5 arg6 harg6 arg7 harg7 arg8 harg8 arg9 harg9 arg10 harg10 arg11 harg11 arg12 harg12 hc0 hc1 x0 x1 x2 x3 x4 y = out5G d T (y 0).val (y 1).val (y 2).val := by
  subst h7
  unfold out0_A_5
  have hT := h.lt
  rw [View.read_writes_junk_eq_canon]
  refine canon_at (fun y : S2x512x1024.Idx => out5G d 7 (y 0).val (y 1).val (y 2).val) _ ?_ y (cover0_A_5 c i arg1 harg1 arg2 harg2 arg3 harg3 arg5 harg5 arg6 harg6 arg7 harg7 arg8 harg8 arg9 harg9 arg10 harg10 arg11 harg11 arg12 harg12 hc0 hc1 x0 x1 x2 x3 x4 y)
  unfold kernelRun0_A
  dsimp only
  sl_unfold_words
  simp (discharger := assumption) only [View.readAt_eq_ld, Memref.IsWhole.read_unread]
  exact (pcons (piece3 (out5G d 7) (pay74 (pay69 (h.ldSc (g := 3) (by decide)) (pay62 (h.ldG (g := 3) (by decide))) (pay63 (h.ldG (g := 3) (by decide))) (h.ldD (g := 3) (by decide))) (h.ldW (g := 3) (by decide)) (qblc (T := 7) _ (g := 3) (by decide) (pcons (piece2 (qG d 7) (pay73 (pay59 hv hT) (pay69 (h.ldSc (g := 3) (by decide)) (pay62 (h.ldG (g := 3) (by decide))) (pay63 (h.ldG (g := 3) (by decide))) (h.ldD (g := 3) (by decide))) (h.ldW (g := 3) (by decide))) (pq d 7 3)) (pcons (piece2 (qG d 7) (pay54 (pay39 hv hT) (pay51 (h.ldSc (g := 2) (by decide)) (pay42 (h.ldG (g := 2) (by decide))) (pay43 (h.ldG (g := 2) (by decide))) pay44 (h.ldD (g := 2) (by decide))) (h.ldW (g := 2) (by decide))) (pq d 7 2)) (pcons (piece2 (qG d 7) (pay37 (pay24 hv hT) (pay32 (h.ldSc (g := 1) (by decide)) (h.ldG (g := 1) (by decide)) (h.ldD (g := 1) (by decide))) (h.ldW (g := 1) (by decide))) (pq d 7 1)) (pcons (piece2 (qG d 7) (pay22 (pay9 i hv hT) (h.ldSc (g := 0) (by decide)) (pay14 (h.ldG (g := 0) (by decide)) (h.ldD (g := 0) (by decide))) (h.ldW (g := 0) (by decide))) (pq d 7 0)) (pcons (piece2 (qG d 7) pay3 (pz hD)) pnil))))) (fun y hy => List.exists_mem_cons_of_exists (List.exists_mem_cons_of_exists (List.exists_mem_cons_of_exists (cov512 y hy)))))) (p5x d 7 3)) (pcons (piece3 (out5G d 7) (pay65 (pay61 hv hT (pay56 (h.ldX (g := 3) (by decide))) (h.xbl hv (g := 3) (by decide) _) (h.ldW (g := 3) (by decide)) (h.ldB (g := 3) (by decide))) (h.ldSc (g := 3) (by decide)) (pay62 (h.ldG (g := 3) (by decide))) (pay63 (h.ldG (g := 3) (by decide))) (h.ldD (g := 3) (by decide))) (p5g d 7 3)) (pcons (piece3 (out5G d 7) (pay55 (pay51 (h.ldSc (g := 2) (by decide)) (pay42 (h.ldG (g := 2) (by decide))) (pay43 (h.ldG (g := 2) (by decide))) pay44 (h.ldD (g := 2) (by decide))) (h.ldW (g := 2) (by decide)) (qblc (T := 7) _ (g := 2) (by decide) (pcons (piece2 (qG d 7) (pay54 (pay39 hv hT) (pay51 (h.ldSc (g := 2) (by decide)) (pay42 (h.ldG (g := 2) (by decide))) (pay43 (h.ldG (g := 2) (by decide))) pay44 (h.ldD (g := 2) (by decide))) (h.ldW (g := 2) (by decide))) (pq d 7 2)) (pcons (piece2 (qG d 7) (pay37 (pay24 hv hT) (pay32 (h.ldSc (g := 1) (by decide)) (h.ldG (g := 1) (by decide)) (h.ldD (g := 1) (by decide))) (h.ldW (g := 1) (by decide))) (pq d 7 1)) (pcons (piece2 (qG d 7) (pay22 (pay9 i hv hT) (h.ldSc (g := 0) (by decide)) (pay14 (h.ldG (g := 0) (by decide)) (h.ldD (g := 0) (by decide))) (h.ldW (g := 0) (by decide))) (pq d 7 0)) (pcons (piece2 (qG d 7) pay3 (pz hD)) pnil)))) (fun y hy => List.exists_mem_cons_of_exists (List.exists_mem_cons_of_exists (cov512 y hy))))) (p5x d 7 2)) (pcons (piece3 (out5G d 7) (pay47 (pay41 hv hT (h.ldX (g := 2) (by decide)) (h.xbl hv (g := 2) (by decide) _) (h.ldW (g := 2) (by decide)) (h.ldB (g := 2) (by decide))) (h.ldSc (g := 2) (by decide)) (pay42 (h.ldG (g := 2) (by decide))) (pay43 (h.ldG (g := 2) (by decide))) pay44 (h.ldD (g := 2) (by decide))) (p5g d 7 2)) (pcons (piece3 (out5G d 7) (pay38 (pay32 (h.ldSc (g := 1) (by decide)) (h.ldG (g := 1) (by decide)) (h.ldD (g := 1) (by decide))) (h.ldW (g := 1) (by decide)) (qblc (T := 7) _ (g := 1) (by decide) (pcons (piece2 (qG d 7) (pay37 (pay24 hv hT) (pay32 (h.ldSc (g := 1) (by decide)) (h.ldG (g := 1) (by decide)) (h.ldD (g := 1) (by decide))) (h.ldW (g := 1) (by decide))) (pq d 7 1)) (pcons (piece2 (qG d 7) (pay22 (pay9 i hv hT) (h.ldSc (g := 0) (by decide)) (pay14 (h.ldG (g := 0) (by decide)) (h.ldD (g := 0) (by decide))) (h.ldW (g := 0) (by decide))) (pq d 7 0)) (pcons (piece2 (qG d 7) pay3 (pz hD)) pnil))) (fun y hy => List.exists_mem_cons_of_exists (cov512 y hy)))) (p5x d 7 1)) (pcons (piece3 (out5G d 7) (pay30 (pay26 hv hT (h.ldX (g := 1) (by decide)) (h.xbl hv (g := 1) (by decide) _) (h.ldW (g := 1) (by decide)) (h.ldB (g := 1) (by decide))) (h.ldSc (g := 1) (by decide)) (h.ldG (g := 1) (by decide)) (h.ldD (g := 1) (by decide))) (p5g d 7 1)) (pcons (piece3 (out5G d 7) (pay23 (pay21 (h.ldSc (g := 0) (by decide)) (pay14 (h.ldG (g := 0) (by decide)) (h.ldD (g := 0) (by decide))) (h.ldW (g := 0) (by decide))) (qblc (T := 7) _ (g := 0) (by decide) (pcons (piece2 (qG d 7) (pay22 (pay9 i hv hT) (h.ldSc (g := 0) (by decide)) (pay14 (h.ldG (g := 0) (by decide)) (h.ldD (g := 0) (by decide))) (h.ldW (g := 0) (by decide))) (pq d 7 0)) (pcons (piece2 (qG d 7) pay3 (pz hD)) pnil)) (fun y hy => cov512 y hy))) (p5x d 7 0)) (pcons (piece3 (out5G d 7) (pay15 (pay8 (h.ldX (g := 0) (by decide))) (pay9 i hv hT) (h.xbl hv (g := 0) (by decide) _) (h.ldW (g := 0) (by decide)) (h.ldB (g := 0) (by decide)) (h.ldSc (g := 0) (by decide)) (h.ldG (g := 0) (by decide)) (h.ldD (g := 0) (by decide))) (p5g d 7 0)) pnil))))))))

theorem out7_A (h : Tile d T x0 x1 x2 x3 x4) (hv : Scalar.subi 7#32 (BitVec.ofNat 32 (i 0).val) = BitVec.ofNat 32 T) (h7 : T = 7) (y : S8x1024.Idx) :
    out0_A_7 (F := Ideal) c i arg1 harg1 arg2 harg2 arg3 harg3 arg5 harg5 arg6 harg6 arg7 harg7 arg8 harg8 arg9 harg9 arg10 harg10 arg11 harg11 arg12 harg12 hc0 hc1 x0 x1 x2 x3 x4 y = dvG d (512 * T) (y 0).val (y 1).val := by
  subst h7
  have hT := h.lt
  unfold out0_A_7
  rw [View.read_writes_junk_eq_canon]
  unfold kernelRun0_A
  dsimp only
  sl_unfold_words
  simp (discharger := assumption) only [View.readAt_eq_ld, Memref.IsWhole.read_unread]
  refine canon_or8 (Val := Elt Ideal) (e := .f32) (G := fun y : S8x1024.Idx => dvG d (512 * 7) (y 0).val (y 1).val) ?_ ?_
  · exact (pcons (piece2 (dvG d (512 * 7)) (pay68 hT (h.ldSc (g := 3) (by decide)) (pay62 (h.ldG (g := 3) (by decide))) (pay63 (h.ldG (g := 3) (by decide))) (h.ldD (g := 3) (by decide)) (skip2 _ rfl (skip2 _ rfl (skip2 _ rfl (skip2 _ rfl (skip2 _ rfl (skip2 _ rfl (skip2 _ rfl (fill2 _ (vldb pay5_dv (g := 3) (by decide))))))))))) (pvb d 3 _)) (pcons (piece2 (dvG d (512 * 7)) (pay66 hT (pay61 hv hT (pay56 (h.ldX (g := 3) (by decide))) (h.xbl hv (g := 3) (by decide) _) (h.ldW (g := 3) (by decide)) (h.ldB (g := 3) (by decide))) (pay62 (h.ldG (g := 3) (by decide))) (pay63 (h.ldG (g := 3) (by decide))) (h.ldD (g := 3) (by decide)) (skip2 _ rfl (skip2 _ rfl (skip2 _ rfl (skip2 _ rfl (skip2 _ rfl (skip2 _ rfl (fill2 _ (vlds pay5_dv (g := 3) (by decide)))))))))) (pvs d 3 _)) (pcons (piece2 (dvG d (512 * 7)) (pay50 hT (h.ldSc (g := 2) (by decide)) (pay42 (h.ldG (g := 2) (by decide))) (pay43 (h.ldG (g := 2) (by decide))) pay44 (h.ldD (g := 2) (by decide)) (skip2 _ rfl (skip2 _ rfl (skip2 _ rfl (skip2 _ rfl (skip2 _ rfl (fill2 _ (vldb pay5_dv (g := 2) (by decide))))))))) (pvb d 2 _)) (pcons (piece2 (dvG d (512 * 7)) (pay48 hT (pay41 hv hT (h.ldX (g := 2) (by decide)) (h.xbl hv (g := 2) (by decide) _) (h.ldW (g := 2) (by decide)) (h.ldB (g := 2) (by decide))) (pay42 (h.ldG (g := 2) (by decide))) (pay43 (h.ldG (g := 2) (by decide))) pay44 (h.ldD (g := 2) (by decide)) (skip2 _ rfl (skip2 _ rfl (skip2 _ rfl (skip2 _ rfl (fill2 _ (vlds pay5_dv (g := 2) (by decide)))))))) (pvs d 2 _)) (pcons (piece2 (dvG d (512 * 7)) (pay33 hT (pay32 (h.ldSc (g := 1) (by decide)) (h.ldG (g := 1) (by decide)) (h.ldD (g := 1) (by decide))) (skip2 _ rfl (skip2 _ rfl (skip2 _ rfl (fill2 _ (vldb pay5_dv (g := 1) (by decide))))))) (pvb d 1 _)) (pcons (piece2 (dvG d (512 * 7)) (pay31 hT (pay26 hv hT (h.ldX (g := 1) (by decide)) (h.xbl hv (g := 1) (by decide) _) (h.ldW (g := 1) (by decide)) (h.ldB (g := 1) (by decide))) (h.ldG (g := 1) (by decide)) (h.ldD (g := 1) (by decide)) (skip2 _ rfl (skip2 _ rfl (fill2 _ (vlds pay5_dv (g := 1) (by decide)))))) (pvs d 1 _)) (pcons (piece2 (dvG d (512 * 7)) (pay18 hT (h.ldSc (g := 0) (by decide)) (pay14 (h.ldG (g := 0) (by decide)) (h.ldD (g := 0) (by decide))) (skip2 _ rfl (fill2 _ (vldb pay5_dv (g := 0) (by decide))))) (pvb d 0 _)) (pcons (piece2 (dvG d (512 * 7)) (pay16 hT (pay11 (pay8 (h.ldX (g := 0) (by decide))) (pay9 i hv hT) (h.xbl hv (g := 0) (by decide) _) (h.ldW (g := 0) (by decide)) (h.ldB (g := 0) (by decide))) (pay14 (h.ldG (g := 0) (by decide)) (h.ldD (g := 0) (by decide))) (fill2 _ (vlds pay5_dv (g := 0) (by decide)))) (pvs d 0 _)) pnil))))))))
  · refine rows8 (s := 4096) y ?_
    rw [View.canon_cons_unit_lit' _ _ _ (fun a => by fin_cases a <;> rfl)]
    exact pay5_dv y

theorem sout1_A (h : Tile d T x0 x1 x2 x3 x4) (hv : Scalar.subi 7#32 (BitVec.ofNat 32 (i 0).val) = BitVec.ofNat 32 T) (hD : ∀ t l, 4096 ≤ t → d.D t l = 0) (h7 : T = 7) (y : S528x1024.Idx) :
    sout0_A_1 (F := Ideal) c i arg1 harg1 arg2 harg2 arg3 harg3 arg5 harg5 arg6 harg6 arg7 harg7 arg8 harg8 arg9 harg9 arg10 harg10 arg11 harg11 arg12 harg12 hc0 hc1 x0 x1 x2 x3 x4 y = soG d T (y 0).val (y 1).val := by
  unfold sout0_A_1
  have hT := h.lt
  rw [View.read_writes_junk_eq_canon]
  subst h7
  unfold kernelRun0_A
  dsimp only
  sl_unfold_words
  simp (discharger := assumption) only [View.readAt_eq_ld, Memref.IsWhole.read_unread]
  refine canon_or5 (Val := Elt Ideal) (e := .f32) (G := fun y : S528x1024.Idx => soG d 7 (y 0).val (y 1).val) ?_ (Or.inr ?_)
  · exact (pcons (piece2 (soG d 7) (pay1 (hbl _ (pcons (piece2 (qG d 7) (pay73 (pay59 hv hT) (pay69 (h.ldSc (g := 3) (by decide)) (pay62 (h.ldG (g := 3) (by decide))) (pay63 (h.ldG (g := 3) (by decide))) (h.ldD (g := 3) (by decide))) (h.ldW (g := 3) (by decide))) (pq d 7 3)) (pcons (piece2 (qG d 7) (pay54 (pay39 hv hT) (pay51 (h.ldSc (g := 2) (by decide)) (pay42 (h.ldG (g := 2) (by decide))) (pay43 (h.ldG (g := 2) (by decide))) pay44 (h.ldD (g := 2) (by decide))) (h.ldW (g := 2) (by decide))) (pq d 7 2)) (pcons (piece2 (qG d 7) (pay37 (pay24 hv hT) (pay32 (h.ldSc (g := 1) (by decide)) (h.ldG (g := 1) (by decide)) (h.ldD (g := 1) (by decide))) (h.ldW (g := 1) (by decide))) (pq d 7 1)) (pcons (piece2 (qG d 7) (pay22 (pay9 i hv hT) (h.ldSc (g := 0) (by decide)) (pay14 (h.ldG (g := 0) (by decide)) (h.ldD (g := 0) (by decide))) (h.ldW (g := 0) (by decide))) (pq d 7 0)) (pcons (piece2 (qG d 7) pay3 (pz hD)) pnil))))) (fun y hy => lanes4 y hy))) (psh d 7)) (pcons (piece2 (soG d 7) (pay73 (pay59 hv hT) (pay69 (h.ldSc (g := 3) (by decide)) (pay62 (h.ldG (g := 3) (by decide))) (pay63 (h.ldG (g := 3) (by decide))) (h.ldD (g := 3) (by decide))) (h.ldW (g := 3) (by decide))) (pso d 7 3)) (pcons (piece2 (soG d 7) (pay54 (pay39 hv hT) (pay51 (h.ldSc (g := 2) (by decide)) (pay42 (h.ldG (g := 2) (by decide))) (pay43 (h.ldG (g := 2) (by decide))) pay44 (h.ldD (g := 2) (by decide))) (h.ldW (g := 2) (by decide))) (pso d 7 2)) (pcons (piece2 (soG d 7) (pay37 (pay24 hv hT) (pay32 (h.ldSc (g := 1) (by decide)) (h.ldG (g := 1) (by decide)) (h.ldD (g := 1) (by decide))) (h.ldW (g := 1) (by decide))) (pso d 7 1)) (pcons (piece2 (soG d 7) (pay22 (pay9 i hv hT) (h.ldSc (g := 0) (by decide)) (pay14 (h.ldG (g := 0) (by decide)) (h.ldD (g := 0) (by decide))) (h.ldW (g := 0) (by decide))) (pso d 7 0)) pnil)))))
  · by_cases hy : (y 0).val < 512
    · exact List.exists_mem_cons_of_exists (lanes4 y hy)
    · exact cov512 y (by omega)

theorem sout2_A (h : Tile d T x0 x1 x2 x3 x4) (hv : Scalar.subi 7#32 (BitVec.ofNat 32 (i 0).val) = BitVec.ofNat 32 T)(h7 : T = 7) (y : S4x256x256.Idx) :
    sout0_A_2 (F := Ideal) c i arg1 harg1 arg2 harg2 arg3 harg3 arg5 harg5 arg6 harg6 arg7 harg7 arg8 harg8 arg9 harg9 arg10 harg10 arg11 harg11 arg12 harg12 hc0 hc1 x0 x1 x2 x3 x4 y = accG d (512 * T) (y 0).val (y 1).val (y 2).val := by
  subst h7
  have hT := h.lt
  unfold sout0_A_2
  rw [View.read_writes_junk_eq_canon]
  unfold kernelRun0_A
  dsimp only
  sl_unfold_words
  simp (discharger := assumption) only [View.readAt_eq_ld, Memref.IsWhole.read_unread]
  refine canon_or4 (Val := Elt Ideal) (e := .f32) (G := fun y : S4x256x256.Idx => accG d (512 * 7) (y 0).val (y 1).val (y 2).val) ?_ (Or.inr (planes4 y))
  exact (pcons (piece3 (accG d (512 * 7)) (pay71 (pay70 hT (pay60 hv hT (pay56 (h.ldX (g := 3) (by decide))) (h.xbl hv (g := 3) (by decide) _)) (h.ldSc (g := 3) (by decide)) (pay62 (h.ldG (g := 3) (by decide))) (pay63 (h.ldG (g := 3) (by decide))) (h.ldD (g := 3) (by decide)) (skip3 _ rfl (skip3 _ rfl (skip3 _ rfl (fill3 _ (acl pay4_acc (g := 3) (by decide)))))))) (pacc d 3 _)) (pcons (piece3 (accG d (512 * 7)) (pay52 hT (pay40 hv hT (h.ldX (g := 2) (by decide)) (h.xbl hv (g := 2) (by decide) _)) (pay51 (h.ldSc (g := 2) (by decide)) (pay42 (h.ldG (g := 2) (by decide))) (pay43 (h.ldG (g := 2) (by decide))) pay44 (h.ldD (g := 2) (by decide))) (skip3 _ rfl (skip3 _ rfl (fill3 _ (acl pay4_acc (g := 2) (by decide)))))) (pacc d 2 _)) (pcons (piece3 (accG d (512 * 7)) (pay35 hT (pay25 hv hT (h.ldX (g := 1) (by decide)) (h.xbl hv (g := 1) (by decide) _)) (pay32 (h.ldSc (g := 1) (by decide)) (h.ldG (g := 1) (by decide)) (h.ldD (g := 1) (by decide))) (skip3 _ rfl (fill3 _ (acl pay4_acc (g := 1) (by decide))))) (pacc d 1 _)) (pcons (piece3 (accG d (512 * 7)) (pay20 hT (pay10 (pay8 (h.ldX (g := 0) (by decide))) (pay9 i hv hT) (h.xbl hv (g := 0) (by decide) _)) (h.ldSc (g := 0) (by decide)) (pay14 (h.ldG (g := 0) (by decide)) (h.ldD (g := 0) (by decide))) (fill3 _ (acl pay4_acc (g := 0) (by decide)))) (pacc d 0 _)) pnil))))

end

end Cert.Pool
-- ==== Proof.PoolB.lean ====
module

public import proofs.«01_k».proof.Proof.PoolBlocks

/-!
# The middle grid points
-/

@[expose] public section

set_option maxRecDepth 16384

noncomputable section

namespace Cert.Pool

open Cert.KernelIdeal Cert.KernelIdeal.Gen Idealize.ShloMosaic Idealize.ShloMosaic.TcCoe Idealize.SL.Sem

section

variable (c : Dev nD) (i : grid0.Coords) (arg1 : Memref sig .tc .vmem S2x512x1024 .f32) (harg1 : arg1.IsWhole) (arg2 : Memref sig .tc .vmem S1x16x1024 .f32) (harg2 : arg2.IsWhole) (arg3 : Memref sig .tc .vmem S512x1024 .f32) (harg3 : arg3.IsWhole) (arg5 : Memref sig .tc .vmem S4x256x256 .bf16) (harg5 : arg5.IsWhole) (arg6 : Memref sig .tc .vmem S8x1024 .f32) (harg6 : arg6.IsWhole) (arg7 : Memref sig .tc .vmem S2x512x1024 .bf16) (harg7 : arg7.IsWhole) (arg8 : Memref sig .tc .vmem S4x256x256 .bf16) (harg8 : arg8.IsWhole) (arg9 : Memref sig .tc .vmem S8x1024 .f32) (harg9 : arg9.IsWhole) (arg10 : Memref sig .tc .vmem S528x1024 .f32) (harg10 : arg10.IsWhole) (arg11 : Memref sig .tc .vmem S528x1024 .f32) (harg11 : arg11.IsWhole) (arg12 : Memref sig .tc .vmem S4x256x256 .f32) (harg12 : arg12.IsWhole) (hc0 : ¬cond0_0 i) (hc1 : ¬cond0_1 i)
  {d : Data} {T : ℕ} (x0 : Vec Ideal S2x512x1024 .f32) (x1 : Vec Ideal S1x16x1024 .f32) (x2 : Vec Ideal S512x1024 .f32)
  (x3 : Vec Ideal S4x256x256 .bf16) (x4 : Vec Ideal S8x1024 .f32) (xo7 : Vec Ideal S8x1024 .f32)
  (xs1 : Vec Ideal S528x1024 .f32) (xs2 : Vec Ideal S4x256x256 .f32)

theorem out5_B (h : Tile d T x0 x1 x2 x3 x4) (hv : Scalar.subi 7#32 (BitVec.ofNat 32 (i 0).val) = BitVec.ofNat 32 T) (hx : ∀ y : S528x1024.Idx, 512 ≤ (y 0).val → xs1 y = qG d T (y 0).val (y 1).val) (y : S2x512x1024.Idx) :
    out0_B_5 (F := Ideal) c i arg1 harg1 arg2 harg2 arg3 harg3 arg5 harg5 arg6 harg6 arg7 harg7 arg8 harg8 arg9 harg9 arg10 harg10 arg11 harg11 arg12 harg12 hc0 hc1 x0 x1 x2 x3 x4 xo7 xs1 xs2 y = out5G d T (y 0).val (y 1).val (y 2).val := by
  unfold out0_B_5
  have hT := h.lt
  rw [View.read_writes_junk_eq_canon]
  refine canon_at (fun y : S2x512x1024.Idx => out5G d T (y 0).val (y 1).val (y 2).val) _ ?_ y (cover0_B_5 c i arg1 harg1 arg2 harg2 arg3 harg3 arg5 harg5 arg6 harg6 arg7 harg7 arg8 harg8 arg9 harg9 arg10 harg10 arg11 harg11 arg12 harg12 hc0 hc1 x0 x1 x2 x3 x4 xo7 xs1 xs2 y)
  unfold kernelRun0_B
  dsimp only
  sl_unfold_words
  simp (discharger := assumption) only [View.readAt_eq_ld, Memref.IsWhole.read_unread]
  exact (pcons (piece3 (out5G d T) (pay74 (pay69 (h.ldSc (g := 3) (by decide)) (pay62 (h.ldG (g := 3) (by decide))) (pay63 (h.ldG (g := 3) (by decide))) (h.ldD (g := 3) (by decide))) (h.ldW (g := 3) (by decide)) (qbl (T := T) _ _ (g := 3) (by decide) (fun y hy => (congrFun (harg11.read_unread xs1) y).trans (hx y hy)) (pcons (piece2 (qG d T) (pay73 (pay59 hv hT) (pay69 (h.ldSc (g := 3) (by decide)) (pay62 (h.ldG (g := 3) (by decide))) (pay63 (h.ldG (g := 3) (by decide))) (h.ldD (g := 3) (by decide))) (h.ldW (g := 3) (by decide))) (pq d T 3)) (pcons (piece2 (qG d T) (pay54 (pay39 hv hT) (pay51 (h.ldSc (g := 2) (by decide)) (pay42 (h.ldG (g := 2) (by decide))) (pay43 (h.ldG (g := 2) (by decide))) pay44 (h.ldD (g := 2) (by decide))) (h.ldW (g := 2) (by decide))) (pq d T 2)) (pcons (piece2 (qG d T) (pay37 (pay24 hv hT) (pay32 (h.ldSc (g := 1) (by decide)) (h.ldG (g := 1) (by decide)) (h.ldD (g := 1) (by decide))) (h.ldW (g := 1) (by decide))) (pq d T 1)) (pcons (piece2 (qG d T) (pay22 (pay9 i hv hT) (h.ldSc (g := 0) (by decide)) (pay14 (h.ldG (g := 0) (by decide)) (h.ldD (g := 0) (by decide))) (h.ldW (g := 0) (by decide))) (pq d T 0)) pnil)))))) (p5x d T 3)) (pcons (piece3 (out5G d T) (pay65 (pay61 hv hT (pay56 (h.ldX (g := 3) (by decide))) (h.xbl hv (g := 3) (by decide) _) (h.ldW (g := 3) (by decide)) (h.ldB (g := 3) (by decide))) (h.ldSc (g := 3) (by decide)) (pay62 (h.ldG (g := 3) (by decide))) (pay63 (h.ldG (g := 3) (by decide))) (h.ldD (g := 3) (by decide))) (p5g d T 3)) (pcons (piece3 (out5G d T) (pay55 (pay51 (h.ldSc (g := 2) (by decide)) (pay42 (h.ldG (g := 2) (by decide))) (pay43 (h.ldG (g := 2) (by decide))) pay44 (h.ldD (g := 2) (by decide))) (h.ldW (g := 2) (by decide)) (qbl (T := T) _ _ (g := 2) (by decide) (fun y hy => (congrFun (harg11.read_unread xs1) y).trans (hx y hy)) (pcons (piece2 (qG d T) (pay54 (pay39 hv hT) (pay51 (h.ldSc (g := 2) (by decide)) (pay42 (h.ldG (g := 2) (by decide))) (pay43 (h.ldG (g := 2) (by decide))) pay44 (h.ldD (g := 2) (by decide))) (h.ldW (g := 2) (by decide))) (pq d T 2)) (pcons (piece2 (qG d T) (pay37 (pay24 hv hT) (pay32 (h.ldSc (g := 1) (by decide)) (h.ldG (g := 1) (by decide)) (h.ldD (g := 1) (by decide))) (h.ldW (g := 1) (by decide))) (pq d T 1)) (pcons (piece2 (qG d T) (pay22 (pay9 i hv hT) (h.ldSc (g := 0) (by decide)) (pay14 (h.ldG (g := 0) (by decide)) (h.ldD (g := 0) (by decide))) (h.ldW (g := 0) (by decide))) (pq d T 0)) pnil))))) (p5x d T 2)) (pcons (piece3 (out5G d T) (pay47 (pay41 hv hT (h.ldX (g := 2) (by decide)) (h.xbl hv (g := 2) (by decide) _) (h.ldW (g := 2) (by decide)) (h.ldB (g := 2) (by decide))) (h.ldSc (g := 2) (by decide)) (pay42 (h.ldG (g := 2) (by decide))) (pay43 (h.ldG (g := 2) (by decide))) pay44 (h.ldD (g := 2) (by decide))) (p5g d T 2)) (pcons (piece3 (out5G d T) (pay38 (pay32 (h.ldSc (g := 1) (by decide)) (h.ldG (g := 1) (by decide)) (h.ldD (g := 1) (by decide))) (h.ldW (g := 1) (by decide)) (qbl (T := T) _ _ (g := 1) (by decide) (fun y hy => (congrFun (harg11.read_unread xs1) y).trans (hx y hy)) (pcons (piece2 (qG d T) (pay37 (pay24 hv hT) (pay32 (h.ldSc (g := 1) (by decide)) (h.ldG (g := 1) (by decide)) (h.ldD (g := 1) (by decide))) (h.ldW (g := 1) (by decide))) (pq d T 1)) (pcons (piece2 (qG d T) (pay22 (pay9 i hv hT) (h.ldSc (g := 0) (by decide)) (pay14 (h.ldG (g := 0) (by decide)) (h.ldD (g := 0) (by decide))) (h.ldW (g := 0) (by decide))) (pq d T 0)) pnil)))) (p5x d T 1)) (pcons (piece3 (out5G d T) (pay30 (pay26 hv hT (h.ldX (g := 1) (by decide)) (h.xbl hv (g := 1) (by decide) _) (h.ldW (g := 1) (by decide)) (h.ldB (g := 1) (by decide))) (h.ldSc (g := 1) (by decide)) (h.ldG (g := 1) (by decide)) (h.ldD (g := 1) (by decide))) (p5g d T 1)) (pcons (piece3 (out5G d T) (pay23 (pay21 (h.ldSc (g := 0) (by decide)) (pay14 (h.ldG (g := 0) (by decide)) (h.ldD (g := 0) (by decide))) (h.ldW (g := 0) (by decide))) (qbl (T := T) _ _ (g := 0) (by decide) (fun y hy => (congrFun (harg11.read_unread xs1) y).trans (hx y hy)) (pcons (piece2 (qG d T) (pay22 (pay9 i hv hT) (h.ldSc (g := 0) (by decide)) (pay14 (h.ldG (g := 0) (by decide)) (h.ldD (g := 0) (by decide))) (h.ldW (g := 0) (by decide))) (pq d T 0)) pnil))) (p5x d T 0)) (pcons (piece3 (out5G d T) (pay15 (pay8 (h.ldX (g := 0) (by decide))) (pay9 i hv hT) (h.xbl hv (g := 0) (by decide) _) (h.ldW (g := 0) (by decide)) (h.ldB (g := 0) (by decide)) (h.ldSc (g := 0) (by decide)) (h.ldG (g := 0) (by decide)) (h.ldD (g := 0) (by decide))) (p5g d T 0)) pnil))))))))

theorem out7_B (h : Tile d T x0 x1 x2 x3 x4) (hv : Scalar.subi 7#32 (BitVec.ofNat 32 (i 0).val) = BitVec.ofNat 32 T) (ho : ∀ y : S8x1024.Idx, xo7 y = dvG d (512 * (T + 1)) (y 0).val (y 1).val) (y : S8x1024.Idx) :
    out0_B_7 (F := Ideal) c i arg1 harg1 arg2 harg2 arg3 harg3 arg5 harg5 arg6 harg6 arg7 harg7 arg8 harg8 arg9 harg9 arg10 harg10 arg11 harg11 arg12 harg12 hc0 hc1 x0 x1 x2 x3 x4 xo7 xs1 xs2 y = dvG d (512 * T) (y 0).val (y 1).val := by
  have hT := h.lt
  unfold out0_B_7
  unfold kernelRun0_B
  dsimp only
  sl_unfold_words
  simp (discharger := assumption) only [View.readAt_eq_ld, Memref.IsWhole.read_unread]
  refine read_writes_at (Val := Elt Ideal) (e := .f32) _ _ (fun y : S8x1024.Idx => dvG d (512 * T) (y 0).val (y 1).val) y _ ?_ ?_
  · exact (pcons (piece2 (dvG d (512 * T)) (pay68 hT (h.ldSc (g := 3) (by decide)) (pay62 (h.ldG (g := 3) (by decide))) (pay63 (h.ldG (g := 3) (by decide))) (h.ldD (g := 3) (by decide)) (vldb ho (g := 3) (by decide))) (pvb d 3 _)) (pcons (piece2 (dvG d (512 * T)) (pay66 hT (pay61 hv hT (pay56 (h.ldX (g := 3) (by decide))) (h.xbl hv (g := 3) (by decide) _) (h.ldW (g := 3) (by decide)) (h.ldB (g := 3) (by decide))) (pay62 (h.ldG (g := 3) (by decide))) (pay63 (h.ldG (g := 3) (by decide))) (h.ldD (g := 3) (by decide)) (vlds ho (g := 3) (by decide))) (pvs d 3 _)) (pcons (piece2 (dvG d (512 * T)) (pay50 hT (h.ldSc (g := 2) (by decide)) (pay42 (h.ldG (g := 2) (by decide))) (pay43 (h.ldG (g := 2) (by decide))) pay44 (h.ldD (g := 2) (by decide)) (vldb ho (g := 2) (by decide))) (pvb d 2 _)) (pcons (piece2 (dvG d (512 * T)) (pay48 hT (pay41 hv hT (h.ldX (g := 2) (by decide)) (h.xbl hv (g := 2) (by decide) _) (h.ldW (g := 2) (by decide)) (h.ldB (g := 2) (by decide))) (pay42 (h.ldG (g := 2) (by decide))) (pay43 (h.ldG (g := 2) (by decide))) pay44 (h.ldD (g := 2) (by decide)) (vlds ho (g := 2) (by decide))) (pvs d 2 _)) (pcons (piece2 (dvG d (512 * T)) (pay33 hT (pay32 (h.ldSc (g := 1) (by decide)) (h.ldG (g := 1) (by decide)) (h.ldD (g := 1) (by decide))) (vldb ho (g := 1) (by decide))) (pvb d 1 _)) (pcons (piece2 (dvG d (512 * T)) (pay31 hT (pay26 hv hT (h.ldX (g := 1) (by decide)) (h.xbl hv (g := 1) (by decide) _) (h.ldW (g := 1) (by decide)) (h.ldB (g := 1) (by decide))) (h.ldG (g := 1) (by decide)) (h.ldD (g := 1) (by decide)) (vlds ho (g := 1) (by decide))) (pvs d 1 _)) (pcons (piece2 (dvG d (512 * T)) (pay18 hT (h.ldSc (g := 0) (by decide)) (pay14 (h.ldG (g := 0) (by decide)) (h.ldD (g := 0) (by decide))) (vldb ho (g := 0) (by decide))) (pvb d 0 _)) (pcons (piece2 (dvG d (512 * T)) (pay16 hT (pay11 (pay8 (h.ldX (g := 0) (by decide))) (pay9 i hv hT) (h.xbl hv (g := 0) (by decide) _) (h.ldW (g := 0) (by decide)) (h.ldB (g := 0) (by decide))) (pay14 (h.ldG (g := 0) (by decide)) (h.ldD (g := 0) (by decide))) (vlds ho (g := 0) (by decide))) (pvs d 0 _)) pnil))))))))
  · rw [harg9.read_unread]
    exact rows8 y (ho y)

theorem sout1_B (h : Tile d T x0 x1 x2 x3 x4) (hv : Scalar.subi 7#32 (BitVec.ofNat 32 (i 0).val) = BitVec.ofNat 32 T) (y : S528x1024.Idx) :
    sout0_B_1 (F := Ideal) c i arg1 harg1 arg2 harg2 arg3 harg3 arg5 harg5 arg6 harg6 arg7 harg7 arg8 harg8 arg9 harg9 arg10 harg10 arg11 harg11 arg12 harg12 hc0 hc1 x0 x1 x2 x3 x4 xo7 xs1 xs2 y = soG d T (y 0).val (y 1).val := by
  unfold sout0_B_1
  have hT := h.lt
  rw [View.read_writes_junk_eq_canon]
  refine canon_at (fun y : S528x1024.Idx => soG d T (y 0).val (y 1).val) _ ?_ y (scover0_B_1 c i arg1 harg1 arg2 harg2 arg3 harg3 arg5 harg5 arg6 harg6 arg7 harg7 arg8 harg8 arg9 harg9 arg10 harg10 arg11 harg11 arg12 harg12 hc0 hc1 x0 x1 x2 x3 x4 xo7 xs1 xs2 y)
  unfold kernelRun0_B
  dsimp only
  sl_unfold_words
  simp (discharger := assumption) only [View.readAt_eq_ld, Memref.IsWhole.read_unread]
  exact (pcons (piece2 (soG d T) (pay1 (hbl _ (pcons (piece2 (qG d T) (pay73 (pay59 hv hT) (pay69 (h.ldSc (g := 3) (by decide)) (pay62 (h.ldG (g := 3) (by decide))) (pay63 (h.ldG (g := 3) (by decide))) (h.ldD (g := 3) (by decide))) (h.ldW (g := 3) (by decide))) (pq d T 3)) (pcons (piece2 (qG d T) (pay54 (pay39 hv hT) (pay51 (h.ldSc (g := 2) (by decide)) (pay42 (h.ldG (g := 2) (by decide))) (pay43 (h.ldG (g := 2) (by decide))) pay44 (h.ldD (g := 2) (by decide))) (h.ldW (g := 2) (by decide))) (pq d T 2)) (pcons (piece2 (qG d T) (pay37 (pay24 hv hT) (pay32 (h.ldSc (g := 1) (by decide)) (h.ldG (g := 1) (by decide)) (h.ldD (g := 1) (by decide))) (h.ldW (g := 1) (by decide))) (pq d T 1)) (pcons (piece2 (qG d T) (pay22 (pay9 i hv hT) (h.ldSc (g := 0) (by decide)) (pay14 (h.ldG (g := 0) (by decide)) (h.ldD (g := 0) (by decide))) (h.ldW (g := 0) (by decide))) (pq d T 0)) pnil)))) (fun y hy => lanes4 y hy))) (psh d T)) (pcons (piece2 (soG d T) (pay73 (pay59 hv hT) (pay69 (h.ldSc (g := 3) (by decide)) (pay62 (h.ldG (g := 3) (by decide))) (pay63 (h.ldG (g := 3) (by decide))) (h.ldD (g := 3) (by decide))) (h.ldW (g := 3) (by decide))) (pso d T 3)) (pcons (piece2 (soG d T) (pay54 (pay39 hv hT) (pay51 (h.ldSc (g := 2) (by decide)) (pay42 (h.ldG (g := 2) (by decide))) (pay43 (h.ldG (g := 2) (by decide))) pay44 (h.ldD (g := 2) (by decide))) (h.ldW (g := 2) (by decide))) (pso d T 2)) (pcons (piece2 (soG d T) (pay37 (pay24 hv hT) (pay32 (h.ldSc (g := 1) (by decide)) (h.ldG (g := 1) (by decide)) (h.ldD (g := 1) (by decide))) (h.ldW (g := 1) (by decide))) (pso d T 1)) (pcons (piece2 (soG d T) (pay22 (pay9 i hv hT) (h.ldSc (g := 0) (by decide)) (pay14 (h.ldG (g := 0) (by decide)) (h.ldD (g := 0) (by decide))) (h.ldW (g := 0) (by decide))) (pso d T 0)) pnil)))))

theorem sout2_B (h : Tile d T x0 x1 x2 x3 x4) (hv : Scalar.subi 7#32 (BitVec.ofNat 32 (i 0).val) = BitVec.ofNat 32 T) (ha : ∀ y : S4x256x256.Idx, xs2 y = accG d (512 * (T + 1)) (y 0).val (y 1).val (y 2).val) (y : S4x256x256.Idx) :
    sout0_B_2 (F := Ideal) c i arg1 harg1 arg2 harg2 arg3 harg3 arg5 harg5 arg6 harg6 arg7 harg7 arg8 harg8 arg9 harg9 arg10 harg10 arg11 harg11 arg12 harg12 hc0 hc1 x0 x1 x2 x3 x4 xo7 xs1 xs2 y = accG d (512 * T) (y 0).val (y 1).val (y 2).val := by
  have hT := h.lt
  unfold sout0_B_2
  rw [View.read_writes_junk_eq_canon]
  refine canon_at (fun y : S4x256x256.Idx => accG d (512 * T) (y 0).val (y 1).val (y 2).val) _ ?_ y (scover0_B_2 c i arg1 harg1 arg2 harg2 arg3 harg3 arg5 harg5 arg6 harg6 arg7 harg7 arg8 harg8 arg9 harg9 arg10 harg10 arg11 harg11 arg12 harg12 hc0 hc1 x0 x1 x2 x3 x4 xo7 xs1 xs2 y)
  unfold kernelRun0_B
  dsimp only
  sl_unfold_words
  simp (discharger := assumption) only [View.readAt_eq_ld, Memref.IsWhole.read_unread]
  exact (pcons (piece3 (accG d (512 * T)) (pay71 (pay70 hT (pay60 hv hT (pay56 (h.ldX (g := 3) (by decide))) (h.xbl hv (g := 3) (by decide) _)) (h.ldSc (g := 3) (by decide)) (pay62 (h.ldG (g := 3) (by decide))) (pay63 (h.ldG (g := 3) (by decide))) (h.ldD (g := 3) (by decide)) (acl ha (g := 3) (by decide)))) (pacc d 3 _)) (pcons (piece3 (accG d (512 * T)) (pay52 hT (pay40 hv hT (h.ldX (g := 2) (by decide)) (h.xbl hv (g := 2) (by decide) _)) (pay51 (h.ldSc (g := 2) (by decide)) (pay42 (h.ldG (g := 2) (by decide))) (pay43 (h.ldG (g := 2) (by decide))) pay44 (h.ldD (g := 2) (by decide))) (acl ha (g := 2) (by decide))) (pacc d 2 _)) (pcons (piece3 (accG d (512 * T)) (pay35 hT (pay25 hv hT (h.ldX (g := 1) (by decide)) (h.xbl hv (g := 1) (by decide) _)) (pay32 (h.ldSc (g := 1) (by decide)) (h.ldG (g := 1) (by decide)) (h.ldD (g := 1) (by decide))) (acl ha (g := 1) (by decide))) (pacc d 1 _)) (pcons (piece3 (accG d (512 * T)) (pay20 hT (pay10 (pay8 (h.ldX (g := 0) (by decide))) (pay9 i hv hT) (h.xbl hv (g := 0) (by decide) _)) (h.ldSc (g := 0) (by decide)) (pay14 (h.ldG (g := 0) (by decide)) (h.ldD (g := 0) (by decide))) (acl ha (g := 0) (by decide))) (pacc d 0 _)) pnil))))

end

end Cert.Pool
-- ==== Proof.PoolC.lean ====
module

public import proofs.«01_k».proof.Proof.PoolBlocks

/-!
# The last grid point: the first tile
-/

@[expose] public section

set_option maxRecDepth 16384

noncomputable section

namespace Cert.Pool

open Cert.KernelIdeal Cert.KernelIdeal.Gen Idealize.ShloMosaic Idealize.ShloMosaic.TcCoe Idealize.SL.Sem

section

variable (c : Dev nD) (i : grid0.Coords) (arg1 : Memref sig .tc .vmem S2x512x1024 .f32) (harg1 : arg1.IsWhole) (arg2 : Memref sig .tc .vmem S1x16x1024 .f32) (harg2 : arg2.IsWhole) (arg3 : Memref sig .tc .vmem S512x1024 .f32) (harg3 : arg3.IsWhole) (arg5 : Memref sig .tc .vmem S4x256x256 .bf16) (harg5 : arg5.IsWhole) (arg6 : Memref sig .tc .vmem S8x1024 .f32) (harg6 : arg6.IsWhole) (arg7 : Memref sig .tc .vmem S2x512x1024 .bf16) (harg7 : arg7.IsWhole) (arg8 : Memref sig .tc .vmem S4x256x256 .bf16) (harg8 : arg8.IsWhole) (arg9 : Memref sig .tc .vmem S8x1024 .f32) (harg9 : arg9.IsWhole) (arg10 : Memref sig .tc .vmem S528x1024 .f32) (harg10 : arg10.IsWhole) (arg11 : Memref sig .tc .vmem S528x1024 .f32) (harg11 : arg11.IsWhole) (arg12 : Memref sig .tc .vmem S4x256x256 .f32) (harg12 : arg12.IsWhole) (hc0 : ¬cond0_0 i) (hc1 : cond0_1 i)
  {d : Data} {T : ℕ} (x0 : Vec Ideal S2x512x1024 .f32) (x1 : Vec Ideal S1x16x1024 .f32) (x2 : Vec Ideal S512x1024 .f32)
  (x3 : Vec Ideal S4x256x256 .bf16) (x4 : Vec Ideal S8x1024 .f32) (xo7 : Vec Ideal S8x1024 .f32)
  (xs1 : Vec Ideal S528x1024 .f32) (xs2 : Vec Ideal S4x256x256 .f32)

theorem out5_C (h : Tile d T x0 x1 x2 x3 x4) (hv : Scalar.subi 7#32 (BitVec.ofNat 32 (i 0).val) = BitVec.ofNat 32 T) (hx : ∀ y : S528x1024.Idx, 512 ≤ (y 0).val → xs1 y = qG d T (y 0).val (y 1).val) (y : S2x512x1024.Idx) :
    out0_C_5 (F := Ideal) c i arg1 harg1 arg2 harg2 arg3 harg3 arg5 harg5 arg6 harg6 arg7 harg7 arg8 harg8 arg9 harg9 arg10 harg10 arg11 harg11 arg12 harg12 hc0 hc1 x0 x1 x2 x3 x4 xo7 xs1 xs2 y = out5G d T (y 0).val (y 1).val (y 2).val := by
  unfold out0_C_5
  have hT := h.lt
  rw [View.read_writes_junk_eq_canon]
  refine canon_at (fun y : S2x512x1024.Idx => out5G d T (y 0).val (y 1).val (y 2).val) _ ?_ y (cover0_C_5 c i arg1 harg1 arg2 harg2 arg3 harg3 arg5 harg5 arg6 harg6 arg7 harg7 arg8 harg8 arg9 harg9 arg10 harg10 arg11 harg11 arg12 harg12 hc0 hc1 x0 x1 x2 x3 x4 xo7 xs1 xs2 y)
  unfold kernelRun0_C
  dsimp only
  sl_unfold_words
  simp (discharger := assumption) only [View.readAt_eq_ld, Memref.IsWhole.read_unread]
  exact (pcons (piece3 (out5G d T) (pay74 (pay69 (h.ldSc (g := 3) (by decide)) (pay62 (h.ldG (g := 3) (by decide))) (pay63 (h.ldG (g := 3) (by decide))) (h.ldD (g := 3) (by decide))) (h.ldW (g := 3) (by decide)) (qbl (T := T) _ _ (g := 3) (by decide) (fun y hy => (congrFun (harg11.read_unread xs1) y).trans (hx y hy)) (pcons (piece2 (qG d T) (pay73 (pay59 hv hT) (pay69 (h.ldSc (g := 3) (by decide)) (pay62 (h.ldG (g := 3) (by decide))) (pay63 (h.ldG (g := 3) (by decide))) (h.ldD (g := 3) (by decide))) (h.ldW (g := 3) (by decide))) (pq d T 3)) (pcons (piece2 (qG d T) (pay54 (pay39 hv hT) (pay51 (h.ldSc (g := 2) (by decide)) (pay42 (h.ldG (g := 2) (by decide))) (pay43 (h.ldG (g := 2) (by decide))) pay44 (h.ldD (g := 2) (by decide))) (h.ldW (g := 2) (by decide))) (pq d T 2)) (pcons (piece2 (qG d T) (pay37 (pay24 hv hT) (pay32 (h.ldSc (g := 1) (by decide)) (h.ldG (g := 1) (by decide)) (h.ldD (g := 1) (by decide))) (h.ldW (g := 1) (by decide))) (pq d T 1)) (pcons (piece2 (qG d T) (pay22 (pay9 i hv hT) (h.ldSc (g := 0) (by decide)) (pay14 (h.ldG (g := 0) (by decide)) (h.ldD (g := 0) (by decide))) (h.ldW (g := 0) (by decide))) (pq d T 0)) pnil)))))) (p5x d T 3)) (pcons (piece3 (out5G d T) (pay65 (pay61 hv hT (pay56 (h.ldX (g := 3) (by decide))) (h.xbl hv (g := 3) (by decide) _) (h.ldW (g := 3) (by decide)) (h.ldB (g := 3) (by decide))) (h.ldSc (g := 3) (by decide)) (pay62 (h.ldG (g := 3) (by decide))) (pay63 (h.ldG (g := 3) (by decide))) (h.ldD (g := 3) (by decide))) (p5g d T 3)) (pcons (piece3 (out5G d T) (pay55 (pay51 (h.ldSc (g := 2) (by decide)) (pay42 (h.ldG (g := 2) (by decide))) (pay43 (h.ldG (g := 2) (by decide))) pay44 (h.ldD (g := 2) (by decide))) (h.ldW (g := 2) (by decide)) (qbl (T := T) _ _ (g := 2) (by decide) (fun y hy => (congrFun (harg11.read_unread xs1) y).trans (hx y hy)) (pcons (piece2 (qG d T) (pay54 (pay39 hv hT) (pay51 (h.ldSc (g := 2) (by decide)) (pay42 (h.ldG (g := 2) (by decide))) (pay43 (h.ldG (g := 2) (by decide))) pay44 (h.ldD (g := 2) (by decide))) (h.ldW (g := 2) (by decide))) (pq d T 2)) (pcons (piece2 (qG d T) (pay37 (pay24 hv hT) (pay32 (h.ldSc (g := 1) (by decide)) (h.ldG (g := 1) (by decide)) (h.ldD (g := 1) (by decide))) (h.ldW (g := 1) (by decide))) (pq d T 1)) (pcons (piece2 (qG d T) (pay22 (pay9 i hv hT) (h.ldSc (g := 0) (by decide)) (pay14 (h.ldG (g := 0) (by decide)) (h.ldD (g := 0) (by decide))) (h.ldW (g := 0) (by decide))) (pq d T 0)) pnil))))) (p5x d T 2)) (pcons (piece3 (out5G d T) (pay47 (pay41 hv hT (h.ldX (g := 2) (by decide)) (h.xbl hv (g := 2) (by decide) _) (h.ldW (g := 2) (by decide)) (h.ldB (g := 2) (by decide))) (h.ldSc (g := 2) (by decide)) (pay42 (h.ldG (g := 2) (by decide))) (pay43 (h.ldG (g := 2) (by decide))) pay44 (h.ldD (g := 2) (by decide))) (p5g d T 2)) (pcons (piece3 (out5G d T) (pay38 (pay32 (h.ldSc (g := 1) (by decide)) (h.ldG (g := 1) (by decide)) (h.ldD (g := 1) (by decide))) (h.ldW (g := 1) (by decide)) (qbl (T := T) _ _ (g := 1) (by decide) (fun y hy => (congrFun (harg11.read_unread xs1) y).trans (hx y hy)) (pcons (piece2 (qG d T) (pay37 (pay24 hv hT) (pay32 (h.ldSc (g := 1) (by decide)) (h.ldG (g := 1) (by decide)) (h.ldD (g := 1) (by decide))) (h.ldW (g := 1) (by decide))) (pq d T 1)) (pcons (piece2 (qG d T) (pay22 (pay9 i hv hT) (h.ldSc (g := 0) (by decide)) (pay14 (h.ldG (g := 0) (by decide)) (h.ldD (g := 0) (by decide))) (h.ldW (g := 0) (by decide))) (pq d T 0)) pnil)))) (p5x d T 1)) (pcons (piece3 (out5G d T) (pay30 (pay26 hv hT (h.ldX (g := 1) (by decide)) (h.xbl hv (g := 1) (by decide) _) (h.ldW (g := 1) (by decide)) (h.ldB (g := 1) (by decide))) (h.ldSc (g := 1) (by decide)) (h.ldG (g := 1) (by decide)) (h.ldD (g := 1) (by decide))) (p5g d T 1)) (pcons (piece3 (out5G d T) (pay23 (pay21 (h.ldSc (g := 0) (by decide)) (pay14 (h.ldG (g := 0) (by decide)) (h.ldD (g := 0) (by decide))) (h.ldW (g := 0) (by decide))) (qbl (T := T) _ _ (g := 0) (by decide) (fun y hy => (congrFun (harg11.read_unread xs1) y).trans (hx y hy)) (pcons (piece2 (qG d T) (pay22 (pay9 i hv hT) (h.ldSc (g := 0) (by decide)) (pay14 (h.ldG (g := 0) (by decide)) (h.ldD (g := 0) (by decide))) (h.ldW (g := 0) (by decide))) (pq d T 0)) pnil))) (p5x d T 0)) (pcons (piece3 (out5G d T) (pay15 (pay8 (h.ldX (g := 0) (by decide))) (pay9 i hv hT) (h.xbl hv (g := 0) (by decide) _) (h.ldW (g := 0) (by decide)) (h.ldB (g := 0) (by decide)) (h.ldSc (g := 0) (by decide)) (h.ldG (g := 0) (by decide)) (h.ldD (g := 0) (by decide))) (p5g d T 0)) pnil))))))))

theorem out7_C (h : Tile d T x0 x1 x2 x3 x4) (hv : Scalar.subi 7#32 (BitVec.ofNat 32 (i 0).val) = BitVec.ofNat 32 T) (ho : ∀ y : S8x1024.Idx, xo7 y = dvG d (512 * (T + 1)) (y 0).val (y 1).val) (y : S8x1024.Idx) :
    out0_C_7 (F := Ideal) c i arg1 harg1 arg2 harg2 arg3 harg3 arg5 harg5 arg6 harg6 arg7 harg7 arg8 harg8 arg9 harg9 arg10 harg10 arg11 harg11 arg12 harg12 hc0 hc1 x0 x1 x2 x3 x4 xo7 xs1 xs2 y = dvG d (512 * T) (y 0).val (y 1).val := by
  have hT := h.lt
  unfold out0_C_7
  unfold kernelRun0_C
  dsimp only
  sl_unfold_words
  simp (discharger := assumption) only [View.readAt_eq_ld, Memref.IsWhole.read_unread]
  refine read_writes_at (Val := Elt Ideal) (e := .f32) _ _ (fun y : S8x1024.Idx => dvG d (512 * T) (y 0).val (y 1).val) y _ ?_ ?_
  · exact (pcons (piece2 (dvG d (512 * T)) (pay68 hT (h.ldSc (g := 3) (by decide)) (pay62 (h.ldG (g := 3) (by decide))) (pay63 (h.ldG (g := 3) (by decide))) (h.ldD (g := 3) (by decide)) (vldb ho (g := 3) (by decide))) (pvb d 3 _)) (pcons (piece2 (dvG d (512 * T)) (pay66 hT (pay61 hv hT (pay56 (h.ldX (g := 3) (by decide))) (h.xbl hv (g := 3) (by decide) _) (h.ldW (g := 3) (by decide)) (h.ldB (g := 3) (by decide))) (pay62 (h.ldG (g := 3) (by decide))) (pay63 (h.ldG (g := 3) (by decide))) (h.ldD (g := 3) (by decide)) (vlds ho (g := 3) (by decide))) (pvs d 3 _)) (pcons (piece2 (dvG d (512 * T)) (pay50 hT (h.ldSc (g := 2) (by decide)) (pay42 (h.ldG (g := 2) (by decide))) (pay43 (h.ldG (g := 2) (by decide))) pay44 (h.ldD (g := 2) (by decide)) (vldb ho (g := 2) (by decide))) (pvb d 2 _)) (pcons (piece2 (dvG d (512 * T)) (pay48 hT (pay41 hv hT (h.ldX (g := 2) (by decide)) (h.xbl hv (g := 2) (by decide) _) (h.ldW (g := 2) (by decide)) (h.ldB (g := 2) (by decide))) (pay42 (h.ldG (g := 2) (by decide))) (pay43 (h.ldG (g := 2) (by decide))) pay44 (h.ldD (g := 2) (by decide)) (vlds ho (g := 2) (by decide))) (pvs d 2 _)) (pcons (piece2 (dvG d (512 * T)) (pay33 hT (pay32 (h.ldSc (g := 1) (by decide)) (h.ldG (g := 1) (by decide)) (h.ldD (g := 1) (by decide))) (vldb ho (g := 1) (by decide))) (pvb d 1 _)) (pcons (piece2 (dvG d (512 * T)) (pay31 hT (pay26 hv hT (h.ldX (g := 1) (by decide)) (h.xbl hv (g := 1) (by decide) _) (h.ldW (g := 1) (by decide)) (h.ldB (g := 1) (by decide))) (h.ldG (g := 1) (by decide)) (h.ldD (g := 1) (by decide)) (vlds ho (g := 1) (by decide))) (pvs d 1 _)) (pcons (piece2 (dvG d (512 * T)) (pay18 hT (h.ldSc (g := 0) (by decide)) (pay14 (h.ldG (g := 0) (by decide)) (h.ldD (g := 0) (by decide))) (vldb ho (g := 0) (by decide))) (pvb d 0 _)) (pcons (piece2 (dvG d (512 * T)) (pay16 hT (pay11 (pay8 (h.ldX (g := 0) (by decide))) (pay9 i hv hT) (h.xbl hv (g := 0) (by decide) _) (h.ldW (g := 0) (by decide)) (h.ldB (g := 0) (by decide))) (pay14 (h.ldG (g := 0) (by decide)) (h.ldD (g := 0) (by decide))) (vlds ho (g := 0) (by decide))) (pvs d 0 _)) pnil))))))))
  · rw [harg9.read_unread]
    exact rows8 y (ho y)

theorem sout1_C (h : Tile d T x0 x1 x2 x3 x4) (hv : Scalar.subi 7#32 (BitVec.ofNat 32 (i 0).val) = BitVec.ofNat 32 T) (y : S528x1024.Idx) :
    sout0_C_1 (F := Ideal) c i arg1 harg1 arg2 harg2 arg3 harg3 arg5 harg5 arg6 harg6 arg7 harg7 arg8 harg8 arg9 harg9 arg10 harg10 arg11 harg11 arg12 harg12 hc0 hc1 x0 x1 x2 x3 x4 xo7 xs1 xs2 y = soG d T (y 0).val (y 1).val := by
  unfold sout0_C_1
  have hT := h.lt
  rw [View.read_writes_junk_eq_canon]
  refine canon_at (fun y : S528x1024.Idx => soG d T (y 0).val (y 1).val) _ ?_ y (scover0_C_1 c i arg1 harg1 arg2 harg2 arg3 harg3 arg5 harg5 arg6 harg6 arg7 harg7 arg8 harg8 arg9 harg9 arg10 harg10 arg11 harg11 arg12 harg12 hc0 hc1 x0 x1 x2 x3 x4 xo7 xs1 xs2 y)
  unfold kernelRun0_C
  dsimp only
  sl_unfold_words
  simp (discharger := assumption) only [View.readAt_eq_ld, Memref.IsWhole.read_unread]
  exact (pcons (piece2 (soG d T) (pay1 (hbl _ (pcons (piece2 (qG d T) (pay73 (pay59 hv hT) (pay69 (h.ldSc (g := 3) (by decide)) (pay62 (h.ldG (g := 3) (by decide))) (pay63 (h.ldG (g := 3) (by decide))) (h.ldD (g := 3) (by decide))) (h.ldW (g := 3) (by decide))) (pq d T 3)) (pcons (piece2 (qG d T) (pay54 (pay39 hv hT) (pay51 (h.ldSc (g := 2) (by decide)) (pay42 (h.ldG (g := 2) (by decide))) (pay43 (h.ldG (g := 2) (by decide))) pay44 (h.ldD (g := 2) (by decide))) (h.ldW (g := 2) (by decide))) (pq d T 2)) (pcons (piece2 (qG d T) (pay37 (pay24 hv hT) (pay32 (h.ldSc (g := 1) (by decide)) (h.ldG (g := 1) (by decide)) (h.ldD (g := 1) (by decide))) (h.ldW (g := 1) (by decide))) (pq d T 1)) (pcons (piece2 (qG d T) (pay22 (pay9 i hv hT) (h.ldSc (g := 0) (by decide)) (pay14 (h.ldG (g := 0) (by decide)) (h.ldD (g := 0) (by decide))) (h.ldW (g := 0) (by decide))) (pq d T 0)) pnil)))) (fun y hy => lanes4 y hy))) (psh d T)) (pcons (piece2 (soG d T) (pay73 (pay59 hv hT) (pay69 (h.ldSc (g := 3) (by decide)) (pay62 (h.ldG (g := 3) (by decide))) (pay63 (h.ldG (g := 3) (by decide))) (h.ldD (g := 3) (by decide))) (h.ldW (g := 3) (by decide))) (pso d T 3)) (pcons (piece2 (soG d T) (pay54 (pay39 hv hT) (pay51 (h.ldSc (g := 2) (by decide)) (pay42 (h.ldG (g := 2) (by decide))) (pay43 (h.ldG (g := 2) (by decide))) pay44 (h.ldD (g := 2) (by decide))) (h.ldW (g := 2) (by decide))) (pso d T 2)) (pcons (piece2 (soG d T) (pay37 (pay24 hv hT) (pay32 (h.ldSc (g := 1) (by decide)) (h.ldG (g := 1) (by decide)) (h.ldD (g := 1) (by decide))) (h.ldW (g := 1) (by decide))) (pso d T 1)) (pcons (piece2 (soG d T) (pay22 (pay9 i hv hT) (h.ldSc (g := 0) (by decide)) (pay14 (h.ldG (g := 0) (by decide)) (h.ldD (g := 0) (by decide))) (h.ldW (g := 0) (by decide))) (pso d T 0)) pnil)))))

theorem sout2_C (h : Tile d T x0 x1 x2 x3 x4) (hv : Scalar.subi 7#32 (BitVec.ofNat 32 (i 0).val) = BitVec.ofNat 32 T) (ha : ∀ y : S4x256x256.Idx, xs2 y = accG d (512 * (T + 1)) (y 0).val (y 1).val (y 2).val) (y : S4x256x256.Idx) :
    sout0_C_2 (F := Ideal) c i arg1 harg1 arg2 harg2 arg3 harg3 arg5 harg5 arg6 harg6 arg7 harg7 arg8 harg8 arg9 harg9 arg10 harg10 arg11 harg11 arg12 harg12 hc0 hc1 x0 x1 x2 x3 x4 xo7 xs1 xs2 y = accG d (512 * T) (y 0).val (y 1).val (y 2).val := by
  have hT := h.lt
  unfold sout0_C_2
  rw [View.read_writes_junk_eq_canon]
  refine canon_at (fun y : S4x256x256.Idx => accG d (512 * T) (y 0).val (y 1).val (y 2).val) _ ?_ y (scover0_C_2 c i arg1 harg1 arg2 harg2 arg3 harg3 arg5 harg5 arg6 harg6 arg7 harg7 arg8 harg8 arg9 harg9 arg10 harg10 arg11 harg11 arg12 harg12 hc0 hc1 x0 x1 x2 x3 x4 xo7 xs1 xs2 y)
  unfold kernelRun0_C
  dsimp only
  sl_unfold_words
  simp (discharger := assumption) only [View.readAt_eq_ld, Memref.IsWhole.read_unread]
  exact (pcons (piece3 (accG d (512 * T)) (pay71 (pay70 hT (pay60 hv hT (pay56 (h.ldX (g := 3) (by decide))) (h.xbl hv (g := 3) (by decide) _)) (h.ldSc (g := 3) (by decide)) (pay62 (h.ldG (g := 3) (by decide))) (pay63 (h.ldG (g := 3) (by decide))) (h.ldD (g := 3) (by decide)) (acl ha (g := 3) (by decide)))) (pacc d 3 _)) (pcons (piece3 (accG d (512 * T)) (pay52 hT (pay40 hv hT (h.ldX (g := 2) (by decide)) (h.xbl hv (g := 2) (by decide) _)) (pay51 (h.ldSc (g := 2) (by decide)) (pay42 (h.ldG (g := 2) (by decide))) (pay43 (h.ldG (g := 2) (by decide))) pay44 (h.ldD (g := 2) (by decide))) (acl ha (g := 2) (by decide))) (pacc d 2 _)) (pcons (piece3 (accG d (512 * T)) (pay35 hT (pay25 hv hT (h.ldX (g := 1) (by decide)) (h.xbl hv (g := 1) (by decide) _)) (pay32 (h.ldSc (g := 1) (by decide)) (h.ldG (g := 1) (by decide)) (h.ldD (g := 1) (by decide))) (acl ha (g := 1) (by decide))) (pacc d 1 _)) (pcons (piece3 (accG d (512 * T)) (pay20 hT (pay10 (pay8 (h.ldX (g := 0) (by decide))) (pay9 i hv hT) (h.xbl hv (g := 0) (by decide) _)) (h.ldSc (g := 0) (by decide)) (pay14 (h.ldG (g := 0) (by decide)) (h.ldD (g := 0) (by decide))) (acl ha (g := 0) (by decide))) (pacc d 0 _)) pnil))))

theorem out6_C (h : Tile d T x0 x1 x2 x3 x4) (hv : Scalar.subi 7#32 (BitVec.ofNat 32 (i 0).val) = BitVec.ofNat 32 T) (ha : ∀ y : S4x256x256.Idx, xs2 y = accG d (512 * (T + 1)) (y 0).val (y 1).val (y 2).val) (y : S4x256x256.Idx) :
    out0_C_6 (F := Ideal) c i arg1 harg1 arg2 harg2 arg3 harg3 arg5 harg5 arg6 harg6 arg7 harg7 arg8 harg8 arg9 harg9 arg10 harg10 arg11 harg11 arg12 harg12 hc0 hc1 x0 x1 x2 x3 x4 xo7 xs1 xs2 y = accG d (512 * T) (y 0).val (y 1).val (y 2).val := by
  have hT := h.lt
  unfold out0_C_6
  rw [View.read_writes_junk_eq_canon]
  refine canon_at (Val := Elt Ideal) (e := .bf16) (fun y : S4x256x256.Idx => accG d (512 * T) (y 0).val (y 1).val (y 2).val) _ ?_ y (cover0_C_6 c i arg1 harg1 arg2 harg2 arg3 harg3 arg5 harg5 arg6 harg6 arg7 harg7 arg8 harg8 arg9 harg9 arg10 harg10 arg11 harg11 arg12 harg12 hc0 hc1 x0 x1 x2 x3 x4 xo7 xs1 xs2 y)
  unfold kernelRun0_C
  dsimp only
  sl_unfold_words
  simp (discharger := assumption) only [View.readAt_eq_ld, Memref.IsWhole.read_unread]
  exact pcons (piece3 (accG d (512 * T)) (pay2 (accw _ (pcons (piece3 (accG d (512 * T)) (pay71 (pay70 hT (pay60 hv hT (pay56 (h.ldX (g := 3) (by decide))) (h.xbl hv (g := 3) (by decide) _)) (h.ldSc (g := 3) (by decide)) (pay62 (h.ldG (g := 3) (by decide))) (pay63 (h.ldG (g := 3) (by decide))) (h.ldD (g := 3) (by decide)) (acl ha (g := 3) (by decide)))) (pacc d 3 _)) (pcons (piece3 (accG d (512 * T)) (pay52 hT (pay40 hv hT (h.ldX (g := 2) (by decide)) (h.xbl hv (g := 2) (by decide) _)) (pay51 (h.ldSc (g := 2) (by decide)) (pay42 (h.ldG (g := 2) (by decide))) (pay43 (h.ldG (g := 2) (by decide))) pay44 (h.ldD (g := 2) (by decide))) (acl ha (g := 2) (by decide))) (pacc d 2 _)) (pcons (piece3 (accG d (512 * T)) (pay35 hT (pay25 hv hT (h.ldX (g := 1) (by decide)) (h.xbl hv (g := 1) (by decide) _)) (pay32 (h.ldSc (g := 1) (by decide)) (h.ldG (g := 1) (by decide)) (h.ldD (g := 1) (by decide))) (acl ha (g := 1) (by decide))) (pacc d 1 _)) (pcons (piece3 (accG d (512 * T)) (pay20 hT (pay10 (pay8 (h.ldX (g := 0) (by decide))) (pay9 i hv hT) (h.xbl hv (g := 0) (by decide) _)) (h.ldSc (g := 0) (by decide)) (pay14 (h.ldG (g := 0) (by decide)) (h.ldD (g := 0) (by decide))) (acl ha (g := 0) (by decide))) (pacc d 0 _)) pnil)))) (fun y => planes4 y)))
    (fun i j k _ _ _ => by rw [Nat.zero_add, Nat.zero_add, Nat.zero_add])) pnil

end

end Cert.Pool
-- ==== Proof.PoolKernel.lean ====
module

public import proofs.«01_k».proof.Proof.PoolA
public import proofs.«01_k».proof.Proof.PoolB
public import proofs.«01_k».proof.Proof.PoolC
public import proofs.«01_k».proof.Proof.Gen.KernelIdeal.Value
public import Idealize.ShloMosaic.Lib.Pipeline.Value

/-!
# The pooled branch's gradient: what the kernel's arrays end holding
-/

@[expose] public section

set_option maxRecDepth 16384

noncomputable section

namespace Cert.Pool

open Cert.KernelIdeal Cert.KernelIdeal.Gen Cert.KernelIdeal.Value Idealize.ShloMosaic Idealize.ShloMosaic.TcCoe Idealize.SL.Sem
open Idealize.ShloMosaic.Pipeline (Dat)

/-- A matrix as a function of row and column, zero outside. -/
def at2 {n m : ℕ} (f : (⟨2, ![n, m]⟩ : Shape).Idx → EReal) (r c : ℕ) : EReal :=
  if h : r < n ∧ c < m then f (ix2 ⟨r, h.1⟩ ⟨c, h.2⟩) else 0

/-- A stack of matrices as a function of three coordinates, zero outside. -/
def at3 {k n m : ℕ} (f : (⟨3, ![k, n, m]⟩ : Shape).Idx → EReal) (a r c : ℕ) : EReal :=
  if h : a < k ∧ r < n ∧ c < m then f (ix3 ⟨a, h.1⟩ ⟨r, h.2.1⟩ ⟨c, h.2.2⟩) else 0

theorem at2_eq {n m : ℕ} (f : (⟨2, ![n, m]⟩ : Shape).Idx → EReal) (r : Fin n) (c : Fin m) : at2 f r.val c.val = f (ix2 r c) :=
  dif_pos ⟨r.isLt, c.isLt⟩

theorem at3_eq {k n m : ℕ} (f : (⟨3, ![k, n, m]⟩ : Shape).Idx → EReal) (a : Fin k) (r : Fin n) (c : Fin m) :
    at3 f a.val r.val c.val = f (ix3 a r c) :=
  dif_pos ⟨a.isLt, r.isLt, c.isLt⟩

/-- An element at an index of the given coordinates. -/
theorem at2_of {n m : ℕ} (f : (⟨2, ![n, m]⟩ : Shape).Idx → EReal) (y : (⟨2, ![n, m]⟩ : Shape).Idx) {r c : ℕ}
    (h0 : (y 0).val = r) (h1 : (y 1).val = c) : f y = at2 f r c := by
  subst h0; subst h1
  rw [at2_eq f (y 0) (y 1)]
  exact congrArg f (funext fun a => Fin.ext (by fin_cases a <;> rfl))

theorem at3_of {k n m : ℕ} (f : (⟨3, ![k, n, m]⟩ : Shape).Idx → EReal) (y : (⟨3, ![k, n, m]⟩ : Shape).Idx) {a r c : ℕ}
    (h0 : (y 0).val = a) (h1 : (y 1).val = r) (h2 : (y 2).val = c) : f y = at3 f a r c := by
  subst h0; subst h1; subst h2
  rw [at3_eq f (y 0) (y 1) (y 2)]
  exact congrArg f (funext fun a => Fin.ext (by fin_cases a <;> rfl))

/-- The five arguments' part the gradient reads. -/
def dataOf (P : Vec Ideal S4x4096x1024 .f32) (D : Vec Ideal S4096x2048 .f32) (W : Vec Ideal S4x256x256 .bf16) (v : Vec Ideal S8x1024 .f32) : Data where
  X t l := at3 P 2 t l
  G t l := at3 P 3 t l
  D t l := at2 D t (1024 + l)
  W g i j := at3 W g i j
  B l := at2 v 0 l
  Sc l := at2 v 1 l

variable (m : (ℓ : Loc nD τ sig) → Buf (Elt Ideal) ℓ)

/-- The launched contents' part the gradient reads. -/
abbrev dm (c : Dev nD) : Data :=
  dataOf (m ((c : Thread nD τ).loc main_arg0)) (m ((c : Thread nD τ).loc main_arg1)) (m ((c : Thread nD τ).loc main_arg3)) (m ((c : Thread nD τ).loc main_arg4))

theorem dm_past (c : Dev nD) (t l : ℕ) (h : 4096 ≤ t) : (dm m c).D t l = 0 := dif_neg (by omega)

theorem index0 : ∀ t : Fin grid0.N, win0_0.index t 0 = 1 ∧ win0_0.index t 1 = 7 - t.val ∧ win0_0.index t 2 = 0 := by decide +kernel
theorem index1 : ∀ t : Fin grid0.N, win0_1.index t 0 = 2 ∧ win0_1.index t 1 = 32 * (7 - t.val) - 1 ∧ win0_1.index t 2 = 0 := by decide +kernel
theorem index2 : ∀ t : Fin grid0.N, win0_2.index t 0 = 7 - t.val ∧ win0_2.index t 1 = 1 := by decide +kernel
theorem index3 : ∀ t : Fin grid0.N, win0_3.index t 0 = 0 ∧ win0_3.index t 1 = 0 ∧ win0_3.index t 2 = 0 := by decide +kernel
theorem index4 : ∀ t : Fin grid0.N, win0_4.index t 0 = 0 ∧ win0_4.index t 1 = 0 := by decide +kernel
theorem index5 : ∀ t : Fin grid0.N, win0_5.index t 0 = 1 ∧ win0_5.index t 1 = 7 - t.val ∧ win0_5.index t 2 = 0 := by decide +kernel
theorem index6 : ∀ t : Fin grid0.N, win0_6.index t 0 = 0 ∧ win0_6.index t 1 = 0 ∧ win0_6.index t 2 = 0 := by decide +kernel
theorem index7 : ∀ t : Fin grid0.N, win0_7.index t 0 = 0 ∧ win0_7.index t 1 = 0 := by decide +kernel

theorem step : ∀ t : Fin grid0.N, Scalar.subi 7#32 (BitVec.ofNat 32 (grid0.coords t 0).val) = BitVec.ofNat 32 (7 - t.val) := by decide +kernel

/-- Grid point `t` works on tile `7 - t`. -/
theorem tile (c : Dev nD) (t : Fin cfg0.N) :
    Tile (dm m c) (7 - t.val) (iblk m c 0 t) (iblk m c 1 t) (iblk m c 2 t) (iblk m c 3 t) (iblk m c 4 t) where
  lt := by omega
  x r l := by
    unfold iblk
    rw [View.read_apply]
    show V m c main_arg0 _ = at3 _ _ _ _
    rw [V_main_arg0]
    have hi := index0 t
    refine at3_of _ _ ?_ ?_ ?_
    · show win0_0.index t 0 * 2 + 1 * 0 = 2; omega
    · show win0_0.index t 1 * 512 + 1 * r.val = 512 * (7 - t.val) + r.val; omega
    · show win0_0.index t 2 * 1024 + 1 * l.val = l.val; omega
  g r l := by
    unfold iblk
    rw [View.read_apply]
    show V m c main_arg0 _ = at3 _ _ _ _
    rw [V_main_arg0]
    have hi := index0 t
    refine at3_of _ _ ?_ ?_ ?_
    · show win0_0.index t 0 * 2 + 1 * 1 = 3; omega
    · show win0_0.index t 1 * 512 + 1 * r.val = 512 * (7 - t.val) + r.val; omega
    · show win0_0.index t 2 * 1024 + 1 * l.val = l.val; omega
  halo h0 r l := by
    unfold iblk
    rw [View.read_apply]
    show V m c main_arg0 _ = at3 _ _ _ _
    rw [V_main_arg0]
    have hi := index1 t
    refine at3_of _ _ ?_ ?_ ?_
    · show win0_1.index t 0 * 1 + 1 * 0 = 2; omega
    · show win0_1.index t 1 * 16 + 1 * r.val = 512 * (7 - t.val) + r.val - 16; omega
    · show win0_1.index t 2 * 1024 + 1 * l.val = l.val; omega
  dy r l := by
    unfold iblk
    rw [View.read_apply]
    show V m c main_arg1 _ = at2 _ _ _
    rw [V_main_arg1]
    have hi := index2 t
    refine at2_of _ _ ?_ ?_
    · show win0_2.index t 0 * 512 + 1 * r.val = 512 * (7 - t.val) + r.val; omega
    · show win0_2.index t 1 * 1024 + 1 * l.val = 1024 + l.val; omega
  w a r l := by
    unfold iblk
    rw [View.read_apply]
    show V m c main_arg3 _ = at3 _ _ _ _
    rw [V_main_arg3]
    have hi := index3 t
    refine at3_of _ _ ?_ ?_ ?_
    · show win0_3.index t 0 * 4 + 1 * a.val = a.val; omega
    · show win0_3.index t 1 * 256 + 1 * r.val = r.val; omega
    · show win0_3.index t 2 * 256 + 1 * l.val = l.val; omega
  b l := by
    unfold iblk
    rw [View.read_apply]
    show V m c main_arg4 _ = at2 _ _ _
    rw [V_main_arg4]
    have hi := index4 t
    refine at2_of _ _ ?_ ?_
    · show win0_4.index t 0 * 8 + 1 * 0 = 0; omega
    · show win0_4.index t 1 * 1024 + 1 * l.val = l.val; omega
  sc l := by
    unfold iblk
    rw [View.read_apply]
    show V m c main_arg4 _ = at2 _ _ _
    rw [V_main_arg4]
    have hi := index4 t
    refine at2_of _ _ ?_ ?_
    · show win0_4.index t 0 * 8 + 1 * 1 = 1; omega
    · show win0_4.index t 1 * 1024 + 1 * l.val = l.val; omega

/-- What grid point `n` leaves: its tile's gradients, the running sums, and the rows it hands to the next point. -/
structure Left (d : Data) (n T : ℕ) (o : Vec Ideal S2x512x1024 .bf16 × Vec Ideal S4x256x256 .bf16 × Vec Ideal S8x1024 .f32 ×
    Vec Ideal S528x1024 .f32 × Vec Ideal S4x256x256 .f32) : Prop where
  o5 : ∀ y, o.1 y = out5G d T (y 0).val (y 1).val (y 2).val
  o6 : n = 7 → ∀ y, o.2.1 y = accG d (512 * T) (y 0).val (y 1).val (y 2).val
  o7 : ∀ y, o.2.2.1 y = dvG d (512 * T) (y 0).val (y 1).val
  s1 : ∀ y, o.2.2.2.1 y = soG d T (y 0).val (y 1).val
  s2 : ∀ y, o.2.2.2.2 y = accG d (512 * T) (y 0).val (y 1).val (y 2).val

/-- The rows handed down are the next tile's rows 512 to 527. -/
theorem handed {d : Data} {T : ℕ} {s : Vec Ideal S528x1024 .f32} (h : ∀ y, s y = soG d (T + 1) (y 0).val (y 1).val) :
    ∀ y : S528x1024.Idx, 512 ≤ (y 0).val → s y = qG d T (y 0).val (y 1).val := by
  intro y hy
  rw [h y]
  unfold soG qG
  rw [if_neg (by omega)]
  congr 1
  omega

theorem left_mk {d : Data} {n T : ℕ} {a : Vec Ideal S2x512x1024 .bf16} {b : Vec Ideal S4x256x256 .bf16} {v : Vec Ideal S8x1024 .f32}
    {s : Vec Ideal S528x1024 .f32} {w : Vec Ideal S4x256x256 .f32} (h5 : ∀ y, a y = out5G d T (y 0).val (y 1).val (y 2).val)
    (h6 : n = 7 → ∀ y, b y = accG d (512 * T) (y 0).val (y 1).val (y 2).val) (h7 : ∀ y, v y = dvG d (512 * T) (y 0).val (y 1).val)
    (h1 : ∀ y, s y = soG d T (y 0).val (y 1).val) (h2 : ∀ y, w y = accG d (512 * T) (y 0).val (y 1).val (y 2).val) :
    Left d n T (a, b, v, s, w) := ⟨h5, h6, h7, h1, h2⟩

set_option maxHeartbeats 2000000 in
theorem left_A (c : Dev nD) (t : Fin cfg0.N) (h0 : t.val % 8 = 0) (h1 : ¬t.val % 8 = 7) (h7 : 7 - t.val = 7) (hn : t.val ≠ 7) :
    Left (dm m c) t.val (7 - t.val) (outsAt0 m c t.val t.isLt) := by
  have ht := tile m c t
  have hv := step t
  rw [outsAt0_A m c t h0 h1]
  refine left_mk ?_ (fun h => absurd h hn) ?_ ?_ ?_
  · exact fun y => out5_A (h := ht) (hv := hv) (hD := dm_past m c) (h7 := h7) (y := y) ..
  · exact fun y => out7_A (h := ht) (hv := hv) (h7 := h7) (y := y) ..
  · exact fun y => sout1_A (h := ht) (hv := hv) (hD := dm_past m c) (h7 := h7) (y := y) ..
  · exact fun y => sout2_A (h := ht) (hv := hv) (h7 := h7) (y := y) ..

set_option maxHeartbeats 2000000 in
theorem left_B (c : Dev nD) (t : Fin cfg0.N) (h0 : ¬t.val % 8 = 0) (h1 : ¬t.val % 8 = 7) (hn : t.val ≠ 7) {k : ℕ}
    (ih : ∀ h, Left (dm m c) k (7 - t.val + 1) (outsAt0 m c (t.val - 1) h)) :
    Left (dm m c) t.val (7 - t.val) (outsAt0 m c t.val t.isLt) := by
  have ht := tile m c t
  have hv := step t
  rw [outsAt0_B m c t h0 h1]
  refine left_mk ?_ (fun h => absurd h hn) ?_ ?_ ?_
  · exact fun y => out5_B (h := ht) (hv := hv) (hx := handed (ih _).s1) (y := y) ..
  · exact fun y => out7_B (h := ht) (hv := hv) (ho := (ih _).o7) (y := y) ..
  · exact fun y => sout1_B (h := ht) (hv := hv) (y := y) ..
  · exact fun y => sout2_B (h := ht) (hv := hv) (ha := (ih _).s2) (y := y) ..

set_option maxHeartbeats 2000000 in
theorem left_C (c : Dev nD) (t : Fin cfg0.N) (h0 : ¬t.val % 8 = 0) (h1 : t.val % 8 = 7) {k : ℕ}
    (ih : ∀ h, Left (dm m c) k (7 - t.val + 1) (outsAt0 m c (t.val - 1) h)) :
    Left (dm m c) t.val (7 - t.val) (outsAt0 m c t.val t.isLt) := by
  have ht := tile m c t
  have hv := step t
  rw [outsAt0_C m c t h0 h1]
  refine left_mk ?_ (fun _ => ?_) ?_ ?_ ?_
  · exact fun y => out5_C (h := ht) (hv := hv) (hx := handed (ih _).s1) (y := y) ..
  · exact fun y => out6_C (h := ht) (hv := hv) (ha := (ih _).s2) (y := y) ..
  · exact fun y => out7_C (h := ht) (hv := hv) (ho := (ih _).o7) (y := y) ..
  · exact fun y => sout1_C (h := ht) (hv := hv) (y := y) ..
  · exact fun y => sout2_C (h := ht) (hv := hv) (ha := (ih _).s2) (y := y) ..

theorem left (c : Dev nD) : ∀ (n : ℕ) (hn : n < cfg0.N), Left (dm m c) n (7 - n) (outsAt0 m c n hn)
  | 0, hn => left_A m c ⟨0, hn⟩ (Nat.zero_mod 8) (by show ¬ 0 % 8 = 7; decide) rfl (by show (0 : ℕ) ≠ 7; decide)
  | n + 1, hn => by
    have hN : cfg0.N = 8 := N_0
    have ih : ∀ h, Left (dm m c) n (7 - (n + 1) + 1) (outsAt0 m c n h) := fun h =>
      (show 7 - n = 7 - (n + 1) + 1 by omega) ▸ left c n h
    have h0 : ¬ (n + 1) % 8 = 0 := by omega
    by_cases h1 : (n + 1) % 8 = 7
    · exact left_C m c ⟨n + 1, hn⟩ h0 h1 ih
    · exact left_B m c ⟨n + 1, hn⟩ h0 h1 (by show n + 1 ≠ 7; omega) ih

/-! ## The three arrays -/

/-- The projections' gradient: the pooled branch's two slots over what was there. -/
def resP (d : Data) (p : Vec Ideal S4x4096x1024 .bf16) : Vec Ideal S4x4096x1024 .bf16 := fun i =>
  if (i 0).val < 2 then p i else if (i 0).val = 2 then d.dx ((i 2).val / 256) (i 1).val ((i 2).val % 256)
    else d.dgate ((i 2).val / 256) (i 1).val ((i 2).val % 256)

/-- The mixing matrices' gradient. -/
def resW (d : Data) : Vec Ideal S4x256x256 .bf16 := fun i => d.dW (i 0).val (i 1).val (i 2).val 0

/-- The bias' and the scale's gradients, as rows 0 and 1 of eight. -/
def resV (d : Data) : Vec Ideal S8x1024 .f32 := fun i => dvG d 0 (i 0).val (i 1).val

theorem mem_blk5 (t : Fin cfg0.N) (i : S4x4096x1024.Idx) (h0 : win0_5.index t 0 * 2 ≤ (i 0).val ∧ (i 0).val < win0_5.index t 0 * 2 + 2) (h1 : win0_5.index t 1 * 512 ≤ (i 1).val ∧ (i 1).val < win0_5.index t 1 * 512 + 512) (h2 : win0_5.index t 2 * 1024 ≤ (i 2).val ∧ (i 2).val < win0_5.index t 2 * 1024 + 1024) :
    i ∈ ((cfg0.win 5).blk t).view.set := by
  show i ∈ ((View.whole main_v0_0).slice (win0_5.rect t)).set
  rw [View.set_slice_whole, Rect.mem_set_unit]
  intro a
  match a with
  | ⟨0, _⟩ => exact h0
  | ⟨1, _⟩ => exact h1
  | ⟨2, _⟩ => exact h2

theorem mem_blk6 (t : Fin cfg0.N) (i : S4x256x256.Idx) (h0 : win0_6.index t 0 * 4 ≤ (i 0).val ∧ (i 0).val < win0_6.index t 0 * 4 + 4) (h1 : win0_6.index t 1 * 256 ≤ (i 1).val ∧ (i 1).val < win0_6.index t 1 * 256 + 256) (h2 : win0_6.index t 2 * 256 ≤ (i 2).val ∧ (i 2).val < win0_6.index t 2 * 256 + 256) :
    i ∈ ((cfg0.win 6).blk t).view.set := by
  show i ∈ ((View.whole main_v0_1).slice (win0_6.rect t)).set
  rw [View.set_slice_whole, Rect.mem_set_unit]
  intro a
  match a with
  | ⟨0, _⟩ => exact h0
  | ⟨1, _⟩ => exact h1
  | ⟨2, _⟩ => exact h2

theorem mem_blk7 (t : Fin cfg0.N) (i : S8x1024.Idx) (h0 : win0_7.index t 0 * 8 ≤ (i 0).val ∧ (i 0).val < win0_7.index t 0 * 8 + 8) (h1 : win0_7.index t 1 * 1024 ≤ (i 1).val ∧ (i 1).val < win0_7.index t 1 * 1024 + 1024) :
    i ∈ ((cfg0.win 7).blk t).view.set := by
  show i ∈ ((View.whole main_v0_2).slice (win0_7.rect t)).set
  rw [View.set_slice_whole, Rect.mem_set_unit]
  intro a
  match a with
  | ⟨0, _⟩ => exact h0
  | ⟨1, _⟩ => exact h1

theorem flushed5_eq (c : Dev nD) (t : Fin cfg0.N) :
    (dats m 0 c).flushed 5 t = ((cfg0.win 5).blk t).view.read (Elt Ideal) (resP (dm m c) (m ((c : Thread nD τ).loc main_arg2))) := by
  have hN : cfg0.N = 8 := N_0
  rw [flushed5]
  funext y
  have hi := index5 t
  refine ((left m c t.val t.isLt).o5 y).trans ?_
  rw [View.read_apply]
  have h0 : (y 0).val < 2 := (y 0).isLt
  have e0 : (((cfg0.win 5).blk t).view.emb y 0).val = 2 + (y 0).val := by
    show win0_5.index t 0 * 2 + 1 * (y 0).val = 2 + (y 0).val; omega
  have e1 : (((cfg0.win 5).blk t).view.emb y 1).val = 512 * (7 - t.val) + (y 1).val := by
    show win0_5.index t 1 * 512 + 1 * (y 1).val = _; omega
  have e2 : (((cfg0.win 5).blk t).view.emb y 2).val = (y 2).val := by
    show win0_5.index t 2 * 1024 + 1 * (y 2).val = _; omega
  show _ = resP (dm m c) _ (((cfg0.win 5).blk t).view.emb y)
  unfold resP out5G
  rw [e0, e1, e2]
  by_cases h : (y 0).val = 0
  · rw [if_pos h, if_neg (by omega), if_pos (by omega)]
  · rw [if_neg h, if_neg (by omega), if_neg (by omega)]

theorem v_out (c : Dev nD) : V m c main_v0_0 = m ((c : Thread nD τ).loc main_arg2) := by
  show StableHlo.after hostOps0 (fun b => m (c, b)) main_v0_0 = _
  rfl

theorem final5 (c : Dev nD) : (dats m 0 c).arrAt 5 cfg0.N = resP (dm m c) (m ((c : Thread nD τ).loc main_arg2)) := by
  have hN : cfg0.N = 8 := N_0
  funext i
  rw [(dats m 0 c).arrAt_eq_piecewise 5 _ (fun t _ => flushed5_eq m c t) i]
  split
  · rfl
  · rename_i h
    have h0 : (i 0).val < 4 := (i 0).isLt
    have h1 : (i 1).val < 4096 := (i 1).isLt
    have h2 : (i 2).val < 1024 := (i 2).isLt
    have hlt : (i 0).val < 2 := by
      by_contra hge
      refine h ⟨⟨7 - (i 1).val / 512, by omega⟩, flush0_5 _, ?_⟩
      have hi := index5 ⟨7 - (i 1).val / 512, by rw [N_0]; omega⟩
      dsimp only at hi
      exact mem_blk5 _ i (by omega) (by omega) (by omega)
    unfold resP
    rw [if_pos hlt, A_eq]
    exact congrFun (v_out m c) i

theorem final6 (c : Dev nD) : (dats m 0 c).arrAt 6 cfg0.N = resW (dm m c) := by
  have hN : cfg0.N = 8 := N_0
  refine (dats m 0 c).arrAt_eq_of_cover 6 (resW (dm m c)) (fun t hf => ?_) fun i => ?_
  · have h7 : t.val = 7 := by have := (flush0_6 t).mp hf; have := t.isLt; omega
    rw [flushed6]
    funext y
    have hi := index6 t
    refine ((left m c t.val t.isLt).o6 h7 y).trans ?_
    rw [View.read_apply]
    have e0 : (((cfg0.win 6).blk t).view.emb y 0).val = (y 0).val := by
      show win0_6.index t 0 * 4 + 1 * (y 0).val = _; omega
    have e1 : (((cfg0.win 6).blk t).view.emb y 1).val = (y 1).val := by
      show win0_6.index t 1 * 256 + 1 * (y 1).val = _; omega
    have e2 : (((cfg0.win 6).blk t).view.emb y 2).val = (y 2).val := by
      show win0_6.index t 2 * 256 + 1 * (y 2).val = _; omega
    show _ = resW (dm m c) (((cfg0.win 6).blk t).view.emb y)
    unfold resW accG
    rw [e0, e1, e2, h7]
  · have h0 : (i 0).val < 4 := (i 0).isLt
    have h1 : (i 1).val < 256 := (i 1).isLt
    have h2 : (i 2).val < 256 := (i 2).isLt
    refine ⟨⟨7, by omega⟩, (flush0_6 _).mpr rfl, ?_⟩
    have hi := index6 ⟨7, by rw [N_0]; omega⟩
    exact mem_blk6 _ i (by omega) (by omega) (by omega)

theorem final7 (c : Dev nD) : (dats m 0 c).arrAt 7 cfg0.N = resV (dm m c) := by
  have hN : cfg0.N = 8 := N_0
  refine (dats m 0 c).arrAt_eq_of_cover 7 (resV (dm m c)) (fun t hf => ?_) fun i => ?_
  · have h7 : t.val = 7 := by have := (flush0_7 t).mp hf; have := t.isLt; omega
    rw [flushed7]
    funext y
    have hi := index7 t
    refine ((left m c t.val t.isLt).o7 y).trans ?_
    rw [View.read_apply]
    have e0 : (((cfg0.win 7).blk t).view.emb y 0).val = (y 0).val := by
      show win0_7.index t 0 * 8 + 1 * (y 0).val = _; omega
    have e1 : (((cfg0.win 7).blk t).view.emb y 1).val = (y 1).val := by
      show win0_7.index t 1 * 1024 + 1 * (y 1).val = _; omega
    show _ = resV (dm m c) (((cfg0.win 7).blk t).view.emb y)
    unfold resV
    rw [e0, e1, h7]
  · have h0 : (i 0).val < 8 := (i 0).isLt
    have h1 : (i 1).val < 1024 := (i 1).isLt
    refine ⟨⟨7, by omega⟩, (flush0_7 _).mpr rfl, ?_⟩
    have hi := index7 ⟨7, by rw [N_0]; omega⟩
    exact mem_blk7 _ i (by omega) (by omega)

end Cert.Pool
end
-- ==== Proof.PoolPre.lean ====
/- The precondition: the two rows of `proj` the pool reads, its half of the cotangent, its weights and its two rows of
   vectors are finite. Here it is read off the printed condition, element by element. -/
module

public import proofs.«01_k».proof.Defs
public import proofs.«01_k».proof.Proof.PoolMath
public import proofs.«01_k».proof.Proof.PoolKernel
public import Idealize.ShloMosaic.Lib.ReduceAll
public import Idealize.ShloMosaic.Lib.Affine
public import Idealize.ShloMosaic.PureOps.Ideal

@[expose] public section

noncomputable section

namespace Cert.Pool

open Idealize.ShloMosaic Cert.Pre_finite_inputs

/-- The shapes' facts the condition's text uses. -/
theorem pre_facts : Cert.Pre_finite_inputs.Facts where
  slices_S4x4096x1024_S2x4096x1024_2_0_0 := by decide
  bcast_S_S2x4096x1024 := by decide
  reducesTo_S2x4096x1024_S_d0_1_2 := by decide
  h_S_ := by decide
  slices_S4096x2048_S4096x1024_0_1024 := by decide
  bcast_S_S4096x1024 := by decide
  reducesTo_S4096x1024_S_d0_1 := by decide
  bitsLt_bf16_f32 := by decide
  bcast_S_S4x256x256 := by decide
  reducesTo_S4x256x256_S_d0_1_2 := by decide
  slices_S8x1024_S2x1024_0_0 := by decide
  bcast_S_S2x1024 := by decide
  reducesTo_S2x1024_S_d0_1 := by decide

/-- An extended real whose absolute value is below infinity is a real. -/
theorem isR_of_lt (x : EReal) (h : max x (-x) < ⊤) : IsR x := by
  induction x using EReal.rec with
  | bot => simp at h
  | top => simp at h
  | coe r => exact ⟨r, rfl⟩

/-- The word of the condition's bound denotes infinity. -/
theorem inf_bits : Ideal.ofBits .f32 0x7F800000#32 = (⊤ : EReal) := by
  simp [Ideal.ofBits, Ideal.ieee]

/-- One comparison of the condition that is 1 says its element is finite. -/
theorem isR_of_cmp {s : Shape} {x : FVec Ideal s .f32} {y : FVec Ideal s .f32} (hy : ∀ i, y i = (⊤ : EReal)) (i : s.Idx)
    (h : cmpf .olt (Host.absf x) y i = 1#1) : IsR (x i) := by
  refine isR_of_lt _ ?_
  have h' : Ideal.cmp .olt (max (x i) (-(x i))) (y i) = 1#1 := h
  rw [hy i] at h'
  by_contra hn
  rw [show Ideal.cmp .olt (max (x i) (-(x i))) ⊤ = 0#1 by simp [Ideal.cmp, hn]] at h'
  exact absurd h' (by decide)

instance : Subsingleton S_.Idx := inferInstanceAs (Subsingleton ((a : Fin 0) → Fin (_)))

/-- All elements under one `all` are finite. -/
theorem isR_of_all {s : Shape} {axes : List (Fin s.rank)} {x y : FVec Ideal s .f32} (hy : ∀ i, y i = (⊤ : EReal))
    (init : S_.Idx → BitVec 1) (h : s.ReducesTo axes S_) (hu : 0 < S_.numel) (j : S_.Idx)
    (e : Host.reduce IntOp.andi (cmpf .olt (Host.absf x) y) init h hu j = 1#1) (i : s.Idx) : IsR (x i) :=
  isR_of_cmp hy i (Host.reduce_andi_all _ init h hu j e i)

theorem isR_at2 {n m : ℕ} {f : (⟨2, ![n, m]⟩ : Shape).Idx → EReal} {r c : ℕ} (h : ∀ (hr : r < n) (hc : c < m), IsR (f (ix2 ⟨r, hr⟩ ⟨c, hc⟩))) :
    IsR (at2 f r c) := by
  unfold at2
  split
  · next h' => exact h h'.1 h'.2
  · exact IsR.zero

theorem isR_at3 {k n m : ℕ} {f : (⟨3, ![k, n, m]⟩ : Shape).Idx → EReal} {a r c : ℕ}
    (h : ∀ (ha : a < k) (hr : r < n) (hc : c < m), IsR (f (ix3 ⟨a, ha⟩ ⟨r, hr⟩ ⟨c, hc⟩))) : IsR (at3 f a r c) := by
  unfold at3
  split
  · next h' => exact h h'.1 h'.2.1 h'.2.2
  · exact IsR.zero

/-- The condition gives that everything the gradient reads is real. -/
theorem fin_of_pre [Cert.Pre_finite_inputs.Facts] (P : Vec Ideal S4x4096x1024 .f32) (D : Vec Ideal S4096x2048 .f32) (A : Vec Ideal S4x4096x1024 .bf16)
    (W : Vec Ideal S4x256x256 .bf16) (v : Vec Ideal S8x1024 .f32)
    (h : Cert.Pre_finite_inputs.fn (F := Ideal) P D A W v = fun _ => 1#1) : Fin' (dataOf P D W v) := by
  have e := congrFun h (Shape.Idx.first (by decide))
  unfold Cert.Pre_finite_inputs.fn Cert.Pre_finite_inputs.fn_part1 at e
  obtain ⟨e, e4⟩ := IntOp.andi_eq_one.1 e
  obtain ⟨e, e3⟩ := IntOp.andi_eq_one.1 e
  obtain ⟨e1, e2⟩ := IntOp.andi_eq_one.1 e
  have k1 := isR_of_all (fun _ => inf_bits) _ _ _ _ e1
  have k2 := isR_of_all (fun _ => inf_bits) _ _ _ _ e2
  have k3 := isR_of_all (fun _ => inf_bits) _ _ _ _ e3
  have k4 := isR_of_all (fun _ => inf_bits) _ _ _ _ e4
  have p : ∀ a : ℕ, a < 2 → ∀ t l, IsR (at3 P (2 + a) t l) := fun a ha t l => isR_at3 fun h0 ht hl => by
    have := k1 (ix3 ⟨a, ha⟩ ⟨t, ht⟩ ⟨l, hl⟩)
    beta_reduce at this
    rwa [extractStridedSlice_apply (k := ix3 ⟨2 + a, h0⟩ ⟨t, ht⟩ ⟨l, hl⟩) (hk := fun b => by
      fin_cases b
      · rfl
      · exact (Nat.zero_add t).symm
      · exact (Nat.zero_add l).symm)] at this
  have q : ∀ a : ℕ, a < 2 → ∀ l, IsR (at2 v a l) := fun a ha l => isR_at2 fun h0 hl => by
    have := k4 (ix2 ⟨a, ha⟩ ⟨l, hl⟩)
    beta_reduce at this
    rwa [extractStridedSlice_apply (k := ix2 ⟨a, h0⟩ ⟨l, hl⟩) (hk := fun b => by
      fin_cases b
      · exact (Nat.zero_add a).symm
      · exact (Nat.zero_add l).symm)] at this
  refine ⟨p 0 (by decide), p 1 (by decide), fun t l => isR_at2 fun ht hl => ?_, fun g i j => isR_at3 fun hg hi hj => k3 _,
    q 0 (by decide), q 1 (by decide)⟩
  have := k2 (ix2 ⟨t, ht⟩ ⟨l, by omega⟩)
  beta_reduce at this
  rwa [extractStridedSlice_apply (k := ix2 ⟨t, ht⟩ ⟨1024 + l, hl⟩) (hk := fun b => by
    fin_cases b
    · exact (Nat.zero_add t).symm
    · rfl)] at this

end Cert.Pool

end
-- ==== Proof.PoolCum.lean ====
module

public import proofs.«01_k».proof.Proof.PoolMath
public import proofs.«01_k».proof.Proof.Gen.ReferenceIdeal.Read

/-!
# Running sums along the steps

The host's window sum over all 4096 steps, padded before or after, is the running sum from the beginning or from the end.
-/

@[expose] public section

set_option maxRecDepth 16384

noncomputable section

namespace Cert.Pool

open Idealize.ShloMosaic
open scoped BigOperators

theorem foldl_plus {α : Type} (φ : α → EReal) : ∀ (l : List α) (v : EReal),
    l.foldl (fun r n => r + φ n) v = v + (l.map φ).sum
  | [], v => by simp
  | a :: l, v => by rw [List.foldl_cons, foldl_plus φ l, List.map_cons, List.sum_cons, add_assoc]

theorem M3.at {k n m : ℕ} {f : (⟨3, ![k, n, m]⟩ : Shape).Idx → EReal} {F : ℕ → ℕ → ℕ → EReal} (h : M3 f F)
    (i : (⟨3, ![k, n, m]⟩ : Shape).Idx) {a r c : ℕ} (e0 : (i 0).val = a) (e1 : (i 1).val = r) (e2 : (i 2).val = c) :
    f i = F a r c := by
  subst e0; subst e1; subst e2
  exact (congrArg f (funext fun x => by match x with | ⟨0, _⟩ => rfl | ⟨1, _⟩ => rfl | ⟨2, _⟩ => rfl)).trans (h (i 0) (i 1) (i 2))

theorem M2.at {n m : ℕ} {f : (⟨2, ![n, m]⟩ : Shape).Idx → EReal} {F : ℕ → ℕ → EReal} (h : M2 f F)
    (i : (⟨2, ![n, m]⟩ : Shape).Idx) {r c : ℕ} (e0 : (i 0).val = r) (e1 : (i 1).val = c) : f i = F r c := by
  subst e0; subst e1
  exact (congrArg f (funext fun x => by match x with | ⟨0, _⟩ => rfl | ⟨1, _⟩ => rfl)).trans (h (i 0) (i 1))

/-- The sum a window of all steps takes at step `t`, `lo` steps of padding before the first. -/
theorem window_sum {F : ℕ → ℕ → ℕ → EReal} {x : (⟨3, ![4096, 4, 256]⟩ : Shape).Idx → EReal} (hx : M3 x F) (lo hi : Fin 3 → ℕ)
    (h1 : lo 1 = 0) (h2 : lo 2 = 0)
    (h : (⟨3, ![4096, 4, 256]⟩ : Shape).ReduceWindows ![4096, 1, 1] ![1, 1, 1] lo hi ⟨3, ![4096, 4, 256]⟩)
    (hu : 0 < (⟨0, ![]⟩ : Shape).numel) (t : Fin 4096) (g : Fin 4) (c : Fin 256) :
    Host.reduceWindow (· + ·) ![4096, 1, 1] ![1, 1, 1] lo hi x (fun _ : (⟨0, ![]⟩ : Shape).Idx => (0 : EReal)) h hu (ix3 t g c)
      = ∑ k ∈ Finset.range 4096, if lo 0 ≤ t.val + k ∧ t.val + k - lo 0 < 4096 then F (t.val + k - lo 0) g.val c.val else 0 := by
  unfold Host.reduceWindow
  refine (foldl_plus (α := Fin (⟨3, ![4096, 1, 1]⟩ : Shape).numel) _ _ _).trans ?_
  rw [← Fin.sum_univ_def, zero_add]
  rw [← Equiv.sum_comp (⟨3, ![4096, 1, 1]⟩ : Shape).rowMajor]
  simp only [Equiv.symm_apply_apply]
  rw [sum_idx3, ← Fin.sum_univ_eq_sum_range (fun k => if lo 0 ≤ t.val + k ∧ t.val + k - lo 0 < 4096 then F (t.val + k - lo 0) g.val c.val else 0)]
  refine Finset.sum_congr rfl fun k _ => ?_
  rw [Fin.sum_univ_one, Fin.sum_univ_one]
  have hg := g.isLt
  have hc := c.isLt
  split
  · next hin =>
    have h0 := hin 0
    change lo 0 ≤ t.val * 1 + k.val ∧ t.val * 1 + k.val - lo 0 < 4096 at h0
    rw [Nat.mul_one] at h0
    rw [if_pos h0]
    refine M3.at hx _ ?_ ?_ ?_
    · show t.val * 1 + k.val - lo 0 = _
      rw [Nat.mul_one]
    · show g.val * 1 + 0 - lo 1 = _
      omega
    · show c.val * 1 + 0 - lo 2 = _
      omega
  · next hin =>
    rw [if_neg fun hle => hin fun a => by
      match a with
      | ⟨0, _⟩ =>
        show lo 0 ≤ t.val * 1 + k.val ∧ t.val * 1 + k.val - lo 0 < 4096
        rw [Nat.mul_one]; exact hle
      | ⟨1, _⟩ =>
        show lo 1 ≤ g.val * 1 + 0 ∧ g.val * 1 + 0 - lo 1 < 4
        omega
      | ⟨2, _⟩ =>
        show lo 2 ≤ c.val * 1 + 0 ∧ c.val * 1 + 0 - lo 2 < 256
        omega]

theorem cum_sum (f : ℕ → EReal) (t : ℕ) (ht : t < 4096) :
    (∑ k ∈ Finset.range 4096, if 4095 ≤ t + k ∧ t + k - 4095 < 4096 then f (t + k - 4095) else 0) = ∑ s ∈ Finset.range (t + 1), f s := by
  rw [← Finset.sum_subset (s₁ := Finset.Ico (4095 - t) 4096)]
  · rw [Finset.sum_Ico_eq_sum_range, show 4096 - (4095 - t) = t + 1 by omega]
    refine Finset.sum_congr rfl fun k hk => ?_
    have := Finset.mem_range.1 hk
    rw [if_pos (by omega)]
    exact congrArg f (by omega)
  · intro k hk
    have := Finset.mem_Ico.1 hk
    exact Finset.mem_range.2 this.2
  · intro k hk hn
    rw [if_neg]
    rw [Finset.mem_Ico] at hn
    have := Finset.mem_range.1 hk
    omega

theorem rev_cum_sum (f : ℕ → EReal) (t : ℕ) (ht : t < 4096) :
    (∑ k ∈ Finset.range 4096, if 0 ≤ t + k ∧ t + k - 0 < 4096 then f (t + k - 0) else 0) = ∑ s ∈ Finset.Ico t 4096, f s := by
  rw [Finset.sum_Ico_eq_sum_range, ← Finset.sum_subset (s₁ := Finset.range (4096 - t))]
  · refine Finset.sum_congr rfl fun k hk => ?_
    have := Finset.mem_range.1 hk
    rw [if_pos (by omega), Nat.sub_zero]
  · intro k hk
    have := Finset.mem_range.1 hk
    exact Finset.mem_range.2 (by omega)
  · intro k hk hn
    rw [if_neg]
    rw [Finset.mem_range] at hn hk
    omega

/-- The count of steps a window holds, computed on 32-bit integers. -/
theorem count_int {t w : ℕ} (ht : t < 4096) (hw : w < 64) :
    FloatOps.sitofp (F := Ideal) FTy.f32 (IntOp.minsi (IntOp.addi (BitVec.ofNat 32 t) 1#32) (BitVec.ofNat 32 w))
      = ((((min (t + 1) w : ℕ) : ℝ)) : EReal) := by
  have h := count_eq (v := 0#32) (T := t / 512) (r := t % 512) (w := w)
  have e : IntOp.addi (BitVec.ofNat 32 t) 1#32 = BitVec.ofNat 32 (t + 1) := by
    apply BitVec.eq_of_toNat_eq
    simp only [IntOp.addi, BitVec.toNat_add, BitVec.toNat_ofNat]
    omega
  have m : IntOp.minsi (BitVec.ofNat 32 (t + 1)) (BitVec.ofNat 32 w) = BitVec.ofNat 32 (min (t + 1) w) := by
    unfold IntOp.minsi
    rw [BitVec.slt, toInt_ofNat (show t + 1 < 2 ^ 31 by omega), toInt_ofNat (show w < 2 ^ 31 by omega)]
    by_cases h : t + 1 < w
    · rw [min_eq_left h.le, if_pos (by simpa using (by exact_mod_cast h))]
    · rw [min_eq_right (by omega), if_neg (by simpa using (by exact_mod_cast (not_lt.1 h)))]
  rw [e, m]
  show ((((BitVec.ofNat 32 (min (t + 1) w)).toInt : ℤ) : ℝ) : EReal) = _
  rw [toInt_ofNat (by omega)]
  norm_cast

end Cert.Pool
end
-- ==== Proof.PoolRead.lean ====
module

public import proofs.«01_k».proof.Proof.PoolCum
public import proofs.«01_k».proof.Proof.PoolKernel
public import Idealize.ShloMosaic.Lib.KernelVsHost

/-!
# Joining and padding, read by coordinates
-/

@[expose] public section

set_option maxRecDepth 16384

noncomputable section

namespace Cert.Pool

open Idealize.ShloMosaic
open scoped BigOperators

/-- A vector reads as a function of its coordinate. -/
def M1 {m : ℕ} (f : (⟨1, ![m]⟩ : Shape).Idx → EReal) (F : ℕ → EReal) : Prop := ∀ c : Fin m, f (ix1 c) = F c.val

theorem M1.at {m : ℕ} {f : (⟨1, ![m]⟩ : Shape).Idx → EReal} {F : ℕ → EReal} (h : M1 f F)
    (i : (⟨1, ![m]⟩ : Shape).Idx) {c : ℕ} (e0 : (i 0).val = c) : f i = F c := by
  subst e0
  exact (congrArg f (funext fun x => by match x with | ⟨0, _⟩ => rfl)).trans (h (i 0))

/-- Two matrices joined by rows. -/
theorem M2.join {n₁ n₂ n m : ℕ} {x₁ : (⟨2, ![n₁, m]⟩ : Shape).Idx → EReal} {x₂ : (⟨2, ![n₂, m]⟩ : Shape).Idx → EReal}
    {F₁ F₂ : ℕ → ℕ → EReal} (h₁ : M2 x₁ F₁) (h₂ : M2 x₂ F₂)
    (h : Shape.Concatenates [⟨2, ![n₁, m]⟩, ⟨2, ![n₂, m]⟩] ⟨2, ![n, m]⟩ 0) (hn : n = n₁ + n₂) :
    M2 (concatenate ⟨2, ![n, m]⟩ 0 [⟨⟨2, ![n₁, m]⟩, x₁⟩, ⟨⟨2, ![n₂, m]⟩, x₂⟩] h) (fun r c => if r < n₁ then F₁ r c else F₂ (r - n₁) c) := by
  subst hn
  intro r c
  show _ = if r.val < n₁ then F₁ r.val c.val else F₂ (r.val - n₁) c.val
  by_cases hr : r.val < n₁
  · rw [if_pos hr]
    refine (concatenate_pair_apply_left _ x₁ x₂ h _ rfl (ix2 ⟨r.val, hr⟩ c) fun b => ?_).trans (h₁ _ _)
    match b with
    | ⟨0, _⟩ => rfl
    | ⟨1, _⟩ => rfl
  · rw [if_neg hr]
    refine (concatenate_pair_apply_right _ x₁ x₂ h _ rfl rfl (ix2 ⟨r.val - n₁, by omega⟩ c) (fun b hb => ?_) ?_).trans (h₂ _ _)
    · match b with
      | ⟨0, _⟩ => exact absurd rfl hb
      | ⟨1, _⟩ => rfl
    · show r.val - n₁ + n₁ = r.val
      omega

/-- Two stacks joined. -/
theorem M3.join {n₁ n₂ n k m : ℕ} {x₁ : (⟨3, ![n₁, k, m]⟩ : Shape).Idx → EReal} {x₂ : (⟨3, ![n₂, k, m]⟩ : Shape).Idx → EReal}
    {F₁ F₂ : ℕ → ℕ → ℕ → EReal} (h₁ : M3 x₁ F₁) (h₂ : M3 x₂ F₂)
    (h : Shape.Concatenates [⟨3, ![n₁, k, m]⟩, ⟨3, ![n₂, k, m]⟩] ⟨3, ![n, k, m]⟩ 0) (hn : n = n₁ + n₂) :
    M3 (concatenate ⟨3, ![n, k, m]⟩ 0 [⟨⟨3, ![n₁, k, m]⟩, x₁⟩, ⟨⟨3, ![n₂, k, m]⟩, x₂⟩] h)
      (fun a r c => if a < n₁ then F₁ a r c else F₂ (a - n₁) r c) := by
  subst hn
  intro a r c
  show _ = if a.val < n₁ then F₁ a.val r.val c.val else F₂ (a.val - n₁) r.val c.val
  by_cases hr : a.val < n₁
  · rw [if_pos hr]
    refine (concatenate_pair_apply_left _ x₁ x₂ h _ rfl (ix3 ⟨a.val, hr⟩ r c) fun b => ?_).trans (h₁ _ _ _)
    match b with
    | ⟨0, _⟩ => rfl
    | ⟨1, _⟩ => rfl
    | ⟨2, _⟩ => rfl
  · rw [if_neg hr]
    refine (concatenate_pair_apply_right _ x₁ x₂ h _ rfl rfl (ix3 ⟨a.val - n₁, by omega⟩ r c) (fun b hb => ?_) ?_).trans (h₂ _ _ _)
    · match b with
      | ⟨0, _⟩ => exact absurd rfl hb
      | ⟨1, _⟩ => rfl
      | ⟨2, _⟩ => rfl
    · show a.val - n₁ + n₁ = a.val
      omega

/-- Four groups joined along the middle axis. -/
theorem M3.groups {n m : ℕ} {x₀ x₁ x₂ x₃ : (⟨3, ![n, 1, m]⟩ : Shape).Idx → EReal} {F : ℕ → ℕ → ℕ → EReal}
    (h₀ : M3 x₀ (fun t _ c => F t 0 c)) (h₁ : M3 x₁ (fun t _ c => F t 1 c)) (h₂ : M3 x₂ (fun t _ c => F t 2 c)) (h₃ : M3 x₃ (fun t _ c => F t 3 c))
    (h : Shape.Concatenates [⟨3, ![n, 1, m]⟩, ⟨3, ![n, 1, m]⟩, ⟨3, ![n, 1, m]⟩, ⟨3, ![n, 1, m]⟩] ⟨3, ![n, 4, m]⟩ 1) :
    M3 (concatenate ⟨3, ![n, 4, m]⟩ 1 [⟨⟨3, ![n, 1, m]⟩, x₀⟩, ⟨⟨3, ![n, 1, m]⟩, x₁⟩, ⟨⟨3, ![n, 1, m]⟩, x₂⟩, ⟨⟨3, ![n, 1, m]⟩, x₃⟩] h) F := by
  intro t g c
  have off : ∀ b : Fin 3, b.cast (rfl : 3 = 3) ≠ 1 → (ix3 (n1 := 1) t 0 c b).val = (ix3 (n1 := 4) t g c (b.cast rfl)).val := fun b hb => by
    match b with
    | ⟨0, _⟩ => rfl
    | ⟨1, _⟩ => exact absurd rfl hb
    | ⟨2, _⟩ => rfl
  match g with
  | ⟨0, _⟩ => exact (concatenate_apply_piece _ [⟨⟨3, ![n, 1, m]⟩, x₀⟩, ⟨⟨3, ![n, 1, m]⟩, x₁⟩, ⟨⟨3, ![n, 1, m]⟩, x₂⟩, ⟨⟨3, ![n, 1, m]⟩, x₃⟩] h _ 0 (by show 0 < 4; decide) _ x₀ rfl rfl 0 rfl (ix3 t 0 c) off rfl).trans (h₀ _ _ _)
  | ⟨1, _⟩ => exact (concatenate_apply_piece _ [⟨⟨3, ![n, 1, m]⟩, x₀⟩, ⟨⟨3, ![n, 1, m]⟩, x₁⟩, ⟨⟨3, ![n, 1, m]⟩, x₂⟩, ⟨⟨3, ![n, 1, m]⟩, x₃⟩] h _ 1 (by show 1 < 4; decide) _ x₁ rfl rfl 1 rfl (ix3 t 0 c) off rfl).trans (h₁ _ _ _)
  | ⟨2, _⟩ => exact (concatenate_apply_piece _ [⟨⟨3, ![n, 1, m]⟩, x₀⟩, ⟨⟨3, ![n, 1, m]⟩, x₁⟩, ⟨⟨3, ![n, 1, m]⟩, x₂⟩, ⟨⟨3, ![n, 1, m]⟩, x₃⟩] h _ 2 (by show 2 < 4; decide) _ x₂ rfl rfl 2 rfl (ix3 t 0 c) off rfl).trans (h₂ _ _ _)
  | ⟨3, _⟩ => exact (concatenate_apply_piece _ [⟨⟨3, ![n, 1, m]⟩, x₀⟩, ⟨⟨3, ![n, 1, m]⟩, x₁⟩, ⟨⟨3, ![n, 1, m]⟩, x₂⟩, ⟨⟨3, ![n, 1, m]⟩, x₃⟩] h _ 3 (by show 3 < 4; decide) _ x₃ rfl rfl 3 rfl (ix3 t 0 c) off rfl).trans (h₃ _ _ _)

/-- Two rows and six more joined. -/
theorem M2.rows {m : ℕ} {x₀ x₁ : (⟨2, ![1, m]⟩ : Shape).Idx → EReal} {x₂ : (⟨2, ![6, m]⟩ : Shape).Idx → EReal} {F : ℕ → ℕ → EReal}
    (h₀ : M2 x₀ (fun _ c => F 0 c)) (h₁ : M2 x₁ (fun _ c => F 1 c)) (h₂ : M2 x₂ (fun r c => F (2 + r) c))
    (h : Shape.Concatenates [⟨2, ![1, m]⟩, ⟨2, ![1, m]⟩, ⟨2, ![6, m]⟩] ⟨2, ![8, m]⟩ 0) :
    M2 (concatenate ⟨2, ![8, m]⟩ 0 [⟨⟨2, ![1, m]⟩, x₀⟩, ⟨⟨2, ![1, m]⟩, x₁⟩, ⟨⟨2, ![6, m]⟩, x₂⟩] h) F := by
  intro r c
  have off : ∀ (n : ℕ) (u : Fin n) (b : Fin 2), b.cast (rfl : 2 = 2) ≠ 0 → (ix2 u c b).val = (ix2 r c (b.cast rfl)).val := fun n u b hb => by
    match b with
    | ⟨0, _⟩ => exact absurd rfl hb
    | ⟨1, _⟩ => rfl
  by_cases h0 : r.val = 0
  · have e := (concatenate_apply_piece _ [⟨⟨2, ![1, m]⟩, x₀⟩, ⟨⟨2, ![1, m]⟩, x₁⟩, ⟨⟨2, ![6, m]⟩, x₂⟩] h (ix2 r c) 0 (by show 0 < 3; decide) _ x₀ rfl rfl 0 rfl (ix2 0 c) (off _ _) (by show 0 + 0 = r.val; omega)).trans (h₀ _ _)
    rw [h0]; exact e
  · by_cases h1 : r.val = 1
    · have e := (concatenate_apply_piece _ [⟨⟨2, ![1, m]⟩, x₀⟩, ⟨⟨2, ![1, m]⟩, x₁⟩, ⟨⟨2, ![6, m]⟩, x₂⟩] h (ix2 r c) 1 (by show 1 < 3; decide) _ x₁ rfl rfl 1 rfl (ix2 0 c) (off _ _) (by show 1 + 0 = r.val; omega)).trans (h₁ _ _)
      rw [h1]; exact e
    · have e := (concatenate_apply_piece _ [⟨⟨2, ![1, m]⟩, x₀⟩, ⟨⟨2, ![1, m]⟩, x₁⟩, ⟨⟨2, ![6, m]⟩, x₂⟩] h (ix2 r c) 2 (by show 2 < 3; decide) _ x₂ rfl rfl 2 rfl (ix2 ⟨r.val - 2, by omega⟩ c) (off _ _)
        (by show 2 + (r.val - 2) = r.val; omega)).trans (h₂ _ _)
      rw [show r.val = 2 + (r.val - 2) by omega]; exact e

/-- Rows of zeros after a matrix. -/
theorem M2.pad {n n' w m : ℕ} {x : (⟨2, ![n, m]⟩ : Shape).Idx → EReal} {F : ℕ → ℕ → EReal} (hx : M2 x F)
    {v : (⟨0, ![]⟩ : Shape).Idx → EReal} (hv : ∀ i, v i = 0)
    (h : (⟨2, ![n, m]⟩ : Shape).Pads ![0, 0] ![w, 0] ![0, 0] ⟨2, ![n', m]⟩) (hu : 0 < (⟨0, ![]⟩ : Shape).numel) :
    M2 (Idealize.ShloMosaic.pad ⟨2, ![n', m]⟩ ![0, 0] ![w, 0] ![0, 0] x v h hu) (fun r c => if r < n then F r c else 0) := by
  intro r c
  show _ = if r.val < n then F r.val c.val else (0 : EReal)
  by_cases hr : r.val < n
  · rw [if_pos hr]
    refine (pad_apply_of_inside _ _ _ x v h hu _ (ix2 ⟨r.val, hr⟩ c) fun a => ?_).trans (hx _ _)
    match a with
    | ⟨0, _⟩ => show r.val = 0 + r.val * (0 + 1); omega
    | ⟨1, _⟩ => show c.val = 0 + c.val * (0 + 1); omega
  · rw [if_neg hr]
    refine (pad_apply_of_not_inside _ _ _ x v h hu _ 0 fun hh => hr ?_).trans (hv _)
    have := hh.2.2
    change (r.val - 0) / (0 + 1) < n at this
    omega

/-- One group among four, zeros in the others. -/
theorem M3.pad {n m g hi : ℕ} {x : (⟨3, ![n, 1, m]⟩ : Shape).Idx → EReal} {F : ℕ → ℕ → EReal} (hx : M3 x (fun t _ c => F t c))
    {v : (⟨0, ![]⟩ : Shape).Idx → EReal} (hv : ∀ i, v i = 0)
    (h : (⟨3, ![n, 1, m]⟩ : Shape).Pads ![0, g, 0] ![0, hi, 0] ![0, 0, 0] ⟨3, ![n, 4, m]⟩) (hu : 0 < (⟨0, ![]⟩ : Shape).numel) :
    M3 (Idealize.ShloMosaic.pad ⟨3, ![n, 4, m]⟩ ![0, g, 0] ![0, hi, 0] ![0, 0, 0] x v h hu) (fun t a c => if a = g then F t c else 0) := by
  intro t a c
  show _ = if a.val = g then F t.val c.val else (0 : EReal)
  by_cases hr : a.val = g
  · rw [if_pos hr]
    refine (pad_apply_of_inside _ _ _ x v h hu _ (ix3 t 0 c) fun b => ?_).trans (hx _ _ _)
    match b with
    | ⟨0, _⟩ => show t.val = 0 + t.val * (0 + 1); omega
    | ⟨1, _⟩ => show a.val = g + 0 * (0 + 1); omega
    | ⟨2, _⟩ => show c.val = 0 + c.val * (0 + 1); omega
  · rw [if_neg hr]
    refine (pad_apply_of_not_inside _ _ _ x v h hu _ 1 fun hh => hr ?_).trans (hv _)
    have h1 := hh.1
    have h2 := hh.2.2
    change g ≤ a.val at h1
    change (a.val - g) / (0 + 1) < 1 at h2
    omega

/-- The window's mean from the running sums. -/
theorem win_mean {f : ℕ → EReal} (hf : ∀ t, IsR (f t)) {w : ℕ} (hw : 0 < w) (t : ℕ) :
    Ideal.div ((∑ s ∈ Finset.range (t + 1), f s) - (if t < w then 0 else ∑ s ∈ Finset.range (t - w + 1), f s))
      (((min (t + 1) w : ℕ) : ℝ) : EReal) = wsum f w t * inv w t := by
  rw [div_count t hw, ← cum_sub_lag hf]
  unfold lag
  by_cases h : t < w
  · rw [if_pos h, if_neg (by omega)]
  · rw [if_neg h, if_pos (by omega)]

theorem ico_fin (f : ℕ → EReal) : ∑ t ∈ Finset.Ico 0 4096, f t = ∑ k : Fin 4096, f k.val := by
  rw [← Finset.range_eq_Ico, Fin.sum_univ_eq_sum_range f 4096]

theorem zero_bits : Ideal.ofBits .f32 0x00000000#32 = 0 := Ideal.ofBits_zero .f32

theorem one_bits : Ideal.ofBits .f32 0x3F800000#32 = 1 := Ideal.ofBits_one_f32

theorem window_host {F : ℕ → ℕ → ℕ → EReal} {x : (⟨3, ![4096, 4, 256]⟩ : Shape).Idx → EReal} (hx : M3 x F) (lo hi : Fin 3 → ℕ)
    (h1 : lo 1 = 0) (h2 : lo 2 = 0) {v : (⟨0, ![]⟩ : Shape).Idx → EReal} (hv : ∀ i, v i = 0)
    (h : (⟨3, ![4096, 4, 256]⟩ : Shape).ReduceWindows ![4096, 1, 1] ![1, 1, 1] lo hi ⟨3, ![4096, 4, 256]⟩)
    (hu : 0 < (⟨0, ![]⟩ : Shape).numel) (t : Fin 4096) (g : Fin 4) (c : Fin 256) :
    Host.reduceWindowAdd (F := Ideal) (φ := .f32) ![4096, 1, 1] ![1, 1, 1] lo hi x v h hu (ix3 t g c)
      = ∑ k ∈ Finset.range 4096, if lo 0 ≤ t.val + k ∧ t.val + k - lo 0 < 4096 then F (t.val + k - lo 0) g.val c.val else 0 := by
  refine Eq.trans ?_ (window_sum hx lo hi h1 h2 h (by decide) t g c)
  unfold Host.reduceWindowAdd
  rw [Ideal.hostReduceWindowAdd_def]
  unfold Ideal.hostReduceWindowAdd
  rw [hv]

end Cert.Pool
end
-- ==== Proof.PoolRef.lean ====
module

public import proofs.«01_k».proof.Proof.PoolRead

/-!
# The reference, stage by stage

Every array the reference computes on its way to its three results, as a function of step, group and lane. The running
sums' differences need finite inputs.
-/

@[expose] public section

set_option maxRecDepth 16384
set_option maxHeartbeats 1000000

noncomputable section

namespace Cert.Pool

open Idealize.ShloMosaic
open Cert.ReferenceIdeal Cert.ReferenceIdeal.Gen Cert.ReferenceIdeal.Read
open scoped BigOperators

variable {X : ℕ → ℕ → EReal} {F : ℕ → ℕ → EReal} {g w n : ℕ}

theorem group_rows {A : S4096x4x256.Idx → EReal} {F : ℕ → ℕ → ℕ → EReal} (hA : M3 A F) (hg : g < 4)
    (h : S4096x4x256.Slices ![0, g, 0] S4096x1x256) (h' : S4096x1x256.ShapeCasts S4096x256) :
    M2 (shapeCast S4096x256 (extractStridedSlice S4096x1x256 ![0, g, 0] A h) h') (fun t c => F t g c) := by
  intro r c
  refine (shapeCast_apply _ h' (ix2 r c) (ix3 (n0 := 4096) (n1 := 1) (n2 := 256) r 0 c) (by rw [Shape.rowMajor_val_three, Shape.rowMajor_val_two]; show (r.val * 1 + 0) * 256 + c.val = r.val * 256 + c.val; omega)).trans ?_
  refine (extractStridedSlice_apply _ A h _ (ix3 (n0 := 4096) (n1 := 4) (n2 := 256) r ⟨g, hg⟩ c) fun b => ?_).trans (hA _ _ _)
  match b with
  | ⟨0, _⟩ => show r.val = 0 + r.val; omega
  | ⟨1, _⟩ => rfl
  | ⟨2, _⟩ => show c.val = 0 + c.val; omega

theorem later_rows {x : S4096x256.Idx → EReal} (hx : M2 x F) (hn : w + n ≤ 4096) (h : S4096x256.Slices ![w, 0] ⟨2, ![n, 256]⟩) :
    M2 (extractStridedSlice ⟨2, ![n, 256]⟩ ![w, 0] x h) (fun t c => F (w + t) c) := by
  intro r c
  refine (extractStridedSlice_apply _ x h _ (ix2 (n0 := 4096) (n1 := 256) ⟨w + r.val, by omega⟩ c) fun b => ?_).trans (hx _ _)
  match b with
  | ⟨0, _⟩ => rfl
  | ⟨1, _⟩ => show c.val = 0 + c.val; omega

theorem one_group {x : S4096x256.Idx → EReal} (hx : M2 x F) (h : S4096x256.BroadcastsInDim S4096x1x256 ![0, 2]) :
    M3 (broadcastInDim S4096x1x256 ![0, 2] h x) (fun t _ c => F t c) := by
  intro r a c
  refine (broadcastInDim_apply _ h _ _ (ix2 r c) fun b => ?_).trans (hx _ _)
  match b with
  | ⟨0, _⟩ => rfl
  | ⟨1, _⟩ => rfl

theorem across {x : S4096x1.Idx → EReal} (hx : M2 x F) (h : S4096x1.BroadcastsInDim S4096x256 ![0, 1]) :
    M2 (broadcastInDim S4096x256 ![0, 1] h x) (fun t _ => F t 0) := by
  intro r c
  refine (broadcastInDim_apply _ h _ _ (ix2 r 0) fun b => ?_).trans (hx _ _)
  match b with
  | ⟨0, _⟩ => rfl
  | ⟨1, _⟩ => rfl

/-- A group's window mean, from the running sums and the window's counts. -/
theorem mean_group (hX : ∀ t l, IsR (X t l)) (hg : g < 4) (hw : w = 2 ^ (g + 1)) (hn : 4096 = w + n)
    {A : S4096x4x256.Idx → EReal} (hA : M3 A (fun t g c => ∑ s ∈ Finset.range (t + 1), X s (256 * g + c)))
    {C : S4096x1.Idx → EReal} (hC : M2 C (fun t _ => (((min (t + 1) w : ℕ) : ℝ) : EReal)))
    {Z : (⟨2, ![w, 256]⟩ : Shape).Idx → EReal} (hZ : ∀ i, Z i = 0)
    {h1 : S4096x4x256.Slices ![0, g, 0] S4096x1x256} {h2 : S4096x1x256.ShapeCasts S4096x256} {h3 : S4096x256.Slices ![0, 0] ⟨2, ![n, 256]⟩}
    {h4 : Shape.Concatenates [⟨2, ![w, 256]⟩, ⟨2, ![n, 256]⟩] S4096x256 0} {h5 : S4096x1.BroadcastsInDim S4096x256 ![0, 1]}
    {h6 : S4096x256.BroadcastsInDim S4096x1x256 ![0, 2]} :
    M3 (broadcastInDim S4096x1x256 ![0, 2] h6 (Host.divf (F := Ideal) (φ := .f32)
      (subf (F := Ideal) (φ := .f32) (shapeCast S4096x256 (extractStridedSlice S4096x1x256 ![0, g, 0] A h1) h2)
        (concatenate S4096x256 0 [⟨⟨2, ![w, 256]⟩, Z⟩, ⟨⟨2, ![n, 256]⟩,
          extractStridedSlice ⟨2, ![n, 256]⟩ ![0, 0] (shapeCast S4096x256 (extractStridedSlice S4096x1x256 ![0, g, 0] A h1) h2) h3⟩] h4))
      (broadcastInDim S4096x256 ![0, 1] h5 C)))
      (fun t _ c => wsum (fun s => X s (256 * g + c)) (2 ^ (g + 1)) t * inv (2 ^ (g + 1)) t) := by
  have e := group_rows hA hg h1 h2
  have k := M2.join (fun r c => hZ _) (later_rows e (by omega) h3) h4 hn (F₁ := fun _ _ => 0)
  refine one_group (F := fun t c => wsum (fun s => X s (256 * g + c)) (2 ^ (g + 1)) t * inv (2 ^ (g + 1)) t) (fun r c => ?_) h6
  refine (congrArg₂ Ideal.div (congrArg₂ (fun a b : EReal => a - b) (e r c) (k r c)) (across hC h5 r c)).trans ?_
  beta_reduce
  rw [← hw, Nat.zero_add]
  exact win_mean (w := w) (fun s => hX s _) (by rw [hw]; exact Nat.two_pow_pos _) r.val

/-- A group's gradient over the window's counts. -/
theorem quot_group (d : Data) (hg : g < 4) (hw : w = 2 ^ (g + 1)) {A : S4096x4x256.Idx → EReal} (hA : M3 A (fun t g c => d.dpl g t c))
    {C : S4096x1.Idx → EReal} (hC : M2 C (fun t _ => (((min (t + 1) w : ℕ) : ℝ) : EReal)))
    {h1 : S4096x4x256.Slices ![0, g, 0] S4096x1x256} {h2 : S4096x1x256.ShapeCasts S4096x256} {h5 : S4096x1.BroadcastsInDim S4096x256 ![0, 1]} :
    M2 (Host.divf (F := Ideal) (φ := .f32) (shapeCast S4096x256 (extractStridedSlice S4096x1x256 ![0, g, 0] A h1) h2)
      (broadcastInDim S4096x256 ![0, 1] h5 C)) (fun t c => d.q g t c) := by
  intro r c
  refine (congrArg₂ Ideal.div (group_rows hA hg h1 h2 r c) (across hC h5 r c)).trans ?_
  subst hw
  exact div_count r.val (Nat.two_pow_pos _) _

/-- A group's quotients less the ones a window later, laid among the four groups. -/
theorem grad_group (d : Data) (hd : ∀ t l, 4096 ≤ t → d.D t l = 0) {hi : ℕ} (hw : w = 2 ^ (g + 1)) (hn : 4096 = w + n)
    {Q : S4096x256.Idx → EReal} (hQ : M2 Q (fun t c => d.q g t c)) {z z' : S_.Idx → EReal} (hz : ∀ i, z i = 0) (hz' : ∀ i, z' i = 0)
    {h1 : S4096x256.Slices ![w, 0] ⟨2, ![n, 256]⟩} {h2 : (⟨2, ![n, 256]⟩ : Shape).Pads ![0, 0] ![w, 0] ![0, 0] S4096x256}
    {h3 : S4096x256.BroadcastsInDim S4096x1x256 ![0, 2]} {h4 : S4096x1x256.Pads ![0, g, 0] ![0, hi, 0] ![0, 0, 0] S4096x4x256}
    {hu hu' : 0 < S_.numel} :
    M3 (pad S4096x4x256 ![0, g, 0] ![0, hi, 0] ![0, 0, 0] (broadcastInDim S4096x1x256 ![0, 2] h3 (addf (F := Ideal) (φ := .f32) Q
      (pad S4096x256 ![0, 0] ![w, 0] ![0, 0] (extractStridedSlice ⟨2, ![n, 256]⟩ ![w, 0] (Host.negf (F := Ideal) (φ := .f32) Q) h1) z h2 hu))) z' h4 hu')
      (fun t a c => if a = g then d.q g t c + -d.q g (t + 2 ^ (g + 1)) c else 0) := by
  have k : M2 (Host.negf (F := Ideal) (φ := .f32) Q) (fun t c => -d.q g t c) := fun r c => congrArg Neg.neg (hQ r c)
  have p := M2.pad (later_rows k (by omega) h1) hz h2 hu
  refine M3.pad (F := fun t c => d.q g t c + -d.q g (t + 2 ^ (g + 1)) c) (one_group (fun r c => ?_) h3) hz' h4 hu'
  refine congrArg₂ (fun a b : EReal => a + b) (hQ r c) ((p r c).trans ?_)
  beta_reduce
  rw [← hw]
  by_cases hr : r.val < n
  · rw [if_pos hr, Nat.add_comm]
  · rw [if_neg hr, q_past _ hd _ _ _ (by omega), neg_zero]

variable (P : (⟨3, ![4, 4096, 1024]⟩ : Shape).Idx → EReal) (D : (⟨2, ![4096, 2048]⟩ : Shape).Idx → EReal)
  (W : (⟨3, ![4, 256, 256]⟩ : Shape).Idx → EReal) (v : (⟨2, ![8, 1024]⟩ : Shape).Idx → EReal)
include P D W v

theorem d_past (t l : ℕ) (ht : 4096 ≤ t) : (dataOf P D W v).D t l = 0 := dif_neg fun h => by have := h.1; omega

theorem s4 : M2 (val_main_v4 (F := Ideal) P) (fun t l => (dataOf P D W v).X t l) := by
  intro r c
  have hr := r.isLt
  have hc := c.isLt
  rw [val_main_v4_apply, val_main_v3_apply]
  exact at3_of P _ rfl (by show (r.val * 1024 + c.val) / 1024 % 4096 = _; omega) (by show (r.val * 1024 + c.val) % 1024 = _; omega)

theorem s6 : M2 (val_main_v6 (F := Ideal) P) (fun t l => (dataOf P D W v).G t l) := by
  intro r c
  have hr := r.isLt
  have hc := c.isLt
  rw [val_main_v6_apply, val_main_v5_apply]
  exact at3_of P _ rfl (by show (r.val * 1024 + c.val) / 1024 % 4096 = _; omega) (by show (r.val * 1024 + c.val) % 1024 = _; omega)

theorem s7 : M3 (val_main_v7 (F := Ideal) W) (fun g i j => (dataOf P D W v).W g i j) := by
  intro a r c
  exact at3_of W _ rfl rfl rfl

theorem s2 : M2 (val_main_v2 (F := Ideal) v) (fun g c => (dataOf P D W v).B (256 * g + c)) := by
  intro r c
  have hr := r.isLt
  have hc := c.isLt
  rw [val_main_v2_apply, val_main_v1_apply, val_main_v0_apply]
  exact at2_of v _ rfl (by show (r.val * 256 + c.val) % 1024 = _; omega)

theorem s9 : M1 (val_main_v9 (F := Ideal) v) (fun l => (dataOf P D W v).Sc l) := by
  intro c
  have hc := c.isLt
  rw [val_main_v9_apply, val_main_v8_apply]
  exact at2_of v _ rfl (by show c.val % 1024 = _; omega)

theorem s90 : M2 (val_main_v90 (F := Ideal) D) (fun t l => (dataOf P D W v).D t l) := by
  intro r c
  rw [val_main_v90_apply]
  exact at2_of D _ rfl rfl

theorem s10 : M3 (val_main_v10 (F := Ideal) P) (fun t g c => (dataOf P D W v).X t (256 * g + c)) := by
  intro a r c
  have ha := a.isLt
  have hr := r.isLt
  have hc := c.isLt
  rw [val_main_v10_apply]
  exact M2.at (s4 P D W v) _ (by show ((a.val * 4 + r.val) * 256 + c.val) / 1024 = _; omega) (by show ((a.val * 4 + r.val) * 256 + c.val) % 1024 = _; omega)

theorem s11 : M3 (val_main_v11 (F := Ideal) P) (fun t g c => ∑ s ∈ Finset.range (t + 1), (dataOf P D W v).X s (256 * g + c)) := by
  intro a r c
  have ha := a.isLt
  have hr := r.isLt
  have hc := c.isLt
  unfold val_main_v11
  refine (window_host (s10 P D W v) _ _ rfl rfl (fun i => zero_bits) _ _ a r c).trans ?_
  exact cum_sum (fun s => (dataOf P D W v).X s (256 * r.val + c.val)) a.val ha

omit P D W v

theorem s24 : M2 (val_main_v24 (F := Ideal)) (fun t _ => (((min (t + 1) 2 : ℕ) : ℝ) : EReal)) := fun r _ => count_int (w := 2) r.isLt (by decide)

theorem s39 : M2 (val_main_v39 (F := Ideal)) (fun t _ => (((min (t + 1) 4 : ℕ) : ℝ) : EReal)) := fun r _ => count_int (w := 4) r.isLt (by decide)

theorem s54 : M2 (val_main_v54 (F := Ideal)) (fun t _ => (((min (t + 1) 8 : ℕ) : ℝ) : EReal)) := fun r _ => count_int (w := 8) r.isLt (by decide)

theorem s69 : M2 (val_main_v69 (F := Ideal)) (fun t _ => (((min (t + 1) 16 : ℕ) : ℝ) : EReal)) := fun r _ => count_int (w := 16) r.isLt (by decide)

include P D W v

theorem s77 (hx : ∀ t l, IsR ((dataOf P D W v).X t l)) : M3 (val_main_v77 (F := Ideal) P) (fun t g c => wsum (fun s => (dataOf P D W v).X s (256 * g + c)) (2 ^ (g + 1)) t * inv (2 ^ (g + 1)) t) :=
  M3.groups (F := fun t g c => wsum (fun s => (dataOf P D W v).X s (256 * g + c)) (2 ^ (g + 1)) t * inv (2 ^ (g + 1)) t)
    (mean_group (g := 0) (w := 2) (n := 4094) hx (by decide) rfl rfl (s11 P D W v) s24 fun i => zero_bits)
    (mean_group (g := 1) (w := 4) (n := 4092) hx (by decide) rfl rfl (s11 P D W v) s39 fun i => zero_bits)
    (mean_group (g := 2) (w := 8) (n := 4088) hx (by decide) rfl rfl (s11 P D W v) s54 fun i => zero_bits)
    (mean_group (g := 3) (w := 16) (n := 4080) hx (by decide) rfl rfl (s11 P D W v) s69 fun i => zero_bits)
    _

theorem s78 (hx : ∀ t l, IsR ((dataOf P D W v).X t l)) : M3 (val_main_v78 (F := Ideal) P) (fun t g c => (dataOf P D W v).pooled g t c) := by
  intro a r c
  rw [val_main_v78_apply, s77 P D W v hx, s10 P D W v]
  rfl

theorem s79 (hx : ∀ t l, IsR ((dataOf P D W v).X t l)) : M3 (val_main_v79 (F := Ideal) P W) (fun g c t => ∑ j : Fin 256, (dataOf P D W v).pooled g t j * (dataOf P D W v).W g j c) := by
  intro a r c
  have ha := a.isLt
  have hr := r.isLt
  have hc := c.isLt
  rw [val_main_v79_apply]
  refine Finset.sum_congr rfl fun k _ => ?_
  rw [M3.at (s7 P D W v) _ rfl rfl rfl, M3.at (s78 P D W v hx) _ rfl rfl rfl]
  exact mul_comm _ _

theorem s80 (hx : ∀ t l, IsR ((dataOf P D W v).X t l)) : M3 (val_main_v80 (F := Ideal) P W) (fun t g c => ∑ j : Fin 256, (dataOf P D W v).pooled g t j * (dataOf P D W v).W g j c) := by
  intro a r c
  have ha := a.isLt
  have hr := r.isLt
  have hc := c.isLt
  rw [val_main_v80_apply]
  exact M3.at (s79 P D W v hx) _ rfl rfl rfl

theorem s81 : M3 (val_main_v81 (F := Ideal) v) (fun _ g c => (dataOf P D W v).B (256 * g + c)) := by
  intro a r c
  have ha := a.isLt
  have hr := r.isLt
  have hc := c.isLt
  rw [val_main_v81_apply]
  exact M2.at (s2 P D W v) _ rfl rfl

theorem s82 : M3 (val_main_v82 (F := Ideal) v) (fun _ g c => (dataOf P D W v).B (256 * g + c)) := by
  intro a r c
  have ha := a.isLt
  have hr := r.isLt
  have hc := c.isLt
  rw [val_main_v82_apply]
  exact M3.at (s81 P D W v) _ rfl rfl rfl

theorem s83 (hx : ∀ t l, IsR ((dataOf P D W v).X t l)) : M3 (val_main_v83 (F := Ideal) P W v) (fun t g c => (dataOf P D W v).z g t c) := by
  intro a r c
  rw [val_main_v83_apply, s80 P D W v hx, s82 P D W v]
  rfl

theorem s84 (hx : ∀ t l, IsR ((dataOf P D W v).X t l)) : M2 (val_main_v84 (F := Ideal) P W v) (fun t l => (dataOf P D W v).z (l / 256) t (l % 256)) := by
  intro r c
  have hr := r.isLt
  have hc := c.isLt
  rw [val_main_v84_apply]
  exact M3.at (s83 P D W v hx) _ (by show (r.val * 1024 + c.val) / 1024 = _; omega) (by show (r.val * 1024 + c.val) / 256 % 4 = _; omega) (by show (r.val * 1024 + c.val) % 256 = _; omega)

theorem s85 : M2 (val_main_v85 (F := Ideal) v) (fun _ l => (dataOf P D W v).Sc l) := by
  intro r c
  rw [val_main_v85_apply]
  exact M1.at (s9 P D W v) _ rfl

theorem s86 : M2 (val_main_v86 (F := Ideal) v) (fun _ l => (dataOf P D W v).Sc l) := by
  intro r c
  rw [val_main_v86_apply]
  exact M2.at (s85 P D W v) _ rfl rfl

theorem s97 : M2 (val_main_v97 (F := Ideal) v) (fun _ l => (dataOf P D W v).Sc l) := by
  intro r c
  rw [val_main_v97_apply]
  exact M2.at (s85 P D W v) _ rfl rfl

theorem s87 (hx : ∀ t l, IsR ((dataOf P D W v).X t l)) : M2 (val_main_v87 (F := Ideal) P W v) (fun t l => (dataOf P D W v).z (l / 256) t (l % 256) * (dataOf P D W v).Sc l) := by
  intro r c
  have hr := r.isLt
  have hc := c.isLt
  rw [val_main_v87_apply, s84 P D W v hx, s86 P D W v]
  rfl

theorem s_v88_2 : M2 (val_main_v88_2 (F := Ideal) P) (fun t l => sgm ((dataOf P D W v).G t l)) := by
  intro r c
  rw [val_main_v88_2_apply, val_main_call1_v4_apply, val_main_call1_v3_apply, val_main_call1_v2_apply, val_main_call1_v1_apply, val_main_call1_v0_apply, s6 P D W v]
  show Ideal.div (Ideal.ofBits .f32 0x3F800000#32) (Ideal.ofBits .f32 0x3F800000#32 + Ideal.exp (-((dataOf P D W v).G r.val c.val))) = _
  rw [one_bits]
  show _ = Ideal.div 1 (1 + Ideal.exp (0 - (dataOf P D W v).G r.val c.val))
  rw [sub_eq_add_neg, zero_add]

theorem s_v88_1 : M2 (val_main_v88_1 (F := Ideal) P) (fun t l => sgm ((dataOf P D W v).G t l) * (1 - sgm ((dataOf P D W v).G t l))) := by
  intro r c
  have hr := r.isLt
  have hc := c.isLt
  rw [val_main_v88_1_apply, val_main_call1_v7_apply, val_main_call1_v6_apply, s_v88_2 P D W v]
  show sgm ((dataOf P D W v).G r.val c.val) * (Ideal.ofBits .f32 0x3F800000#32 - sgm ((dataOf P D W v).G r.val c.val)) = _
  rw [one_bits]

theorem s_v88_0 : M2 (val_main_v88_0 (F := Ideal) P) (fun t l => (dataOf P D W v).G t l * sgm ((dataOf P D W v).G t l)) := by
  intro r c
  have hr := r.isLt
  have hc := c.isLt
  rw [val_main_v88_0_apply, s6 P D W v, s_v88_2 P D W v]
  rfl

theorem s92 : M2 (val_main_v92 (F := Ideal) P D) (fun t l => (dataOf P D W v).D t l * ((dataOf P D W v).G t l * sgm ((dataOf P D W v).G t l))) := by
  intro r c
  have hr := r.isLt
  have hc := c.isLt
  rw [val_main_v92_apply, s90 P D W v, s_v88_0 P D W v]
  rfl

theorem s93 (h : Fin' (dataOf P D W v)) : M2 (val_main_v93 (F := Ideal) P D W v) (fun t l => (dataOf P D W v).dgate (l / 256) t (l % 256)) := by
  intro r c
  rw [val_main_v93_apply, val_main_call2_v1_apply, val_main_call2_v2_apply, val_main_call2_v0_apply, val_main_v91_apply,
    s87 P D W v h.x, s90 P D W v, s6 P D W v, s_v88_1 P D W v, s_v88_2 P D W v]
  show _ = (dataOf P D W v).dgate (c.val / 256) r.val (c.val % 256)
  unfold Data.dgate
  rw [Nat.div_add_mod]
  exact gate_eq (h.dy _ _) ((h.z _ _ _).mul (h.sc _)) (h.g _ _).sgm (h.g _ _)

theorem s94 (h : Fin' (dataOf P D W v)) : M2 (val_main_v94 (F := Ideal) P D W v) (fun t l => (dataOf P D W v).dyp (l / 256) t (l % 256) * (dataOf P D W v).z (l / 256) t (l % 256)) := by
  intro r c
  have hr := r.isLt
  have hc := c.isLt
  rw [val_main_v94_apply, s84 P D W v h.x, s92 P D W v]
  show _ = (dataOf P D W v).dyp (c.val / 256) r.val (c.val % 256) * (dataOf P D W v).z (c.val / 256) r.val (c.val % 256)
  unfold Data.dyp
  rw [Nat.div_add_mod]
  exact mul_comm _ _

theorem s95 (h : Fin' (dataOf P D W v)) : M1 (val_main_v95 (F := Ideal) P D W v) (fun l => (dataOf P D W v).dSc (l / 256) (l % 256) 0) := by
  intro c
  have hc := c.isLt
  rw [val_main_v95_apply]
  refine Eq.trans ?_ (ico_fin (fun k => (dataOf P D W v).dyp (c.val / 256) k (c.val % 256) * (dataOf P D W v).z (c.val / 256) k (c.val % 256))).symm
  refine (congrArg₂ (· + ·) zero_bits rfl).trans ((zero_add _).trans (Finset.sum_congr rfl fun k _ => ?_))
  exact M2.at (s94 P D W v h) _ rfl rfl

theorem s96 (h : Fin' (dataOf P D W v)) : M2 (val_main_v96 (F := Ideal) P D W v) (fun _ l => (dataOf P D W v).dSc (l / 256) (l % 256) 0) := by
  intro r c
  have hr := r.isLt
  have hc := c.isLt
  rw [val_main_v96_apply]
  exact M1.at (s95 P D W v h) _ (by show r.val * 1024 + c.val = _; omega)

theorem s99 (h : Fin' (dataOf P D W v)) : M1 (val_main_v99 (F := Ideal) P D W v) (fun l => (dataOf P D W v).dSc (l / 256) (l % 256) 0) := by
  intro c
  rw [val_main_v99_apply]
  refine (congrArg₂ (· + ·) zero_bits (Fin.sum_univ_one _)).trans ((zero_add _).trans ?_)
  exact M2.at (s96 P D W v h) _ rfl rfl

theorem s98 : M2 (val_main_v98 (F := Ideal) P D v) (fun t l => (dataOf P D W v).D t l * ((dataOf P D W v).G t l * sgm ((dataOf P D W v).G t l)) * (dataOf P D W v).Sc l) := by
  intro r c
  have hr := r.isLt
  have hc := c.isLt
  rw [val_main_v98_apply, s92 P D W v, s97 P D W v]
  rfl

theorem s100 : M3 (val_main_v100 (F := Ideal) P D v) (fun t g c => (dataOf P D W v).dz g t c) := by
  intro a r c
  have ha := a.isLt
  have hr := r.isLt
  have hc := c.isLt
  rw [val_main_v100_apply]
  exact M2.at (s98 P D W v) _ (by show ((a.val * 4 + r.val) * 256 + c.val) / 1024 = _; omega) (by show ((a.val * 4 + r.val) * 256 + c.val) % 1024 = _; omega)

theorem s101 : M2 (val_main_v101 (F := Ideal) P D v) (fun g c => (dataOf P D W v).dB g c 0) := by
  intro r c
  rw [val_main_v101_apply]
  refine Eq.trans ?_ (ico_fin (fun k => (dataOf P D W v).dz r.val k c.val)).symm
  refine (congrArg₂ (· + ·) zero_bits rfl).trans ((zero_add _).trans (Finset.sum_congr rfl fun k _ => ?_))
  exact M3.at (s100 P D W v) _ rfl rfl rfl

theorem s102 : M3 (val_main_v102 (F := Ideal) P D v) (fun _ g c => (dataOf P D W v).dB g c 0) := by
  intro a r c
  have ha := a.isLt
  have hr := r.isLt
  have hc := c.isLt
  rw [val_main_v102_apply]
  exact M2.at (s101 P D W v) _ (by show ((a.val * 4 + r.val) * 256 + c.val) / 256 = _; omega) (by show ((a.val * 4 + r.val) * 256 + c.val) % 256 = _; omega)

theorem s103 : M2 (val_main_v103 (F := Ideal) P D v) (fun g c => (dataOf P D W v).dB g c 0) := by
  intro r c
  rw [val_main_v103_apply]
  refine (congrArg₂ (· + ·) zero_bits (Fin.sum_univ_one _)).trans ((zero_add _).trans ?_)
  exact M3.at (s102 P D W v) _ rfl rfl rfl

theorem s104 : M3 (val_main_v104 (F := Ideal) P D v) (fun g c t => (dataOf P D W v).dz g t c) := by
  intro a r c
  rw [val_main_v104_apply]
  exact M3.at (s100 P D W v) _ rfl rfl rfl

theorem s105 : M3 (val_main_v105 (F := Ideal) P D W v) (fun g t c => (dataOf P D W v).dpl g t c) := by
  intro a r c
  rw [val_main_v105_apply]
  refine Finset.sum_congr rfl fun k _ => ?_
  rw [M3.at (s104 P D W v) _ rfl rfl rfl, M3.at (s7 P D W v) _ rfl rfl rfl]
  rfl

theorem s106 : M3 (val_main_v106 (F := Ideal) P D W v) (fun t g c => (dataOf P D W v).dpl g t c) := by
  intro a r c
  rw [val_main_v106_apply]
  exact M3.at (s105 P D W v) _ rfl rfl rfl

theorem s107 (h : Fin' (dataOf P D W v)) : M3 (val_main_v107 (F := Ideal) P D v) (fun g j i => (dataOf P D W v).dW g i j 0) := by
  intro a r c
  have ha := a.isLt
  have hr := r.isLt
  have hc := c.isLt
  rw [val_main_v107_apply]
  refine Eq.trans ?_ (ico_fin (fun k => (dataOf P D W v).pooled a.val k c.val * (dataOf P D W v).dz a.val k r.val)).symm
  refine Finset.sum_congr rfl fun k _ => ?_
  rw [M3.at (s104 P D W v) _ rfl rfl rfl, M3.at (s78 P D W v h.x) _ rfl rfl rfl]
  exact mul_comm _ _

theorem s108 (h : Fin' (dataOf P D W v)) : M3 (val_main_v108 (F := Ideal) P D v) (fun g i j => (dataOf P D W v).dW g i j 0) := by
  intro a r c
  rw [val_main_v108_apply]
  exact M3.at (s107 P D W v h) _ rfl rfl rfl

theorem s126 : M3 (val_main_v126 (F := Ideal) P D W v) (fun t a c => if a = 3 then (dataOf P D W v).q 3 t c + -(dataOf P D W v).q 3 (t + 2 ^ (3 + 1)) c else 0) :=
  grad_group (g := 3) (w := 16) (n := 4080) (hi := 0) _ (d_past P D W v) rfl rfl (quot_group (dataOf P D W v) (by decide) rfl (s106 P D W v) s69) (fun i => zero_bits) fun i => zero_bits

theorem s135 : M3 (val_main_v135 (F := Ideal) P D W v) (fun t a c => if a = 2 then (dataOf P D W v).q 2 t c + -(dataOf P D W v).q 2 (t + 2 ^ (2 + 1)) c else 0) :=
  grad_group (g := 2) (w := 8) (n := 4088) (hi := 1) _ (d_past P D W v) rfl rfl (quot_group (dataOf P D W v) (by decide) rfl (s106 P D W v) s54) (fun i => zero_bits) fun i => zero_bits

theorem s145 : M3 (val_main_v145 (F := Ideal) P D W v) (fun t a c => if a = 1 then (dataOf P D W v).q 1 t c + -(dataOf P D W v).q 1 (t + 2 ^ (1 + 1)) c else 0) :=
  grad_group (g := 1) (w := 4) (n := 4092) (hi := 2) _ (d_past P D W v) rfl rfl (quot_group (dataOf P D W v) (by decide) rfl (s106 P D W v) s39) (fun i => zero_bits) fun i => zero_bits

theorem s155 : M3 (val_main_v155 (F := Ideal) P D W v) (fun t a c => if a = 0 then (dataOf P D W v).q 0 t c + -(dataOf P D W v).q 0 (t + 2 ^ (0 + 1)) c else 0) :=
  grad_group (g := 0) (w := 2) (n := 4094) (hi := 3) _ (d_past P D W v) rfl rfl (quot_group (dataOf P D W v) (by decide) rfl (s106 P D W v) s24) (fun i => zero_bits) fun i => zero_bits

theorem s156 : M3 (val_main_v156 (F := Ideal) P D W v) (fun t g c => (dataOf P D W v).q g t c + -(dataOf P D W v).q g (t + 2 ^ (g + 1)) c) := by
  intro a r c
  have ha := a.isLt
  have hr := r.isLt
  have hc := c.isLt
  rw [val_main_v156_apply, val_main_v146_apply, val_main_v136_apply, s126 P D W v, s135 P D W v, s145 P D W v, s155 P D W v]
  show (((if r.val = 3 then (_ : EReal) else 0) + (if r.val = 2 then _ else 0)) + (if r.val = 1 then _ else 0)) + (if r.val = 0 then _ else 0) = _
  rcases (by omega : r.val = 0 ∨ r.val = 1 ∨ r.val = 2 ∨ r.val = 3) with e | e | e | e
  · rw [e, if_neg (by decide), if_neg (by decide), if_neg (by decide), if_pos rfl, add_zero, add_zero, zero_add]
  · rw [e, if_neg (by decide), if_neg (by decide), if_pos rfl, if_neg (by decide), add_zero, add_zero, zero_add]
  · rw [e, if_neg (by decide), if_pos rfl, if_neg (by decide), if_neg (by decide), add_zero, add_zero, zero_add]
  · rw [e, if_pos rfl, if_neg (by decide), if_neg (by decide), if_neg (by decide), add_zero, add_zero, add_zero]

theorem s157 (h : Fin' (dataOf P D W v)) : M3 (val_main_v157 (F := Ideal) P D W v) (fun t g c => ∑ k ∈ Finset.range (2 ^ (g + 1)), (dataOf P D W v).q g (t + k) c) := by
  intro a r c
  have ha := a.isLt
  have hr := r.isLt
  have hc := c.isLt
  unfold val_main_v157
  refine (window_host (s156 P D W v) _ _ rfl rfl (fun i => zero_bits) _ _ a r c).trans ?_
  refine (rev_cum_sum (fun s => (dataOf P D W v).q r.val s c.val + -(dataOf P D W v).q r.val (s + 2 ^ (r.val + 1)) c.val) a.val ha).trans ?_
  exact rev_sum (q := fun s => (dataOf P D W v).q r.val s c.val) (fun t => h.q _ _ _) _ (fun t ht => q_past _ (d_past P D W v) _ _ _ ht) 4096 _ (by omega)

theorem s158 (h : Fin' (dataOf P D W v)) : M3 (val_main_v158 (F := Ideal) P D W v) (fun t g c => (dataOf P D W v).dx g t c) := by
  intro a r c
  rw [val_main_v158_apply, val_main_v109_apply, s106 P D W v, s157 P D W v h]
  refine (add_comm _ _).trans ?_
  exact (sub_eq_add_neg _ _).symm

theorem s159 (h : Fin' (dataOf P D W v)) : M2 (val_main_v159 (F := Ideal) P D W v) (fun t l => (dataOf P D W v).dx (l / 256) t (l % 256)) := by
  intro r c
  have hr := r.isLt
  have hc := c.isLt
  rw [val_main_v159_apply]
  exact M3.at (s158 P D W v h) _ (by show (r.val * 1024 + c.val) / 1024 = _; omega) (by show (r.val * 1024 + c.val) / 256 % 4 = _; omega) (by show (r.val * 1024 + c.val) % 256 = _; omega)

theorem s161 (h : Fin' (dataOf P D W v)) : M3 (val_main_v161 (F := Ideal) P D W v) (fun _ t l => (dataOf P D W v).dx (l / 256) t (l % 256)) := by
  intro a r c
  rw [val_main_v161_apply]
  exact M2.at (s159 P D W v h) _ rfl rfl

theorem s162 (h : Fin' (dataOf P D W v)) : M3 (val_main_v162 (F := Ideal) P D W v) (fun _ t l => (dataOf P D W v).dgate (l / 256) t (l % 256)) := by
  intro a r c
  rw [val_main_v162_apply]
  exact M2.at (s93 P D W v h) _ rfl rfl

theorem s163 (h : Fin' (dataOf P D W v)) : M3 (val_main_v163 (F := Ideal) P D W v) (fun a t l => if a < 1 then (dataOf P D W v).dx (l / 256) t (l % 256) else (dataOf P D W v).dgate (l / 256) t (l % 256)) := by
  exact M3.join (s161 P D W v h) (s162 P D W v h) _ (by decide)

theorem s164 (h : Fin' (dataOf P D W v)) : M3 (val_main_v164 (F := Ideal) P D W v) (fun a t l => if a < 1 then (dataOf P D W v).dx (l / 256) t (l % 256) else (dataOf P D W v).dgate (l / 256) t (l % 256)) := by
  intro a r c
  exact s163 P D W v h a r c

theorem s160 (A : (⟨3, ![4, 4096, 1024]⟩ : Shape).Idx → EReal) : M3 (val_main_v160 (F := Ideal) A) (fun a t l => at3 A a t l) := by
  intro a r c
  rw [val_main_v160_apply]
  exact at3_of A _ rfl rfl rfl

theorem s166 : M2 (val_main_v166 (F := Ideal) P D v) (fun _ l => dvG (dataOf P D W v) 0 0 l) := by
  intro r c
  have hr := r.isLt
  have hc := c.isLt
  rw [val_main_v166_apply]
  exact M2.at (s103 P D W v) _ (by show (r.val * 1024 + c.val) / 256 = _; omega) (by show (r.val * 1024 + c.val) % 256 = _; omega)

theorem s167 (h : Fin' (dataOf P D W v)) : M2 (val_main_v167 (F := Ideal) P D W v) (fun _ l => dvG (dataOf P D W v) 0 1 l) := by
  intro r c
  rw [val_main_v167_apply]
  exact M1.at (s99 P D W v h) _ rfl

theorem s168 : M2 (val_main_v168 (F := Ideal)) (fun a l => dvG (dataOf P D W v) 0 (2 + a) l) := by
  intro r c
  have hr := r.isLt
  have hc := c.isLt
  rw [val_main_v168_apply]
  refine Eq.trans zero_bits ?_
  show (0 : EReal) = if 2 + r.val = 0 then _ else if 2 + r.val = 1 then _ else 0
  rw [if_neg (by omega), if_neg (by omega)]

theorem s169 (h : Fin' (dataOf P D W v)) : M2 (val_main_v169 (F := Ideal) P D W v) (fun a l => dvG (dataOf P D W v) 0 a l) := by
  exact M2.rows (F := fun a l => dvG (dataOf P D W v) 0 a l) (s166 P D W v) (s167 P D W v h) (s168 P D W v) _

/-- The reference's first result. -/
theorem ref_P (A : (⟨3, ![4, 4096, 1024]⟩ : Shape).Idx → EReal) (h : Fin' (dataOf P D W v)) : (val_main_v165 (F := Ideal) P D A W v) = resP (dataOf P D W v) A := by
  funext i
  have h0 : (i 0).val < 4 := (i 0).isLt
  have e := M3.at (M3.join (s160 P D W v A) (s164 P D W v h) concatenates_S2x4096x1024_S2x4096x1024_S4x4096x1024_d0 rfl) i rfl rfl rfl
  refine Eq.trans e ?_
  show (if (i 0).val < 2 then _ else if (i 0).val - 2 < 1 then _ else _) = resP (dataOf P D W v) A i
  unfold resP
  by_cases h2 : (i 0).val < 2
  · rw [if_pos h2, if_pos h2]
    exact (at3_of A i rfl rfl rfl).symm
  · rw [if_neg h2, if_neg h2]
    by_cases h3 : (i 0).val = 2
    · rw [if_pos h3, if_pos (by omega)]
    · rw [if_neg h3, if_neg (by omega)]

/-- The reference's second result. -/
theorem ref_W (h : Fin' (dataOf P D W v)) : (val_main_v170 (F := Ideal) P D v) = resW (dataOf P D W v) := by
  funext i
  exact M3.at (s108 P D W v h) i rfl rfl rfl

/-- The reference's third result. -/
theorem ref_V (h : Fin' (dataOf P D W v)) : (val_main_v169 (F := Ideal) P D W v) = resV (dataOf P D W v) := by
  funext i
  exact M2.at (s169 P D W v h) i rfl rfl

end Cert.Pool
end
-- ==== Proof.ProjSpec.lean ====
module

public import proofs.«01_k».proof.Proof.PoolKernel

/-!
# The projections around a layer's branches

The normalized, scaled and shifted stream, its projection into the branches and the branches' projection out, as
functions of step and lane. Rows 0 to 4 of the eight vectors are the shift, the scale, the gate, the norm's gain on the
way in and the norm's gain on the way out.
-/

@[expose] public section

set_option maxRecDepth 16384

noncomputable section

namespace Cert.Proj

open Idealize.ShloMosaic Cert.Pool
open scoped BigOperators

/-- What a row's square mean is shifted by before the root. -/
abbrev eps : EReal := Ideal.ofBits .f32 0x358637BD#32

/-- The number of lanes. -/
abbrev lanes : EReal := Ideal.ofBits .f32 0x44800000#32

/-- The reciprocal root of row `t`'s square mean. -/
def rs (X : ℕ → ℕ → EReal) (t : ℕ) : EReal := Ideal.rsqrt (Ideal.div (∑ l : Fin 1024, X t l * X t l) lanes + eps)

/-- The normalized row. -/
def xn (X : ℕ → ℕ → EReal) (t l : ℕ) : EReal := X t l * rs X t

/-- The branches' input: normalized, scaled and shifted. -/
def hid (X V : ℕ → ℕ → EReal) (t l : ℕ) : EReal := X t l * rs X t * V 3 l * (1 + V 1 l) + V 0 l

/-- Projection `k` into the branches. -/
def proj (X V : ℕ → ℕ → EReal) (W : ℕ → ℕ → ℕ → EReal) (k t p : ℕ) : EReal := ∑ d : Fin 1024, hid X V t d * W k d p

/-- The array of the three coordinates. -/
def arr3 {k n m : ℕ} (G : ℕ → ℕ → ℕ → EReal) : (⟨3, ![k, n, m]⟩ : Shape).Idx → EReal := fun y => G (y 0).val (y 1).val (y 2).val

/-- The array of the two coordinates. -/
def arr2 {n m : ℕ} (G : ℕ → ℕ → EReal) : (⟨2, ![n, m]⟩ : Shape).Idx → EReal := fun y => G (y 0).val (y 1).val

theorem at2_fn {n m : ℕ} (f : (⟨2, ![n, m]⟩ : Shape).Idx → EReal) (y : (⟨2, ![n, m]⟩ : Shape).Idx) :
    f y = at2 f (y 0).val (y 1).val := at2_of f y rfl rfl

theorem at3_fn {k n m : ℕ} (f : (⟨3, ![k, n, m]⟩ : Shape).Idx → EReal) (y : (⟨3, ![k, n, m]⟩ : Shape).Idx) :
    f y = at3 f (y 0).val (y 1).val (y 2).val := at3_of f y rfl rfl rfl

/-- A load of one row of the vectors. -/
theorem ldrow {v : Vec Ideal ⟨2, ![8, 1024]⟩ .f32} {V : ℕ → ℕ → EReal} (h : M2 (n := 8) (m := 1024) v V) (k : ℕ) (hk : k < 8) {inb} :
    M2 (View.ld v (Rect.unit (s := ⟨2, ![8, 1024]⟩) ![k, 0] ![1, 1024] inb)) (fun _ l => V k l) := by
  intro r c
  obtain rfl : r = 0 := Subsingleton.elim _ _
  refine (load2 v _ _ (by simpa using hk) (by omega)).trans ?_
  simpa using h ⟨k, hk⟩ c

/-- A load of a whole matrix. -/
theorem ldall {e : EltTy} {n m : ℕ} {v : Vec Ideal ⟨2, ![n, m]⟩ e} {inb} :
    View.ld v (Rect.unit (s := ⟨2, ![n, m]⟩) ![0, 0] ![n, m] inb) = v := by
  funext y
  have h0 : (y 0).val < n := (y 0).isLt
  have h1 : (y 1).val < m := (y 1).isLt
  have e : y = ix2 ⟨(y 0).val, h0⟩ ⟨(y 1).val, h1⟩ := funext fun a => Fin.ext (by fin_cases a <;> rfl)
  rw [e]
  refine (load2 v ⟨(y 0).val, h0⟩ ⟨(y 1).val, h1⟩ (by simpa using h0) (by simpa using h1)).trans ?_
  congr 1
  funext a
  fin_cases a <;> exact Fin.ext (Nat.zero_add _)

/-- A load of one matrix of a stack. -/
theorem ldmat {k n m : ℕ} {w : Vec Ideal ⟨3, ![k, n, m]⟩ .bf16} {W : ℕ → ℕ → ℕ → EReal} (h : M3 (k := k) (n := n) (m := m) w W) (a : ℕ) (ha : a < k) {inb} :
    M3 (View.ld w (Rect.unit (s := ⟨3, ![k, n, m]⟩) ![a, 0, 0] ![1, n, m] inb)) (fun _ i j => W a i j) := by
  intro z i j
  obtain rfl : z = 0 := Subsingleton.elim _ _
  refine (load3 w _ _ _ (by simpa using ha) (by omega) (by omega)).trans ?_
  simpa using h ⟨a, ha⟩ i j

/-- A load of one matrix of a stack held at single precision. -/
theorem ldacc {k n m : ℕ} {w : Vec Ideal ⟨3, ![k, n, m]⟩ .f32} {W : ℕ → ℕ → ℕ → EReal} (h : ∀ y, w y = arr3 W y) (a : ℕ) (ha : a < k) {inb} :
    M3 (View.ld w (Rect.unit (s := ⟨3, ![k, n, m]⟩) ![a, 0, 0] ![1, n, m] inb)) (fun _ i j => W a i j) := by
  intro z i j
  obtain rfl : z = 0 := Subsingleton.elim _ _
  refine (load3 w _ _ _ (by simpa using ha) (by omega) (by omega)).trans ((h _).trans ?_)
  simp [arr3]

/-- The four matrices of a stack are all of it. -/
theorem planes {e : EltTy} {n m : ℕ} (y : (⟨3, ![4, n, m]⟩ : Shape).Idx) {w0 w1 w2 w3 : Vec Ideal ⟨3, ![1, n, m]⟩ e} {i0 i1 i2 i3} {L : List (View.Piece (Elt Ideal) ⟨3, ![4, n, m]⟩ e)} :
    ∃ p ∈ ((⟨Rect.unit (s := ⟨3, ![4, n, m]⟩) ![3, 0, 0] ![1, n, m] i0, w0⟩ :: ⟨Rect.unit (s := ⟨3, ![4, n, m]⟩) ![2, 0, 0] ![1, n, m] i1, w1⟩ ::
      ⟨Rect.unit (s := ⟨3, ![4, n, m]⟩) ![1, 0, 0] ![1, n, m] i2, w2⟩ :: ⟨Rect.unit (s := ⟨3, ![4, n, m]⟩) ![0, 0, 0] ![1, n, m] i3, w3⟩ :: L) :
        List (View.Piece (Elt Ideal) ⟨3, ![4, n, m]⟩ e)), y ∈ p.1.set := by
  have h0 : (y 0).val < 4 := (y 0).isLt
  have h1 : (y 1).val < n := (y 1).isLt
  have h2 : (y 2).val < m := (y 2).isLt
  by_cases a : 3 ≤ (y 0).val
  · exact List.exists_mem_cons_of _ (mem3 (inb := i0) _ (by omega) (by omega) (by omega) (by omega) (by omega) (by omega))
  refine List.exists_mem_cons_of_exists ?_
  by_cases b : 2 ≤ (y 0).val
  · exact List.exists_mem_cons_of _ (mem3 (inb := i1) _ (by omega) (by omega) (by omega) (by omega) (by omega) (by omega))
  refine List.exists_mem_cons_of_exists ?_
  by_cases c : 1 ≤ (y 0).val
  · exact List.exists_mem_cons_of _ (mem3 (inb := i2) _ (by omega) (by omega) (by omega) (by omega) (by omega) (by omega))
  refine List.exists_mem_cons_of_exists ?_
  exact List.exists_mem_cons_of _ (mem3 (inb := i3) _ (by omega) (by omega) (by omega) (by omega) (by omega) (by omega))

/-- A stack read back whole. -/
theorem whole3 {sig : RefSig} {κ : Kind} {sp : Space} {k n m : ℕ} (v : View sig κ sp (⟨3, ![k, n, m]⟩ : Shape) .f32) {inb'} {G : ℕ → ℕ → ℕ → EReal}
    {L : List (View.Piece (Elt Ideal) (⟨3, ![k, n, m]⟩ : Shape) .f32)}
    (hL : View.PiecesOf (Val := Elt Ideal) (e := .f32) (s := ⟨3, ![k, n, m]⟩) (fun y => G (y 0).val (y 1).val (y 2).val) L)
    (hf : ∀ y : (⟨3, ![k, n, m]⟩ : Shape).Idx, ∃ p ∈ L, y ∈ p.1.set) :
    M3 (v.readCov L (Rect.unit (s := ⟨3, ![k, n, m]⟩) ![0, 0, 0] ![k, n, m] inb').toLoadRect) G := by
  intro a r c
  rw [View.readCov_eq_canon']
  have e : (Rect.unit (s := ⟨3, ![k, n, m]⟩) ![0, 0, 0] ![k, n, m] inb').toLoadRect.idx (ix3 a r c) = ix3 a r c :=
    funext fun k => Fin.ext ((Rect.idx_unit_val _ _ _ _ k).trans (by fin_cases k <;> simp))
  dsimp only
  rw [e]
  exact canon_at _ _ hL _ (hf _)

/-- The sum over the first `T` steps and the next 512. -/
theorem sum_next (f : ℕ → EReal) (T : ℕ) :
    (∑ t ∈ Finset.range (512 * T), f t) + ∑ r : Fin 512, f (512 * T + r.val) = ∑ t ∈ Finset.range (512 * (T + 1)), f t := by
  rw [Fin.sum_univ_eq_sum_range (fun r => f (512 * T + r)) 512, Nat.mul_succ, Finset.sum_range_add]

/-- The gradient of projection `k`'s matrix over the first `n` steps. -/
def dwin (X V : ℕ → ℕ → EReal) (P : ℕ → ℕ → ℕ → EReal) (n k d p : ℕ) : EReal := ∑ t ∈ Finset.range n, hid X V t d * P k t p

/-- The branches' product with the matrices out, stacked by 512 rows. -/
def yout (Y : ℕ → ℕ → EReal) (W : ℕ → ℕ → ℕ → EReal) (t p : ℕ) : EReal := ∑ j : Fin 2048, Y t j * W (j / 512) (j % 512) p

/-- The stream after the block: the branches' product, normalized and gated, added to the stream. -/
def xout (Y : ℕ → ℕ → EReal) (W : ℕ → ℕ → ℕ → EReal) (X V : ℕ → ℕ → EReal) (t p : ℕ) : EReal :=
  X t p + V 2 p * (yout Y W t p * rs (yout Y W) t * V 4 p)

/-- A sum over 2048 rows by four times 512. -/
theorem sum_four (f : ℕ → EReal) :
    (∑ j : Fin 512, f (512 * 0 + j)) + (∑ j : Fin 512, f (512 * 1 + j)) + (∑ j : Fin 512, f (512 * 2 + j)) + (∑ j : Fin 512, f (512 * 3 + j))
      = ∑ j : Fin 2048, f j := by
  rw [Fin.sum_univ_eq_sum_range f 2048]
  have h := sum_next f
  have e0 := h 0
  rw [Nat.mul_zero, Finset.range_zero, Finset.sum_empty, zero_add] at e0
  rw [Nat.mul_zero, e0, h 1, h 2, h 3]

/-- The rows of block `k` of the stacked matrices. -/
theorem row_block (Y : ℕ → ℕ → EReal) (W : ℕ → ℕ → ℕ → EReal) (k t p : ℕ) :
    (∑ j : Fin 512, Y t (512 * k + j) * W k j p) = ∑ j : Fin 512, (fun j => Y t j * W (j / 512) (j % 512) p) (512 * k + j) := by
  refine Finset.sum_congr rfl fun j _ => ?_
  have hj := j.isLt
  dsimp only
  rw [show (512 * k + j.val) / 512 = k by omega, show (512 * k + j.val) % 512 = j.val by omega]

/-- A load of the 512 columns of block `k`. -/
theorem ldcol {n : ℕ} {y : Vec Ideal ⟨2, ![n, 2048]⟩ .bf16} {Y : ℕ → ℕ → EReal} (h : M2 (n := n) (m := 2048) y Y) (k : ℕ) (hk : k < 4) {inb} :
    M2 (View.ld y (Rect.unit (s := ⟨2, ![n, 2048]⟩) ![0, 512 * k] ![n, 512] inb)) (fun r j => Y r (512 * k + j)) := by
  intro r j
  refine (load2 y _ _ (by omega) (by omega)).trans ?_
  simpa using h r ⟨512 * k + j.val, by omega⟩

end Cert.Proj
-- ==== Proof.Proj2.lean ====
module

public import proofs.«01_k».proof.Proof.ProjSpec
public import proofs.«01_k».proof.Proof.Gen.Kernel2Ideal.Value
public import proofs.«01_k».proof.Proof.Gen.Reference2Ideal.Run
public import proofs.«01_k».proof.Proof.Gen.Reference2Ideal.Read
public import Idealize.ShloMosaic.Lib.Pointwise
public import Idealize.ShloMosaic.Lib.Pointwise.Tactic

/-!
# The projection into the branches, forward

Each grid point projects 512 steps; the reference projects them all.
-/

@[expose] public section

set_option maxRecDepth 16384

noncomputable section

namespace Cert.Proj2

open Cert.Kernel2Ideal Cert.Kernel2Ideal.Gen Idealize.ShloMosaic Idealize.ShloMosaic.TcCoe Idealize.SL.Sem
open Cert.Pool Cert.Proj
open scoped BigOperators

section Point

variable {X V : ℕ → ℕ → EReal} {W : ℕ → ℕ → ℕ → EReal} {T : ℕ}

theorem pay4 {x : FVec Ideal S512x1024 .f32} {g sc sh : FVec Ideal S1x1024 .f32} (hx : M2 x (fun r l => X (T + r) l))
    (hg : M2 g (fun _ l => V 3 l)) (hsc : M2 sc (fun _ l => V 1 l)) (hsh : M2 sh (fun _ l => V 0 l)) :
    M2 (k0_pay4 (F := Ideal) x g sc sh) (fun r l => hid X V (T + r) l) := by
  intro r c
  unfold k0_pay4
  pointwise
  simp only [hx _ _, hg _ _, hsc _ _, hsh _ _]
  rfl

theorem pay2 {x : FVec Ideal S512x1024 .bf16} {w : FVec Ideal S1x1024x1024 .bf16} {k : ℕ} (hx : M2 x (fun r l => hid X V (T + r) l))
    (hw : M3 w (fun _ i j => W k i j)) : M3 (k0_pay2 (F := Ideal) x w) (fun _ r p => proj X V W k (T + r) p) := by
  intro a r c
  unfold k0_pay2
  pointwise
  simp only [hx _ _, hw _ _ _]
  rfl

theorem pay3 {x : FVec Ideal S512x1024 .bf16} {w : FVec Ideal S1x1024x1024 .bf16} {k : ℕ} (hx : M2 x (fun r l => hid X V (T + r) l))
    (hw : M3 w (fun _ i j => W k i j)) : M3 (k0_pay3 (F := Ideal) x w) (fun _ r p => proj X V W k (T + r) p) := by
  intro a r c
  unfold k0_pay3
  pointwise
  simp only [hx _ _, hw _ _ _]
  rfl

theorem pay6 {x : FVec Ideal S512x1024 .f32} {g sc sh : FVec Ideal S1x1024 .f32} {w : FVec Ideal S1x1024x1024 .bf16} {k : ℕ}
    (hx : M2 x (fun r l => X (T + r) l)) (hg : M2 g (fun _ l => V 3 l)) (hsc : M2 sc (fun _ l => V 1 l)) (hsh : M2 sh (fun _ l => V 0 l))
    (hw : M3 w (fun _ i j => W k i j)) : M3 (k0_pay1 (k0_pay6 (F := Ideal) x g sc sh w)) (fun _ r p => proj X V W k (T + r) p) := by
  intro a r c
  have h4 := pay4 hx hg hsc hsh
  unfold k0_pay1 k0_pay6
  generalize k0_pay4 (F := Ideal) x g sc sh = y at h4 ⊢
  pointwise
  simp only [h4 _ _, hw _ _ _]
  rfl

theorem pay5 {x : FVec Ideal S512x1024 .f32} {g sc sh : FVec Ideal S1x1024 .f32} {w : FVec Ideal S1x1024x1024 .bf16} {k : ℕ}
    (hx : M2 x (fun r l => X (T + r) l)) (hg : M2 g (fun _ l => V 3 l)) (hsc : M2 sc (fun _ l => V 1 l)) (hsh : M2 sh (fun _ l => V 0 l))
    (hw : M3 w (fun _ i j => W k i j)) : M3 (k0_pay5 (F := Ideal) x g sc sh w) (fun _ r p => proj X V W k (T + r) p) := by
  intro a r c
  have h4 := pay4 hx hg hsc hsh
  unfold k0_pay5
  generalize k0_pay4 (F := Ideal) x g sc sh = y at h4 ⊢
  pointwise
  simp only [h4 _ _, hw _ _ _]
  rfl

theorem pj (k : ℕ) : ∀ a r p, a < 1 → r < 512 → p < 1024 →
    proj X V W k (T + r) p = (fun a r p => proj X V W a (T + r) p) (k + a) (0 + r) (0 + p) := by
  intro a r p ha hr hp
  obtain rfl : a = 0 := by omega
  simp only [Nat.zero_add, Nat.add_zero]

/-- The block a grid point leaves. -/
theorem out3 {x : Vec Ideal S512x1024 .f32} {v : Vec Ideal S8x1024 .f32} {w : Vec Ideal S4x1024x1024 .bf16}
    (hx : M2 (n := 512) (m := 1024) x (fun r l => X (T + r) l)) (hv : M2 (n := 8) (m := 1024) v V) (hw : M3 (k := 4) (n := 1024) (m := 1024) w W) (y : S4x512x1024.Idx) :
    out0_3 (F := Ideal) x v w y = proj X V W (y 0).val (T + (y 1).val) (y 2).val := by
  have hx' : M2 (View.ld x r0_0) (fun r l => X (T + r) l) := by
    rw [show View.ld x r0_0 = x from ldall]; exact hx
  have h4 := pay4 (X := X) (V := V) (T := T) (g := View.ld v r0_1) (sc := View.ld v r0_2) (sh := View.ld v r0_3) hx' (ldrow hv 3 (by decide)) (ldrow hv 1 (by decide)) (ldrow hv 0 (by decide))
  unfold out0_3
  refine canon_at (Val := Elt Ideal) (e := .f32) (fun y : S4x512x1024.Idx => proj X V W (y 0).val (T + (y 1).val) (y 2).val) _ ?_ y (cover0_3 _ _ _ _ y)
  refine pcons (piece3 (fun a r p => proj X V W a (T + r) p) (pay3 h4 (ldmat hw 3 (by decide))) (pj 3)) ?_
  refine pcons (piece3 (fun a r p => proj X V W a (T + r) p) (pay2 h4 (ldmat hw 2 (by decide))) (pj 2)) ?_
  refine pcons (piece3 (fun a r p => proj X V W a (T + r) p) (pay6 hx' (ldrow hv 3 (by decide)) (ldrow hv 1 (by decide)) (ldrow hv 0 (by decide)) (ldmat hw 1 (by decide))) (pj 1)) ?_
  refine pcons (piece3 (fun a r p => proj X V W a (T + r) p) (pay5 hx' (ldrow hv 3 (by decide)) (ldrow hv 1 (by decide)) (ldrow hv 0 (by decide)) (ldmat hw 0 (by decide))) (pj 0)) ?_
  exact pnil

end Point

variable (m : (ℓ : Loc nD τ sig) → Buf (Elt Ideal) ℓ)

theorem index0 : ∀ t : Fin grid0.N, win0_0.index t 0 = t.val ∧ win0_0.index t 1 = 0 := by decide +kernel
theorem index1 : ∀ t : Fin grid0.N, win0_1.index t 0 = 0 ∧ win0_1.index t 1 = 0 := by decide +kernel
theorem index2 : ∀ t : Fin grid0.N, win0_2.index t 0 = 0 ∧ win0_2.index t 1 = 0 ∧ win0_2.index t 2 = 0 := by decide +kernel
theorem index3 : ∀ t : Fin grid0.N, win0_3.index t 0 = 0 ∧ win0_3.index t 1 = t.val ∧ win0_3.index t 2 = 0 := by decide +kernel

/-- The launched stream, vectors and matrices by coordinates. -/
abbrev X (c : Dev nD) : ℕ → ℕ → EReal := at2 (n := 4096) (m := 1024) (m ((c : Thread nD τ).loc main_arg0))
abbrev Vv (c : Dev nD) : ℕ → ℕ → EReal := at2 (n := 8) (m := 1024) (m ((c : Thread nD τ).loc main_arg1))
abbrev W (c : Dev nD) : ℕ → ℕ → ℕ → EReal := at3 (k := 4) (n := 1024) (m := 1024) (m ((c : Thread nD τ).loc main_arg2))

theorem blk0 (c : Dev nD) (t : Fin cfg0.N) : M2 (n := 512) (m := 1024) (iblk m c 0 t) (fun r l => X m c (512 * t.val + r) l) := by
  intro r l
  unfold iblk
  rw [View.read_apply]
  show V m c main_arg0 _ = at2 _ _ _
  rw [V_main_arg0]
  have hi := index0 t
  refine at2_of _ _ ?_ ?_
  · show win0_0.index t 0 * 512 + 1 * r.val = 512 * t.val + r.val; omega
  · show win0_0.index t 1 * 1024 + 1 * l.val = l.val; omega

theorem blk1 (c : Dev nD) (t : Fin cfg0.N) : M2 (n := 8) (m := 1024) (iblk m c 1 t) (Vv m c) := by
  intro r l
  unfold iblk
  rw [View.read_apply]
  show V m c main_arg1 _ = at2 _ _ _
  rw [V_main_arg1]
  have hi := index1 t
  refine at2_of _ _ ?_ ?_
  · show win0_1.index t 0 * 8 + 1 * r.val = r.val; omega
  · show win0_1.index t 1 * 1024 + 1 * l.val = l.val; omega

theorem blk2 (c : Dev nD) (t : Fin cfg0.N) : M3 (k := 4) (n := 1024) (m := 1024) (iblk m c 2 t) (W m c) := by
  intro a r l
  unfold iblk
  rw [View.read_apply]
  show V m c main_arg2 _ = at3 _ _ _ _
  rw [V_main_arg2]
  have hi := index2 t
  refine at3_of _ _ ?_ ?_ ?_
  · show win0_2.index t 0 * 4 + 1 * a.val = a.val; omega
  · show win0_2.index t 1 * 1024 + 1 * r.val = r.val; omega
  · show win0_2.index t 2 * 1024 + 1 * l.val = l.val; omega

theorem mem_blk (t : Fin cfg0.N) (i : S4x4096x1024.Idx) (h1 : 512 * t.val ≤ (i 1).val ∧ (i 1).val < 512 * t.val + 512) :
    i ∈ ((cfg0.win 3).blk t).view.set := by
  show i ∈ ((View.whole main_v0).slice (win0_3.rect t)).set
  rw [View.set_slice_whole, Rect.mem_set_unit]
  have hi := index3 t
  have i0 : (i 0).val < 4 := (i 0).isLt
  have i2 : (i 2).val < 1024 := (i 2).isLt
  intro a
  match a with
  | ⟨0, _⟩ => show win0_3.index t 0 * 4 ≤ (i 0).val ∧ (i 0).val < win0_3.index t 0 * 4 + 4; omega
  | ⟨1, _⟩ => show win0_3.index t 1 * 512 ≤ (i 1).val ∧ (i 1).val < win0_3.index t 1 * 512 + 512; omega
  | ⟨2, _⟩ => show win0_3.index t 2 * 1024 ≤ (i 2).val ∧ (i 2).val < win0_3.index t 2 * 1024 + 1024; omega

/-- The four projections of the launched stream. -/
abbrev res (c : Dev nD) : Vec Ideal S4x4096x1024 .f32 := arr3 (proj (X m c) (Vv m c) (W m c))

theorem final (c : Dev nD) : (dats m 0 c).arrAt 3 cfg0.N = res m c := by
  have hN : cfg0.N = 8 := N_0
  refine (dats m 0 c).arrAt_eq_of_cover 3 (res m c) (fun t hf => ?_) fun i => ?_
  · rw [Cert.Kernel2Ideal.Value.flushed3]
    funext y
    have hi := index3 t
    refine (out3 (blk0 m c t) (blk1 m c t) (blk2 m c t) y).trans ?_
    rw [View.read_apply]
    have e0 : (((cfg0.win 3).blk t).view.emb y 0).val = (y 0).val := by
      show win0_3.index t 0 * 4 + 1 * (y 0).val = _; omega
    have e1 : (((cfg0.win 3).blk t).view.emb y 1).val = 512 * t.val + (y 1).val := by
      show win0_3.index t 1 * 512 + 1 * (y 1).val = _; omega
    have e2 : (((cfg0.win 3).blk t).view.emb y 2).val = (y 2).val := by
      show win0_3.index t 2 * 1024 + 1 * (y 2).val = _; omega
    show _ = proj _ _ _ (((cfg0.win 3).blk t).view.emb y 0).val (((cfg0.win 3).blk t).view.emb y 1).val (((cfg0.win 3).blk t).view.emb y 2).val
    rw [e0, e1, e2]
  · have h1 : (i 1).val < 4096 := (i 1).isLt
    exact ⟨⟨(i 1).val / 512, by omega⟩, flush0_3 _, mem_blk _ i (by dsimp only; omega)⟩

/-! ## The reference -/

section Reference

open Cert.Reference2Ideal Cert.Reference2Ideal.Gen Cert.Reference2Ideal.Read

theorem r1 (v : Vec Ideal ⟨2, ![8, 1024]⟩ .f32) (k : S1024.Idx) : val_main_v1 (F := Ideal) v k = at2 (n := 8) (m := 1024) v 3 (k 0).val := by
  have hk : (k 0).val < 1024 := (k 0).isLt
  rw [val_main_v1_apply, val_main_v0_apply]
  exact at2_of (n := 8) (m := 1024) v _ rfl (by show (k 0).val % 1024 = _; omega)

theorem r3 (v : Vec Ideal ⟨2, ![8, 1024]⟩ .f32) (k : S1024.Idx) : val_main_v3 (F := Ideal) v k = at2 (n := 8) (m := 1024) v 0 (k 0).val := by
  have hk : (k 0).val < 1024 := (k 0).isLt
  rw [val_main_v3_apply, val_main_v2_apply]
  exact at2_of (n := 8) (m := 1024) v _ rfl (by show (k 0).val % 1024 = _; omega)

theorem r5 (v : Vec Ideal ⟨2, ![8, 1024]⟩ .f32) (k : S1024.Idx) : val_main_v5 (F := Ideal) v k = at2 (n := 8) (m := 1024) v 1 (k 0).val := by
  have hk : (k 0).val < 1024 := (k 0).isLt
  rw [val_main_v5_apply, val_main_v4_apply]
  exact at2_of (n := 8) (m := 1024) v _ rfl (by show (k 0).val % 1024 = _; omega)

theorem r14 (x : Vec Ideal ⟨2, ![4096, 1024]⟩ .f32) (i : S4096x1.Idx) : val_main_v14 (F := Ideal) x i = rs (at2 (n := 4096) (m := 1024) x) (i 0).val := by
  rw [val_main_v14_apply, val_main_v13_apply, val_main_v11_apply, val_main_v9_apply, val_main_v8_apply, val_main_v10_apply, val_main_v12_apply]
  simp only [val_main_v7_apply, val_main_cst_apply, val_main_cst_0_apply, val_main_cst_1_apply, at2_fn (n := 4096) (m := 1024) x]
  show Ideal.rsqrt (Ideal.div (Ideal.ofBits .f32 0x00000000#32 + _) _ + _) = _
  rw [Ideal.ofBits_zero .f32, zero_add]
  rfl

theorem r27 (x : Vec Ideal ⟨2, ![4096, 1024]⟩ .f32) (v : Vec Ideal ⟨2, ![8, 1024]⟩ .f32) (i : Cert.Reference2Ideal.S4096x1024.Idx) :
    val_main_v27 (F := Ideal) x v i = hid (at2 (n := 4096) (m := 1024) x) (at2 (n := 8) (m := 1024) v) (i 0).val (i 1).val := by
  rw [val_main_v27_apply, val_main_v24_apply, val_main_v19_apply, val_main_v16_apply, val_main_v15_apply, val_main_v18_apply, val_main_v17_apply,
    val_main_v23_apply, val_main_v22_apply, val_main_v21_apply, val_main_v20_apply, val_main_v26_apply, val_main_v25_apply, r1, r3, r5, r14,
    val_main_cst_2_apply, at2_fn (n := 4096) (m := 1024) x]
  show _ * _ * _ * (Ideal.ofBits .f32 0x3f800000#32 + _) + _ = _
  rw [Ideal.ofBits_one_f32]
  rfl

theorem ref (x : Vec Ideal ⟨2, ![4096, 1024]⟩ .f32) (v : Vec Ideal ⟨2, ![8, 1024]⟩ .f32) (w : Vec Ideal ⟨3, ![4, 1024, 1024]⟩ .bf16) :
    val_main_v29 (F := Ideal) x v w = arr3 (proj (at2 (n := 4096) (m := 1024) x) (at2 (n := 8) (m := 1024) v) (at3 (k := 4) (n := 1024) (m := 1024) w)) := by
  funext i
  rw [val_main_v29_apply, val_main_v28_apply]
  unfold arr3 proj
  refine Finset.sum_congr rfl fun k _ => ?_
  rw [mul_comm, r27]
  exact congrArg₂ (· * ·) rfl (at3_of (k := 4) (n := 1024) (m := 1024) w _ rfl rfl rfl)

end Reference

end Cert.Proj2
-- ==== Proof.Proj3.lean ====
module

public import proofs.«01_k».proof.Proof.ProjSpec
public import proofs.«01_k».proof.Proof.Gen.Kernel3Ideal.Value
public import proofs.«01_k».proof.Proof.Gen.Reference3Ideal.Run
public import proofs.«01_k».proof.Proof.Gen.Reference3Ideal.Read
public import Idealize.ShloMosaic.Lib.Pointwise
public import Idealize.ShloMosaic.Lib.Pointwise.Tactic

/-!
# The gradient of the projections' matrices

Each grid point adds 512 steps to the running sums; the last one writes them out.
-/

@[expose] public section

set_option maxRecDepth 16384

noncomputable section

namespace Cert.Proj3

open Cert.Kernel3Ideal Cert.Kernel3Ideal.Gen Idealize.ShloMosaic Idealize.ShloMosaic.TcCoe Idealize.SL.Sem
open Cert.Pool Cert.Proj
open scoped BigOperators

section Pay

variable {X V : ℕ → ℕ → EReal} {P : ℕ → ℕ → ℕ → EReal} {T : ℕ}

theorem pay4 {x : FVec Ideal S512x1024 .f32} {g sc sh : FVec Ideal S1x1024 .f32} (hx : M2 x (fun r l => X (512 * T + r) l))
    (hg : M2 g (fun _ l => V 3 l)) (hsc : M2 sc (fun _ l => V 1 l)) (hsh : M2 sh (fun _ l => V 0 l)) :
    M2 (k0_pay4 (F := Ideal) x g sc sh) (fun r l => hid X V (512 * T + r) l) := by
  intro r c
  unfold k0_pay4
  pointwise
  simp only [hx _ _, hg _ _, hsc _ _, hsh _ _]
  rfl

theorem pay3 : ∀ y, k0_pay3 (F := Ideal) y = arr3 (dwin X V P 0) y := by
  intro y
  unfold k0_pay3
  pointwise
  simp [arr3, dwin]

theorem pay2 {x : Vec Ideal S4x1024x1024 .f32} {G : ℕ → ℕ → ℕ → EReal} (h : M3 (k := 4) (n := 1024) (m := 1024) x G) : M3 (k := 4) (n := 1024) (m := 1024) (k0_pay2 (F := Ideal) x) G := by
  intro a r c
  unfold k0_pay2
  pointwise
  exact h a r c

theorem pay7 {h : FVec Ideal S512x1024 .bf16} {a : FVec Ideal S1x1024x1024 .f32} {p : FVec Ideal S1x512x1024 .bf16} {k : ℕ} (hh : M2 h (fun r l => hid X V (512 * T + r) l))
    (ha : M3 a (fun _ i j => dwin X V P (512 * T) k i j)) (hp : M3 p (fun _ r j => P k (512 * T + r) j)) :
    M3 (k0_pay7 (F := Ideal) h a p) (fun _ i j => dwin X V P (512 * (T + 1)) k i j) := by
  intro z i j
  unfold k0_pay7
  pointwise
  simp only [hh _ _, ha _ _ _, hp _ _ _]
  exact sum_next (fun t => hid X V t i.val * P k t j.val) T

theorem pj {n : ℕ} (k : ℕ) : ∀ a i j, a < 1 → i < 1024 → j < 1024 →
    dwin X V P n k i j = (dwin X V P n) (k + a) (0 + i) (0 + j) := by
  intro a i j ha hi hj
  obtain rfl : a = 0 := by omega
  simp only [Nat.zero_add, Nat.add_zero]

end Pay

section Point

variable (c : Dev nD) (i : grid0.Coords) (arg1 : Memref sig .tc .vmem S4x512x1024 .bf16) (harg1 : arg1.IsWhole) (arg2 : Memref sig .tc .vmem S512x1024 .f32) (harg2 : arg2.IsWhole) (arg3 : Memref sig .tc .vmem S8x1024 .f32) (harg3 : arg3.IsWhole) (arg5 : Memref sig .tc .vmem S4x1024x1024 .bf16) (harg5 : arg5.IsWhole) (arg6 : Memref sig .tc .vmem S4x1024x1024 .f32) (harg6 : arg6.IsWhole)
  (x0 : Vec Ideal S4x512x1024 .bf16) (x1 : Vec Ideal S512x1024 .f32) (x2 : Vec Ideal S8x1024 .f32) (xs0 : Vec Ideal S4x1024x1024 .f32)
  {X V : ℕ → ℕ → EReal} {P : ℕ → ℕ → ℕ → EReal} {T : ℕ}

theorem ldx {x : Vec Ideal S512x1024 .f32} (hx : M2 (n := 512) (m := 1024) x (fun r l => X (512 * T + r) l)) {inb} :
    M2 (View.ld x (Rect.unit (s := S512x1024) ![0, 0] ![512, 1024] inb)) (fun r l => X (512 * T + r) l) := by
  rw [show View.ld x (Rect.unit (s := S512x1024) ![0, 0] ![512, 1024] inb) = x from ldall]; exact hx

/-- The branch's hidden rows at a point. -/
theorem hidden {x1 : Vec Ideal S512x1024 .f32} {x2 : Vec Ideal S8x1024 .f32} (h1 : M2 (n := 512) (m := 1024) x1 (fun r l => X (512 * T + r) l)) (h2 : M2 (n := 8) (m := 1024) x2 V) {a b c d} :
    M2 (k0_pay4 (F := Ideal) (View.ld x1 (Rect.unit (s := S512x1024) ![0, 0] ![512, 1024] a)) (View.ld x2 (Rect.unit (s := S8x1024) ![3, 0] ![1, 1024] b))
      (View.ld x2 (Rect.unit (s := S8x1024) ![1, 0] ![1, 1024] c)) (View.ld x2 (Rect.unit (s := S8x1024) ![0, 0] ![1, 1024] d))) (fun r l => hid X V (512 * T + r) l) :=
  pay4 (ldx h1) (ldrow h2 3 (by decide)) (ldrow h2 1 (by decide)) (ldrow h2 0 (by decide))

variable (h0 : M3 (k := 4) (n := 512) (m := 1024) x0 (fun k r j => P k (512 * T + r) j))
  (h1 : M2 (n := 512) (m := 1024) x1 (fun r l => X (512 * T + r) l)) (h2 : M2 (n := 8) (m := 1024) x2 V)
include h0 h1 h2

theorem sout_A (hc0 : cond0_0 i) (hc1 : ¬cond0_1 i) (hT : T = 0) (y : S4x1024x1024.Idx) :
    sout0_A_0 (F := Ideal) c i arg1 harg1 arg2 harg2 arg3 harg3 arg5 harg5 arg6 harg6 hc0 hc1 x0 x1 x2 y = arr3 (dwin X V P (512 * (T + 1))) y := by
  subst hT
  unfold sout0_A_0
  rw [View.read_writes_junk_eq_canon]
  unfold kernelRun0_A
  dsimp only
  sl_unfold_words
  simp (discharger := assumption) only [View.readAt_eq_ld, Memref.IsWhole.read_unread]
  refine canon_or4 (Val := Elt Ideal) (e := .f32) (G := fun y : S4x1024x1024.Idx => dwin X V P (512 * (0 + 1)) (y 0).val (y 1).val (y 2).val) ?_ (Or.inr (planes (n := 1024) (m := 1024) y))
  exact (pcons (piece3 (dwin X V P (512 * (0 + 1))) (pay7 (hidden h1 h2) (skip3 _ rfl (skip3 _ rfl (skip3 _ rfl (fill3 _ (ldacc pay3 3 (by decide)))))) (ldmat h0 3 (by decide))) (pj 3)) (pcons (piece3 (dwin X V P (512 * (0 + 1))) (pay7 (hidden h1 h2) (skip3 _ rfl (skip3 _ rfl (fill3 _ (ldacc pay3 2 (by decide))))) (ldmat h0 2 (by decide))) (pj 2)) (pcons (piece3 (dwin X V P (512 * (0 + 1))) (pay7 (hidden h1 h2) (skip3 _ rfl (fill3 _ (ldacc pay3 1 (by decide)))) (ldmat h0 1 (by decide))) (pj 1)) (pcons (piece3 (dwin X V P (512 * (0 + 1))) (pay7 (hidden h1 h2) (fill3 _ (ldacc pay3 0 (by decide))) (ldmat h0 0 (by decide))) (pj 0)) pnil))))

theorem sout_B (hc0 : ¬cond0_0 i) (hc1 : ¬cond0_1 i) (ha : ∀ y, xs0 y = arr3 (dwin X V P (512 * T)) y) (y : S4x1024x1024.Idx) :
    sout0_B_0 (F := Ideal) c i arg1 harg1 arg2 harg2 arg3 harg3 arg5 harg5 arg6 harg6 hc0 hc1 x0 x1 x2 xs0 y = arr3 (dwin X V P (512 * (T + 1))) y := by
  unfold sout0_B_0
  rw [View.read_writes_junk_eq_canon]
  unfold kernelRun0_B
  dsimp only
  sl_unfold_words
  simp (discharger := assumption) only [View.readAt_eq_ld, Memref.IsWhole.read_unread]
  refine canon_or4 (Val := Elt Ideal) (e := .f32) (G := fun y : S4x1024x1024.Idx => dwin X V P (512 * (T + 1)) (y 0).val (y 1).val (y 2).val) ?_ (Or.inr (planes (n := 1024) (m := 1024) y))
  exact (pcons (piece3 (dwin X V P (512 * (T + 1))) (pay7 (hidden h1 h2) (ldacc ha 3 (by decide)) (ldmat h0 3 (by decide))) (pj 3)) (pcons (piece3 (dwin X V P (512 * (T + 1))) (pay7 (hidden h1 h2) (ldacc ha 2 (by decide)) (ldmat h0 2 (by decide))) (pj 2)) (pcons (piece3 (dwin X V P (512 * (T + 1))) (pay7 (hidden h1 h2) (ldacc ha 1 (by decide)) (ldmat h0 1 (by decide))) (pj 1)) (pcons (piece3 (dwin X V P (512 * (T + 1))) (pay7 (hidden h1 h2) (ldacc ha 0 (by decide)) (ldmat h0 0 (by decide))) (pj 0)) pnil))))

theorem sout_C (hc0 : ¬cond0_0 i) (hc1 : cond0_1 i) (ha : ∀ y, xs0 y = arr3 (dwin X V P (512 * T)) y) (y : S4x1024x1024.Idx) :
    sout0_C_0 (F := Ideal) c i arg1 harg1 arg2 harg2 arg3 harg3 arg5 harg5 arg6 harg6 hc0 hc1 x0 x1 x2 xs0 y = arr3 (dwin X V P (512 * (T + 1))) y := by
  unfold sout0_C_0
  rw [View.read_writes_junk_eq_canon]
  unfold kernelRun0_C
  dsimp only
  sl_unfold_words
  simp (discharger := assumption) only [View.readAt_eq_ld, Memref.IsWhole.read_unread]
  refine canon_or4 (Val := Elt Ideal) (e := .f32) (G := fun y : S4x1024x1024.Idx => dwin X V P (512 * (T + 1)) (y 0).val (y 1).val (y 2).val) ?_ (Or.inr (planes (n := 1024) (m := 1024) y))
  exact (pcons (piece3 (dwin X V P (512 * (T + 1))) (pay7 (hidden h1 h2) (ldacc ha 3 (by decide)) (ldmat h0 3 (by decide))) (pj 3)) (pcons (piece3 (dwin X V P (512 * (T + 1))) (pay7 (hidden h1 h2) (ldacc ha 2 (by decide)) (ldmat h0 2 (by decide))) (pj 2)) (pcons (piece3 (dwin X V P (512 * (T + 1))) (pay7 (hidden h1 h2) (ldacc ha 1 (by decide)) (ldmat h0 1 (by decide))) (pj 1)) (pcons (piece3 (dwin X V P (512 * (T + 1))) (pay7 (hidden h1 h2) (ldacc ha 0 (by decide)) (ldmat h0 0 (by decide))) (pj 0)) pnil))))

theorem out_C (hc0 : ¬cond0_0 i) (hc1 : cond0_1 i) (ha : ∀ y, xs0 y = arr3 (dwin X V P (512 * T)) y) (y : S4x1024x1024.Idx) :
    out0_C_3 (F := Ideal) c i arg1 harg1 arg2 harg2 arg3 harg3 arg5 harg5 arg6 harg6 hc0 hc1 x0 x1 x2 xs0 y = arr3 (dwin X V P (512 * (T + 1))) y := by
  unfold out0_C_3
  rw [View.read_writes_junk_eq_canon]
  refine canon_at (Val := Elt Ideal) (e := .bf16) (fun y : S4x1024x1024.Idx => dwin X V P (512 * (T + 1)) (y 0).val (y 1).val (y 2).val) _ ?_ y (cover0_C_3 c i arg1 harg1 arg2 harg2 arg3 harg3 arg5 harg5 arg6 harg6 hc0 hc1 x0 x1 x2 xs0 y)
  unfold kernelRun0_C
  dsimp only
  sl_unfold_words
  simp (discharger := assumption) only [View.readAt_eq_ld, Memref.IsWhole.read_unread]
  refine pcons (piece3 (dwin X V P (512 * (T + 1))) (pay2 (whole3 _ (pcons (piece3 (dwin X V P (512 * (T + 1))) (pay7 (hidden h1 h2) (ldacc ha 3 (by decide)) (ldmat h0 3 (by decide))) (pj 3)) (pcons (piece3 (dwin X V P (512 * (T + 1))) (pay7 (hidden h1 h2) (ldacc ha 2 (by decide)) (ldmat h0 2 (by decide))) (pj 2)) (pcons (piece3 (dwin X V P (512 * (T + 1))) (pay7 (hidden h1 h2) (ldacc ha 1 (by decide)) (ldmat h0 1 (by decide))) (pj 1)) (pcons (piece3 (dwin X V P (512 * (T + 1))) (pay7 (hidden h1 h2) (ldacc ha 0 (by decide)) (ldmat h0 0 (by decide))) (pj 0)) pnil)))) (fun y => planes (n := 1024) (m := 1024) y)))
    (fun i j k _ _ _ => by rw [Nat.zero_add, Nat.zero_add, Nat.zero_add])) pnil

end Point

variable (m : (ℓ : Loc nD τ sig) → Buf (Elt Ideal) ℓ)

theorem index0 : ∀ t : Fin grid0.N, win0_0.index t 0 = 0 ∧ win0_0.index t 1 = t.val ∧ win0_0.index t 2 = 0 := by decide +kernel
theorem index1 : ∀ t : Fin grid0.N, win0_1.index t 0 = t.val ∧ win0_1.index t 1 = 0 := by decide +kernel
theorem index2 : ∀ t : Fin grid0.N, win0_2.index t 0 = 0 ∧ win0_2.index t 1 = 0 := by decide +kernel
theorem index3 : ∀ t : Fin grid0.N, win0_3.index t 0 = 0 ∧ win0_3.index t 1 = 0 ∧ win0_3.index t 2 = 0 := by decide +kernel

/-- The launched cotangents, stream and vectors by coordinates. -/
abbrev P (c : Dev nD) : ℕ → ℕ → ℕ → EReal := at3 (k := 4) (n := 4096) (m := 1024) (m ((c : Thread nD τ).loc main_arg0))
abbrev X (c : Dev nD) : ℕ → ℕ → EReal := at2 (n := 4096) (m := 1024) (m ((c : Thread nD τ).loc main_arg1))
abbrev Vv (c : Dev nD) : ℕ → ℕ → EReal := at2 (n := 8) (m := 1024) (m ((c : Thread nD τ).loc main_arg2))

theorem blk0 (c : Dev nD) (t : Fin cfg0.N) : M3 (k := 4) (n := 512) (m := 1024) (iblk m c 0 t) (fun k r j => P m c k (512 * t.val + r) j) := by
  intro a r l
  unfold iblk
  rw [View.read_apply]
  show V m c main_arg0 _ = at3 _ _ _ _
  rw [V_main_arg0]
  have hi := index0 t
  refine at3_of _ _ ?_ ?_ ?_
  · show win0_0.index t 0 * 4 + 1 * a.val = a.val; omega
  · show win0_0.index t 1 * 512 + 1 * r.val = 512 * t.val + r.val; omega
  · show win0_0.index t 2 * 1024 + 1 * l.val = l.val; omega

theorem blk1 (c : Dev nD) (t : Fin cfg0.N) : M2 (n := 512) (m := 1024) (iblk m c 1 t) (fun r l => X m c (512 * t.val + r) l) := by
  intro r l
  unfold iblk
  rw [View.read_apply]
  show V m c main_arg1 _ = at2 _ _ _
  rw [V_main_arg1]
  have hi := index1 t
  refine at2_of _ _ ?_ ?_
  · show win0_1.index t 0 * 512 + 1 * r.val = 512 * t.val + r.val; omega
  · show win0_1.index t 1 * 1024 + 1 * l.val = l.val; omega

theorem blk2 (c : Dev nD) (t : Fin cfg0.N) : M2 (n := 8) (m := 1024) (iblk m c 2 t) (Vv m c) := by
  intro r l
  unfold iblk
  rw [View.read_apply]
  show V m c main_arg2 _ = at2 _ _ _
  rw [V_main_arg2]
  have hi := index2 t
  refine at2_of _ _ ?_ ?_
  · show win0_2.index t 0 * 8 + 1 * r.val = r.val; omega
  · show win0_2.index t 1 * 1024 + 1 * l.val = l.val; omega

/-- What grid point `n` leaves: the sums over its own and all earlier steps, written out by the last point. -/
structure Left (c : Dev nD) (n : ℕ) (o : Vec Ideal S4x1024x1024 .bf16 × Vec Ideal S4x1024x1024 .f32) : Prop where
  out : n = 7 → ∀ y, o.1 y = arr3 (dwin (X m c) (Vv m c) (P m c) (512 * (n + 1))) y
  acc : ∀ y, o.2 y = arr3 (dwin (X m c) (Vv m c) (P m c) (512 * (n + 1))) y

variable {m} in
theorem left_mk {c : Dev nD} {n : ℕ} {a : Vec Ideal S4x1024x1024 .bf16} {b : Vec Ideal S4x1024x1024 .f32}
    (ha : n = 7 → ∀ y, a y = arr3 (dwin (X m c) (Vv m c) (P m c) (512 * (n + 1))) y)
    (hb : ∀ y, b y = arr3 (dwin (X m c) (Vv m c) (P m c) (512 * (n + 1))) y) : Left m c n (a, b) := ⟨ha, hb⟩

set_option maxHeartbeats 2000000 in
theorem left_A (c : Dev nD) (t : Fin cfg0.N) (h0 : t.val % 8 = 0) (h1 : ¬t.val % 8 = 7) (hz : t.val = 0) :
    Left m c t.val (outsAt0 m c t.val t.isLt) := by
  have b0 := blk0 m c t
  have b1 := blk1 m c t
  have b2 := blk2 m c t
  rw [outsAt0_A m c t h0 h1]
  refine left_mk (fun h => absurd h (by omega)) ?_
  exact fun y => sout_A (h0 := b0) (h1 := b1) (h2 := b2) (hT := hz) (y := y) ..

set_option maxHeartbeats 2000000 in
theorem left_B (c : Dev nD) (t : Fin cfg0.N) (h0 : ¬t.val % 8 = 0) (h1 : ¬t.val % 8 = 7)
    (ih : ∀ h y, (outsAt0 m c (t.val - 1) h).2 y = arr3 (dwin (X m c) (Vv m c) (P m c) (512 * t.val)) y) : Left m c t.val (outsAt0 m c t.val t.isLt) := by
  have b0 := blk0 m c t
  have b1 := blk1 m c t
  have b2 := blk2 m c t
  rw [outsAt0_B m c t h0 h1]
  refine left_mk (fun h => absurd h (by omega)) ?_
  exact fun y => sout_B (h0 := b0) (h1 := b1) (h2 := b2) (ha := ih _) (y := y) ..

set_option maxHeartbeats 2000000 in
theorem left_C (c : Dev nD) (t : Fin cfg0.N) (h0 : ¬t.val % 8 = 0) (h1 : t.val % 8 = 7)
    (ih : ∀ h y, (outsAt0 m c (t.val - 1) h).2 y = arr3 (dwin (X m c) (Vv m c) (P m c) (512 * t.val)) y) : Left m c t.val (outsAt0 m c t.val t.isLt) := by
  have b0 := blk0 m c t
  have b1 := blk1 m c t
  have b2 := blk2 m c t
  rw [outsAt0_C m c t h0 h1]
  refine left_mk (fun _ => ?_) ?_
  · exact fun y => out_C (h0 := b0) (h1 := b1) (h2 := b2) (ha := ih _) (y := y) ..
  · exact fun y => sout_C (h0 := b0) (h1 := b1) (h2 := b2) (ha := ih _) (y := y) ..

theorem left (c : Dev nD) : ∀ (n : ℕ) (hn : n < cfg0.N), Left m c n (outsAt0 m c n hn)
  | 0, hn => left_A m c ⟨0, hn⟩ (Nat.zero_mod 8) (by show ¬ 0 % 8 = 7; decide) rfl
  | n + 1, hn => by
    have hN : cfg0.N = 8 := N_0
    have ih : ∀ h y, (outsAt0 m c n h).2 y = arr3 (dwin (X m c) (Vv m c) (P m c) (512 * (n + 1))) y := fun h => (left c n h).acc
    have h0 : ¬ (n + 1) % 8 = 0 := by omega
    by_cases h1 : (n + 1) % 8 = 7
    · exact left_C m c ⟨n + 1, hn⟩ h0 h1 ih
    · exact left_B m c ⟨n + 1, hn⟩ h0 h1 ih

theorem mem_blk (t : Fin cfg0.N) (i : S4x1024x1024.Idx) : i ∈ ((cfg0.win 3).blk t).view.set := by
  show i ∈ ((View.whole main_v0).slice (win0_3.rect t)).set
  rw [View.set_slice_whole, Rect.mem_set_unit]
  have hi := index3 t
  have i0 : (i 0).val < 4 := (i 0).isLt
  have i1 : (i 1).val < 1024 := (i 1).isLt
  have i2 : (i 2).val < 1024 := (i 2).isLt
  intro a
  match a with
  | ⟨0, _⟩ => show win0_3.index t 0 * 4 ≤ (i 0).val ∧ (i 0).val < win0_3.index t 0 * 4 + 4; omega
  | ⟨1, _⟩ => show win0_3.index t 1 * 1024 ≤ (i 1).val ∧ (i 1).val < win0_3.index t 1 * 1024 + 1024; omega
  | ⟨2, _⟩ => show win0_3.index t 2 * 1024 ≤ (i 2).val ∧ (i 2).val < win0_3.index t 2 * 1024 + 1024; omega

/-- The gradients over all steps. -/
abbrev res (c : Dev nD) : Vec Ideal S4x1024x1024 .bf16 := arr3 (dwin (X m c) (Vv m c) (P m c) 4096)

theorem final (c : Dev nD) : (dats m 0 c).arrAt 3 cfg0.N = res m c := by
  have hN : cfg0.N = 8 := N_0
  refine (dats m 0 c).arrAt_eq_of_cover 3 (res m c) (fun t hf => ?_) fun i => ?_
  · have h7 : t.val = 7 := by have := (flush0_3 t).mp hf; have := t.isLt; omega
    rw [Cert.Kernel3Ideal.Value.flushed3]
    funext y
    have hi := index3 t
    refine ((left m c t.val t.isLt).out h7 y).trans ?_
    rw [View.read_apply]
    have e0 : (((cfg0.win 3).blk t).view.emb y 0).val = (y 0).val := by
      show win0_3.index t 0 * 4 + 1 * (y 0).val = _; omega
    have e1 : (((cfg0.win 3).blk t).view.emb y 1).val = (y 1).val := by
      show win0_3.index t 1 * 1024 + 1 * (y 1).val = _; omega
    have e2 : (((cfg0.win 3).blk t).view.emb y 2).val = (y 2).val := by
      show win0_3.index t 2 * 1024 + 1 * (y 2).val = _; omega
    show _ = dwin _ _ _ _ (((cfg0.win 3).blk t).view.emb y 0).val (((cfg0.win 3).blk t).view.emb y 1).val (((cfg0.win 3).blk t).view.emb y 2).val
    rw [e0, e1, e2, h7]
    rfl
  · exact ⟨⟨7, by omega⟩, (flush0_3 _).mpr rfl, mem_blk _ i⟩

/-! ## The reference -/

section Reference

open Cert.Reference3Ideal Cert.Reference3Ideal.Gen Cert.Reference3Ideal.Read

theorem r2 (v : Vec Ideal ⟨2, ![8, 1024]⟩ .f32) (k : S1024.Idx) : val_main_v2 (F := Ideal) v k = at2 (n := 8) (m := 1024) v 3 (k 0).val := by
  have hk : (k 0).val < 1024 := (k 0).isLt
  rw [val_main_v2_apply, val_main_v1_apply]
  exact at2_of (n := 8) (m := 1024) v _ rfl (by show (k 0).val % 1024 = _; omega)

theorem r4 (v : Vec Ideal ⟨2, ![8, 1024]⟩ .f32) (k : S1024.Idx) : val_main_v4 (F := Ideal) v k = at2 (n := 8) (m := 1024) v 0 (k 0).val := by
  have hk : (k 0).val < 1024 := (k 0).isLt
  rw [val_main_v4_apply, val_main_v3_apply]
  exact at2_of (n := 8) (m := 1024) v _ rfl (by show (k 0).val % 1024 = _; omega)

theorem r6 (v : Vec Ideal ⟨2, ![8, 1024]⟩ .f32) (k : S1024.Idx) : val_main_v6 (F := Ideal) v k = at2 (n := 8) (m := 1024) v 1 (k 0).val := by
  have hk : (k 0).val < 1024 := (k 0).isLt
  rw [val_main_v6_apply, val_main_v5_apply]
  exact at2_of (n := 8) (m := 1024) v _ rfl (by show (k 0).val % 1024 = _; omega)

theorem r14 (x : Vec Ideal ⟨2, ![4096, 1024]⟩ .f32) (i : S4096x1.Idx) : val_main_v14 (F := Ideal) x i = rs (at2 (n := 4096) (m := 1024) x) (i 0).val := by
  rw [val_main_v14_apply, val_main_v13_apply, val_main_v11_apply, val_main_v9_apply, val_main_v8_apply, val_main_v10_apply, val_main_v12_apply]
  simp only [val_main_v7_apply, val_main_cst_0_apply, val_main_cst_1_apply, val_main_cst_2_apply, at2_fn (n := 4096) (m := 1024) x]
  show Ideal.rsqrt (Ideal.div (Ideal.ofBits .f32 0x00000000#32 + _) _ + _) = _
  rw [Ideal.ofBits_zero .f32, zero_add]
  rfl

theorem r27 (x : Vec Ideal ⟨2, ![4096, 1024]⟩ .f32) (v : Vec Ideal ⟨2, ![8, 1024]⟩ .f32) (i : Cert.Reference3Ideal.S4096x1024.Idx) :
    val_main_v27 (F := Ideal) x v i = hid (at2 (n := 4096) (m := 1024) x) (at2 (n := 8) (m := 1024) v) (i 0).val (i 1).val := by
  rw [val_main_v27_apply, val_main_v24_apply, val_main_v19_apply, val_main_v16_apply, val_main_v15_apply, val_main_v18_apply, val_main_v17_apply,
    val_main_v23_apply, val_main_v22_apply, val_main_v21_apply, val_main_v20_apply, val_main_v26_apply, val_main_v25_apply, r2, r4, r6, r14,
    val_main_cst_3_apply, at2_fn (n := 4096) (m := 1024) x]
  show _ * _ * _ * (Ideal.ofBits .f32 0x3f800000#32 + _) + _ = _
  rw [Ideal.ofBits_one_f32]
  rfl

theorem ref (p : Vec Ideal ⟨3, ![4, 4096, 1024]⟩ .bf16) (x : Vec Ideal ⟨2, ![4096, 1024]⟩ .f32) (v : Vec Ideal ⟨2, ![8, 1024]⟩ .f32) :
    val_main_v34 (F := Ideal) p x v = arr3 (dwin (at2 (n := 4096) (m := 1024) x) (at2 (n := 8) (m := 1024) v) (at3 (k := 4) (n := 4096) (m := 1024) p) 4096) := by
  funext i
  rw [val_main_v34_apply, val_main_v33_apply]
  show val_main_v32 (F := Ideal) p x v _ = _
  rw [val_main_v32_apply]
  unfold arr3 dwin
  rw [← Fin.sum_univ_eq_sum_range (fun t => hid (at2 (n := 4096) (m := 1024) x) (at2 (n := 8) (m := 1024) v) t (i 1).val * at3 (k := 4) (n := 4096) (m := 1024) p (i 0).val t (i 2).val) 4096]
  refine Finset.sum_congr rfl fun k _ => ?_
  rw [mul_comm, r27, val_main_v31_apply, val_main_v30_apply]
  exact congrArg₂ (· * ·) rfl (at3_of (k := 4) (n := 4096) (m := 1024) p _ rfl rfl rfl)

end Reference

end Cert.Proj3
-- ==== Proof.ProjMath.lean ====
module

public import proofs.«01_k».proof.Proof.ProjSpec

/-!
# The norm's gradient

What a row's root-mean-square norm sends back, in the two forms it is computed in: through the reciprocal root of the
row's square mean alone, and through the root and the square mean apart. They agree on every row, infinite or not: a row
of reals has a positive square mean, by which every product distributes, and a row with an infinite entry has an
infinite one, whose reciprocal root is zero.
-/

@[expose] public section

noncomputable section

namespace Cert.Proj

open Idealize.ShloMosaic Cert.Pool
open scoped BigOperators

/-- A row's square mean, shifted. -/
def sq (X : ℕ → ℕ → EReal) (t : ℕ) : EReal := Ideal.div (∑ l : Fin 1024, X t l * X t l) lanes + eps

theorem rs_eq (X : ℕ → ℕ → EReal) (t : ℕ) : rs X t = Ideal.rsqrt (sq X t) := rfl

/-- What the norm of `X` sends back of `A`, with the normalized row's share taken out. -/
def nb (A X : ℕ → ℕ → EReal) (t l : ℕ) : EReal :=
  rs X t * (A t l - xn X t l * Ideal.div (∑ j : Fin 1024, A t j * xn X t j) lanes)

/-- What the square mean's entries get of `A`: the root's derivative, shared among the lanes. -/
def nq (A X : ℕ → ℕ → EReal) (t : ℕ) : EReal :=
  Ideal.div ((∑ j : Fin 1024, X t j * A t j) * (Ideal.ofBits .f32 0xBF000000#32 * Ideal.div (rs X t) (sq X t))) lanes

/-- The same gradient, each square's two factors apart. -/
def nr (A X : ℕ → ℕ → EReal) (t l : ℕ) : EReal := A t l * rs X t + X t l * nq A X t + nq A X t * X t l

theorem lanes_eq : lanes = ((1024 : ℝ) : EReal) := by
  simp [lanes, Ideal.ofBits, Ideal.ieee]
  rw [← EReal.coe_mul]
  congr 1
  norm_num

theorem half_eq : Ideal.ofBits .f32 0xBF000000#32 = ((-(1 / 2) : ℝ) : EReal) := by
  simp [Ideal.ofBits, Ideal.ieee]
  rw [← EReal.coe_mul]
  congr 1
  norm_num

theorem eps_pos : ∃ e : ℝ, 0 < e ∧ eps = (e : EReal) := by
  refine ⟨_, ?_, by simp [eps, Ideal.ofBits, Ideal.ieee]; rfl⟩
  norm_num

theorem coe_sum {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- A nonnegative real distributes over any sum. -/
theorem mul_sum {ι : Type} (s : Finset ι) (f : ι → EReal) (r : ℝ) (hr : 0 ≤ r) : ∑ i ∈ s, f i * (r : EReal) = (∑ i ∈ s, f i) * (r : EReal) := by
  classical
  induction s using Finset.induction_on with
  | empty => simp
  | insert a s ha ih =>
    rw [Finset.sum_insert ha, Finset.sum_insert ha, ih,
      EReal.right_distrib_of_nonneg_of_ne_top (EReal.coe_nonneg.2 hr) (EReal.coe_ne_top r)]

/-- Twice a value's product with one real. -/
theorem twice (S : EReal) (c : ℝ) : S * (c : EReal) + S * (c : EReal) = S * ((2 * c : ℝ) : EReal) := by
  have e : ((2 * c : ℝ) : EReal) = (c : EReal) * ((2 : ℝ) : EReal) := by rw [← EReal.coe_mul, mul_comm]
  rw [e, ← mul_assoc]
  generalize S * (c : EReal) = y
  induction y using EReal.rec with
  | bot => rw [EReal.bot_mul_coe_of_pos (by norm_num)]; rfl
  | top => rw [EReal.top_mul_coe_of_pos (by norm_num)]; rfl
  | coe y => rw [← EReal.coe_add, ← EReal.coe_mul]; congr 1; ring

theorem sq_nonneg (x : EReal) : 0 ≤ x * x := by
  induction x using EReal.rec with
  | bot => simp
  | top => simp
  | coe x => rw [← EReal.coe_mul]; exact EReal.coe_nonneg.2 (mul_self_nonneg x)

theorem sq_top {X : ℕ → ℕ → EReal} {t : ℕ} (j : Fin 1024) (hj : X t j = ⊥ ∨ X t j = ⊤) : sq X t = ⊤ := by
  have h1 : X t j * X t j = ⊤ := by rcases hj with h | h <;> rw [h] <;> rfl
  have h2 : ⊤ ≤ ∑ l : Fin 1024, X t l * X t l :=
    h1 ▸ Finset.single_le_sum (f := fun l : Fin 1024 => X t l * X t l) (fun l _ => sq_nonneg _) (Finset.mem_univ j)
  obtain ⟨e, he, hE⟩ := eps_pos
  rw [sq, top_le_iff.1 h2, lanes_eq, Ideal.div_coe (by norm_num), EReal.top_mul_coe_of_pos (by norm_num), hE, EReal.top_add_coe]

theorem rs_real {X : ℕ → ℕ → EReal} {t : ℕ} (y : Fin 1024 → ℝ) (hy : ∀ j : Fin 1024, X t j = (y j : EReal)) :
    ∃ r : ℝ, 0 < r ∧ rs X t = (r : EReal) ∧ Ideal.div (rs X t) (sq X t) = ((r * r * r : ℝ) : EReal) := by
  obtain ⟨e, he, hE⟩ := eps_pos
  have hm : sq X t = (((∑ j, y j * y j) * (1 / 1024) + e : ℝ) : EReal) := by
    unfold sq
    rw [lanes_eq, Ideal.div_coe (by norm_num), hE, Finset.sum_congr rfl fun j _ => by rw [hy j, ← EReal.coe_mul], coe_sum, ← EReal.coe_mul,
      ← EReal.coe_add]
  have hs : 0 ≤ ∑ j, y j * y j := Finset.sum_nonneg fun j _ => mul_self_nonneg _
  generalize hM : (∑ j, y j * y j) * (1 / 1024) + e = M at hm
  have hp : 0 < M := by rw [← hM]; positivity
  have hr : rs X t = (((Real.sqrt M)⁻¹ : ℝ) : EReal) := by
    rw [rs_eq, hm, Ideal.rsqrt_coe, if_neg (not_lt.2 hp.le), if_neg hp.ne']
  refine ⟨_, inv_pos.2 (Real.sqrt_pos.2 hp), hr, ?_⟩
  rw [hr, hm, Ideal.div_coe hp.ne', ← EReal.coe_mul]
  congr 1
  have h := Real.mul_self_sqrt hp.le
  rw [mul_assoc, ← mul_inv, h, one_div]

/-- **The two forms of the norm's gradient agree.** -/
theorem nb_eq_nr (A X : ℕ → ℕ → EReal) (t : ℕ) (l : Fin 1024) : nb A X t l = nr A X t l := by
  by_cases hx : ∃ j : Fin 1024, X t j = ⊥ ∨ X t j = ⊤
  · obtain ⟨j, hj⟩ := hx
    have h2 := sq_top j hj
    have h0 : rs X t = 0 := by rw [rs_eq, h2]; exact Ideal.rsqrt_top
    have hd : Ideal.div 0 (sq X t) = 0 := by rw [h2]; simp [Ideal.div]
    have hq : nq A X t = 0 := by
      unfold nq
      rw [h0, hd, mul_zero, mul_zero, lanes_eq, Ideal.div_coe (by norm_num), zero_mul]
    simp only [nb, nr, h0, hq, zero_mul, mul_zero, add_zero]
  · have hr : ∀ j : Fin 1024, ∃ y : ℝ, X t j = (y : EReal) := by
      intro j
      induction h : X t j using EReal.rec with
      | bot => exact absurd ⟨j, .inl h⟩ hx
      | top => exact absurd ⟨j, .inr h⟩ hx
      | coe y => exact ⟨y, rfl⟩
    choose y hy using hr
    obtain ⟨r, hp, h1, h2⟩ := rs_real y hy
    have hS : ∑ j : Fin 1024, A t j * xn X t j = (∑ j : Fin 1024, X t j * A t j) * (r : EReal) := by
      rw [← mul_sum _ _ r hp.le]
      refine Finset.sum_congr rfl fun j _ => ?_
      rw [xn, h1, mul_comm (X t j) (A t j), mul_assoc]
    unfold nb nr nq
    rw [hS, h2, half_eq, lanes_eq, Ideal.div_coe (by norm_num), Ideal.div_coe (by norm_num), xn, h1, hy l]
    generalize ∑ j : Fin 1024, X t j * A t j = S
    generalize A t l = a
    rw [sub_eq_add_neg, EReal.left_distrib_of_nonneg_of_ne_top (EReal.coe_nonneg.2 hp.le) (EReal.coe_ne_top r), add_assoc, mul_comm _ a]
    congr 1
    have e1 : S * ((-(1 / 2) : ℝ) * ((r * r * r : ℝ) : EReal)) * ((1 / 1024 : ℝ) : EReal) * (y l : EReal)
        = S * (((-(1 / 2)) * (r * r * r) * (1 / 1024) * y l : ℝ) : EReal) := by
      simp only [EReal.coe_mul, mul_assoc]
    rw [mul_comm (y l : EReal) (S * _ * _), e1, twice]
    have e2 : (y l : EReal) * r * (S * r * ((1 / 1024 : ℝ) : EReal)) = S * ((y l * r * r * (1 / 1024) : ℝ) : EReal) := by
      simp only [EReal.coe_mul]; ac_rfl
    rw [e2, ← mul_neg, ← EReal.coe_neg, mul_left_comm, ← EReal.coe_mul]
    congr 2
    ring

/-- What the four projections send back to the branches' input. -/
def dh (P W : ℕ → ℕ → ℕ → EReal) (t l : ℕ) : EReal :=
  (∑ p : Fin 1024, P 0 t p * W 0 l p) + (∑ p : Fin 1024, P 1 t p * W 1 l p) + (∑ p : Fin 1024, P 2 t p * W 2 l p)
    + ∑ p : Fin 1024, P 3 t p * W 3 l p

/-- What reaches the normalized stream. -/
def ain (P W : ℕ → ℕ → ℕ → EReal) (V : ℕ → ℕ → EReal) (t l : ℕ) : EReal := dh P W t l * (V 3 l * (1 + V 1 l))

/-- The stream's gradient: what passed the block by, and what the norm sends back. -/
def dxin (P W : ℕ → ℕ → ℕ → EReal) (X D V : ℕ → ℕ → EReal) (t l : ℕ) : EReal := D t l + nb (ain P W V) X t l

/-- The gradients of the shift, the scale and the gain over the first `n` steps, as rows 0 to 2 of eight. -/
def dvi (P W : ℕ → ℕ → ℕ → EReal) (X V : ℕ → ℕ → EReal) (n a l : ℕ) : EReal :=
  if a = 0 then ∑ t ∈ Finset.range n, dh P W t l
  else if a = 1 then ∑ t ∈ Finset.range n, dh P W t l * (xn X t l * V 3 l)
  else if a = 2 then ∑ t ∈ Finset.range n, dh P W t l * (xn X t l * (1 + V 1 l))
  else 0

end Cert.Proj
-- ==== Proof.Proj4.lean ====
module

public import proofs.«01_k».proof.Proof.ProjMath
public import proofs.«01_k».proof.Proof.Gen.Kernel4Ideal.Value
public import Idealize.ShloMosaic.Lib.Pointwise
public import Idealize.ShloMosaic.Lib.Pointwise.Tactic

/-!
# The gradient through the projection in: what the kernel's arrays end holding

Each grid point sends 512 steps' cotangents back through the four projections and the norm, and adds the steps to the
running sums of the shift's, the scale's and the gain's gradients.
-/

@[expose] public section

set_option maxRecDepth 16384

noncomputable section

namespace Cert.Proj4

open Cert.Kernel4Ideal Cert.Kernel4Ideal.Gen Idealize.ShloMosaic Idealize.ShloMosaic.TcCoe Idealize.SL.Sem
open Cert.Pool Cert.Proj
open scoped BigOperators

section Pay

variable {X D V : ℕ → ℕ → EReal} {P W : ℕ → ℕ → ℕ → EReal} {T : ℕ}

theorem pay4 {p0 p1 p2 p3 : FVec Ideal S1x512x1024 .bf16} {w0 w1 w2 w3 : FVec Ideal S1x1024x1024 .bf16}
    (hp0 : M3 p0 (fun _ r j => P 0 (T + r) j)) (hw0 : M3 w0 (fun _ i j => W 0 i j))
    (hp1 : M3 p1 (fun _ r j => P 1 (T + r) j)) (hw1 : M3 w1 (fun _ i j => W 1 i j))
    (hp2 : M3 p2 (fun _ r j => P 2 (T + r) j)) (hw2 : M3 w2 (fun _ i j => W 2 i j))
    (hp3 : M3 p3 (fun _ r j => P 3 (T + r) j)) (hw3 : M3 w3 (fun _ i j => W 3 i j)) :
    M2 (k0_pay4 (F := Ideal) p0 w0 p1 w1 p2 w2 p3 w3) (fun r l => dh P W (T + r) l) := by
  intro r l
  unfold k0_pay4
  pointwise
  simp only [hp0 _ _ _, hp1 _ _ _, hp2 _ _ _, hp3 _ _ _, hw0 _ _ _, hw1 _ _ _, hw2 _ _ _, hw3 _ _ _]
  rfl

theorem pay5 {x : FVec Ideal S512x1024 .f32} (hx : M2 x (fun r l => X (T + r) l)) :
    M2 (k0_pay5 (F := Ideal) x) (fun r _ => rs X (T + r)) := by
  intro r l
  unfold k0_pay5
  pointwise
  simp only [hx _ _]
  rfl

theorem pay6 {x : FVec Ideal S512x1024 .f32} (hx : M2 x (fun r l => X (T + r) l)) :
    M2 (k0_pay6 (F := Ideal) x) (fun r l => xn X (T + r) l) := by
  intro r l
  have h := pay5 hx
  unfold k0_pay6
  generalize k0_pay5 (F := Ideal) x = q at h ⊢
  pointwise
  simp only [hx _ _, h _ _]
  rfl

theorem pay7 {s : FVec Ideal S1x1024 .f32} (hs : M2 s (fun _ l => V 1 l)) : M2 (k0_pay7 (F := Ideal) s) (fun _ l => 1 + V 1 l) := by
  intro r l
  unfold k0_pay7
  pointwise
  simp only [hs _ _]

theorem pay2 {d x : FVec Ideal S512x1024 .f32} {q : FVec Ideal S512x1 .f32} {g s : FVec Ideal S1x1024 .f32} {y : FVec Ideal S512x1024 .f32}
    (hd : M2 d (fun r l => dh P W (T + r) l)) (hq : M2 q (fun r _ => rs X (T + r))) (hx : M2 x (fun r l => xn X (T + r) l))
    (hg : M2 g (fun _ l => V 3 l)) (hs : M2 s (fun _ l => 1 + V 1 l)) (hy : M2 y (fun r l => D (T + r) l)) :
    M2 (k0_pay2 (F := Ideal) d q x g s y) (fun r l => dxin P W X D V (T + r) l) := by
  intro r l
  unfold k0_pay2
  pointwise
  simp only [hd _ _, hq _ _, hx _ _, hg _ _, hs _ _, hy _ _]
  rfl

theorem pay3 : M2 (k0_pay3 (F := Ideal)) (dvi P W X V (512 * 0)) := by
  intro r l
  unfold k0_pay3
  pointwise
  simp [dvi]

theorem row0 {d : FVec Ideal S512x1024 .f32} {a : FVec Ideal S1x1024 .f32} (hd : M2 d (fun r l => dh P W (512 * T + r) l))
    (ha : M2 a (fun _ l => dvi P W X V (512 * T) 0 l)) :
    M2 (k0_pay8 (F := Ideal) d a) (fun _ l => dvi P W X V (512 * (T + 1)) 0 l) := by
  intro z l
  unfold k0_pay8
  pointwise
  simp only [hd _ _, ha _ _]
  exact sum_next (fun t => dh P W t l.val) T

theorem row1 {d x : FVec Ideal S512x1024 .f32} {g a : FVec Ideal S1x1024 .f32} (hd : M2 d (fun r l => dh P W (512 * T + r) l))
    (hx : M2 x (fun r l => X (512 * T + r) l)) (hg : M2 g (fun _ l => V 3 l)) (ha : M2 a (fun _ l => dvi P W X V (512 * T) 1 l)) :
    M2 (k0_pay9 (F := Ideal) d x g a) (fun _ l => dvi P W X V (512 * (T + 1)) 1 l) := by
  intro z l
  have h := pay6 hx
  unfold k0_pay9
  generalize k0_pay6 (F := Ideal) x = y at h ⊢
  pointwise
  simp only [hd _ _, ha _ _, h _ _, hg _ _]
  exact sum_next (fun t => dh P W t l.val * (xn X t l.val * V 3 l.val)) T

theorem row2 {d x : FVec Ideal S512x1024 .f32} {s a : FVec Ideal S1x1024 .f32} (hd : M2 d (fun r l => dh P W (512 * T + r) l))
    (hx : M2 x (fun r l => X (512 * T + r) l)) (hs : M2 s (fun _ l => V 1 l)) (ha : M2 a (fun _ l => dvi P W X V (512 * T) 2 l)) :
    M2 (k0_pay1 (k0_pay10 (F := Ideal) a) (k0_pay11 (F := Ideal) d x s)) (fun _ l => dvi P W X V (512 * (T + 1)) 2 l) := by
  intro z l
  have h := pay6 hx
  have h' := pay7 hs
  unfold k0_pay1 k0_pay10 k0_pay11
  generalize k0_pay6 (F := Ideal) x = y at h ⊢
  generalize k0_pay7 (F := Ideal) s = s' at h' ⊢
  pointwise
  simp only [hd _ _, ha _ _, h _ _, h' _ _]
  exact sum_next (fun t => dh P W t l.val * (xn X t l.val * (1 + V 1 l.val))) T

theorem dvi_past {a l : ℕ} (n : ℕ) (h : 3 ≤ a) : dvi P W X V n a l = 0 := by
  unfold dvi
  rw [if_neg (by omega), if_neg (by omega), if_neg (by omega)]

theorem pr (G : ℕ → ℕ → EReal) (k : ℕ) : ∀ i j, i < 1 → j < 1024 → G k j = G (k + i) (0 + j) := by
  intro i j hi _
  obtain rfl : i = 0 := by omega
  simp only [Nat.zero_add, Nat.add_zero]

theorem pj (G : ℕ → ℕ → EReal) : ∀ r p, r < 512 → p < 1024 → G (512 * T + r) p = (fun r p => G (512 * T + r) p) (0 + r) (0 + p) := by
  intro r p _ _
  simp only [Nat.zero_add]

end Pay

section Point

theorem canon_or3 {s : Shape} {e : EltTy} {Val : EltTy → Type} [∀ e, Nonempty (Val e)] {G : s.Idx → Val e} {y : s.Idx} {p1 p2 p3 : View.Piece Val s e}
    {L0 : List (View.Piece Val s e)} (h : View.PiecesOf G [p1, p2, p3]) (hb : View.canon L0 y = G y ∨ ∃ p ∈ [p1, p2, p3], y ∈ p.1.set) :
    View.canon (p1 :: p2 :: p3 :: L0) y = G y := canon_or [p1, p2, p3] L0 h hb

/-- An index of eight rows is in one of the first three or past them. -/
theorem rows3 {p : Prop} (y : S8x1024.Idx) (h : 3 ≤ (y 0).val → p) {w0 w1 w2 : (⟨2, ![1, 1024]⟩ : Shape).Idx → EReal} {i0 i1 i2} :
    p ∨ ∃ q ∈ ([⟨Rect.unit (s := S8x1024) ![2, 0] ![1, 1024] i2, w2⟩, ⟨Rect.unit (s := S8x1024) ![1, 0] ![1, 1024] i1, w1⟩,
      ⟨Rect.unit (s := S8x1024) ![0, 0] ![1, 1024] i0, w0⟩] : List (View.Piece (Elt Ideal) S8x1024 .f32)), y ∈ q.1.set := by
  by_cases h2 : 3 ≤ (y 0).val
  · exact .inl (h h2)
  · right
    have hy : (y 1).val < 1024 := (y 1).isLt
    simp only [List.exists_mem_cons_iff, Rect.mem_set_unit, Fin.forall_fin_two, List.not_mem_nil, false_and, exists_false, or_false]
    simp
    omega

variable (c : Dev nD) (i : grid0.Coords) (arg1 : Memref sig .tc .vmem S4x512x1024 .bf16) (harg1 : arg1.IsWhole) (arg2 : Memref sig .tc .vmem S4x1024x1024 .bf16) (harg2 : arg2.IsWhole) (arg3 : Memref sig .tc .vmem S512x1024 .f32) (harg3 : arg3.IsWhole) (arg4 : Memref sig .tc .vmem S512x1024 .f32) (harg4 : arg4.IsWhole) (arg5 : Memref sig .tc .vmem S8x1024 .f32) (harg5 : arg5.IsWhole) (arg7 : Memref sig .tc .vmem S512x1024 .f32) (harg7 : arg7.IsWhole) (arg8 : Memref sig .tc .vmem S8x1024 .f32) (harg8 : arg8.IsWhole)
  (x0 : Vec Ideal S4x512x1024 .bf16) (x1 : Vec Ideal S4x1024x1024 .bf16) (x2 : Vec Ideal S512x1024 .f32) (x3 : Vec Ideal S512x1024 .f32) (x4 : Vec Ideal S8x1024 .f32) (xo6 : Vec Ideal S8x1024 .f32)
  {X D V : ℕ → ℕ → EReal} {P W : ℕ → ℕ → ℕ → EReal} {T : ℕ}

theorem ldx {x : Vec Ideal S512x1024 .f32} (hx : M2 (n := 512) (m := 1024) x (fun r l => X (512 * T + r) l)) {inb} :
    M2 (View.ld x (Rect.unit (s := S512x1024) ![0, 0] ![512, 1024] inb)) (fun r l => X (512 * T + r) l) := by
  rw [show View.ld x (Rect.unit (s := S512x1024) ![0, 0] ![512, 1024] inb) = x from ldall]; exact hx

theorem prod {x0 : Vec Ideal S4x512x1024 .bf16} {x1 : Vec Ideal S4x1024x1024 .bf16} (h0 : M3 (k := 4) (n := 512) (m := 1024) x0 (fun k r j => P k (512 * T + r) j)) (h1 : M3 (k := 4) (n := 1024) (m := 1024) x1 W) {a0 a1 a2 a3 b0 b1 b2 b3} :
    M2 (k0_pay4 (F := Ideal) (View.ld x0 (Rect.unit (s := S4x512x1024) ![0, 0, 0] ![1, 512, 1024] a0)) (View.ld x1 (Rect.unit (s := S4x1024x1024) ![0, 0, 0] ![1, 1024, 1024] b0))
      (View.ld x0 (Rect.unit (s := S4x512x1024) ![1, 0, 0] ![1, 512, 1024] a1)) (View.ld x1 (Rect.unit (s := S4x1024x1024) ![1, 0, 0] ![1, 1024, 1024] b1))
      (View.ld x0 (Rect.unit (s := S4x512x1024) ![2, 0, 0] ![1, 512, 1024] a2)) (View.ld x1 (Rect.unit (s := S4x1024x1024) ![2, 0, 0] ![1, 1024, 1024] b2))
      (View.ld x0 (Rect.unit (s := S4x512x1024) ![3, 0, 0] ![1, 512, 1024] a3)) (View.ld x1 (Rect.unit (s := S4x1024x1024) ![3, 0, 0] ![1, 1024, 1024] b3)))
      (fun r l => dh P W (512 * T + r) l) :=
  pay4 (ldmat h0 0 (by decide)) (ldmat h1 0 (by decide)) (ldmat h0 1 (by decide)) (ldmat h1 1 (by decide))
    (ldmat h0 2 (by decide)) (ldmat h1 2 (by decide)) (ldmat h0 3 (by decide)) (ldmat h1 3 (by decide))

variable (h0 : M3 (k := 4) (n := 512) (m := 1024) x0 (fun k r j => P k (512 * T + r) j)) (h1 : M3 (k := 4) (n := 1024) (m := 1024) x1 W)
  (h2 : M2 (n := 512) (m := 1024) x2 (fun r l => X (512 * T + r) l)) (h3 : M2 (n := 512) (m := 1024) x3 (fun r l => D (512 * T + r) l)) (h4 : M2 (n := 8) (m := 1024) x4 V)
include h0 h1 h2 h3 h4

theorem out5_A (hc0 : cond0_0 i) (y : S512x1024.Idx) :
    out0_A_5 (F := Ideal) c i arg1 harg1 arg2 harg2 arg3 harg3 arg4 harg4 arg5 harg5 arg7 harg7 arg8 harg8 hc0 x0 x1 x2 x3 x4 y = dxin P W X D V (512 * T + (y 0).val) (y 1).val := by
  unfold out0_A_5
  rw [View.read_writes_junk_eq_canon]
  refine canon_at (Val := Elt Ideal) (e := .f32) (fun y : S512x1024.Idx => dxin P W X D V (512 * T + (y 0).val) (y 1).val) _ ?_ y (cover0_A_5 c i arg1 harg1 arg2 harg2 arg3 harg3 arg4 harg4 arg5 harg5 arg7 harg7 arg8 harg8 hc0 x0 x1 x2 x3 x4 y)
  unfold kernelRun0_A
  dsimp only
  sl_unfold_words
  simp (discharger := assumption) only [View.readAt_eq_ld, Memref.IsWhole.read_unread]
  exact pcons (piece2 (fun r p => dxin P W X D V (512 * T + r) p)
    (pay2 (prod h0 h1) (pay5 (ldx h2)) (pay6 (ldx h2)) (ldrow h4 3 (by decide)) (pay7 (ldrow h4 1 (by decide))) (ldx h3)) (pj (dxin P W X D V))) pnil

theorem out6_A (hc0 : cond0_0 i) (hT : T = 0) (y : S8x1024.Idx) :
    out0_A_6 (F := Ideal) c i arg1 harg1 arg2 harg2 arg3 harg3 arg4 harg4 arg5 harg5 arg7 harg7 arg8 harg8 hc0 x0 x1 x2 x3 x4 y = arr2 (dvi P W X V (512 * (T + 1))) y := by
  subst hT
  unfold out0_A_6
  rw [View.read_writes_junk_eq_canon]
  unfold kernelRun0_A
  dsimp only
  sl_unfold_words
  simp (discharger := assumption) only [View.readAt_eq_ld, Memref.IsWhole.read_unread]
  refine canon_or3 (Val := Elt Ideal) (e := .f32) (G := fun y : S8x1024.Idx => dvi P W X V (512 * (0 + 1)) (y 0).val (y 1).val) ?_ ?_
  · exact pcons (piece2 (dvi P W X V (512 * (0 + 1))) (row2 (prod h0 h1) (ldx h2) (ldrow h4 1 (by decide)) (skip2 _ rfl (skip2 _ rfl (fill2 _ (ldrow pay3 2 (by decide)))))) (pr (dvi P W X V (512 * (0 + 1))) 2)) (pcons (piece2 (dvi P W X V (512 * (0 + 1))) (row1 (prod h0 h1) (ldx h2) (ldrow h4 3 (by decide)) (skip2 _ rfl (fill2 _ (ldrow pay3 1 (by decide))))) (pr (dvi P W X V (512 * (0 + 1))) 1)) (pcons (piece2 (dvi P W X V (512 * (0 + 1))) (row0 (prod h0 h1) (fill2 _ (ldrow pay3 0 (by decide)))) (pr (dvi P W X V (512 * (0 + 1))) 0)) pnil))
  · refine rows3 y fun h => ?_
    rw [View.canon_cons_unit_lit' _ _ _ (fun a => by fin_cases a <;> rfl), dvi_past _ h]
    exact Ideal.ofBits_zero .f32

theorem out5_B (hc0 : ¬cond0_0 i) (y : S512x1024.Idx) :
    out0_B_5 (F := Ideal) c i arg1 harg1 arg2 harg2 arg3 harg3 arg4 harg4 arg5 harg5 arg7 harg7 arg8 harg8 hc0 x0 x1 x2 x3 x4 xo6 y = dxin P W X D V (512 * T + (y 0).val) (y 1).val := by
  unfold out0_B_5
  rw [View.read_writes_junk_eq_canon]
  refine canon_at (Val := Elt Ideal) (e := .f32) (fun y : S512x1024.Idx => dxin P W X D V (512 * T + (y 0).val) (y 1).val) _ ?_ y (cover0_B_5 c i arg1 harg1 arg2 harg2 arg3 harg3 arg4 harg4 arg5 harg5 arg7 harg7 arg8 harg8 hc0 x0 x1 x2 x3 x4 xo6 y)
  unfold kernelRun0_B
  dsimp only
  sl_unfold_words
  simp (discharger := assumption) only [View.readAt_eq_ld, Memref.IsWhole.read_unread]
  exact pcons (piece2 (fun r p => dxin P W X D V (512 * T + r) p)
    (pay2 (prod h0 h1) (pay5 (ldx h2)) (pay6 (ldx h2)) (ldrow h4 3 (by decide)) (pay7 (ldrow h4 1 (by decide))) (ldx h3)) (pj (dxin P W X D V))) pnil

theorem out6_B (hc0 : ¬cond0_0 i) (ho : M2 (n := 8) (m := 1024) xo6 (dvi P W X V (512 * T))) (y : S8x1024.Idx) :
    out0_B_6 (F := Ideal) c i arg1 harg1 arg2 harg2 arg3 harg3 arg4 harg4 arg5 harg5 arg7 harg7 arg8 harg8 hc0 x0 x1 x2 x3 x4 xo6 y = arr2 (dvi P W X V (512 * (T + 1))) y := by
  unfold out0_B_6
  unfold kernelRun0_B
  dsimp only
  sl_unfold_words
  simp (discharger := assumption) only [View.readAt_eq_ld, Memref.IsWhole.read_unread]
  refine read_writes_at (Val := Elt Ideal) (e := .f32) _ _ (fun y : S8x1024.Idx => dvi P W X V (512 * (T + 1)) (y 0).val (y 1).val) y _ ?_ ?_
  · exact pcons (piece2 (dvi P W X V (512 * (T + 1))) (row2 (prod h0 h1) (ldx h2) (ldrow h4 1 (by decide)) (ldrow ho 2 (by decide))) (pr (dvi P W X V (512 * (T + 1))) 2)) (pcons (piece2 (dvi P W X V (512 * (T + 1))) (row1 (prod h0 h1) (ldx h2) (ldrow h4 3 (by decide)) (ldrow ho 1 (by decide))) (pr (dvi P W X V (512 * (T + 1))) 1)) (pcons (piece2 (dvi P W X V (512 * (T + 1))) (row0 (prod h0 h1) (ldrow ho 0 (by decide))) (pr (dvi P W X V (512 * (T + 1))) 0)) pnil))
  · rw [harg8.read_unread]
    refine rows3 y fun h => ?_
    have e := at2_fn (n := 8) (m := 1024) xo6 y
    rw [dvi_past _ h, e]
    exact ((at2_eq xo6 (y 0) (y 1)).trans (ho (y 0) (y 1))).trans (dvi_past _ h)

end Point

variable (m : (ℓ : Loc nD τ sig) → Buf (Elt Ideal) ℓ)

theorem index0 : ∀ t : Fin grid0.N, win0_0.index t 0 = 0 ∧ win0_0.index t 1 = t.val ∧ win0_0.index t 2 = 0 := by decide +kernel
theorem index1 : ∀ t : Fin grid0.N, win0_1.index t 0 = 0 ∧ win0_1.index t 1 = 0 ∧ win0_1.index t 2 = 0 := by decide +kernel
theorem index2 : ∀ t : Fin grid0.N, win0_2.index t 0 = t.val ∧ win0_2.index t 1 = 0 := by decide +kernel
theorem index3 : ∀ t : Fin grid0.N, win0_3.index t 0 = t.val ∧ win0_3.index t 1 = 0 := by decide +kernel
theorem index4 : ∀ t : Fin grid0.N, win0_4.index t 0 = 0 ∧ win0_4.index t 1 = 0 := by decide +kernel
theorem index5 : ∀ t : Fin grid0.N, win0_5.index t 0 = t.val ∧ win0_5.index t 1 = 0 := by decide +kernel
theorem index6 : ∀ t : Fin grid0.N, win0_6.index t 0 = 0 ∧ win0_6.index t 1 = 0 := by decide +kernel

/-- The launched cotangents, matrices, stream, stream's cotangent and vectors by coordinates. -/
abbrev P (c : Dev nD) : ℕ → ℕ → ℕ → EReal := at3 (k := 4) (n := 4096) (m := 1024) (m ((c : Thread nD τ).loc main_arg0))
abbrev W (c : Dev nD) : ℕ → ℕ → ℕ → EReal := at3 (k := 4) (n := 1024) (m := 1024) (m ((c : Thread nD τ).loc main_arg1))
abbrev X (c : Dev nD) : ℕ → ℕ → EReal := at2 (n := 4096) (m := 1024) (m ((c : Thread nD τ).loc main_arg2))
abbrev D (c : Dev nD) : ℕ → ℕ → EReal := at2 (n := 4096) (m := 1024) (m ((c : Thread nD τ).loc main_arg3))
abbrev Vv (c : Dev nD) : ℕ → ℕ → EReal := at2 (n := 8) (m := 1024) (m ((c : Thread nD τ).loc main_arg4))

theorem blk0 (c : Dev nD) (t : Fin cfg0.N) : M3 (k := 4) (n := 512) (m := 1024) (iblk m c 0 t) (fun k r j => P m c k (512 * t.val + r) j) := by
  intro a r l
  unfold iblk
  rw [View.read_apply]
  show V m c main_arg0 _ = at3 _ _ _ _
  rw [V_main_arg0]
  have hi := index0 t
  refine at3_of _ _ ?_ ?_ ?_
  · show win0_0.index t 0 * 4 + 1 * a.val = a.val; omega
  · show win0_0.index t 1 * 512 + 1 * r.val = 512 * t.val + r.val; omega
  · show win0_0.index t 2 * 1024 + 1 * l.val = l.val; omega

theorem blk1 (c : Dev nD) (t : Fin cfg0.N) : M3 (k := 4) (n := 1024) (m := 1024) (iblk m c 1 t) (W m c) := by
  intro a r l
  unfold iblk
  rw [View.read_apply]
  show V m c main_arg1 _ = at3 _ _ _ _
  rw [V_main_arg1]
  have hi := index1 t
  refine at3_of _ _ ?_ ?_ ?_
  · show win0_1.index t 0 * 4 + 1 * a.val = a.val; omega
  · show win0_1.index t 1 * 1024 + 1 * r.val = r.val; omega
  · show win0_1.index t 2 * 1024 + 1 * l.val = l.val; omega

theorem blk2 (c : Dev nD) (t : Fin cfg0.N) : M2 (n := 512) (m := 1024) (iblk m c 2 t) (fun r l => X m c (512 * t.val + r) l) := by
  intro r l
  unfold iblk
  rw [View.read_apply]
  show V m c main_arg2 _ = at2 _ _ _
  rw [V_main_arg2]
  have hi := index2 t
  refine at2_of _ _ ?_ ?_
  · show win0_2.index t 0 * 512 + 1 * r.val = 512 * t.val + r.val; omega
  · show win0_2.index t 1 * 1024 + 1 * l.val = l.val; omega

theorem blk3 (c : Dev nD) (t : Fin cfg0.N) : M2 (n := 512) (m := 1024) (iblk m c 3 t) (fun r l => D m c (512 * t.val + r) l) := by
  intro r l
  unfold iblk
  rw [View.read_apply]
  show V m c main_arg3 _ = at2 _ _ _
  rw [V_main_arg3]
  have hi := index3 t
  refine at2_of _ _ ?_ ?_
  · show win0_3.index t 0 * 512 + 1 * r.val = 512 * t.val + r.val; omega
  · show win0_3.index t 1 * 1024 + 1 * l.val = l.val; omega

theorem blk4 (c : Dev nD) (t : Fin cfg0.N) : M2 (n := 8) (m := 1024) (iblk m c 4 t) (Vv m c) := by
  intro r l
  unfold iblk
  rw [View.read_apply]
  show V m c main_arg4 _ = at2 _ _ _
  rw [V_main_arg4]
  have hi := index4 t
  refine at2_of _ _ ?_ ?_
  · show win0_4.index t 0 * 8 + 1 * r.val = r.val; omega
  · show win0_4.index t 1 * 1024 + 1 * l.val = l.val; omega

/-- What grid point `n` leaves: its steps' gradient, and the sums over its own and all earlier steps. -/
structure Left (c : Dev nD) (n : ℕ) (o : Vec Ideal S512x1024 .f32 × Vec Ideal S8x1024 .f32) : Prop where
  dx : ∀ y, o.1 y = dxin (P m c) (W m c) (X m c) (D m c) (Vv m c) (512 * n + (y 0).val) (y 1).val
  dv : ∀ y, o.2 y = arr2 (dvi (P m c) (W m c) (X m c) (Vv m c) (512 * (n + 1))) y

variable {m} in
theorem left_mk {c : Dev nD} {n : ℕ} {a : Vec Ideal S512x1024 .f32} {b : Vec Ideal S8x1024 .f32}
    (ha : ∀ y, a y = dxin (P m c) (W m c) (X m c) (D m c) (Vv m c) (512 * n + (y 0).val) (y 1).val)
    (hb : ∀ y, b y = arr2 (dvi (P m c) (W m c) (X m c) (Vv m c) (512 * (n + 1))) y) : Left m c n (a, b) := ⟨ha, hb⟩

set_option maxHeartbeats 2000000 in
theorem left_A (c : Dev nD) (t : Fin cfg0.N) (h0 : t.val % 8 = 0) (hz : t.val = 0) : Left m c t.val (outsAt0 m c t.val t.isLt) := by
  have b0 := blk0 m c t
  have b1 := blk1 m c t
  have b2 := blk2 m c t
  have b3 := blk3 m c t
  have b4 := blk4 m c t
  rw [outsAt0_A m c t h0]
  refine left_mk ?_ ?_
  · exact fun y => out5_A (h0 := b0) (h1 := b1) (h2 := b2) (h3 := b3) (h4 := b4) (y := y) ..
  · exact fun y => out6_A (h0 := b0) (h1 := b1) (h2 := b2) (h3 := b3) (h4 := b4) (hT := hz) (y := y) ..

set_option maxHeartbeats 2000000 in
theorem left_B (c : Dev nD) (t : Fin cfg0.N) (h0 : ¬t.val % 8 = 0)
    (ih : ∀ h, M2 (n := 8) (m := 1024) (outsAt0 m c (t.val - 1) h).2 (dvi (P m c) (W m c) (X m c) (Vv m c) (512 * t.val))) : Left m c t.val (outsAt0 m c t.val t.isLt) := by
  have b0 := blk0 m c t
  have b1 := blk1 m c t
  have b2 := blk2 m c t
  have b3 := blk3 m c t
  have b4 := blk4 m c t
  rw [outsAt0_B m c t h0]
  refine left_mk ?_ ?_
  · exact fun y => out5_B (h0 := b0) (h1 := b1) (h2 := b2) (h3 := b3) (h4 := b4) (y := y) ..
  · exact fun y => out6_B (h0 := b0) (h1 := b1) (h2 := b2) (h3 := b3) (h4 := b4) (ho := ih _) (y := y) ..

theorem left (c : Dev nD) : ∀ (n : ℕ) (hn : n < cfg0.N), Left m c n (outsAt0 m c n hn)
  | 0, hn => left_A m c ⟨0, hn⟩ (Nat.zero_mod 8) rfl
  | n + 1, hn => by
    have hN : cfg0.N = 8 := N_0
    have ih : ∀ h, M2 (n := 8) (m := 1024) (outsAt0 m c n h).2 (dvi (P m c) (W m c) (X m c) (Vv m c) (512 * (n + 1))) := fun h r l => (left c n h).dv (ix2 r l)
    exact left_B m c ⟨n + 1, hn⟩ (by show ¬ (n + 1) % 8 = 0; omega) ih

theorem mem_blk5 (t : Fin cfg0.N) (i : S4096x1024.Idx) (h0 : 512 * t.val ≤ (i 0).val ∧ (i 0).val < 512 * t.val + 512) :
    i ∈ ((cfg0.win 5).blk t).view.set := by
  show i ∈ ((View.whole main_v0_0).slice (win0_5.rect t)).set
  rw [View.set_slice_whole, Rect.mem_set_unit]
  have hi := index5 t
  have i1 : (i 1).val < 1024 := (i 1).isLt
  intro a
  match a with
  | ⟨0, _⟩ => show win0_5.index t 0 * 512 ≤ (i 0).val ∧ (i 0).val < win0_5.index t 0 * 512 + 512; omega
  | ⟨1, _⟩ => show win0_5.index t 1 * 1024 ≤ (i 1).val ∧ (i 1).val < win0_5.index t 1 * 1024 + 1024; omega

abbrev res5 (c : Dev nD) : Vec Ideal S4096x1024 .f32 := arr2 (dxin (P m c) (W m c) (X m c) (D m c) (Vv m c))

theorem final5 (c : Dev nD) : (dats m 0 c).arrAt 5 cfg0.N = res5 m c := by
  have hN : cfg0.N = 8 := N_0
  refine (dats m 0 c).arrAt_eq_of_cover 5 (res5 m c) (fun t hf => ?_) fun i => ?_
  · rw [Cert.Kernel4Ideal.Value.flushed5]
    funext y
    have hi := index5 t
    refine ((left m c t.val t.isLt).dx y).trans ?_
    rw [View.read_apply]
    have e0 : (((cfg0.win 5).blk t).view.emb y 0).val = 512 * t.val + (y 0).val := by
      show win0_5.index t 0 * 512 + 1 * (y 0).val = _; omega
    have e1 : (((cfg0.win 5).blk t).view.emb y 1).val = (y 1).val := by
      show win0_5.index t 1 * 1024 + 1 * (y 1).val = _; omega
    show _ = dxin _ _ _ _ _ (((cfg0.win 5).blk t).view.emb y 0).val (((cfg0.win 5).blk t).view.emb y 1).val
    rw [e0, e1]
  · have h1 : (i 0).val < 4096 := (i 0).isLt
    exact ⟨⟨(i 0).val / 512, by omega⟩, flush0_5 _, mem_blk5 _ i (by dsimp only; omega)⟩

theorem mem_blk6 (t : Fin cfg0.N) (i : S8x1024.Idx) : i ∈ ((cfg0.win 6).blk t).view.set := by
  show i ∈ ((View.whole main_v0_1).slice (win0_6.rect t)).set
  rw [View.set_slice_whole, Rect.mem_set_unit]
  have hi := index6 t
  have i0 : (i 0).val < 8 := (i 0).isLt
  have i1 : (i 1).val < 1024 := (i 1).isLt
  intro a
  match a with
  | ⟨0, _⟩ => show win0_6.index t 0 * 8 ≤ (i 0).val ∧ (i 0).val < win0_6.index t 0 * 8 + 8; omega
  | ⟨1, _⟩ => show win0_6.index t 1 * 1024 ≤ (i 1).val ∧ (i 1).val < win0_6.index t 1 * 1024 + 1024; omega

abbrev res6 (c : Dev nD) : Vec Ideal S8x1024 .f32 := arr2 (dvi (P m c) (W m c) (X m c) (Vv m c) 4096)

theorem final6 (c : Dev nD) : (dats m 0 c).arrAt 6 cfg0.N = res6 m c := by
  have hN : cfg0.N = 8 := N_0
  refine (dats m 0 c).arrAt_eq_of_cover 6 (res6 m c) (fun t hf => ?_) fun i => ?_
  · have h7 : t.val = 7 := by have := (flush0_6 t).mp hf; have := t.isLt; omega
    rw [Cert.Kernel4Ideal.Value.flushed6]
    funext y
    have hi := index6 t
    refine ((left m c t.val t.isLt).dv y).trans ?_
    rw [View.read_apply]
    have e0 : (((cfg0.win 6).blk t).view.emb y 0).val = (y 0).val := by
      show win0_6.index t 0 * 8 + 1 * (y 0).val = _; omega
    have e1 : (((cfg0.win 6).blk t).view.emb y 1).val = (y 1).val := by
      show win0_6.index t 1 * 1024 + 1 * (y 1).val = _; omega
    show _ = dvi _ _ _ _ _ (((cfg0.win 6).blk t).view.emb y 0).val (((cfg0.win 6).blk t).view.emb y 1).val
    rw [e0, e1, h7]
    rfl
  · exact ⟨⟨7, by omega⟩, (flush0_6 _).mpr rfl, mem_blk6 _ i⟩

end Cert.Proj4
-- ==== Proof.Proj4Ref.lean ====
module

public import proofs.«01_k».proof.Proof.ProjMath
public import proofs.«01_k».proof.Proof.PoolRead
public import proofs.«01_k».proof.Proof.Gen.Reference4Ideal.Run
public import proofs.«01_k».proof.Proof.Gen.Reference4Ideal.Read
public import Idealize.ShloMosaic.Lib.TwoAxisContraction

/-!
# The gradient through the projection in: what the reference's arrays are

The reference is differentiated as written: its product contracts the projection and its columns at once, and the norm's
gradient comes in the two halves that squaring leaves.
-/

@[expose] public section

set_option maxRecDepth 16384

noncomputable section

namespace Cert.Proj

open Idealize.ShloMosaic Cert.Pool
open scoped BigOperators

/-- Three rows and five more joined. -/
theorem rows8 {m : ℕ} {x₀ x₁ x₂ : (⟨2, ![1, m]⟩ : Shape).Idx → EReal} {x₃ : (⟨2, ![5, m]⟩ : Shape).Idx → EReal} {F : ℕ → ℕ → EReal}
    (h₀ : M2 x₀ (fun _ c => F 0 c)) (h₁ : M2 x₁ (fun _ c => F 1 c)) (h₂ : M2 x₂ (fun _ c => F 2 c)) (h₃ : M2 x₃ (fun r c => F (3 + r) c))
    (h : Shape.Concatenates [⟨2, ![1, m]⟩, ⟨2, ![1, m]⟩, ⟨2, ![1, m]⟩, ⟨2, ![5, m]⟩] ⟨2, ![8, m]⟩ 0) :
    M2 (concatenate ⟨2, ![8, m]⟩ 0 [⟨⟨2, ![1, m]⟩, x₀⟩, ⟨⟨2, ![1, m]⟩, x₁⟩, ⟨⟨2, ![1, m]⟩, x₂⟩, ⟨⟨2, ![5, m]⟩, x₃⟩] h) F := by
  intro r c
  have off : ∀ (n : ℕ) (u : Fin n) (b : Fin 2), b.cast (rfl : 2 = 2) ≠ 0 → (ix2 u c b).val = (ix2 r c (b.cast rfl)).val := fun n u b hb => by
    match b with
    | ⟨0, _⟩ => exact absurd rfl hb
    | ⟨1, _⟩ => rfl
  rcases (by omega : r.val = 0 ∨ r.val = 1 ∨ r.val = 2 ∨ 3 ≤ r.val) with h' | h' | h' | h'
  · rw [h']
    exact (concatenate_apply_piece _ [⟨⟨2, ![1, m]⟩, x₀⟩, ⟨⟨2, ![1, m]⟩, x₁⟩, ⟨⟨2, ![1, m]⟩, x₂⟩, ⟨⟨2, ![5, m]⟩, x₃⟩] h (ix2 r c) 0 (by show 0 < 4; decide) _ x₀ rfl rfl 0 rfl (ix2 0 c) (off _ _) (by show 0 + 0 = r.val; omega)).trans (h₀ _ _)
  · rw [h']
    exact (concatenate_apply_piece _ [⟨⟨2, ![1, m]⟩, x₀⟩, ⟨⟨2, ![1, m]⟩, x₁⟩, ⟨⟨2, ![1, m]⟩, x₂⟩, ⟨⟨2, ![5, m]⟩, x₃⟩] h (ix2 r c) 1 (by show 1 < 4; decide) _ x₁ rfl rfl 1 rfl (ix2 0 c) (off _ _) (by show 1 + 0 = r.val; omega)).trans (h₁ _ _)
  · rw [h']
    exact (concatenate_apply_piece _ [⟨⟨2, ![1, m]⟩, x₀⟩, ⟨⟨2, ![1, m]⟩, x₁⟩, ⟨⟨2, ![1, m]⟩, x₂⟩, ⟨⟨2, ![5, m]⟩, x₃⟩] h (ix2 r c) 2 (by show 2 < 4; decide) _ x₂ rfl rfl 2 rfl (ix2 0 c) (off _ _) (by show 2 + 0 = r.val; omega)).trans (h₂ _ _)
  · rw [show r.val = 3 + (r.val - 3) by omega]
    exact (concatenate_apply_piece _ [⟨⟨2, ![1, m]⟩, x₀⟩, ⟨⟨2, ![1, m]⟩, x₁⟩, ⟨⟨2, ![1, m]⟩, x₂⟩, ⟨⟨2, ![5, m]⟩, x₃⟩] h (ix2 r c) 3 (by show 3 < 4; decide) _ x₃ rfl rfl 3 rfl (ix2 ⟨r.val - 3, by omega⟩ c) (off _ _) (by show 3 + (r.val - 3) = r.val; omega)).trans (h₃ _ _)

end Cert.Proj

namespace Cert.Proj4

open Cert.Reference4Ideal Cert.Reference4Ideal.Gen Cert.Reference4Ideal.Read Idealize.ShloMosaic Idealize.ShloMosaic.TcCoe
open Idealize.ShloMosaic.ValueIdx
open Cert.Pool Cert.Proj
open scoped BigOperators

variable (p : Vec Ideal ⟨3, ![4, 4096, 1024]⟩ .bf16) (w : Vec Ideal ⟨3, ![4, 1024, 1024]⟩ .bf16) (x d : Vec Ideal ⟨2, ![4096, 1024]⟩ .f32)
  (v : Vec Ideal ⟨2, ![8, 1024]⟩ .f32)

theorem r1 (k : S1024.Idx) : val_main_v1 (F := Ideal) v k = (at2 (n := 8) (m := 1024) v) 3 (k 0).val := by
  have hk : (k 0).val < 1024 := (k 0).isLt
  rw [val_main_v1_apply, val_main_v0_apply]
  exact at2_of (n := 8) (m := 1024) v _ rfl (by show (k 0).val % 1024 = _; omega)

theorem r24 (k : S1024.Idx) : val_main_v24 (F := Ideal) v k = 1 + (at2 (n := 8) (m := 1024) v) 1 (k 0).val := by
  have hk : (k 0).val < 1024 := (k 0).isLt
  rw [val_main_v24_apply, val_main_v23_apply, val_main_cst_3_apply, val_main_v5_apply, val_main_v4_apply]
  show Ideal.ofBits .f32 0x3f800000#32 + _ = _
  rw [Ideal.ofBits_one_f32]
  exact congrArg (1 + ·) (at2_of (n := 8) (m := 1024) v _ rfl (by show (k 0).val % 1024 = _; omega))

theorem r13 (i : S4096x1.Idx) : val_main_v13 (F := Ideal) x i = sq (at2 (n := 4096) (m := 1024) x) (i 0).val := by
  rw [val_main_v13_apply, val_main_v11_apply, val_main_v9_apply, val_main_v8_apply, val_main_v10_apply, val_main_v12_apply]
  simp only [val_main_v7_apply, val_main_cst_apply, val_main_cst_0_apply, val_main_cst_1_apply, at2_fn (n := 4096) (m := 1024) x]
  show Ideal.div (Ideal.ofBits .f32 0x00000000#32 + _) _ + _ = _
  rw [Ideal.ofBits_zero .f32, zero_add]
  rfl

theorem r14 (i : S4096x1.Idx) : val_main_v14 (F := Ideal) x i = rs (at2 (n := 4096) (m := 1024) x) (i 0).val := by
  rw [val_main_v14_apply, r13]
  rfl

theorem r17 (i : S4096x1.Idx) : val_main_v17 (F := Ideal) x i = Ideal.ofBits .f32 0xBF000000#32 * Ideal.div (rs (at2 (n := 4096) (m := 1024) x) (i 0).val) (sq (at2 (n := 4096) (m := 1024) x) (i 0).val) := by
  rw [val_main_v17_apply, val_main_v15_apply, val_main_v16_apply, val_main_cst_2_apply, r13, r14]
  rfl

theorem r19 (i : S4096x1024.Idx) : val_main_v19 (F := Ideal) x i = xn (at2 (n := 4096) (m := 1024) x) (i 0).val (i 1).val := by
  rw [val_main_v19_apply, val_main_v18_apply, r14, at2_fn (n := 4096) (m := 1024) x]
  rfl

/-- The contraction over the projections and their columns, at an index. -/
theorem r35 (i : S4096x1024.Idx) : val_main_v35 (F := Ideal) p w i = dh (at3 (k := 4) (n := 4096) (m := 1024) p) (at3 (k := 4) (n := 1024) (m := 1024) w) (i 0).val (i 1).val := by
  unfold val_main_v35
  simp only [Host.dotGeneral]
  rw [Ideal.dotGeneral_apply, sum_contr2 dot_S4x1024x4096_S4x1024x1024_S4096x1024_01_02_2_1_n_n 4 1024 rfl rfl rfl]
  have e : ∀ (a : Fin 4) (b : Fin 1024),
      val_main_v34 (F := Ideal) p (dot_S4x1024x4096_S4x1024x1024_S4096x1024_01_02_2_1_n_n.lhsIdx i
          ((contrEquiv2 dot_S4x1024x4096_S4x1024x1024_S4096x1024_01_02_2_1_n_n 4 1024 rfl rfl rfl).symm (a, b)))
        * val_main_v6 (F := Ideal) w (dot_S4x1024x4096_S4x1024x1024_S4096x1024_01_02_2_1_n_n.rhsIdx i
          ((contrEquiv2 dot_S4x1024x4096_S4x1024x1024_S4096x1024_01_02_2_1_n_n 4 1024 rfl rfl rfl).symm (a, b)))
        = (at3 (k := 4) (n := 4096) (m := 1024) p) a.val (i 0).val b.val * (at3 (k := 4) (n := 1024) (m := 1024) w) a.val (i 1).val b.val := by
    intro a b
    have k0 := contrEquiv2_symm_val0 dot_S4x1024x4096_S4x1024x1024_S4096x1024_01_02_2_1_n_n 4 1024 rfl rfl rfl (a, b)
    have k1 := contrEquiv2_symm_val1 dot_S4x1024x4096_S4x1024x1024_S4096x1024_01_02_2_1_n_n 4 1024 rfl rfl rfl (a, b)
    rw [val_main_v34_apply, val_main_v33_apply, val_main_v6_apply]
    exact congrArg₂ (· * ·) (at3_of (k := 4) (n := 4096) (m := 1024) p _ k0 rfl k1) (at3_of (k := 4) (n := 1024) (m := 1024) w _ k0 rfl k1)
  rw [Finset.sum_congr rfl fun a _ => Finset.sum_congr rfl fun b _ => e a b, Fin.sum_univ_four]
  rfl

theorem r22 (i : S4096x1024.Idx) : val_main_v22 (F := Ideal) x v i = xn (at2 (n := 4096) (m := 1024) x) (i 0).val (i 1).val * (at2 (n := 8) (m := 1024) v) 3 (i 1).val := by
  rw [val_main_v22_apply, val_main_v21_apply, val_main_v20_apply, r19, r1]
  rfl

theorem r43 (i : S4096x1024.Idx) : val_main_v43 (F := Ideal) p w v i = dh (at3 (k := 4) (n := 4096) (m := 1024) p) (at3 (k := 4) (n := 1024) (m := 1024) w) (i 0).val (i 1).val * (1 + (at2 (n := 8) (m := 1024) v) 1 (i 1).val) := by
  rw [val_main_v43_apply, val_main_v42_apply, val_main_v25_apply, r35, r24]
  rfl

theorem r49 (i : S4096x1024.Idx) : val_main_v49 (F := Ideal) p w v i = ain (at3 (k := 4) (n := 4096) (m := 1024) p) (at3 (k := 4) (n := 1024) (m := 1024) w) (at2 (n := 8) (m := 1024) v) (i 0).val (i 1).val := by
  rw [val_main_v49_apply, val_main_v48_apply, val_main_v20_apply, r43, r1]
  show _ * _ * _ = _
  rw [mul_assoc, mul_comm (1 + _)]
  rfl

theorem r38 (k : S1024.Idx) : val_main_v38 (F := Ideal) p w k = dvi (at3 (k := 4) (n := 4096) (m := 1024) p) (at3 (k := 4) (n := 1024) (m := 1024) w) (at2 (n := 4096) (m := 1024) x) (at2 (n := 8) (m := 1024) v) 4096 0 (k 0).val := by
  have hk : (k 0).val < 1024 := (k 0).isLt
  rw [val_main_v38_apply, Fin.sum_univ_one, val_main_v37_apply, val_main_v36_apply]
  simp only [val_main_cst_4_apply, val_main_cst_5_apply, r35]
  show Ideal.ofBits .f32 0x00000000#32 + (Ideal.ofBits .f32 0x00000000#32 + _) = _
  rw [Ideal.ofBits_zero .f32, zero_add, zero_add]
  unfold dvi
  rw [if_pos rfl, ← Fin.sum_univ_eq_sum_range (fun t => dh (at3 (k := 4) (n := 4096) (m := 1024) p) (at3 (k := 4) (n := 1024) (m := 1024) w) t (k 0).val) 4096]
  refine Finset.sum_congr rfl fun t _ => ?_
  exact congrArg (dh (at3 (k := 4) (n := 4096) (m := 1024) p) (at3 (k := 4) (n := 1024) (m := 1024) w) t.val) (by show 0 * 1024 + (k 0).val = _; omega)

theorem r44 (k : S1024.Idx) : val_main_v44 (F := Ideal) p w x v k = dvi (at3 (k := 4) (n := 4096) (m := 1024) p) (at3 (k := 4) (n := 1024) (m := 1024) w) (at2 (n := 4096) (m := 1024) x) (at2 (n := 8) (m := 1024) v) 4096 1 (k 0).val := by
  have hk : (k 0).val < 1024 := (k 0).isLt
  rw [val_main_v44_apply, Fin.sum_univ_one, val_main_v41_apply, val_main_v40_apply]
  simp only [val_main_cst_6_apply, val_main_cst_7_apply, val_main_v39_apply, r35, r22]
  show Ideal.ofBits .f32 0x00000000#32 + (Ideal.ofBits .f32 0x00000000#32 + _) = _
  rw [Ideal.ofBits_zero .f32, zero_add, zero_add]
  unfold dvi
  rw [if_neg (by decide), if_pos rfl, ← Fin.sum_univ_eq_sum_range (fun t => dh (at3 (k := 4) (n := 4096) (m := 1024) p) (at3 (k := 4) (n := 1024) (m := 1024) w) t (k 0).val * (xn (at2 (n := 4096) (m := 1024) x) t (k 0).val * (at2 (n := 8) (m := 1024) v) 3 (k 0).val)) 4096]
  refine Finset.sum_congr rfl fun t _ => ?_
  have e : 0 * 1024 + (k 0).val = (k 0).val := by omega
  show xn (at2 (n := 4096) (m := 1024) x) t.val (0 * 1024 + (k 0).val) * (at2 (n := 8) (m := 1024) v) 3 (0 * 1024 + (k 0).val) * dh (at3 (k := 4) (n := 4096) (m := 1024) p) (at3 (k := 4) (n := 1024) (m := 1024) w) t.val (0 * 1024 + (k 0).val) = _
  rw [e, mul_comm]

theorem r50 (k : S1024.Idx) : val_main_v50 (F := Ideal) p w x v k = dvi (at3 (k := 4) (n := 4096) (m := 1024) p) (at3 (k := 4) (n := 1024) (m := 1024) w) (at2 (n := 4096) (m := 1024) x) (at2 (n := 8) (m := 1024) v) 4096 2 (k 0).val := by
  have hk : (k 0).val < 1024 := (k 0).isLt
  rw [val_main_v50_apply, Fin.sum_univ_one, val_main_v47_apply, val_main_v46_apply]
  simp only [val_main_cst_8_apply, val_main_cst_9_apply, val_main_v45_apply, r19, r43]
  show Ideal.ofBits .f32 0x00000000#32 + (Ideal.ofBits .f32 0x00000000#32 + _) = _
  rw [Ideal.ofBits_zero .f32, zero_add, zero_add]
  unfold dvi
  rw [if_neg (by decide), if_neg (by decide), if_pos rfl, ← Fin.sum_univ_eq_sum_range (fun t => dh (at3 (k := 4) (n := 4096) (m := 1024) p) (at3 (k := 4) (n := 1024) (m := 1024) w) t (k 0).val * (xn (at2 (n := 4096) (m := 1024) x) t (k 0).val * (1 + (at2 (n := 8) (m := 1024) v) 1 (k 0).val))) 4096]
  refine Finset.sum_congr rfl fun t _ => ?_
  have e : 0 * 1024 + (k 0).val = (k 0).val := by omega
  show xn (at2 (n := 4096) (m := 1024) x) t.val (0 * 1024 + (k 0).val) * (dh (at3 (k := 4) (n := 4096) (m := 1024) p) (at3 (k := 4) (n := 1024) (m := 1024) w) t.val (0 * 1024 + (k 0).val) * (1 + (at2 (n := 8) (m := 1024) v) 1 (0 * 1024 + (k 0).val))) = _
  rw [e, mul_left_comm]

theorem r61 (i : S4096x1024.Idx) : val_main_v61 (F := Ideal) p w x v i = nq (ain (at3 (k := 4) (n := 4096) (m := 1024) p) (at3 (k := 4) (n := 1024) (m := 1024) w) (at2 (n := 8) (m := 1024) v)) (at2 (n := 4096) (m := 1024) x) (i 0).val := by
  rw [val_main_v61_apply, val_main_v60_apply, Fin.sum_univ_one, val_main_v59_apply, val_main_v58_apply, val_main_v57_apply, val_main_v53_apply,
    val_main_v52_apply, r17]
  simp only [val_main_cst_10_apply, val_main_cst_11_apply, val_main_cst_12_apply, val_main_v51_apply, r49, at2_fn (n := 4096) (m := 1024) x]
  show Ideal.ofBits .f32 0x00000000#32 + Ideal.div ((Ideal.ofBits .f32 0x00000000#32 + _) * _) _ = _
  rw [Ideal.ofBits_zero .f32, zero_add, zero_add]
  refine congrArg₂ Ideal.div (congrArg₂ (· * ·) (Finset.sum_congr rfl fun k _ => ?_) rfl) rfl
  have e : (i 0).val * 1 + 0 = (i 0).val := by omega
  show (at2 (n := 4096) (m := 1024) x) ((i 0).val * 1 + 0) k.val * ain (at3 (k := 4) (n := 4096) (m := 1024) p) (at3 (k := 4) (n := 1024) (m := 1024) w) (at2 (n := 8) (m := 1024) v) ((i 0).val * 1 + 0) k.val = _
  rw [e]

/-- The norm's two halves are the one product the kernel takes. -/
theorem ref65 : val_main_v65 (F := Ideal) p w x d v = arr2 (dxin (at3 (k := 4) (n := 4096) (m := 1024) p) (at3 (k := 4) (n := 1024) (m := 1024) w) (at2 (n := 4096) (m := 1024) x) (at2 (n := 4096) (m := 1024) d) (at2 (n := 8) (m := 1024) v)) := by
  funext i
  have hi : (i 1).val < 1024 := (i 1).isLt
  rw [val_main_v65_apply, val_main_v64_apply, val_main_v63_apply, val_main_v62_apply, val_main_v56_apply, val_main_v55_apply, val_main_v54_apply,
    r61, r49, r14, at2_fn (n := 4096) (m := 1024) x, at2_fn (n := 4096) (m := 1024) d]
  show (_ + _ * _ + _ * _) + _ * _ = (at2 (n := 4096) (m := 1024) d) (i 0).val (i 1).val + nb (ain (at3 (k := 4) (n := 4096) (m := 1024) p) (at3 (k := 4) (n := 1024) (m := 1024) w) (at2 (n := 8) (m := 1024) v)) (at2 (n := 4096) (m := 1024) x) (i 0).val (i 1).val
  rw [nb_eq_nr (ain (at3 (k := 4) (n := 4096) (m := 1024) p) (at3 (k := 4) (n := 1024) (m := 1024) w) (at2 (n := 8) (m := 1024) v)) (at2 (n := 4096) (m := 1024) x) (i 0).val ⟨(i 1).val, hi⟩, add_assoc, add_assoc]
  unfold nr
  rw [add_assoc]

theorem ref70 : val_main_v70 (F := Ideal) p w x v = arr2 (dvi (at3 (k := 4) (n := 4096) (m := 1024) p) (at3 (k := 4) (n := 1024) (m := 1024) w) (at2 (n := 4096) (m := 1024) x) (at2 (n := 8) (m := 1024) v) 4096) := by
  funext i
  unfold val_main_v70
  refine (rows8 (F := dvi (at3 (k := 4) (n := 4096) (m := 1024) p) (at3 (k := 4) (n := 1024) (m := 1024) w) (at2 (n := 4096) (m := 1024) x) (at2 (n := 8) (m := 1024) v) 4096) ?_ ?_ ?_ ?_ _).at i rfl rfl
  · intro r c
    rw [val_main_v66_apply, r38 p w x v]
    rfl
  · intro r c
    rw [val_main_v67_apply, r44]
    rfl
  · intro r c
    rw [val_main_v68_apply, r50]
    rfl
  · intro r c
    rw [val_main_v69_apply, val_main_cst_13_apply]
    unfold dvi
    dsimp only
    rw [if_neg (by omega), if_neg (by omega), if_neg (by omega)]
    exact Ideal.ofBits_zero .f32

end Cert.Proj4
-- ==== Proof.Proj5.lean ====
module

public import proofs.«01_k».proof.Proof.ProjSpec
public import proofs.«01_k».proof.Proof.Gen.Kernel5Ideal.Value
public import proofs.«01_k».proof.Proof.Gen.Reference5Ideal.Run
public import proofs.«01_k».proof.Proof.Gen.Reference5Ideal.Read
public import Idealize.ShloMosaic.Lib.Pointwise
public import Idealize.ShloMosaic.Lib.Pointwise.Tactic

/-!
# The projection out of the branches, forward
-/

@[expose] public section

set_option maxRecDepth 16384

noncomputable section

namespace Cert.Proj5

open Cert.Kernel5Ideal Cert.Kernel5Ideal.Gen Idealize.ShloMosaic Idealize.ShloMosaic.TcCoe Idealize.SL.Sem
open Cert.Pool Cert.Proj
open scoped BigOperators

section Point

variable {Y : ℕ → ℕ → EReal} {W : ℕ → ℕ → ℕ → EReal} {X V : ℕ → ℕ → EReal} {T : ℕ}

theorem pay2 {y0 y1 y2 y3 : FVec Ideal S512x512 .bf16} {w0 w1 w2 w3 : FVec Ideal S1x512x1024 .bf16}
    (hy0 : M2 y0 (fun r j => Y (T + r) (512 * 0 + j))) (hw0 : M3 w0 (fun _ i j => W 0 i j))
    (hy1 : M2 y1 (fun r j => Y (T + r) (512 * 1 + j))) (hw1 : M3 w1 (fun _ i j => W 1 i j))
    (hy2 : M2 y2 (fun r j => Y (T + r) (512 * 2 + j))) (hw2 : M3 w2 (fun _ i j => W 2 i j))
    (hy3 : M2 y3 (fun r j => Y (T + r) (512 * 3 + j))) (hw3 : M3 w3 (fun _ i j => W 3 i j)) :
    M2 (k0_pay2 (F := Ideal) y0 w0 y1 w1 y2 w2 y3 w3) (fun r p => yout Y W (T + r) p) := by
  intro r p
  unfold k0_pay2
  pointwise
  simp only [hy0 _ _, hy1 _ _, hy2 _ _, hy3 _ _, hw0 _ _ _, hw1 _ _ _, hw2 _ _ _, hw3 _ _ _]
  have e := row_block Y W
  refine Eq.trans ?_ (sum_four (fun j => Y (T + r.val) j * W (j / 512) (j % 512) p.val))
  exact congrArg₂ (· + ·) (congrArg₂ (· + ·) (congrArg₂ (· + ·) (e 0 _ _) (e 1 _ _)) (e 2 _ _)) (e 3 _ _)

theorem pay3 {y0 y1 y2 y3 : FVec Ideal S512x512 .bf16} {w0 w1 w2 w3 : FVec Ideal S1x512x1024 .bf16} {G : ℕ → ℕ → EReal}
    (h : M2 (k0_pay2 (F := Ideal) y0 w0 y1 w1 y2 w2 y3 w3) G) : M2 (k0_pay3 (F := Ideal) y0 w0 y1 w1 y2 w2 y3 w3) G := by
  intro r p
  unfold k0_pay3
  generalize k0_pay2 (F := Ideal) y0 w0 y1 w1 y2 w2 y3 w3 = y at h ⊢
  pointwise
  exact h r p

theorem pay4 {y0 y1 y2 y3 : FVec Ideal S512x512 .bf16} {w0 w1 w2 w3 : FVec Ideal S1x512x1024 .bf16} {G : ℕ → ℕ → EReal}
    (h : M2 (k0_pay2 (F := Ideal) y0 w0 y1 w1 y2 w2 y3 w3) (fun r l => G (T + r) l)) :
    M2 (k0_pay4 (F := Ideal) y0 w0 y1 w1 y2 w2 y3 w3) (fun r _ => rs G (T + r)) := by
  intro r p
  unfold k0_pay4
  generalize k0_pay2 (F := Ideal) y0 w0 y1 w1 y2 w2 y3 w3 = y at h ⊢
  pointwise
  simp only [h _ _]
  rfl

theorem pay1 {y : FVec Ideal S512x1024 .f32} {q : FVec Ideal S512x1 .f32} {x : FVec Ideal S512x1024 .f32} {ga g : FVec Ideal S1x1024 .f32}
    (hy : M2 y (fun r p => yout Y W (T + r) p)) (hq : M2 q (fun r _ => rs (yout Y W) (T + r))) (hx : M2 x (fun r l => X (T + r) l))
    (hga : M2 ga (fun _ l => V 2 l)) (hg : M2 g (fun _ l => V 4 l)) :
    M2 (k0_pay1 (F := Ideal) y q x ga g) (fun r p => xout Y W X V (T + r) p) := by
  intro r p
  unfold k0_pay1
  pointwise
  simp only [hy _ _, hq _ _, hx _ _, hga _ _, hg _ _]
  rfl

theorem pj (G : ℕ → ℕ → EReal) : ∀ r p, r < 512 → p < 1024 → G (T + r) p = (fun r p => G (T + r) p) (0 + r) (0 + p) := by
  intro r p _ _
  simp only [Nat.zero_add]

variable {y : Vec Ideal S512x2048 .bf16} {w : Vec Ideal S4x512x1024 .bf16} {x : Vec Ideal S512x1024 .f32} {v : Vec Ideal S8x1024 .f32}

theorem prod (hy : M2 (n := 512) (m := 2048) y (fun r j => Y (T + r) j)) (hw : M3 (k := 4) (n := 512) (m := 1024) w W) :
    M2 (k0_pay2 (View.ld y r0_0) (View.ld w r0_1) (View.ld y r0_2) (View.ld w r0_3) (View.ld y r0_4) (View.ld w r0_5) (View.ld y r0_6) (View.ld w r0_7))
      (fun r p => yout Y W (T + r) p) :=
  pay2 (ldcol hy 0 (by decide)) (ldmat hw 0 (by decide)) (ldcol hy 1 (by decide)) (ldmat hw 1 (by decide))
    (ldcol hy 2 (by decide)) (ldmat hw 2 (by decide)) (ldcol hy 3 (by decide)) (ldmat hw 3 (by decide))

/-- The two blocks a grid point leaves. -/
theorem out4 (hy : M2 (n := 512) (m := 2048) y (fun r j => Y (T + r) j)) (hw : M3 (k := 4) (n := 512) (m := 1024) w W) (z : S512x1024.Idx) :
    out0_4 (F := Ideal) y w x v z = yout Y W (T + (z 0).val) (z 1).val := by
  unfold out0_4
  refine canon_at (Val := Elt Ideal) (e := .bf16) (fun z : S512x1024.Idx => yout Y W (T + (z 0).val) (z 1).val) _ ?_ z (cover0_4 _ z)
  exact pcons (piece2 (fun r p => yout Y W (T + r) p) (pay3 (prod hy hw)) (pj (yout Y W))) pnil

theorem out5 (hy : M2 (n := 512) (m := 2048) y (fun r j => Y (T + r) j)) (hw : M3 (k := 4) (n := 512) (m := 1024) w W)
    (hx : M2 (n := 512) (m := 1024) x (fun r l => X (T + r) l)) (hv : M2 (n := 8) (m := 1024) v V) (z : S512x1024.Idx) :
    out0_5 (F := Ideal) y w x v z = xout Y W X V (T + (z 0).val) (z 1).val := by
  have hx' : M2 (View.ld x r0_8) (fun r l => X (T + r) l) := by
    rw [show View.ld x r0_8 = x from ldall]; exact hx
  unfold out0_5
  refine canon_at (Val := Elt Ideal) (e := .f32) (fun z : S512x1024.Idx => xout Y W X V (T + (z 0).val) (z 1).val) _ ?_ z (cover0_5 _ z)
  exact pcons (piece2 (fun r p => xout Y W X V (T + r) p)
    (pay1 (prod hy hw) (pay4 (prod hy hw)) hx' (ldrow hv 2 (by decide)) (ldrow hv 4 (by decide))) (pj (xout Y W X V))) pnil

end Point

variable (m : (ℓ : Loc nD τ sig) → Buf (Elt Ideal) ℓ)

theorem index0 : ∀ t : Fin grid0.N, win0_0.index t 0 = t.val ∧ win0_0.index t 1 = 0 := by decide +kernel
theorem index1 : ∀ t : Fin grid0.N, win0_1.index t 0 = 0 ∧ win0_1.index t 1 = 0 ∧ win0_1.index t 2 = 0 := by decide +kernel
theorem index2 : ∀ t : Fin grid0.N, win0_2.index t 0 = t.val ∧ win0_2.index t 1 = 0 := by decide +kernel
theorem index3 : ∀ t : Fin grid0.N, win0_3.index t 0 = 0 ∧ win0_3.index t 1 = 0 := by decide +kernel
theorem index4 : ∀ t : Fin grid0.N, win0_4.index t 0 = t.val ∧ win0_4.index t 1 = 0 := by decide +kernel
theorem index5 : ∀ t : Fin grid0.N, win0_5.index t 0 = t.val ∧ win0_5.index t 1 = 0 := by decide +kernel

/-- The launched branches' outputs, matrices, stream and vectors by coordinates. -/
abbrev Y (c : Dev nD) : ℕ → ℕ → EReal := at2 (n := 4096) (m := 2048) (m ((c : Thread nD τ).loc main_arg0))
abbrev W (c : Dev nD) : ℕ → ℕ → ℕ → EReal := at3 (k := 4) (n := 512) (m := 1024) (m ((c : Thread nD τ).loc main_arg1))
abbrev X (c : Dev nD) : ℕ → ℕ → EReal := at2 (n := 4096) (m := 1024) (m ((c : Thread nD τ).loc main_arg2))
abbrev Vv (c : Dev nD) : ℕ → ℕ → EReal := at2 (n := 8) (m := 1024) (m ((c : Thread nD τ).loc main_arg3))

theorem blk0 (c : Dev nD) (t : Fin cfg0.N) : M2 (n := 512) (m := 2048) (iblk m c 0 t) (fun r l => Y m c (512 * t.val + r) l) := by
  intro r l
  unfold iblk
  rw [View.read_apply]
  show V m c main_arg0 _ = at2 _ _ _
  rw [V_main_arg0]
  have hi := index0 t
  refine at2_of _ _ ?_ ?_
  · show win0_0.index t 0 * 512 + 1 * r.val = 512 * t.val + r.val; omega
  · show win0_0.index t 1 * 2048 + 1 * l.val = l.val; omega

theorem blk1 (c : Dev nD) (t : Fin cfg0.N) : M3 (k := 4) (n := 512) (m := 1024) (iblk m c 1 t) (W m c) := by
  intro a r l
  unfold iblk
  rw [View.read_apply]
  show V m c main_arg1 _ = at3 _ _ _ _
  rw [V_main_arg1]
  have hi := index1 t
  refine at3_of _ _ ?_ ?_ ?_
  · show win0_1.index t 0 * 4 + 1 * a.val = a.val; omega
  · show win0_1.index t 1 * 512 + 1 * r.val = r.val; omega
  · show win0_1.index t 2 * 1024 + 1 * l.val = l.val; omega

theorem blk2 (c : Dev nD) (t : Fin cfg0.N) : M2 (n := 512) (m := 1024) (iblk m c 2 t) (fun r l => X m c (512 * t.val + r) l) := by
  intro r l
  unfold iblk
  rw [View.read_apply]
  show V m c main_arg2 _ = at2 _ _ _
  rw [V_main_arg2]
  have hi := index2 t
  refine at2_of _ _ ?_ ?_
  · show win0_2.index t 0 * 512 + 1 * r.val = 512 * t.val + r.val; omega
  · show win0_2.index t 1 * 1024 + 1 * l.val = l.val; omega

theorem blk3 (c : Dev nD) (t : Fin cfg0.N) : M2 (n := 8) (m := 1024) (iblk m c 3 t) (Vv m c) := by
  intro r l
  unfold iblk
  rw [View.read_apply]
  show V m c main_arg3 _ = at2 _ _ _
  rw [V_main_arg3]
  have hi := index3 t
  refine at2_of _ _ ?_ ?_
  · show win0_3.index t 0 * 8 + 1 * r.val = r.val; omega
  · show win0_3.index t 1 * 1024 + 1 * l.val = l.val; omega

theorem mem_blk4 (t : Fin cfg0.N) (i : S4096x1024.Idx) (h0 : 512 * t.val ≤ (i 0).val ∧ (i 0).val < 512 * t.val + 512) :
    i ∈ ((cfg0.win 4).blk t).view.set := by
  show i ∈ ((View.whole main_v0_0).slice (win0_4.rect t)).set
  rw [View.set_slice_whole, Rect.mem_set_unit]
  have hi := index4 t
  have i1 : (i 1).val < 1024 := (i 1).isLt
  intro a
  match a with
  | ⟨0, _⟩ => show win0_4.index t 0 * 512 ≤ (i 0).val ∧ (i 0).val < win0_4.index t 0 * 512 + 512; omega
  | ⟨1, _⟩ => show win0_4.index t 1 * 1024 ≤ (i 1).val ∧ (i 1).val < win0_4.index t 1 * 1024 + 1024; omega

abbrev res4 (c : Dev nD) : Vec Ideal S4096x1024 .bf16 := arr2 (yout (Y m c) (W m c))

theorem final4 (c : Dev nD) : (dats m 0 c).arrAt 4 cfg0.N = res4 m c := by
  have hN : cfg0.N = 8 := N_0
  refine (dats m 0 c).arrAt_eq_of_cover 4 (res4 m c) (fun t hf => ?_) fun i => ?_
  · rw [Cert.Kernel5Ideal.Value.flushed4]
    funext y
    have hi := index4 t
    refine (out4 (blk0 m c t) (blk1 m c t) y).trans ?_
    rw [View.read_apply]
    have e0 : (((cfg0.win 4).blk t).view.emb y 0).val = 512 * t.val + (y 0).val := by
      show win0_4.index t 0 * 512 + 1 * (y 0).val = _; omega
    have e1 : (((cfg0.win 4).blk t).view.emb y 1).val = (y 1).val := by
      show win0_4.index t 1 * 1024 + 1 * (y 1).val = _; omega
    show _ = yout _ _ (((cfg0.win 4).blk t).view.emb y 0).val (((cfg0.win 4).blk t).view.emb y 1).val
    rw [e0, e1]
  · have h1 : (i 0).val < 4096 := (i 0).isLt
    exact ⟨⟨(i 0).val / 512, by omega⟩, flush0_4 _, mem_blk4 _ i (by dsimp only; omega)⟩

theorem mem_blk5 (t : Fin cfg0.N) (i : S4096x1024.Idx) (h0 : 512 * t.val ≤ (i 0).val ∧ (i 0).val < 512 * t.val + 512) :
    i ∈ ((cfg0.win 5).blk t).view.set := by
  show i ∈ ((View.whole main_v0_1).slice (win0_5.rect t)).set
  rw [View.set_slice_whole, Rect.mem_set_unit]
  have hi := index5 t
  have i1 : (i 1).val < 1024 := (i 1).isLt
  intro a
  match a with
  | ⟨0, _⟩ => show win0_5.index t 0 * 512 ≤ (i 0).val ∧ (i 0).val < win0_5.index t 0 * 512 + 512; omega
  | ⟨1, _⟩ => show win0_5.index t 1 * 1024 ≤ (i 1).val ∧ (i 1).val < win0_5.index t 1 * 1024 + 1024; omega

abbrev res5 (c : Dev nD) : Vec Ideal S4096x1024 .f32 := arr2 (xout (Y m c) (W m c) (X m c) (Vv m c))

theorem final5 (c : Dev nD) : (dats m 0 c).arrAt 5 cfg0.N = res5 m c := by
  have hN : cfg0.N = 8 := N_0
  refine (dats m 0 c).arrAt_eq_of_cover 5 (res5 m c) (fun t hf => ?_) fun i => ?_
  · rw [Cert.Kernel5Ideal.Value.flushed5]
    funext y
    have hi := index5 t
    refine (out5 (blk0 m c t) (blk1 m c t) (blk2 m c t) (blk3 m c t) y).trans ?_
    rw [View.read_apply]
    have e0 : (((cfg0.win 5).blk t).view.emb y 0).val = 512 * t.val + (y 0).val := by
      show win0_5.index t 0 * 512 + 1 * (y 0).val = _; omega
    have e1 : (((cfg0.win 5).blk t).view.emb y 1).val = (y 1).val := by
      show win0_5.index t 1 * 1024 + 1 * (y 1).val = _; omega
    show _ = xout _ _ _ _ (((cfg0.win 5).blk t).view.emb y 0).val (((cfg0.win 5).blk t).view.emb y 1).val
    rw [e0, e1]
  · have h1 : (i 0).val < 4096 := (i 0).isLt
    exact ⟨⟨(i 0).val / 512, by omega⟩, flush0_5 _, mem_blk5 _ i (by dsimp only; omega)⟩

/-! ## The reference -/

section Reference

open Cert.Reference5Ideal Cert.Reference5Ideal.Gen Cert.Reference5Ideal.Read

theorem r1 (w : Vec Ideal ⟨3, ![4, 512, 1024]⟩ .bf16) (i : S2048x1024.Idx) :
    val_main_v1 (F := Ideal) w i = at3 (k := 4) (n := 512) (m := 1024) w ((i 0).val / 512) ((i 0).val % 512) (i 1).val := by
  have h0 : (i 0).val < 2048 := (i 0).isLt
  have h1 : (i 1).val < 1024 := (i 1).isLt
  rw [val_main_v1_apply, val_main_v0_apply]
  exact at3_of (k := 4) (n := 512) (m := 1024) w _ (by show ((i 0).val * 1024 + (i 1).val) / 524288 = _; omega)
    (by show ((i 0).val * 1024 + (i 1).val) / 1024 % 512 = _; omega) (by show ((i 0).val * 1024 + (i 1).val) % 1024 = _; omega)

theorem r3 (y : Vec Ideal ⟨2, ![4096, 2048]⟩ .bf16) (w : Vec Ideal ⟨3, ![4, 512, 1024]⟩ .bf16) (i : Cert.Reference5Ideal.S4096x1024.Idx) :
    val_main_v3 (F := Ideal) y w i = yout (at2 (n := 4096) (m := 2048) y) (at3 (k := 4) (n := 512) (m := 1024) w) (i 0).val (i 1).val := by
  rw [val_main_v3_apply]
  unfold yout
  refine Finset.sum_congr rfl fun j _ => ?_
  rw [r1, val_main_v2_apply]
  exact congrArg₂ (· * ·) (at2_of (n := 4096) (m := 2048) y _ rfl rfl) rfl

theorem r10 (y : Vec Ideal ⟨2, ![4096, 2048]⟩ .bf16) (w : Vec Ideal ⟨3, ![4, 512, 1024]⟩ .bf16) (i : Cert.Reference5Ideal.S4096x1024.Idx) :
    val_main_v10 (F := Ideal) y w i = yout (at2 (n := 4096) (m := 2048) y) (at3 (k := 4) (n := 512) (m := 1024) w) (i 0).val (i 1).val := by
  rw [val_main_v10_apply]
  unfold yout
  refine Finset.sum_congr rfl fun j _ => ?_
  rw [r1, val_main_v5_apply]
  exact congrArg₂ (· * ·) (at2_of (n := 4096) (m := 2048) y _ rfl rfl) rfl

theorem r7 (v : Vec Ideal ⟨2, ![8, 1024]⟩ .f32) (k : S1024.Idx) : val_main_v7 (F := Ideal) v k = at2 (n := 8) (m := 1024) v 2 (k 0).val := by
  have hk : (k 0).val < 1024 := (k 0).isLt
  rw [val_main_v7_apply, val_main_v6_apply]
  exact at2_of (n := 8) (m := 1024) v _ rfl (by show (k 0).val % 1024 = _; omega)

theorem r9 (v : Vec Ideal ⟨2, ![8, 1024]⟩ .f32) (k : S1024.Idx) : val_main_v9 (F := Ideal) v k = at2 (n := 8) (m := 1024) v 4 (k 0).val := by
  have hk : (k 0).val < 1024 := (k 0).isLt
  rw [val_main_v9_apply, val_main_v8_apply]
  exact at2_of (n := 8) (m := 1024) v _ rfl (by show (k 0).val % 1024 = _; omega)

theorem r18 (y : Vec Ideal ⟨2, ![4096, 2048]⟩ .bf16) (w : Vec Ideal ⟨3, ![4, 512, 1024]⟩ .bf16) (i : S4096x1.Idx) :
    val_main_v18 (F := Ideal) y w i = rs (yout (at2 (n := 4096) (m := 2048) y) (at3 (k := 4) (n := 512) (m := 1024) w)) (i 0).val := by
  rw [val_main_v18_apply, val_main_v17_apply, val_main_v15_apply, val_main_v13_apply, val_main_v12_apply, val_main_v14_apply, val_main_v16_apply]
  simp only [val_main_v11_apply, val_main_cst_apply, val_main_cst_0_apply, val_main_cst_1_apply, r10]
  show Ideal.rsqrt (Ideal.div (Ideal.ofBits .f32 0x00000000#32 + _) _ + _) = _
  rw [Ideal.ofBits_zero .f32, zero_add]
  rfl

theorem ref4 (y : Vec Ideal ⟨2, ![4096, 2048]⟩ .bf16) (w : Vec Ideal ⟨3, ![4, 512, 1024]⟩ .bf16) :
    val_main_v4 (F := Ideal) y w = arr2 (yout (at2 (n := 4096) (m := 2048) y) (at3 (k := 4) (n := 512) (m := 1024) w)) := by
  funext i
  rw [val_main_v4_apply, r3]
  rfl

theorem ref27 (y : Vec Ideal ⟨2, ![4096, 2048]⟩ .bf16) (w : Vec Ideal ⟨3, ![4, 512, 1024]⟩ .bf16) (x : Vec Ideal ⟨2, ![4096, 1024]⟩ .f32) (v : Vec Ideal ⟨2, ![8, 1024]⟩ .f32) :
    val_main_v27 (F := Ideal) y w x v = arr2 (xout (at2 (n := 4096) (m := 2048) y) (at3 (k := 4) (n := 512) (m := 1024) w)
      (at2 (n := 4096) (m := 1024) x) (at2 (n := 8) (m := 1024) v)) := by
  funext i
  rw [val_main_v27_apply, val_main_v26_apply, val_main_v25_apply, val_main_v24_apply, val_main_v23_apply, val_main_v22_apply, val_main_v21_apply,
    val_main_v20_apply, val_main_v19_apply, r10, r7, r9, r18, at2_fn (n := 4096) (m := 1024) x]
  rfl

end Reference

end Cert.Proj5
-- ==== Proof.ProjOut.lean ====
module

public import proofs.«01_k».proof.Proof.ProjMath

/-!
# The gradient through the projection out: the sums

With `C` the branches' outputs, `Y` their product with the matrices out, `D` the stream's cotangent and `V` the eight
vectors: rows 2 and 4 are the gate and the norm's gain.
-/

@[expose] public section

noncomputable section

namespace Cert.Proj

open Idealize.ShloMosaic Cert.Pool
open scoped BigOperators

/-- What reaches the normalized product. -/
def aout (D V : ℕ → ℕ → EReal) (t l : ℕ) : EReal := D t l * V 2 l * V 4 l

/-- The product's cotangent: what the norm sends back. -/
def dy (D V Y : ℕ → ℕ → EReal) (t l : ℕ) : EReal := nb (aout D V) Y t l

/-- The branches' cotangent. -/
def dcat (D V Y : ℕ → ℕ → EReal) (W : ℕ → ℕ → ℕ → EReal) (t q : ℕ) : EReal := ∑ p : Fin 1024, dy D V Y t p * W (q / 512) (q % 512) p

/-- The gradients of the matrices over the first `n` steps. -/
def dwo (D V Y C : ℕ → ℕ → EReal) (n k i j : ℕ) : EReal := ∑ t ∈ Finset.range n, C t (512 * k + i) * dy D V Y t j

/-- The gradients of the gate and the gain over the first `n` steps, as rows 0 and 1 of eight. -/
def dvo (D V Y : ℕ → ℕ → EReal) (n a l : ℕ) : EReal :=
  if a = 0 then ∑ t ∈ Finset.range n, D t l * (xn Y t l * V 4 l)
  else if a = 1 then ∑ t ∈ Finset.range n, D t l * V 2 l * xn Y t l
  else 0

end Cert.Proj
-- ==== Proof.Proj6.lean ====
module

public import proofs.«01_k».proof.Proof.ProjOut
public import proofs.«01_k».proof.Proof.Proj5
public import Idealize.ShloMosaic.Lib.StableHlo.RunRead
public import proofs.«01_k».proof.Proof.Gen.Kernel6Ideal.Value
public import Idealize.ShloMosaic.Lib.Pointwise
public import Idealize.ShloMosaic.Lib.Pointwise.Tactic

/-!
# The gradient through the projection out: what the kernel's arrays end holding

Each grid point sends 512 steps' cotangents back through the gate, the norm and the four matrices, and adds the steps to
the running sums of the matrices', the gate's and the gain's gradients; the last one writes the matrices' out.
-/

@[expose] public section

set_option maxRecDepth 16384

noncomputable section

namespace Cert.Proj6

open Cert.Kernel6Ideal Cert.Kernel6Ideal.Gen Idealize.ShloMosaic Idealize.ShloMosaic.TcCoe Idealize.SL.Sem
open Cert.Pool Cert.Proj
open scoped BigOperators

section Pay

variable {D V Y C : ℕ → ℕ → EReal} {W : ℕ → ℕ → ℕ → EReal} {T : ℕ}

theorem pay5 {y : Vec Ideal S512x1024 .bf16} (hy : M2 (n := 512) (m := 1024) y (fun r l => Y (T + r) l)) :
    M2 (k0_pay5 (F := Ideal) y) (fun r l => Y (T + r) l) := by
  intro r l
  unfold k0_pay5
  pointwise
  exact hy r l

theorem pay6 {y : Vec Ideal S512x1024 .bf16} (hy : M2 (n := 512) (m := 1024) y (fun r l => Y (T + r) l)) :
    M2 (k0_pay6 (F := Ideal) y) (fun r _ => rs Y (T + r)) := by
  intro r l
  have h := pay5 hy
  unfold k0_pay6
  generalize k0_pay5 (F := Ideal) y = x at h ⊢
  pointwise
  simp only [h _ _]
  rfl

theorem pay7 {y : Vec Ideal S512x1024 .bf16} (hy : M2 (n := 512) (m := 1024) y (fun r l => Y (T + r) l)) :
    M2 (k0_pay7 (F := Ideal) y) (fun r l => xn Y (T + r) l) := by
  intro r l
  have h := pay5 hy
  have h' := pay6 hy
  unfold k0_pay7
  generalize k0_pay5 (F := Ideal) y = x at h ⊢
  generalize k0_pay6 (F := Ideal) y = q at h' ⊢
  pointwise
  simp only [h _ _, h' _ _]
  rfl

theorem pay8 {g : FVec Ideal S1x1024 .f32} {d : FVec Ideal S512x1024 .f32} (hg : M2 g (fun _ l => V 2 l)) (hd : M2 d (fun r l => D (T + r) l)) :
    M2 (k0_pay8 (F := Ideal) g d) (fun r l => D (T + r) l * V 2 l) := by
  intro r l
  unfold k0_pay8
  pointwise
  simp only [hg _ _, hd _ _]

theorem pay11 {q : FVec Ideal S512x1 .f32} {x : FVec Ideal S512x1024 .f32} {g : FVec Ideal S1x1024 .f32} {d : FVec Ideal S512x1024 .f32}
    (hq : M2 q (fun r _ => rs Y (T + r))) (hx : M2 x (fun r l => xn Y (T + r) l)) (hg : M2 g (fun _ l => V 4 l))
    (hd : M2 d (fun r l => D (T + r) l * V 2 l)) :
    M2 (k0_pay11 (F := Ideal) q x g d) (fun r l => dy D V Y (T + r) l) := by
  intro r l
  unfold k0_pay11
  pointwise
  simp only [hq _ _, hx _ _, hg _ _, hd _ _]
  rfl

theorem row0 {y : Vec Ideal S512x1024 .bf16} {g a : FVec Ideal S1x1024 .f32} {d : FVec Ideal S512x1024 .f32}
    (hy : M2 (n := 512) (m := 1024) y (fun r l => Y (512 * T + r) l)) (hg : M2 g (fun _ l => V 4 l)) (hd : M2 d (fun r l => D (512 * T + r) l))
    (ha : M2 a (fun _ l => dvo D V Y (512 * T) 0 l)) :
    M2 (k0_pay9 (F := Ideal) y g d a) (fun _ l => dvo D V Y (512 * (T + 1)) 0 l) := by
  intro z l
  have h := pay7 hy
  unfold k0_pay9
  generalize k0_pay7 (F := Ideal) y = x at h ⊢
  pointwise
  simp only [hd _ _, ha _ _, h _ _, hg _ _]
  exact sum_next (fun t => D t l.val * (xn Y t l.val * V 4 l.val)) T

theorem row1 {y : Vec Ideal S512x1024 .bf16} {g a : FVec Ideal S1x1024 .f32} {d : FVec Ideal S512x1024 .f32}
    (hy : M2 (n := 512) (m := 1024) y (fun r l => Y (512 * T + r) l)) (hg : M2 g (fun _ l => V 2 l)) (hd : M2 d (fun r l => D (512 * T + r) l))
    (ha : M2 a (fun _ l => dvo D V Y (512 * T) 1 l)) :
    M2 (k0_pay10 (F := Ideal) y g d a) (fun _ l => dvo D V Y (512 * (T + 1)) 1 l) := by
  intro z l
  have h := pay7 hy
  have h' := pay8 hg hd
  unfold k0_pay10
  generalize k0_pay7 (F := Ideal) y = x at h ⊢
  generalize k0_pay8 (F := Ideal) g d = s at h' ⊢
  pointwise
  simp only [ha _ _, h _ _, h' _ _]
  exact sum_next (fun t => D t l.val * V 2 l.val * xn Y t l.val) T

theorem pay4 : M2 (k0_pay4 (F := Ideal)) (dvo D V Y (512 * 0)) := by
  intro r l
  unfold k0_pay4
  pointwise
  simp [dvo]

theorem pay3 : ∀ y, k0_pay3 (F := Ideal) y = arr3 (dwo D V Y C (512 * 0)) y := by
  intro y
  unfold k0_pay3
  pointwise
  simp [arr3, dwo]

theorem pay2 {x : Vec Ideal S4x512x1024 .f32} {G : ℕ → ℕ → ℕ → EReal} (h : M3 (k := 4) (n := 512) (m := 1024) x G) : M3 (k := 4) (n := 512) (m := 1024) (k0_pay2 (F := Ideal) x) G := by
  intro a r c
  unfold k0_pay2
  pointwise
  exact h a r c

theorem pay16 {e : FVec Ideal S512x1024 .bf16} {w : FVec Ideal S1x512x1024 .bf16} {k : ℕ} (he : M2 e (fun r l => dy D V Y (T + r) l)) (hw : M3 w (fun _ i j => W k i j)) :
    M2 (k0_pay16 (F := Ideal) e w) (fun r j => ∑ p : Fin 1024, dy D V Y (T + r) p * W k j p) := by
  intro r j
  unfold k0_pay16
  pointwise
  simp only [he _ _, hw _ _ _]

theorem pay15 {e : FVec Ideal S512x1024 .bf16} {a : FVec Ideal S1x512x1024 .f32} {c : FVec Ideal S512x512 .bf16} {k : ℕ} (he : M2 e (fun r l => dy D V Y (512 * T + r) l))
    (ha : M3 a (fun _ i j => dwo D V Y C (512 * T) k i j)) (hc : M2 c (fun r i => C (512 * T + r) (512 * k + i))) :
    M3 (k0_pay15 (F := Ideal) e a c) (fun _ i j => dwo D V Y C (512 * (T + 1)) k i j) := by
  intro z i j
  unfold k0_pay15
  pointwise
  simp only [he _ _, ha _ _ _, hc _ _]
  exact sum_next (fun t => C t (512 * k + i.val) * dy D V Y t j.val) T

theorem dvo_past {a l : ℕ} (n : ℕ) (h : 2 ≤ a) : dvo D V Y n a l = 0 := by
  unfold dvo
  rw [if_neg (by omega), if_neg (by omega)]

theorem pr (G : ℕ → ℕ → EReal) (k : ℕ) : ∀ i j, i < 1 → j < 1024 → G k j = G (k + i) (0 + j) := by
  intro i j hi _
  obtain rfl : i = 0 := by omega
  simp only [Nat.zero_add, Nat.add_zero]

theorem pj {n : ℕ} (k : ℕ) : ∀ a i j, a < 1 → i < 512 → j < 1024 → dwo D V Y C n k i j = (dwo D V Y C n) (k + a) (0 + i) (0 + j) := by
  intro a i j ha hi hj
  obtain rfl : a = 0 := by omega
  simp only [Nat.zero_add, Nat.add_zero]

/-- Block `k`'s 512 columns of the branches' cotangent. -/
theorem pc (k : ℕ) : ∀ r j, r < 512 → j < 512 →
    (∑ p : Fin 1024, dy D V Y (512 * T + r) p * W k j p) = (fun r q => dcat D V Y W (512 * T + r) q) (0 + r) (512 * k + j) := by
  intro r j hr hj
  dsimp only
  rw [dcat, Nat.zero_add, show (512 * k + j) / 512 = k by omega, show (512 * k + j) % 512 = j by omega]

end Pay

section Point

theorem canon_or2 {s : Shape} {e : EltTy} {Val : EltTy → Type} [∀ e, Nonempty (Val e)] {G : s.Idx → Val e} {y : s.Idx} {p1 p2 : View.Piece Val s e}
    {L0 : List (View.Piece Val s e)} (h : View.PiecesOf G [p1, p2]) (hb : View.canon L0 y = G y ∨ ∃ p ∈ [p1, p2], y ∈ p.1.set) :
    View.canon (p1 :: p2 :: L0) y = G y := canon_or [p1, p2] L0 h hb

/-- An index of eight rows is in one of the first two or past them. -/
theorem rows2 {p : Prop} (y : S8x1024.Idx) (h : 2 ≤ (y 0).val → p) {w0 w1 : (⟨2, ![1, 1024]⟩ : Shape).Idx → EReal} {i0 i1} :
    p ∨ ∃ q ∈ ([⟨Rect.unit (s := S8x1024) ![1, 0] ![1, 1024] i1, w1⟩,
      ⟨Rect.unit (s := S8x1024) ![0, 0] ![1, 1024] i0, w0⟩] : List (View.Piece (Elt Ideal) S8x1024 .f32)), y ∈ q.1.set := by
  by_cases h2 : 2 ≤ (y 0).val
  · exact .inl (h h2)
  · right
    have hy : (y 1).val < 1024 := (y 1).isLt
    simp only [List.exists_mem_cons_iff, Rect.mem_set_unit, Fin.forall_fin_two, List.not_mem_nil, false_and, exists_false, or_false]
    simp
    omega

variable (c : Dev nD) (i : grid0.Coords) (arg1 : Memref sig .tc .vmem S512x1024 .f32) (harg1 : arg1.IsWhole) (arg2 : Memref sig .tc .vmem S512x1024 .bf16) (harg2 : arg2.IsWhole) (arg3 : Memref sig .tc .vmem S512x2048 .bf16) (harg3 : arg3.IsWhole) (arg4 : Memref sig .tc .vmem S4x512x1024 .bf16) (harg4 : arg4.IsWhole) (arg5 : Memref sig .tc .vmem S8x1024 .f32) (harg5 : arg5.IsWhole) (arg7 : Memref sig .tc .vmem S512x2048 .f32) (harg7 : arg7.IsWhole) (arg8 : Memref sig .tc .vmem S4x512x1024 .bf16) (harg8 : arg8.IsWhole) (arg9 : Memref sig .tc .vmem S8x1024 .f32) (harg9 : arg9.IsWhole) (arg10 : Memref sig .tc .vmem S4x512x1024 .f32) (harg10 : arg10.IsWhole)
  (x0 : Vec Ideal S512x1024 .f32) (x1 : Vec Ideal S512x1024 .bf16) (x2 : Vec Ideal S512x2048 .bf16) (x3 : Vec Ideal S4x512x1024 .bf16) (x4 : Vec Ideal S8x1024 .f32) (xo7 : Vec Ideal S8x1024 .f32) (xs0 : Vec Ideal S4x512x1024 .f32)
  {D V Y C : ℕ → ℕ → EReal} {W : ℕ → ℕ → ℕ → EReal} {T : ℕ}

theorem ldx {x : Vec Ideal S512x1024 .f32} (X : ℕ → ℕ → EReal) (hx : M2 (n := 512) (m := 1024) x (fun r l => X (512 * T + r) l)) {inb} :
    M2 (View.ld x (Rect.unit (s := S512x1024) ![0, 0] ![512, 1024] inb)) (fun r l => X (512 * T + r) l) := by
  rw [show View.ld x (Rect.unit (s := S512x1024) ![0, 0] ![512, 1024] inb) = x from ldall]; exact hx

theorem ldy {x : Vec Ideal S512x1024 .bf16} (X : ℕ → ℕ → EReal) (hx : M2 (n := 512) (m := 1024) x (fun r l => X (512 * T + r) l)) {inb} :
    M2 (n := 512) (m := 1024) (View.ld x (Rect.unit (s := S512x1024) ![0, 0] ![512, 1024] inb)) (fun r l => X (512 * T + r) l) := by
  rw [show View.ld x (Rect.unit (s := S512x1024) ![0, 0] ![512, 1024] inb) = x from ldall]; exact hx

/-- The product's cotangent at a point. -/
theorem cot {x0 : Vec Ideal S512x1024 .f32} {x1 : Vec Ideal S512x1024 .bf16} {x4 : Vec Ideal S8x1024 .f32} (h0 : M2 (n := 512) (m := 1024) x0 (fun r l => D (512 * T + r) l)) (h1 : M2 (n := 512) (m := 1024) x1 (fun r l => Y (512 * T + r) l)) (h4 : M2 (n := 8) (m := 1024) x4 V) {a b c d} :
    M2 (k0_pay11 (F := Ideal) (k0_pay6 (View.ld x1 (Rect.unit (s := S512x1024) ![0, 0] ![512, 1024] a))) (k0_pay7 (View.ld x1 (Rect.unit (s := S512x1024) ![0, 0] ![512, 1024] a)))
      (View.ld x4 (Rect.unit (s := S8x1024) ![4, 0] ![1, 1024] b))
      (k0_pay8 (View.ld x4 (Rect.unit (s := S8x1024) ![2, 0] ![1, 1024] c)) (View.ld x0 (Rect.unit (s := S512x1024) ![0, 0] ![512, 1024] d))))
      (fun r l => dy D V Y (512 * T + r) l) :=
  pay11 (pay6 (ldy Y h1)) (pay7 (ldy Y h1)) (ldrow h4 4 (by decide)) (pay8 (ldrow h4 2 (by decide)) (ldx D h0))

variable (h0 : M2 (n := 512) (m := 1024) x0 (fun r l => D (512 * T + r) l)) (h1 : M2 (n := 512) (m := 1024) x1 (fun r l => Y (512 * T + r) l)) (h2 : M2 (n := 512) (m := 2048) x2 (fun r q => C (512 * T + r) q))
  (h3 : M3 (k := 4) (n := 512) (m := 1024) x3 W) (h4 : M2 (n := 8) (m := 1024) x4 V)
include h0 h1 h2 h3 h4

theorem out5_A (hc0 : cond0_0 i) (hc1 : ¬cond0_1 i) (y : S512x2048.Idx) :
    out0_A_5 (F := Ideal) c i arg1 harg1 arg2 harg2 arg3 harg3 arg4 harg4 arg5 harg5 arg7 harg7 arg8 harg8 arg9 harg9 arg10 harg10 hc0 hc1 x0 x1 x2 x3 x4 y = dcat D V Y W (512 * T + (y 0).val) (y 1).val := by
  unfold out0_A_5
  rw [View.read_writes_junk_eq_canon]
  refine canon_at (Val := Elt Ideal) (e := .f32) (fun y : S512x2048.Idx => dcat D V Y W (512 * T + (y 0).val) (y 1).val) _ ?_ y (cover0_A_5 c i arg1 harg1 arg2 harg2 arg3 harg3 arg4 harg4 arg5 harg5 arg7 harg7 arg8 harg8 arg9 harg9 arg10 harg10 hc0 hc1 x0 x1 x2 x3 x4 y)
  unfold kernelRun0_A
  dsimp only
  sl_unfold_words
  simp (discharger := assumption) only [View.readAt_eq_ld, Memref.IsWhole.read_unread]
  exact (pcons (piece2 (fun r q => dcat D V Y W (512 * T + r) q) (pay16 (cot h0 h1 h4) (ldmat h3 3 (by decide))) (pc 3)) (pcons (piece2 (fun r q => dcat D V Y W (512 * T + r) q) (pay16 (cot h0 h1 h4) (ldmat h3 2 (by decide))) (pc 2)) (pcons (piece2 (fun r q => dcat D V Y W (512 * T + r) q) (pay16 (cot h0 h1 h4) (ldmat h3 1 (by decide))) (pc 1)) (pcons (piece2 (fun r q => dcat D V Y W (512 * T + r) q) (pay16 (cot h0 h1 h4) (ldmat h3 0 (by decide))) (pc 0)) pnil))))

theorem sout_A (hc0 : cond0_0 i) (hc1 : ¬cond0_1 i) (hT : T = 0) (y : S4x512x1024.Idx) :
    sout0_A_0 (F := Ideal) c i arg1 harg1 arg2 harg2 arg3 harg3 arg4 harg4 arg5 harg5 arg7 harg7 arg8 harg8 arg9 harg9 arg10 harg10 hc0 hc1 x0 x1 x2 x3 x4 y = arr3 (dwo D V Y C (512 * (T + 1))) y := by
  subst hT
  unfold sout0_A_0
  rw [View.read_writes_junk_eq_canon]
  unfold kernelRun0_A
  dsimp only
  sl_unfold_words
  simp (discharger := assumption) only [View.readAt_eq_ld, Memref.IsWhole.read_unread]
  refine canon_or4 (Val := Elt Ideal) (e := .f32) (G := fun y : S4x512x1024.Idx => dwo D V Y C (512 * (0 + 1)) (y 0).val (y 1).val (y 2).val) ?_ (Or.inr (planes (n := 512) (m := 1024) y))
  exact (pcons (piece3 (dwo D V Y C (512 * (0 + 1))) (pay15 (cot h0 h1 h4) (skip3 _ rfl (skip3 _ rfl (skip3 _ rfl (fill3 _ (ldacc pay3 3 (by decide)))))) (ldcol h2 3 (by decide))) (pj 3)) (pcons (piece3 (dwo D V Y C (512 * (0 + 1))) (pay15 (cot h0 h1 h4) (skip3 _ rfl (skip3 _ rfl (fill3 _ (ldacc pay3 2 (by decide))))) (ldcol h2 2 (by decide))) (pj 2)) (pcons (piece3 (dwo D V Y C (512 * (0 + 1))) (pay15 (cot h0 h1 h4) (skip3 _ rfl (fill3 _ (ldacc pay3 1 (by decide)))) (ldcol h2 1 (by decide))) (pj 1)) (pcons (piece3 (dwo D V Y C (512 * (0 + 1))) (pay15 (cot h0 h1 h4) (fill3 _ (ldacc pay3 0 (by decide))) (ldcol h2 0 (by decide))) (pj 0)) pnil))))

theorem out7_A (hc0 : cond0_0 i) (hc1 : ¬cond0_1 i) (hT : T = 0) (y : S8x1024.Idx) :
    out0_A_7 (F := Ideal) c i arg1 harg1 arg2 harg2 arg3 harg3 arg4 harg4 arg5 harg5 arg7 harg7 arg8 harg8 arg9 harg9 arg10 harg10 hc0 hc1 x0 x1 x2 x3 x4 y = arr2 (dvo D V Y (512 * (T + 1))) y := by
  subst hT
  unfold out0_A_7
  rw [View.read_writes_junk_eq_canon]
  unfold kernelRun0_A
  dsimp only
  sl_unfold_words
  simp (discharger := assumption) only [View.readAt_eq_ld, Memref.IsWhole.read_unread]
  refine canon_or2 (Val := Elt Ideal) (e := .f32) (G := fun y : S8x1024.Idx => dvo D V Y (512 * (0 + 1)) (y 0).val (y 1).val) ?_ ?_
  · exact (pcons (piece2 (dvo D V Y (512 * (0 + 1))) (row1 (ldy Y h1) (ldrow h4 2 (by decide)) (ldx D h0) (skip2 _ rfl (fill2 _ (ldrow pay4 1 (by decide))))) (pr (dvo D V Y (512 * (0 + 1))) 1)) (pcons (piece2 (dvo D V Y (512 * (0 + 1))) (row0 (ldy Y h1) (ldrow h4 4 (by decide)) (ldx D h0) (fill2 _ (ldrow pay4 0 (by decide)))) (pr (dvo D V Y (512 * (0 + 1))) 0)) pnil))
  · refine rows2 y fun h => ?_
    rw [View.canon_cons_unit_lit' _ _ _ (fun a => by fin_cases a <;> rfl), dvo_past _ h]
    exact Ideal.ofBits_zero .f32

theorem out5_B (hc0 : ¬cond0_0 i) (hc1 : ¬cond0_1 i) (y : S512x2048.Idx) :
    out0_B_5 (F := Ideal) c i arg1 harg1 arg2 harg2 arg3 harg3 arg4 harg4 arg5 harg5 arg7 harg7 arg8 harg8 arg9 harg9 arg10 harg10 hc0 hc1 x0 x1 x2 x3 x4 xo7 xs0 y = dcat D V Y W (512 * T + (y 0).val) (y 1).val := by
  unfold out0_B_5
  rw [View.read_writes_junk_eq_canon]
  refine canon_at (Val := Elt Ideal) (e := .f32) (fun y : S512x2048.Idx => dcat D V Y W (512 * T + (y 0).val) (y 1).val) _ ?_ y (cover0_B_5 c i arg1 harg1 arg2 harg2 arg3 harg3 arg4 harg4 arg5 harg5 arg7 harg7 arg8 harg8 arg9 harg9 arg10 harg10 hc0 hc1 x0 x1 x2 x3 x4 xo7 xs0 y)
  unfold kernelRun0_B
  dsimp only
  sl_unfold_words
  simp (discharger := assumption) only [View.readAt_eq_ld, Memref.IsWhole.read_unread]
  exact (pcons (piece2 (fun r q => dcat D V Y W (512 * T + r) q) (pay16 (cot h0 h1 h4) (ldmat h3 3 (by decide))) (pc 3)) (pcons (piece2 (fun r q => dcat D V Y W (512 * T + r) q) (pay16 (cot h0 h1 h4) (ldmat h3 2 (by decide))) (pc 2)) (pcons (piece2 (fun r q => dcat D V Y W (512 * T + r) q) (pay16 (cot h0 h1 h4) (ldmat h3 1 (by decide))) (pc 1)) (pcons (piece2 (fun r q => dcat D V Y W (512 * T + r) q) (pay16 (cot h0 h1 h4) (ldmat h3 0 (by decide))) (pc 0)) pnil))))

theorem sout_B (hc0 : ¬cond0_0 i) (hc1 : ¬cond0_1 i) (ha : ∀ y, xs0 y = arr3 (dwo D V Y C (512 * T)) y) (y : S4x512x1024.Idx) :
    sout0_B_0 (F := Ideal) c i arg1 harg1 arg2 harg2 arg3 harg3 arg4 harg4 arg5 harg5 arg7 harg7 arg8 harg8 arg9 harg9 arg10 harg10 hc0 hc1 x0 x1 x2 x3 x4 xo7 xs0 y = arr3 (dwo D V Y C (512 * (T + 1))) y := by
  unfold sout0_B_0
  rw [View.read_writes_junk_eq_canon]
  unfold kernelRun0_B
  dsimp only
  sl_unfold_words
  simp (discharger := assumption) only [View.readAt_eq_ld, Memref.IsWhole.read_unread]
  refine canon_or4 (Val := Elt Ideal) (e := .f32) (G := fun y : S4x512x1024.Idx => dwo D V Y C (512 * (T + 1)) (y 0).val (y 1).val (y 2).val) ?_ (Or.inr (planes (n := 512) (m := 1024) y))
  exact (pcons (piece3 (dwo D V Y C (512 * (T + 1))) (pay15 (cot h0 h1 h4) (ldacc ha 3 (by decide)) (ldcol h2 3 (by decide))) (pj 3)) (pcons (piece3 (dwo D V Y C (512 * (T + 1))) (pay15 (cot h0 h1 h4) (ldacc ha 2 (by decide)) (ldcol h2 2 (by decide))) (pj 2)) (pcons (piece3 (dwo D V Y C (512 * (T + 1))) (pay15 (cot h0 h1 h4) (ldacc ha 1 (by decide)) (ldcol h2 1 (by decide))) (pj 1)) (pcons (piece3 (dwo D V Y C (512 * (T + 1))) (pay15 (cot h0 h1 h4) (ldacc ha 0 (by decide)) (ldcol h2 0 (by decide))) (pj 0)) pnil))))

theorem out7_B (hc0 : ¬cond0_0 i) (hc1 : ¬cond0_1 i) (ho : M2 (n := 8) (m := 1024) xo7 (dvo D V Y (512 * T))) (y : S8x1024.Idx) :
    out0_B_7 (F := Ideal) c i arg1 harg1 arg2 harg2 arg3 harg3 arg4 harg4 arg5 harg5 arg7 harg7 arg8 harg8 arg9 harg9 arg10 harg10 hc0 hc1 x0 x1 x2 x3 x4 xo7 xs0 y = arr2 (dvo D V Y (512 * (T + 1))) y := by
  unfold out0_B_7
  unfold kernelRun0_B
  dsimp only
  sl_unfold_words
  simp (discharger := assumption) only [View.readAt_eq_ld, Memref.IsWhole.read_unread]
  refine read_writes_at (Val := Elt Ideal) (e := .f32) _ _ (fun y : S8x1024.Idx => dvo D V Y (512 * (T + 1)) (y 0).val (y 1).val) y _ ?_ ?_
  · exact (pcons (piece2 (dvo D V Y (512 * (T + 1))) (row1 (ldy Y h1) (ldrow h4 2 (by decide)) (ldx D h0) (ldrow ho 1 (by decide))) (pr (dvo D V Y (512 * (T + 1))) 1)) (pcons (piece2 (dvo D V Y (512 * (T + 1))) (row0 (ldy Y h1) (ldrow h4 4 (by decide)) (ldx D h0) (ldrow ho 0 (by decide))) (pr (dvo D V Y (512 * (T + 1))) 0)) pnil))
  · rw [harg9.read_unread]
    refine rows2 y fun h => ?_
    have e := at2_fn (n := 8) (m := 1024) xo7 y
    rw [dvo_past _ h, e]
    exact ((at2_eq xo7 (y 0) (y 1)).trans (ho (y 0) (y 1))).trans (dvo_past _ h)

theorem out5_C (hc0 : ¬cond0_0 i) (hc1 : cond0_1 i) (y : S512x2048.Idx) :
    out0_C_5 (F := Ideal) c i arg1 harg1 arg2 harg2 arg3 harg3 arg4 harg4 arg5 harg5 arg7 harg7 arg8 harg8 arg9 harg9 arg10 harg10 hc0 hc1 x0 x1 x2 x3 x4 xo7 xs0 y = dcat D V Y W (512 * T + (y 0).val) (y 1).val := by
  unfold out0_C_5
  rw [View.read_writes_junk_eq_canon]
  refine canon_at (Val := Elt Ideal) (e := .f32) (fun y : S512x2048.Idx => dcat D V Y W (512 * T + (y 0).val) (y 1).val) _ ?_ y (cover0_C_5 c i arg1 harg1 arg2 harg2 arg3 harg3 arg4 harg4 arg5 harg5 arg7 harg7 arg8 harg8 arg9 harg9 arg10 harg10 hc0 hc1 x0 x1 x2 x3 x4 xo7 xs0 y)
  unfold kernelRun0_C
  dsimp only
  sl_unfold_words
  simp (discharger := assumption) only [View.readAt_eq_ld, Memref.IsWhole.read_unread]
  exact (pcons (piece2 (fun r q => dcat D V Y W (512 * T + r) q) (pay16 (cot h0 h1 h4) (ldmat h3 3 (by decide))) (pc 3)) (pcons (piece2 (fun r q => dcat D V Y W (512 * T + r) q) (pay16 (cot h0 h1 h4) (ldmat h3 2 (by decide))) (pc 2)) (pcons (piece2 (fun r q => dcat D V Y W (512 * T + r) q) (pay16 (cot h0 h1 h4) (ldmat h3 1 (by decide))) (pc 1)) (pcons (piece2 (fun r q => dcat D V Y W (512 * T + r) q) (pay16 (cot h0 h1 h4) (ldmat h3 0 (by decide))) (pc 0)) pnil))))

theorem sout_C (hc0 : ¬cond0_0 i) (hc1 : cond0_1 i) (ha : ∀ y, xs0 y = arr3 (dwo D V Y C (512 * T)) y) (y : S4x512x1024.Idx) :
    sout0_C_0 (F := Ideal) c i arg1 harg1 arg2 harg2 arg3 harg3 arg4 harg4 arg5 harg5 arg7 harg7 arg8 harg8 arg9 harg9 arg10 harg10 hc0 hc1 x0 x1 x2 x3 x4 xo7 xs0 y = arr3 (dwo D V Y C (512 * (T + 1))) y := by
  unfold sout0_C_0
  rw [View.read_writes_junk_eq_canon]
  unfold kernelRun0_C
  dsimp only
  sl_unfold_words
  simp (discharger := assumption) only [View.readAt_eq_ld, Memref.IsWhole.read_unread]
  refine canon_or4 (Val := Elt Ideal) (e := .f32) (G := fun y : S4x512x1024.Idx => dwo D V Y C (512 * (T + 1)) (y 0).val (y 1).val (y 2).val) ?_ (Or.inr (planes (n := 512) (m := 1024) y))
  exact (pcons (piece3 (dwo D V Y C (512 * (T + 1))) (pay15 (cot h0 h1 h4) (ldacc ha 3 (by decide)) (ldcol h2 3 (by decide))) (pj 3)) (pcons (piece3 (dwo D V Y C (512 * (T + 1))) (pay15 (cot h0 h1 h4) (ldacc ha 2 (by decide)) (ldcol h2 2 (by decide))) (pj 2)) (pcons (piece3 (dwo D V Y C (512 * (T + 1))) (pay15 (cot h0 h1 h4) (ldacc ha 1 (by decide)) (ldcol h2 1 (by decide))) (pj 1)) (pcons (piece3 (dwo D V Y C (512 * (T + 1))) (pay15 (cot h0 h1 h4) (ldacc ha 0 (by decide)) (ldcol h2 0 (by decide))) (pj 0)) pnil))))

theorem out7_C (hc0 : ¬cond0_0 i) (hc1 : cond0_1 i) (ho : M2 (n := 8) (m := 1024) xo7 (dvo D V Y (512 * T))) (y : S8x1024.Idx) :
    out0_C_7 (F := Ideal) c i arg1 harg1 arg2 harg2 arg3 harg3 arg4 harg4 arg5 harg5 arg7 harg7 arg8 harg8 arg9 harg9 arg10 harg10 hc0 hc1 x0 x1 x2 x3 x4 xo7 xs0 y = arr2 (dvo D V Y (512 * (T + 1))) y := by
  unfold out0_C_7
  unfold kernelRun0_C
  dsimp only
  sl_unfold_words
  simp (discharger := assumption) only [View.readAt_eq_ld, Memref.IsWhole.read_unread]
  refine read_writes_at (Val := Elt Ideal) (e := .f32) _ _ (fun y : S8x1024.Idx => dvo D V Y (512 * (T + 1)) (y 0).val (y 1).val) y _ ?_ ?_
  · exact (pcons (piece2 (dvo D V Y (512 * (T + 1))) (row1 (ldy Y h1) (ldrow h4 2 (by decide)) (ldx D h0) (ldrow ho 1 (by decide))) (pr (dvo D V Y (512 * (T + 1))) 1)) (pcons (piece2 (dvo D V Y (512 * (T + 1))) (row0 (ldy Y h1) (ldrow h4 4 (by decide)) (ldx D h0) (ldrow ho 0 (by decide))) (pr (dvo D V Y (512 * (T + 1))) 0)) pnil))
  · rw [harg9.read_unread]
    refine rows2 y fun h => ?_
    have e := at2_fn (n := 8) (m := 1024) xo7 y
    rw [dvo_past _ h, e]
    exact ((at2_eq xo7 (y 0) (y 1)).trans (ho (y 0) (y 1))).trans (dvo_past _ h)

theorem out6_C (hc0 : ¬cond0_0 i) (hc1 : cond0_1 i) (ha : ∀ y, xs0 y = arr3 (dwo D V Y C (512 * T)) y) (y : S4x512x1024.Idx) :
    out0_C_6 (F := Ideal) c i arg1 harg1 arg2 harg2 arg3 harg3 arg4 harg4 arg5 harg5 arg7 harg7 arg8 harg8 arg9 harg9 arg10 harg10 hc0 hc1 x0 x1 x2 x3 x4 xo7 xs0 y = arr3 (dwo D V Y C (512 * (T + 1))) y := by
  unfold out0_C_6
  rw [View.read_writes_junk_eq_canon]
  refine canon_at (Val := Elt Ideal) (e := .bf16) (fun y : S4x512x1024.Idx => dwo D V Y C (512 * (T + 1)) (y 0).val (y 1).val (y 2).val) _ ?_ y (cover0_C_6 c i arg1 harg1 arg2 harg2 arg3 harg3 arg4 harg4 arg5 harg5 arg7 harg7 arg8 harg8 arg9 harg9 arg10 harg10 hc0 hc1 x0 x1 x2 x3 x4 xo7 xs0 y)
  unfold kernelRun0_C
  dsimp only
  sl_unfold_words
  simp (discharger := assumption) only [View.readAt_eq_ld, Memref.IsWhole.read_unread]
  refine pcons (piece3 (dwo D V Y C (512 * (T + 1))) (pay2 (whole3 _ (pcons (piece3 (dwo D V Y C (512 * (T + 1))) (pay15 (cot h0 h1 h4) (ldacc ha 3 (by decide)) (ldcol h2 3 (by decide))) (pj 3)) (pcons (piece3 (dwo D V Y C (512 * (T + 1))) (pay15 (cot h0 h1 h4) (ldacc ha 2 (by decide)) (ldcol h2 2 (by decide))) (pj 2)) (pcons (piece3 (dwo D V Y C (512 * (T + 1))) (pay15 (cot h0 h1 h4) (ldacc ha 1 (by decide)) (ldcol h2 1 (by decide))) (pj 1)) (pcons (piece3 (dwo D V Y C (512 * (T + 1))) (pay15 (cot h0 h1 h4) (ldacc ha 0 (by decide)) (ldcol h2 0 (by decide))) (pj 0)) pnil)))) (fun y => planes (n := 512) (m := 1024) y)))
    (fun i j k _ _ _ => by rw [Nat.zero_add, Nat.zero_add, Nat.zero_add])) pnil

end Point

variable (m : (ℓ : Loc nD τ sig) → Buf (Elt Ideal) ℓ)

theorem index0 : ∀ t : Fin grid0.N, win0_0.index t 0 = t.val ∧ win0_0.index t 1 = 0 := by decide +kernel
theorem index1 : ∀ t : Fin grid0.N, win0_1.index t 0 = t.val ∧ win0_1.index t 1 = 0 := by decide +kernel
theorem index2 : ∀ t : Fin grid0.N, win0_2.index t 0 = t.val ∧ win0_2.index t 1 = 0 := by decide +kernel
theorem index3 : ∀ t : Fin grid0.N, win0_3.index t 0 = 0 ∧ win0_3.index t 1 = 0 ∧ win0_3.index t 2 = 0 := by decide +kernel
theorem index4 : ∀ t : Fin grid0.N, win0_4.index t 0 = 0 ∧ win0_4.index t 1 = 0 := by decide +kernel
theorem index5 : ∀ t : Fin grid0.N, win0_5.index t 0 = t.val ∧ win0_5.index t 1 = 0 := by decide +kernel
theorem index6 : ∀ t : Fin grid0.N, win0_6.index t 0 = 0 ∧ win0_6.index t 1 = 0 ∧ win0_6.index t 2 = 0 := by decide +kernel
theorem index7 : ∀ t : Fin grid0.N, win0_7.index t 0 = 0 ∧ win0_7.index t 1 = 0 := by decide +kernel

/-- The launched cotangent, branches' outputs, matrices and vectors by coordinates, and the outputs' product with the matrices. -/
abbrev D (c : Dev nD) : ℕ → ℕ → EReal := at2 (n := 4096) (m := 1024) (m ((c : Thread nD τ).loc main_arg0))
abbrev C (c : Dev nD) : ℕ → ℕ → EReal := at2 (n := 4096) (m := 2048) (m ((c : Thread nD τ).loc main_arg1))
abbrev W (c : Dev nD) : ℕ → ℕ → ℕ → EReal := at3 (k := 4) (n := 512) (m := 1024) (m ((c : Thread nD τ).loc main_arg2))
abbrev Vv (c : Dev nD) : ℕ → ℕ → EReal := at2 (n := 8) (m := 1024) (m ((c : Thread nD τ).loc main_arg3))
abbrev Y (c : Dev nD) : ℕ → ℕ → EReal := yout (C m c) (W m c)

/-- The host's product, as the region finds it. -/
theorem V_main_v4 (c : Dev nD) : V m c main_v4 = arr2 (Y m c) := by
  have e : V m c main_v4 = (Cert.Reference5Ideal.Read.val_main_v4 (F := Ideal) (m ((c : Thread nD τ).loc main_arg1)) (m ((c : Thread nD τ).loc main_arg2)) :
      (⟨S4096x1024, .bf16⟩ : BufTy).Contents (Elt Ideal)) := by
    unfold V
    after_reads_simp
    rfl
  rw [e]
  exact Cert.Proj5.ref4 (m ((c : Thread nD τ).loc main_arg1)) (m ((c : Thread nD τ).loc main_arg2))

theorem blk0 (c : Dev nD) (t : Fin cfg0.N) : M2 (n := 512) (m := 1024) (iblk m c 0 t) (fun r l => D m c (512 * t.val + r) l) := by
  intro r l
  unfold iblk
  rw [View.read_apply]
  show V m c main_arg0 _ = at2 _ _ _
  rw [V_main_arg0]
  have hi := index0 t
  refine at2_of _ _ ?_ ?_
  · show win0_0.index t 0 * 512 + 1 * r.val = 512 * t.val + r.val; omega
  · show win0_0.index t 1 * 1024 + 1 * l.val = l.val; omega

theorem blk1 (c : Dev nD) (t : Fin cfg0.N) : M2 (n := 512) (m := 1024) (iblk m c 1 t) (fun r l => Y m c (512 * t.val + r) l) := by
  intro r l
  unfold iblk
  rw [View.read_apply]
  show V m c main_v4 _ = _
  rw [V_main_v4]
  have hi := index1 t
  have e0 : (((cfg0.win 1).blk t).view.emb (ix2 r l) 0).val = 512 * t.val + r.val := by
    show win0_1.index t 0 * 512 + 1 * r.val = _; omega
  have e1 : (((cfg0.win 1).blk t).view.emb (ix2 r l) 1).val = l.val := by
    show win0_1.index t 1 * 1024 + 1 * l.val = _; omega
  show Y m c (((cfg0.win 1).blk t).view.emb (ix2 r l) 0).val (((cfg0.win 1).blk t).view.emb (ix2 r l) 1).val = _
  rw [e0, e1]

theorem blk2 (c : Dev nD) (t : Fin cfg0.N) : M2 (n := 512) (m := 2048) (iblk m c 2 t) (fun r l => C m c (512 * t.val + r) l) := by
  intro r l
  unfold iblk
  rw [View.read_apply]
  show V m c main_arg1 _ = at2 _ _ _
  rw [V_main_arg1]
  have hi := index2 t
  refine at2_of _ _ ?_ ?_
  · show win0_2.index t 0 * 512 + 1 * r.val = 512 * t.val + r.val; omega
  · show win0_2.index t 1 * 2048 + 1 * l.val = l.val; omega

theorem blk3 (c : Dev nD) (t : Fin cfg0.N) : M3 (k := 4) (n := 512) (m := 1024) (iblk m c 3 t) (W m c) := by
  intro a r l
  unfold iblk
  rw [View.read_apply]
  show V m c main_arg2 _ = at3 _ _ _ _
  rw [V_main_arg2]
  have hi := index3 t
  refine at3_of _ _ ?_ ?_ ?_
  · show win0_3.index t 0 * 4 + 1 * a.val = a.val; omega
  · show win0_3.index t 1 * 512 + 1 * r.val = r.val; omega
  · show win0_3.index t 2 * 1024 + 1 * l.val = l.val; omega

theorem blk4 (c : Dev nD) (t : Fin cfg0.N) : M2 (n := 8) (m := 1024) (iblk m c 4 t) (Vv m c) := by
  intro r l
  unfold iblk
  rw [View.read_apply]
  show V m c main_arg3 _ = at2 _ _ _
  rw [V_main_arg3]
  have hi := index4 t
  refine at2_of _ _ ?_ ?_
  · show win0_4.index t 0 * 8 + 1 * r.val = r.val; omega
  · show win0_4.index t 1 * 1024 + 1 * l.val = l.val; omega

/-- What grid point `n` leaves: its steps' cotangents, the sums over its own and all earlier steps, and at the last point
    the matrices' sums written out. -/
structure Left (c : Dev nD) (n : ℕ) (o : Vec Ideal S512x2048 .f32 × Vec Ideal S4x512x1024 .bf16 × Vec Ideal S8x1024 .f32 × Vec Ideal S4x512x1024 .f32) : Prop where
  dc : ∀ y, o.1 y = dcat (D m c) (Vv m c) (Y m c) (W m c) (512 * n + (y 0).val) (y 1).val
  dw : n = 7 → ∀ y, o.2.1 y = arr3 (dwo (D m c) (Vv m c) (Y m c) (C m c) (512 * (n + 1))) y
  dv : ∀ y, o.2.2.1 y = arr2 (dvo (D m c) (Vv m c) (Y m c) (512 * (n + 1))) y
  acc : ∀ y, o.2.2.2 y = arr3 (dwo (D m c) (Vv m c) (Y m c) (C m c) (512 * (n + 1))) y

variable {m} in
theorem left_mk {c : Dev nD} {n : ℕ} {a : Vec Ideal S512x2048 .f32} {b : Vec Ideal S4x512x1024 .bf16} {e : Vec Ideal S8x1024 .f32} {s : Vec Ideal S4x512x1024 .f32}
    (ha : ∀ y, a y = dcat (D m c) (Vv m c) (Y m c) (W m c) (512 * n + (y 0).val) (y 1).val) (hb : n = 7 → ∀ y, b y = arr3 (dwo (D m c) (Vv m c) (Y m c) (C m c) (512 * (n + 1))) y)
    (he : ∀ y, e y = arr2 (dvo (D m c) (Vv m c) (Y m c) (512 * (n + 1))) y) (hs : ∀ y, s y = arr3 (dwo (D m c) (Vv m c) (Y m c) (C m c) (512 * (n + 1))) y) : Left m c n (a, b, e, s) := ⟨ha, hb, he, hs⟩

set_option maxHeartbeats 2000000 in
theorem left_A (c : Dev nD) (t : Fin cfg0.N) (h0 : t.val % 8 = 0) (h1 : ¬t.val % 8 = 7) (hz : t.val = 0) : Left m c t.val (outsAt0 m c t.val t.isLt) := by
  have b0 := blk0 m c t
  have b1 := blk1 m c t
  have b2 := blk2 m c t
  have b3 := blk3 m c t
  have b4 := blk4 m c t
  rw [outsAt0_A m c t h0 h1]
  refine left_mk ?_ (fun h => absurd h (by omega)) ?_ ?_
  · exact fun y => out5_A (h0 := b0) (h1 := b1) (h2 := b2) (h3 := b3) (h4 := b4) (y := y) ..
  · exact fun y => out7_A (h0 := b0) (h1 := b1) (h2 := b2) (h3 := b3) (h4 := b4) (hT := hz) (y := y) ..
  · exact fun y => sout_A (h0 := b0) (h1 := b1) (h2 := b2) (h3 := b3) (h4 := b4) (hT := hz) (y := y) ..

set_option maxHeartbeats 2000000 in
theorem left_B (c : Dev nD) (t : Fin cfg0.N) (h0 : ¬t.val % 8 = 0) (h1 : ¬t.val % 8 = 7)
    (iho : ∀ h, M2 (n := 8) (m := 1024) (outsAt0 m c (t.val - 1) h).2.2.1 (dvo (D m c) (Vv m c) (Y m c) (512 * t.val)))
    (iha : ∀ h y, (outsAt0 m c (t.val - 1) h).2.2.2 y = arr3 (dwo (D m c) (Vv m c) (Y m c) (C m c) (512 * t.val)) y) : Left m c t.val (outsAt0 m c t.val t.isLt) := by
  have b0 := blk0 m c t
  have b1 := blk1 m c t
  have b2 := blk2 m c t
  have b3 := blk3 m c t
  have b4 := blk4 m c t
  rw [outsAt0_B m c t h0 h1]
  refine left_mk ?_ (fun h => absurd h (by omega)) ?_ ?_
  · exact fun y => out5_B (h0 := b0) (h1 := b1) (h2 := b2) (h3 := b3) (h4 := b4) (y := y) ..
  · exact fun y => out7_B (h0 := b0) (h1 := b1) (h2 := b2) (h3 := b3) (h4 := b4) (ho := iho _) (y := y) ..
  · exact fun y => sout_B (h0 := b0) (h1 := b1) (h2 := b2) (h3 := b3) (h4 := b4) (ha := iha _) (y := y) ..

set_option maxHeartbeats 2000000 in
theorem left_C (c : Dev nD) (t : Fin cfg0.N) (h0 : ¬t.val % 8 = 0) (h1 : t.val % 8 = 7)
    (iho : ∀ h, M2 (n := 8) (m := 1024) (outsAt0 m c (t.val - 1) h).2.2.1 (dvo (D m c) (Vv m c) (Y m c) (512 * t.val)))
    (iha : ∀ h y, (outsAt0 m c (t.val - 1) h).2.2.2 y = arr3 (dwo (D m c) (Vv m c) (Y m c) (C m c) (512 * t.val)) y) : Left m c t.val (outsAt0 m c t.val t.isLt) := by
  have b0 := blk0 m c t
  have b1 := blk1 m c t
  have b2 := blk2 m c t
  have b3 := blk3 m c t
  have b4 := blk4 m c t
  rw [outsAt0_C m c t h0 h1]
  refine left_mk ?_ (fun _ => ?_) ?_ ?_
  · exact fun y => out5_C (h0 := b0) (h1 := b1) (h2 := b2) (h3 := b3) (h4 := b4) (y := y) ..
  · exact fun y => out6_C (h0 := b0) (h1 := b1) (h2 := b2) (h3 := b3) (h4 := b4) (ha := iha _) (y := y) ..
  · exact fun y => out7_C (h0 := b0) (h1 := b1) (h2 := b2) (h3 := b3) (h4 := b4) (ho := iho _) (y := y) ..
  · exact fun y => sout_C (h0 := b0) (h1 := b1) (h2 := b2) (h3 := b3) (h4 := b4) (ha := iha _) (y := y) ..

theorem left (c : Dev nD) : ∀ (n : ℕ) (hn : n < cfg0.N), Left m c n (outsAt0 m c n hn)
  | 0, hn => left_A m c ⟨0, hn⟩ (Nat.zero_mod 8) (by show ¬ 0 % 8 = 7; decide) rfl
  | n + 1, hn => by
    have hN : cfg0.N = 8 := N_0
    have iho : ∀ h, M2 (n := 8) (m := 1024) (outsAt0 m c n h).2.2.1 (dvo (D m c) (Vv m c) (Y m c) (512 * (n + 1))) := fun h r l => (left c n h).dv (ix2 r l)
    have iha : ∀ h y, (outsAt0 m c n h).2.2.2 y = arr3 (dwo (D m c) (Vv m c) (Y m c) (C m c) (512 * (n + 1))) y := fun h => (left c n h).acc
    have h0 : ¬ (n + 1) % 8 = 0 := by omega
    by_cases h1 : (n + 1) % 8 = 7
    · exact left_C m c ⟨n + 1, hn⟩ h0 h1 iho iha
    · exact left_B m c ⟨n + 1, hn⟩ h0 h1 iho iha

theorem mem_blk5 (t : Fin cfg0.N) (i : S4096x2048.Idx) (h0 : 512 * t.val ≤ (i 0).val ∧ (i 0).val < 512 * t.val + 512) :
    i ∈ ((cfg0.win 5).blk t).view.set := by
  show i ∈ ((View.whole main_v5_0).slice (win0_5.rect t)).set
  rw [View.set_slice_whole, Rect.mem_set_unit]
  have hi := index5 t
  have i1 : (i 1).val < 2048 := (i 1).isLt
  intro a
  match a with
  | ⟨0, _⟩ => show win0_5.index t 0 * 512 ≤ (i 0).val ∧ (i 0).val < win0_5.index t 0 * 512 + 512; omega
  | ⟨1, _⟩ => show win0_5.index t 1 * 2048 ≤ (i 1).val ∧ (i 1).val < win0_5.index t 1 * 2048 + 2048; omega

abbrev res5 (c : Dev nD) : Vec Ideal S4096x2048 .f32 := arr2 (dcat (D m c) (Vv m c) (Y m c) (W m c))

theorem final5 (c : Dev nD) : (dats m 0 c).arrAt 5 cfg0.N = res5 m c := by
  have hN : cfg0.N = 8 := N_0
  refine (dats m 0 c).arrAt_eq_of_cover 5 (res5 m c) (fun t hf => ?_) fun i => ?_
  · rw [Cert.Kernel6Ideal.Value.flushed5]
    funext y
    have hi := index5 t
    refine ((left m c t.val t.isLt).dc y).trans ?_
    rw [View.read_apply]
    have e0 : (((cfg0.win 5).blk t).view.emb y 0).val = 512 * t.val + (y 0).val := by
      show win0_5.index t 0 * 512 + 1 * (y 0).val = _; omega
    have e1 : (((cfg0.win 5).blk t).view.emb y 1).val = (y 1).val := by
      show win0_5.index t 1 * 2048 + 1 * (y 1).val = _; omega
    show _ = dcat _ _ _ _ (((cfg0.win 5).blk t).view.emb y 0).val (((cfg0.win 5).blk t).view.emb y 1).val
    rw [e0, e1]
  · have h1 : (i 0).val < 4096 := (i 0).isLt
    exact ⟨⟨(i 0).val / 512, by omega⟩, flush0_5 _, mem_blk5 _ i (by dsimp only; omega)⟩

theorem mem_blk6 (t : Fin cfg0.N) (i : S4x512x1024.Idx) : i ∈ ((cfg0.win 6).blk t).view.set := by
  show i ∈ ((View.whole main_v5_1).slice (win0_6.rect t)).set
  rw [View.set_slice_whole, Rect.mem_set_unit]
  have hi := index6 t
  have i0 : (i 0).val < 4 := (i 0).isLt
  have i1 : (i 1).val < 512 := (i 1).isLt
  have i2 : (i 2).val < 1024 := (i 2).isLt
  intro a
  match a with
  | ⟨0, _⟩ => show win0_6.index t 0 * 4 ≤ (i 0).val ∧ (i 0).val < win0_6.index t 0 * 4 + 4; omega
  | ⟨1, _⟩ => show win0_6.index t 1 * 512 ≤ (i 1).val ∧ (i 1).val < win0_6.index t 1 * 512 + 512; omega
  | ⟨2, _⟩ => show win0_6.index t 2 * 1024 ≤ (i 2).val ∧ (i 2).val < win0_6.index t 2 * 1024 + 1024; omega

abbrev res6 (c : Dev nD) : Vec Ideal S4x512x1024 .bf16 := arr3 (dwo (D m c) (Vv m c) (Y m c) (C m c) 4096)

theorem final6 (c : Dev nD) : (dats m 0 c).arrAt 6 cfg0.N = res6 m c := by
  have hN : cfg0.N = 8 := N_0
  refine (dats m 0 c).arrAt_eq_of_cover 6 (res6 m c) (fun t hf => ?_) fun i => ?_
  · have h7 : t.val = 7 := by have := (flush0_6 t).mp hf; have := t.isLt; omega
    rw [Cert.Kernel6Ideal.Value.flushed6]
    funext y
    have hi := index6 t
    refine ((left m c t.val t.isLt).dw h7 y).trans ?_
    rw [View.read_apply]
    have e0 : (((cfg0.win 6).blk t).view.emb y 0).val = (y 0).val := by
      show win0_6.index t 0 * 4 + 1 * (y 0).val = _; omega
    have e1 : (((cfg0.win 6).blk t).view.emb y 1).val = (y 1).val := by
      show win0_6.index t 1 * 512 + 1 * (y 1).val = _; omega
    have e2 : (((cfg0.win 6).blk t).view.emb y 2).val = (y 2).val := by
      show win0_6.index t 2 * 1024 + 1 * (y 2).val = _; omega
    show _ = dwo _ _ _ _ _ (((cfg0.win 6).blk t).view.emb y 0).val (((cfg0.win 6).blk t).view.emb y 1).val (((cfg0.win 6).blk t).view.emb y 2).val
    rw [e0, e1, e2, h7]
    rfl
  · exact ⟨⟨7, by omega⟩, (flush0_6 _).mpr rfl, mem_blk6 _ i⟩

theorem mem_blk7 (t : Fin cfg0.N) (i : S8x1024.Idx) : i ∈ ((cfg0.win 7).blk t).view.set := by
  show i ∈ ((View.whole main_v5_2).slice (win0_7.rect t)).set
  rw [View.set_slice_whole, Rect.mem_set_unit]
  have hi := index7 t
  have i0 : (i 0).val < 8 := (i 0).isLt
  have i1 : (i 1).val < 1024 := (i 1).isLt
  intro a
  match a with
  | ⟨0, _⟩ => show win0_7.index t 0 * 8 ≤ (i 0).val ∧ (i 0).val < win0_7.index t 0 * 8 + 8; omega
  | ⟨1, _⟩ => show win0_7.index t 1 * 1024 ≤ (i 1).val ∧ (i 1).val < win0_7.index t 1 * 1024 + 1024; omega

abbrev res7 (c : Dev nD) : Vec Ideal S8x1024 .f32 := arr2 (dvo (D m c) (Vv m c) (Y m c) 4096)

theorem final7 (c : Dev nD) : (dats m 0 c).arrAt 7 cfg0.N = res7 m c := by
  have hN : cfg0.N = 8 := N_0
  refine (dats m 0 c).arrAt_eq_of_cover 7 (res7 m c) (fun t hf => ?_) fun i => ?_
  · have h7 : t.val = 7 := by have := (flush0_7 t).mp hf; have := t.isLt; omega
    rw [Cert.Kernel6Ideal.Value.flushed7]
    funext y
    have hi := index7 t
    refine ((left m c t.val t.isLt).dv y).trans ?_
    rw [View.read_apply]
    have e0 : (((cfg0.win 7).blk t).view.emb y 0).val = (y 0).val := by
      show win0_7.index t 0 * 8 + 1 * (y 0).val = _; omega
    have e1 : (((cfg0.win 7).blk t).view.emb y 1).val = (y 1).val := by
      show win0_7.index t 1 * 1024 + 1 * (y 1).val = _; omega
    show _ = dvo _ _ _ _ (((cfg0.win 7).blk t).view.emb y 0).val (((cfg0.win 7).blk t).view.emb y 1).val
    rw [e0, e1, h7]
    rfl
  · exact ⟨⟨7, by omega⟩, (flush0_7 _).mpr rfl, mem_blk7 _ i⟩

end Cert.Proj6
-- ==== Proof.Proj6Ref.lean ====
module

public import proofs.«01_k».proof.Proof.ProjOut
public import proofs.«01_k».proof.Proof.PoolRead
public import proofs.«01_k».proof.Proof.Gen.Reference6Ideal.Run
public import proofs.«01_k».proof.Proof.Gen.Reference6Ideal.Read

/-!
# The gradient through the projection out: what the reference's arrays are

The reference is differentiated as written: the norm's gradient comes in the two halves that squaring leaves, and the
matrices' gradient as one product of all steps, transposed.
-/

@[expose] public section

set_option maxRecDepth 16384

noncomputable section

namespace Cert.Proj6

open Cert.Reference6Ideal Cert.Reference6Ideal.Gen Cert.Reference6Ideal.Read Idealize.ShloMosaic Idealize.ShloMosaic.TcCoe
open Cert.Pool Cert.Proj
open scoped BigOperators

variable (d : Vec Ideal ⟨2, ![4096, 1024]⟩ .f32) (y : Vec Ideal ⟨2, ![4096, 2048]⟩ .bf16) (w : Vec Ideal ⟨3, ![4, 512, 1024]⟩ .bf16)
  (v : Vec Ideal ⟨2, ![8, 1024]⟩ .f32)

theorem r1 (i : S2048x1024.Idx) : val_main_v1 (F := Ideal) w i = (at3 (k := 4) (n := 512) (m := 1024) w) ((i 0).val / 512) ((i 0).val % 512) (i 1).val := by
  have h0 : (i 0).val < 2048 := (i 0).isLt
  have h1 : (i 1).val < 1024 := (i 1).isLt
  rw [val_main_v1_apply, val_main_v0_apply]
  exact at3_of (k := 4) (n := 512) (m := 1024) w _ (by show ((i 0).val * 1024 + (i 1).val) / 524288 = _; omega)
    (by show ((i 0).val * 1024 + (i 1).val) / 1024 % 512 = _; omega) (by show ((i 0).val * 1024 + (i 1).val) % 1024 = _; omega)

theorem r4 (k : S1024.Idx) : val_main_v4 (F := Ideal) v k = (at2 (n := 8) (m := 1024) v) 2 (k 0).val := by
  have hk : (k 0).val < 1024 := (k 0).isLt
  rw [val_main_v4_apply, val_main_v3_apply]
  exact at2_of (n := 8) (m := 1024) v _ rfl (by show (k 0).val % 1024 = _; omega)

theorem r6 (k : S1024.Idx) : val_main_v6 (F := Ideal) v k = (at2 (n := 8) (m := 1024) v) 4 (k 0).val := by
  have hk : (k 0).val < 1024 := (k 0).isLt
  rw [val_main_v6_apply, val_main_v5_apply]
  exact at2_of (n := 8) (m := 1024) v _ rfl (by show (k 0).val % 1024 = _; omega)

theorem r8 (i : S4096x1024.Idx) : val_main_v8 (F := Ideal) y w i = (yout (at2 (n := 4096) (m := 2048) y) (at3 (k := 4) (n := 512) (m := 1024) w)) (i 0).val (i 1).val := by
  rw [val_main_v8_apply]
  unfold yout
  refine Finset.sum_congr rfl fun j _ => ?_
  rw [r1, val_main_v2_apply]
  exact congrArg₂ (· * ·) (at2_of (n := 4096) (m := 2048) y _ rfl rfl) rfl

theorem r15 (i : S4096x1.Idx) : val_main_v15 (F := Ideal) y w i = sq (yout (at2 (n := 4096) (m := 2048) y) (at3 (k := 4) (n := 512) (m := 1024) w)) (i 0).val := by
  rw [val_main_v15_apply, val_main_v13_apply, val_main_v11_apply, val_main_v10_apply, val_main_v12_apply, val_main_v14_apply]
  simp only [val_main_v9_apply, val_main_cst_0_apply, val_main_cst_1_apply, val_main_cst_2_apply, r8]
  show Ideal.div (Ideal.ofBits .f32 0x00000000#32 + _) _ + _ = _
  rw [Ideal.ofBits_zero .f32, zero_add]
  rfl

theorem r16 (i : S4096x1.Idx) : val_main_v16 (F := Ideal) y w i = rs (yout (at2 (n := 4096) (m := 2048) y) (at3 (k := 4) (n := 512) (m := 1024) w)) (i 0).val := by
  rw [val_main_v16_apply, r15]
  rfl

theorem r19 (i : S4096x1.Idx) : val_main_v19 (F := Ideal) y w i = Ideal.ofBits .f32 0xBF000000#32 * Ideal.div (rs (yout (at2 (n := 4096) (m := 2048) y) (at3 (k := 4) (n := 512) (m := 1024) w)) (i 0).val) (sq (yout (at2 (n := 4096) (m := 2048) y) (at3 (k := 4) (n := 512) (m := 1024) w)) (i 0).val) := by
  rw [val_main_v19_apply, val_main_v17_apply, val_main_v18_apply, val_main_cst_3_apply, r15, r16]
  rfl

theorem r21 (i : S4096x1024.Idx) : val_main_v21 (F := Ideal) y w i = xn (yout (at2 (n := 4096) (m := 2048) y) (at3 (k := 4) (n := 512) (m := 1024) w)) (i 0).val (i 1).val := by
  rw [val_main_v21_apply, val_main_v20_apply, r16, r8]
  rfl

theorem r24 (i : S4096x1024.Idx) : val_main_v24 (F := Ideal) y w v i = xn (yout (at2 (n := 4096) (m := 2048) y) (at3 (k := 4) (n := 512) (m := 1024) w)) (i 0).val (i 1).val * (at2 (n := 8) (m := 1024) v) 4 (i 1).val := by
  rw [val_main_v24_apply, val_main_v23_apply, val_main_v22_apply, r21, r6]
  rfl

theorem r30 (i : S4096x1024.Idx) : val_main_v30 (F := Ideal) d v i = (at2 (n := 4096) (m := 1024) d) (i 0).val (i 1).val * (at2 (n := 8) (m := 1024) v) 2 (i 1).val := by
  rw [val_main_v30_apply, val_main_v29_apply, val_main_v25_apply, r4, at2_fn (n := 4096) (m := 1024) d]
  exact mul_comm _ _

theorem r39 (i : S4096x1024.Idx) : val_main_v39 (F := Ideal) d v i = aout (at2 (n := 4096) (m := 1024) d) (at2 (n := 8) (m := 1024) v) (i 0).val (i 1).val := by
  rw [val_main_v39_apply, val_main_v38_apply, val_main_v22_apply, r30, r6]
  rfl

theorem r34 (k : S1024.Idx) : val_main_v34 (F := Ideal) d y w v k = dvo (at2 (n := 4096) (m := 1024) d) (at2 (n := 8) (m := 1024) v) (yout (at2 (n := 4096) (m := 2048) y) (at3 (k := 4) (n := 512) (m := 1024) w)) 4096 0 (k 0).val := by
  have hk : (k 0).val < 1024 := (k 0).isLt
  rw [val_main_v34_apply, Fin.sum_univ_one, val_main_v33_apply, val_main_v32_apply]
  simp only [val_main_cst_4_apply, val_main_cst_5_apply, val_main_v31_apply, r24, at2_fn (n := 4096) (m := 1024) d]
  show Ideal.ofBits .f32 0x00000000#32 + (Ideal.ofBits .f32 0x00000000#32 + _) = _
  rw [Ideal.ofBits_zero .f32, zero_add, zero_add]
  unfold dvo
  rw [if_pos rfl, ← Fin.sum_univ_eq_sum_range (fun t => (at2 (n := 4096) (m := 1024) d) t (k 0).val * (xn (yout (at2 (n := 4096) (m := 2048) y) (at3 (k := 4) (n := 512) (m := 1024) w)) t (k 0).val * (at2 (n := 8) (m := 1024) v) 4 (k 0).val)) 4096]
  refine Finset.sum_congr rfl fun t _ => ?_
  have e : 0 * 1024 + (k 0).val = (k 0).val := by omega
  show (at2 (n := 4096) (m := 1024) d) t.val (0 * 1024 + (k 0).val) * (xn (yout (at2 (n := 4096) (m := 2048) y) (at3 (k := 4) (n := 512) (m := 1024) w)) t.val (0 * 1024 + (k 0).val) * (at2 (n := 8) (m := 1024) v) 4 (0 * 1024 + (k 0).val)) = _
  rw [e]

theorem r40 (k : S1024.Idx) : val_main_v40 (F := Ideal) d y w v k = dvo (at2 (n := 4096) (m := 1024) d) (at2 (n := 8) (m := 1024) v) (yout (at2 (n := 4096) (m := 2048) y) (at3 (k := 4) (n := 512) (m := 1024) w)) 4096 1 (k 0).val := by
  have hk : (k 0).val < 1024 := (k 0).isLt
  rw [val_main_v40_apply, Fin.sum_univ_one, val_main_v37_apply, val_main_v36_apply]
  simp only [val_main_cst_6_apply, val_main_cst_7_apply, val_main_v35_apply, r21, r30]
  show Ideal.ofBits .f32 0x00000000#32 + (Ideal.ofBits .f32 0x00000000#32 + _) = _
  rw [Ideal.ofBits_zero .f32, zero_add, zero_add]
  unfold dvo
  rw [if_neg (by decide), if_pos rfl, ← Fin.sum_univ_eq_sum_range (fun t => (at2 (n := 4096) (m := 1024) d) t (k 0).val * (at2 (n := 8) (m := 1024) v) 2 (k 0).val * xn (yout (at2 (n := 4096) (m := 2048) y) (at3 (k := 4) (n := 512) (m := 1024) w)) t (k 0).val) 4096]
  refine Finset.sum_congr rfl fun t _ => ?_
  have e : 0 * 1024 + (k 0).val = (k 0).val := by omega
  show xn (yout (at2 (n := 4096) (m := 2048) y) (at3 (k := 4) (n := 512) (m := 1024) w)) t.val (0 * 1024 + (k 0).val) * ((at2 (n := 4096) (m := 1024) d) t.val (0 * 1024 + (k 0).val) * (at2 (n := 8) (m := 1024) v) 2 (0 * 1024 + (k 0).val)) = _
  rw [e, mul_comm]

theorem r50 (i : S4096x1024.Idx) : val_main_v50 (F := Ideal) d y w v i = nq (aout (at2 (n := 4096) (m := 1024) d) (at2 (n := 8) (m := 1024) v)) (yout (at2 (n := 4096) (m := 2048) y) (at3 (k := 4) (n := 512) (m := 1024) w)) (i 0).val := by
  rw [val_main_v50_apply, val_main_v49_apply, Fin.sum_univ_one, val_main_v48_apply, val_main_v47_apply, val_main_v46_apply, val_main_v43_apply,
    val_main_v42_apply, r19]
  simp only [val_main_cst_8_apply, val_main_cst_9_apply, val_main_cst_10_apply, val_main_v41_apply, r39, r8]
  show Ideal.ofBits .f32 0x00000000#32 + Ideal.div ((Ideal.ofBits .f32 0x00000000#32 + _) * _) _ = _
  rw [Ideal.ofBits_zero .f32, zero_add, zero_add]
  refine congrArg₂ Ideal.div (congrArg₂ (· * ·) (Finset.sum_congr rfl fun k _ => ?_) rfl) rfl
  have e : (i 0).val * 1 + 0 = (i 0).val := by omega
  show (yout (at2 (n := 4096) (m := 2048) y) (at3 (k := 4) (n := 512) (m := 1024) w)) ((i 0).val * 1 + 0) k.val * aout (at2 (n := 4096) (m := 1024) d) (at2 (n := 8) (m := 1024) v) ((i 0).val * 1 + 0) k.val = _
  rw [e]

/-- The norm's two halves are the one product the kernel takes. -/
theorem r54 (i : S4096x1024.Idx) : val_main_v54 (F := Ideal) d y w v i = dy (at2 (n := 4096) (m := 1024) d) (at2 (n := 8) (m := 1024) v) (yout (at2 (n := 4096) (m := 2048) y) (at3 (k := 4) (n := 512) (m := 1024) w)) (i 0).val (i 1).val := by
  have hi : (i 1).val < 1024 := (i 1).isLt
  rw [val_main_v54_apply, val_main_v53_apply, val_main_v52_apply, val_main_v51_apply, val_main_v45_apply, val_main_v44_apply, r50, r39, r16, r8]
  exact (nb_eq_nr (aout (at2 (n := 4096) (m := 1024) d) (at2 (n := 8) (m := 1024) v)) (yout (at2 (n := 4096) (m := 2048) y) (at3 (k := 4) (n := 512) (m := 1024) w)) (i 0).val ⟨(i 1).val, hi⟩).symm

theorem ref57 : val_main_v57 (F := Ideal) d y w v = arr2 (dcat (at2 (n := 4096) (m := 1024) d) (at2 (n := 8) (m := 1024) v) (yout (at2 (n := 4096) (m := 2048) y) (at3 (k := 4) (n := 512) (m := 1024) w)) (at3 (k := 4) (n := 512) (m := 1024) w)) := by
  funext i
  rw [val_main_v57_apply]
  unfold arr2 dcat
  refine Finset.sum_congr rfl fun p _ => ?_
  rw [r54, r1]

theorem ref63 : val_main_v63 (F := Ideal) d y w v = arr3 (dwo (at2 (n := 4096) (m := 1024) d) (at2 (n := 8) (m := 1024) v) (yout (at2 (n := 4096) (m := 2048) y) (at3 (k := 4) (n := 512) (m := 1024) w)) (at2 (n := 4096) (m := 2048) y) 4096) := by
  funext i
  have h0 : (i 0).val < 4 := (i 0).isLt
  have h1 : (i 1).val < 512 := (i 1).isLt
  have h2 : (i 2).val < 1024 := (i 2).isLt
  rw [val_main_v63_apply, val_main_v62_apply, val_main_v56_apply]
  show val_main_v55 (F := Ideal) d y w v _ = _
  rw [val_main_v55_apply]
  unfold arr3 dwo
  rw [← Fin.sum_univ_eq_sum_range (fun t => (at2 (n := 4096) (m := 2048) y) t (512 * (i 0).val + (i 1).val) * dy (at2 (n := 4096) (m := 1024) d) (at2 (n := 8) (m := 1024) v) (yout (at2 (n := 4096) (m := 2048) y) (at3 (k := 4) (n := 512) (m := 1024) w)) t (i 2).val) 4096]
  refine Finset.sum_congr rfl fun t _ => ?_
  rw [mul_comm, r54, val_main_v2_apply]
  have e1 : (((i 0).val * 512 + (i 1).val) * 1024 + (i 2).val) / 1024 = 512 * (i 0).val + (i 1).val := by omega
  have e2 : (((i 0).val * 512 + (i 1).val) * 1024 + (i 2).val) % 1024 = (i 2).val := by omega
  exact congrArg₂ (· * ·) (at2_of (n := 4096) (m := 2048) y _ rfl e1) (congrArg (dy (at2 (n := 4096) (m := 1024) d) (at2 (n := 8) (m := 1024) v) (yout (at2 (n := 4096) (m := 2048) y) (at3 (k := 4) (n := 512) (m := 1024) w)) t.val) e2)

theorem ref61 : val_main_v61 (F := Ideal) d y w v = arr2 (dvo (at2 (n := 4096) (m := 1024) d) (at2 (n := 8) (m := 1024) v) (yout (at2 (n := 4096) (m := 2048) y) (at3 (k := 4) (n := 512) (m := 1024) w)) 4096) := by
  funext i
  unfold val_main_v61
  refine (M2.rows (F := dvo (at2 (n := 4096) (m := 1024) d) (at2 (n := 8) (m := 1024) v) (yout (at2 (n := 4096) (m := 2048) y) (at3 (k := 4) (n := 512) (m := 1024) w)) 4096) ?_ ?_ ?_ _).at i rfl rfl
  · intro r c
    rw [val_main_v58_apply, r34]
    rfl
  · intro r c
    rw [val_main_v59_apply, r40]
    rfl
  · intro r c
    rw [val_main_v60_apply, val_main_cst_11_apply]
    unfold dvo
    dsimp only
    rw [if_neg (by omega), if_neg (by omega)]
    exact Ideal.ofBits_zero .f32

end Cert.Proj6
-- ==== Proof.PoolFwdPay.lean ====
module

public import proofs.«01_k».proof.Proof.PoolKernel
public import proofs.«01_k».proof.Proof.Gen.Kernel7Ideal.Value

/-!
# The pooled branch forward: what the kernel's array ends holding

The forward call reads the same slots of the projections as the gradient does, so the functions of step and lane are
the gradient's; its result is the gated mean. A tile's sixteen rows of history are carried from the tile before.
-/

@[expose] public section

set_option maxRecDepth 16384

noncomputable section

namespace Cert.Fwd

open Cert.Kernel7Ideal Cert.Kernel7Ideal.Gen Cert.Kernel7Ideal.Value Idealize.ShloMosaic Idealize.ShloMosaic.TcCoe Idealize.SL.Sem
open Cert.Pool (Data M2 M3 inv wsum back sgm count_eq piece2 piece3 canon_at load2 load3 pcons pnil mem2 mem3 idx2 lane_div lane_mod
  read_writes_at at2 at3 at2_of at3_of at2_eq at3_eq dataOf)
open Idealize.ShloMosaic.Pipeline (Dat)

/-- The gated mean. -/
def yv (d : Data) (g t c : ℕ) : EReal :=
  d.z g t c * d.Sc (256 * g + c) * (d.G t (256 * g + c) * sgm (d.G t (256 * g + c)))

theorem back_xb (d : Data) (T : ℕ) (g c : ℕ) {r : ℕ} (a k : ℕ) (ha : a = 16 + r - k) (hk : k < 16) :
    d.xb T a (256 * g + c) = back (fun s => d.X s (256 * g + c)) (512 * T + r) k := by
  subst ha
  simp only [Data.xb, back]
  by_cases h : k ≤ 512 * T + r
  · rw [if_pos (by omega), if_pos h]
    congr 1
    omega
  · rw [if_neg (by omega), if_neg h]

theorem pay2 {x : FVec Ideal S16x1024 .f32} {F : ℕ → ℕ → EReal} (h : M2 x F) : M2 (k0_pay2 (F := Ideal) x) F := by
  intro r c
  unfold k0_pay2
  pointwise
  exact h r c

theorem pay3 : M2 (k0_pay3 (F := Ideal)) (fun _ _ => 0) := by
  intro r c
  unfold k0_pay3
  pointwise

theorem pay4 {x : FVec Ideal S1x512x1024 .f32} {F : ℕ → ℕ → EReal} (h : M3 x (fun _ => F)) : M2 (k0_pay4 (F := Ideal) x) F := by
  intro r c
  unfold k0_pay4
  pointwise
  exact h 0 r c

set_option maxHeartbeats 1000000 in
theorem pay5 {d : Data} {T : ℕ} {i : grid0.Coords} (hv : BitVec.ofNat 32 (i 0).val = BitVec.ofNat 32 T) (hT : T < 8) {x : FVec Ideal S1x512x256 .f32} (hx : M3 x (fun _ r c => d.X (512 * T + r) (256 * 0 + c))) {xb : FVec Ideal S528x256 .f32} (hb : M2 xb (fun k c => d.xb T k (256 * 0 + c))) {w : FVec Ideal S1x256x256 .bf16} (hw : M3 w (fun _ i j => d.W 0 i j)) {b : FVec Ideal S1x256 .f32} (hB : M2 b (fun _ c => d.B (256 * 0 + c))) :
    M2 (k0_pay5 (F := Ideal) i x xb w b) (fun r c => d.z 0 (512 * T + r) c) := by
  simp only [M2, M3] at *
  intro r c
  unfold k0_pay5
  pointwise
  simp only [hx, hb, hw, hB]
  unfold Data.z
  refine congrArg₂ HAdd.hAdd (Finset.sum_congr rfl fun c _ => congrArg₂ HMul.hMul ?_ rfl) rfl
  unfold Data.pooled
  simp only [show 2 ^ (0 + 1) = 2 from rfl, wsum, Finset.sum_range_succ, Finset.sum_range_zero, zero_add, add_assoc]
  refine congrArg₂ HSub.hSub (congrArg₂ HMul.hMul ?_ (congrArg (Ideal.div 1) (count_eq (w := 2) hv hT r.isLt (by norm_num)))) rfl
  exact (congrArg₂ HAdd.hAdd (back_xb d T 0 c.val _ 0 (by omega) (by omega))
      (back_xb d T 0 c.val _ 1 (by omega) (by omega)))

theorem pay6 {d : Data} {T : ℕ} {z : FVec Ideal S512x256 .f32} (hz : M2 z (fun r c => d.z 0 (512 * T + r) c)) {gt : FVec Ideal S1x512x256 .f32} (hG : M3 gt (fun _ r c => d.G (512 * T + r) (256 * 0 + c))) {sc : FVec Ideal S1x256 .f32} (hS : M2 sc (fun _ c => d.Sc (256 * 0 + c))) :
    M2 (k0_pay6 (F := Ideal) z gt sc) (fun r c => yv d 0 (512 * T + r) c) := by
  simp only [M2, M3] at *
  intro r c
  unfold k0_pay6
  pointwise
  simp only [hz, hG, hS]
  rfl

theorem pay7 {d : Data} {T : ℕ} {v : BitVec 32} (hv : v = BitVec.ofNat 32 T) (hT : T < 8) {x : FVec Ideal S1x512x256 .f32} (hx : M3 x (fun _ r c => d.X (512 * T + r) (256 * 1 + c))) {xb : FVec Ideal S528x256 .f32} (hb : M2 xb (fun k c => d.xb T k (256 * 1 + c))) :
    M2 (k0_pay7 (F := Ideal) v x xb) (fun r c => d.pooled 1 (512 * T + r) c) := by
  simp only [M2, M3] at *
  intro r c
  unfold k0_pay7
  pointwise
  simp only [hx, hb]
  unfold Data.pooled
  simp only [show 2 ^ (1 + 1) = 4 from rfl, wsum, Finset.sum_range_succ, Finset.sum_range_zero, zero_add, add_assoc]
  refine congrArg₂ HSub.hSub (congrArg₂ HMul.hMul ?_ (congrArg (Ideal.div 1) (count_eq (w := 4) hv hT r.isLt (by norm_num)))) rfl
  exact (congrArg₂ HAdd.hAdd (back_xb d T 1 c.val _ 0 (by omega) (by omega))
      (congrArg₂ HAdd.hAdd (back_xb d T 1 c.val _ 1 (by omega) (by omega))
      (congrArg₂ HAdd.hAdd (back_xb d T 1 c.val _ 2 (by omega) (by omega))
      (back_xb d T 1 c.val _ 3 (by omega) (by omega)))))

theorem pay8 {d : Data} {T : ℕ} {p : FVec Ideal S512x256 .bf16} (hp : M2 p (fun r c => d.pooled 1 (512 * T + r) c)) {w : FVec Ideal S1x256x256 .bf16} (hw : M3 w (fun _ i j => d.W 1 i j)) {b : FVec Ideal S1x256 .f32} (hB : M2 b (fun _ c => d.B (256 * 1 + c))) {gt : FVec Ideal S1x512x256 .f32} (hG : M3 gt (fun _ r c => d.G (512 * T + r) (256 * 1 + c))) {sc : FVec Ideal S1x256 .f32} (hS : M2 sc (fun _ c => d.Sc (256 * 1 + c))) :
    M2 (k0_pay8 (F := Ideal) p w b gt sc) (fun r c => yv d 1 (512 * T + r) c) := by
  simp only [M2, M3] at *
  intro r c
  unfold k0_pay8
  pointwise
  simp only [hp, hw, hB, hG, hS]
  rfl

theorem pay9 {d : Data} {T : ℕ} {x : FVec Ideal S1x512x256 .f32} (hx : M3 x (fun _ r c => d.X (512 * T + r) (256 * 2 + c))) : M2 (k0_pay9 (F := Ideal) x) (fun r c => d.X (512 * T + r) (256 * 2 + c)) := by
  simp only [M2, M3] at *
  intro r c
  unfold k0_pay9
  pointwise
  exact hx 0 r c

theorem pay10 {T : ℕ} {v : BitVec 32} (hv : v = BitVec.ofNat 32 T) (hT : T < 8) : M2 (k0_pay10 (F := Ideal) v) (fun r _ => inv 8 (512 * T + r)) := by
  simp only [M2, M3] at *
  intro r c
  unfold k0_pay10
  pointwise
  exact congrArg (Ideal.div 1) (count_eq (w := 8) hv hT r.isLt (by norm_num))

set_option maxHeartbeats 1000000 in
theorem pay11 {d : Data} {T : ℕ} {x : FVec Ideal S512x256 .f32} (hx : M2 x (fun r c => d.X (512 * T + r) (256 * 2 + c))) {n : FVec Ideal S512x256 .f32} (hn : M2 n (fun r _ => inv 8 (512 * T + r))) {xb : FVec Ideal S528x256 .f32} (hb : M2 xb (fun k c => d.xb T k (256 * 2 + c))) {w : FVec Ideal S1x256x256 .bf16} (hw : M3 w (fun _ i j => d.W 2 i j)) {b : FVec Ideal S1x256 .f32} (hB : M2 b (fun _ c => d.B (256 * 2 + c))) {gt : FVec Ideal S1x512x256 .f32} (hG : M3 gt (fun _ r c => d.G (512 * T + r) (256 * 2 + c))) {sc : FVec Ideal S1x256 .f32} (hS : M2 sc (fun _ c => d.Sc (256 * 2 + c))) :
    M2 (k0_pay11 (F := Ideal) x n xb w b gt sc) (fun r c => yv d 2 (512 * T + r) c) := by
  simp only [M2, M3] at *
  intro r c
  unfold k0_pay11
  pointwise
  simp only [hx, hn, hb, hw, hB, hG, hS]
  unfold yv Data.z
  refine congrArg₂ HMul.hMul (congrArg₂ HMul.hMul (congrArg₂ HAdd.hAdd (Finset.sum_congr rfl fun c _ => congrArg₂ HMul.hMul ?_ rfl) rfl) rfl) rfl
  unfold Data.pooled
  simp only [show 2 ^ (2 + 1) = 8 from rfl, wsum, Finset.sum_range_succ, Finset.sum_range_zero, zero_add, add_assoc]
  refine congrArg₂ HSub.hSub (congrArg₂ HMul.hMul ?_ rfl) rfl
  exact (congrArg₂ HAdd.hAdd (back_xb d T 2 c.val _ 0 (by omega) (by omega))
      (congrArg₂ HAdd.hAdd (back_xb d T 2 c.val _ 1 (by omega) (by omega))
      (congrArg₂ HAdd.hAdd (back_xb d T 2 c.val _ 2 (by omega) (by omega))
      (congrArg₂ HAdd.hAdd (back_xb d T 2 c.val _ 3 (by omega) (by omega))
      (congrArg₂ HAdd.hAdd (back_xb d T 2 c.val _ 4 (by omega) (by omega))
      (congrArg₂ HAdd.hAdd (back_xb d T 2 c.val _ 5 (by omega) (by omega))
      (congrArg₂ HAdd.hAdd (back_xb d T 2 c.val _ 6 (by omega) (by omega))
      (back_xb d T 2 c.val _ 7 (by omega) (by omega)))))))))

theorem pay12 {d : Data} {T : ℕ} {x : FVec Ideal S1x512x256 .f32} (hx : M3 x (fun _ r c => d.X (512 * T + r) (256 * 3 + c))) : M2 (k0_pay12 (F := Ideal) x) (fun r c => d.X (512 * T + r) (256 * 3 + c)) := by
  simp only [M2, M3] at *
  intro r c
  unfold k0_pay12
  pointwise
  exact hx 0 r c

theorem pay13 {d : Data} {T : ℕ} {gt : FVec Ideal S1x512x256 .f32} (hG : M3 gt (fun _ r c => d.G (512 * T + r) (256 * 3 + c))) : M2 (k0_pay13 (F := Ideal) gt) (fun r c => d.G (512 * T + r) (256 * 3 + c)) := by
  simp only [M2, M3] at *
  intro r c
  unfold k0_pay13
  pointwise
  exact hG 0 r c

set_option maxHeartbeats 2000000 in
theorem pay14 {d : Data} {T : ℕ} {v : BitVec 32} (hv : v = BitVec.ofNat 32 T) (hT : T < 8) {x : FVec Ideal S512x256 .f32} (hx : M2 x (fun r c => d.X (512 * T + r) (256 * 3 + c))) {xb : FVec Ideal S528x256 .f32} (hb : M2 xb (fun k c => d.xb T k (256 * 3 + c))) {w : FVec Ideal S1x256x256 .bf16} (hw : M3 w (fun _ i j => d.W 3 i j)) {b : FVec Ideal S1x256 .f32} (hB : M2 b (fun _ c => d.B (256 * 3 + c))) {sc : FVec Ideal S1x256 .f32} (hS : M2 sc (fun _ c => d.Sc (256 * 3 + c))) :
    M2 (k0_pay14 (F := Ideal) v x 512#32 xb w b sc) (fun r c => d.z 3 (512 * T + r) c * d.Sc (256 * 3 + c)) := by
  simp only [M2, M3] at *
  intro r c
  unfold k0_pay14
  pointwise
  simp only [hx, hb, hw, hB, hS]
  unfold Data.z
  refine congrArg₂ HMul.hMul (congrArg₂ HAdd.hAdd (Finset.sum_congr rfl fun c _ => congrArg₂ HMul.hMul ?_ rfl) rfl) rfl
  unfold Data.pooled
  simp only [show 2 ^ (3 + 1) = 16 from rfl, wsum, Finset.sum_range_succ, Finset.sum_range_zero, zero_add, add_assoc]
  refine congrArg₂ HSub.hSub (congrArg₂ HMul.hMul ?_ (congrArg (Ideal.div 1) (count_eq (w := 16) hv hT r.isLt (by norm_num)))) rfl
  exact (congrArg₂ HAdd.hAdd (back_xb d T 3 c.val _ 0 (by omega) (by omega))
      (congrArg₂ HAdd.hAdd (back_xb d T 3 c.val _ 1 (by omega) (by omega))
      (congrArg₂ HAdd.hAdd (back_xb d T 3 c.val _ 2 (by omega) (by omega))
      (congrArg₂ HAdd.hAdd (back_xb d T 3 c.val _ 3 (by omega) (by omega))
      (congrArg₂ HAdd.hAdd (back_xb d T 3 c.val _ 4 (by omega) (by omega))
      (congrArg₂ HAdd.hAdd (back_xb d T 3 c.val _ 5 (by omega) (by omega))
      (congrArg₂ HAdd.hAdd (back_xb d T 3 c.val _ 6 (by omega) (by omega))
      (congrArg₂ HAdd.hAdd (back_xb d T 3 c.val _ 7 (by omega) (by omega))
      (congrArg₂ HAdd.hAdd (back_xb d T 3 c.val _ 8 (by omega) (by omega))
      (congrArg₂ HAdd.hAdd (back_xb d T 3 c.val _ 9 (by omega) (by omega))
      (congrArg₂ HAdd.hAdd (back_xb d T 3 c.val _ 10 (by omega) (by omega))
      (congrArg₂ HAdd.hAdd (back_xb d T 3 c.val _ 11 (by omega) (by omega))
      (congrArg₂ HAdd.hAdd (back_xb d T 3 c.val _ 12 (by omega) (by omega))
      (congrArg₂ HAdd.hAdd (back_xb d T 3 c.val _ 13 (by omega) (by omega))
      (congrArg₂ HAdd.hAdd (back_xb d T 3 c.val _ 14 (by omega) (by omega))
      (back_xb d T 3 c.val _ 15 (by omega) (by omega)))))))))))))))))

theorem pay15 {d : Data} {T : ℕ} {gt : FVec Ideal S1x512x256 .f32} (hG : M3 gt (fun _ r c => d.G (512 * T + r) (256 * 3 + c))) : M2 (k0_pay15 (F := Ideal) gt) (fun r c => Ideal.exp (0 - d.G (512 * T + r) (256 * 3 + c))) := by
  have e := pay13 hG
  simp only [M2, M3] at *
  intro r c
  unfold k0_pay15
  pointwise
  simp only [e]

theorem pay1 {d : Data} {T : ℕ} {gt : FVec Ideal S512x256 .f32} (hG : M2 gt (fun r c => d.G (512 * T + r) (256 * 3 + c)))
    {z : FVec Ideal S512x256 .f32} (hz : M2 z (fun r c => d.z 3 (512 * T + r) c * d.Sc (256 * 3 + c)))
    {q : FVec Ideal S512x256 .f32} (hq : M2 q (fun r c => Ideal.exp (0 - d.G (512 * T + r) (256 * 3 + c)))) :
    M2 (k0_pay1 (F := Ideal) gt z q (Scalar.ofBits .f32 0x3F800000#32)) (fun r c => yv d 3 (512 * T + r) c) := by
  simp only [M2, M3] at *
  intro r c
  unfold k0_pay1
  pointwise
  simp only [hG, hz, hq]
  rfl

end Cert.Fwd
end
-- ==== Proof.PoolFwd.lean ====
module

public import proofs.«01_k».proof.Proof.PoolFwdPay

/-!
# The pooled branch forward: what one tile's point leaves
-/

@[expose] public section

set_option maxRecDepth 16384

noncomputable section

namespace Cert.Fwd

open Cert.Kernel7Ideal Cert.Kernel7Ideal.Gen Cert.Kernel7Ideal.Value Idealize.ShloMosaic Idealize.ShloMosaic.TcCoe Idealize.SL.Sem
open Cert.Pool (Data M2 M3 inv wsum back sgm count_eq piece2 piece3 canon_at load2 load3 pcons pnil mem2 mem3 idx2 lane_div lane_mod
  read_writes_at at2 at3 at2_of at3_of at2_eq at3_eq dataOf)
open Idealize.ShloMosaic.Pipeline (Dat)

/-- The three blocks the body reads at tile `T`. -/
structure FTile (d : Data) (T : ℕ) (x0 : Vec Ideal S2x512x1024 .f32) (x3 : Vec Ideal S4x256x256 .bf16) (x4 : Vec Ideal S8x1024 .f32) : Prop where
  lt : T < 8
  x : ∀ (r : Fin 512) (l : Fin 1024), x0 (ix3 0 r l) = d.X (512 * T + r.val) l.val
  g : ∀ (r : Fin 512) (l : Fin 1024), x0 (ix3 1 r l) = d.G (512 * T + r.val) l.val
  w : M3 (k := 4) (n := 256) (m := 256) x3 d.W
  b : ∀ l : Fin 1024, x4 (ix2 0 l) = d.B l.val
  sc : ∀ l : Fin 1024, x4 (ix2 1 l) = d.Sc l.val

namespace FTile

variable {d : Data} {T : ℕ} {x0 : Vec Ideal S2x512x1024 .f32} {x3 : Vec Ideal S4x256x256 .bf16} {x4 : Vec Ideal S8x1024 .f32}
  (h : FTile d T x0 x3 x4)
include h

theorem ldA {inb} : M3 (View.ld x0 (Rect.unit ![0, 0, 0] S1x512x1024.size inb)) (fun _ r l => d.X (512 * T + r) l) := by
  intro a r c
  obtain rfl : a = 0 := Subsingleton.elim _ _
  refine (load3 x0 _ _ _ (by decide) (by omega) (by omega)).trans ?_
  simpa using h.x r c

theorem ldX {g : ℕ} (hg : g < 4) {inb} : M3 (View.ld x0 (Rect.unit ![0, 0, 256 * g] S1x512x256.size inb)) (fun _ r c => d.X (512 * T + r) (256 * g + c)) := by
  intro a r c
  obtain rfl : a = 0 := Subsingleton.elim _ _
  refine (load3 x0 _ _ _ (by decide) (by omega) (by omega)).trans ?_
  simpa using h.x r ⟨256 * g + c.val, by omega⟩

theorem ldG {g : ℕ} (hg : g < 4) {inb} : M3 (View.ld x0 (Rect.unit ![1, 0, 256 * g] S1x512x256.size inb)) (fun _ r c => d.G (512 * T + r) (256 * g + c)) := by
  intro a r c
  obtain rfl : a = 0 := Subsingleton.elim _ _
  refine (load3 x0 _ _ _ (by decide) (by omega) (by omega)).trans ?_
  simpa using h.g r ⟨256 * g + c.val, by omega⟩

theorem ldW {g : ℕ} (hg : g < 4) {inb} : M3 (View.ld x3 (Rect.unit ![g, 0, 0] S1x256x256.size inb)) (fun _ i j => d.W g i j) := by
  intro a i j
  obtain rfl : a = 0 := Subsingleton.elim _ _
  refine (load3 x3 _ _ _ (by simpa using hg) (by omega) (by omega)).trans ?_
  simpa using h.w ⟨g, hg⟩ i j

theorem ldB {g : ℕ} (hg : g < 4) {inb} : M2 (View.ld x4 (Rect.unit ![0, 256 * g] S1x256.size inb)) (fun _ c => d.B (256 * g + c)) := by
  intro r c
  obtain rfl : r = 0 := Subsingleton.elim _ _
  refine (load2 x4 _ _ (by decide) (by omega)).trans ?_
  simpa using h.b ⟨256 * g + c.val, by omega⟩

theorem ldSc {g : ℕ} (hg : g < 4) {inb} : M2 (View.ld x4 (Rect.unit ![1, 256 * g] S1x256.size inb)) (fun _ c => d.Sc (256 * g + c)) := by
  intro r c
  obtain rfl : r = 0 := Subsingleton.elim _ _
  refine (load2 x4 _ _ (by decide) (by omega)).trans ?_
  simpa using h.sc ⟨256 * g + c.val, by omega⟩

end FTile

/-- The tile's block of the result. -/
def outF (d : Data) (T r l : ℕ) : EReal := yv d (l / 256) (512 * T + r) (l % 256)

theorem pout (d : Data) (T g : ℕ) : ∀ i j, i < 512 → j < 256 → yv d g (512 * T + i) j = outF d T (0 + i) (256 * g + j) := by
  intro i j hi hj
  simp only [outF, lane_div hj, lane_mod hj, Nat.zero_add]

/-- The tile's own rows of the buffer. -/
theorem prow (d : Data) (T : ℕ) : ∀ i j, i < 512 → j < 1024 → d.X (512 * T + i) j = d.xb T (16 + i) (0 + j) := by
  intro i j hi hj
  rw [Data.xb, if_pos (by omega), Nat.zero_add]
  congr 1
  omega

/-- Before the first tile there is nothing. -/
theorem pzero (d : Data) : ∀ i j, i < 16 → j < 1024 → (0 : EReal) = d.xb 0 (0 + i) (0 + j) := by
  intro i j hi hj
  rw [Data.xb, if_neg (by omega)]

/-- The last sixteen rows are the next tile's history. -/
theorem pnext (d : Data) (T : ℕ) : ∀ i j, i < 16 → j < 1024 → d.xb T (512 + i) j = d.xb (T + 1) (0 + i) (0 + j) := by
  intro i j hi hj
  rw [Data.xb, Data.xb, if_pos (by omega), if_pos (by omega), Nat.zero_add, Nat.zero_add]
  congr 1
  omega

namespace FTile

variable {d : Data} {T : ℕ} {x0 : Vec Ideal S2x512x1024 .f32} {x3 : Vec Ideal S4x256x256 .bf16} {x4 : Vec Ideal S8x1024 .f32}

/-- The buffer of the first tile, read at a group's lanes. -/
theorem xbA (h : FTile d 0 x0 x3 x4) {g : ℕ} (hg : g < 4) {sig : RefSig} {κ : Kind} {sp : Space} (v : View sig κ sp S528x1024 .f32) {inb1 inb2 inb3 inb} :
    M2 (v.readCov (Val := Elt Ideal) [⟨Rect.unit ![16, 0] ![512, 1024] inb1, k0_pay4 (View.ld x0 (Rect.unit ![0, 0, 0] ![1, 512, 1024] inb2))⟩,
        ⟨Rect.unit ![0, 0] ![16, 1024] inb3, k0_pay3 (F := Ideal)⟩]
        (Rect.unit (s := S528x1024) ![0, 256 * g] ![528, 256] inb).toLoadRect) (fun k c => d.xb 0 k (256 * g + c)) := by
  intro r c
  rw [View.readCov_eq_canon']
  have hr := r.isLt
  have e : (Rect.unit (s := S528x1024) ![0, 256 * g] ![528, 256] inb).toLoadRect.idx (ix2 r c)
      = ix2 r ⟨256 * g + c.val, by omega⟩ := idx2 _ _ (by simp) (by simp)
  dsimp only
  rw [e]
  refine (canon_at (fun y : S528x1024.Idx => d.xb 0 (y 0).val (y 1).val) _
    (pcons (piece2 (d.xb 0) (pay4 h.ldA) (prow d 0)) (pcons (piece2 (d.xb 0) pay3 (pzero d)) pnil)) _ ?_).trans ?_
  · by_cases hlt : r.val < 16
    · refine List.exists_mem_cons_of_exists (List.exists_mem_cons_of _ ?_)
      exact mem2 (inb := inb3) _ (Nat.zero_le _) (by simpa using hlt) (Nat.zero_le _) (by simp <;> omega)
    · refine List.exists_mem_cons_of _ ?_
      exact mem2 (inb := inb1) _ (by simpa using hlt) (by simp <;> omega) (Nat.zero_le _) (by simp <;> omega)
  · rfl

/-- The buffer of a later tile: its rows over the history the tile before left. -/
theorem xbB (h : FTile d T x0 x3 x4) {g : ℕ} (hg : g < 4) {sig : RefSig} {κ : Kind} {sp : Space} (v : View sig κ sp S528x1024 .f32)
    (f : v.ty.Contents (Elt Ideal)) (hf : ∀ y : S528x1024.Idx, (y 0).val < 16 → v.read (Elt Ideal) f y = d.xb T (y 0).val (y 1).val) {inb1 inb2 inb} :
    M2 (View.ld (v.read (Elt Ideal) (v.writes (Elt Ideal) f
        [⟨Rect.unit ![16, 0] ![512, 1024] inb1, k0_pay4 (View.ld x0 (Rect.unit ![0, 0, 0] ![1, 512, 1024] inb2))⟩]))
        (Rect.unit (s := S528x1024) ![0, 256 * g] ![528, 256] inb)) (fun k c => d.xb T k (256 * g + c)) := by
  intro r c
  have hr := r.isLt
  have hc := c.isLt
  refine (load2 _ _ _ (by omega) (by omega)).trans ?_
  refine (read_writes_at v f (fun y : S528x1024.Idx => d.xb T (y 0).val (y 1).val) _ _
    (pcons (piece2 (d.xb T) (pay4 h.ldA) (prow d T)) pnil) ?_).trans ?_
  · by_cases hlt : r.val < 16
    · exact Or.inl (hf _ (by simpa using hlt))
    · refine Or.inr (List.exists_mem_cons_of _ ?_)
      exact mem2 (inb := inb1) _ (by simpa using hlt) (by simp <;> omega) (Nat.zero_le _) (by simp <;> omega)
  · simp

/-- The rows a tile hands on. -/
theorem hist (h : FTile d T x0 x3 x4) {sig : RefSig} {κ : Kind} {sp : Space} (v : View sig κ sp S528x1024 .f32) {inb1 inb2 inb}
    (L : List (View.Piece (Elt Ideal) S528x1024 .f32)) :
    M2 (v.readCov (Val := Elt Ideal) (⟨Rect.unit ![16, 0] ![512, 1024] inb1, k0_pay4 (View.ld x0 (Rect.unit ![0, 0, 0] ![1, 512, 1024] inb2))⟩ :: L)
        (Rect.unit (s := S528x1024) ![512, 0] ![16, 1024] inb).toLoadRect) (fun k l => d.xb T (512 + k) l) := by
  intro r c
  rw [View.readCov_eq_canon']
  have hr := r.isLt
  have hc := c.isLt
  have e : (Rect.unit (s := S528x1024) ![512, 0] ![16, 1024] inb).toLoadRect.idx (ix2 r c)
      = ix2 ⟨512 + r.val, by omega⟩ c := idx2 _ _ (by simp) (by simp)
  dsimp only
  rw [e]
  have hm : (ix2 ⟨512 + r.val, by omega⟩ c : S528x1024.Idx) ∈ (Rect.unit (s := S528x1024) ![16, 0] ![512, 1024] inb1).set :=
    mem2 (inb := inb1) _ (by simp <;> omega) (by simp <;> omega) (Nat.zero_le _) (by simp <;> omega)
  obtain ⟨x, hx⟩ : ∃ x, (Rect.unit (s := S528x1024) ![16, 0] ![512, 1024] inb1).emb x = ix2 ⟨512 + r.val, by omega⟩ c :=
    (Rect.unit (s := S528x1024) ![16, 0] ![512, 1024] inb1).exists_idx_of_mem hm
  have hp := piece2 (inb := inb1) (d.xb T) (pay4 (h.ldA (inb := inb2))) (prow d T) x
  rw [hx] at hp
  rw [← hx, View.canon_cons_emb]
  exact hp

end FTile

/-- What a tile leaves in the history's rows. -/
theorem first16 {d : Data} {T : ℕ} {w : (⟨2, ![16, 1024]⟩ : Shape).Idx → EReal} (hw : M2 w (fun k l => d.xb T (512 + k) l)) {inb}
    (L : List (View.Piece (Elt Ideal) S528x1024 .f32)) (y : S528x1024.Idx) (hy : (y 0).val < 16) :
    View.canon (Val := Elt Ideal) (⟨Rect.unit (s := S528x1024) ![0, 0] ![16, 1024] inb, w⟩ :: L) y = d.xb (T + 1) (y 0).val (y 1).val := by
  have h1 : (y 1).val < 1024 := (y 1).isLt
  have hm : y ∈ (Rect.unit (s := S528x1024) ![0, 0] ![16, 1024] inb).set :=
    mem2 (inb := inb) _ (Nat.zero_le _) (by omega) (Nat.zero_le _) (by omega)
  obtain ⟨x, hx⟩ : ∃ x, (Rect.unit (s := S528x1024) ![0, 0] ![16, 1024] inb).emb x = y :=
    (Rect.unit (s := S528x1024) ![0, 0] ![16, 1024] inb).exists_idx_of_mem hm
  have hp := piece2 (inb := inb) (d.xb (T + 1)) hw (pnext d T) x
  rw [hx] at hp
  rw [← hx, View.canon_cons_emb, hp, hx]

section

variable (c : Dev nD) (i : grid0.Coords) (arg1 : Memref sig .tc .vmem S2x512x1024 .f32) (harg1 : arg1.IsWhole) (arg3 : Memref sig .tc .vmem S4x256x256 .bf16) (harg3 : arg3.IsWhole) (arg4 : Memref sig .tc .vmem S8x1024 .f32) (harg4 : arg4.IsWhole) (arg5 : Memref sig .tc .vmem S512x1024 .bf16) (harg5 : arg5.IsWhole) (arg6 : Memref sig .tc .vmem S528x1024 .f32) (harg6 : arg6.IsWhole)
  {d : Data} {T : ℕ} (x0 : Vec Ideal S2x512x1024 .f32) (x1 : Vec Ideal S4x256x256 .bf16) (x2 : Vec Ideal S8x1024 .f32)

set_option maxHeartbeats 2000000 in
theorem out_A (hc0 : cond0_0 i) (h : FTile d 0 x0 x1 x2) (hv : BitVec.ofNat 32 (i 0).val = BitVec.ofNat 32 0) (y : S512x1024.Idx) :
    out0_A_3 (F := Ideal) c i arg1 harg1 arg3 harg3 arg4 harg4 arg5 harg5 arg6 harg6 hc0 x0 x1 x2 y = outF d 0 (y 0).val (y 1).val := by
  unfold out0_A_3
  have hT := h.lt
  rw [View.read_writes_junk_eq_canon]
  refine canon_at (fun y : S512x1024.Idx => outF d 0 (y 0).val (y 1).val) _ ?_ y (cover0_A_3 c i arg1 harg1 arg3 harg3 arg4 harg4 arg5 harg5 arg6 harg6 hc0 x0 x1 x2 y)
  unfold kernelRun0_A
  dsimp only
  sl_unfold_words
  simp (discharger := assumption) only [View.readAt_eq_ld, Memref.IsWhole.read_unread]
  exact (pcons (piece2 (outF d 0) (pay1 (pay13 (h.ldG (g := 3) (by decide))) (pay14 hv hT (pay12 (h.ldX (g := 3) (by decide))) (h.xbA (g := 3) (by decide) _) (h.ldW (g := 3) (by decide)) (h.ldB (g := 3) (by decide)) (h.ldSc (g := 3) (by decide))) (pay15 (h.ldG (g := 3) (by decide)))) (pout d 0 3))
    (pcons (piece2 (outF d 0) (pay11 (pay9 (h.ldX (g := 2) (by decide))) (pay10 hv hT) (h.xbA (g := 2) (by decide) _) (h.ldW (g := 2) (by decide)) (h.ldB (g := 2) (by decide)) (h.ldG (g := 2) (by decide)) (h.ldSc (g := 2) (by decide))) (pout d 0 2))
    (pcons (piece2 (outF d 0) (pay8 (pay7 hv hT (h.ldX (g := 1) (by decide)) (h.xbA (g := 1) (by decide) _)) (h.ldW (g := 1) (by decide)) (h.ldB (g := 1) (by decide)) (h.ldG (g := 1) (by decide)) (h.ldSc (g := 1) (by decide))) (pout d 0 1))
    (pcons (piece2 (outF d 0) (pay6 (pay5 hv hT (h.ldX (g := 0) (by decide)) (h.xbA (g := 0) (by decide) _) (h.ldW (g := 0) (by decide)) (h.ldB (g := 0) (by decide))) (h.ldG (g := 0) (by decide)) (h.ldSc (g := 0) (by decide))) (pout d 0 0))
    pnil))))

theorem sout_A (hc0 : cond0_0 i) (h : FTile d 0 x0 x1 x2) (y : S528x1024.Idx) (hy : (y 0).val < 16) :
    sout0_A_0 (F := Ideal) c i arg1 harg1 arg3 harg3 arg4 harg4 arg5 harg5 arg6 harg6 hc0 x0 x1 x2 y = d.xb (0 + 1) (y 0).val (y 1).val := by
  unfold sout0_A_0
  rw [View.read_writes_junk_eq_canon]
  unfold kernelRun0_A
  dsimp only
  sl_unfold_words
  simp (discharger := assumption) only [View.readAt_eq_ld, Memref.IsWhole.read_unread]
  exact first16 (pay2 (h.hist _ _)) _ y hy

set_option maxHeartbeats 2000000 in
theorem out_B (hc0 : ¬cond0_0 i) (h : FTile d T x0 x1 x2) (hv : BitVec.ofNat 32 (i 0).val = BitVec.ofNat 32 T) (xs : Vec Ideal S528x1024 .f32)
    (hx : ∀ y : S528x1024.Idx, (y 0).val < 16 → xs y = d.xb T (y 0).val (y 1).val) (y : S512x1024.Idx) :
    out0_B_3 (F := Ideal) c i arg1 harg1 arg3 harg3 arg4 harg4 arg5 harg5 arg6 harg6 hc0 x0 x1 x2 xs y = outF d T (y 0).val (y 1).val := by
  unfold out0_B_3
  have hT := h.lt
  rw [View.read_writes_junk_eq_canon]
  refine canon_at (fun y : S512x1024.Idx => outF d T (y 0).val (y 1).val) _ ?_ y (cover0_B_3 c i arg1 harg1 arg3 harg3 arg4 harg4 arg5 harg5 arg6 harg6 hc0 x0 x1 x2 xs y)
  unfold kernelRun0_B
  dsimp only
  sl_unfold_words
  simp (discharger := assumption) only [View.readAt_eq_ld, Memref.IsWhole.read_unread]
  exact (pcons (piece2 (outF d T) (pay1 (pay13 (h.ldG (g := 3) (by decide))) (pay14 hv hT (pay12 (h.ldX (g := 3) (by decide))) (h.xbB (g := 3) (by decide) _ _ (fun y hy => (congrFun (harg6.read_unread xs) y).trans (hx y hy))) (h.ldW (g := 3) (by decide)) (h.ldB (g := 3) (by decide)) (h.ldSc (g := 3) (by decide))) (pay15 (h.ldG (g := 3) (by decide)))) (pout d T 3))
    (pcons (piece2 (outF d T) (pay11 (pay9 (h.ldX (g := 2) (by decide))) (pay10 hv hT) (h.xbB (g := 2) (by decide) _ _ (fun y hy => (congrFun (harg6.read_unread xs) y).trans (hx y hy))) (h.ldW (g := 2) (by decide)) (h.ldB (g := 2) (by decide)) (h.ldG (g := 2) (by decide)) (h.ldSc (g := 2) (by decide))) (pout d T 2))
    (pcons (piece2 (outF d T) (pay8 (pay7 hv hT (h.ldX (g := 1) (by decide)) (h.xbB (g := 1) (by decide) _ _ (fun y hy => (congrFun (harg6.read_unread xs) y).trans (hx y hy)))) (h.ldW (g := 1) (by decide)) (h.ldB (g := 1) (by decide)) (h.ldG (g := 1) (by decide)) (h.ldSc (g := 1) (by decide))) (pout d T 1))
    (pcons (piece2 (outF d T) (pay6 (pay5 hv hT (h.ldX (g := 0) (by decide)) (h.xbB (g := 0) (by decide) _ _ (fun y hy => (congrFun (harg6.read_unread xs) y).trans (hx y hy))) (h.ldW (g := 0) (by decide)) (h.ldB (g := 0) (by decide))) (h.ldG (g := 0) (by decide)) (h.ldSc (g := 0) (by decide))) (pout d T 0))
    pnil))))

theorem sout_B (hc0 : ¬cond0_0 i) (h : FTile d T x0 x1 x2) (xs : Vec Ideal S528x1024 .f32) (y : S528x1024.Idx) (hy : (y 0).val < 16) :
    sout0_B_0 (F := Ideal) c i arg1 harg1 arg3 harg3 arg4 harg4 arg5 harg5 arg6 harg6 hc0 x0 x1 x2 xs y = d.xb (T + 1) (y 0).val (y 1).val := by
  unfold sout0_B_0
  rw [View.read_writes_junk_eq_canon]
  unfold kernelRun0_B
  dsimp only
  sl_unfold_words
  simp (discharger := assumption) only [View.readAt_eq_ld, Memref.IsWhole.read_unread]
  exact first16 (pay2 (h.hist _ _)) _ y hy

end

variable (m : (ℓ : Loc nD τ sig) → Buf (Elt Ideal) ℓ)

/-- The launched contents' part the call reads; no gradient comes in. -/
abbrev dm (c : Dev nD) : Data :=
  dataOf (m ((c : Thread nD τ).loc main_arg0)) (fun _ => 0) (m ((c : Thread nD τ).loc main_arg2)) (m ((c : Thread nD τ).loc main_arg3))

theorem index0 : ∀ t : Fin grid0.N, win0_0.index t 0 = 1 ∧ win0_0.index t 1 = t.val ∧ win0_0.index t 2 = 0 := by decide +kernel
theorem index1 : ∀ t : Fin grid0.N, win0_1.index t 0 = 0 ∧ win0_1.index t 1 = 0 ∧ win0_1.index t 2 = 0 := by decide +kernel
theorem index2 : ∀ t : Fin grid0.N, win0_2.index t 0 = 0 ∧ win0_2.index t 1 = 0 := by decide +kernel
theorem index3 : ∀ t : Fin grid0.N, win0_3.index t 0 = t.val ∧ win0_3.index t 1 = 1 := by decide +kernel

theorem step : ∀ t : Fin grid0.N, BitVec.ofNat 32 (grid0.coords t 0).val = BitVec.ofNat 32 t.val := by decide +kernel

/-- Grid point `t` works on tile `t`. -/
theorem tile (c : Dev nD) (t : Fin cfg0.N) : FTile (dm m c) t.val (iblk m c 0 t) (iblk m c 1 t) (iblk m c 2 t) where
  lt := by have := t.isLt; have hN : cfg0.N = 8 := N_0; omega
  x r l := by
    unfold iblk
    rw [View.read_apply]
    show V m c main_arg0 _ = at3 _ _ _ _
    rw [V_main_arg0]
    have hi := index0 t
    refine at3_of _ _ ?_ ?_ ?_
    · show win0_0.index t 0 * 2 + 1 * 0 = 2; omega
    · show win0_0.index t 1 * 512 + 1 * r.val = 512 * t.val + r.val; omega
    · show win0_0.index t 2 * 1024 + 1 * l.val = l.val; omega
  g r l := by
    unfold iblk
    rw [View.read_apply]
    show V m c main_arg0 _ = at3 _ _ _ _
    rw [V_main_arg0]
    have hi := index0 t
    refine at3_of _ _ ?_ ?_ ?_
    · show win0_0.index t 0 * 2 + 1 * 1 = 3; omega
    · show win0_0.index t 1 * 512 + 1 * r.val = 512 * t.val + r.val; omega
    · show win0_0.index t 2 * 1024 + 1 * l.val = l.val; omega
  w a r l := by
    unfold iblk
    rw [View.read_apply]
    show V m c main_arg2 _ = at3 _ _ _ _
    rw [V_main_arg2]
    have hi := index1 t
    refine at3_of _ _ ?_ ?_ ?_
    · show win0_1.index t 0 * 4 + 1 * a.val = a.val; omega
    · show win0_1.index t 1 * 256 + 1 * r.val = r.val; omega
    · show win0_1.index t 2 * 256 + 1 * l.val = l.val; omega
  b l := by
    unfold iblk
    rw [View.read_apply]
    show V m c main_arg3 _ = at2 _ _ _
    rw [V_main_arg3]
    have hi := index2 t
    refine at2_of _ _ ?_ ?_
    · show win0_2.index t 0 * 8 + 1 * 0 = 0; omega
    · show win0_2.index t 1 * 1024 + 1 * l.val = l.val; omega
  sc l := by
    unfold iblk
    rw [View.read_apply]
    show V m c main_arg3 _ = at2 _ _ _
    rw [V_main_arg3]
    have hi := index2 t
    refine at2_of _ _ ?_ ?_
    · show win0_2.index t 0 * 8 + 1 * 1 = 1; omega
    · show win0_2.index t 1 * 1024 + 1 * l.val = l.val; omega

/-- What grid point `n` leaves: its tile's rows of the result, and the next tile's history. -/
structure Left (d : Data) (n : ℕ) (o : Vec Ideal S512x1024 .bf16 × Vec Ideal S528x1024 .f32) : Prop where
  o3 : ∀ y, o.1 y = outF d n (y 0).val (y 1).val
  s0 : ∀ y : S528x1024.Idx, (y 0).val < 16 → o.2 y = d.xb (n + 1) (y 0).val (y 1).val

theorem left_mk {d : Data} {n : ℕ} {a : Vec Ideal S512x1024 .bf16} {s : Vec Ideal S528x1024 .f32} (h3 : ∀ y, a y = outF d n (y 0).val (y 1).val)
    (h0 : ∀ y : S528x1024.Idx, (y 0).val < 16 → s y = d.xb (n + 1) (y 0).val (y 1).val) : Left d n (a, s) := ⟨h3, h0⟩

set_option maxHeartbeats 2000000 in
theorem left_A (c : Dev nD) (hn : 0 < cfg0.N) : Left (dm m c) 0 (outsAt0 m c 0 hn) := by
  have ht := tile m c ⟨0, hn⟩
  have hv := step ⟨0, hn⟩
  have e := outsAt0_A m c ⟨0, hn⟩ (Nat.zero_mod 8)
  dsimp only at e
  rw [e]
  refine left_mk ?_ ?_
  · exact fun y => out_A (h := ht) (hv := hv) (y := y) ..
  · exact fun y hy => sout_A (h := ht) (y := y) (hy := hy) ..

set_option maxHeartbeats 2000000 in
theorem left_B (c : Dev nD) (t : Fin cfg0.N) (h0 : ¬t.val % 8 = 0)
    (ih : ∀ h, ∀ y : S528x1024.Idx, (y 0).val < 16 → (outsAt0 m c (t.val - 1) h).2 y = (dm m c).xb t.val (y 0).val (y 1).val) :
    Left (dm m c) t.val (outsAt0 m c t.val t.isLt) := by
  have ht := tile m c t
  have hv := step t
  rw [outsAt0_B m c t h0]
  refine left_mk ?_ ?_
  · exact fun y => out_B (h := ht) (hv := hv) (hx := ih _) (y := y) ..
  · exact fun y hy => sout_B (h := ht) (y := y) (hy := hy) ..

theorem left (c : Dev nD) : ∀ (n : ℕ) (hn : n < cfg0.N), Left (dm m c) n (outsAt0 m c n hn)
  | 0, hn => left_A m c hn
  | n + 1, hn => by
    have hN : cfg0.N = 8 := N_0
    exact left_B m c ⟨n + 1, hn⟩ (by show ¬ (n + 1) % 8 = 0; omega) (fun h => (left c n h).s0)

/-- The result: the pooled branch over the lower half's lanes of what was there. -/
def resY (d : Data) (p : Vec Ideal S4096x2048 .bf16) : Vec Ideal S4096x2048 .bf16 := fun i =>
  if (i 1).val < 1024 then p i else yv d (((i 1).val - 1024) / 256) (i 0).val (((i 1).val - 1024) % 256)

theorem mem_blk3 (t : Fin cfg0.N) (i : S4096x2048.Idx) (h0 : win0_3.index t 0 * 512 ≤ (i 0).val ∧ (i 0).val < win0_3.index t 0 * 512 + 512)
    (h1 : win0_3.index t 1 * 1024 ≤ (i 1).val ∧ (i 1).val < win0_3.index t 1 * 1024 + 1024) :
    i ∈ ((cfg0.win 3).blk t).view.set := by
  show i ∈ ((View.whole main_v0).slice (win0_3.rect t)).set
  rw [View.set_slice_whole, Rect.mem_set_unit]
  intro a
  match a with
  | ⟨0, _⟩ => exact h0
  | ⟨1, _⟩ => exact h1

theorem flushed3_eq (c : Dev nD) (t : Fin cfg0.N) :
    (dats m 0 c).flushed 3 t = ((cfg0.win 3).blk t).view.read (Elt Ideal) (resY (dm m c) (m ((c : Thread nD τ).loc main_arg1))) := by
  have hN : cfg0.N = 8 := N_0
  rw [flushed3]
  funext y
  have hi := index3 t
  refine ((left m c t.val t.isLt).o3 y).trans ?_
  rw [View.read_apply]
  have h1 : (y 1).val < 1024 := (y 1).isLt
  have e0 : (((cfg0.win 3).blk t).view.emb y 0).val = 512 * t.val + (y 0).val := by
    show win0_3.index t 0 * 512 + 1 * (y 0).val = _; omega
  have e1 : (((cfg0.win 3).blk t).view.emb y 1).val = 1024 + (y 1).val := by
    show win0_3.index t 1 * 1024 + 1 * (y 1).val = _; omega
  show _ = resY (dm m c) _ (((cfg0.win 3).blk t).view.emb y)
  unfold resY outF
  rw [e0, e1, if_neg (by omega), Nat.add_sub_cancel_left]

theorem v_out (c : Dev nD) : V m c main_v0 = m ((c : Thread nD τ).loc main_arg1) := by
  show StableHlo.after hostOps0 (fun b => m (c, b)) main_v0 = _
  rfl

theorem final3 (c : Dev nD) : (dats m 0 c).arrAt 3 cfg0.N = resY (dm m c) (m ((c : Thread nD τ).loc main_arg1)) := by
  have hN : cfg0.N = 8 := N_0
  funext i
  rw [(dats m 0 c).arrAt_eq_piecewise 3 _ (fun t _ => flushed3_eq m c t) i]
  split
  · rfl
  · rename_i h
    have h0 : (i 0).val < 4096 := (i 0).isLt
    have h1 : (i 1).val < 2048 := (i 1).isLt
    have hlt : (i 1).val < 1024 := by
      by_contra hge
      refine h ⟨⟨(i 0).val / 512, by omega⟩, flush0_3 _, ?_⟩
      have hi := index3 ⟨(i 0).val / 512, by rw [N_0]; omega⟩
      dsimp only at hi
      exact mem_blk3 _ i (by omega) (by omega)
    unfold resY
    rw [if_pos hlt, A_eq]
    exact congrFun (v_out m c) i

end Cert.Fwd
end
-- ==== Proof.PoolFwdRef.lean ====
module

public import proofs.«01_k».proof.Proof.PoolFwd
public import proofs.«01_k».proof.Proof.PoolPre
public import proofs.«01_k».proof.Proof.PoolRef
public import proofs.«01_k».proof.Proof.Gen.Reference7Ideal.Read

/-!
# The pooled branch forward: the reference, stage by stage

Every array the forward reference computes on its way to its result, as a function of step, group and lane. The running
sums' differences need the pooled row finite; nothing else does.
-/

@[expose] public section

set_option maxRecDepth 16384
set_option maxHeartbeats 1000000

noncomputable section

namespace Cert.Fwd

open Idealize.ShloMosaic
open Cert.Reference7Ideal Cert.Reference7Ideal.Gen Cert.Reference7Ideal.Read
open Cert.Pool hiding pre_facts fin_of_pre
open scoped BigOperators

/-- The pooled row is finite. -/
structure FinX (d : Data) : Prop where
  x : ∀ t l, IsR (d.X t l)

/-- Two matrices joined by columns. -/
theorem cols {n m₁ m₂ m : ℕ} {x₁ : (⟨2, ![n, m₁]⟩ : Shape).Idx → EReal} {x₂ : (⟨2, ![n, m₂]⟩ : Shape).Idx → EReal}
    {F₁ F₂ : ℕ → ℕ → EReal} (h₁ : M2 x₁ F₁) (h₂ : M2 x₂ F₂)
    (h : Shape.Concatenates [⟨2, ![n, m₁]⟩, ⟨2, ![n, m₂]⟩] ⟨2, ![n, m]⟩ 1) (hm : m = m₁ + m₂) :
    M2 (concatenate ⟨2, ![n, m]⟩ 1 [⟨⟨2, ![n, m₁]⟩, x₁⟩, ⟨⟨2, ![n, m₂]⟩, x₂⟩] h) (fun r c => if c < m₁ then F₁ r c else F₂ r (c - m₁)) := by
  subst hm
  intro r c
  show _ = if c.val < m₁ then F₁ r.val c.val else F₂ r.val (c.val - m₁)
  by_cases hc : c.val < m₁
  · rw [if_pos hc]
    refine (concatenate_pair_apply_left _ x₁ x₂ h _ rfl (ix2 r ⟨c.val, hc⟩) fun b => ?_).trans (h₁ _ _)
    match b with
    | ⟨0, _⟩ => rfl
    | ⟨1, _⟩ => rfl
  · rw [if_neg hc]
    refine (concatenate_pair_apply_right _ x₁ x₂ h _ rfl rfl (ix2 r ⟨c.val - m₁, by omega⟩) (fun b hb => ?_) ?_).trans (h₂ _ _)
    · match b with
      | ⟨0, _⟩ => rfl
      | ⟨1, _⟩ => exact absurd rfl hb
    · show c.val - m₁ + m₁ = c.val
      omega

variable (P : (⟨3, ![4, 4096, 1024]⟩ : Shape).Idx → EReal)
  (W : (⟨3, ![4, 256, 256]⟩ : Shape).Idx → EReal) (v : (⟨2, ![8, 1024]⟩ : Shape).Idx → EReal)
include P W v

/-- What the forward call reads. -/
abbrev dd : Data := dataOf P (fun _ => 0) W v

theorem s83 (h : FinX (dd P W v)) : M2 (val_main_v83 (F := Ideal) P W v) (fun t l => (dd P W v).z (l / 256) t (l % 256) * (dd P W v).Sc l) :=
  Cert.Pool.s87 P (fun _ => 0) W v h.x

theorem s84 : M2 (val_main_v84 (F := Ideal) P) (fun t l => (dd P W v).G t l * sgm ((dd P W v).G t l)) :=
  Cert.Pool.s_v88_0 P (fun _ => 0) W v

theorem s85 (h : FinX (dd P W v)) : M2 (val_main_v85 (F := Ideal) P W v) (fun t l => yv (dd P W v) (l / 256) t (l % 256)) := by
  intro r c
  rw [val_main_v85_apply, s83 P W v h, s84 P W v]
  show _ = yv (dd P W v) (c.val / 256) r.val (c.val % 256)
  unfold yv
  rw [Nat.div_add_mod]
  rfl

theorem s87 (h : FinX (dd P W v)) : M2 (val_main_v87 (F := Ideal) P W v) (fun t l => yv (dd P W v) (l / 256) t (l % 256)) := by
  intro r c
  rw [val_main_v87_apply, s85 P W v h]
  rfl

theorem s86 (Y : (⟨2, ![4096, 2048]⟩ : Shape).Idx → EReal) : M2 (val_main_v86 (F := Ideal) Y) (fun t l => at2 Y t l) := by
  intro r c
  rw [val_main_v86_apply]
  exact at2_of Y _ rfl rfl

/-- The reference's result. -/
theorem ref88 (Y : (⟨2, ![4096, 2048]⟩ : Shape).Idx → EReal) (h : FinX (dd P W v)) :
    val_main_v88 (F := Ideal) P Y W v = resY (dd P W v) Y := by
  funext i
  have e := M2.at (cols (s86 P W v Y) (s87 P W v h) concatenates_S4096x1024_S4096x1024_S4096x2048_d1 rfl) i rfl rfl
  refine Eq.trans e ?_
  show (if (i 1).val < 1024 then _ else _) = resY (dd P W v) Y i
  unfold resY
  by_cases h2 : (i 1).val < 1024
  · rw [if_pos h2, if_pos h2]
    exact (at2_of Y i rfl rfl).symm
  · rw [if_neg h2, if_neg h2]

omit P W v

/-- The shapes' facts the condition's text uses. -/
theorem pre_facts : Cert.Pre_finite_pooled.Facts where
  slices_S4x4096x1024_S1x4096x1024_2_0_0 := by decide
  shapeCasts_S1x4096x1024_S4096x1024 := by decide
  bcast_S_S4096x1024 := by decide
  reducesTo_S4096x1024_S_d0_1 := by decide
  h_S_ := by decide

/-- The condition gives that the pooled row is real. -/
theorem fin_of_pre [Cert.Pre_finite_pooled.Facts] (P : Vec Ideal S4x4096x1024 .f32) (Y : Vec Ideal S4096x2048 .bf16)
    (W : Vec Ideal S4x256x256 .bf16) (v : Vec Ideal S8x1024 .f32)
    (h : Cert.Pre_finite_pooled.fn (F := Ideal) P Y W v = fun _ => 1#1) : FinX (dd P W v) := by
  have e := congrFun h (Shape.Idx.first (by decide))
  unfold Cert.Pre_finite_pooled.fn at e
  have k := isR_of_all (fun _ => inf_bits) _ _ _ _ e
  refine ⟨fun t l => isR_at3 fun h0 ht hl => ?_⟩
  have := k (ix2 ⟨t, ht⟩ ⟨l, hl⟩)
  beta_reduce at this
  rw [shapeCast_apply (k := ix3 ⟨0, by decide⟩ ⟨t, ht⟩ ⟨l, hl⟩) (hk := by
    rw [Shape.rowMajor_val_three, Shape.rowMajor_val_two]
    show (0 * 4096 + t) * 1024 + l = t * 1024 + l
    omega)] at this
  rwa [extractStridedSlice_apply (k := ix3 ⟨2, h0⟩ ⟨t, ht⟩ ⟨l, hl⟩) (hk := fun b => by
    fin_cases b
    · rfl
    · exact (Nat.zero_add t).symm
    · exact (Nat.zero_add l).symm)] at this

/-- The kernel's result. -/
def res3 (m : (ℓ : Loc Cert.Kernel7Ideal.nD Cert.Kernel7Ideal.τ Cert.Kernel7Ideal.sig) → Buf (Elt Ideal) ℓ) (c : Dev Cert.Kernel7Ideal.nD) :
    Vec Ideal S4096x2048 .bf16 :=
  resY (dm m c) (m ((c.tc : Thread Cert.Kernel7Ideal.nD Cert.Kernel7Ideal.τ).loc Cert.Kernel7Ideal.main_arg1))

theorem ref7 (P : (⟨3, ![4, 4096, 1024]⟩ : Shape).Idx → EReal) (Y : (⟨2, ![4096, 2048]⟩ : Shape).Idx → EReal)
    (W : (⟨3, ![4, 256, 256]⟩ : Shape).Idx → EReal) (v : (⟨2, ![8, 1024]⟩ : Shape).Idx → EReal) (h : FinX (dd P W v)) :
    val_main_v88 (F := Ideal) P Y W v = resY (dd P W v) Y := ref88 P W v Y h

end Cert.Fwd

end
-- ==== Proof.RnnIter.lean ====
module

public import proofs.«01_k».proof.Proof.Gen.Reference8Ideal.Run
public import proofs.«01_k».proof.Proof.Gen.Reference8Ideal.Step

/-!
# The recurrent reference's run, by its step

The valuation of the run holds a state of the step; one trip of the loop takes it to the next.
-/

@[expose] public section

noncomputable section

namespace Cert.Rnn.Iter

open Idealize.ShloMosaic Idealize.ShloMosaic.TcCoe Idealize.SL.Sem Idealize.ShloMosaic.StableHlo
open Cert.Reference8Ideal Cert.Reference8Ideal.Gen Cert.Reference8Ideal.Value
open Cert.Reference8Ideal.Step (State step init)

variable {F : FTy → Type} [FloatOps F]

variable (V0 : Valuation τ sig (Elt F)) (s : State F) (j : ℕ)

/-- The valuation holds the state, the set-up values and the trip's number. -/
structure Holds : Prop where
  f_3 : V0 (Proc.devRef .tc main_v93_3) = s.main_v93_3
  f_4 : V0 (Proc.devRef .tc main_v93_4) = s.main_v93_4
  f_0 : V0 (Proc.devRef .tc main_v93_0) = s.main_v93_0
  f_1 : V0 (Proc.devRef .tc main_v93_1) = s.main_v93_1
  n_2 : V0 (Proc.devRef .tc main_v93_2) = constantI S_ 32 (BitVec.ofNat 32 j)

variable {V0 s j}

set_option maxRecDepth 8192 in
theorem al_0 (h : Holds V0 s j) : (constantI S_ 32 0#32 : (Proc.devRef .tc main_while0b_call1_c : DevRef τ sig).ty.Contents (Elt F)) = Cert.Reference8Ideal.Step.b0 j s := by
  unfold Cert.Reference8Ideal.Step.b0
  rfl
set_option maxRecDepth 8192 in
theorem al_1 (h : Holds V0 s j) : (Host.dynamicSlice S1x1024 (V0 (Proc.devRef .tc main_v93_0)) (fun k => (((![V0 (Proc.devRef .tc main_v93_2), constantI S_ 32 0#32] : Fin 2 → (⟨S_, .i32⟩ : BufTy).Contents (Elt F))) k (Shape.Idx.first h_S_)).toInt) sliceFits_S4096x1024_S1x1024 : (Proc.devRef .tc main_while0b_call1_v0 : DevRef τ sig).ty.Contents (Elt F)) = Cert.Reference8Ideal.Step.b1 j s := by
  unfold Cert.Reference8Ideal.Step.b1
  rw [← al_0 h, h.f_0, h.n_2]
  try rfl
set_option maxRecDepth 8192 in
theorem al_2 (h : Holds V0 s j) : (shapeCast S1024 (Host.dynamicSlice S1x1024 (V0 (Proc.devRef .tc main_v93_0)) (fun k => (((![V0 (Proc.devRef .tc main_v93_2), constantI S_ 32 0#32] : Fin 2 → (⟨S_, .i32⟩ : BufTy).Contents (Elt F))) k (Shape.Idx.first h_S_)).toInt) sliceFits_S4096x1024_S1x1024) shapeCasts_S1x1024_S1024 : (Proc.devRef .tc main_while0b_v99 : DevRef τ sig).ty.Contents (Elt F)) = Cert.Reference8Ideal.Step.b2 j s := by
  unfold Cert.Reference8Ideal.Step.b2
  rw [← al_1 h]
  try rfl
set_option maxRecDepth 8192 in
theorem al_3 (h : Holds V0 s j) : (constantI S_ 32 0#32 : (Proc.devRef .tc main_while0b_call2_c : DevRef τ sig).ty.Contents (Elt F)) = Cert.Reference8Ideal.Step.b3 j s := by
  unfold Cert.Reference8Ideal.Step.b3
  rfl
set_option maxRecDepth 8192 in
theorem al_4 (h : Holds V0 s j) : (Host.dynamicSlice S1x1024 (V0 (Proc.devRef .tc main_v93_1)) (fun k => (((![V0 (Proc.devRef .tc main_v93_2), constantI S_ 32 0#32] : Fin 2 → (⟨S_, .i32⟩ : BufTy).Contents (Elt F))) k (Shape.Idx.first h_S_)).toInt) sliceFits_S4096x1024_S1x1024 : (Proc.devRef .tc main_while0b_call2_v0 : DevRef τ sig).ty.Contents (Elt F)) = Cert.Reference8Ideal.Step.b4 j s := by
  unfold Cert.Reference8Ideal.Step.b4
  rw [← al_3 h, h.f_1, h.n_2]
  try rfl
set_option maxRecDepth 8192 in
theorem al_5 (h : Holds V0 s j) : (shapeCast S1024 (Host.dynamicSlice S1x1024 (V0 (Proc.devRef .tc main_v93_1)) (fun k => (((![V0 (Proc.devRef .tc main_v93_2), constantI S_ 32 0#32] : Fin 2 → (⟨S_, .i32⟩ : BufTy).Contents (Elt F))) k (Shape.Idx.first h_S_)).toInt) sliceFits_S4096x1024_S1x1024) shapeCasts_S1x1024_S1024 : (Proc.devRef .tc main_while0b_v100 : DevRef τ sig).ty.Contents (Elt F)) = Cert.Reference8Ideal.Step.b5 j s := by
  unfold Cert.Reference8Ideal.Step.b5
  rw [← al_4 h]
  try rfl
set_option maxRecDepth 8192 in
theorem al_6 (h : Holds V0 s j) : (mulf (shapeCast S1024 (Host.dynamicSlice S1x1024 (V0 (Proc.devRef .tc main_v93_0)) (fun k => (((![V0 (Proc.devRef .tc main_v93_2), constantI S_ 32 0#32] : Fin 2 → (⟨S_, .i32⟩ : BufTy).Contents (Elt F))) k (Shape.Idx.first h_S_)).toInt) sliceFits_S4096x1024_S1x1024) shapeCasts_S1x1024_S1024) (V0 (Proc.devRef .tc main_v93_3)) : (Proc.devRef .tc main_while0b_v101 : DevRef τ sig).ty.Contents (Elt F)) = Cert.Reference8Ideal.Step.b6 j s := by
  unfold Cert.Reference8Ideal.Step.b6
  rw [← al_2 h, h.f_3]
  try rfl
set_option maxRecDepth 8192 in
theorem al_7 (h : Holds V0 s j) : (res_main_while0b_v102 V0 : (Proc.devRef .tc main_while0b_v102 : DevRef τ sig).ty.Contents (Elt F)) = Cert.Reference8Ideal.Step.b7 j s := by
  unfold res_main_while0b_v102 Cert.Reference8Ideal.Step.b7
  rw [← al_6 h, ← al_5 h]
  try rfl
set_option maxRecDepth 8192 in
theorem al_8 (h : Holds V0 s j) : (broadcastInDim S1x1024 ![1] bcast_S1024_S1x1024_1 (res_main_while0b_v102 V0) : (Proc.devRef .tc main_while0b_call3_v0 : DevRef τ sig).ty.Contents (Elt F)) = Cert.Reference8Ideal.Step.b8 j s := by
  unfold Cert.Reference8Ideal.Step.b8
  rw [← al_7 h]
  try rfl
set_option maxRecDepth 8192 in
theorem al_9 (h : Holds V0 s j) : (constantI S_ 32 0#32 : (Proc.devRef .tc main_while0b_call3_c : DevRef τ sig).ty.Contents (Elt F)) = Cert.Reference8Ideal.Step.b9 j s := by
  unfold Cert.Reference8Ideal.Step.b9
  rfl
set_option maxRecDepth 8192 in
theorem al_10 (h : Holds V0 s j) : (Host.dynamicUpdateSlice (V0 (Proc.devRef .tc main_v93_4)) (broadcastInDim S1x1024 ![1] bcast_S1024_S1x1024_1 (res_main_while0b_v102 V0)) (fun k => (((![V0 (Proc.devRef .tc main_v93_2), constantI S_ 32 0#32] : Fin 2 → (⟨S_, .i32⟩ : BufTy).Contents (Elt F))) k (Shape.Idx.first h_S_)).toInt) updateFits_S4096x1024_S1x1024 : (Proc.devRef .tc main_while0b_v103 : DevRef τ sig).ty.Contents (Elt F)) = Cert.Reference8Ideal.Step.b10 j s := by
  unfold Cert.Reference8Ideal.Step.b10
  rw [← al_8 h, ← al_9 h, h.f_4, h.n_2]
  try rfl

/-! One trip's step of the carried values is `step`, field by field; a counter steps to the next number. -/

theorem step_3 (h : Holds V0 s j) : step_main_v93_3 V0 = (step j s).main_v93_3 := by
  unfold step_main_v93_3 Cert.Reference8Ideal.Step.step
  show id (res_main_while0b_v102 V0) = _
  rw [al_7 h]
  try rfl
theorem step_4 (h : Holds V0 s j) : step_main_v93_4 V0 = (step j s).main_v93_4 := by
  unfold step_main_v93_4 Cert.Reference8Ideal.Step.step
  show id (Host.dynamicUpdateSlice (V0 (Proc.devRef .tc main_v93_4)) (broadcastInDim S1x1024 ![1] bcast_S1024_S1x1024_1 (res_main_while0b_v102 V0)) (fun k => (((![V0 (Proc.devRef .tc main_v93_2), constantI S_ 32 0#32] : Fin 2 → (⟨S_, .i32⟩ : BufTy).Contents (Elt F))) k (Shape.Idx.first h_S_)).toInt) updateFits_S4096x1024_S1x1024) = _
  exact al_10 h
theorem step_2 (h : Holds V0 s j) : step_main_v93_2 V0 = constantI S_ 32 (BitVec.ofNat 32 (j + 1)) := by
  unfold step_main_v93_2
  rw [h.n_2]
  funext i
  show BitVec.ofNat 32 j + 1#32 = BitVec.ofNat 32 (j + 1)
  simp only [BitVec.ofNat_add]

set_option maxRecDepth 8192 in
theorem out_main_v98_holds (h : Holds V0 s j) {x_main_arg0 : (⟨S4x4096x1024, .f32⟩ : BufTy).Contents (Elt F)} (h_main_arg0 : V0 (Proc.devRef .tc main_arg0) = x_main_arg0) : out_main_v98 V0 = Cert.Reference8Ideal.Step.R_main_v98 s x_main_arg0 := by
  unfold out_main_v98 Cert.Reference8Ideal.Step.R_main_v98
  rw [h.f_4, h_main_arg0]
  try rfl

/-- One trip keeps the valuation holding: `step` of the state, the same set-up values, the next number. -/
theorem holds_step (h : Holds V0 s j) : Holds (STEP V0) (step j s) (j + 1) where
  f_3 := (STEP_main_v93_3 V0).trans (step_3 h)
  f_4 := (STEP_main_v93_4 V0).trans (step_4 h)
  n_2 := (STEP_main_v93_2 V0).trans (step_2 h)
  f_0 := (STEP_main_v93_0 V0).trans h.f_0
  f_1 := (STEP_main_v93_1 V0).trans h.f_1

/-- The state the first trip starts from, of the memory the run starts from. -/
abbrev initState (m : (ℓ : Loc nD τ sig) → Buf (Elt F) ℓ) (c : Dev nD) : State F :=
  init (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))

variable (m : (ℓ : Loc nD τ sig) → Buf (Elt F) ℓ) (c : Dev nD)

set_option maxRecDepth 65536 in
set_option maxHeartbeats 600000 in
/-- What @main's operations before the loop leave: the set-up values, number 0, the initial state. -/
theorem entry_holds : Holds (entryContents preI m c) (initState m c) 0 := by
  constructor <;> (simp only [entryContents, afterL_cons, afterL_nil]; after_reads_simp) <;> rfl

/-- Before the `k`-th condition the loop's valuation holds the `k`-th state of any sequence that starts at `initState` and goes
    on by `step`. -/
theorem holds_iter (it : ℕ → State F) (h0 : it 0 = initState m c) (hs : ∀ n, it (n + 1) = step n (it n)) :
    ∀ k, Holds (STEP^[k] (entryContents preI m c)) (it k) k
  | 0 => h0 ▸ entry_holds m c
  | k + 1 => by
    rw [Function.iterate_succ_apply', hs k]
    exact holds_step (holds_iter it h0 hs k)

/-- THE RESULTS as `step` iterated: every weakly fair execution of `Reference8Ideal` terminates with each result at its field of state
    number 4096 of any per-core sequence of states that starts at `initState` and goes on by `step`, and every argument unchanged. -/
theorem run_iter (m : (ℓ : Loc nD τ sig) → Buf (Elt F) ℓ) (ρ : Dev nD → PrngReg) (it : Dev nD → ℕ → State F)
    (h0 : ∀ c, it c 0 = initState m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v98) = Cert.Reference8Ideal.Step.R_main_v98 (it c 4096) (m ((c.tc : Thread nD τ).loc main_arg0))
      ∧ r.2.mem ((c.tc : Thread nD τ).loc main_v93_4) = (it c 4096).main_v93_4
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    have hk := holds_iter m c (it c) (h0 c) (hs c) 4096
    ⟨(h c).1.trans (out_main_v98_holds hk (iter_main_arg0 m c 4096)), (h c).2.1.trans hk.f_4, (h c).2.2.1, (h c).2.2.2.1, (h c).2.2.2.2.1, (h c).2.2.2.2.2.1, (h c).2.2.2.2.2.2⟩) (Value.run m ρ)

end Cert.Rnn.Iter

end
-- ==== Proof.RnnSpec.lean ====
module

public import proofs.«01_k».proof.Proof.PoolMath

/-!
# The recurrent branch, on time steps and lanes

A head is 128 lanes. The state of a lane follows `h ← a h + b`, with `a` and `b` made of the convolved input and of two
gates. A scan by doubling over a tile's rows composes these affine steps; since every `a` lies between zero and one, the
composition is exact for all extended reals.
-/

@[expose] public section

set_option maxRecDepth 16384

noncomputable section

namespace Cert.Rnn

open Idealize.ShloMosaic
open Cert.Pool (back sgm)
open scoped BigOperators

/-- What the call reads: the input `X` and the gate's input `G` by step and lane, the taps `C`, the rows `V` of biases and
    rates, and the two gates' matrices by head. -/
structure RData where
  X : ℕ → ℕ → EReal
  G : ℕ → ℕ → EReal
  C : ℕ → ℕ → EReal
  V : ℕ → ℕ → EReal
  WA : ℕ → ℕ → ℕ → EReal
  WX : ℕ → ℕ → ℕ → EReal

namespace RData

variable (d : RData)

/-- The convolution over the last four steps. -/
def u (t l : ℕ) : EReal :=
  d.V 0 l + d.C 3 l * d.X t l + d.C 0 l * back (fun s => d.X s l) t 3 + d.C 1 l * back (fun s => d.X s l) t 2
    + d.C 2 l * back (fun s => d.X s l) t 1

/-- The recurrence gate. -/
def r (q t c : ℕ) : EReal := sgm ((∑ j : Fin 128, d.u t (128 * q + j.val) * d.WA q j c) + d.V 1 (128 * q + c))

/-- The input gate. -/
def ig (q t c : ℕ) : EReal := sgm ((∑ j : Fin 128, d.u t (128 * q + j.val) * d.WX q j c) + d.V 2 (128 * q + c))

/-- The rate. -/
def sp (l : ℕ) : EReal :=
  max (0 - d.V 3 l) 0 + Ideal.log (1 + Ideal.exp (0 - max (0 - d.V 3 l) (-(0 - d.V 3 l))))

/-- The logarithm of the decay. -/
def la (q t c : ℕ) : EReal := ((-8 : ℝ) : EReal) * d.r q t c * d.sp (128 * q + c)

/-- The decay. -/
def a (q t c : ℕ) : EReal := Ideal.exp (d.la q t c)

/-- What a step adds. -/
def b (q t c : ℕ) : EReal :=
  Ideal.sqrt (-(Ideal.exp (2 * d.la q t c) - 1)) * (d.ig q t c * d.u t (128 * q + c))

/-- The state before step `t`. -/
def H (q c : ℕ) : ℕ → EReal
  | 0 => 0
  | t + 1 => d.a q t c * H q c t + d.b q t c

/-- The branch's output. -/
def y (q t c : ℕ) : EReal := d.H q c (t + 1) * (d.G t (128 * q + c) * sgm (d.G t (128 * q + c)))

end RData

/-! ## Elementary facts -/

theorem exp_nonneg (x : EReal) : 0 ≤ Ideal.exp x := by
  induction x with
  | bot => exact le_refl _
  | top => exact le_top
  | coe r => exact EReal.coe_nonneg.2 (Real.exp_pos r).le

theorem exp_le_one {x : EReal} (h : x ≤ 0) : Ideal.exp x ≤ 1 := by
  induction x with
  | bot => exact zero_le_one
  | top => exact absurd h (by simp)
  | coe r =>
    show ((Real.exp r : ℝ) : EReal) ≤ ((1 : ℝ) : EReal)
    rw [EReal.coe_le_coe_iff]
    exact Real.exp_le_one_iff.2 (by exact_mod_cast h)

theorem div_one_nonneg {x : EReal} (h : 0 ≤ x) : 0 ≤ Ideal.div 1 x := by
  unfold Ideal.div
  split
  · rw [if_pos zero_lt_one]; exact le_top
  · rw [one_mul]; exact EReal.inv_nonneg_of_nonneg h

theorem sgm_nonneg (x : EReal) : 0 ≤ sgm x :=
  div_one_nonneg (add_nonneg zero_le_one (exp_nonneg _))

theorem log_nonneg {x : EReal} (h : 1 ≤ x) : 0 ≤ Ideal.log x := by
  induction x with
  | bot => exact absurd (le_bot_iff.1 h) (EReal.coe_ne_bot 1)
  | top => exact le_top
  | coe r =>
    have h1 : (1 : ℝ) ≤ r := by exact_mod_cast h
    show 0 ≤ if r ≤ 0 then (⊥ : EReal) else (Real.log r : EReal)
    rw [if_neg (by linarith)]
    exact EReal.coe_nonneg.2 (Real.log_nonneg h1)

theorem sp_nonneg (d : RData) (l : ℕ) : 0 ≤ d.sp l := by
  refine add_nonneg (le_max_right _ _) (log_nonneg ?_)
  calc (1 : EReal) = 1 + 0 := (add_zero _).symm
    _ ≤ _ := add_le_add le_rfl (exp_nonneg _)

theorem la_nonpos (d : RData) (q t c : ℕ) : d.la q t c ≤ 0 := by
  unfold RData.la
  rw [mul_assoc, show ((-8 : ℝ) : EReal) = -((8 : ℝ) : EReal) from by rw [← EReal.coe_neg], EReal.neg_mul]
  rw [EReal.neg_le, neg_zero]
  exact mul_nonneg (EReal.coe_nonneg.2 (by norm_num)) (mul_nonneg (sgm_nonneg _) (sp_nonneg d _))

theorem a_nonneg (d : RData) (q t c : ℕ) : 0 ≤ d.a q t c := exp_nonneg _

theorem a_le_one (d : RData) (q t c : ℕ) : d.a q t c ≤ 1 := exp_le_one (la_nonpos d q t c)

theorem lt_top_of_le_one {x : EReal} (h : x ≤ 1) : x ≠ ⊤ := fun e => by
  rw [e, top_le_iff] at h
  exact absurd h (by decide)

/-- The two ways to write one less an exponential. -/
theorem tanh_exp (z : EReal) :
    (0 - Ideal.tanh (((1 / 2 : ℝ) : EReal) * z)) * (Ideal.exp z + 1) = -(Ideal.exp z - 1) := by
  induction z with
  | bot =>
    rw [EReal.coe_mul_bot_of_pos (by norm_num)]
    show (0 - (-1 : EReal)) * (0 + 1) = -(0 - 1)
    norm_num
  | top =>
    rw [EReal.coe_mul_top_of_pos (by norm_num)]
    show (0 - (1 : EReal)) * (⊤ + 1) = -(⊤ - 1)
    have h1 : (0 - (1 : EReal)) = ((-1 : ℝ) : EReal) := by rw [EReal.coe_neg, EReal.coe_one, zero_sub]
    have h2 : ((⊤ : EReal) + 1) = ⊤ := EReal.top_add_of_ne_bot (by decide)
    have h3 : ((⊤ : EReal) - 1) = ⊤ := EReal.top_sub_coe 1
    rw [h1, h2, h3, EReal.coe_mul_top_of_neg (by norm_num), EReal.neg_top]
  | coe r =>
    rw [← EReal.coe_mul]
    show (0 - ((Real.tanh (1 / 2 * r) : ℝ) : EReal)) * (((Real.exp r : ℝ) : EReal) + ((1 : ℝ) : EReal))
      = -(((Real.exp r : ℝ) : EReal) - ((1 : ℝ) : EReal))
    rw [zero_sub, ← EReal.coe_neg, ← EReal.coe_add, ← EReal.coe_mul, ← EReal.coe_sub, ← EReal.coe_neg]
    congr 1
    rw [Real.tanh_eq_sinh_div_cosh, Real.sinh_eq, Real.cosh_eq]
    have e : Real.exp r = Real.exp (1 / 2 * r) * Real.exp (1 / 2 * r) := by rw [← Real.exp_add]; ring_nf
    have en : Real.exp (-(1 / 2 * r)) = (Real.exp (1 / 2 * r))⁻¹ := Real.exp_neg _
    rw [e, en]
    have hp := Real.exp_pos (1 / 2 * r)
    generalize Real.exp (1 / 2 * r) = E at *
    have h1 : E * E + 1 ≠ 0 := by positivity
    field_simp

/-! ## The scan -/

/-- The state after `n` steps from step `s`, started at `h`. -/
def run (a v : ℕ → EReal) (s : ℕ) (h : EReal) : ℕ → EReal
  | 0 => h
  | n + 1 => a (s + n) * run a v s h n + v (s + n)

theorem run_add (a v : ℕ → EReal) (s : ℕ) (h : EReal) (n k : ℕ) :
    run a v s h (n + k) = run a v (s + n) (run a v s h n) k := by
  induction k with
  | zero => rfl
  | succ k ih =>
    show a (s + (n + k)) * run a v s h (n + k) + v (s + (n + k)) = a (s + n + k) * _ + v (s + n + k)
    rw [ih, add_assoc]

/-- One doubling of the factors. -/
def sA (d : ℕ) (A : ℕ → ℕ → EReal) (r c : ℕ) : EReal := A r c * (if d ≤ r then A (r - d) c else 1)

/-- One doubling of the terms. -/
def sV (d : ℕ) (A V : ℕ → ℕ → EReal) (r c : ℕ) : EReal := V r c + A r c * (if d ≤ r then V (r - d) c else 0)

/-- `A` and `V` hold the composition of the last `d` steps up to each row. -/
structure Scan (a v : ℕ → ℕ → EReal) (d : ℕ) (A V : ℕ → ℕ → EReal) : Prop where
  nonneg : ∀ r c, 0 ≤ A r c
  le_one : ∀ r c, A r c ≤ 1
  eq : ∀ r c h, A r c * h + V r c = run (fun t => a t c) (fun t => v t c) (r + 1 - min d (r + 1)) h (min d (r + 1))

theorem Scan.one {a v : ℕ → ℕ → EReal} (h0 : ∀ r c, 0 ≤ a r c) (h1 : ∀ r c, a r c ≤ 1) : Scan a v 1 a v where
  nonneg := h0
  le_one := h1
  eq r c h := by
    rw [min_eq_left (by omega), Nat.add_sub_cancel]
    rfl

theorem Scan.double {a v A V : ℕ → ℕ → EReal} {d : ℕ} (h : Scan a v d A V) : Scan a v (2 * d) (sA d A) (sV d A V) where
  nonneg r c := by
    unfold sA
    refine mul_nonneg (h.nonneg r c) ?_
    split
    · exact h.nonneg _ _
    · exact zero_le_one
  le_one r c := by
    unfold sA
    have : (if d ≤ r then A (r - d) c else 1) ≤ 1 := by
      split
      · exact h.le_one _ _
      · exact le_rfl
    have h0 : (0 : EReal) ≤ (if d ≤ r then A (r - d) c else 1) := by
      split
      · exact h.nonneg _ _
      · exact zero_le_one
    calc A r c * _ ≤ 1 * 1 := mul_le_mul (h.le_one r c) this h0 zero_le_one
      _ = 1 := one_mul 1
  eq r c x := by
    unfold sA sV
    by_cases hd : d ≤ r
    · rw [if_pos hd, if_pos hd]
      have e1 := h.eq (r - d) c x
      have e2 := h.eq r c (A (r - d) c * x + V (r - d) c)
      rw [EReal.left_distrib_of_nonneg_of_ne_top (h.nonneg r c) (lt_top_of_le_one (h.le_one r c))] at e2
      rw [mul_assoc, add_comm (V r c), ← add_assoc, e2, e1, min_eq_left (by omega : d ≤ r + 1)]
      have em : min (2 * d) (r + 1) = min d (r - d + 1) + d := by omega
      rw [em, run_add]
      congr 1
      · omega
      · congr 1
        omega
    · rw [if_neg hd, if_neg hd, mul_one, mul_zero, add_zero]
      have e := h.eq r c x
      rw [min_eq_right (by omega)] at e ⊢
      exact e

/-- The factors after nine doublings. -/
def scA (a : ℕ → ℕ → EReal) : ℕ → ℕ → EReal := sA 256 (sA 128 (sA 64 (sA 32 (sA 16 (sA 8 (sA 4 (sA 2 (sA 1 a))))))))

/-- The terms after nine doublings. -/
def scV (a v : ℕ → ℕ → EReal) : ℕ → ℕ → EReal :=
  sV 256 (sA 128 (sA 64 (sA 32 (sA 16 (sA 8 (sA 4 (sA 2 (sA 1 a)))))))) (sV 128 (sA 64 (sA 32 (sA 16 (sA 8 (sA 4 (sA 2 (sA 1 a)))))))
    (sV 64 (sA 32 (sA 16 (sA 8 (sA 4 (sA 2 (sA 1 a)))))) (sV 32 (sA 16 (sA 8 (sA 4 (sA 2 (sA 1 a))))) (sV 16 (sA 8 (sA 4 (sA 2 (sA 1 a))))
      (sV 8 (sA 4 (sA 2 (sA 1 a))) (sV 4 (sA 2 (sA 1 a)) (sV 2 (sA 1 a) (sV 1 a v))))))))

theorem scan_all {a v : ℕ → ℕ → EReal} (h0 : ∀ r c, 0 ≤ a r c) (h1 : ∀ r c, a r c ≤ 1) {r : ℕ} (hr : r < 512) (c : ℕ) (h : EReal) :
    scA a r c * h + scV a v r c = run (fun t => a t c) (fun t => v t c) 0 h (r + 1) := by
  have s : Scan a v 512 (scA a) (scV a v) := (Scan.one h0 h1).double.double.double.double.double.double.double.double.double
  have e := s.eq r c h
  rw [min_eq_right (by omega), Nat.sub_self] at e
  exact e

/-- A tile's run continues the recurrence. -/
theorem run_H (d : RData) (q c T : ℕ) (n : ℕ) :
    run (fun t => d.a q (512 * T + t) c) (fun t => d.b q (512 * T + t) c) 0 (d.H q c (512 * T)) n = d.H q c (512 * T + n) := by
  induction n with
  | zero => rfl
  | succ n ih =>
    show d.a q (512 * T + (0 + n)) c * _ + d.b q (512 * T + (0 + n)) c = d.a q (512 * T + n) c * d.H q c (512 * T + n) + d.b q (512 * T + n) c
    rw [ih, Nat.zero_add]

/-- What a tile's scan leaves in row `r`. -/
theorem scan_H (d : RData) (q c T : ℕ) {r : ℕ} (hr : r < 512) :
    scA (fun r c => d.a q (512 * T + r) c) r c * d.H q c (512 * T)
      + scV (fun r c => d.a q (512 * T + r) c) (fun r c => d.b q (512 * T + r) c) r c = d.H q c (512 * T + r + 1) := by
  rw [scan_all (fun _ _ => a_nonneg d _ _ _) (fun _ _ => a_le_one d _ _ _) hr]
  exact run_H d q c T (r + 1)

end Cert.Rnn
end
-- ==== Proof.RnnPay.lean ====
module

public import proofs.«01_k».proof.Proof.PoolKernel
public import proofs.«01_k».proof.Proof.PoolFwdRef
public import proofs.«01_k».proof.Proof.RnnSpec
public import proofs.«01_k».proof.Proof.Gen.Kernel8Ideal.Frame

/-!
# The recurrent branch forward: the values of one head in one tile

Each value the kernel computes, read at a row and a lane of its head. The second head of a pair computes what the first
does, on its own lanes.
-/

@[expose] public section

set_option maxRecDepth 16384

noncomputable section

namespace Cert.Rnn

open Cert.Kernel8Ideal Cert.Kernel8Ideal.Gen Idealize.ShloMosaic
open Cert.Pool (M2 M3 back sgm)

/-! ## A value moved down by rows -/

theorem addM {n m : ℕ} {x y : FVec Ideal ⟨2, ![n, m]⟩ .f32} {F G : ℕ → ℕ → EReal} (hx : M2 x F) (hy : M2 y G) :
    M2 (addf x y) (fun r c => F r c + G r c) := fun r c => congrArg₂ HAdd.hAdd (hx r c) (hy r c)

theorem mulM {n m : ℕ} {x y : FVec Ideal ⟨2, ![n, m]⟩ .f32} {F G : ℕ → ℕ → EReal} (hx : M2 x F) (hy : M2 y G) :
    M2 (mulf x y) (fun r c => F r c * G r c) := fun r c => congrArg₂ HMul.hMul (hx r c) (hy r c)

theorem sel_ge {α : Type} {d r : ℕ} (hd : d < 512) (hr : r < 512) (x y : α) :
    Scalar.select (IntOp.cmpi .sge (BitVec.ofNat 32 r) (BitVec.ofNat 32 d)) x y = if d ≤ r then x else y := by
  have e : ∀ n, n < 512 → (BitVec.ofNat 32 n).toInt = n := by
    intro n hn
    have en : (BitVec.ofNat 32 n).toNat = n := by rw [BitVec.toNat_ofNat]; omega
    rw [BitVec.toInt_eq_toNat_of_lt (by rw [en]; omega), en]
  simp only [Scalar.select, IntOp.cmpi, BitVec.sle, e d hd, e r hr]
  by_cases h : d ≤ r
  · simp [h]
  · simp [h]

/-- A rotation with the rows that came round replaced. -/
theorem shiftR (d : ℕ) (hd0 : 0 < d) (hd : d < 512) {x : FVec Ideal S512x128 .f32} {F : ℕ → ℕ → EReal} (hx : M2 x F) (w : EReal) :
    M2 (select (cmpi .sge (iota .tc S512x128 32 [0] iota_S512x128_d0_w32) (broadcast S512x128 (BitVec.ofNat 32 d)))
      (dynamicRotate 0 (BitVec.ofNat 32 d) none x rotates_S512x128_d0) (broadcast (α := EReal) S512x128 w))
      (fun r c => if d ≤ r then F (r - d) c else w) := by
  intro r c
  have hr := r.isLt
  have ed : (BitVec.ofNat 32 d).toNat = d := by rw [BitVec.toNat_ofNat]; omega
  pointwise
  refine (sel_ge hd hr _ _).trans ?_
  by_cases h : d ≤ r.val
  · rw [if_pos h, if_pos h]
    refine hx.at _ ?_ rfl
    show (r.val + 512 - (BitVec.ofNat 32 d).toNat % 512) % 512 = r.val - d
    rw [ed]
    omega
  · rw [if_neg h, if_neg h]

/-- Rows put before a value's first ones. -/
theorem shiftC (d e : ℕ) (hde : d + e = 512) {x : FVec Ideal S512x128 .f32} {F : ℕ → ℕ → EReal} (hx : M2 x F) (w : EReal)
    (hs : S512x128.Slices ![0, 0] ⟨2, ![e, 128]⟩) (h : Shape.Concatenates [⟨2, ![d, 128]⟩, ⟨2, ![e, 128]⟩] S512x128 0) :
    M2 (concatenate S512x128 0 [⟨⟨2, ![d, 128]⟩, broadcast (α := EReal) ⟨2, ![d, 128]⟩ w⟩, ⟨⟨2, ![e, 128]⟩, extractStridedSlice ⟨2, ![e, 128]⟩ ![0, 0] x hs⟩] h)
      (fun r c => if d ≤ r then F (r - d) c else w) := by
  intro r c
  have hr := r.isLt
  show _ = if d ≤ r.val then F (r.val - d) c.val else w
  by_cases hc : d ≤ r.val
  · rw [if_pos hc]
    refine (concatenate_pair_apply_right _ _ _ h _ rfl rfl (ix2 ⟨r.val - d, by omega⟩ c) (fun b hb => ?_) ?_).trans ?_
    · match b with
      | ⟨0, _⟩ => exact absurd rfl hb
      | ⟨1, _⟩ => rfl
    · show r.val - d + d = r.val
      omega
    · refine (extractStridedSlice_apply _ x hs _ (ix2 ⟨r.val - d, by omega⟩ c) fun b => ?_).trans (hx _ _)
      match b with
      | ⟨0, _⟩ => show r.val - d = 0 + (r.val - d); omega
      | ⟨1, _⟩ => show c.val = 0 + c.val; omega
  · rw [if_neg hc]
    refine (concatenate_pair_apply_left _ _ _ h _ rfl (ix2 ⟨r.val, by omega⟩ c) fun b => ?_).trans ?_
    · match b with
      | ⟨0, _⟩ => rfl
      | ⟨1, _⟩ => rfl
    · rfl

theorem neg8_bits : Ideal.ofBits .f32 0xC1000000#32 = ((-8 : ℝ) : EReal) := by
  simp [Ideal.ofBits, Ideal.ieee]
  rw [← EReal.coe_mul]
  norm_num

theorem two_bits : Ideal.ofBits .f32 0x40000000#32 = 2 := by
  simp [Ideal.ofBits, Ideal.ieee]
  rw [← EReal.coe_mul]
  norm_num
  rfl

theorem half_bits : Ideal.ofBits .f32 0x3F000000#32 = ((1 / 2 : ℝ) : EReal) := by
  simp [Ideal.ofBits, Ideal.ieee]
  rw [← EReal.coe_mul]
  norm_num

theorem shR (d : ℕ) (hd0 : 0 < d) (hd : d < 512) {x : FVec Ideal S512x128 .f32} {F : ℕ → ℕ → EReal} (hx : M2 x F) {b : BitVec 32} {w : EReal}
    (hb : Ideal.ofBits .f32 b = w) :
    M2 (select (cmpi .sge (iota .tc S512x128 32 [0] iota_S512x128_d0_w32) (broadcast S512x128 (BitVec.ofNat 32 d)))
      (dynamicRotate 0 (BitVec.ofNat 32 d) none x rotates_S512x128_d0) (broadcast S512x128 (Scalar.ofBits (F := Ideal) .f32 b)))
      (fun r c => if d ≤ r then F (r - d) c else w) := by
  subst hb
  exact shiftR d hd0 hd hx _

theorem shC (d e : ℕ) (hde : d + e = 512) {x : FVec Ideal S512x128 .f32} {F : ℕ → ℕ → EReal} (hx : M2 x F) {b : BitVec 32} {w : EReal}
    (hb : Ideal.ofBits .f32 b = w)
    (hs : S512x128.Slices ![0, 0] ⟨2, ![e, 128]⟩) (h : Shape.Concatenates [⟨2, ![d, 128]⟩, ⟨2, ![e, 128]⟩] S512x128 0) :
    M2 (concatenate S512x128 0 [⟨⟨2, ![d, 128]⟩, broadcast ⟨2, ![d, 128]⟩ (Scalar.ofBits (F := Ideal) .f32 b)⟩, ⟨⟨2, ![e, 128]⟩, extractStridedSlice ⟨2, ![e, 128]⟩ ![0, 0] x hs⟩] h)
      (fun r c => if d ≤ r then F (r - d) c else w) := by
  subst hb
  exact shiftC d e hde hx _ hs h

open Cert.Pool (zero_bits one_bits)

/-! ## The scan -/

section

variable {a v : ℕ → ℕ → EReal}

theorem pay19 {x : FVec Ideal S512x128 .f32} (hx : M2 x a) : M2 (k0_pay19 (F := Ideal) x) (sA 2 a) := by
  unfold k0_pay19
  exact mulM hx (shR 2 (by decide) (by decide) hx one_bits)

theorem pay20 {x : FVec Ideal S512x128 .f32} (hx : M2 x a) : M2 (k0_pay20 (F := Ideal) x) (sA 4 (sA 2 a)) := by
  unfold k0_pay20
  exact mulM (pay19 hx) (shR 4 (by decide) (by decide) (pay19 hx) one_bits)

theorem pay21 {x : FVec Ideal S512x128 .f32} (hx : M2 x a) : M2 (k0_pay21 (F := Ideal) x) (sA 8 (sA 4 (sA 2 a))) := by
  unfold k0_pay21
  exact mulM (pay20 hx) (shC 8 504 (by decide) (pay20 hx) one_bits _ _)

theorem pay23 {x : FVec Ideal S512x128 .f32} (hx : M2 x a) : M2 (k0_pay23 (F := Ideal) x) (sA 16 (sA 8 (sA 4 (sA 2 a)))) := by
  unfold k0_pay23
  exact mulM (pay21 hx) (shC 16 496 (by decide) (pay21 hx) one_bits _ _)

/-- The terms after five doublings, two of them before. -/
abbrev v16 (a v : ℕ → ℕ → EReal) : ℕ → ℕ → EReal :=
  sV 16 (sA 8 (sA 4 (sA 2 a))) (sV 8 (sA 4 (sA 2 a)) (sV 4 (sA 2 a) (sV 2 a v)))

theorem pay22 {x : FVec Ideal S512x128 .f32} (hx : M2 x a) {y : FVec Ideal S512x128 .f32} (hy : M2 y v)
    {z : FVec Ideal S512x128 .f32} (hz : M2 z (fun r c => if 2 ≤ r then v (r - 2) c else 0)) :
    M2 (k0_pay22 (F := Ideal) y x z) (v16 a v) := by
  unfold k0_pay22
  have h2 : M2 (addf y (mulf x z)) (sV 2 a v) := addM hy (mulM hx hz)
  have h4 := addM h2 (mulM (pay19 hx) (shR 4 (by decide) (by decide) h2 zero_bits))
  have h8 := addM h4 (mulM (pay20 hx) (shC 8 504 (by decide) h4 zero_bits slices_S512x128_o0_0_S504x128 concatenates_S8x128_S504x128_S512x128_d0))
  exact addM h8 (mulM (pay21 hx) (shC 16 496 (by decide) h8 zero_bits slices_S512x128_o0_0_S496x128 concatenates_S16x128_S496x128_S512x128_d0))

theorem pay24 {x : FVec Ideal S512x128 .f32} (hx : M2 x a) {y : FVec Ideal S512x128 .f32} (hy : M2 y v)
    {z : FVec Ideal S512x128 .f32} (hz : M2 z (fun r c => if 2 ≤ r then v (r - 2) c else 0)) :
    M2 (k0_pay24 (F := Ideal) y x z) (fun r c => sA 16 (sA 8 (sA 4 (sA 2 a))) r c * (if 32 ≤ r then v16 a v (r - 32) c else 0)) := by
  unfold k0_pay24
  exact mulM (pay23 hx) (shC 32 480 (by decide) (pay22 hx hy hz) zero_bits _ _)

theorem row1 {x : FVec Ideal S1x128 .f32} {f : ℕ → EReal} (hx : M2 x (fun _ c => f c)) :
    M2 (broadcastTo S512x128 x broadcasts_S1x128_S512x128) (fun _ c => f c) := by
  simp only [M2, M3] at *
  intro r c
  pointwise
  exact hx 0 c

theorem pay25 {a v : ℕ → ℕ → EReal} {h : FVec Ideal S1x128 .f32} {f : ℕ → EReal} (hh : M2 h (fun _ c => f c)) {y : FVec Ideal S512x128 .f32} (hy : M2 y v)
    {x : FVec Ideal S512x128 .f32} (hx : M2 x a) {z : FVec Ideal S512x128 .f32} (hz : M2 z (fun r c => a r c * (if 32 ≤ r then v (r - 32) c else 0))) :
    M2 (k0_pay25 (F := Ideal) h y x z) (fun r c => sA 256 (sA 128 (sA 64 (sA 32 a))) r c * f c
      + sV 256 (sA 128 (sA 64 (sA 32 a))) (sV 128 (sA 64 (sA 32 a)) (sV 64 (sA 32 a) (sV 32 a v))) r c) := by
  unfold k0_pay25
  have h32 : M2 (addf y z) (sV 32 a v) := addM hy hz
  have a32 : M2 _ (sA 32 a) := mulM hx (shC 32 480 (by decide) hx one_bits slices_S512x128_o0_0_S480x128 concatenates_S32x128_S480x128_S512x128_d0)
  have h64 : M2 _ (sV 64 (sA 32 a) (sV 32 a v)) :=
    addM h32 (mulM a32 (shC 64 448 (by decide) h32 zero_bits slices_S512x128_o0_0_S448x128 concatenates_S64x128_S448x128_S512x128_d0))
  have a64 : M2 _ (sA 64 (sA 32 a)) := mulM a32 (shC 64 448 (by decide) a32 one_bits slices_S512x128_o0_0_S448x128 concatenates_S64x128_S448x128_S512x128_d0)
  have h128 : M2 _ (sV 128 (sA 64 (sA 32 a)) (sV 64 (sA 32 a) (sV 32 a v))) :=
    addM h64 (mulM a64 (shC 128 384 (by decide) h64 zero_bits slices_S512x128_o0_0_S384x128 concatenates_S128x128_S384x128_S512x128_d0))
  have a128 : M2 _ (sA 128 (sA 64 (sA 32 a))) := mulM a64 (shC 128 384 (by decide) a64 one_bits slices_S512x128_o0_0_S384x128 concatenates_S128x128_S384x128_S512x128_d0)
  have h256 := addM h128 (mulM a128 (shC 256 256 (by decide) h128 zero_bits slices_S512x128_o0_0_S256x128 concatenates_S256x128_S256x128_S512x128_d0))
  have a256 := mulM a128 (shC 256 256 (by decide) a128 one_bits slices_S512x128_o0_0_S256x128 concatenates_S256x128_S256x128_S512x128_d0)
  exact addM (mulM a256 (row1 hh)) h256

end

/-! ## The gates -/

theorem pay6 {B W0 W1 W2 W3 : ℕ → EReal} {X0 X1 X2 X3 : ℕ → ℕ → EReal}
    {b : FVec Ideal S1x128 .f32} (hb : M2 b (fun _ c => B c)) {w3 : FVec Ideal S1x128 .f32} (h3 : M2 w3 (fun _ c => W3 c))
    {x0 : FVec Ideal S512x128 .f32} (hx0 : M2 x0 X0) {w0 : FVec Ideal S1x128 .f32} (h0 : M2 w0 (fun _ c => W0 c))
    {x3 : FVec Ideal S512x128 .f32} (hx3 : M2 x3 X3) {w1 : FVec Ideal S1x128 .f32} (h1 : M2 w1 (fun _ c => W1 c))
    {x2 : FVec Ideal S512x128 .f32} (hx2 : M2 x2 X2) {w2 : FVec Ideal S1x128 .f32} (h2 : M2 w2 (fun _ c => W2 c))
    {x1 : FVec Ideal S512x128 .f32} (hx1 : M2 x1 X1) :
    M2 (k0_pay6 (F := Ideal) b w3 x0 w0 x3 w1 x2 w2 x1)
      (fun r c => B c + W3 c * X0 r c + W0 c * X3 r c + W1 c * X2 r c + W2 c * X1 r c) := by
  unfold k0_pay6
  exact addM (addM (addM (addM (row1 hb) (mulM (row1 h3) hx0)) (mulM (row1 h0) hx3)) (mulM (row1 h1) hx2)) (mulM (row1 h2) hx1)

theorem pay8 {U : ℕ → ℕ → EReal} {W : ℕ → ℕ → EReal} {B : ℕ → EReal} {x : FVec Ideal S512x128 .f32} (hx : M2 x U)
    {w : FVec Ideal S1x128x128 .bf16} (hw : M3 w (fun _ => W)) {b : FVec Ideal S1x128 .f32} (hb : M2 b (fun _ c => B c)) :
    M2 (k0_pay8 (F := Ideal) x w b) (fun r c => sgm ((∑ j : Fin 128, U r j.val * W j.val c) + B c)) := by
  simp only [M2, M3] at *
  intro r c
  unfold k0_pay8 k0_pay7
  pointwise
  simp only [hx, hw, hb]
  rfl

theorem pay9 {U : ℕ → ℕ → EReal} {W : ℕ → ℕ → EReal} {B : ℕ → EReal} {x : FVec Ideal S512x128 .f32} (hx : M2 x U)
    {w : FVec Ideal S1x128x128 .bf16} (hw : M3 w (fun _ => W)) {b : FVec Ideal S1x128 .f32} (hb : M2 b (fun _ c => B c)) :
    M2 (k0_pay9 (F := Ideal) x w b) (fun r c => sgm ((∑ j : Fin 128, U r j.val * W j.val c) + B c)) := pay8 hx hw hb

/-- The rate of one lane's parameter. -/
def spf (x : EReal) : EReal := max (0 - x) 0 + Ideal.log (1 + Ideal.exp (0 - max (0 - x) (-(0 - x))))

theorem pay14 {R : ℕ → ℕ → EReal} {L : ℕ → EReal} {x : FVec Ideal S512x128 .f32} (hx : M2 x R)
    {w : FVec Ideal S1x128 .f32} (hw : M2 w (fun _ c => L c)) :
    M2 (k0_pay14 (F := Ideal) x (k0_pay11 w) (k0_pay12 w) (k0_pay13 (F := Ideal))) (fun r c => ((-8 : ℝ) : EReal) * R r c * spf (L c)) := by
  simp only [M2, M3] at *
  intro r c
  unfold k0_pay14 k0_pay11 k0_pay12 k0_pay13 k0_pay10
  pointwise
  simp only [hx, hw]
  rw [neg8_bits]
  rfl

theorem pay16 {R I U : ℕ → ℕ → EReal} {L : ℕ → EReal} {u : FVec Ideal S512x128 .f32} (hu : M2 u U) {x : FVec Ideal S512x128 .f32} (hx : M2 x R)
    {y : FVec Ideal S512x128 .f32} (hy : M2 y I) {w : FVec Ideal S1x128 .f32} (hw : M2 w (fun _ c => L c)) :
    M2 (k0_pay16 (F := Ideal) u x y (k0_pay11 w) (k0_pay12 w) (k0_pay13 (F := Ideal)))
      (sV 1 (fun r c => Ideal.exp (((-8 : ℝ) : EReal) * R r c * spf (L c)))
        (fun r c => Ideal.sqrt (-(Ideal.exp (2 * (((-8 : ℝ) : EReal) * R r c * spf (L c))) - 1)) * (I r c * U r c))) := by
  have h14 := pay14 hx hw
  unfold k0_pay16 k0_pay15
  generalize k0_pay14 (F := Ideal) x (k0_pay11 w) (k0_pay12 w) (k0_pay13 (F := Ideal)) = z at *
  have hb : M2 (mulf (sqrt (mulf (subf (broadcast S512x128 (Scalar.ofBits (F := Ideal) .f32 0x00000000#32)) (tanh (mulf (broadcast S512x128 (Scalar.ofBits (F := Ideal) .f32 0x3F000000#32)) (mulf (broadcast S512x128 (Scalar.ofBits (F := Ideal) .f32 0x40000000#32)) z))))
      (addf (exp (mulf (broadcast S512x128 (Scalar.ofBits (F := Ideal) .f32 0x40000000#32)) z)) (broadcast S512x128 (Scalar.ofBits (F := Ideal) .f32 0x3F800000#32))))) (mulf y u))
      (fun r c => Ideal.sqrt (-(Ideal.exp (2 * (((-8 : ℝ) : EReal) * R r c * spf (L c))) - 1)) * (I r c * U r c)) := by
    intro r c
    show Ideal.sqrt ((Ideal.ofBits .f32 0x00000000#32 - Ideal.tanh (Ideal.ofBits .f32 0x3F000000#32 * (Ideal.ofBits .f32 0x40000000#32 * z (ix2 r c))))
      * (Ideal.exp (Ideal.ofBits .f32 0x40000000#32 * z (ix2 r c)) + Ideal.ofBits .f32 0x3F800000#32)) * (y (ix2 r c) * u (ix2 r c))
      = Ideal.sqrt (-(Ideal.exp (2 * (((-8 : ℝ) : EReal) * R r.val c.val * spf (L c.val))) - 1)) * (I r.val c.val * U r.val c.val)
    rw [← tanh_exp, zero_bits, half_bits, two_bits, one_bits, h14 r c, hy r c, hu r c]
  have ha : M2 (exp z) (fun r c => Ideal.exp (((-8 : ℝ) : EReal) * R r c * spf (L c))) := fun r c => congrArg Ideal.exp (h14 r c)
  exact addM hb (mulM ha (shR 1 (by decide) (by decide) hb zero_bits))

theorem pay17 {R : ℕ → ℕ → EReal} {L : ℕ → EReal} {x : FVec Ideal S512x128 .f32} (hx : M2 x R)
    {w : FVec Ideal S1x128 .f32} (hw : M2 w (fun _ c => L c)) :
    M2 (k0_pay17 (F := Ideal) x (k0_pay11 w) (k0_pay12 w) (k0_pay13 (F := Ideal)))
      (sA 1 (fun r c => Ideal.exp (((-8 : ℝ) : EReal) * R r c * spf (L c)))) := by
  have h14 := pay14 hx hw
  unfold k0_pay17 k0_pay15
  generalize k0_pay14 (F := Ideal) x (k0_pay11 w) (k0_pay12 w) (k0_pay13 (F := Ideal)) = z at *
  have ha : M2 (exp z) (fun r c => Ideal.exp (((-8 : ℝ) : EReal) * R r c * spf (L c))) := fun r c => congrArg Ideal.exp (h14 r c)
  exact mulM ha (shR 1 (by decide) (by decide) ha one_bits)

theorem pay18 {v : ℕ → ℕ → EReal} {u x y : FVec Ideal S512x128 .f32} {w1 w2 w3 : FVec Ideal S1x128 .f32}
    (h : M2 (k0_pay16 (F := Ideal) u x y w1 w2 w3) v) :
    M2 (k0_pay18 (F := Ideal) u x y w1 w2 w3) (fun r c => if 2 ≤ r then v (r - 2) c else 0) := by
  unfold k0_pay18
  exact shR 2 (by decide) (by decide) h zero_bits

/-! ## A whole head -/

/-- The state after each row of tile `T`, of the head's convolved input and parameters. -/
theorem head (d : RData) (q T : ℕ) {u : FVec Ideal S512x128 .f32} (hu : M2 u (fun r c => d.u (512 * T + r) (128 * q + c)))
    {wa wx : FVec Ideal S1x128x128 .bf16} (hwa : M3 wa (fun _ i j => d.WA q i j)) (hwx : M3 wx (fun _ i j => d.WX q i j))
    {b1 b2 b3 h : FVec Ideal S1x128 .f32} (h1 : M2 b1 (fun _ c => d.V 1 (128 * q + c))) (h2 : M2 b2 (fun _ c => d.V 2 (128 * q + c)))
    (h3 : M2 b3 (fun _ c => d.V 3 (128 * q + c))) (hh : M2 h (fun _ c => d.H q c (512 * T))) :
    M2 (k0_pay25 (F := Ideal) h
        (k0_pay22 (k0_pay16 u (k0_pay8 u wa b1) (k0_pay9 u wx b2) (k0_pay11 b3) (k0_pay12 b3) (k0_pay13 (F := Ideal)))
          (k0_pay17 (k0_pay8 u wa b1) (k0_pay11 b3) (k0_pay12 b3) (k0_pay13 (F := Ideal)))
          (k0_pay18 u (k0_pay8 u wa b1) (k0_pay9 u wx b2) (k0_pay11 b3) (k0_pay12 b3) (k0_pay13 (F := Ideal))))
        (k0_pay23 (k0_pay17 (k0_pay8 u wa b1) (k0_pay11 b3) (k0_pay12 b3) (k0_pay13 (F := Ideal))))
        (k0_pay24 (k0_pay16 u (k0_pay8 u wa b1) (k0_pay9 u wx b2) (k0_pay11 b3) (k0_pay12 b3) (k0_pay13 (F := Ideal)))
          (k0_pay17 (k0_pay8 u wa b1) (k0_pay11 b3) (k0_pay12 b3) (k0_pay13 (F := Ideal)))
          (k0_pay18 u (k0_pay8 u wa b1) (k0_pay9 u wx b2) (k0_pay11 b3) (k0_pay12 b3) (k0_pay13 (F := Ideal)))))
      (fun r c => d.H q c (512 * T + r + 1)) := by
  have hr := pay8 hu hwa h1
  have hi := pay9 hu hwx h2
  have hv := pay16 hu hr hi h3
  have ha := pay17 hr h3
  have hz := pay18 hv
  have e := pay25 hh (pay22 ha hv hz) (pay23 ha) (pay24 ha hv hz)
  intro r c
  exact (e r c).trans (scan_H d q c.val T r.isLt)

/-- The second head's, likewise. -/
theorem head' (u : FVec Ideal S512x128 .f32) (wa wx : FVec Ideal S1x128x128 .bf16) (b1 b2 b3 h : FVec Ideal S1x128 .f32) :
    k0_pay45 (F := Ideal) h (k0_pay43 (k0_pay38 (k0_pay30 u wa b1) (k0_pay33 b3) (k0_pay34 b3)))
        (k0_pay44 (k0_pay37 u (k0_pay30 u wa b1) (k0_pay31 u wx b2) (k0_pay33 b3) (k0_pay34 b3))
          (k0_pay38 (k0_pay30 u wa b1) (k0_pay33 b3) (k0_pay34 b3))
          (k0_pay39 u (k0_pay30 u wa b1) (k0_pay31 u wx b2) (k0_pay33 b3) (k0_pay34 b3)))
      = k0_pay25 (F := Ideal) h
        (k0_pay22 (k0_pay16 u (k0_pay8 u wa b1) (k0_pay9 u wx b2) (k0_pay11 b3) (k0_pay12 b3) (k0_pay13 (F := Ideal)))
          (k0_pay17 (k0_pay8 u wa b1) (k0_pay11 b3) (k0_pay12 b3) (k0_pay13 (F := Ideal)))
          (k0_pay18 u (k0_pay8 u wa b1) (k0_pay9 u wx b2) (k0_pay11 b3) (k0_pay12 b3) (k0_pay13 (F := Ideal))))
        (k0_pay23 (k0_pay17 (k0_pay8 u wa b1) (k0_pay11 b3) (k0_pay12 b3) (k0_pay13 (F := Ideal))))
        (k0_pay24 (k0_pay16 u (k0_pay8 u wa b1) (k0_pay9 u wx b2) (k0_pay11 b3) (k0_pay12 b3) (k0_pay13 (F := Ideal)))
          (k0_pay17 (k0_pay8 u wa b1) (k0_pay11 b3) (k0_pay12 b3) (k0_pay13 (F := Ideal)))
          (k0_pay18 u (k0_pay8 u wa b1) (k0_pay9 u wx b2) (k0_pay11 b3) (k0_pay12 b3) (k0_pay13 (F := Ideal)))) := by
  have e8 : k0_pay30 (F := Ideal) u wa b1 = k0_pay8 u wa b1 := rfl
  have e9 : k0_pay31 (F := Ideal) u wx b2 = k0_pay9 u wx b2 := rfl
  have e11 : k0_pay33 (F := Ideal) b3 = k0_pay11 b3 := rfl
  rw [e8, e9, e11]
  generalize k0_pay8 (F := Ideal) u wa b1 = x
  generalize k0_pay9 (F := Ideal) u wx b2 = y
  have e17 : k0_pay38 (F := Ideal) x (k0_pay11 b3) (k0_pay34 b3) = k0_pay17 x (k0_pay11 b3) (k0_pay12 b3) (k0_pay13 (F := Ideal)) := rfl
  have e16 : k0_pay37 (F := Ideal) u x y (k0_pay11 b3) (k0_pay34 b3) = k0_pay16 u x y (k0_pay11 b3) (k0_pay12 b3) (k0_pay13 (F := Ideal)) := rfl
  have e18 : k0_pay39 (F := Ideal) u x y (k0_pay11 b3) (k0_pay34 b3)
      = mulf (k0_pay17 x (k0_pay11 b3) (k0_pay12 b3) (k0_pay13 (F := Ideal))) (k0_pay18 u x y (k0_pay11 b3) (k0_pay12 b3) (k0_pay13 (F := Ideal))) := rfl
  rw [e17, e16, e18]
  generalize k0_pay17 (F := Ideal) x (k0_pay11 b3) (k0_pay12 b3) (k0_pay13 (F := Ideal)) = A
  generalize k0_pay18 (F := Ideal) u x y (k0_pay11 b3) (k0_pay12 b3) (k0_pay13 (F := Ideal)) = Z
  generalize k0_pay16 (F := Ideal) u x y (k0_pay11 b3) (k0_pay12 b3) (k0_pay13 (F := Ideal)) = V
  rfl

/-! ## What is stored -/

theorem silu {U : ℕ → ℕ → EReal} {G : ℕ → ℕ → EReal} {x : FVec Ideal S512x128 .f32} (hx : M2 x U)
    {g : FVec Ideal S512x128 .f32} (hg : M2 g G) :
    M2 (k0_pay1 (F := Ideal) x g) (fun r c => U r c * (G r c * sgm (G r c))) := by
  simp only [M2, M3] at *
  intro r c
  unfold k0_pay1
  pointwise
  simp only [hx, hg]
  rfl

theorem pay47 {G : ℕ → ℕ → EReal} {g : FVec Ideal S1x512x128 .f32} (hg : M3 g (fun _ => G)) : M2 (k0_pay47 (F := Ideal) g) G := by
  simp only [M2, M3] at *
  intro r c
  unfold k0_pay47
  pointwise
  exact hg 0 r c

theorem pay27 {U : ℕ → ℕ → EReal} {G : ℕ → ℕ → EReal} {x : FVec Ideal S512x128 .f32} (hx : M2 x U)
    {g : FVec Ideal S1x512x128 .f32} (hg : M3 g (fun _ => G)) :
    M2 (k0_pay27 (F := Ideal) x g) (fun r c => U r c * (G r c * sgm (G r c))) := silu hx (pay47 hg)

theorem pay2 {x : FVec Ideal S16x256 .f32} {F : ℕ → ℕ → EReal} (h : M2 x F) : M2 (k0_pay2 (F := Ideal) x) F := by
  simp only [M2, M3] at *
  intro r c
  unfold k0_pay2
  pointwise
  exact h r c

theorem pay3 : M2 (k0_pay3 (F := Ideal)) (fun _ _ => 0) := by
  simp only [M2, M3] at *
  intro r c
  unfold k0_pay3
  pointwise

theorem pay4 : M2 (k0_pay4 (F := Ideal)) (fun _ _ => 0) := by
  simp only [M2, M3] at *
  intro r c
  unfold k0_pay4
  pointwise

theorem pay5 {x : FVec Ideal S1x512x256 .f32} {F : ℕ → ℕ → EReal} (h : M3 x (fun _ => F)) : M2 (k0_pay5 (F := Ideal) x) F := by
  simp only [M2, M3] at *
  intro r c
  unfold k0_pay5
  pointwise
  exact h 0 r c

theorem pay26 {x : FVec Ideal S1x128 .f32} {F : ℕ → ℕ → EReal} (h : M2 x F) : M2 (k0_pay26 (F := Ideal) x) F := by
  simp only [M2, M3] at *
  intro r c
  obtain rfl : r = 0 := Subsingleton.elim _ _
  unfold k0_pay26
  pointwise
  exact h 0 c

theorem pay46 {x : FVec Ideal S1x128 .f32} {F : ℕ → ℕ → EReal} (h : M2 x F) : M2 (k0_pay46 (F := Ideal) x) F := pay26 h

end Cert.Rnn
end
-- ==== Proof.RnnFwd.lean ====
module

public import proofs.«01_k».proof.Proof.RnnPay
public import proofs.«01_k».proof.Proof.PoolFwd

/-!
# The recurrent branch forward: what one tile's point leaves
-/

@[expose] public section

set_option maxRecDepth 16384

noncomputable section

namespace Cert.Rnn

open Cert.Kernel8Ideal Cert.Kernel8Ideal.Gen Idealize.ShloMosaic Idealize.ShloMosaic.TcCoe Idealize.SL.Sem
open Cert.Pool (M2 M3 back sgm piece2 piece3 canon_at canon_or skip2 load2 load3 pcons pnil mem2 mem3 idx2
  read_writes_at at2 at3 at2_of at3_of at2_eq at3_eq)
open Idealize.ShloMosaic.Pipeline (Dat)

/-! ## Reading a buffer its writes tile -/

theorem readG {sig : RefSig} {κ : Kind} {sp : Space} {A B a b o0 o1 : ℕ} (v : View sig κ sp (⟨2, ![A, B]⟩ : Shape) .f32)
    (L : List (View.Piece (Elt Ideal) (⟨2, ![A, B]⟩ : Shape) .f32)) (G : ℕ → ℕ → EReal) {inb}
    (h : View.PiecesOf (fun y : (⟨2, ![A, B]⟩ : Shape).Idx => G (y 0).val (y 1).val) L)
    (hc : ∀ y : (⟨2, ![A, B]⟩ : Shape).Idx, o0 ≤ (y 0).val → (y 0).val < o0 + a → o1 ≤ (y 1).val → (y 1).val < o1 + b → ∃ p ∈ L, y ∈ p.1.set)
    (ha : o0 + a ≤ A) (hb : o1 + b ≤ B) :
    M2 (v.readCov (Val := Elt Ideal) L (Rect.unit (s := ⟨2, ![A, B]⟩) ![o0, o1] ![a, b] inb).toLoadRect) (fun r c => G (o0 + r) (o1 + c)) := by
  intro r c
  rw [View.readCov_eq_canon']
  have hr := r.isLt
  have hc' := c.isLt
  have e : (Rect.unit (s := ⟨2, ![A, B]⟩) ![o0, o1] ![a, b] inb).toLoadRect.idx (ix2 r c)
      = ix2 ⟨o0 + r.val, by omega⟩ ⟨o1 + c.val, by omega⟩ := idx2 _ _ rfl rfl
  dsimp only
  rw [e]
  exact canon_at (fun y : (⟨2, ![A, B]⟩ : Shape).Idx => G (y 0).val (y 1).val) _ h _
    (hc (ix2 ⟨o0 + r.val, by omega⟩ ⟨o1 + c.val, by omega⟩) (Nat.le_add_right _ _) (Nat.add_lt_add_left hr _) (Nat.le_add_right _ _) (Nat.add_lt_add_left hc' _))

theorem readW {sig : RefSig} {κ : Kind} {sp : Space} {A B a b o0 o1 : ℕ} (v : View sig κ sp (⟨2, ![A, B]⟩ : Shape) .f32)
    (f : v.ty.Contents (Elt Ideal)) (L : List (View.Piece (Elt Ideal) (⟨2, ![A, B]⟩ : Shape) .f32)) (G : ℕ → ℕ → EReal) {inb}
    (h : View.PiecesOf (fun y : (⟨2, ![A, B]⟩ : Shape).Idx => G (y 0).val (y 1).val) L)
    (hc : ∀ y : (⟨2, ![A, B]⟩ : Shape).Idx, o0 ≤ (y 0).val → (y 0).val < o0 + a → o1 ≤ (y 1).val → (y 1).val < o1 + b →
      v.read (Elt Ideal) f y = G (y 0).val (y 1).val ∨ ∃ p ∈ L, y ∈ p.1.set)
    (ha : o0 + a ≤ A) (hb : o1 + b ≤ B) :
    M2 (View.ld (v.read (Elt Ideal) (v.writes (Elt Ideal) f L)) (Rect.unit (s := ⟨2, ![A, B]⟩) ![o0, o1] ![a, b] inb))
      (fun r c => G (o0 + r) (o1 + c)) := by
  intro r c
  have hr := r.isLt
  have hc' := c.isLt
  refine (load2 _ _ _ (by omega) (by omega)).trans ?_
  exact read_writes_at v f (fun y : (⟨2, ![A, B]⟩ : Shape).Idx => G (y 0).val (y 1).val) _ _ h
    (hc (ix2 ⟨o0 + r.val, by omega⟩ ⟨o1 + c.val, by omega⟩) (Nat.le_add_right _ _) (Nat.add_lt_add_left hr _) (Nat.le_add_right _ _) (Nat.add_lt_add_left hc' _))

/-! ## One tile -/

/-- The five blocks the body reads at tile `T` of the head pair `P`. -/
structure RTile (d : RData) (P T : ℕ) (x0 : Vec Ideal S2x512x256 .f32) (x1 : Vec Ideal S4x256 .f32) (x2 : Vec Ideal S8x256 .f32)
    (x3 x4 : Vec Ideal S2x128x128 .bf16) : Prop where
  lt : T < 8
  x : ∀ (r : Fin 512) (l : Fin 256), x0 (ix3 0 r l) = d.X (512 * T + r.val) (256 * P + l.val)
  g : ∀ (r : Fin 512) (l : Fin 256), x0 (ix3 1 r l) = d.G (512 * T + r.val) (256 * P + l.val)
  c : ∀ (a : Fin 4) (l : Fin 256), x1 (ix2 a l) = d.C a.val (256 * P + l.val)
  v : ∀ (a : Fin 8) (l : Fin 256), x2 (ix2 a l) = d.V a.val (256 * P + l.val)
  wa : ∀ (a : Fin 2) (i j : Fin 128), x3 (ix3 a i j) = d.WA (2 * P + a.val) i.val j.val
  wx : ∀ (a : Fin 2) (i j : Fin 128), x4 (ix3 a i j) = d.WX (2 * P + a.val) i.val j.val

/-- The buffer's rows during tile `T`: sixteen of the steps before, then the tile's. -/
def xb (d : RData) (P T r l : ℕ) : EReal := if 16 ≤ 512 * T + r then d.X (512 * T + r - 16) (256 * P + l) else 0

/-- The state of the pair's lanes before tile `T`. -/
def hl (d : RData) (P T l : ℕ) : EReal := d.H (2 * P + l / 128) (l % 128) (512 * T)

/-- The tile's block of the states. -/
def outH (d : RData) (P T r l : ℕ) : EReal := d.H (2 * P + l / 128) (l % 128) (512 * T + r + 1)

/-- The tile's block of the output. -/
def outY (d : RData) (P T r l : ℕ) : EReal := d.y (2 * P + l / 128) (512 * T + r) (l % 128)

theorem prow (d : RData) (P T : ℕ) : ∀ i j, i < 512 → j < 256 → d.X (512 * T + i) (256 * P + j) = xb d P T (16 + i) (0 + j) := by
  intro i j hi hj
  rw [xb, if_pos (by omega), Nat.zero_add]
  congr 1
  omega

theorem pzero (d : RData) (P : ℕ) : ∀ i j, i < 16 → j < 256 → (0 : EReal) = xb d P 0 (0 + i) (0 + j) := by
  intro i j hi hj
  rw [xb, if_neg (by omega)]

theorem pnext (d : RData) (P T : ℕ) : ∀ i j, i < 16 → j < 256 → xb d P T (512 + i) (0 + j) = xb d P (T + 1) (0 + i) (0 + j) := by
  intro i j hi hj
  rw [xb, xb, if_pos (by omega), if_pos (by omega)]
  congr 1
  omega

theorem poutH (d : RData) (P T k : ℕ) : ∀ i j, i < 512 → j < 128 → d.H (2 * P + k) j (512 * T + i + 1) = outH d P T (0 + i) (128 * k + j) := by
  intro i j hi hj
  have e1 : (128 * k + j) / 128 = k := by omega
  have e2 : (128 * k + j) % 128 = j := by omega
  rw [outH, e1, e2, Nat.zero_add]

theorem poutY (d : RData) (P T k : ℕ) : ∀ i j, i < 512 → j < 128 →
    d.H (2 * P + k) j (512 * T + i + 1) * (d.G (512 * T + i) (128 * (2 * P + k) + j) * sgm (d.G (512 * T + i) (128 * (2 * P + k) + j)))
      = outY d P T (0 + i) (128 * k + j) := by
  intro i j hi hj
  have e1 : (128 * k + j) / 128 = k := by omega
  have e2 : (128 * k + j) % 128 = j := by omega
  rw [outY, e1, e2, Nat.zero_add]
  rfl

theorem plast (d : RData) (P T o : ℕ) : ∀ i j, i < 1 → j < 128 → outH d P T (511 + i) (o + j) = hl d P (T + 1) (o + j) := by
  intro i j hi hj
  rw [outH, hl]
  congr 1
  omega

theorem hl_zero (d : RData) (P l : ℕ) : hl d P 0 l = 0 := rfl

theorem hl_of (d : RData) (P T k c : ℕ) (hc : c < 128) : hl d P T (128 * k + c) = d.H (2 * P + k) c (512 * T) := by
  have e1 : (128 * k + c) / 128 = k := by omega
  have e2 : (128 * k + c) % 128 = c := by omega
  rw [hl, e1, e2]

theorem lane (P k c : ℕ) : 256 * P + (128 * k + c) = 128 * (2 * P + k) + c := by omega

namespace RTile

variable {d : RData} {P T : ℕ} {x0 : Vec Ideal S2x512x256 .f32} {x1 : Vec Ideal S4x256 .f32} {x2 : Vec Ideal S8x256 .f32}
    {x3 x4 : Vec Ideal S2x128x128 .bf16} (h : RTile d P T x0 x1 x2 x3 x4)
include h

theorem ldX {inb} : M3 (View.ld x0 (Rect.unit ![0, 0, 0] ![1, 512, 256] inb)) (fun _ r l => d.X (512 * T + r) (256 * P + l)) := by
  intro a r c
  obtain rfl : a = 0 := Subsingleton.elim _ _
  refine (load3 x0 _ _ _ (by decide) (by omega) (by omega)).trans ?_
  simpa using h.x r c

theorem ldG {k : ℕ} (hk : k < 2) {inb} : M3 (View.ld x0 (Rect.unit ![1, 0, 128 * k] ![1, 512, 128] inb))
    (fun _ r c => d.G (512 * T + r) (128 * (2 * P + k) + c)) := by
  intro a r c
  obtain rfl : a = 0 := Subsingleton.elim _ _
  refine (load3 x0 _ _ _ (by decide) (by omega) (by omega)).trans ?_
  show _ = d.G _ (128 * (2 * P + k) + c.val)
  rw [← lane]
  simpa using h.g r ⟨128 * k + c.val, by omega⟩

theorem ldC {a : ℕ} (ha : a < 4) {k : ℕ} (hk : k < 2) {inb} : M2 (View.ld x1 (Rect.unit ![a, 128 * k] ![1, 128] inb))
    (fun _ c => d.C a (128 * (2 * P + k) + c)) := by
  intro r c
  obtain rfl : r = 0 := Subsingleton.elim _ _
  refine (load2 x1 _ _ (by simpa using ha) (by omega)).trans ?_
  show _ = d.C _ (128 * (2 * P + k) + c.val)
  rw [← lane]
  simpa using h.c ⟨a, ha⟩ ⟨128 * k + c.val, by omega⟩

theorem ldV {a : ℕ} (ha : a < 8) {k : ℕ} (hk : k < 2) {inb} : M2 (View.ld x2 (Rect.unit ![a, 128 * k] ![1, 128] inb))
    (fun _ c => d.V a (128 * (2 * P + k) + c)) := by
  intro r c
  obtain rfl : r = 0 := Subsingleton.elim _ _
  refine (load2 x2 _ _ (by simpa using ha) (by omega)).trans ?_
  show _ = d.V _ (128 * (2 * P + k) + c.val)
  rw [← lane]
  simpa using h.v ⟨a, ha⟩ ⟨128 * k + c.val, by omega⟩

theorem ldWA {k : ℕ} (hk : k < 2) {inb} : M3 (View.ld x3 (Rect.unit ![k, 0, 0] ![1, 128, 128] inb)) (fun _ i j => d.WA (2 * P + k) i j) := by
  intro a i j
  obtain rfl : a = 0 := Subsingleton.elim _ _
  refine (load3 x3 _ _ _ (by simpa using hk) (by omega) (by omega)).trans ?_
  simpa using h.wa ⟨k, hk⟩ i j

theorem ldWX {k : ℕ} (hk : k < 2) {inb} : M3 (View.ld x4 (Rect.unit ![k, 0, 0] ![1, 128, 128] inb)) (fun _ i j => d.WX (2 * P + k) i j) := by
  intro a i j
  obtain rfl : a = 0 := Subsingleton.elim _ _
  refine (load3 x4 _ _ _ (by simpa using hk) (by omega) (by omega)).trans ?_
  simpa using h.wx ⟨k, hk⟩ i j

omit h in
/-- The convolved input of one head. -/
theorem conv (k : ℕ) {b w0 w1 w2 w3 : FVec Ideal S1x128 .f32} (hb : M2 b (fun _ c => d.V 0 (128 * (2 * P + k) + c)))
    (h3 : M2 w3 (fun _ c => d.C 3 (128 * (2 * P + k) + c))) {y0 y1 y2 y3 : FVec Ideal S512x128 .f32} (hx0 : M2 y0 (fun r c => xb d P T (16 + r) (128 * k + c)))
    (h0 : M2 w0 (fun _ c => d.C 0 (128 * (2 * P + k) + c))) (hx3 : M2 y3 (fun r c => xb d P T (13 + r) (128 * k + c)))
    (h1 : M2 w1 (fun _ c => d.C 1 (128 * (2 * P + k) + c))) (hx2 : M2 y2 (fun r c => xb d P T (14 + r) (128 * k + c)))
    (h2 : M2 w2 (fun _ c => d.C 2 (128 * (2 * P + k) + c))) (hx1 : M2 y1 (fun r c => xb d P T (15 + r) (128 * k + c))) :
    M2 (k0_pay6 (F := Ideal) b w3 y0 w0 y3 w1 y2 w2 y1) (fun r c => d.u (512 * T + r) (128 * (2 * P + k) + c)) := by
  intro r c
  refine (pay6 hb h3 hx0 h0 hx3 h1 hx2 h2 hx1 r c).trans ?_
  have e : ∀ n, n ≤ 3 → xb d P T (16 - n + r.val) (128 * k + c.val) = back (fun s => d.X s (128 * (2 * P + k) + c.val)) (512 * T + r.val) n := by
    intro n hn
    rw [xb, back, lane]
    by_cases hle : n ≤ 512 * T + r.val
    · rw [if_pos hle, if_pos (by omega)]
      congr 1
      omega
    · rw [if_neg hle, if_neg (by omega)]
  have e3 := e 3 (by decide)
  have e2 := e 2 (by decide)
  have e1 := e 1 (by decide)
  have e0 := e 0 (by decide)
  simp only [Nat.reduceSub, Nat.sub_zero] at e0 e1 e2 e3
  show _ = d.u (512 * T + r.val) (128 * (2 * P + k) + c.val)
  unfold RData.u
  rw [← e3, ← e2, ← e1]
  have e0' : d.X (512 * T + r.val) (128 * (2 * P + k) + c.val) = xb d P T (16 + r.val) (128 * k + c.val) := by
    rw [e0]
    simp [back]
  rw [e0']

/-- The buffer of the first tile. -/
theorem xbA (hT : T = 0) {o k : ℕ} (ho : o ≤ 16) (hk : k < 2) {sig : RefSig} {κ : Kind} {sp : Space} (v : View sig κ sp S528x256 .f32) {inb1 inb2 inb3 inb} :
    M2 (v.readCov (Val := Elt Ideal) [⟨Rect.unit ![16, 0] ![512, 256] inb1, k0_pay5 (View.ld x0 (Rect.unit ![0, 0, 0] ![1, 512, 256] inb2))⟩,
        ⟨Rect.unit ![0, 0] ![16, 256] inb3, k0_pay3 (F := Ideal)⟩]
        (Rect.unit (s := S528x256) ![o, 128 * k] ![512, 128] inb).toLoadRect) (fun r c => xb d P T (o + r) (128 * k + c)) := by
  refine readG v _ (xb d P T) (pcons (piece2 (xb d P T) (pay5 h.ldX) (prow d P T)) (pcons (piece2 (xb d P T) pay3 (hT ▸ pzero d P)) pnil)) ?_ (by omega) (by omega)
  intro y h0 h1 h2 h3
  by_cases hlt : (y 0).val < 16
  · refine List.exists_mem_cons_of_exists (List.exists_mem_cons_of _ ?_)
    exact mem2 (inb := inb3) _ (by omega) (by omega) (by omega) (by omega)
  · refine List.exists_mem_cons_of _ ?_
    exact mem2 (inb := inb1) _ (by omega) (by omega) (by omega) (by omega)

/-- The tile's own rows. -/
theorem xbO {k : ℕ} (hk : k < 2) {sig : RefSig} {κ : Kind} {sp : Space} (v : View sig κ sp S528x256 .f32) {inb1 inb2 inb}
    (L : List (View.Piece (Elt Ideal) S528x256 .f32)) :
    M2 (v.readCov (Val := Elt Ideal) (⟨Rect.unit ![16, 0] ![512, 256] inb1, k0_pay5 (View.ld x0 (Rect.unit ![0, 0, 0] ![1, 512, 256] inb2))⟩ :: L)
        (Rect.unit (s := S528x256) ![16, 128 * k] ![512, 128] inb).toLoadRect) (fun r c => xb d P T (16 + r) (128 * k + c)) := by
  intro r c
  rw [View.readCov_eq_canon']
  have hr := r.isLt
  have hc := c.isLt
  have e : (Rect.unit (s := S528x256) ![16, 128 * k] ![512, 128] inb).toLoadRect.idx (ix2 r c)
      = ix2 ⟨16 + r.val, by omega⟩ ⟨128 * k + c.val, by omega⟩ := idx2 _ _ rfl rfl
  dsimp only
  rw [e]
  exact canon_or (Val := Elt Ideal) (e := .f32) (G := fun y : S528x256.Idx => xb d P T (y 0).val (y 1).val) [⟨Rect.unit ![16, 0] ![512, 256] inb1, _⟩] L (pcons (piece2 (inb := inb1) (xb d P T) (pay5 (h.ldX (inb := inb2))) (prow d P T)) pnil)
    (Or.inr (List.exists_mem_cons_of _ (mem2 (inb := inb1) _ (by simp) (by simp <;> omega) (Nat.zero_le _) (by simp <;> omega))))

/-- The buffer of a later tile. -/
theorem xbB {o k : ℕ} (ho : o ≤ 16) (hk : k < 2) {sig : RefSig} {κ : Kind} {sp : Space} (v : View sig κ sp S528x256 .f32)
    (f : v.ty.Contents (Elt Ideal)) (hf : ∀ y : S528x256.Idx, (y 0).val < 16 → v.read (Elt Ideal) f y = xb d P T (y 0).val (y 1).val) {inb1 inb2 inb} :
    M2 (View.ld (v.read (Elt Ideal) (v.writes (Elt Ideal) f
        [⟨Rect.unit ![16, 0] ![512, 256] inb1, k0_pay5 (View.ld x0 (Rect.unit ![0, 0, 0] ![1, 512, 256] inb2))⟩]))
        (Rect.unit (s := S528x256) ![o, 128 * k] ![512, 128] inb)) (fun r c => xb d P T (o + r) (128 * k + c)) := by
  refine readW v f _ (xb d P T) (pcons (piece2 (xb d P T) (pay5 h.ldX) (prow d P T)) pnil) ?_ (by omega) (by omega)
  intro y h0 h1 h2 h3
  by_cases hlt : (y 0).val < 16
  · exact Or.inl (hf y hlt)
  · refine Or.inr (List.exists_mem_cons_of _ ?_)
    exact mem2 (inb := inb1) _ (by omega) (by omega) (by omega) (by omega)

/-- The rows a tile hands on. -/
theorem hist {sig : RefSig} {κ : Kind} {sp : Space} (v : View sig κ sp S528x256 .f32) {inb1 inb2 inb}
    (L : List (View.Piece (Elt Ideal) S528x256 .f32)) :
    M2 (v.readCov (Val := Elt Ideal) (⟨Rect.unit ![16, 0] ![512, 256] inb1, k0_pay5 (View.ld x0 (Rect.unit ![0, 0, 0] ![1, 512, 256] inb2))⟩ :: L)
        (Rect.unit (s := S528x256) ![512, 0] ![16, 256] inb).toLoadRect) (fun r c => xb d P T (512 + r) (0 + c)) := by
  intro r c
  rw [View.readCov_eq_canon']
  have hr := r.isLt
  have hc := c.isLt
  have e : (Rect.unit (s := S528x256) ![512, 0] ![16, 256] inb).toLoadRect.idx (ix2 r c)
      = ix2 ⟨512 + r.val, by omega⟩ ⟨0 + c.val, by omega⟩ := idx2 _ _ rfl rfl
  dsimp only
  rw [e]
  exact canon_or (Val := Elt Ideal) (e := .f32) (G := fun y : S528x256.Idx => xb d P T (y 0).val (y 1).val) [⟨Rect.unit ![16, 0] ![512, 256] inb1, _⟩] L (pcons (piece2 (inb := inb1) (xb d P T) (pay5 (h.ldX (inb := inb2))) (prow d P T)) pnil)
    (Or.inr (List.exists_mem_cons_of _ (mem2 (inb := inb1) _ (by simp <;> omega) (by simp <;> omega) (Nat.zero_le _) (by simp <;> omega))))

end RTile

/-- What a tile leaves in the history's rows. -/
theorem first16 {d : RData} {P T : ℕ} {w : (⟨2, ![16, 256]⟩ : Shape).Idx → EReal} (hw : M2 w (fun r c => xb d P T (512 + r) (0 + c))) {inb}
    (L : List (View.Piece (Elt Ideal) S528x256 .f32)) (y : S528x256.Idx) (hy : (y 0).val < 16) :
    View.canon (Val := Elt Ideal) (⟨Rect.unit (s := S528x256) ![0, 0] ![16, 256] inb, w⟩ :: L) y = xb d P (T + 1) (y 0).val (y 1).val := by
  have h1 : (y 1).val < 256 := (y 1).isLt
  exact canon_or (G := fun y : S528x256.Idx => xb d P (T + 1) (y 0).val (y 1).val) [_] L (pcons (piece2 (inb := inb) (xb d P (T + 1)) hw (pnext d P T)) pnil)
    (Or.inr (List.exists_mem_cons_of _ (mem2 (inb := inb) _ (Nat.zero_le _) (by omega) (Nat.zero_le _) (by omega))))

/-- The last row of the first head's states. -/
theorem last0 {d : RData} {P T : ℕ} {w : (⟨2, ![512, 128]⟩ : Shape).Idx → EReal} (hw : M2 w (fun r c => d.H (2 * P + 0) c (512 * T + r + 1)))
    {sig : RefSig} {κ : Kind} {sp : Space} (v : View sig κ sp S512x256 .f32) {inb1 inb} :
    M2 (v.readCov (Val := Elt Ideal) [⟨Rect.unit ![0, 0] ![512, 128] inb1, w⟩] (Rect.unit (s := S512x256) ![511, 0] ![1, 128] inb).toLoadRect)
      (fun r c => outH d P T (511 + r) (0 + c)) := by
  refine readG v _ (outH d P T) (pcons (piece2 (outH d P T) hw (poutH d P T 0)) pnil) ?_ (by omega) (by omega)
  intro y h0 h1 h2 h3
  exact List.exists_mem_cons_of _ (mem2 (inb := inb1) _ (by omega) (by omega) (by omega) (by omega))

/-- The last row of the second head's. -/
theorem last1 {d : RData} {P T : ℕ} {w : (⟨2, ![512, 128]⟩ : Shape).Idx → EReal} (hw : M2 w (fun r c => d.H (2 * P + 1) c (512 * T + r + 1)))
    {sig : RefSig} {κ : Kind} {sp : Space} (v : View sig κ sp S512x256 .f32) {inb1 inb} (L : List (View.Piece (Elt Ideal) S512x256 .f32)) :
    M2 (v.readCov (Val := Elt Ideal) (⟨Rect.unit ![0, 128] ![512, 128] inb1, w⟩ :: L) (Rect.unit (s := S512x256) ![511, 128] ![1, 128] inb).toLoadRect)
      (fun r c => outH d P T (511 + r) (128 + c)) := by
  intro r c
  rw [View.readCov_eq_canon']
  have hr := r.isLt
  have hc := c.isLt
  have e : (Rect.unit (s := S512x256) ![511, 128] ![1, 128] inb).toLoadRect.idx (ix2 r c)
      = ix2 ⟨511 + r.val, by omega⟩ ⟨128 + c.val, by omega⟩ := idx2 _ _ rfl rfl
  dsimp only
  rw [e]
  exact canon_or (Val := Elt Ideal) (e := .f32) (G := fun y : S512x256.Idx => outH d P T (y 0).val (y 1).val) [⟨Rect.unit ![0, 128] ![512, 128] inb1, w⟩] L (pcons (piece2 (inb := inb1) (outH d P T) hw (poutH d P T 1)) pnil)
    (Or.inr (List.exists_mem_cons_of _ (mem2 (inb := inb1) _ (Nat.zero_le _) (by simp <;> omega) (by simp) (by simp <;> omega))))

/-- The second head of a pair. -/
theorem headB (d : RData) (q T : ℕ) {u : FVec Ideal S512x128 .f32} (hu : M2 u (fun r c => d.u (512 * T + r) (128 * q + c)))
    {wa wx : FVec Ideal S1x128x128 .bf16} (hwa : M3 wa (fun _ i j => d.WA q i j)) (hwx : M3 wx (fun _ i j => d.WX q i j))
    {b1 b2 b3 h : FVec Ideal S1x128 .f32} (h1 : M2 b1 (fun _ c => d.V 1 (128 * q + c))) (h2 : M2 b2 (fun _ c => d.V 2 (128 * q + c)))
    (h3 : M2 b3 (fun _ c => d.V 3 (128 * q + c))) (hh : M2 h (fun _ c => d.H q c (512 * T))) :
    M2 (k0_pay45 (F := Ideal) h (k0_pay43 (k0_pay38 (k0_pay30 u wa b1) (k0_pay33 b3) (k0_pay34 b3)))
        (k0_pay44 (k0_pay37 u (k0_pay30 u wa b1) (k0_pay31 u wx b2) (k0_pay33 b3) (k0_pay34 b3))
          (k0_pay38 (k0_pay30 u wa b1) (k0_pay33 b3) (k0_pay34 b3))
          (k0_pay39 u (k0_pay30 u wa b1) (k0_pay31 u wx b2) (k0_pay33 b3) (k0_pay34 b3)))) (fun r c => d.H q c (512 * T + r + 1)) := by
  rw [head']
  exact head d q T hu hwa hwx h1 h2 h3 hh

/-- Before the first tile the state is zero. -/
theorem hlA0 (d : RData) (P : ℕ) {T : ℕ} (hT : T = 0) {sig : RefSig} {κ : Kind} {sp : Space} (v : View sig κ sp S8x256 .f32) {inb1 inb} :
    M2 (v.readCov (Val := Elt Ideal) [⟨Rect.unit ![0, 0] ![8, 256] inb1, k0_pay4 (F := Ideal)⟩] (Rect.unit (s := S8x256) ![0, 0] ![1, 128] inb).toLoadRect)
      (fun _ c => d.H (2 * P + 0) c (512 * T)) := by
  subst hT
  refine readG v _ (fun _ _ => 0) (pcons (piece2 (fun _ _ => 0) pay4 (fun _ _ _ _ => rfl)) pnil) ?_ (by omega) (by omega)
  intro y h0 h1 h2 h3
  exact List.exists_mem_cons_of _ (mem2 (inb := inb1) _ (by omega) (by omega) (by omega) (by omega))

theorem hlA1 (d : RData) (P : ℕ) {T : ℕ} (hT : T = 0) {sig : RefSig} {κ : Kind} {sp : Space} (v : View sig κ sp S8x256 .f32) {inb1 inb2 inb}
    (w : (⟨2, ![1, 128]⟩ : Shape).Idx → EReal) :
    M2 (v.readCov (Val := Elt Ideal) [⟨Rect.unit ![0, 0] ![1, 128] inb2, w⟩, ⟨Rect.unit ![0, 0] ![8, 256] inb1, k0_pay4 (F := Ideal)⟩]
      (Rect.unit (s := S8x256) ![0, 128] ![1, 128] inb).toLoadRect)
      (fun _ c => d.H (2 * P + 1) c (512 * T)) := by
  subst hT
  refine skip2 v rfl ?_
  refine readG v _ (fun _ _ => 0) (pcons (piece2 (fun _ _ => 0) pay4 (fun _ _ _ _ => rfl)) pnil) ?_ (by omega) (by omega)
  intro y h0 h1 h2 h3
  exact List.exists_mem_cons_of _ (mem2 (inb := inb1) _ (by omega) (by omega) (by omega) (by omega))

/-- Before a later one it is what the tile before left. -/
theorem hlB {d : RData} {P T k : ℕ} (hk : k < 2) {xs : Vec Ideal S8x256 .f32} (hx : ∀ y : S8x256.Idx, (y 0).val = 0 → xs y = hl d P T (y 1).val) {inb} :
    M2 (View.ld xs (Rect.unit (s := S8x256) ![0, 128 * k] ![1, 128] inb)) (fun _ c => d.H (2 * P + k) c (512 * T)) := by
  intro r c
  obtain rfl : r = 0 := Subsingleton.elim _ _
  refine (load2 _ _ _ (by decide) (by omega)).trans ((hx _ rfl).trans ?_)
  exact hl_of d P T k c.val c.isLt

/-- What a tile leaves of the state. -/
theorem leftH {d : RData} {P T : ℕ} {w0 w1 : (⟨2, ![1, 128]⟩ : Shape).Idx → EReal} (h0 : M2 w0 (fun r c => outH d P T (511 + r) (0 + c)))
    (h1 : M2 w1 (fun r c => outH d P T (511 + r) (128 + c))) {inb0 inb1} :
    View.PiecesOf (Val := Elt Ideal) (s := S8x256) (e := .f32) (fun y : S8x256.Idx => hl d P (T + 1) (y 1).val)
      [⟨Rect.unit (s := S8x256) ![0, 128] ![1, 128] inb1, w1⟩, ⟨Rect.unit (s := S8x256) ![0, 0] ![1, 128] inb0, w0⟩] :=
  pcons (piece2 (fun _ l => hl d P (T + 1) l) h1 (plast d P T 128)) (pcons (piece2 (fun _ l => hl d P (T + 1) l) h0 (plast d P T 0)) pnil)

theorem inH {w0 w1 : (⟨2, ![1, 128]⟩ : Shape).Idx → EReal} {inb0 inb1} (y : S8x256.Idx) (hy : (y 0).val = 0) :
    ∃ p ∈ ([⟨Rect.unit (s := S8x256) ![0, 128] ![1, 128] inb1, w1⟩, ⟨Rect.unit (s := S8x256) ![0, 0] ![1, 128] inb0, w0⟩] : List (View.Piece (Elt Ideal) S8x256 .f32)),
      y ∈ p.1.set := by
  have h1 : (y 1).val < 256 := (y 1).isLt
  by_cases hlt : (y 1).val < 128
  · refine List.exists_mem_cons_of_exists (List.exists_mem_cons_of _ ?_)
    exact mem2 (inb := inb0) _ (by omega) (by omega) (by omega) (by omega)
  · refine List.exists_mem_cons_of _ ?_
    exact mem2 (inb := inb1) _ (by omega) (by omega) (by omega) (by omega)

theorem leftA {d : RData} {P T : ℕ} {w0 w1 : (⟨2, ![1, 128]⟩ : Shape).Idx → EReal} (h0 : M2 w0 (fun r c => outH d P T (511 + r) (0 + c)))
    (h1 : M2 w1 (fun r c => outH d P T (511 + r) (128 + c))) {inb0 inb1} (L : List (View.Piece (Elt Ideal) S8x256 .f32)) (y : S8x256.Idx) (hy : (y 0).val = 0) :
    View.canon (Val := Elt Ideal) (⟨Rect.unit (s := S8x256) ![0, 128] ![1, 128] inb1, w1⟩ :: ⟨Rect.unit (s := S8x256) ![0, 0] ![1, 128] inb0, w0⟩ :: L) y
      = hl d P (T + 1) (y 1).val :=
  canon_or (Val := Elt Ideal) (e := .f32) (G := fun y : S8x256.Idx => hl d P (T + 1) (y 1).val) [_, _] L (leftH h0 h1) (Or.inr (inH y hy))

theorem leftB {d : RData} {P T : ℕ} {w0 w1 : (⟨2, ![1, 128]⟩ : Shape).Idx → EReal} (h0 : M2 w0 (fun r c => outH d P T (511 + r) (0 + c)))
    (h1 : M2 w1 (fun r c => outH d P T (511 + r) (128 + c))) {inb0 inb1} {sig : RefSig} {κ : Kind} {sp : Space} (v : View sig κ sp S8x256 .f32)
    (f : v.ty.Contents (Elt Ideal)) (y : S8x256.Idx) (hy : (y 0).val = 0) :
    v.read (Elt Ideal) (v.writes (Elt Ideal) f
        [⟨Rect.unit (s := S8x256) ![0, 128] ![1, 128] inb1, w1⟩, ⟨Rect.unit (s := S8x256) ![0, 0] ![1, 128] inb0, w0⟩]) y
      = hl d P (T + 1) (y 1).val :=
  read_writes_at v f _ y _ (leftH h0 h1) (Or.inr (inH y hy))

section

variable (c : Dev nD) (i : grid0.Coords) (arg2 : Memref sig .tc .vmem S2x512x256 .f32) (harg2 : arg2.IsWhole) (arg3 : Memref sig .tc .vmem S4x256 .f32) (harg3 : arg3.IsWhole) (arg4 : Memref sig .tc .vmem S8x256 .f32) (harg4 : arg4.IsWhole) (arg5 : Memref sig .tc .vmem S2x128x128 .bf16) (harg5 : arg5.IsWhole) (arg6 : Memref sig .tc .vmem S2x128x128 .bf16) (harg6 : arg6.IsWhole) (arg7 : Memref sig .tc .vmem S512x256 .bf16) (harg7 : arg7.IsWhole) (arg8 : Memref sig .tc .vmem S512x256 .f32) (harg8 : arg8.IsWhole) (arg9 : Memref sig .tc .vmem S528x256 .f32) (harg9 : arg9.IsWhole) (arg10 : Memref sig .tc .vmem S8x256 .f32) (harg10 : arg10.IsWhole)
    {d : RData} {P T : ℕ} (x0 : Vec Ideal S2x512x256 .f32) (x1 : Vec Ideal S4x256 .f32) (x2 : Vec Ideal S8x256 .f32) (x3 : Vec Ideal S2x128x128 .bf16) (x4 : Vec Ideal S2x128x128 .bf16)

set_option maxHeartbeats 2000000 in
set_option maxHeartbeats 2000000 in
theorem out_A6 (hc0 : cond0_0 i) (h : RTile d P 0 x0 x1 x2 x3 x4) (y : S512x256.Idx) :
    out0_A_6 (F := Ideal) c i arg2 harg2 arg3 harg3 arg4 harg4 arg5 harg5 arg6 harg6 arg7 harg7 arg8 harg8 arg9 harg9 arg10 harg10 hc0 x0 x1 x2 x3 x4 y = outH d P 0 (y 0).val (y 1).val := by
  unfold out0_A_6
  rw [View.read_writes_junk_eq_canon]
  refine canon_at (fun y : S512x256.Idx => outH d P 0 (y 0).val (y 1).val) _ ?_ y (cover0_A_6 c i arg2 harg2 arg3 harg3 arg4 harg4 arg5 harg5 arg6 harg6 arg7 harg7 arg8 harg8 arg9 harg9 arg10 harg10 hc0 x0 x1 x2 x3 x4 y)
  unfold kernelRun0_A
  dsimp only
  sl_unfold_words
  simp (discharger := assumption) only [View.readAt_eq_ld, Memref.IsWhole.read_unread]
  exact pcons (piece2 (outH d P 0) (headB d (2 * P + 1) 0 (RTile.conv 1 (h.ldV (a := 0) (k := 1) (by decide) (by decide)) (h.ldC (a := 3) (k := 1) (by decide) (by decide)) (h.xbO (k := 1) (by decide) _ _) (h.ldC (a := 0) (k := 1) (by decide) (by decide)) (h.xbA rfl (o := 13) (k := 1) (by decide) (by decide) _) (h.ldC (a := 1) (k := 1) (by decide) (by decide)) (h.xbA rfl (o := 14) (k := 1) (by decide) (by decide) _) (h.ldC (a := 2) (k := 1) (by decide) (by decide)) (h.xbA rfl (o := 15) (k := 1) (by decide) (by decide) _))
        (h.ldWA (k := 1) (by decide)) (h.ldWX (k := 1) (by decide)) (h.ldV (a := 1) (k := 1) (by decide) (by decide)) (h.ldV (a := 2) (k := 1) (by decide) (by decide)) (h.ldV (a := 3) (k := 1) (by decide) (by decide)) (hlA1 d P rfl _ _)) (poutH d P 0 1))
    (pcons (piece2 (outH d P 0) (head d (2 * P + 0) 0 (RTile.conv 0 (h.ldV (a := 0) (k := 0) (by decide) (by decide)) (h.ldC (a := 3) (k := 0) (by decide) (by decide)) (h.xbO (k := 0) (by decide) _ _) (h.ldC (a := 0) (k := 0) (by decide) (by decide)) (h.xbA rfl (o := 13) (k := 0) (by decide) (by decide) _) (h.ldC (a := 1) (k := 0) (by decide) (by decide)) (h.xbA rfl (o := 14) (k := 0) (by decide) (by decide) _) (h.ldC (a := 2) (k := 0) (by decide) (by decide)) (h.xbA rfl (o := 15) (k := 0) (by decide) (by decide) _))
        (h.ldWA (k := 0) (by decide)) (h.ldWX (k := 0) (by decide)) (h.ldV (a := 1) (k := 0) (by decide) (by decide)) (h.ldV (a := 2) (k := 0) (by decide) (by decide)) (h.ldV (a := 3) (k := 0) (by decide) (by decide)) (hlA0 d P rfl _)) (poutH d P 0 0)) pnil)

set_option maxHeartbeats 2000000 in
theorem out_A5 (hc0 : cond0_0 i) (h : RTile d P 0 x0 x1 x2 x3 x4) (y : S512x256.Idx) :
    out0_A_5 (F := Ideal) c i arg2 harg2 arg3 harg3 arg4 harg4 arg5 harg5 arg6 harg6 arg7 harg7 arg8 harg8 arg9 harg9 arg10 harg10 hc0 x0 x1 x2 x3 x4 y = outY d P 0 (y 0).val (y 1).val := by
  unfold out0_A_5
  rw [View.read_writes_junk_eq_canon]
  refine canon_at (fun y : S512x256.Idx => outY d P 0 (y 0).val (y 1).val) _ ?_ y (cover0_A_5 c i arg2 harg2 arg3 harg3 arg4 harg4 arg5 harg5 arg6 harg6 arg7 harg7 arg8 harg8 arg9 harg9 arg10 harg10 hc0 x0 x1 x2 x3 x4 y)
  unfold kernelRun0_A
  dsimp only
  sl_unfold_words
  simp (discharger := assumption) only [View.readAt_eq_ld, Memref.IsWhole.read_unread]
  exact pcons (piece2 (outY d P 0) (silu (headB d (2 * P + 1) 0 (RTile.conv 1 (h.ldV (a := 0) (k := 1) (by decide) (by decide)) (h.ldC (a := 3) (k := 1) (by decide) (by decide)) (h.xbO (k := 1) (by decide) _ _) (h.ldC (a := 0) (k := 1) (by decide) (by decide)) (h.xbA rfl (o := 13) (k := 1) (by decide) (by decide) _) (h.ldC (a := 1) (k := 1) (by decide) (by decide)) (h.xbA rfl (o := 14) (k := 1) (by decide) (by decide) _) (h.ldC (a := 2) (k := 1) (by decide) (by decide)) (h.xbA rfl (o := 15) (k := 1) (by decide) (by decide) _))
        (h.ldWA (k := 1) (by decide)) (h.ldWX (k := 1) (by decide)) (h.ldV (a := 1) (k := 1) (by decide) (by decide)) (h.ldV (a := 2) (k := 1) (by decide) (by decide)) (h.ldV (a := 3) (k := 1) (by decide) (by decide)) (hlA1 d P rfl _ _)) (pay47 (h.ldG (k := 1) (by decide)))) (poutY d P 0 1))
    (pcons (piece2 (outY d P 0) (pay27 (head d (2 * P + 0) 0 (RTile.conv 0 (h.ldV (a := 0) (k := 0) (by decide) (by decide)) (h.ldC (a := 3) (k := 0) (by decide) (by decide)) (h.xbO (k := 0) (by decide) _ _) (h.ldC (a := 0) (k := 0) (by decide) (by decide)) (h.xbA rfl (o := 13) (k := 0) (by decide) (by decide) _) (h.ldC (a := 1) (k := 0) (by decide) (by decide)) (h.xbA rfl (o := 14) (k := 0) (by decide) (by decide) _) (h.ldC (a := 2) (k := 0) (by decide) (by decide)) (h.xbA rfl (o := 15) (k := 0) (by decide) (by decide) _))
        (h.ldWA (k := 0) (by decide)) (h.ldWX (k := 0) (by decide)) (h.ldV (a := 1) (k := 0) (by decide) (by decide)) (h.ldV (a := 2) (k := 0) (by decide) (by decide)) (h.ldV (a := 3) (k := 0) (by decide) (by decide)) (hlA0 d P rfl _)) (h.ldG (k := 0) (by decide))) (poutY d P 0 0)) pnil)

set_option maxHeartbeats 2000000 in
theorem sout_A0 (hc0 : cond0_0 i) (h : RTile d P 0 x0 x1 x2 x3 x4) (y : S528x256.Idx) (hy : (y 0).val < 16) :
    sout0_A_0 (F := Ideal) c i arg2 harg2 arg3 harg3 arg4 harg4 arg5 harg5 arg6 harg6 arg7 harg7 arg8 harg8 arg9 harg9 arg10 harg10 hc0 x0 x1 x2 x3 x4 y = xb d P (0 + 1) (y 0).val (y 1).val := by
  unfold sout0_A_0
  rw [View.read_writes_junk_eq_canon]
  unfold kernelRun0_A
  dsimp only
  sl_unfold_words
  simp (discharger := assumption) only [View.readAt_eq_ld, Memref.IsWhole.read_unread]
  exact first16 (pay2 (h.hist _ _)) _ y hy

set_option maxHeartbeats 2000000 in
theorem sout_A1 (hc0 : cond0_0 i) (h : RTile d P 0 x0 x1 x2 x3 x4) (y : S8x256.Idx) (hy : (y 0).val = 0) :
    sout0_A_1 (F := Ideal) c i arg2 harg2 arg3 harg3 arg4 harg4 arg5 harg5 arg6 harg6 arg7 harg7 arg8 harg8 arg9 harg9 arg10 harg10 hc0 x0 x1 x2 x3 x4 y = hl d P (0 + 1) (y 1).val := by
  unfold sout0_A_1
  rw [View.read_writes_junk_eq_canon]
  unfold kernelRun0_A
  dsimp only
  sl_unfold_words
  simp (discharger := assumption) only [View.readAt_eq_ld, Memref.IsWhole.read_unread]
  exact leftA (pay26 (last0 (head d (2 * P + 0) 0 (RTile.conv 0 (h.ldV (a := 0) (k := 0) (by decide) (by decide)) (h.ldC (a := 3) (k := 0) (by decide) (by decide)) (h.xbO (k := 0) (by decide) _ _) (h.ldC (a := 0) (k := 0) (by decide) (by decide)) (h.xbA rfl (o := 13) (k := 0) (by decide) (by decide) _) (h.ldC (a := 1) (k := 0) (by decide) (by decide)) (h.xbA rfl (o := 14) (k := 0) (by decide) (by decide) _) (h.ldC (a := 2) (k := 0) (by decide) (by decide)) (h.xbA rfl (o := 15) (k := 0) (by decide) (by decide) _))
        (h.ldWA (k := 0) (by decide)) (h.ldWX (k := 0) (by decide)) (h.ldV (a := 1) (k := 0) (by decide) (by decide)) (h.ldV (a := 2) (k := 0) (by decide) (by decide)) (h.ldV (a := 3) (k := 0) (by decide) (by decide)) (hlA0 d P rfl _)) _)) (pay46 (last1 (headB d (2 * P + 1) 0 (RTile.conv 1 (h.ldV (a := 0) (k := 1) (by decide) (by decide)) (h.ldC (a := 3) (k := 1) (by decide) (by decide)) (h.xbO (k := 1) (by decide) _ _) (h.ldC (a := 0) (k := 1) (by decide) (by decide)) (h.xbA rfl (o := 13) (k := 1) (by decide) (by decide) _) (h.ldC (a := 1) (k := 1) (by decide) (by decide)) (h.xbA rfl (o := 14) (k := 1) (by decide) (by decide) _) (h.ldC (a := 2) (k := 1) (by decide) (by decide)) (h.xbA rfl (o := 15) (k := 1) (by decide) (by decide) _))
        (h.ldWA (k := 1) (by decide)) (h.ldWX (k := 1) (by decide)) (h.ldV (a := 1) (k := 1) (by decide) (by decide)) (h.ldV (a := 2) (k := 1) (by decide) (by decide)) (h.ldV (a := 3) (k := 1) (by decide) (by decide)) (hlA1 d P rfl _ _)) _ _)) _ y hy

set_option maxHeartbeats 2000000 in
theorem out_B6 (hc0 : ¬cond0_0 i) (h : RTile d P T x0 x1 x2 x3 x4) (xs0 : Vec Ideal S528x256 .f32) (xs1 : Vec Ideal S8x256 .f32)
    (hx0 : ∀ y : S528x256.Idx, (y 0).val < 16 → xs0 y = xb d P T (y 0).val (y 1).val) (hx1 : ∀ y : S8x256.Idx, (y 0).val = 0 → xs1 y = hl d P T (y 1).val) (y : S512x256.Idx) :
    out0_B_6 (F := Ideal) c i arg2 harg2 arg3 harg3 arg4 harg4 arg5 harg5 arg6 harg6 arg7 harg7 arg8 harg8 arg9 harg9 arg10 harg10 hc0 x0 x1 x2 x3 x4 xs0 xs1 y = outH d P T (y 0).val (y 1).val := by
  unfold out0_B_6
  rw [View.read_writes_junk_eq_canon]
  refine canon_at (fun y : S512x256.Idx => outH d P T (y 0).val (y 1).val) _ ?_ y (cover0_B_6 c i arg2 harg2 arg3 harg3 arg4 harg4 arg5 harg5 arg6 harg6 arg7 harg7 arg8 harg8 arg9 harg9 arg10 harg10 hc0 x0 x1 x2 x3 x4 xs0 xs1 y)
  unfold kernelRun0_B
  dsimp only
  sl_unfold_words
  simp (discharger := assumption) only [View.readAt_eq_ld, Memref.IsWhole.read_unread]
  exact pcons (piece2 (outH d P T) (headB d (2 * P + 1) T (RTile.conv 1 (h.ldV (a := 0) (k := 1) (by decide) (by decide)) (h.ldC (a := 3) (k := 1) (by decide) (by decide)) (h.xbO (k := 1) (by decide) _ _) (h.ldC (a := 0) (k := 1) (by decide) (by decide)) (h.xbB (o := 13) (k := 1) (by decide) (by decide) _ _ (fun y hy => (congrFun (harg9.read_unread xs0) y).trans (hx0 y hy))) (h.ldC (a := 1) (k := 1) (by decide) (by decide)) (h.xbB (o := 14) (k := 1) (by decide) (by decide) _ _ (fun y hy => (congrFun (harg9.read_unread xs0) y).trans (hx0 y hy))) (h.ldC (a := 2) (k := 1) (by decide) (by decide)) (h.xbB (o := 15) (k := 1) (by decide) (by decide) _ _ (fun y hy => (congrFun (harg9.read_unread xs0) y).trans (hx0 y hy))))
        (h.ldWA (k := 1) (by decide)) (h.ldWX (k := 1) (by decide)) (h.ldV (a := 1) (k := 1) (by decide) (by decide)) (h.ldV (a := 2) (k := 1) (by decide) (by decide)) (h.ldV (a := 3) (k := 1) (by decide) (by decide)) (hlB (k := 1) (by decide) hx1)) (poutH d P T 1))
    (pcons (piece2 (outH d P T) (head d (2 * P + 0) T (RTile.conv 0 (h.ldV (a := 0) (k := 0) (by decide) (by decide)) (h.ldC (a := 3) (k := 0) (by decide) (by decide)) (h.xbO (k := 0) (by decide) _ _) (h.ldC (a := 0) (k := 0) (by decide) (by decide)) (h.xbB (o := 13) (k := 0) (by decide) (by decide) _ _ (fun y hy => (congrFun (harg9.read_unread xs0) y).trans (hx0 y hy))) (h.ldC (a := 1) (k := 0) (by decide) (by decide)) (h.xbB (o := 14) (k := 0) (by decide) (by decide) _ _ (fun y hy => (congrFun (harg9.read_unread xs0) y).trans (hx0 y hy))) (h.ldC (a := 2) (k := 0) (by decide) (by decide)) (h.xbB (o := 15) (k := 0) (by decide) (by decide) _ _ (fun y hy => (congrFun (harg9.read_unread xs0) y).trans (hx0 y hy))))
        (h.ldWA (k := 0) (by decide)) (h.ldWX (k := 0) (by decide)) (h.ldV (a := 1) (k := 0) (by decide) (by decide)) (h.ldV (a := 2) (k := 0) (by decide) (by decide)) (h.ldV (a := 3) (k := 0) (by decide) (by decide)) (hlB (k := 0) (by decide) hx1)) (poutH d P T 0)) pnil)

set_option maxHeartbeats 2000000 in
theorem out_B5 (hc0 : ¬cond0_0 i) (h : RTile d P T x0 x1 x2 x3 x4) (xs0 : Vec Ideal S528x256 .f32) (xs1 : Vec Ideal S8x256 .f32)
    (hx0 : ∀ y : S528x256.Idx, (y 0).val < 16 → xs0 y = xb d P T (y 0).val (y 1).val) (hx1 : ∀ y : S8x256.Idx, (y 0).val = 0 → xs1 y = hl d P T (y 1).val) (y : S512x256.Idx) :
    out0_B_5 (F := Ideal) c i arg2 harg2 arg3 harg3 arg4 harg4 arg5 harg5 arg6 harg6 arg7 harg7 arg8 harg8 arg9 harg9 arg10 harg10 hc0 x0 x1 x2 x3 x4 xs0 xs1 y = outY d P T (y 0).val (y 1).val := by
  unfold out0_B_5
  rw [View.read_writes_junk_eq_canon]
  refine canon_at (fun y : S512x256.Idx => outY d P T (y 0).val (y 1).val) _ ?_ y (cover0_B_5 c i arg2 harg2 arg3 harg3 arg4 harg4 arg5 harg5 arg6 harg6 arg7 harg7 arg8 harg8 arg9 harg9 arg10 harg10 hc0 x0 x1 x2 x3 x4 xs0 xs1 y)
  unfold kernelRun0_B
  dsimp only
  sl_unfold_words
  simp (discharger := assumption) only [View.readAt_eq_ld, Memref.IsWhole.read_unread]
  exact pcons (piece2 (outY d P T) (silu (headB d (2 * P + 1) T (RTile.conv 1 (h.ldV (a := 0) (k := 1) (by decide) (by decide)) (h.ldC (a := 3) (k := 1) (by decide) (by decide)) (h.xbO (k := 1) (by decide) _ _) (h.ldC (a := 0) (k := 1) (by decide) (by decide)) (h.xbB (o := 13) (k := 1) (by decide) (by decide) _ _ (fun y hy => (congrFun (harg9.read_unread xs0) y).trans (hx0 y hy))) (h.ldC (a := 1) (k := 1) (by decide) (by decide)) (h.xbB (o := 14) (k := 1) (by decide) (by decide) _ _ (fun y hy => (congrFun (harg9.read_unread xs0) y).trans (hx0 y hy))) (h.ldC (a := 2) (k := 1) (by decide) (by decide)) (h.xbB (o := 15) (k := 1) (by decide) (by decide) _ _ (fun y hy => (congrFun (harg9.read_unread xs0) y).trans (hx0 y hy))))
        (h.ldWA (k := 1) (by decide)) (h.ldWX (k := 1) (by decide)) (h.ldV (a := 1) (k := 1) (by decide) (by decide)) (h.ldV (a := 2) (k := 1) (by decide) (by decide)) (h.ldV (a := 3) (k := 1) (by decide) (by decide)) (hlB (k := 1) (by decide) hx1)) (pay47 (h.ldG (k := 1) (by decide)))) (poutY d P T 1))
    (pcons (piece2 (outY d P T) (pay27 (head d (2 * P + 0) T (RTile.conv 0 (h.ldV (a := 0) (k := 0) (by decide) (by decide)) (h.ldC (a := 3) (k := 0) (by decide) (by decide)) (h.xbO (k := 0) (by decide) _ _) (h.ldC (a := 0) (k := 0) (by decide) (by decide)) (h.xbB (o := 13) (k := 0) (by decide) (by decide) _ _ (fun y hy => (congrFun (harg9.read_unread xs0) y).trans (hx0 y hy))) (h.ldC (a := 1) (k := 0) (by decide) (by decide)) (h.xbB (o := 14) (k := 0) (by decide) (by decide) _ _ (fun y hy => (congrFun (harg9.read_unread xs0) y).trans (hx0 y hy))) (h.ldC (a := 2) (k := 0) (by decide) (by decide)) (h.xbB (o := 15) (k := 0) (by decide) (by decide) _ _ (fun y hy => (congrFun (harg9.read_unread xs0) y).trans (hx0 y hy))))
        (h.ldWA (k := 0) (by decide)) (h.ldWX (k := 0) (by decide)) (h.ldV (a := 1) (k := 0) (by decide) (by decide)) (h.ldV (a := 2) (k := 0) (by decide) (by decide)) (h.ldV (a := 3) (k := 0) (by decide) (by decide)) (hlB (k := 0) (by decide) hx1)) (h.ldG (k := 0) (by decide))) (poutY d P T 0)) pnil)

set_option maxHeartbeats 2000000 in
theorem sout_B0 (hc0 : ¬cond0_0 i) (h : RTile d P T x0 x1 x2 x3 x4) (xs0 : Vec Ideal S528x256 .f32) (xs1 : Vec Ideal S8x256 .f32)
    (hx0 : ∀ y : S528x256.Idx, (y 0).val < 16 → xs0 y = xb d P T (y 0).val (y 1).val) (hx1 : ∀ y : S8x256.Idx, (y 0).val = 0 → xs1 y = hl d P T (y 1).val) (y : S528x256.Idx) (hy : (y 0).val < 16) :
    sout0_B_0 (F := Ideal) c i arg2 harg2 arg3 harg3 arg4 harg4 arg5 harg5 arg6 harg6 arg7 harg7 arg8 harg8 arg9 harg9 arg10 harg10 hc0 x0 x1 x2 x3 x4 xs0 xs1 y = xb d P (T + 1) (y 0).val (y 1).val := by
  unfold sout0_B_0
  rw [View.read_writes_junk_eq_canon]
  unfold kernelRun0_B
  dsimp only
  sl_unfold_words
  simp (discharger := assumption) only [View.readAt_eq_ld, Memref.IsWhole.read_unread]
  exact first16 (pay2 (h.hist _ _)) _ y hy

set_option maxHeartbeats 2000000 in
theorem sout_B1 (hc0 : ¬cond0_0 i) (h : RTile d P T x0 x1 x2 x3 x4) (xs0 : Vec Ideal S528x256 .f32) (xs1 : Vec Ideal S8x256 .f32)
    (hx0 : ∀ y : S528x256.Idx, (y 0).val < 16 → xs0 y = xb d P T (y 0).val (y 1).val) (hx1 : ∀ y : S8x256.Idx, (y 0).val = 0 → xs1 y = hl d P T (y 1).val) (y : S8x256.Idx) (hy : (y 0).val = 0) :
    sout0_B_1 (F := Ideal) c i arg2 harg2 arg3 harg3 arg4 harg4 arg5 harg5 arg6 harg6 arg7 harg7 arg8 harg8 arg9 harg9 arg10 harg10 hc0 x0 x1 x2 x3 x4 xs0 xs1 y = hl d P (T + 1) (y 1).val := by
  unfold sout0_B_1
  unfold kernelRun0_B
  dsimp only
  sl_unfold_words
  simp (discharger := assumption) only [View.readAt_eq_ld, Memref.IsWhole.read_unread]
  exact leftB (pay26 (last0 (head d (2 * P + 0) T (RTile.conv 0 (h.ldV (a := 0) (k := 0) (by decide) (by decide)) (h.ldC (a := 3) (k := 0) (by decide) (by decide)) (h.xbO (k := 0) (by decide) _ _) (h.ldC (a := 0) (k := 0) (by decide) (by decide)) (h.xbB (o := 13) (k := 0) (by decide) (by decide) _ _ (fun y hy => (congrFun (harg9.read_unread xs0) y).trans (hx0 y hy))) (h.ldC (a := 1) (k := 0) (by decide) (by decide)) (h.xbB (o := 14) (k := 0) (by decide) (by decide) _ _ (fun y hy => (congrFun (harg9.read_unread xs0) y).trans (hx0 y hy))) (h.ldC (a := 2) (k := 0) (by decide) (by decide)) (h.xbB (o := 15) (k := 0) (by decide) (by decide) _ _ (fun y hy => (congrFun (harg9.read_unread xs0) y).trans (hx0 y hy))))
        (h.ldWA (k := 0) (by decide)) (h.ldWX (k := 0) (by decide)) (h.ldV (a := 1) (k := 0) (by decide) (by decide)) (h.ldV (a := 2) (k := 0) (by decide) (by decide)) (h.ldV (a := 3) (k := 0) (by decide) (by decide)) (hlB (k := 0) (by decide) hx1)) _)) (pay46 (last1 (headB d (2 * P + 1) T (RTile.conv 1 (h.ldV (a := 0) (k := 1) (by decide) (by decide)) (h.ldC (a := 3) (k := 1) (by decide) (by decide)) (h.xbO (k := 1) (by decide) _ _) (h.ldC (a := 0) (k := 1) (by decide) (by decide)) (h.xbB (o := 13) (k := 1) (by decide) (by decide) _ _ (fun y hy => (congrFun (harg9.read_unread xs0) y).trans (hx0 y hy))) (h.ldC (a := 1) (k := 1) (by decide) (by decide)) (h.xbB (o := 14) (k := 1) (by decide) (by decide) _ _ (fun y hy => (congrFun (harg9.read_unread xs0) y).trans (hx0 y hy))) (h.ldC (a := 2) (k := 1) (by decide) (by decide)) (h.xbB (o := 15) (k := 1) (by decide) (by decide) _ _ (fun y hy => (congrFun (harg9.read_unread xs0) y).trans (hx0 y hy))))
        (h.ldWA (k := 1) (by decide)) (h.ldWX (k := 1) (by decide)) (h.ldV (a := 1) (k := 1) (by decide) (by decide)) (h.ldV (a := 2) (k := 1) (by decide) (by decide)) (h.ldV (a := 3) (k := 1) (by decide) (by decide)) (hlB (k := 1) (by decide) hx1)) _ _)) _ _ y hy

end

end Cert.Rnn
end
-- ==== Proof.RnnRun.lean ====
module

public import proofs.«01_k».proof.Proof.RnnFwd
public import Idealize.ShloMosaic.Lib.Pipeline.Value

/-!
# The recurrent branch forward: every grid point, and the kernel's results
-/

@[expose] public section

set_option maxRecDepth 16384

noncomputable section

namespace Cert.Rnn

open Cert.Kernel8Ideal Cert.Kernel8Ideal.Gen Idealize.ShloMosaic Idealize.ShloMosaic.TcCoe Idealize.SL.Sem
open Cert.Pool (M2 M3 back sgm at2 at3 at2_of at3_of at2_eq at3_eq)
open Idealize.ShloMosaic.Pipeline (Dat)

/-- The call's arrays on steps, lanes and heads. -/
def rdata (P : (⟨3, ![4, 4096, 1024]⟩ : Shape).Idx → EReal) (C : (⟨2, ![4, 1024]⟩ : Shape).Idx → EReal) (V : (⟨2, ![8, 1024]⟩ : Shape).Idx → EReal)
    (A X : (⟨3, ![8, 128, 128]⟩ : Shape).Idx → EReal) : RData where
  X := at3 P 0
  G := at3 P 1
  C := at2 C
  V := at2 V
  WA := at3 A
  WX := at3 X

variable (m : (ℓ : Loc nD τ sig) → Buf (Elt Ideal) ℓ)

/-- The launched contents. -/
abbrev dm (c : Dev nD) : RData :=
  rdata (m ((c : Thread nD τ).loc main_arg0)) (m ((c : Thread nD τ).loc main_arg1)) (m ((c : Thread nD τ).loc main_arg2))
    (m ((c : Thread nD τ).loc main_arg3)) (m ((c : Thread nD τ).loc main_arg4))

theorem index0 : ∀ t : Fin grid0.N, win0_0.index t 0 = 0 ∧ win0_0.index t 1 = t.val % 8 ∧ win0_0.index t 2 = t.val / 8 := by decide +kernel
theorem index1 : ∀ t : Fin grid0.N, win0_1.index t 0 = 0 ∧ win0_1.index t 1 = t.val / 8 := by decide +kernel
theorem index2 : ∀ t : Fin grid0.N, win0_2.index t 0 = 0 ∧ win0_2.index t 1 = t.val / 8 := by decide +kernel
theorem index3 : ∀ t : Fin grid0.N, win0_3.index t 0 = t.val / 8 ∧ win0_3.index t 1 = 0 ∧ win0_3.index t 2 = 0 := by decide +kernel
theorem index4 : ∀ t : Fin grid0.N, win0_4.index t 0 = t.val / 8 ∧ win0_4.index t 1 = 0 ∧ win0_4.index t 2 = 0 := by decide +kernel
theorem index5 : ∀ t : Fin grid0.N, win0_5.index t 0 = t.val % 8 ∧ win0_5.index t 1 = t.val / 8 := by decide +kernel
theorem index6 : ∀ t : Fin grid0.N, win0_6.index t 0 = t.val % 8 ∧ win0_6.index t 1 = t.val / 8 := by decide +kernel

/-- Grid point `t` works on tile `t % 8` of the head pair `t / 8`. -/
theorem tile (c : Dev nD) (t : Fin cfg0.N) {P T : ℕ} (hP : t.val / 8 = P) (hT : t.val % 8 = T) :
    RTile (dm m c) P T (iblk m c 0 t) (iblk m c 1 t) (iblk m c 2 t) (iblk m c 3 t) (iblk m c 4 t) where
  lt := by omega
  x r l := by
    unfold iblk
    rw [View.read_apply]
    show V m c main_arg0 _ = at3 _ _ _ _
    rw [V_main_arg0]
    have hi := index0 t
    refine at3_of _ _ ?_ ?_ ?_
    · show win0_0.index t 0 * 2 + 1 * 0 = 0; omega
    · show win0_0.index t 1 * 512 + 1 * r.val = 512 * T + r.val; omega
    · show win0_0.index t 2 * 256 + 1 * l.val = 256 * P + l.val; omega
  g r l := by
    unfold iblk
    rw [View.read_apply]
    show V m c main_arg0 _ = at3 _ _ _ _
    rw [V_main_arg0]
    have hi := index0 t
    refine at3_of _ _ ?_ ?_ ?_
    · show win0_0.index t 0 * 2 + 1 * 1 = 1; omega
    · show win0_0.index t 1 * 512 + 1 * r.val = 512 * T + r.val; omega
    · show win0_0.index t 2 * 256 + 1 * l.val = 256 * P + l.val; omega
  c a l := by
    unfold iblk
    rw [View.read_apply]
    show V m c main_arg1 _ = at2 _ _ _
    rw [V_main_arg1]
    have hi := index1 t
    refine at2_of _ _ ?_ ?_
    · show win0_1.index t 0 * 4 + 1 * a.val = a.val; omega
    · show win0_1.index t 1 * 256 + 1 * l.val = 256 * P + l.val; omega
  v a l := by
    unfold iblk
    rw [View.read_apply]
    show V m c main_arg2 _ = at2 _ _ _
    rw [V_main_arg2]
    have hi := index2 t
    refine at2_of _ _ ?_ ?_
    · show win0_2.index t 0 * 8 + 1 * a.val = a.val; omega
    · show win0_2.index t 1 * 256 + 1 * l.val = 256 * P + l.val; omega
  wa a i j := by
    unfold iblk
    rw [View.read_apply]
    show V m c main_arg3 _ = at3 _ _ _ _
    rw [V_main_arg3]
    have hi := index3 t
    refine at3_of _ _ ?_ ?_ ?_
    · show win0_3.index t 0 * 2 + 1 * a.val = 2 * P + a.val; omega
    · show win0_3.index t 1 * 128 + 1 * i.val = i.val; omega
    · show win0_3.index t 2 * 128 + 1 * j.val = j.val; omega
  wx a i j := by
    unfold iblk
    rw [View.read_apply]
    show V m c main_arg4 _ = at3 _ _ _ _
    rw [V_main_arg4]
    have hi := index4 t
    refine at3_of _ _ ?_ ?_ ?_
    · show win0_4.index t 0 * 2 + 1 * a.val = 2 * P + a.val; omega
    · show win0_4.index t 1 * 128 + 1 * i.val = i.val; omega
    · show win0_4.index t 2 * 128 + 1 * j.val = j.val; omega

/-- What a grid point leaves: its tile's blocks of the two results, the next tile's history, and the state. -/
structure Left (d : RData) (P T : ℕ) (o : Vec Ideal S512x256 .bf16 × Vec Ideal S512x256 .f32 × Vec Ideal S528x256 .f32 × Vec Ideal S8x256 .f32) : Prop where
  o5 : ∀ y, o.1 y = outY d P T (y 0).val (y 1).val
  o6 : ∀ y, o.2.1 y = outH d P T (y 0).val (y 1).val
  s0 : ∀ y : S528x256.Idx, (y 0).val < 16 → o.2.2.1 y = xb d P (T + 1) (y 0).val (y 1).val
  s1 : ∀ y : S8x256.Idx, (y 0).val = 0 → o.2.2.2 y = hl d P (T + 1) (y 1).val

theorem left_mk {d : RData} {P T : ℕ} {a : Vec Ideal S512x256 .bf16} {b : Vec Ideal S512x256 .f32} {s : Vec Ideal S528x256 .f32} {h : Vec Ideal S8x256 .f32}
    (h5 : ∀ y, a y = outY d P T (y 0).val (y 1).val) (h6 : ∀ y, b y = outH d P T (y 0).val (y 1).val)
    (h0 : ∀ y : S528x256.Idx, (y 0).val < 16 → s y = xb d P (T + 1) (y 0).val (y 1).val)
    (h1 : ∀ y : S8x256.Idx, (y 0).val = 0 → h y = hl d P (T + 1) (y 1).val) : Left d P T (a, b, s, h) := ⟨h5, h6, h0, h1⟩

set_option maxHeartbeats 2000000 in
theorem left_A (c : Dev nD) (t : Fin cfg0.N) (h0 : t.val % 8 = 0) : Left (dm m c) (t.val / 8) 0 (outsAt0 m c t.val t.isLt) := by
  have ht := tile m c t rfl h0
  rw [outsAt0_A m c t h0]
  refine left_mk ?_ ?_ ?_ ?_
  · exact fun y => out_A5 (h := ht) (y := y) ..
  · exact fun y => out_A6 (h := ht) (y := y) ..
  · exact fun y hy => sout_A0 (h := ht) (y := y) (hy := hy) ..
  · exact fun y hy => sout_A1 (h := ht) (y := y) (hy := hy) ..

set_option maxHeartbeats 2000000 in
theorem left_B (c : Dev nD) (t : Fin cfg0.N) (h0 : ¬t.val % 8 = 0)
    (ih : ∀ h, Left (dm m c) ((t.val - 1) / 8) ((t.val - 1) % 8) (outsAt0 m c (t.val - 1) h)) :
    Left (dm m c) (t.val / 8) (t.val % 8) (outsAt0 m c t.val t.isLt) := by
  have ht := tile m c t rfl rfl
  have eP : (t.val - 1) / 8 = t.val / 8 := by omega
  have eT : (t.val - 1) % 8 + 1 = t.val % 8 := by omega
  have e0 := fun h => (ih h).s0
  have e1 := fun h => (ih h).s1
  rw [eP, eT] at e0 e1
  rw [outsAt0_B m c t h0]
  refine left_mk ?_ ?_ ?_ ?_
  · exact fun y => out_B5 (h := ht) (hx0 := e0 _) (hx1 := e1 _) (y := y) ..
  · exact fun y => out_B6 (h := ht) (hx0 := e0 _) (hx1 := e1 _) (y := y) ..
  · exact fun y hy => sout_B0 (h := ht) (hx0 := e0 _) (hx1 := e1 _) (y := y) (hy := hy) ..
  · exact fun y hy => sout_B1 (h := ht) (hx0 := e0 _) (hx1 := e1 _) (y := y) (hy := hy) ..

theorem left (c : Dev nD) : ∀ (n : ℕ) (hn : n < cfg0.N), Left (dm m c) (n / 8) (n % 8) (outsAt0 m c n hn) := by
  intro n
  induction n with
  | zero => exact fun hn => left_A m c ⟨0, hn⟩ rfl
  | succ n ih =>
    intro hn
    by_cases h0 : (n + 1) % 8 = 0
    · rw [h0]
      exact left_A m c ⟨n + 1, hn⟩ h0
    · exact left_B m c ⟨n + 1, hn⟩ h0 (fun h => ih h)

/-! ## The arrays after the run -/

/-- The states: after each step, on every lane. -/
def resH (d : RData) : Vec Ideal S4096x1024 .f32 := fun i => d.H ((i 1).val / 128) ((i 1).val % 128) ((i 0).val + 1)

/-- The branch's output. -/
def resY (d : RData) : Vec Ideal S4096x1024 .bf16 := fun i => d.y ((i 1).val / 128) (i 0).val ((i 1).val % 128)

/-- The array the output is the left half of. -/
def wide (d : RData) (p : Vec Ideal S4096x2048 .bf16) : Vec Ideal S4096x2048 .bf16 := fun i =>
  if (i 1).val < 1024 then d.y ((i 1).val / 128) (i 0).val ((i 1).val % 128) else p i

theorem flushed5 (c : Dev nD) (t : Fin cfg0.N) :
    (dats m 0 c).flushed 5 t = (cfg0.win 5).cut (grid0.coords t) ((outsAt0 m c t.val t.isLt).1) := by
  show (cfg0.win 5).cut (grid0.coords t) ((dats m 0 c).after 5 t) = _
  rw [after0_5]

theorem flushed6 (c : Dev nD) (t : Fin cfg0.N) :
    (dats m 0 c).flushed 6 t = (cfg0.win 6).cut (grid0.coords t) ((outsAt0 m c t.val t.isLt).2.1) := by
  show (cfg0.win 6).cut (grid0.coords t) ((dats m 0 c).after 6 t) = _
  rw [after0_6]

theorem mem_blk5 (t : Fin cfg0.N) (i : S4096x2048.Idx) (h0 : win0_5.index t 0 * 512 ≤ (i 0).val ∧ (i 0).val < win0_5.index t 0 * 512 + 512)
    (h1 : win0_5.index t 1 * 256 ≤ (i 1).val ∧ (i 1).val < win0_5.index t 1 * 256 + 256) :
    i ∈ ((cfg0.win 5).blk t).view.set := by
  show i ∈ ((View.whole main_v0_0).slice (win0_5.rect t)).set
  rw [View.set_slice_whole, Rect.mem_set_unit]
  intro a
  match a with
  | ⟨0, _⟩ => exact h0
  | ⟨1, _⟩ => exact h1

theorem mem_blk6 (t : Fin cfg0.N) (i : S4096x1024.Idx) (h0 : win0_6.index t 0 * 512 ≤ (i 0).val ∧ (i 0).val < win0_6.index t 0 * 512 + 512)
    (h1 : win0_6.index t 1 * 256 ≤ (i 1).val ∧ (i 1).val < win0_6.index t 1 * 256 + 256) :
    i ∈ ((cfg0.win 6).blk t).view.set := by
  show i ∈ ((View.whole main_v0_1).slice (win0_6.rect t)).set
  rw [View.set_slice_whole, Rect.mem_set_unit]
  intro a
  match a with
  | ⟨0, _⟩ => exact h0
  | ⟨1, _⟩ => exact h1

theorem flushed5_eq (c : Dev nD) (p : Vec Ideal S4096x2048 .bf16) (t : Fin cfg0.N) :
    (dats m 0 c).flushed 5 t = ((cfg0.win 5).blk t).view.read (Elt Ideal) (wide (dm m c) p) := by
  have hN : cfg0.N = 32 := N_0
  have ht := t.isLt
  rw [flushed5]
  funext y
  have hi := index5 t
  refine ((left m c t.val t.isLt).o5 y).trans ?_
  rw [View.read_apply]
  have h0 : (y 0).val < 512 := (y 0).isLt
  have h1 : (y 1).val < 256 := (y 1).isLt
  have e0 : (((cfg0.win 5).blk t).view.emb y 0).val = 512 * (t.val % 8) + (y 0).val := by
    show win0_5.index t 0 * 512 + 1 * (y 0).val = _; omega
  have e1 : (((cfg0.win 5).blk t).view.emb y 1).val = 256 * (t.val / 8) + (y 1).val := by
    show win0_5.index t 1 * 256 + 1 * (y 1).val = _; omega
  show _ = wide (dm m c) p (((cfg0.win 5).blk t).view.emb y)
  have q1 : (256 * (t.val / 8) + (y 1).val) / 128 = 2 * (t.val / 8) + (y 1).val / 128 := by omega
  have q2 : (256 * (t.val / 8) + (y 1).val) % 128 = (y 1).val % 128 := by omega
  unfold wide outY
  rw [e0, e1, if_pos (by omega), q1, q2]

theorem flushed6_eq (c : Dev nD) (t : Fin cfg0.N) :
    (dats m 0 c).flushed 6 t = ((cfg0.win 6).blk t).view.read (Elt Ideal) (resH (dm m c)) := by
  have hN : cfg0.N = 32 := N_0
  have ht := t.isLt
  rw [flushed6]
  funext y
  have hi := index6 t
  refine ((left m c t.val t.isLt).o6 y).trans ?_
  rw [View.read_apply]
  have h0 : (y 0).val < 512 := (y 0).isLt
  have h1 : (y 1).val < 256 := (y 1).isLt
  have e0 : (((cfg0.win 6).blk t).view.emb y 0).val = 512 * (t.val % 8) + (y 0).val := by
    show win0_6.index t 0 * 512 + 1 * (y 0).val = _; omega
  have e1 : (((cfg0.win 6).blk t).view.emb y 1).val = 256 * (t.val / 8) + (y 1).val := by
    show win0_6.index t 1 * 256 + 1 * (y 1).val = _; omega
  show _ = resH (dm m c) (((cfg0.win 6).blk t).view.emb y)
  have q1 : (256 * (t.val / 8) + (y 1).val) / 128 = 2 * (t.val / 8) + (y 1).val / 128 := by omega
  have q2 : (256 * (t.val / 8) + (y 1).val) % 128 = (y 1).val % 128 := by omega
  unfold resH outH
  rw [e0, e1, q1, q2]

theorem final5 (c : Dev nD) (i : S4096x2048.Idx) (hl : (i 1).val < 1024) :
    (dats m 0 c).arrAt 5 cfg0.N i = (dm m c).y ((i 1).val / 128) (i 0).val ((i 1).val % 128) := by
  have hN : cfg0.N = 32 := N_0
  rw [(dats m 0 c).arrAt_eq_piecewise 5 (wide (dm m c) (fun _ => 0)) (fun t _ => flushed5_eq m c _ t) i]
  have h0 : (i 0).val < 4096 := (i 0).isLt
  rw [if_pos]
  · exact if_pos hl
  · refine ⟨⟨8 * ((i 1).val / 256) + (i 0).val / 512, by omega⟩, flush0_5 _, ?_⟩
    have hi := index5 ⟨8 * ((i 1).val / 256) + (i 0).val / 512, by rw [N_0]; omega⟩
    dsimp only at hi
    exact mem_blk5 _ i (by omega) (by omega)

theorem final6 (c : Dev nD) : (dats m 0 c).arrAt 6 cfg0.N = resH (dm m c) := by
  have hN : cfg0.N = 32 := N_0
  funext i
  rw [(dats m 0 c).arrAt_eq_piecewise 6 _ (fun t _ => flushed6_eq m c t) i]
  have h0 : (i 0).val < 4096 := (i 0).isLt
  have h1 : (i 1).val < 1024 := (i 1).isLt
  rw [if_pos]
  refine ⟨⟨8 * ((i 1).val / 256) + (i 0).val / 512, by omega⟩, flush0_6 _, ?_⟩
  have hi := index6 ⟨8 * ((i 1).val / 256) + (i 0).val / 512, by rw [N_0]; omega⟩
  dsimp only at hi
  exact mem_blk6 _ i (by omega) (by omega)

/-! ## The results -/

theorem arr_inj : Function.Injective (Pipeline.arrRef spec0) := by decide

theorem tail_v1 (c : Dev nD) : Pipeline.afterTail₀ cfgs (dats m) 0 (V0 m) [hostOps1] c main_v1
    = extractStridedSlice S4096x1024 ![0, 0] ((dats m 0 c).arrAt 5 cfg0.N) slices_S4096x2048_S4096x1024_0_0 := by
  have e := Pipeline.withArrays_arr spec0 arr_inj c (V0 m c) (fun w => (dats m 0 c).arrAt w cfg0.N) 5
  unfold Pipeline.afterTail₀
  show StableHlo.after hostOps1 _ _ = _
  unfold hostOps1
  after_results
  exact congrArg (fun x => extractStridedSlice S4096x1024 ![0, 0] x slices_S4096x2048_S4096x1024_0_0) e

theorem slice_y (c : Dev nD) :
    extractStridedSlice S4096x1024 ![0, 0] ((dats m 0 c).arrAt 5 cfg0.N) slices_S4096x2048_S4096x1024_0_0 = resY (dm m c) := by
  funext i
  have h1 : (i 1).val < 1024 := (i 1).isLt
  refine (extractStridedSlice_apply _ _ _ i (ix2 ⟨(i 0).val, (i 0).isLt⟩ ⟨(i 1).val, by omega⟩) fun b => ?_).trans ?_
  · match b with
    | ⟨0, _⟩ => show (i 0).val = 0 + (i 0).val; omega
    | ⟨1, _⟩ => show (i 1).val = 0 + (i 1).val; omega
  · exact final5 m c _ h1

/-- The kernel's run: its two results named, its arguments kept. -/
theorem run_kernel (ρ : Dev nD → PrngReg) :
    θ_run (defs (F := Ideal)) (onTc (τ := τ) (main (F := Ideal))) ⟨m, fun _ => 0, ρ⟩ fun r => ∀ c : Dev nD,
      r.2.mem ((c.tc : Thread nD τ).loc main_v1) = resY (dm m c)
      ∧ r.2.mem ((c.tc : Thread nD τ).loc main_v0_1) = resH (dm m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c =>
    ⟨((h c).2 main_v1 (Pipeline.mem_restRefs_of main_v1 (by decide) (by decide))).trans ((tail_v1 m c).trans (slice_y m c)),
      ((h c).1 6).trans (final6 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c)))⟩)
    (run_main m ρ)

end Cert.Rnn
end
-- ==== Proof.RnnRef.lean ====
module

public import proofs.«01_k».proof.Proof.RnnRun
public import proofs.«01_k».proof.Proof.RnnIter
public import Idealize.ShloMosaic.Lib.WordCmp

/-!
# The recurrent branch forward: the reference, stage by stage

Every array the reference computes before its loop, as a function of step and lane; then the loop, whose state after `n` steps
is the recurrence's; then the output.
-/

@[expose] public section

set_option maxRecDepth 16384
set_option maxHeartbeats 1000000

noncomputable section

namespace Cert.RnnRef

open Idealize.ShloMosaic Idealize.ShloMosaic.TcCoe Idealize.SL.Sem
open Cert.Reference8Ideal Cert.Reference8Ideal.Gen Cert.Reference8Ideal.Step
open Cert.Pool hiding pre_facts fin_of_pre
open Cert.Rnn (RData rdata neg8_bits two_bits resY resH)
open scoped BigOperators

/-! ## Rows, slots and rows spread over the steps -/

theorem row {n : ℕ} {x : (⟨2, ![n, 1024]⟩ : Shape).Idx → EReal} {F : ℕ → ℕ → EReal} (hx : M2 x F) (k : ℕ) (hk : k < n)
    (h : (⟨2, ![n, 1024]⟩ : Shape).Slices ![k, 0] S1x1024) (h' : S1x1024.ShapeCasts S1024) :
    M1 (shapeCast S1024 (extractStridedSlice S1x1024 ![k, 0] x h) h') (fun l => F k l) := by
  intro c
  have hc := c.isLt
  refine (shapeCast_apply _ h' (ix1 c) (ix2 (n0 := 1) (n1 := 1024) 0 c) (by rw [Shape.rowMajor_val_two, Shape.rowMajor_val_one]; show 0 * 1024 + c.val = c.val; omega)).trans ?_
  refine (extractStridedSlice_apply _ x h _ (ix2 (n0 := n) (n1 := 1024) ⟨k, hk⟩ c) fun b => ?_).trans (hx _ _)
  match b with
  | ⟨0, _⟩ => show k = k + 0; omega
  | ⟨1, _⟩ => show c.val = 0 + c.val; omega

theorem spread {x : S1024.Idx → EReal} {F : ℕ → EReal} (hx : M1 x F) (h : S1024.BroadcastsInDim S1x1024 ![1]) (h' : S1x1024.BroadcastsInDim S4096x1024 ![0, 1]) :
    M2 (broadcastInDim S4096x1024 ![0, 1] h' (broadcastInDim S1x1024 ![1] h x)) (fun _ l => F l) := by
  intro r c
  refine (broadcastInDim_apply _ h' _ _ (ix2 (n0 := 1) (n1 := 1024) 0 c) fun b => ?_).trans ((broadcastInDim_apply _ h _ _ (ix1 c) fun b => ?_).trans (hx _))
  · match b with
    | ⟨0, _⟩ => rfl
    | ⟨1, _⟩ => rfl
  · match b with
    | ⟨0, _⟩ => rfl

theorem slot (P : S4x4096x1024.Idx → EReal) (k : ℕ) (hk : k < 4) (h : S4x4096x1024.Slices ![k, 0, 0] S1x4096x1024) (h' : S1x4096x1024.ShapeCasts S4096x1024) :
    M2 (shapeCast S4096x1024 (extractStridedSlice S1x4096x1024 ![k, 0, 0] P h) h') (at3 P k) := by
  intro r c
  have hr := r.isLt
  have hc := c.isLt
  refine (shapeCast_apply _ h' (ix2 r c) (ix3 (n0 := 1) (n1 := 4096) (n2 := 1024) 0 r c) (by rw [Shape.rowMajor_val_three, Shape.rowMajor_val_two]; show (0 * 4096 + r.val) * 1024 + c.val = r.val * 1024 + c.val; omega)).trans ?_
  refine (extractStridedSlice_apply _ P h _ (ix3 (n0 := 4) (n1 := 4096) (n2 := 1024) ⟨k, hk⟩ r c) fun b => ?_).trans (at3_of P _ rfl rfl rfl)
  match b with
  | ⟨0, _⟩ => show k = k + 0; omega
  | ⟨1, _⟩ => show r.val = 0 + r.val; omega
  | ⟨2, _⟩ => show c.val = 0 + c.val; omega

/-- Zeros before the first rows. -/
theorem shift {n e : ℕ} (hn : 4096 = n + e) {z : (⟨2, ![n, 1024]⟩ : Shape).Idx → EReal} (hz : M2 z (fun _ _ => 0))
    {x : S4096x1024.Idx → EReal} {F : ℕ → ℕ → EReal} (hx : M2 x F)
    (hs : S4096x1024.Slices ![0, 0] ⟨2, ![e, 1024]⟩) (h : Shape.Concatenates [⟨2, ![n, 1024]⟩, ⟨2, ![e, 1024]⟩] S4096x1024 0) :
    M2 (concatenate S4096x1024 0 [⟨⟨2, ![n, 1024]⟩, z⟩, ⟨⟨2, ![e, 1024]⟩, extractStridedSlice ⟨2, ![e, 1024]⟩ ![0, 0] x hs⟩] h)
      (fun t l => back (fun s => F s l) t n) := by
  have hy : M2 (extractStridedSlice ⟨2, ![e, 1024]⟩ ![0, 0] x hs) F := by
    intro r c
    refine (extractStridedSlice_apply _ x hs _ (ix2 (n0 := 4096) (n1 := 1024) ⟨r.val, by omega⟩ c) fun b => ?_).trans (hx _ _)
    match b with
    | ⟨0, _⟩ => show r.val = 0 + r.val; omega
    | ⟨1, _⟩ => show c.val = 0 + c.val; omega
  intro r c
  refine (M2.join hz hy h hn r c).trans ?_
  show (if r.val < n then 0 else F (r.val - n) c.val) = if n ≤ r.val then F (r.val - n) c.val else 0
  by_cases hc : n ≤ r.val
  · rw [if_neg (by omega), if_pos hc]
  · rw [if_pos (by omega), if_neg hc]

theorem addN {n m : ℕ} {x y : FVec Ideal ⟨2, ![n, m]⟩ .f32} {F G : ℕ → ℕ → EReal} (hx : M2 x F) (hy : M2 y G) :
    M2 (addf x y) (fun r c => F r c + G r c) := fun r c => congrArg₂ HAdd.hAdd (hx r c) (hy r c)

theorem mulN {n m : ℕ} {x y : FVec Ideal ⟨2, ![n, m]⟩ .f32} {F G : ℕ → ℕ → EReal} (hx : M2 x F) (hy : M2 y G) :
    M2 (mulf x y) (fun r c => F r c * G r c) := fun r c => congrArg₂ HMul.hMul (hx r c) (hy r c)

/-! ## The gates -/

theorem heads {x : S4096x1024.Idx → EReal} {F : ℕ → ℕ → EReal} (hx : M2 x F) (h : S4096x1024.ShapeCasts S4096x8x128) :
    M3 (shapeCast S4096x8x128 x h) (fun t q c => F t (128 * q + c)) := by
  intro t q c
  have h0 := t.isLt
  have h1 := q.isLt
  have h2 := c.isLt
  exact (shapeCast_apply _ h (ix3 t q c) (ix2 (n0 := 4096) (n1 := 1024) t ⟨128 * q.val + c.val, by omega⟩) (by rw [Shape.rowMajor_val_three, Shape.rowMajor_val_two]; show t.val * 1024 + (128 * q.val + c.val) = (t.val * 8 + q.val) * 128 + c.val; omega)).trans (hx _ _)

theorem unheads {x : S4096x8x128.Idx → EReal} {F : ℕ → ℕ → ℕ → EReal} (hx : M3 x F) (h : S4096x8x128.ShapeCasts S4096x1024) :
    M2 (shapeCast S4096x1024 x h) (fun t l => F t (l / 128) (l % 128)) := by
  intro t c
  have h0 := t.isLt
  have h2 := c.isLt
  exact (shapeCast_apply _ h (ix2 t c) (ix3 (n0 := 4096) (n1 := 8) (n2 := 128) t ⟨c.val / 128, by omega⟩ ⟨c.val % 128, by omega⟩) (by rw [Shape.rowMajor_val_three, Shape.rowMajor_val_two]; show (t.val * 8 + c.val / 128) * 128 + c.val % 128 = t.val * 1024 + c.val; omega)).trans (hx _ _ _)

theorem biases {x : S1024.Idx → EReal} {F : ℕ → EReal} (hx : M1 x F) (h : S1024.ShapeCasts S8x128) (h1 : S8x128.BroadcastsInDim S1x8x128 ![1, 2])
    (h2 : S1x8x128.BroadcastsInDim S4096x8x128 ![0, 1, 2]) :
    M3 (broadcastInDim S4096x8x128 ![0, 1, 2] h2 (broadcastInDim S1x8x128 ![1, 2] h1 (shapeCast S8x128 x h))) (fun _ q c => F (128 * q + c)) := by
  intro t q c
  have hq := q.isLt
  have hc := c.isLt
  refine (broadcastInDim_apply _ h2 _ _ (ix3 (n0 := 1) (n1 := 8) (n2 := 128) 0 q c) fun b => ?_).trans ((broadcastInDim_apply _ h1 _ _ (ix2 (n0 := 8) (n1 := 128) q c) fun b => ?_).trans ?_)
  · match b with
    | ⟨0, _⟩ => rfl
    | ⟨1, _⟩ => rfl
    | ⟨2, _⟩ => rfl
  · match b with
    | ⟨0, _⟩ => rfl
    | ⟨1, _⟩ => rfl
  · exact (shapeCast_apply _ h (ix2 q c) (ix1 (n0 := 1024) ⟨128 * q.val + c.val, by omega⟩) (by rw [Shape.rowMajor_val_two, Shape.rowMajor_val_one]; show 128 * q.val + c.val = q.val * 128 + c.val; omega)).trans (hx _)

theorem lhs_dot_0 (i : S8x128x4096.Idx) (q : dot_S8x128x128_S4096x8x128_S8x128x4096_1_2_2_0_0_1.contr.Idx) :
    (dot_S8x128x128_S4096x8x128_S8x128x4096_1_2_2_0_0_1.lhsIdx i q 0).val = (i 0).val := by
  unfold DotDims.lhsIdx
  rw [dif_pos (show (0 : Fin S8x128x128.rank) ∈ dot_S8x128x128_S4096x8x128_S8x128x4096_1_2_2_0_0_1.lhsBatch by decide)]
  rfl
theorem lhs_dot_1 (i : S8x128x4096.Idx) (q : dot_S8x128x128_S4096x8x128_S8x128x4096_1_2_2_0_0_1.contr.Idx) :
    (dot_S8x128x128_S4096x8x128_S8x128x4096_1_2_2_0_0_1.lhsIdx i q 1).val = (q ⟨0, by decide⟩).val :=
  dot_S8x128x128_S4096x8x128_S8x128x4096_1_2_2_0_0_1.lhsIdx_val_of_single rfl i q
theorem lhs_dot_2 (i : S8x128x4096.Idx) (q : dot_S8x128x128_S4096x8x128_S8x128x4096_1_2_2_0_0_1.contr.Idx) :
    (dot_S8x128x128_S4096x8x128_S8x128x4096_1_2_2_0_0_1.lhsIdx i q 2).val = (i 1).val := by
  unfold DotDims.lhsIdx
  rw [dif_neg (show ¬(2 : Fin S8x128x128.rank) ∈ dot_S8x128x128_S4096x8x128_S8x128x4096_1_2_2_0_0_1.lhsBatch by decide), dif_pos (show (2 : Fin S8x128x128.rank) ∈ dot_S8x128x128_S4096x8x128_S8x128x4096_1_2_2_0_0_1.lhsNonContracting by decide)]
  rfl
theorem rhs_dot_0 (i : S8x128x4096.Idx) (q : dot_S8x128x128_S4096x8x128_S8x128x4096_1_2_2_0_0_1.contr.Idx) :
    (dot_S8x128x128_S4096x8x128_S8x128x4096_1_2_2_0_0_1.rhsIdx i q 0).val = (i 2).val := by
  unfold DotDims.rhsIdx
  rw [dif_neg (show ¬(0 : Fin S4096x8x128.rank) ∈ dot_S8x128x128_S4096x8x128_S8x128x4096_1_2_2_0_0_1.rhsBatch by decide), dif_pos (show (0 : Fin S4096x8x128.rank) ∈ dot_S8x128x128_S4096x8x128_S8x128x4096_1_2_2_0_0_1.rhsNonContracting by decide)]
  rfl
theorem rhs_dot_1 (i : S8x128x4096.Idx) (q : dot_S8x128x128_S4096x8x128_S8x128x4096_1_2_2_0_0_1.contr.Idx) :
    (dot_S8x128x128_S4096x8x128_S8x128x4096_1_2_2_0_0_1.rhsIdx i q 1).val = (i 0).val := by
  unfold DotDims.rhsIdx
  rw [dif_pos (show (1 : Fin S4096x8x128.rank) ∈ dot_S8x128x128_S4096x8x128_S8x128x4096_1_2_2_0_0_1.rhsBatch by decide)]
  rfl
theorem rhs_dot_2 (i : S8x128x4096.Idx) (q : dot_S8x128x128_S4096x8x128_S8x128x4096_1_2_2_0_0_1.contr.Idx) :
    (dot_S8x128x128_S4096x8x128_S8x128x4096_1_2_2_0_0_1.rhsIdx i q 2).val = (q ⟨0, by decide⟩).val :=
  dot_S8x128x128_S4096x8x128_S8x128x4096_1_2_2_0_0_1.rhsIdx_val_of_single rfl i q

/-- A head's matrix against its lanes, for every head. -/
theorem dots {w : S8x128x128.Idx → EReal} {x : S4096x8x128.Idx → EReal} {W F : ℕ → ℕ → ℕ → EReal} (hw : M3 w W) (hx : M3 x F)
    (h : S8x128x4096.Transposes [2, 0, 1] S4096x8x128) :
    M3 (transpose S4096x8x128 [2, 0, 1] (Host.dotGeneral (F := Ideal) (φ₁ := .f32) (φ₂ := .f32) dot_S8x128x128_S4096x8x128_S8x128x4096_1_2_2_0_0_1 none w x) h)
      (fun t q c => ∑ j : Fin 128, F t q j.val * W q j.val c) := by
  intro t q c
  refine (transpose_apply _ _ h _ (ix3 (n0 := 8) (n1 := 128) (n2 := 4096) q c t) fun b => ?_).trans ?_
  · match b with
    | ⟨0, _⟩ => rfl
    | ⟨1, _⟩ => rfl
    | ⟨2, _⟩ => rfl
  · simp only [Host.dotGeneral]
    rw [Ideal.dotGeneral_apply, ← Equiv.sum_comp (ValueIdx.contrEquiv1 dot_S8x128x128_S4096x8x128_S8x128x4096_1_2_2_0_0_1 128 rfl rfl).symm]
    refine Finset.sum_congr rfl fun k _ => ?_
    have hk := ValueIdx.contrEquiv1_symm_val dot_S8x128x128_S4096x8x128_S8x128x4096_1_2_2_0_0_1 128 rfl rfl k
    refine (congrArg₂ (· * ·) (M3.at hw _ (lhs_dot_0 _ _) ((lhs_dot_1 _ _).trans hk) (lhs_dot_2 _ _)) (M3.at hx _ (rhs_dot_0 _ _) (rhs_dot_1 _ _) ((rhs_dot_2 _ _).trans hk))).trans ?_
    exact mul_comm _ _

/-- The host's logistic. -/
theorem logistic {x : FVec Ideal S4096x8x128 .f32} {F : ℕ → ℕ → ℕ → EReal} (hx : M3 x F) {y z : FVec Ideal S4096x8x128 .f32}
    (hy : ∀ i, y i = Ideal.ofBits .f32 0x3F800000#32) (hz : ∀ i, z i = Ideal.ofBits .f32 0x3F800000#32) :
    M3 (Host.divf z (addf y (Host.exp (Host.negf x)))) (fun t q c => sgm (F t q c)) := by
  intro t q c
  show Ideal.div (z _) (y _ + Ideal.exp (-(x _))) = Ideal.div 1 (1 + Ideal.exp (0 - F t.val q.val c.val))
  rw [hy, hz, hx, one_bits, sub_eq_add_neg, zero_add]

/-! ## The stages -/

variable (P : S4x4096x1024.Idx → EReal) (C : S4x1024.Idx → EReal) (V : S8x1024.Idx → EReal) (A X : S8x128x128.Idx → EReal)

/-- What the call reads. -/
abbrev dd : RData := rdata P C V A X

theorem fn2 {n m : ℕ} (x : (⟨2, ![n, m]⟩ : Shape).Idx → EReal) : M2 x (at2 x) := fun r c => at2_of x _ rfl rfl
theorem fn3 {k n m : ℕ} (x : (⟨3, ![k, n, m]⟩ : Shape).Idx → EReal) : M3 x (at3 x) := fun a r c => at3_of x _ rfl rfl rfl

theorem z6 : M2 (K_main_v6 (F := Ideal)) (fun _ _ => 0) := fun r c => zero_bits
theorem z16 : M2 (K_main_v16 (F := Ideal)) (fun _ _ => 0) := fun r c => zero_bits
theorem z25 : M2 (K_main_v25 (F := Ideal)) (fun _ _ => 0) := fun r c => zero_bits
theorem z12 : M2 (K_main_v12 (F := Ideal)) (fun _ _ => 0) := fun r c => zero_bits

theorem s1 : M2 (A_main_v1 (F := Ideal) P C V A X) (fun t l => (dd P C V A X).X t l) := by
  unfold A_main_v1 A_main_v0
  exact slot P 0 (by decide) _ _

theorem s11 : M2 (A_main_v11 (F := Ideal) P C V A X) (fun t l => (dd P C V A X).C 0 l * back (fun s => (dd P C V A X).X s l) t 3) := by
  unfold A_main_v11 A_main_v10 A_main_v9 A_main_v5 A_main_v4 A_main_v8 A_main_v7
  exact mulN (spread (row (fn2 C) 0 (by decide) _ _) _ _) (shift rfl z6 (s1 P C V A X) _ _)

theorem s21 : M2 (A_main_v21 (F := Ideal) P C V A X) (fun t l => (dd P C V A X).C 1 l * back (fun s => (dd P C V A X).X s l) t 2) := by
  unfold A_main_v21 A_main_v20 A_main_v19 A_main_v15 A_main_v14 A_main_v18 A_main_v17
  exact mulN (spread (row (fn2 C) 1 (by decide) _ _) _ _) (shift rfl z16 (s1 P C V A X) _ _)

theorem s30 : M2 (A_main_v30 (F := Ideal) P C V A X) (fun t l => (dd P C V A X).C 2 l * back (fun s => (dd P C V A X).X s l) t 1) := by
  unfold A_main_v30 A_main_v29 A_main_v28 A_main_v24 A_main_v23 A_main_v27 A_main_v26
  exact mulN (spread (row (fn2 C) 2 (by decide) _ _) _ _) (shift rfl z25 (s1 P C V A X) _ _)

theorem s36 : M2 (A_main_v36 (F := Ideal) P C V A X) (fun t l => (dd P C V A X).C 3 l * (dd P C V A X).X t l) := by
  unfold A_main_v36 A_main_v35 A_main_v34 A_main_v33 A_main_v32
  exact mulN (spread (row (fn2 C) 3 (by decide) _ _) _ _) (s1 P C V A X)

theorem s39 : M2 (A_main_v39 (F := Ideal) P C V A X) (fun t l => (dd P C V A X).V 0 l) := by
  unfold A_main_v39 A_main_v38 A_main_v3 A_main_v2
  exact spread (row (fn2 V) 0 (by decide) _ _) _ _

theorem s40 : M2 (A_main_v40 (F := Ideal) P C V A X) (fun t l => (dd P C V A X).u t l) := by
  intro r c
  have e : M2 (A_main_v40 (F := Ideal) P C V A X) (fun t l => 0 + (dd P C V A X).C 0 l * back (fun s => (dd P C V A X).X s l) t 3 + (dd P C V A X).C 1 l * back (fun s => (dd P C V A X).X s l) t 2
      + (dd P C V A X).C 2 l * back (fun s => (dd P C V A X).X s l) t 1 + (dd P C V A X).C 3 l * (dd P C V A X).X t l + (dd P C V A X).V 0 l) := by
    unfold A_main_v40 A_main_v37 A_main_v31 A_main_v22 A_main_v13
    exact addN (addN (addN (addN (addN z12 (s11 P C V A X)) (s21 P C V A X)) (s30 P C V A X)) (s36 P C V A X)) (s39 P C V A X)
  refine (e r c).trans ?_
  show 0 + _ + _ + _ + _ + _ = RData.u _ _ _
  unfold RData.u
  rw [zero_add]
  ac_rfl

theorem s51 : M3 (A_main_v51 (F := Ideal) P C V A X) (fun t q c => (dd P C V A X).u t (128 * q + c)) := by
  unfold A_main_v51
  exact heads (s40 P C V A X) _

theorem s56 : M3 (A_main_v56 (F := Ideal) P C V A X) (fun t q c => (∑ j : Fin 128, (dd P C V A X).u t (128 * q + j.val) * (dd P C V A X).WA q j.val c) + (dd P C V A X).V 1 (128 * q + c)) := by
  have e1 : M3 (A_main_v53 (F := Ideal) P C V A X) (fun t q c => ∑ j : Fin 128, (dd P C V A X).u t (128 * q + j.val) * (dd P C V A X).WA q j.val c) := by
    unfold A_main_v53 A_main_v52 A_main_v41
    exact dots (fn3 A) (s51 P C V A X) _
  have e2 : M3 (A_main_v55 (F := Ideal) P C V A X) (fun _ q c => (dd P C V A X).V 1 (128 * q + c)) := by
    unfold A_main_v55 A_main_v54 A_main_v44 A_main_v43 A_main_v42
    exact biases (row (fn2 V) 1 (by decide) _ _) _ _ _
  intro t q c
  unfold A_main_v56
  exact congrArg₂ HAdd.hAdd (e1 t q c) (e2 t q c)

theorem s63 : M2 (A_main_v63 (F := Ideal) P C V A X) (fun t l => (dd P C V A X).r (l / 128) t (l % 128)) := by
  unfold A_main_v63 A_main_v62 A_main_v60 A_main_v58 A_main_v57
  exact unheads (F := fun t q c => (dd P C V A X).r q t c) (logistic (s56 P C V A X) (fun _ => rfl) (fun _ => rfl)) _

theorem s68 : M3 (A_main_v68 (F := Ideal) P C V A X) (fun t q c => (∑ j : Fin 128, (dd P C V A X).u t (128 * q + j.val) * (dd P C V A X).WX q j.val c) + (dd P C V A X).V 2 (128 * q + c)) := by
  have e1 : M3 (A_main_v65 (F := Ideal) P C V A X) (fun t q c => ∑ j : Fin 128, (dd P C V A X).u t (128 * q + j.val) * (dd P C V A X).WX q j.val c) := by
    unfold A_main_v65 A_main_v64 A_main_v45
    exact dots (fn3 X) (s51 P C V A X) _
  have e2 : M3 (A_main_v67 (F := Ideal) P C V A X) (fun _ q c => (dd P C V A X).V 2 (128 * q + c)) := by
    unfold A_main_v67 A_main_v66 A_main_v48 A_main_v47 A_main_v46
    exact biases (row (fn2 V) 2 (by decide) _ _) _ _ _
  intro t q c
  unfold A_main_v68
  exact congrArg₂ HAdd.hAdd (e1 t q c) (e2 t q c)

theorem s75 : M2 (A_main_v75 (F := Ideal) P C V A X) (fun t l => (dd P C V A X).ig (l / 128) t (l % 128)) := by
  unfold A_main_v75 A_main_v74 A_main_v72 A_main_v70 A_main_v69
  exact unheads (F := fun t q c => (dd P C V A X).ig q t c) (logistic (s68 P C V A X) (fun _ => rfl) (fun _ => rfl)) _

theorem s50 : M1 (A_main_v50 (F := Ideal) P C V A X) (fun l => (dd P C V A X).V 3 l) := by
  unfold A_main_v50 A_main_v49
  exact row (fn2 V) 3 (by decide) _ _

theorem une_self (x : EReal) : Ideal.cmp .une x x = 0#1 := by
  show BitVec.ofBool (decide (x ≠ x)) = 0#1
  rw [decide_eq_false (fun h => h rfl)]
  rfl

theorem s79 : M1 (A_main_v79 (F := Ideal) P C V A X) (fun l => (dd P C V A X).sp l) := by
  intro c
  unfold A_main_v79 A_main_call0_v11 A_main_call0_v10 A_main_call0_v9 A_main_call0_v8 A_main_call0_v7 A_main_call0_v6 A_main_call0_v4 A_main_call0_v3 A_main_call0_v1 A_main_v78
  have h := s50 P C V A X c
  generalize A_main_v50 (F := Ideal) P C V A X = y at h
  show Scalar.select (Ideal.cmp .une (-(y (ix1 c)) - Ideal.ofBits .f32 0#32) (-(y (ix1 c)) - Ideal.ofBits .f32 0#32)) _
    (max (-(y (ix1 c))) (Ideal.ofBits .f32 0#32) + Ideal.log (1 + Ideal.exp (-(max (-(y (ix1 c)) - Ideal.ofBits .f32 0#32) (-(-(y (ix1 c)) - Ideal.ofBits .f32 0#32)))))) = _
  rw [une_self, ValueIdx.select_zero, h, zero_bits, sub_zero]
  show _ = RData.sp _ _
  unfold RData.sp
  simp only [zero_sub]

theorem s82 : M2 (A_main_v82 (F := Ideal) P C V A X) (fun t l => (dd P C V A X).la (l / 128) t (l % 128)) := by
  intro r c
  have e1 : M2 (A_main_v81 (F := Ideal) P C V A X) (fun _ l => (dd P C V A X).sp l) := by
    unfold A_main_v81 A_main_v80
    exact spread (s79 P C V A X) _ _
  unfold A_main_v82 A_main_v77
  show Ideal.ofBits .f32 0xC1000000#32 * A_main_v63 (F := Ideal) P C V A X (ix2 r c) * A_main_v81 (F := Ideal) P C V A X (ix2 r c) = RData.la _ _ _ _
  rw [s63 P C V A X r c, e1 r c, neg8_bits]
  unfold RData.la
  rw [Nat.div_add_mod]

theorem s83 : M2 (A_main_v83 (F := Ideal) P C V A X) (fun t l => (dd P C V A X).a (l / 128) t (l % 128)) := by
  intro r c
  unfold A_main_v83
  exact congrArg Ideal.exp (s82 P C V A X r c)

theorem s90 : M2 (A_main_v90 (F := Ideal) P C V A X) (fun t l => (dd P C V A X).b (l / 128) t (l % 128)) := by
  intro r c
  unfold A_main_v90 A_main_v89 A_main_v88 A_main_v87 A_main_v86 A_main_v85
  show Ideal.sqrt (-(Ideal.exp (Ideal.ofBits .f32 0x40000000#32 * A_main_v82 (F := Ideal) P C V A X (ix2 r c)) - 1)) * (A_main_v75 (F := Ideal) P C V A X (ix2 r c) * A_main_v40 (F := Ideal) P C V A X (ix2 r c)) = RData.b _ _ _ _
  rw [s82 P C V A X r c, s75 P C V A X r c, s40 P C V A X r c, two_bits]
  unfold RData.b
  rw [Nat.div_add_mod]

/-! ## The loop -/

theorem dslice {x : S4096x1024.Idx → EReal} {F : ℕ → ℕ → EReal} (hx : M2 x F) (j : ℕ) (hj : j < 4096) (start : Fin 2 → ℤ)
    (h0 : start 0 = (j : ℤ)) (h1 : start 1 = 0) (h : S4096x1024.Slices (fun _ => 0) S1x1024) (h' : S1x1024.ShapeCasts S1024) :
    M1 (shapeCast S1024 (Host.dynamicSlice S1x1024 x start h) h') (fun l => F j l) := by
  have hs : S4096x1024.Slices ![j, 0] S1x1024 := ⟨rfl, fun b => by
    match b with
    | ⟨0, _⟩ => show j + 1 ≤ 4096; omega
    | ⟨1, _⟩ => show 0 + 1024 ≤ 1024; omega⟩
  rw [WordCmp.dynamicSlice_eq_extract S1x1024 x start h ![j, 0] hs fun b => by
    match b with
    | ⟨0, _⟩ => exact h0
    | ⟨1, _⟩ => exact h1]
  exact row hx j hj hs h'

theorem dupdate {x : S4096x1024.Idx → EReal} {F : ℕ → ℕ → EReal} (hx : M2 x F) {u : S1024.Idx → EReal} {G : ℕ → EReal} (hu : M1 u G)
    (j : ℕ) (hj : j < 4096) (start : Fin 2 → ℤ)
    (h0 : start 0 = (j : ℤ)) (h1 : start 1 = 0) (h : S4096x1024.Slices (fun _ => 0) S1x1024) (h' : S1024.BroadcastsInDim S1x1024 ![1]) :
    M2 (Host.dynamicUpdateSlice x (broadcastInDim S1x1024 ![1] h' u) start h) (fun t l => if t = j then G l else F t l) := by
  have hs : S4096x1024.Slices ![j, 0] S1x1024 := ⟨rfl, fun b => by
    match b with
    | ⟨0, _⟩ => show j + 1 ≤ 4096; omega
    | ⟨1, _⟩ => show 0 + 1024 ≤ 1024; omega⟩
  rw [WordCmp.dynamicUpdateSlice_eq_update x _ start h ![j, 0] hs fun b => by
    match b with
    | ⟨0, _⟩ => exact h0
    | ⟨1, _⟩ => exact h1]
  intro r c
  show _ = if r.val = j then G c.val else F r.val c.val
  unfold updateSlice
  by_cases hr : r.val = j
  · rw [if_pos hr]
    rw [dif_pos (fun b => by
      match b with
      | ⟨0, _⟩ => show j ≤ r.val ∧ r.val < j + 1; omega
      | ⟨1, _⟩ => show 0 ≤ c.val ∧ c.val < 0 + 1024; omega)]
    refine (broadcastInDim_apply _ h' _ _ (ix1 c) fun b => ?_).trans (hu _)
    match b with
    | ⟨0, _⟩ => rfl
  · rw [if_neg hr]
    rw [dif_neg (fun hh => by
      have h2 : j ≤ r.val ∧ r.val < j + 1 := hh 0
      omega)]
    exact hx r c

/-- The loop's state before step `n`. -/
structure At (s : State Ideal) (n : ℕ) : Prop where
  h : M1 s.main_v93_3 (fun l => (dd P C V A X).H (l / 128) (l % 128) n)
  hs : M2 s.main_v93_4 (fun t l => if t < n then (dd P C V A X).H (l / 128) (l % 128) (t + 1) else 0)
  a : M2 s.main_v93_0 (fun t l => (dd P C V A X).a (l / 128) t (l % 128))
  b : M2 s.main_v93_1 (fun t l => (dd P C V A X).b (l / 128) t (l % 128))

theorem at_zero : At P C V A X (init P C V A X) 0 where
  h := fun c => zero_bits
  hs := fun r c => zero_bits
  a := s83 P C V A X
  b := s90 P C V A X

theorem at_step {s : State Ideal} {n : ℕ} (hn : n < 4096) (hs : At P C V A X s n) : At P C V A X (step n s) (n + 1) := by
  have ht : (BitVec.ofNat 32 n).toInt = (n : ℤ) := WordCmp.toInt_ofNat_of_lt (by omega)
  have h7 : M1 (b7 n s) (fun l => (dd P C V A X).H (l / 128) (l % 128) (n + 1)) := by
    have e2 : M1 (b2 n s) (fun l => (dd P C V A X).a (l / 128) n (l % 128)) := by
      unfold b2 b1
      exact dslice hs.a n hn _ ht rfl _ _
    have e5 : M1 (b5 n s) (fun l => (dd P C V A X).b (l / 128) n (l % 128)) := by
      unfold b5 b4
      exact dslice hs.b n hn _ ht rfl _ _
    intro c
    unfold b7 b6
    exact congrArg₂ HAdd.hAdd (congrArg₂ HMul.hMul (e2 c) (hs.h c)) (e5 c)
  refine ⟨?_, ?_, hs.a, hs.b⟩
  · exact h7
  · intro r c
    have e : M2 (b10 n s) (fun t l => if t = n then (dd P C V A X).H (l / 128) (l % 128) (n + 1) else if t < n then (dd P C V A X).H (l / 128) (l % 128) (t + 1) else 0) := by
      unfold b10 b8
      exact dupdate hs.hs h7 n hn _ ht rfl _ _
    refine (e r c).trans ?_
    show (if r.val = n then _ else if r.val < n then _ else _) = if r.val < n + 1 then _ else _
    by_cases h1 : r.val = n
    · rw [if_pos h1, if_pos (by omega), h1]
    · rw [if_neg h1]
      by_cases h2 : r.val < n
      · rw [if_pos h2, if_pos (by omega)]
      · rw [if_neg h2, if_neg (by omega)]

/-- The loop's states. -/
def iter : ℕ → State Ideal
  | 0 => init P C V A X
  | n + 1 => step n (iter n)

theorem at_iter : ∀ n, n ≤ 4096 → At P C V A X (iter P C V A X n) n
  | 0, _ => at_zero P C V A X
  | n + 1, hn => at_step P C V A X (by omega) (at_iter n (by omega))

/-! ## The results -/

theorem refH : (iter P C V A X 4096).main_v93_4 = resH (dd P C V A X) := by
  funext i
  have h0 : (i 0).val < 4096 := (i 0).isLt
  refine (M2.at (at_iter P C V A X 4096 le_rfl).hs i rfl rfl).trans ?_
  exact if_pos h0

theorem refY : R_main_v98 (F := Ideal) (iter P C V A X 4096) P = resY (dd P C V A X) := by
  funext i
  have h0 : (i 0).val < 4096 := (i 0).isLt
  have hH := M2.at (at_iter P C V A X 4096 le_rfl).hs i rfl rfl
  rw [if_pos h0] at hH
  have hG := M2.at (slot P 1 (by decide) slices_S4x4096x1024_S1x4096x1024_1_0_0 shapeCasts_S1x4096x1024_S4096x1024) i rfl rfl
  unfold R_main_v98
  generalize shapeCast S4096x1024 (extractStridedSlice S1x4096x1024 ![1, 0, 0] P slices_S4x4096x1024_S1x4096x1024_1_0_0) shapeCasts_S1x4096x1024_S4096x1024 = g at hG
  show (iter P C V A X 4096).main_v93_4 i * (g i * Ideal.div (Ideal.ofBits .f32 0x3F800000#32) (Ideal.ofBits .f32 0x3F800000#32 + Ideal.exp (-(g i)))) = RData.y (dd P C V A X) ((i 1).val / 128) (i 0).val ((i 1).val % 128)
  rw [hH, hG, one_bits]
  unfold RData.y sgm
  rw [Nat.div_add_mod, sub_eq_add_neg, zero_add]
  rfl

variable (m : (ℓ : Loc nD τ sig) → Buf (Elt Ideal) ℓ)

/-- The launched contents. -/
abbrev dr (c : Dev nD) : RData :=
  rdata (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4))

/-- The reference's run: its two results named, its arguments kept. -/
theorem run_reference (ρ : Dev nD → PrngReg) :
    θ_run (defs (F := Ideal)) (onTc (τ := τ) (main (F := Ideal))) ⟨m, fun _ => 0, ρ⟩ fun r => ∀ c : Dev nD,
      r.2.mem ((c.tc : Thread nD τ).loc main_v98) = resY (dr m c)
      ∧ r.2.mem ((c.tc : Thread nD τ).loc main_v93_4) = resH (dr m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨(h c).1.trans (refY ..), (h c).2.1.trans (refH ..), (h c).2.2⟩)
    (Cert.Rnn.Iter.run_iter m ρ (fun c => iter (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4))) (fun _ => rfl) (fun _ _ => rfl))

end Cert.RnnRef
end
-- ==== Proof.RnnBwd.lean ====
module

public import proofs.«01_k».proof.Proof.PoolPre
public import proofs.«01_k».proof.Proof.PoolTile
public import proofs.«01_k».proof.Proof.PoolBlocks
public import proofs.«01_k».proof.Proof.PoolMath
public import proofs.«01_k».proof.Proof.PoolCum
public import proofs.«01_k».proof.Proof.PoolRead
public import proofs.«01_k».proof.Proof.Gen.Kernel9Ideal.Frame
public import proofs.«01_k».proof.Proof.Gen.Reference9Ideal.Run
public import Idealize.ShloMosaic.Lib.Pipeline.Value

/-!
# The recurrent branch backward: the gradient with respect to the gate's input
-/

@[expose] public section

set_option maxRecDepth 16384

noncomputable section

namespace Cert.RBwd

open Cert.Kernel9Ideal Cert.Kernel9Ideal.Gen Idealize.ShloMosaic Idealize.ShloMosaic.TcCoe Idealize.SL.Sem
open Cert.Pool (M2 M3 sgm IsR load2 load3 canon_at pcons pnil mem3 at2 at3 at2_of at3_of isR_of_all isR_at2 inf_bits)
open Idealize.ShloMosaic.Pipeline (Dat)

/-- The gate's gradient: the state `h`, the cotangent `e`, the gate's input `x`. -/
def gg (x h e : EReal) : EReal := e * h * (sgm x * (1 + x * (1 - sgm x)))

theorem sgm_top : sgm ⊤ = 1 := by
  unfold sgm
  rw [show (0 : EReal) - ⊤ = ⊥ from rfl, Ideal.exp_bot, add_zero, show (1 : EReal) = ((1 : ℝ) : EReal) from rfl, Ideal.div_coe one_ne_zero]
  norm_num

theorem sgm_bot : sgm ⊥ = 0 := by
  unfold sgm
  rw [show (0 : EReal) - ⊥ = ⊤ from rfl, Ideal.exp_top, show (1 : EReal) + ⊤ = ⊤ from rfl]
  simp [Ideal.div]

/-- The derivative as the product rule gives it, for a finite state and cotangent. -/
theorem gg_eq {x h e : EReal} (hh : IsR h) (he : IsR e) : gg x h e = h * e * sgm x + x * (h * e) * (sgm x * (1 - sgm x)) := by
  obtain ⟨a, rfl⟩ := hh
  obtain ⟨b, rfl⟩ := he
  unfold gg
  induction x using EReal.rec with
  | bot => rw [sgm_bot]; simp
  | top =>
    rw [sgm_top, show (1 : EReal) - 1 = 0 from EReal.sub_self (by decide) (by decide), mul_zero, mul_zero, mul_zero, add_zero, add_zero, mul_one, mul_one, mul_one, mul_comm]
  | coe r =>
    obtain ⟨s, hs⟩ := (IsR.coe r).sgm
    rw [hs, show (1 : EReal) = ((1 : ℝ) : EReal) from rfl]
    norm_cast
    ring

/-- The store's value. -/
theorem gate {X H D : ℕ → ℕ → EReal} {h : FVec Ideal S1024x128 .f32} {x : FVec Ideal S1x1024x128 .f32} {e : FVec Ideal S1024x128 .f32}
    (hh : M2 h H) (hx : M3 x (fun _ => X)) (he : M2 e D) : M3 (k0_pay29 (F := Ideal) h x e) (fun _ r c => gg (X r c) (H r c) (D r c)) := by
  simp only [M2, M3] at *
  intro a r c
  have h1 := hx 0 r c
  unfold k0_pay29 k0_pay28 k0_pay27
  pointwise
  simp only [hh, he, h1]
  rfl

/-- Of two stores, one in each slot, the second slot's is read there. -/
theorem slot {w0 w1 : (⟨3, ![1, 1024, 128]⟩ : Shape).Idx → EReal} {inb0 inb1} {G : ℕ → ℕ → EReal} (hw : M3 w1 (fun _ => G))
    (y : S2x1024x128.Idx) (hy : (y 0).val = 1) :
    View.canon (Val := Elt Ideal) (e := .bf16) (s := S2x1024x128) [⟨Rect.unit (s := S2x1024x128) ![0, 0, 0] ![1, 1024, 128] inb0, w0⟩,
      ⟨Rect.unit (s := S2x1024x128) ![1, 0, 0] ![1, 1024, 128] inb1, w1⟩] y = G (y 1).val (y 2).val := by
  refine (canon_at (fun y : S2x1024x128.Idx => if (y 0).val = 1 then G (y 1).val (y 2).val else w0 (ix3 0 (y 1) (y 2))) _
    (pcons (fun x => ?_) (pcons (fun x => ?_) pnil)) y ⟨_, List.mem_cons_of_mem _ List.mem_cons_self, ?_⟩).trans (if_pos hy)
  · have hx : (x 0).val < 1 := (x 0).isLt
    rw [if_neg (by show ¬(0 + 1 * (x 0).val = 1); omega)]
    refine congrArg w0 (funext fun a => Fin.ext ?_)
    match a with
    | ⟨0, _⟩ => show (x 0).val = 0; omega
    | ⟨1, _⟩ => show (x 1).val = 0 + 1 * (x 1).val; omega
    | ⟨2, _⟩ => show (x 2).val = 0 + 1 * (x 2).val; omega
  · have hx : (x 0).val < 1 := (x 0).isLt
    rw [if_pos (by show 1 + 1 * (x 0).val = 1; omega)]
    refine (Cert.Pool.M3.at hw x rfl rfl rfl).trans ?_
    show G _ _ = G (0 + 1 * (x 1).val) (0 + 1 * (x 2).val)
    rw [one_mul, one_mul, zero_add, zero_add]
  · have h1 : (y 1).val < 1024 := (y 1).isLt
    have h2 : (y 2).val < 128 := (y 2).isLt
    exact mem3 (inb := inb1) y (by omega) (by omega) (by omega) (by omega) (by omega) (by omega)

variable (m : (ℓ : Loc nD τ sig) → Buf (Elt Ideal) ℓ) (c : Dev nD)

theorem index0 : ∀ t : Fin grid0.N, win0_0.index t 0 = 0 ∧ win0_0.index t 1 = 3 - t.val % 4 ∧ win0_0.index t 2 = t.val / 4 := by decide +kernel
theorem index2 : ∀ t : Fin grid0.N, win0_2.index t 0 = 3 - t.val % 4 ∧ win0_2.index t 1 = t.val / 4 := by decide +kernel
theorem index4 : ∀ t : Fin grid0.N, win0_4.index t 0 = 3 - t.val % 4 ∧ win0_4.index t 1 = t.val / 4 := by decide +kernel
theorem index9 : ∀ t : Fin grid0.N, win0_9.index t 0 = 0 ∧ win0_9.index t 1 = 3 - t.val % 4 ∧ win0_9.index t 2 = t.val / 4 := by decide +kernel

/-- The gate's gradient at a step and a lane. -/
def gd (r l : ℕ) : EReal :=
  gg (at3 (m ((c : Thread nD τ).loc main_arg0)) 1 r l) (at2 (m ((c : Thread nD τ).loc main_arg1)) r l) (at2 (m ((c : Thread nD τ).loc main_arg2)) r l)

variable (t : Fin cfg0.N)

theorem ldG {inb} : M3 (View.ld (iblk m c 0 t) (Rect.unit (s := S2x1024x128) ![1, 0, 0] ![1, 1024, 128] inb))
    (fun _ r l => at3 (m ((c : Thread nD τ).loc main_arg0)) 1 (1024 * (3 - t.val % 4) + r) (128 * (t.val / 4) + l)) := by
  intro a r l
  have ha := a.isLt
  have hr := r.isLt
  have hl := l.isLt
  refine (load3 _ _ _ _ (by omega) (by omega) (by omega)).trans ?_
  unfold iblk
  rw [View.read_apply]
  show V m c main_arg0 _ = _
  rw [V_main_arg0]
  have hi := index0 t
  refine at3_of _ _ ?_ ?_ ?_
  · show win0_0.index t 0 * 2 + 1 * (1 + a.val) = 1; omega
  · show win0_0.index t 1 * 1024 + 1 * (0 + r.val) = 1024 * (3 - t.val % 4) + r.val; omega
  · show win0_0.index t 2 * 128 + 1 * (0 + l.val) = 128 * (t.val / 4) + l.val; omega

theorem ldH {inb} : M2 (View.ld (iblk m c 2 t) (Rect.unit (s := S1024x128) ![0, 0] ![1024, 128] inb))
    (fun r l => at2 (m ((c : Thread nD τ).loc main_arg1)) (1024 * (3 - t.val % 4) + r) (128 * (t.val / 4) + l)) := by
  intro r l
  have hr := r.isLt
  have hl := l.isLt
  refine (load2 _ _ _ (by omega) (by omega)).trans ?_
  unfold iblk
  rw [View.read_apply]
  show V m c main_arg1 _ = _
  rw [V_main_arg1]
  have hi := index2 t
  refine at2_of _ _ ?_ ?_
  · show win0_2.index t 0 * 1024 + 1 * (0 + r.val) = 1024 * (3 - t.val % 4) + r.val; omega
  · show win0_2.index t 1 * 128 + 1 * (0 + l.val) = 128 * (t.val / 4) + l.val; omega

theorem ldD {inb} : M2 (View.ld (iblk m c 4 t) (Rect.unit (s := S1024x128) ![0, 0] ![1024, 128] inb))
    (fun r l => at2 (m ((c : Thread nD τ).loc main_arg2)) (1024 * (3 - t.val % 4) + r) (128 * (t.val / 4) + l)) := by
  intro r l
  have hr := r.isLt
  have hl := l.isLt
  refine (load2 _ _ _ (by omega) (by omega)).trans ?_
  unfold iblk
  rw [View.read_apply]
  show V m c main_arg2 _ = _
  rw [V_main_arg2]
  have hi := index4 t
  refine at2_of _ _ ?_ ?_
  · show win0_4.index t 0 * 1024 + 1 * (0 + r.val) = 1024 * (3 - t.val % 4) + r.val; omega
  · show win0_4.index t 1 * 128 + 1 * (0 + l.val) = 128 * (t.val / 4) + l.val; omega

set_option maxHeartbeats 2000000 in
/-- What a grid point leaves in the second slot of its block. -/
theorem left (y : S2x1024x128.Idx) (hy : (y 0).val = 1) :
    (outsAt0 m c t.val t.isLt).1 y = gd m c (1024 * (3 - t.val % 4) + (y 1).val) (128 * (t.val / 4) + (y 2).val) := by
  have k := gate (ldH m c t (inb := inb_S1024x128_S1024x128_0_0)) (ldG m c t (inb := inb_S2x1024x128_S1x1024x128_1_0_0))
    (ldD m c t (inb := inb_S1024x128_S1024x128_0_0))
  by_cases h0 : t.val % 4 = 0
  · rw [outsAt0_A m c t h0 (by omega)]
    dsimp only
    unfold out0_A_9
    rw [View.read_writes_junk_eq_canon]
    unfold kernelRun0_A
    dsimp only
    sl_unfold_words
    simp only [View.readAt_eq_ld, (hs0_0 t).read_unread, (hs0_2 t).read_unread, (hs0_4 t).read_unread]
    exact slot k y hy
  · by_cases h1 : t.val % 4 = 3
    · rw [outsAt0_C m c t h0 h1]
      dsimp only
      unfold out0_C_9
      rw [View.read_writes_junk_eq_canon]
      unfold kernelRun0_C
      dsimp only
      sl_unfold_words
      simp only [View.readAt_eq_ld, (hs0_0 t).read_unread, (hs0_2 t).read_unread, (hs0_4 t).read_unread]
      exact slot k y hy
    · rw [outsAt0_B m c t h0 h1]
      dsimp only
      unfold out0_B_9
      rw [View.read_writes_junk_eq_canon]
      unfold kernelRun0_B
      dsimp only
      sl_unfold_words
      simp only [View.readAt_eq_ld, (hs0_0 t).read_unread, (hs0_2 t).read_unread, (hs0_4 t).read_unread]
      exact slot k y hy

/-! ## The array the region leaves -/

omit t

theorem outs_congr {n n' : ℕ} {hn : n < cfg0.N} {hn' : n' < cfg0.N} {y y' : S2x1024x128.Idx} (e : n = n') (e0 : (y 0).val = (y' 0).val)
    (e1 : (y 1).val = (y' 1).val) (e2 : (y 2).val = (y' 2).val) : (outsAt0 m c n hn).1 y = (outsAt0 m c n' hn').1 y' := by
  subst e
  exact congrArg _ (funext fun a => Fin.ext (by match a with | ⟨0, _⟩ => exact e0 | ⟨1, _⟩ => exact e1 | ⟨2, _⟩ => exact e2))

theorem tt_lt (i : S4x4096x1024.Idx) : 4 * ((i 2).val / 128) + (3 - (i 1).val / 1024) < cfg0.N := by
  have hN : cfg0.N = 32 := N_0
  have h2 : (i 2).val < 1024 := (i 2).isLt
  omega

/-- The array, each element at the point that writes it. -/
def arr (i : S4x4096x1024.Idx) : EReal :=
  (outsAt0 m c (4 * ((i 2).val / 128) + (3 - (i 1).val / 1024)) (tt_lt i)).1
    (ix3 ⟨(i 0).val % 2, Nat.mod_lt _ (by decide)⟩ ⟨(i 1).val % 1024, Nat.mod_lt _ (by decide)⟩ ⟨(i 2).val % 128, Nat.mod_lt _ (by decide)⟩)

theorem flushed9_eq (t : Fin cfg0.N) : (dats m 0 c).flushed 9 t = ((cfg0.win 9).blk t).view.read (Elt Ideal) (arr m c) := by
  have hN : cfg0.N = 32 := N_0
  have ht := t.isLt
  show (cfg0.win 9).cut (grid0.coords t) ((dats m 0 c).after 9 t) = _
  rw [after0_9]
  funext y
  have hi := index9 t
  rw [View.read_apply]
  have h0 : (y 0).val < 2 := (y 0).isLt
  have h1 : (y 1).val < 1024 := (y 1).isLt
  have h2 : (y 2).val < 128 := (y 2).isLt
  have e0 : (((cfg0.win 9).blk t).view.emb y 0).val = (y 0).val := by
    show win0_9.index t 0 * 2 + 1 * (y 0).val = _; omega
  have e1 : (((cfg0.win 9).blk t).view.emb y 1).val = 1024 * (3 - t.val % 4) + (y 1).val := by
    show win0_9.index t 1 * 1024 + 1 * (y 1).val = _; omega
  have e2 : (((cfg0.win 9).blk t).view.emb y 2).val = 128 * (t.val / 4) + (y 2).val := by
    show win0_9.index t 2 * 128 + 1 * (y 2).val = _; omega
  show _ = arr m c (((cfg0.win 9).blk t).view.emb y)
  unfold arr
  refine outs_congr m c (y := y) ?_ ?_ ?_ ?_
  · rw [e1, e2]; omega
  · show _ = _ % 2; rw [e0]; omega
  · show _ = _ % 1024; rw [e1]; omega
  · show _ = _ % 128; rw [e2]; omega

theorem mem_blk9 (t : Fin cfg0.N) (i : S4x4096x1024.Idx) (h0 : win0_9.index t 0 * 2 ≤ (i 0).val ∧ (i 0).val < win0_9.index t 0 * 2 + 2)
    (h1 : win0_9.index t 1 * 1024 ≤ (i 1).val ∧ (i 1).val < win0_9.index t 1 * 1024 + 1024)
    (h2 : win0_9.index t 2 * 128 ≤ (i 2).val ∧ (i 2).val < win0_9.index t 2 * 128 + 128) : i ∈ ((cfg0.win 9).blk t).view.set := by
  show i ∈ ((View.whole main_v0_0).slice (win0_9.rect t)).set
  rw [View.set_slice_whole, Rect.mem_set_unit]
  intro a
  match a with
  | ⟨0, _⟩ => exact h0
  | ⟨1, _⟩ => exact h1
  | ⟨2, _⟩ => exact h2

theorem final9 (i : S4x4096x1024.Idx) (h0 : (i 0).val = 1) : (dats m 0 c).arrAt 9 cfg0.N i = gd m c (i 1).val (i 2).val := by
  have hN : cfg0.N = 32 := N_0
  rw [(dats m 0 c).arrAt_eq_piecewise 9 (arr m c) (fun t _ => flushed9_eq m c t) i]
  have h1 : (i 1).val < 4096 := (i 1).isLt
  have h2 : (i 2).val < 1024 := (i 2).isLt
  rw [if_pos]
  · refine (left m c ⟨_, tt_lt i⟩ _ (by show (i 0).val % 2 = 1; omega)).trans ?_
    show gd m c (1024 * (3 - (4 * ((i 2).val / 128) + (3 - (i 1).val / 1024)) % 4) + (i 1).val % 1024)
      (128 * ((4 * ((i 2).val / 128) + (3 - (i 1).val / 1024)) / 4) + (i 2).val % 128) = _
    rw [show 1024 * (3 - (4 * ((i 2).val / 128) + (3 - (i 1).val / 1024)) % 4) + (i 1).val % 1024 = (i 1).val by omega,
      show 128 * ((4 * ((i 2).val / 128) + (3 - (i 1).val / 1024)) / 4) + (i 2).val % 128 = (i 2).val by omega]
  · refine ⟨⟨_, tt_lt i⟩, flush0_9 _, ?_⟩
    have hi := index9 ⟨_, tt_lt i⟩
    dsimp only at hi
    exact mem_blk9 _ i (by omega) (by omega) (by omega)

/-! ## The result -/

/-- The second array of a stack, as the host takes it. -/
theorem second (f : S4x4096x1024.Idx → EReal) (i : S4096x1024.Idx) :
    shapeCast S4096x1024 (extractStridedSlice S1x4096x1024 ![1, 0, 0] f slices_S4x4096x1024_S1x4096x1024_1_0_0) shapeCasts_S1x4096x1024_S4096x1024 i
      = f (ix3 1 ⟨(i 0).val, (i 0).isLt⟩ ⟨(i 1).val, (i 1).isLt⟩) :=
  (shapeCast_apply _ _ _ (ix3 (n0 := 1) (n1 := 4096) (n2 := 1024) ⟨0, by decide⟩ ⟨(i 0).val, (i 0).isLt⟩ ⟨(i 1).val, (i 1).isLt⟩) (by
    rw [Shape.rowMajor_val_three, Shape.rowMajor_val_two]
    show (0 * 4096 + (i 0).val) * 1024 + (i 1).val = (i 0).val * 1024 + (i 1).val
    omega)).trans (extractStridedSlice_apply _ _ _ _ _ fun b => by
      match b with
      | ⟨0, _⟩ => rfl
      | ⟨1, _⟩ => exact (Nat.zero_add _).symm
      | ⟨2, _⟩ => exact (Nat.zero_add _).symm)

/-- The result. -/
def res : Vec Ideal S4096x1024 .bf16 := fun i => gd m c (i 0).val (i 1).val

theorem tail_v2 : Pipeline.afterTail₀ cfgs (dats m) 0 (V0 m) [hostOps1] c main_v2 = res m c := by
  have e := Pipeline.withArrays_arr_shared spec0 c (V0 m c) (fun w => (dats m 0 c).arrAt w cfg0.N)
    ((dats m 0 c).arrAt_sharedIn sharedIn0 _ (A_eq m c) _) 9
  unfold Pipeline.afterTail₀
  show StableHlo.after hostOps1 _ _ = _
  unfold hostOps1
  after_results
  funext i
  refine (second _ i).trans ((congrFun e _).trans ?_)
  exact final9 m c _ rfl

/-- The kernel's run: its result named. -/
theorem run_kernel (ρ : Dev nD → PrngReg) :
    θ_run (defs (F := Ideal)) (onTc (τ := τ) (main (F := Ideal))) ⟨m, fun _ => 0, ρ⟩ fun r =>
      ∀ c : Dev nD, r.2.mem ((c.tc : Thread nD τ).loc main_v2) = res m c :=
  (θ_run defs _ _).mono (fun r h c =>
    ((h c).2 main_v2 (Pipeline.mem_restRefs_of main_v2 (by decide) (by decide))).trans (tail_v2 m c)) (run_main m ρ)

/-! ## The reference -/

/-- The reference's derivative of the product, at finite states and cotangents. -/
theorem deriv {g h e z : FVec Ideal S4096x1024 .f32} (hz : ∀ i, z i = 1) (hb) (i : S4096x1024.Idx) (hh : IsR (h i)) (he : IsR (e i)) :
    truncf .bf16 (addf (mulf (mulf h e) (Host.divf z (addf z (Host.exp (Host.negf g))))) (mulf (mulf g (mulf h e))
      (mulf (Host.divf z (addf z (Host.exp (Host.negf g)))) (subf z (Host.divf z (addf z (Host.exp (Host.negf g)))))))) hb i
      = gg (g i) (h i) (e i) := by
  have hs : Host.divf z (addf z (Host.exp (Host.negf g))) i = sgm (g i) := by
    show Ideal.div (z i) (z i + Ideal.exp (-(g i))) = Ideal.div 1 (1 + Ideal.exp (0 - g i))
    rw [hz, sub_eq_add_neg, zero_add]
  rw [gg_eq hh he]
  show h i * e i * Host.divf z (addf z (Host.exp (Host.negf g))) i + g i * (h i * e i)
    * (Host.divf z (addf z (Host.exp (Host.negf g))) i * (z i - Host.divf z (addf z (Host.exp (Host.negf g))) i)) = _
  rw [hs, hz]

theorem pre_facts : Cert.Pre_finite_gated.Facts where
  bcast_S_S4096x1024 := by decide
  reducesTo_S4096x1024_S_d0_1 := by decide
  h_S_ := by decide
  slices_S4096x2048_S4096x1024_0_0 := by decide

/-- What the condition gives. -/
theorem fin_of_pre [Cert.Pre_finite_gated.Facts] (P : Vec Ideal S4x4096x1024 .f32) (H : Vec Ideal S4096x1024 .f32) (D : Vec Ideal S4096x2048 .f32)
    (cw : Vec Ideal S4x1024 .f32) (v : Vec Ideal S8x1024 .f32) (wa wx : Vec Ideal S8x128x128 .bf16) (f : Vec Ideal S8x128 .f32)
    (h : Cert.Pre_finite_gated.fn (F := Ideal) P H D cw v wa wx f = fun _ => 1#1) (i : S4096x1024.Idx) :
    IsR (H i) ∧ IsR (extractStridedSlice S4096x1024 ![0, 0] D Cert.Pre_finite_gated.Facts.slices_S4096x2048_S4096x1024_0_0 i) := by
  have e := congrFun h (Shape.Idx.first (by decide))
  unfold Cert.Pre_finite_gated.fn at e
  have e := IntOp.andi_eq_one.1 e
  exact ⟨isR_of_all (fun _ => inf_bits) _ _ _ _ e.1 i, isR_of_all (fun _ => inf_bits) _ _ _ _ e.2 i⟩

/-- The reference's result. -/
theorem ref7 {m : (ℓ : Loc nD τ sig) → Buf (Elt Ideal) ℓ} {c : Dev nD} {h : FVec Ideal S4096x1024 .f32} {f : S4x4096x1024.Idx → EReal}
    {d : FVec Ideal S4096x2048 .f32} (hf : f = m ((c : Thread nD τ).loc main_arg0)) (hh : h = m ((c : Thread nD τ).loc main_arg1))
    (hd : d = m ((c : Thread nD τ).loc main_arg2)) {sl}
    (i : S4096x1024.Idx) : gg (shapeCast S4096x1024 (extractStridedSlice S1x4096x1024 ![1, 0, 0] f slices_S4x4096x1024_S1x4096x1024_1_0_0) shapeCasts_S1x4096x1024_S4096x1024 i)
      (h i) (extractStridedSlice S4096x1024 ![0, 0] d sl i) = res m c i := by
  have h1 : (i 1).val < 1024 := (i 1).isLt
  subst hf hh hd
  exact congr (congr (congrArg gg ((second _ i).trans (at3_of _ _ rfl rfl rfl))) (at2_of _ i rfl rfl))
    ((extractStridedSlice_apply _ _ _ i (ix2 ⟨(i 0).val, (i 0).isLt⟩ ⟨(i 1).val, by omega⟩) fun b => by
      match b with
      | ⟨0, _⟩ => exact (Nat.zero_add _).symm
      | ⟨1, _⟩ => exact (Nat.zero_add _).symm).trans (at2_of _ _ rfl rfl))

end Cert.RBwd
end
-- ==== Proof.Adam.lean ====
module

public import proofs.«01_k».proof.Proof.ProjSpec
public import proofs.«01_k».proof.Proof.Gen.Kernel11Ideal.Value
public import proofs.«01_k».proof.Proof.Gen.Reference11Ideal.Run
public import proofs.«01_k».proof.Proof.Gen.Reference11Ideal.Read
public import Idealize.ShloMosaic.Lib.Pointwise
public import Idealize.ShloMosaic.Lib.Pointwise.Tactic

/-!
# The optimiser's step on one layer's matrices

The layer's rows are the first 1024 of the arrays; the other rows stay as they were.
-/

@[expose] public section

set_option maxRecDepth 16384

noncomputable section

namespace Cert.Adam

open Cert.Kernel11Ideal Cert.Kernel11Ideal.Gen Idealize.ShloMosaic Idealize.ShloMosaic.TcCoe Idealize.SL.Sem
open Cert.Pool Cert.Proj

/-- The two moments after the step, from the moment before and the gradient. -/
def mom (m g : EReal) : EReal := Ideal.ofBits .f32 0x3F666666#32 * m + Ideal.ofBits .f32 0x3DCCCCCD#32 * g
def sqm (v g : EReal) : EReal := Ideal.ofBits .f32 0x3F7FBE77#32 * v + Ideal.ofBits .f32 0x3A83126F#32 * (g * g)

/-- The change of the parameter. -/
def delta (w m v g : EReal) : EReal :=
  Ideal.ofBits .f32 0xBA83126F#32 * (Ideal.div (Ideal.div (mom m g) (Ideal.ofBits .f32 0x3F26BD02#32))
    (Ideal.sqrt (Ideal.div (sqm v g) (Ideal.ofBits .f32 0x3C231ACC#32)) + Ideal.ofBits .f32 0x322BCC77#32) + Ideal.ofBits .f32 0x3C23D70A#32 * w)

section Pay

variable {G W M V P Q : ℕ → ℕ → EReal} {p q : FVec Ideal S512x1024 .bf16} {w m v : FVec Ideal S512x1024 .f32}

theorem pay1 (hp : M2 p P) (hq : M2 q Q) : M2 (k0_pay1 (F := Ideal) p q) (fun r l => P r l + Q r l) := by
  intro r l
  unfold k0_pay1
  pointwise
  simp only [hp _ _, hq _ _]

theorem pay2 (hg : M2 (k0_pay1 (F := Ideal) p q) G) (hm : M2 m M) : M2 (k0_pay2 (F := Ideal) p q m) (fun r l => mom (M r l) (G r l)) := by
  intro r l
  unfold k0_pay2
  generalize k0_pay1 (F := Ideal) p q = g at hg ⊢
  pointwise
  simp only [hg _ _, hm _ _]
  rfl

theorem pay3 (hg : M2 (k0_pay1 (F := Ideal) p q) G) (hv : M2 v V) : M2 (k0_pay3 (F := Ideal) p q v) (fun r l => sqm (V r l) (G r l)) := by
  intro r l
  unfold k0_pay3
  generalize k0_pay1 (F := Ideal) p q = g at hg ⊢
  pointwise
  simp only [hg _ _, hv _ _]
  rfl

theorem pay4 (hg : M2 (k0_pay1 (F := Ideal) p q) G) (hw : M2 w W) (hm : M2 m M) (hv : M2 v V) :
    M2 (k0_pay4 (F := Ideal) p q w m v) (fun r l => delta (W r l) (M r l) (V r l) (G r l)) := by
  intro r l
  have h2 := pay2 hg hm
  have h3 := pay3 hg hv
  unfold k0_pay4
  generalize k0_pay2 (F := Ideal) p q m = a at h2 ⊢
  generalize k0_pay3 (F := Ideal) p q v = b at h3 ⊢
  pointwise
  simp only [h2 _ _, h3 _ _, hw _ _]
  rfl

end Pay

variable (m : (ℓ : Loc nD τ sig) → Buf (Elt Ideal) ℓ) (c : Dev nD)

theorem index0 : ∀ t : Fin grid0.N, win0_0.index t 0 = t.val ∧ win0_0.index t 1 = 0 := by decide +kernel
theorem index1 : ∀ t : Fin grid0.N, win0_1.index t 0 = t.val ∧ win0_1.index t 1 = 0 := by decide +kernel
theorem index2 : ∀ t : Fin grid0.N, win0_2.index t 0 = t.val ∧ win0_2.index t 1 = 0 := by decide +kernel
theorem index3 : ∀ t : Fin grid0.N, win0_3.index t 0 = t.val ∧ win0_3.index t 1 = 0 := by decide +kernel
theorem index4 : ∀ t : Fin grid0.N, win0_4.index t 0 = t.val ∧ win0_4.index t 1 = 0 := by decide +kernel
theorem index5 : ∀ t : Fin grid0.N, win0_5.index t 0 = t.val ∧ win0_5.index t 1 = 0 := by decide +kernel
theorem index6 : ∀ t : Fin grid0.N, win0_6.index t 0 = t.val ∧ win0_6.index t 1 = 0 := by decide +kernel
theorem index7 : ∀ t : Fin grid0.N, win0_7.index t 0 = t.val ∧ win0_7.index t 1 = 0 := by decide +kernel
theorem index8 : ∀ t : Fin grid0.N, win0_8.index t 0 = t.val ∧ win0_8.index t 1 = 0 := by decide +kernel

/-- The layer's matrix of a stack of two, by row and column. -/
abbrev lay (x : Vec Ideal ⟨3, ![2, 1024, 1024]⟩ .f32) : ℕ → ℕ → EReal := at3 (k := 2) (n := 1024) (m := 1024) x 0

/-- The gradient: the two parts' sum. -/
def grad (p q : Vec Ideal ⟨2, ![1024, 1024]⟩ .bf16) (r l : ℕ) : EReal := at2 (n := 1024) (m := 1024) p r l + at2 (n := 1024) (m := 1024) q r l

theorem v0 : V m c main_v0 = shapeCast S2048x1024 (m ((c : Thread nD τ).loc main_arg0)) shapeCasts_S2x1024x1024_S2048x1024 := rfl
theorem v1 : V m c main_v1 = shapeCast S2048x1024 (m ((c : Thread nD τ).loc main_arg1)) shapeCasts_S2x1024x1024_S2048x1024 := rfl
theorem v2 : V m c main_v2 = shapeCast S2048x1024 (m ((c : Thread nD τ).loc main_arg2)) shapeCasts_S2x1024x1024_S2048x1024 := rfl

/-- A row of the first 1024 of the stack laid out flat is the layer's row. -/
theorem flat (x : Vec Ideal ⟨3, ![2, 1024, 1024]⟩ .f32) (i : S2048x1024.Idx) {h} (r l : ℕ) (hr : (i 0).val = r) (hl : (i 1).val = l) (hlt : r < 1024) :
    shapeCast S2048x1024 x h i = lay x r l := by
  have h1 : (i 1).val < 1024 := (i 1).isLt
  refine (shapeCast_apply _ _ i (ix3 (n0 := 2) (n1 := 1024) (n2 := 1024) 0 ⟨r, hlt⟩ ⟨l, by omega⟩) ?_).trans (at3_of _ _ rfl rfl rfl)
  rewrite [Shape.rowMajor_val_three, Shape.rowMajor_val_two]
  show (0 * 1024 + r) * 1024 + l = (i 0).val * 1024 + (i 1).val
  omega

variable (t : Fin cfg0.N)

theorem blk0 : M2 (n := 512) (m := 1024) (iblk m c 0 t) (fun r l => lay (m ((c : Thread nD τ).loc main_arg0)) (512 * t.val + r) l) := by
  have ht : t.val < 2 := lt_of_lt_of_eq t.isLt N_0
  intro r l
  unfold iblk
  rw [View.read_apply]
  show V m c main_v0 _ = _
  rw [v0]
  have hi := index0 t
  refine flat _ _ _ _ ?_ ?_ (by omega)
  · show win0_0.index t 0 * 512 + 1 * r.val = 512 * t.val + r.val; omega
  · show win0_0.index t 1 * 1024 + 1 * l.val = l.val; omega

theorem blk1 : M2 (n := 512) (m := 1024) (iblk m c 1 t) (fun r l => lay (m ((c : Thread nD τ).loc main_arg1)) (512 * t.val + r) l) := by
  have ht : t.val < 2 := lt_of_lt_of_eq t.isLt N_0
  intro r l
  unfold iblk
  rw [View.read_apply]
  show V m c main_v1 _ = _
  rw [v1]
  have hi := index1 t
  refine flat _ _ _ _ ?_ ?_ (by omega)
  · show win0_1.index t 0 * 512 + 1 * r.val = 512 * t.val + r.val; omega
  · show win0_1.index t 1 * 1024 + 1 * l.val = l.val; omega

theorem blk2 : M2 (n := 512) (m := 1024) (iblk m c 2 t) (fun r l => lay (m ((c : Thread nD τ).loc main_arg2)) (512 * t.val + r) l) := by
  have ht : t.val < 2 := lt_of_lt_of_eq t.isLt N_0
  intro r l
  unfold iblk
  rw [View.read_apply]
  show V m c main_v2 _ = _
  rw [v2]
  have hi := index2 t
  refine flat _ _ _ _ ?_ ?_ (by omega)
  · show win0_2.index t 0 * 512 + 1 * r.val = 512 * t.val + r.val; omega
  · show win0_2.index t 1 * 1024 + 1 * l.val = l.val; omega

theorem blk3 : M2 (n := 512) (m := 1024) (iblk m c 3 t) (fun r l => at2 (n := 1024) (m := 1024) (m ((c : Thread nD τ).loc main_arg3)) (512 * t.val + r) l) := by
  intro r l
  unfold iblk
  rw [View.read_apply]
  show V m c main_arg3 _ = at2 _ _ _
  rw [V_main_arg3]
  have hi := index3 t
  refine at2_of _ _ ?_ ?_
  · show win0_3.index t 0 * 512 + 1 * r.val = 512 * t.val + r.val; omega
  · show win0_3.index t 1 * 1024 + 1 * l.val = l.val; omega

theorem blk4 : M2 (n := 512) (m := 1024) (iblk m c 4 t) (fun r l => at2 (n := 1024) (m := 1024) (m ((c : Thread nD τ).loc main_arg4)) (512 * t.val + r) l) := by
  intro r l
  unfold iblk
  rw [View.read_apply]
  show V m c main_arg4 _ = at2 _ _ _
  rw [V_main_arg4]
  have hi := index4 t
  refine at2_of _ _ ?_ ?_
  · show win0_4.index t 0 * 512 + 1 * r.val = 512 * t.val + r.val; omega
  · show win0_4.index t 1 * 1024 + 1 * l.val = l.val; omega

/-- The launched gradient, and the step's three results, by row and column. -/
abbrev G : ℕ → ℕ → EReal := grad (m ((c : Thread nD τ).loc main_arg3)) (m ((c : Thread nD τ).loc main_arg4))
abbrev M' (r l : ℕ) : EReal := mom (lay (m ((c : Thread nD τ).loc main_arg1)) r l) (G m c r l)
abbrev V' (r l : ℕ) : EReal := sqm (lay (m ((c : Thread nD τ).loc main_arg2)) r l) (G m c r l)
abbrev D' (r l : ℕ) : EReal :=
  delta (lay (m ((c : Thread nD τ).loc main_arg0)) r l) (lay (m ((c : Thread nD τ).loc main_arg1)) r l) (lay (m ((c : Thread nD τ).loc main_arg2)) r l) (G m c r l)

theorem ld {e : EltTy} {x : Vec Ideal S512x1024 e} {inb} : View.ld x (Rect.unit (s := S512x1024) ![0, 0] ![512, 1024] inb) = x := ldall

/-- One store over the whole block is what the block holds. -/
theorem one {F : ℕ → ℕ → EReal} {f : FVec Ideal S512x1024 .f32} {inb} (h : M2 f F) (y : S512x1024.Idx) :
    View.canon (Val := Elt Ideal) (e := .f32) (s := S512x1024) [⟨Rect.unit (s := S512x1024) ![0, 0] ![512, 1024] inb, f⟩] y = F (y 0).val (y 1).val := by
  rw [View.canon_cons_unit_lit' _ _ _ (fun a => by fin_cases a <;> rfl)]
  exact (at2_fn f y).trans ((at2_eq f (y 0) (y 1)).trans (h (y 0) (y 1)))

theorem left (y : S512x1024.Idx) : (outsAt0 m c t).1 y = G m c (512 * t.val + (y 0).val) (y 1).val
    ∧ (outsAt0 m c t).2.1 y = D' m c (512 * t.val + (y 0).val) (y 1).val
    ∧ (outsAt0 m c t).2.2.1 y = M' m c (512 * t.val + (y 0).val) (y 1).val
    ∧ (outsAt0 m c t).2.2.2 y = V' m c (512 * t.val + (y 0).val) (y 1).val := by
  have hg := pay1 (blk3 m c t) (blk4 m c t)
  have h1 := blk1 m c t
  have h2 := blk2 m c t
  unfold outsAt0 out0_A_5 out0_A_6 out0_A_7 out0_A_8
  dsimp only
  simp only [View.read_writes_junk_eq_canon]
  unfold kernelRun0_A
  dsimp only
  sl_unfold_words
  simp only [View.readAt_eq_ld, (hs0_0 t).read_unread, (hs0_1 t).read_unread, (hs0_2 t).read_unread, (hs0_3 t).read_unread, (hs0_4 t).read_unread]
  simp only [ld]
  exact ⟨one hg y, one (pay4 hg (blk0 m c t) h1 h2) y, one (pay2 hg h1) y, one (pay3 hg h2) y⟩

/-- The layer's rows of the result over the other rows of what was there. -/
def res (F : ℕ → ℕ → EReal) (p : Vec Ideal ⟨2, ![2048, 1024]⟩ .f32) : Vec Ideal ⟨2, ![2048, 1024]⟩ .f32 := fun i =>
  if (i 0).val < 1024 then F (i 0).val (i 1).val else p i

theorem res_at {F : ℕ → ℕ → EReal} {p : Vec Ideal S2048x1024 .f32} {x : EReal} (i : S2048x1024.Idx) {r l : ℕ} (h : x = F r l)
    (e0 : (i 0).val = r) (e1 : (i 1).val = l) (hr : r < 1024) : x = res F p i := by
  subst e0 e1
  exact h.trans (if_pos hr).symm

theorem res_past {F : ℕ → ℕ → EReal} {p : Vec Ideal S2048x1024 .f32} {i : S2048x1024.Idx} {x : EReal} (h : ¬(i 0).val < 1024) (e : x = p i) :
    x = res F p i := e.trans (if_neg h).symm

theorem point (i : S2048x1024.Idx) (h : (i 0).val < 1024) : ∃ t : Fin cfg0.N, t.val = (i 0).val / 512 :=
  ⟨⟨(i 0).val / 512, lt_of_lt_of_eq (show (i 0).val / 512 < 2 by omega) N_0.symm⟩, rfl⟩

theorem final5 : (dats m 0 c).arrAt 5 cfg0.N = res (G m c) (m ((c : Thread nD τ).loc main_arg5)) := by
  refine funext fun (i : S2048x1024.Idx) => ?_
  rw [(dats m 0 c).arrAt_eq_piecewise 5 (res (G m c) (m ((c : Thread nD τ).loc main_arg5))) (fun t _ => ?_) i]
  · split
    · rfl
    · rename_i h
      refine res_past (fun hlt => h ?_) (congrFun (A_eq m c 5) i)
      obtain ⟨t, e⟩ := point i hlt
      have i1 : (i 1).val < 1024 := (i 1).isLt
      refine ⟨t, flush0_5 t, ?_⟩
      have hi := index5 t
      show i ∈ ((View.whole main_v3_0).slice (win0_5.rect t)).set
      rw [View.set_slice_whole, Rect.mem_set_unit]
      intro a
      match a with
      | ⟨0, _⟩ => show win0_5.index t 0 * 512 ≤ (i 0).val ∧ (i 0).val < win0_5.index t 0 * 512 + 512; omega
      | ⟨1, _⟩ => show win0_5.index t 1 * 1024 ≤ (i 1).val ∧ (i 1).val < win0_5.index t 1 * 1024 + 1024; omega
  · rw [Cert.Kernel11Ideal.Value.flushed5]
    funext y
    have ht : t.val < 2 := lt_of_lt_of_eq t.isLt N_0
    have h0 : (y 0).val < 512 := (y 0).isLt
    have hi := index5 t
    refine res_at (((cfg0.win 5).blk t).view.emb y) (left m c t y).1 ?_ ?_ (by omega)
    · show win0_5.index t 0 * 512 + 1 * (y 0).val = _; omega
    · show win0_5.index t 1 * 1024 + 1 * (y 1).val = _; omega

theorem final6 : (dats m 0 c).arrAt 6 cfg0.N = res (D' m c) (m ((c : Thread nD τ).loc main_arg6)) := by
  refine funext fun (i : S2048x1024.Idx) => ?_
  rw [(dats m 0 c).arrAt_eq_piecewise 6 (res (D' m c) (m ((c : Thread nD τ).loc main_arg6))) (fun t _ => ?_) i]
  · split
    · rfl
    · rename_i h
      refine res_past (fun hlt => h ?_) (congrFun (A_eq m c 6) i)
      obtain ⟨t, e⟩ := point i hlt
      have i1 : (i 1).val < 1024 := (i 1).isLt
      refine ⟨t, flush0_6 t, ?_⟩
      have hi := index6 t
      show i ∈ ((View.whole main_v3_1).slice (win0_6.rect t)).set
      rw [View.set_slice_whole, Rect.mem_set_unit]
      intro a
      match a with
      | ⟨0, _⟩ => show win0_6.index t 0 * 512 ≤ (i 0).val ∧ (i 0).val < win0_6.index t 0 * 512 + 512; omega
      | ⟨1, _⟩ => show win0_6.index t 1 * 1024 ≤ (i 1).val ∧ (i 1).val < win0_6.index t 1 * 1024 + 1024; omega
  · rw [Cert.Kernel11Ideal.Value.flushed6]
    funext y
    have ht : t.val < 2 := lt_of_lt_of_eq t.isLt N_0
    have h0 : (y 0).val < 512 := (y 0).isLt
    have hi := index6 t
    refine res_at (((cfg0.win 6).blk t).view.emb y) (left m c t y).2.1 ?_ ?_ (by omega)
    · show win0_6.index t 0 * 512 + 1 * (y 0).val = _; omega
    · show win0_6.index t 1 * 1024 + 1 * (y 1).val = _; omega

theorem final7 : (dats m 0 c).arrAt 7 cfg0.N = res (M' m c) (m ((c : Thread nD τ).loc main_arg7)) := by
  refine funext fun (i : S2048x1024.Idx) => ?_
  rw [(dats m 0 c).arrAt_eq_piecewise 7 (res (M' m c) (m ((c : Thread nD τ).loc main_arg7))) (fun t _ => ?_) i]
  · split
    · rfl
    · rename_i h
      refine res_past (fun hlt => h ?_) (congrFun (A_eq m c 7) i)
      obtain ⟨t, e⟩ := point i hlt
      have i1 : (i 1).val < 1024 := (i 1).isLt
      refine ⟨t, flush0_7 t, ?_⟩
      have hi := index7 t
      show i ∈ ((View.whole main_v3_2).slice (win0_7.rect t)).set
      rw [View.set_slice_whole, Rect.mem_set_unit]
      intro a
      match a with
      | ⟨0, _⟩ => show win0_7.index t 0 * 512 ≤ (i 0).val ∧ (i 0).val < win0_7.index t 0 * 512 + 512; omega
      | ⟨1, _⟩ => show win0_7.index t 1 * 1024 ≤ (i 1).val ∧ (i 1).val < win0_7.index t 1 * 1024 + 1024; omega
  · rw [Cert.Kernel11Ideal.Value.flushed7]
    funext y
    have ht : t.val < 2 := lt_of_lt_of_eq t.isLt N_0
    have h0 : (y 0).val < 512 := (y 0).isLt
    have hi := index7 t
    refine res_at (((cfg0.win 7).blk t).view.emb y) (left m c t y).2.2.1 ?_ ?_ (by omega)
    · show win0_7.index t 0 * 512 + 1 * (y 0).val = _; omega
    · show win0_7.index t 1 * 1024 + 1 * (y 1).val = _; omega

theorem final8 : (dats m 0 c).arrAt 8 cfg0.N = res (V' m c) (m ((c : Thread nD τ).loc main_arg8)) := by
  refine funext fun (i : S2048x1024.Idx) => ?_
  rw [(dats m 0 c).arrAt_eq_piecewise 8 (res (V' m c) (m ((c : Thread nD τ).loc main_arg8))) (fun t _ => ?_) i]
  · split
    · rfl
    · rename_i h
      refine res_past (fun hlt => h ?_) (congrFun (A_eq m c 8) i)
      obtain ⟨t, e⟩ := point i hlt
      have i1 : (i 1).val < 1024 := (i 1).isLt
      refine ⟨t, flush0_8 t, ?_⟩
      have hi := index8 t
      show i ∈ ((View.whole main_v3_3).slice (win0_8.rect t)).set
      rw [View.set_slice_whole, Rect.mem_set_unit]
      intro a
      match a with
      | ⟨0, _⟩ => show win0_8.index t 0 * 512 ≤ (i 0).val ∧ (i 0).val < win0_8.index t 0 * 512 + 512; omega
      | ⟨1, _⟩ => show win0_8.index t 1 * 1024 ≤ (i 1).val ∧ (i 1).val < win0_8.index t 1 * 1024 + 1024; omega
  · rw [Cert.Kernel11Ideal.Value.flushed8]
    funext y
    have ht : t.val < 2 := lt_of_lt_of_eq t.isLt N_0
    have h0 : (y 0).val < 512 := (y 0).isLt
    have hi := index8 t
    refine res_at (((cfg0.win 8).blk t).view.emb y) (left m c t y).2.2.2 ?_ ?_ (by omega)
    · show win0_8.index t 0 * 512 + 1 * (y 0).val = _; omega
    · show win0_8.index t 1 * 1024 + 1 * (y 1).val = _; omega

/-! ## The reference -/

section Reference

open Cert.Reference11Ideal Cert.Reference11Ideal.Gen Cert.Reference11Ideal.Read

/-- The layer's rows joined with the other rows of what was there. -/
theorem cat {F : ℕ → ℕ → EReal} {f : Vec Ideal ⟨2, ![1024, 1024]⟩ .f32} {p : Vec Ideal ⟨2, ![2048, 1024]⟩ .f32}
    {h : Shape.Concatenates [Cert.Reference11Ideal.S1024x1024, Cert.Reference11Ideal.S1024x1024] Cert.Reference11Ideal.S2048x1024 0} {h'}
    (hf : ∀ i, f i = F (i 0).val (i 1).val) :
    concatenate Cert.Reference11Ideal.S2048x1024 0 [⟨Cert.Reference11Ideal.S1024x1024, f⟩,
      ⟨Cert.Reference11Ideal.S1024x1024, extractStridedSlice Cert.Reference11Ideal.S1024x1024 ![1024, 0] p h'⟩] h = res F p := by
  funext i
  have h0 : (i 0).val < 2048 := (i 0).isLt
  have h1 : (i 1).val < 1024 := (i 1).isLt
  by_cases hlt : (i 0).val < 1024
  · refine (concatenate_pair_apply_left 0 f _ h i rfl (ix2 (n0 := 1024) (n1 := 1024) ⟨(i 0).val, hlt⟩ ⟨(i 1).val, h1⟩) ?_).trans ((hf _).trans (if_pos hlt).symm)
    intro b
    match b with
    | ⟨0, _⟩ => rfl
    | ⟨1, _⟩ => rfl
  · refine (concatenate_pair_apply_right 0 f _ h i rfl rfl (ix2 (n0 := 1024) (n1 := 1024) ⟨(i 0).val - 1024, by omega⟩ ⟨(i 1).val, h1⟩) ?_ ?_).trans (res_past hlt ?_)
    · intro b hb
      match b with
      | ⟨0, _⟩ => exact absurd rfl hb
      | ⟨1, _⟩ => rfl
    · show (i 0).val - 1024 + 1024 = (i 0).val; omega
    · refine extractStridedSlice_apply _ p _ _ i fun a => ?_
      match a with
      | ⟨0, _⟩ => show (i 0).val = 1024 + ((i 0).val - 1024); omega
      | ⟨1, _⟩ => show (i 1).val = 0 + (i 1).val; omega

variable (w m v : Vec Ideal ⟨3, ![2, 1024, 1024]⟩ .f32) (p q : Vec Ideal ⟨2, ![1024, 1024]⟩ .bf16) (x : Vec Ideal ⟨2, ![2048, 1024]⟩ .f32)

theorem r2 (i : Cert.Reference11Ideal.S1024x1024.Idx) : val_main_v2 (F := Ideal) p q i = grad p q (i 0).val (i 1).val :=
  congrArg₂ (· + ·) (at2_fn (n := 1024) (m := 1024) p i) (at2_fn (n := 1024) (m := 1024) q i)

theorem r4 (i : Cert.Reference11Ideal.S1024x1024.Idx) : val_main_v4 (F := Ideal) w i = lay w (i 0).val (i 1).val := by
  have h0 : (i 0).val < 1024 := (i 0).isLt
  have h1 : (i 1).val < 1024 := (i 1).isLt
  rw [val_main_v4_apply, val_main_v3_apply]
  exact at3_of (k := 2) (n := 1024) (m := 1024) w _ rfl (by show ((i 0).val * 1024 + (i 1).val) / 1024 % 1024 = _; omega)
    (by show ((i 0).val * 1024 + (i 1).val) % 1024 = _; omega)

theorem r13 (i : Cert.Reference11Ideal.S1024x1024.Idx) :
    val_main_v13 (F := Ideal) m p q i = mom (lay m (i 0).val (i 1).val) (grad p q (i 0).val (i 1).val) := by
  rw [← r2, ← r4]
  rfl

theorem r19 (i : Cert.Reference11Ideal.S1024x1024.Idx) :
    val_main_v19 (F := Ideal) v p q i = sqm (lay v (i 0).val (i 1).val) (grad p q (i 0).val (i 1).val) := by
  rw [← r2, ← r4]
  rfl

theorem r32 (i : Cert.Reference11Ideal.S1024x1024.Idx) : val_main_v32 (F := Ideal) w m v p q i
    = delta (lay w (i 0).val (i 1).val) (lay m (i 0).val (i 1).val) (lay v (i 0).val (i 1).val) (grad p q (i 0).val (i 1).val) := by
  unfold delta
  rw [← r13, ← r19, ← r4]
  rfl

theorem ref34 : val_main_v34 (F := Ideal) p q x = res (grad p q) x := cat (r2 p q)
theorem ref36 : val_main_v36 (F := Ideal) w m v p q x = res (fun r l => delta (lay w r l) (lay m r l) (lay v r l) (grad p q r l)) x := cat (r32 w m v p q)
theorem ref38 : val_main_v38 (F := Ideal) m p q x = res (fun r l => mom (lay m r l) (grad p q r l)) x := cat (r13 m p q)
theorem ref40 : val_main_v40 (F := Ideal) v p q x = res (fun r l => sqm (lay v r l) (grad p q r l)) x := cat (r19 v p q)

end Reference

end Cert.Adam
-- ==== Proof.Slab.lean ====
module

public import proofs.«01_k».proof.Proof.Gen.Kernel12Ideal.Value
public import proofs.«01_k».proof.Proof.Gen.Reference12Ideal.Run
public import proofs.«01_k».proof.Proof.Gen.Reference12Ideal.Read
public import Idealize.ShloMosaic.Lib.Pointwise
public import Idealize.ShloMosaic.Lib.Pointwise.Tactic

/-!
# The sum of the slabs

The eight slabs are added one after the other, which is the reference's sum over the leading axis.
-/

@[expose] public section

noncomputable section

namespace Cert.Slab

open Cert.Kernel12Ideal Cert.Kernel12Ideal.Gen Idealize.ShloMosaic
open scoped BigOperators

theorem sum_eq (x : Vec Ideal S8x48x1024 .f32) : Cert.Kernel12Ideal.Value.G1 (F := Ideal) x = Cert.Reference12Ideal.Read.val_main_v0 (F := Ideal) x := by
  funext y
  rw [Cert.Reference12Ideal.Read.val_main_v0_apply, Fin.sum_univ_eight]
  show k0_pay1 _ _ _ _ _ _ _ _ y = _
  unfold k0_pay1
  pointwise
  have e : ∀ k : Fin 8, Cert.Reference12Ideal.Read.idx_main_v0 y k = ix3 k (y 0) (y 1) := fun k => funext fun a => by fin_cases a <;> rfl
  have z : Cert.Reference12Ideal.Read.val_main_cst (F := Ideal) (Shape.Idx.first Cert.Reference12Ideal.Gen.h_S_) = 0 := Ideal.ofBits_zero .f32
  rw [z, zero_add, e, e, e, e, e, e, e, e]
  rfl

end Cert.Slab

end
-- ==== Proof.Proj10.lean ====
module

public import proofs.«01_k».proof.Proof.Proj5
public import proofs.«01_k».proof.Proof.ProjMath
public import proofs.«01_k».proof.Proof.RnnPay
public import proofs.«01_k».proof.Proof.Gen.Kernel10Ideal.Value
public import proofs.«01_k».proof.Proof.Gen.Reference10Ideal.Run
public import proofs.«01_k».proof.Proof.Gen.Reference10Ideal.Read

/-!
# The projection out of the last layer's branches, and the loss

The stream after the block is held against the target: each grid point leaves its steps' gradient of the loss and adds
its steps' square errors to a running sum.
-/

@[expose] public section

set_option maxRecDepth 16384

noncomputable section

namespace Cert.Proj10

open Cert.Kernel10Ideal Cert.Kernel10Ideal.Gen Idealize.ShloMosaic Idealize.ShloMosaic.TcCoe Idealize.SL.Sem
open Cert.Pool Cert.Proj
open scoped BigOperators

/-- What the gradient reads: the branches' outputs, the matrices, the stream, the vectors and the target. -/
structure Data where
  Y : ℕ → ℕ → EReal
  W : ℕ → ℕ → ℕ → EReal
  X : ℕ → ℕ → EReal
  V : ℕ → ℕ → EReal
  D : ℕ → ℕ → EReal

namespace Data

variable (d : Data)

def y (t p : ℕ) : EReal := yout d.Y d.W t p
def err (t p : ℕ) : EReal := xout d.Y d.W d.X d.V t p - d.D t p
def dx (t p : ℕ) : EReal := d.err t p * Ideal.ofBits .f32 0x3A800000#32

/-- A step's square error, and the first `n` steps'. -/
def row (t : ℕ) : EReal := ∑ l : Fin 1024, d.err t l * d.err t l
def sq (n : ℕ) : EReal := ∑ t ∈ Finset.range n, d.row t

end Data

section Pay

variable {d : Data} {T : ℕ} {y x t : FVec Ideal S512x1024 .f32} {q : FVec Ideal S512x1 .f32} {ga g : FVec Ideal S1x1024 .f32}

theorem pay1 (hy : M2 y (fun r p => yout d.Y d.W (T + r) p)) (hq : M2 q (fun r _ => rs (yout d.Y d.W) (T + r)))
    (hx : M2 x (fun r l => d.X (T + r) l)) (hga : M2 ga (fun _ l => d.V 2 l)) (hg : M2 g (fun _ l => d.V 4 l)) (ht : M2 t (fun r l => d.D (T + r) l)) :
    M2 (k0_pay1 (F := Ideal) y q x ga g t) (fun r p => d.err (T + r) p) := by
  intro r p
  unfold k0_pay1
  pointwise
  simp only [hy _ _, hq _ _, hx _ _, hga _ _, hg _ _, ht _ _]
  rfl

theorem pay2 (h : M2 (k0_pay1 (F := Ideal) y q x ga g t) (fun r p => d.err (T + r) p)) :
    M2 (k0_pay2 (F := Ideal) y q x ga g t) (fun r p => d.dx (T + r) p) := by
  intro r p
  unfold k0_pay2
  generalize k0_pay1 (F := Ideal) y q x ga g t = e at h ⊢
  pointwise
  rw [h _ _]
  rfl

theorem pay3 : M2 (k0_pay3 (F := Ideal)) (fun _ _ => d.sq (512 * 0)) := by
  intro r p
  unfold k0_pay3
  pointwise
  rfl

theorem pay4 {s : FVec Ideal S8x128 .f32} (h : M2 (k0_pay1 (F := Ideal) y q x ga g t) (fun r p => d.err (512 * T + r) p))
    (hs : M2 s (fun _ _ => d.sq (512 * T))) :
    M2 (k0_pay4 (F := Ideal) y q x ga g t s) (fun _ _ => d.sq (512 * (T + 1))) := by
  intro r p
  unfold k0_pay4
  generalize k0_pay1 (F := Ideal) y q x ga g t = e at h ⊢
  pointwise
  simp only [h _ _, hs _ _]
  exact sum_next d.row T

end Pay

section Point

variable {d : Data} {T : ℕ} {y : Vec Ideal S512x2048 .bf16} {w : Vec Ideal S4x512x1024 .bf16} {x t : Vec Ideal S512x1024 .f32} {v : Vec Ideal S8x1024 .f32}
  (hy : M2 (n := 512) (m := 2048) y (fun r j => d.Y (512 * T + r) j)) (hw : M3 (k := 4) (n := 512) (m := 1024) w d.W)
  (hx : M2 (n := 512) (m := 1024) x (fun r l => d.X (512 * T + r) l)) (hv : M2 (n := 8) (m := 1024) v d.V)
  (ht : M2 (n := 512) (m := 1024) t (fun r l => d.D (512 * T + r) l))

theorem ldx {n m : ℕ} {x : Vec Ideal ⟨2, ![n, m]⟩ .f32} {X : ℕ → ℕ → EReal} (hx : M2 (n := n) (m := m) x X) {inb} :
    M2 (View.ld x (Rect.unit (s := ⟨2, ![n, m]⟩) ![0, 0] ![n, m] inb)) X := by
  rw [show View.ld x (Rect.unit (s := ⟨2, ![n, m]⟩) ![0, 0] ![n, m] inb) = x from ldall]; exact hx

include hy hw in
theorem prod {a0 a1 a2 a3 b0 b1 b2 b3} :
    M2 (k0_pay5 (F := Ideal) (View.ld y (Rect.unit (s := S512x2048) ![0, 0] ![512, 512] a0)) (View.ld w (Rect.unit (s := S4x512x1024) ![0, 0, 0] ![1, 512, 1024] b0))
      (View.ld y (Rect.unit (s := S512x2048) ![0, 512] ![512, 512] a1)) (View.ld w (Rect.unit (s := S4x512x1024) ![1, 0, 0] ![1, 512, 1024] b1))
      (View.ld y (Rect.unit (s := S512x2048) ![0, 1024] ![512, 512] a2)) (View.ld w (Rect.unit (s := S4x512x1024) ![2, 0, 0] ![1, 512, 1024] b2))
      (View.ld y (Rect.unit (s := S512x2048) ![0, 1536] ![512, 512] a3)) (View.ld w (Rect.unit (s := S4x512x1024) ![3, 0, 0] ![1, 512, 1024] b3)))
      (fun r p => yout d.Y d.W (512 * T + r) p) :=
  Cert.Proj5.pay2 (ldcol hy 0 (by decide)) (ldmat hw 0 (by decide)) (ldcol hy 1 (by decide)) (ldmat hw 1 (by decide))
    (ldcol hy 2 (by decide)) (ldmat hw 2 (by decide)) (ldcol hy 3 (by decide)) (ldmat hw 3 (by decide))

include hy hw hx hv ht in
theorem errs {a0 a1 a2 a3 b0 b1 b2 b3 e0 e1 g0 g1} :
    M2 (k0_pay1 (F := Ideal) (k0_pay5 (F := Ideal) (View.ld y (Rect.unit (s := S512x2048) ![0, 0] ![512, 512] a0)) (View.ld w (Rect.unit (s := S4x512x1024) ![0, 0, 0] ![1, 512, 1024] b0))
      (View.ld y (Rect.unit (s := S512x2048) ![0, 512] ![512, 512] a1)) (View.ld w (Rect.unit (s := S4x512x1024) ![1, 0, 0] ![1, 512, 1024] b1))
      (View.ld y (Rect.unit (s := S512x2048) ![0, 1024] ![512, 512] a2)) (View.ld w (Rect.unit (s := S4x512x1024) ![2, 0, 0] ![1, 512, 1024] b2))
      (View.ld y (Rect.unit (s := S512x2048) ![0, 1536] ![512, 512] a3)) (View.ld w (Rect.unit (s := S4x512x1024) ![3, 0, 0] ![1, 512, 1024] b3)))
      (k0_pay7 (F := Ideal) (View.ld y (Rect.unit (s := S512x2048) ![0, 0] ![512, 512] a0)) (View.ld w (Rect.unit (s := S4x512x1024) ![0, 0, 0] ![1, 512, 1024] b0))
      (View.ld y (Rect.unit (s := S512x2048) ![0, 512] ![512, 512] a1)) (View.ld w (Rect.unit (s := S4x512x1024) ![1, 0, 0] ![1, 512, 1024] b1))
      (View.ld y (Rect.unit (s := S512x2048) ![0, 1024] ![512, 512] a2)) (View.ld w (Rect.unit (s := S4x512x1024) ![2, 0, 0] ![1, 512, 1024] b2))
      (View.ld y (Rect.unit (s := S512x2048) ![0, 1536] ![512, 512] a3)) (View.ld w (Rect.unit (s := S4x512x1024) ![3, 0, 0] ![1, 512, 1024] b3)))
      (View.ld x (Rect.unit (s := S512x1024) ![0, 0] ![512, 1024] e0)) (View.ld v (Rect.unit (s := S8x1024) ![2, 0] ![1, 1024] g0))
      (View.ld v (Rect.unit (s := S8x1024) ![4, 0] ![1, 1024] g1)) (View.ld t (Rect.unit (s := S512x1024) ![0, 0] ![512, 1024] e1)))
      (fun r p => d.err (512 * T + r) p) :=
  pay1 (prod hy hw) (Cert.Proj5.pay4 (prod hy hw)) (ldx hx) (ldrow hv 2 (by decide)) (ldrow hv 4 (by decide)) (ldx ht)

variable (c : Dev nD) (i : grid0.Coords) (arg1 : Memref sig .tc .vmem S512x2048 .bf16) (harg1 : arg1.IsWhole) (arg2 : Memref sig .tc .vmem S4x512x1024 .bf16) (harg2 : arg2.IsWhole) (arg3 : Memref sig .tc .vmem S512x1024 .f32) (harg3 : arg3.IsWhole) (arg4 : Memref sig .tc .vmem S8x1024 .f32) (harg4 : arg4.IsWhole) (arg5 : Memref sig .tc .vmem S512x1024 .f32) (harg5 : arg5.IsWhole) (arg6 : Memref sig .tc .vmem S512x1024 .bf16) (harg6 : arg6.IsWhole) (arg7 : Memref sig .tc .vmem S512x1024 .f32) (harg7 : arg7.IsWhole) (arg8 : Memref sig .tc .vmem S8x128 .f32) (harg8 : arg8.IsWhole)

/-- What a grid point leaves. -/
structure Left (d : Data) (n : ℕ) (o : Vec Ideal S512x1024 .bf16 × Vec Ideal S512x1024 .f32 × Vec Ideal S8x128 .f32) : Prop where
  y : ∀ z, o.1 z = d.y (512 * n + (z 0).val) (z 1).val
  dx : ∀ z, o.2.1 z = d.dx (512 * n + (z 0).val) (z 1).val
  sq : ∀ z, o.2.2 z = d.sq (512 * (n + 1))

theorem pj (G : ℕ → ℕ → EReal) : ∀ r p, r < 512 → p < 1024 → G (512 * T + r) p = (fun r p => G (512 * T + r) p) (0 + r) (0 + p) := by
  intro r p _ _
  simp only [Nat.zero_add]

theorem whole8 (z : S8x128.Idx) {w : (⟨2, ![8, 128]⟩ : Shape).Idx → EReal} {inb} :
    ∃ p ∈ ([⟨Rect.unit (s := S8x128) ![0, 0] ![8, 128] inb, w⟩] : List (View.Piece (Elt Ideal) S8x128 .f32)), z ∈ p.1.set :=
  ⟨_, List.mem_singleton.mpr rfl, mem2 (inb := inb) z (Nat.zero_le _) ((z 0).isLt.trans_eq (Nat.zero_add _).symm) (Nat.zero_le _) ((z 1).isLt.trans_eq (Nat.zero_add _).symm)⟩

include hy hw hx hv ht in
theorem outA (hT : T = 0) (hc0 : cond0_0 i) : Left d T
    (out0_A_5 (F := Ideal) c i arg1 harg1 arg2 harg2 arg3 harg3 arg4 harg4 arg5 harg5 arg6 harg6 arg7 harg7 arg8 harg8 hc0 y w x v t, out0_A_6 (F := Ideal) c i arg1 harg1 arg2 harg2 arg3 harg3 arg4 harg4 arg5 harg5 arg6 harg6 arg7 harg7 arg8 harg8 hc0 y w x v t, out0_A_7 (F := Ideal) c i arg1 harg1 arg2 harg2 arg3 harg3 arg4 harg4 arg5 harg5 arg6 harg6 arg7 harg7 arg8 harg8 hc0 y w x v t) := by
  refine ⟨fun z => ?_, fun z => ?_, fun z => ?_⟩
  · dsimp only
    unfold out0_A_5
    rw [View.read_writes_junk_eq_canon]
    refine canon_at (Val := Elt Ideal) (e := .bf16) (fun z : S512x1024.Idx => d.y (512 * T + (z 0).val) (z 1).val) _ ?_ z (cover0_A_5 c i arg1 harg1 arg2 harg2 arg3 harg3 arg4 harg4 arg5 harg5 arg6 harg6 arg7 harg7 arg8 harg8 hc0 y w x v t z)
    unfold kernelRun0_A
    dsimp only
    sl_unfold_words
    simp (discharger := assumption) only [View.readAt_eq_ld, Memref.IsWhole.read_unread]
    exact pcons (piece2 (fun r p => d.y (512 * T + r) p) (Cert.Proj5.pay3 (prod hy hw)) (pj d.y)) pnil
  · dsimp only
    unfold out0_A_6
    rw [View.read_writes_junk_eq_canon]
    refine canon_at (Val := Elt Ideal) (e := .f32) (fun z : S512x1024.Idx => d.dx (512 * T + (z 0).val) (z 1).val) _ ?_ z (cover0_A_6 c i arg1 harg1 arg2 harg2 arg3 harg3 arg4 harg4 arg5 harg5 arg6 harg6 arg7 harg7 arg8 harg8 hc0 y w x v t z)
    unfold kernelRun0_A
    dsimp only
    sl_unfold_words
    simp (discharger := assumption) only [View.readAt_eq_ld, Memref.IsWhole.read_unread]
    exact pcons (piece2 (fun r p => d.dx (512 * T + r) p) (pay2 (errs hy hw hx hv ht)) (pj d.dx)) pnil
  · dsimp only
    subst hT
    unfold out0_A_7
    rw [View.read_writes_junk_eq_canon]
    unfold kernelRun0_A
    dsimp only
    sl_unfold_words
    simp (discharger := assumption) only [View.readAt_eq_ld, Memref.IsWhole.read_unread]
    exact canon_or (Val := Elt Ideal) (e := .f32) (G := fun _ : S8x128.Idx => d.sq (512 * (0 + 1))) [_] [_]
      (pcons (piece2 (fun _ _ => d.sq (512 * (0 + 1))) (pay4 (errs hy hw hx hv ht) (fill2 _ (ldx pay3))) fun _ _ _ _ => rfl) pnil) (.inr (whole8 z))

include hy hw hx hv ht in
theorem outB {s : Vec Ideal S8x128 .f32} (hs : M2 (n := 8) (m := 128) s (fun _ _ => d.sq (512 * T))) (hc0 : ¬cond0_0 i) : Left d T
    (out0_B_5 (F := Ideal) c i arg1 harg1 arg2 harg2 arg3 harg3 arg4 harg4 arg5 harg5 arg6 harg6 arg7 harg7 arg8 harg8 hc0 y w x v t s, out0_B_6 (F := Ideal) c i arg1 harg1 arg2 harg2 arg3 harg3 arg4 harg4 arg5 harg5 arg6 harg6 arg7 harg7 arg8 harg8 hc0 y w x v t s, out0_B_7 (F := Ideal) c i arg1 harg1 arg2 harg2 arg3 harg3 arg4 harg4 arg5 harg5 arg6 harg6 arg7 harg7 arg8 harg8 hc0 y w x v t s) := by
  refine ⟨fun z => ?_, fun z => ?_, fun z => ?_⟩
  · dsimp only
    unfold out0_B_5
    rw [View.read_writes_junk_eq_canon]
    refine canon_at (Val := Elt Ideal) (e := .bf16) (fun z : S512x1024.Idx => d.y (512 * T + (z 0).val) (z 1).val) _ ?_ z (cover0_B_5 c i arg1 harg1 arg2 harg2 arg3 harg3 arg4 harg4 arg5 harg5 arg6 harg6 arg7 harg7 arg8 harg8 hc0 y w x v t s z)
    unfold kernelRun0_B
    dsimp only
    sl_unfold_words
    simp (discharger := assumption) only [View.readAt_eq_ld, Memref.IsWhole.read_unread]
    exact pcons (piece2 (fun r p => d.y (512 * T + r) p) (Cert.Proj5.pay3 (prod hy hw)) (pj d.y)) pnil
  · dsimp only
    unfold out0_B_6
    rw [View.read_writes_junk_eq_canon]
    refine canon_at (Val := Elt Ideal) (e := .f32) (fun z : S512x1024.Idx => d.dx (512 * T + (z 0).val) (z 1).val) _ ?_ z (cover0_B_6 c i arg1 harg1 arg2 harg2 arg3 harg3 arg4 harg4 arg5 harg5 arg6 harg6 arg7 harg7 arg8 harg8 hc0 y w x v t s z)
    unfold kernelRun0_B
    dsimp only
    sl_unfold_words
    simp (discharger := assumption) only [View.readAt_eq_ld, Memref.IsWhole.read_unread]
    exact pcons (piece2 (fun r p => d.dx (512 * T + r) p) (pay2 (errs hy hw hx hv ht)) (pj d.dx)) pnil
  · dsimp only
    unfold out0_B_7
    rw [View.read_writes_junk_eq_canon]
    refine canon_at (Val := Elt Ideal) (e := .f32) (fun _ : S8x128.Idx => d.sq (512 * (T + 1))) _ ?_ z (cover0_B_7 c i arg1 harg1 arg2 harg2 arg3 harg3 arg4 harg4 arg5 harg5 arg6 harg6 arg7 harg7 arg8 harg8 hc0 y w x v t s z)
    unfold kernelRun0_B
    dsimp only
    sl_unfold_words
    simp (discharger := assumption) only [View.readAt_eq_ld, Memref.IsWhole.read_unread]
    exact pcons (piece2 (fun _ _ => d.sq (512 * (T + 1))) (pay4 (errs hy hw hx hv ht) (ldx hs)) fun _ _ _ _ => rfl) pnil

end Point

variable (m : (ℓ : Loc nD τ sig) → Buf (Elt Ideal) ℓ) (c : Dev nD)

theorem index0 : ∀ t : Fin grid0.N, win0_0.index t 0 = t.val ∧ win0_0.index t 1 = 0 := by decide +kernel
theorem index2 : ∀ t : Fin grid0.N, win0_2.index t 0 = t.val ∧ win0_2.index t 1 = 0 := by decide +kernel
theorem index3 : ∀ t : Fin grid0.N, win0_3.index t 0 = 0 ∧ win0_3.index t 1 = 0 := by decide +kernel
theorem index4 : ∀ t : Fin grid0.N, win0_4.index t 0 = t.val ∧ win0_4.index t 1 = 0 := by decide +kernel
theorem index5 : ∀ t : Fin grid0.N, win0_5.index t 0 = t.val ∧ win0_5.index t 1 = 0 := by decide +kernel
theorem index6 : ∀ t : Fin grid0.N, win0_6.index t 0 = t.val ∧ win0_6.index t 1 = 0 := by decide +kernel
theorem index7 : ∀ t : Fin grid0.N, win0_7.index t 0 = 0 ∧ win0_7.index t 1 = 0 := by decide +kernel
theorem index1 : ∀ t : Fin grid0.N, win0_1.index t 0 = 0 ∧ win0_1.index t 1 = 0 ∧ win0_1.index t 2 = 0 := by decide +kernel

/-- The five arrays by coordinates. -/
abbrev of (y : Vec Ideal ⟨2, ![4096, 2048]⟩ .bf16) (w : Vec Ideal ⟨3, ![4, 512, 1024]⟩ .bf16) (x : Vec Ideal ⟨2, ![4096, 1024]⟩ .f32)
    (v : Vec Ideal ⟨2, ![8, 1024]⟩ .f32) (t : Vec Ideal ⟨2, ![4096, 1024]⟩ .f32) : Data :=
  ⟨at2 (n := 4096) (m := 2048) y, at3 (k := 4) (n := 512) (m := 1024) w, at2 (n := 4096) (m := 1024) x, at2 (n := 8) (m := 1024) v, at2 (n := 4096) (m := 1024) t⟩

/-- The launched arrays. -/
abbrev dat : Data := of (m ((c : Thread nD τ).loc main_arg0)) (m ((c : Thread nD τ).loc main_arg1)) (m ((c : Thread nD τ).loc main_arg2))
  (m ((c : Thread nD τ).loc main_arg3)) (m ((c : Thread nD τ).loc main_arg4))

theorem blk0 (t : Fin cfg0.N) : M2 (n := 512) (m := 2048) (iblk m c 0 t) (fun r l => (dat m c).Y (512 * t.val + r) l) := by
  intro r l
  unfold iblk
  rw [View.read_apply]
  show V m c main_arg0 _ = at2 _ _ _
  rw [V_main_arg0]
  have hi := index0 t
  refine at2_of _ _ ?_ ?_
  · show win0_0.index t 0 * 512 + 1 * r.val = 512 * t.val + r.val; omega
  · show win0_0.index t 1 * 2048 + 1 * l.val = l.val; omega

theorem blk1 (t : Fin cfg0.N) : M3 (k := 4) (n := 512) (m := 1024) (iblk m c 1 t) (dat m c).W := by
  intro a r l
  unfold iblk
  rw [View.read_apply]
  show V m c main_arg1 _ = at3 _ _ _ _
  rw [V_main_arg1]
  have hi := index1 t
  refine at3_of _ _ ?_ ?_ ?_
  · show win0_1.index t 0 * 4 + 1 * a.val = a.val; omega
  · show win0_1.index t 1 * 512 + 1 * r.val = r.val; omega
  · show win0_1.index t 2 * 1024 + 1 * l.val = l.val; omega

theorem blk2 (t : Fin cfg0.N) : M2 (n := 512) (m := 1024) (iblk m c 2 t) (fun r l => (dat m c).X (512 * t.val + r) l) := by
  intro r l
  unfold iblk
  rw [View.read_apply]
  show V m c main_arg2 _ = at2 _ _ _
  rw [V_main_arg2]
  have hi := index2 t
  refine at2_of _ _ ?_ ?_
  · show win0_2.index t 0 * 512 + 1 * r.val = 512 * t.val + r.val; omega
  · show win0_2.index t 1 * 1024 + 1 * l.val = l.val; omega

theorem blk3 (t : Fin cfg0.N) : M2 (n := 8) (m := 1024) (iblk m c 3 t) (dat m c).V := by
  intro r l
  unfold iblk
  rw [View.read_apply]
  show V m c main_arg3 _ = at2 _ _ _
  rw [V_main_arg3]
  have hi := index3 t
  refine at2_of _ _ ?_ ?_
  · show win0_3.index t 0 * 8 + 1 * r.val = r.val; omega
  · show win0_3.index t 1 * 1024 + 1 * l.val = l.val; omega

theorem blk4 (t : Fin cfg0.N) : M2 (n := 512) (m := 1024) (iblk m c 4 t) (fun r l => (dat m c).D (512 * t.val + r) l) := by
  intro r l
  unfold iblk
  rw [View.read_apply]
  show V m c main_arg4 _ = at2 _ _ _
  rw [V_main_arg4]
  have hi := index4 t
  refine at2_of _ _ ?_ ?_
  · show win0_4.index t 0 * 512 + 1 * r.val = 512 * t.val + r.val; omega
  · show win0_4.index t 1 * 1024 + 1 * l.val = l.val; omega

theorem left : ∀ (n : ℕ) (hn : n < cfg0.N), Left (dat m c) n (outsAt0 m c n hn)
  | 0, hn => (outsAt0_A m c ⟨0, hn⟩ (Nat.zero_mod 8)).symm ▸
    outA (blk0 m c ⟨0, hn⟩) (blk1 m c ⟨0, hn⟩) (blk2 m c ⟨0, hn⟩) (blk3 m c ⟨0, hn⟩) (blk4 m c ⟨0, hn⟩) (hT := rfl) ..
  | n + 1, hn => by
    have hN : cfg0.N = 8 := N_0
    have ih : ∀ h, M2 (n := 8) (m := 128) (outsAt0 m c n h).2.2 (fun _ _ => (dat m c).sq (512 * (n + 1))) := fun h r l => (left n h).sq (ix2 r l)
    have e := outsAt0_B m c ⟨n + 1, hn⟩ (by show ¬(n + 1) % 8 = 0; omega)
    dsimp only at e
    rw [e]
    exact outB (blk0 m c ⟨n + 1, hn⟩) (blk1 m c ⟨n + 1, hn⟩) (blk2 m c ⟨n + 1, hn⟩) (blk3 m c ⟨n + 1, hn⟩) (blk4 m c ⟨n + 1, hn⟩) (hs := ih _) ..

theorem rowOf (i : S4096x1024.Idx) : ∃ t : Fin cfg0.N, t.val = (i 0).val / 512 :=
  have h : (i 0).val < 4096 := (i 0).isLt
  ⟨⟨(i 0).val / 512, lt_of_lt_of_eq (show (i 0).val / 512 < 8 by omega) N_0.symm⟩, rfl⟩

theorem final5 : (dats m 0 c).arrAt 5 cfg0.N = (arr2 (dat m c).y : Vec Ideal S4096x1024 .bf16) := by
  refine (dats m 0 c).arrAt_eq_of_cover 5 (arr2 (dat m c).y : Vec Ideal S4096x1024 .bf16) (fun t hf => ?_) fun (i : S4096x1024.Idx) => ?_
  · rw [Cert.Kernel10Ideal.Value.flushed5]
    funext y
    have hi := index5 t
    refine ((left m c t.val t.isLt).y y).trans ?_
    rw [View.read_apply]
    refine congrArg₂ (dat m c).y ?_ ?_
    · show _ = win0_5.index t 0 * 512 + 1 * (y 0).val; omega
    · show _ = win0_5.index t 1 * 1024 + 1 * (y 1).val; omega
  · obtain ⟨t, e⟩ := rowOf i
    refine ⟨t, flush0_5 _, ?_⟩
    show i ∈ ((View.whole main_v0_0).slice (win0_5.rect t)).set
    have hi := index5 t
    have i1 : (i 1).val < 1024 := (i 1).isLt
    rw [View.set_slice_whole, Rect.mem_set_unit]
    intro a
    match a with
    | ⟨0, _⟩ => show win0_5.index t 0 * 512 ≤ (i 0).val ∧ (i 0).val < win0_5.index t 0 * 512 + 512; omega
    | ⟨1, _⟩ => show win0_5.index t 1 * 1024 ≤ (i 1).val ∧ (i 1).val < win0_5.index t 1 * 1024 + 1024; omega

theorem final6 : (dats m 0 c).arrAt 6 cfg0.N = (arr2 (dat m c).dx : Vec Ideal S4096x1024 .f32) := by
  refine (dats m 0 c).arrAt_eq_of_cover 6 (arr2 (dat m c).dx : Vec Ideal S4096x1024 .f32) (fun t hf => ?_) fun (i : S4096x1024.Idx) => ?_
  · rw [Cert.Kernel10Ideal.Value.flushed6]
    funext y
    have hi := index6 t
    refine ((left m c t.val t.isLt).dx y).trans ?_
    rw [View.read_apply]
    refine congrArg₂ (dat m c).dx ?_ ?_
    · show _ = win0_6.index t 0 * 512 + 1 * (y 0).val; omega
    · show _ = win0_6.index t 1 * 1024 + 1 * (y 1).val; omega
  · obtain ⟨t, e⟩ := rowOf i
    refine ⟨t, flush0_6 _, ?_⟩
    show i ∈ ((View.whole main_v0_1).slice (win0_6.rect t)).set
    have hi := index6 t
    have i1 : (i 1).val < 1024 := (i 1).isLt
    rw [View.set_slice_whole, Rect.mem_set_unit]
    intro a
    match a with
    | ⟨0, _⟩ => show win0_6.index t 0 * 512 ≤ (i 0).val ∧ (i 0).val < win0_6.index t 0 * 512 + 512; omega
    | ⟨1, _⟩ => show win0_6.index t 1 * 1024 ≤ (i 1).val ∧ (i 1).val < win0_6.index t 1 * 1024 + 1024; omega

theorem final7 : (dats m 0 c).arrAt 7 cfg0.N = (fun _ => (dat m c).sq 4096 : Vec Ideal S8x128 .f32) := by
  have hN : cfg0.N = 8 := N_0
  refine (dats m 0 c).arrAt_eq_of_cover 7 (fun _ => (dat m c).sq 4096 : Vec Ideal S8x128 .f32) (fun t hf => ?_) fun (i : S8x128.Idx) => ?_
  · have h7 : t.val = 7 := by have := (flush0_7 t).mp hf; have := t.isLt; omega
    rw [Cert.Kernel10Ideal.Value.flushed7]
    funext y
    refine ((left m c t.val t.isLt).sq y).trans ?_
    rw [View.read_apply, h7]
    rfl
  · obtain ⟨t, e⟩ : ∃ t : Fin cfg0.N, t.val = 7 := ⟨⟨7, lt_of_lt_of_eq (by decide : 7 < 8) N_0.symm⟩, rfl⟩
    refine ⟨t, (flush0_7 _).mpr (by rw [e]), ?_⟩
    show i ∈ ((View.whole main_v0_2).slice (win0_7.rect t)).set
    have hi := index7 t
    have i0 : (i 0).val < 8 := (i 0).isLt
    have i1 : (i 1).val < 128 := (i 1).isLt
    rw [View.set_slice_whole, Rect.mem_set_unit]
    intro a
    match a with
    | ⟨0, _⟩ => show win0_7.index t 0 * 8 ≤ (i 0).val ∧ (i 0).val < win0_7.index t 0 * 8 + 8; omega
    | ⟨1, _⟩ => show win0_7.index t 1 * 128 ≤ (i 1).val ∧ (i 1).val < win0_7.index t 1 * 128 + 128; omega

/-! ## The reference -/

section Reference

open Cert.Reference10Ideal Cert.Reference10Ideal.Gen Cert.Reference10Ideal.Read

variable (y : Vec Ideal ⟨2, ![4096, 2048]⟩ .bf16) (w : Vec Ideal ⟨3, ![4, 512, 1024]⟩ .bf16) (x : Vec Ideal ⟨2, ![4096, 1024]⟩ .f32)
  (v : Vec Ideal ⟨2, ![8, 1024]⟩ .f32) (t : Vec Ideal ⟨2, ![4096, 1024]⟩ .f32)

theorem ref4 : val_main_v4 (F := Ideal) y w = arr2 (of y w x v t).y := Cert.Proj5.ref4 y w

theorem r28 (i : Cert.Reference10Ideal.S4096x1024.Idx) : val_main_v28 (F := Ideal) y w x v t i = (of y w x v t).err (i 0).val (i 1).val := by
  rw [val_main_v28_apply]
  exact congrArg₂ (· - ·) (congrFun (Cert.Proj5.ref27 y w x v) i) (at2_fn (n := 4096) (m := 1024) t i)

/-- Half of a mean's derivative is one over the number of lanes. -/
theorem scale (e : EReal) : Ideal.div (Ideal.ofBits .f32 0x3F000000#32 * Ideal.ofBits .f32 0x3F800000#32) (Ideal.ofBits .f32 0x44800000#32)
    * (Ideal.ofBits .f32 0x40000000#32 * e) = e * Ideal.ofBits .f32 0x3A800000#32 := by
  have h : Ideal.ofBits .f32 0x3A800000#32 = ((1 / 1024 : ℝ) : EReal) := by
    simp [Ideal.ofBits, Ideal.ieee]
    rw [← EReal.coe_mul]
    norm_num
  have h2 : (2 : EReal) = ((2 : ℝ) : EReal) := rfl
  rw [Ideal.ofBits_one_f32, mul_one, show Ideal.ofBits .f32 0x44800000#32 = _ from lanes_eq, Ideal.div_coe (by norm_num), Cert.Rnn.half_bits, Cert.Rnn.two_bits,
    h, h2, ← mul_assoc, ← EReal.coe_mul, ← EReal.coe_mul, mul_comm e]
  norm_num

theorem ref45 : val_main_v45 (F := Ideal) y w x v t = arr2 (of y w x v t).dx := by
  funext i
  rw [val_main_v45_apply, val_main_v44_apply, val_main_v43_apply, val_main_v42_apply, val_main_v41_apply, val_main_v40_apply, val_main_v34_apply,
    val_main_v33_apply]
  refine Eq.trans (scale (val_main_v31 (F := Ideal) y w x v t i)) ?_
  exact congrArg (· * Ideal.ofBits .f32 0x3A800000#32) (r28 y w x v t i)

theorem ref46 : val_main_v46 (F := Ideal) y w x v t = (fun _ => (of y w x v t).sq 4096 : Vec Ideal ⟨2, ![8, 128]⟩ .f32) := by
  funext i
  rw [val_main_v46_apply, val_main_v30_apply]
  have z : val_main_cst_2 (F := Ideal) (Shape.Idx.first h_S_) = 0 := Ideal.ofBits_zero .f32
  rw [z, zero_add, ValueIdx.sum_idx2]
  unfold Data.sq
  rw [← Fin.sum_univ_eq_sum_range (of y w x v t).row 4096]
  refine Finset.sum_congr rfl fun a _ => Finset.sum_congr rfl fun b _ => ?_
  rw [val_main_v29_apply, r28]
  rfl

end Reference

end Cert.Proj10

end
-- ==== Proof.lean ====
module

public import proofs.«01_k».proof.Defs
public import proofs.«01_k».proof.Proof.Gen.Kernel.Frame
public import proofs.«01_k».proof.Proof.Gen.KernelIdeal.Frame
public import proofs.«01_k».proof.Proof.PoolPre
public import proofs.«01_k».proof.Proof.PoolRef
public import proofs.«01_k».proof.Proof.Gen.Kernel2.Frame
public import proofs.«01_k».proof.Proof.Gen.Kernel2Ideal.Frame
public import proofs.«01_k».proof.Proof.Proj2
public import proofs.«01_k».proof.Proof.Gen.Kernel3.Frame
public import proofs.«01_k».proof.Proof.Gen.Kernel3Ideal.Frame
public import proofs.«01_k».proof.Proof.Proj3
public import proofs.«01_k».proof.Proof.Gen.Kernel4.Frame
public import proofs.«01_k».proof.Proof.Gen.Kernel4Ideal.Frame
public import proofs.«01_k».proof.Proof.Proj4
public import proofs.«01_k».proof.Proof.Proj4Ref
public import proofs.«01_k».proof.Proof.Gen.Kernel5.Frame
public import proofs.«01_k».proof.Proof.Gen.Kernel5Ideal.Frame
public import proofs.«01_k».proof.Proof.Proj5
public import proofs.«01_k».proof.Proof.Gen.Kernel6.Frame
public import proofs.«01_k».proof.Proof.Gen.Kernel6Ideal.Frame
public import proofs.«01_k».proof.Proof.Proj6
public import proofs.«01_k».proof.Proof.Proj6Ref
public import proofs.«01_k».proof.Proof.Gen.Kernel7.Frame
public import proofs.«01_k».proof.Proof.Gen.Kernel7Ideal.Frame
public import proofs.«01_k».proof.Proof.PoolFwd
public import proofs.«01_k».proof.Proof.PoolFwdRef
public import proofs.«01_k».proof.Proof.Gen.Kernel8.Frame
public import proofs.«01_k».proof.Proof.Gen.Kernel8Ideal.Frame
public import proofs.«01_k».proof.Proof.Gen.Reference8Ideal.Step
public import proofs.«01_k».proof.Proof.RnnIter
public import proofs.«01_k».proof.Proof.RnnRun
public import proofs.«01_k».proof.Proof.RnnRef
public import proofs.«01_k».proof.Proof.Gen.Kernel9.Frame
public import proofs.«01_k».proof.Proof.Gen.Kernel9Ideal.Frame
public import proofs.«01_k».proof.Proof.Gen.Kernel10.Frame
public import proofs.«01_k».proof.Proof.Gen.Kernel10Ideal.Frame
public import proofs.«01_k».proof.Proof.Gen.Kernel11.Frame
public import proofs.«01_k».proof.Proof.Gen.Kernel11Ideal.Frame
public import proofs.«01_k».proof.Proof.Gen.Kernel12.Frame
public import proofs.«01_k».proof.Proof.Gen.Kernel12Ideal.Frame
public import proofs.«01_k».proof.Proof.RnnBwd
public import proofs.«01_k».proof.Proof.Adam
public import proofs.«01_k».proof.Proof.Slab
public import proofs.«01_k».proof.Proof.Proj10
public import Idealize.ShloMosaic.Adequacy
public import Idealize.ShloMosaic.Init

@[expose] public section

noncomputable section

namespace Cert.Proof

open Idealize.ShloMosaic Idealize.ShloMosaic.TcCoe Idealize.ShloMosaic.StableHlo Idealize.SL.Sem

/-- The reference ends with its arguments as they were; it declares no semaphore. -/
theorem frame_reference : quiescent_ReferenceIdeal (hReferenceIdeal := ReferenceIdeal.Gen.facts) := by
  intro m ρ _
  exact (θ_run ReferenceIdeal.defs _ _).mono (fun r h => ⟨fun c => (h c).2.2.2,
      Idealize.ShloMosaic.sem_eq_zero_of_no_sems (by decide) r.2⟩)
    (ReferenceIdeal.Value.run (F := Ideal) m ρ)

/-- The kernel's three results and the reference's are the same three arrays when what they read is finite. -/
theorem algebraic : algebraic_KernelIdeal_ReferenceIdeal_pre_finite_inputs (hKernelIdeal := KernelIdeal.Gen.facts)
    (hReferenceIdeal := ReferenceIdeal.Gen.facts) (hPre_finite_inputs := Pool.pre_facts) := by
  intro m g m' g' hpre hargs
  refine ⟨fun c => Pool.resP (Pool.dm m c) (m (c.tc.loc KernelIdeal.main_arg2)), fun c => Pool.resW (Pool.dm m c),
    fun c => Pool.resV (Pool.dm m c), ?_, ?_⟩
  · refine (θ_run KernelIdeal.defs _ _).mono (fun r h c => ?_) (KernelIdeal.Value.run_blocks m g)
    obtain ⟨h5, h6, h7, ha⟩ := h c
    exact ⟨h5.trans (Pool.final5 m c), h6.trans (Pool.final6 m c), h7.trans (Pool.final7 m c), ha⟩
  · refine (θ_run ReferenceIdeal.defs _ _).mono (fun r h c => ?_) (ReferenceIdeal.Value.run (F := Ideal) m' g')
    obtain ⟨hP, hW, hV, ha⟩ := h c
    have hf := @Pool.fin_of_pre Pool.pre_facts _ _ _ _ _ (hpre c)
    obtain ⟨e0, e1, e2, e3, e4⟩ := hargs c
    refine ⟨hP.trans ?_, hW.trans ?_, hV.trans ?_, ha⟩
    · exact (ReferenceIdeal.Read.val_main_v165_eq (launchContents m' c)).symm.trans ((congr (congr (congr (congrArg₂ ReferenceIdeal.Read.val_main_v165 e0 e1) e2) e3) e4).trans (Pool.ref_P _ _ _ _ _ hf))
    · exact (ReferenceIdeal.Read.val_main_v170_eq (launchContents m' c)).symm.trans ((congr (congrArg₂ ReferenceIdeal.Read.val_main_v170 e0 e1) e4).trans (Pool.ref_W _ _ _ _ hf))
    · exact (ReferenceIdeal.Read.val_main_v169_eq (launchContents m' c)).symm.trans ((congr (congr (congrArg₂ ReferenceIdeal.Read.val_main_v169 e0 e1) e3) e4).trans (Pool.ref_V _ _ _ _ hf))

/-- The reference ends with its arguments as they were; it declares no semaphore. -/
theorem frame_reference2 : quiescent_Reference2Ideal (hReference2Ideal := Reference2Ideal.Gen.facts) := by
  intro m ρ _
  exact (θ_run Reference2Ideal.defs _ _).mono (fun r h => ⟨fun c => (h c).2,
      Idealize.ShloMosaic.sem_eq_zero_of_no_sems (by decide) r.2⟩)
    (Reference2Ideal.Value.run (F := Ideal) m ρ)

/-- The projection in, forward. The kernel's results and the reference's are the same arrays. -/
theorem algebraic2 : algebraic_Kernel2Ideal_Reference2Ideal (hKernel2Ideal := Kernel2Ideal.Gen.facts)
    (hReference2Ideal := Reference2Ideal.Gen.facts) := by
  intro m g m' g' hpre hargs
  refine ⟨fun c => Proj2.res m c, ?_, ?_⟩
  · refine (θ_run Kernel2Ideal.defs _ _).mono (fun r h c => ?_) (Kernel2Ideal.Value.run_blocks m g)
    obtain ⟨h0, ha⟩ := h c
    exact ⟨h0.trans (Proj2.final m c), ha⟩
  · refine (θ_run Reference2Ideal.defs _ _).mono (fun r h c => ?_) (Reference2Ideal.Value.run (F := Ideal) m' g')
    obtain ⟨h0, ha⟩ := h c
    obtain ⟨e0, e1, e2⟩ := hargs c
    refine ⟨h0.trans ?_, ha⟩
    · exact (Reference2Ideal.Read.val_main_v29_eq _ _ _).trans ((congr (congrArg₂ Reference2Ideal.Read.val_main_v29 e0 e1) e2).trans (Proj2.ref _ _ _))

/-- The reference ends with its arguments as they were; it declares no semaphore. -/
theorem frame_reference3 : quiescent_Reference3Ideal (hReference3Ideal := Reference3Ideal.Gen.facts) := by
  intro m ρ _
  exact (θ_run Reference3Ideal.defs _ _).mono (fun r h => ⟨fun c => (h c).2,
      Idealize.ShloMosaic.sem_eq_zero_of_no_sems (by decide) r.2⟩)
    (Reference3Ideal.Value.run (F := Ideal) m ρ)

/-- The gradient of the weights in. The kernel's results and the reference's are the same arrays. -/
theorem algebraic3 : algebraic_Kernel3Ideal_Reference3Ideal (hKernel3Ideal := Kernel3Ideal.Gen.facts)
    (hReference3Ideal := Reference3Ideal.Gen.facts) := by
  intro m g m' g' hpre hargs
  refine ⟨fun c => Proj3.res m c, ?_, ?_⟩
  · refine (θ_run Kernel3Ideal.defs _ _).mono (fun r h c => ?_) (Kernel3Ideal.Value.run_blocks m g)
    obtain ⟨h0, ha⟩ := h c
    exact ⟨h0.trans (Proj3.final m c), ha⟩
  · refine (θ_run Reference3Ideal.defs _ _).mono (fun r h c => ?_) (Reference3Ideal.Value.run (F := Ideal) m' g')
    obtain ⟨h0, ha⟩ := h c
    obtain ⟨e0, e1, e2, e3⟩ := hargs c
    refine ⟨h0.trans ?_, ha⟩
    · exact (Reference3Ideal.Read.val_main_v34_eq _ _ _).trans ((congr (congrArg₂ Reference3Ideal.Read.val_main_v34 e0 e1) e2).trans (Proj3.ref _ _ _))

/-- The reference ends with its arguments as they were; it declares no semaphore. -/
theorem frame_reference4 : quiescent_Reference4Ideal (hReference4Ideal := Reference4Ideal.Gen.facts) := by
  intro m ρ _
  exact (θ_run Reference4Ideal.defs _ _).mono (fun r h => ⟨fun c => (h c).2.2,
      Idealize.ShloMosaic.sem_eq_zero_of_no_sems (by decide) r.2⟩)
    (Reference4Ideal.Value.run (F := Ideal) m ρ)

/-- The gradient through the projection in. The kernel's results and the reference's are the same arrays. -/
theorem algebraic4 : algebraic_Kernel4Ideal_Reference4Ideal (hKernel4Ideal := Kernel4Ideal.Gen.facts)
    (hReference4Ideal := Reference4Ideal.Gen.facts) := by
  intro m g m' g' hpre hargs
  refine ⟨fun c => Proj4.res5 m c, fun c => Proj4.res6 m c, ?_, ?_⟩
  · refine (θ_run Kernel4Ideal.defs _ _).mono (fun r h c => ?_) (Kernel4Ideal.Value.run_blocks m g)
    obtain ⟨h0, h1, ha⟩ := h c
    exact ⟨h0.trans (Proj4.final5 m c), h1.trans (Proj4.final6 m c), ha⟩
  · refine (θ_run Reference4Ideal.defs _ _).mono (fun r h c => ?_) (Reference4Ideal.Value.run (F := Ideal) m' g')
    obtain ⟨h0, h1, ha⟩ := h c
    obtain ⟨e0, e1, e2, e3, e4, e5⟩ := hargs c
    refine ⟨h0.trans ?_, h1.trans ?_, ha⟩
    · exact (Reference4Ideal.Read.val_main_v65_eq _ _).trans ((congr (congr (congr (congrArg₂ Reference4Ideal.Read.val_main_v65 e0 e1) e2) e3) e4).trans (Proj4.ref65 _ _ _ _ _))
    · exact (Reference4Ideal.Read.val_main_v70_eq _ _ _ _).trans ((congr (congr (congrArg₂ Reference4Ideal.Read.val_main_v70 e0 e1) e2) e4).trans (Proj4.ref70 _ _ _ _))

/-- The reference ends with its arguments as they were; it declares no semaphore. -/
theorem frame_reference5 : quiescent_Reference5Ideal (hReference5Ideal := Reference5Ideal.Gen.facts) := by
  intro m ρ _
  exact (θ_run Reference5Ideal.defs _ _).mono (fun r h => ⟨fun c => (h c).2.2,
      Idealize.ShloMosaic.sem_eq_zero_of_no_sems (by decide) r.2⟩)
    (Reference5Ideal.Value.run (F := Ideal) m ρ)

/-- The projection out, forward. The kernel's results and the reference's are the same arrays. -/
theorem algebraic5 : algebraic_Kernel5Ideal_Reference5Ideal (hKernel5Ideal := Kernel5Ideal.Gen.facts)
    (hReference5Ideal := Reference5Ideal.Gen.facts) := by
  intro m g m' g' hpre hargs
  refine ⟨fun c => Proj5.res4 m c, fun c => Proj5.res5 m c, ?_, ?_⟩
  · refine (θ_run Kernel5Ideal.defs _ _).mono (fun r h c => ?_) (Kernel5Ideal.Value.run_blocks m g)
    obtain ⟨h0, h1, ha⟩ := h c
    exact ⟨h0.trans (Proj5.final4 m c), h1.trans (Proj5.final5 m c), ha⟩
  · refine (θ_run Reference5Ideal.defs _ _).mono (fun r h c => ?_) (Reference5Ideal.Value.run (F := Ideal) m' g')
    obtain ⟨h0, h1, ha⟩ := h c
    obtain ⟨e0, e1, e2, e3⟩ := hargs c
    refine ⟨h0.trans ?_, h1.trans ?_, ha⟩
    · exact (Reference5Ideal.Read.val_main_v4_eq _ _).trans ((congrArg₂ Reference5Ideal.Read.val_main_v4 e0 e1).trans (Proj5.ref4 _ _))
    · exact (Reference5Ideal.Read.val_main_v27_eq _ _ _ _).trans ((congr (congr (congrArg₂ Reference5Ideal.Read.val_main_v27 e0 e1) e2) e3).trans (Proj5.ref27 _ _ _ _))

/-- The reference ends with its arguments as they were; it declares no semaphore. -/
theorem frame_reference6 : quiescent_Reference6Ideal (hReference6Ideal := Reference6Ideal.Gen.facts) := by
  intro m ρ _
  exact (θ_run Reference6Ideal.defs _ _).mono (fun r h => ⟨fun c => (h c).2.2.2,
      Idealize.ShloMosaic.sem_eq_zero_of_no_sems (by decide) r.2⟩)
    (Reference6Ideal.Value.run (F := Ideal) m ρ)

/-- The gradient through the projection out. The kernel's results and the reference's are the same arrays. -/
theorem algebraic6 : algebraic_Kernel6Ideal_Reference6Ideal (hKernel6Ideal := Kernel6Ideal.Gen.facts)
    (hReference6Ideal := Reference6Ideal.Gen.facts) := by
  intro m g m' g' hpre hargs
  refine ⟨fun c => Proj6.res5 m c, fun c => Proj6.res6 m c, fun c => Proj6.res7 m c, ?_, ?_⟩
  · refine (θ_run Kernel6Ideal.defs _ _).mono (fun r h c => ?_) (Kernel6Ideal.Value.run_blocks m g)
    obtain ⟨h0, h1, h2, ha⟩ := h c
    exact ⟨h0.trans (Proj6.final5 m c), h1.trans (Proj6.final6 m c), h2.trans (Proj6.final7 m c), ha⟩
  · refine (θ_run Reference6Ideal.defs _ _).mono (fun r h c => ?_) (Reference6Ideal.Value.run (F := Ideal) m' g')
    obtain ⟨h0, h1, h2, ha⟩ := h c
    obtain ⟨e0, e1, e2, e3, e4⟩ := hargs c
    refine ⟨h0.trans ?_, h1.trans ?_, h2.trans ?_, ha⟩
    · exact (Reference6Ideal.Read.val_main_v57_eq _ _).trans ((congr (congr (congrArg₂ Reference6Ideal.Read.val_main_v57 e0 e1) e2) e3).trans (Proj6.ref57 _ _ _ _))
    · exact (Reference6Ideal.Read.val_main_v63_eq _ _).trans ((congr (congr (congrArg₂ Reference6Ideal.Read.val_main_v63 e0 e1) e2) e3).trans (Proj6.ref63 _ _ _ _))
    · exact (Reference6Ideal.Read.val_main_v61_eq _ _ _ _).trans ((congr (congr (congrArg₂ Reference6Ideal.Read.val_main_v61 e0 e1) e2) e3).trans (Proj6.ref61 _ _ _ _))

/-- The reference ends with its arguments as they were; it declares no semaphore. -/
theorem frame_reference7 : quiescent_Reference7Ideal (hReference7Ideal := Reference7Ideal.Gen.facts) := by
  intro m ρ _
  exact (θ_run Reference7Ideal.defs _ _).mono (fun r h => ⟨fun c => (h c).2,
      Idealize.ShloMosaic.sem_eq_zero_of_no_sems (by decide) r.2⟩)
    (Reference7Ideal.Value.run (F := Ideal) m ρ)

/-- The pooled branch, forward. The kernel's results and the reference's are the same arrays when what they read is finite. -/
theorem algebraic7 : algebraic_Kernel7Ideal_Reference7Ideal_pre_finite_pooled (hKernel7Ideal := Kernel7Ideal.Gen.facts)
    (hReference7Ideal := Reference7Ideal.Gen.facts) (hPre_finite_pooled := Fwd.pre_facts) := by
  intro m g m' g' hpre hargs
  refine ⟨fun c => Fwd.res3 m c, ?_, ?_⟩
  · refine (θ_run Kernel7Ideal.defs _ _).mono (fun r h c => ?_) (Kernel7Ideal.Value.run_blocks m g)
    obtain ⟨h0, ha⟩ := h c
    exact ⟨h0.trans (Fwd.final3 m c), ha⟩
  · refine (θ_run Reference7Ideal.defs _ _).mono (fun r h c => ?_) (Reference7Ideal.Value.run (F := Ideal) m' g')
    obtain ⟨h0, ha⟩ := h c
    obtain ⟨e0, e1, e2, e3⟩ := hargs c
    have hf := @Fwd.fin_of_pre Fwd.pre_facts _ _ _ _ (hpre c)
    refine ⟨h0.trans ?_, ha⟩
    · exact (Reference7Ideal.Read.val_main_v88_eq _ _).trans ((congr (congr (congrArg₂ Reference7Ideal.Read.val_main_v88 e0 e1) e2) e3).trans (Fwd.ref7 _ _ _ _ hf))

/-- The reference ends with its arguments as they were; it declares no semaphore. -/
theorem frame_reference8 : quiescent_Reference8Ideal (hReference8Ideal := Reference8Ideal.Gen.facts) := by
  intro m ρ _
  exact (θ_run Reference8Ideal.defs _ _).mono (fun r h => ⟨fun c => (h c).2.2,
      Idealize.ShloMosaic.sem_eq_zero_of_no_sems (by decide) r.2⟩)
    (RnnRef.run_reference m ρ)

/-- The recurrent branch, forward. The kernel's results and the reference's are the same arrays. -/
theorem algebraic8 : algebraic_Kernel8Ideal_Reference8Ideal (hKernel8Ideal := Kernel8Ideal.Gen.facts)
    (hReference8Ideal := Reference8Ideal.Gen.facts) := by
  intro m g m' g' hpre hargs
  refine ⟨fun c => Rnn.resY (Rnn.dm m c), fun c => Rnn.resH (Rnn.dm m c), Rnn.run_kernel m g, ?_⟩
  refine (θ_run Reference8Ideal.defs _ _).mono (fun r h c => ?_) (RnnRef.run_reference m' g')
  obtain ⟨h0, h1, ha⟩ := h c
  obtain ⟨e0, e1, e2, e3, e4⟩ := hargs c
  have e : RnnRef.dr m' c = Rnn.dm m c := by
    unfold RnnRef.dr Rnn.dm
    rw [e0, e1, e2, e3, e4]
  exact ⟨h0.trans (congrArg Rnn.resY e), h1.trans (congrArg Rnn.resH e), ha⟩

/-- The reference ends with its arguments as they were; it declares no semaphore. -/
theorem frame_reference9 : quiescent_Reference9Ideal (hReference9Ideal := Reference9Ideal.Gen.facts) := by
  intro m ρ _
  exact (θ_run Reference9Ideal.defs _ _).mono (fun r h => ⟨fun c => (h c).2,
      Idealize.ShloMosaic.sem_eq_zero_of_no_sems (by decide) r.2⟩)
    (Reference9Ideal.Value.run (F := Ideal) m ρ)

/-- The recurrent branch, backward. The gradient of the gate's input is the same array when what it reads is finite. -/
theorem algebraic9 : algebraic_Kernel9Ideal_Reference9Ideal_pre_finite_gated (hKernel9Ideal := Kernel9Ideal.Gen.facts)
    (hReference9Ideal := Reference9Ideal.Gen.facts) (hPre_finite_gated := RBwd.pre_facts) := by
  intro m g m' g' hpre hargs
  refine ⟨fun c => RBwd.res m c, ?_, ?_⟩
  · exact (θ_run Kernel9Ideal.defs _ _).mono (fun r h c => ⟨h.1 c, h.2 c⟩) (θ_run_and (RBwd.run_kernel m g) (Kernel9Ideal.Gen.unchanged m g))
  · refine (θ_run Reference9Ideal.defs _ _).mono (fun r h c => ?_) (Reference9Ideal.Value.run (F := Ideal) m' g')
    obtain ⟨h0, ha⟩ := h c
    obtain ⟨e0, e1, e2, -⟩ := hargs c
    have hf := @RBwd.fin_of_pre RBwd.pre_facts _ _ _ _ _ _ _ _ (hpre c)
    rw [← e1, ← e2] at hf
    exact ⟨h0.trans (funext fun i => (RBwd.deriv (fun _ => Pool.one_bits) _ i (hf i).1 (hf i).2).trans (RBwd.ref7 e0 e1 e2 i)), ha⟩

/-- The reference ends with its arguments as they were; it declares no semaphore. -/
theorem frame_reference10 : quiescent_Reference10Ideal (hReference10Ideal := Reference10Ideal.Gen.facts) := by
  intro m ρ _
  exact (θ_run Reference10Ideal.defs _ _).mono (fun r h => ⟨fun c => (h c).2.2.2,
      Idealize.ShloMosaic.sem_eq_zero_of_no_sems (by decide) r.2⟩)
    (Reference10Ideal.Value.run (F := Ideal) m ρ)

/-- The projection out of the last layer, forward, with the loss. The kernel's results and the reference's are the same arrays. -/
theorem algebraic10 : algebraic_Kernel10Ideal_Reference10Ideal (hKernel10Ideal := Kernel10Ideal.Gen.facts)
    (hReference10Ideal := Reference10Ideal.Gen.facts) := by
  intro m g m' g' hpre hargs
  refine ⟨fun c => Proj.arr2 (Proj10.dat m c).y, fun c => Proj.arr2 (Proj10.dat m c).dx, fun c => fun _ => (Proj10.dat m c).sq 4096, ?_, ?_⟩
  · refine (θ_run Kernel10Ideal.defs _ _).mono (fun r h c => ?_) (Kernel10Ideal.Value.run_blocks m g)
    obtain ⟨h0, h1, h2, ha⟩ := h c
    exact ⟨h0.trans (Proj10.final5 m c), h1.trans (Proj10.final6 m c), h2.trans (Proj10.final7 m c), ha⟩
  · refine (θ_run Reference10Ideal.defs _ _).mono (fun r h c => ?_) (Reference10Ideal.Value.run (F := Ideal) m' g')
    obtain ⟨h0, h1, h2, ha⟩ := h c
    obtain ⟨e0, e1, e2, e3, e4⟩ := hargs c
    refine ⟨h0.trans ?_, h1.trans ?_, h2.trans ?_, ha⟩
    · exact (Reference10Ideal.Read.val_main_v4_eq _ _).trans ((congrArg₂ Reference10Ideal.Read.val_main_v4 e0 e1).trans (Proj10.ref4 _ _ _ _ _))
    · exact (Reference10Ideal.Read.val_main_v45_eq _ _ _ _ _).trans ((congr (congr (congr (congrArg₂ Reference10Ideal.Read.val_main_v45 e0 e1) e2) e3) e4).trans (Proj10.ref45 _ _ _ _ _))
    · exact (Reference10Ideal.Read.val_main_v46_eq _ _ _ _ _).trans ((congr (congr (congr (congrArg₂ Reference10Ideal.Read.val_main_v46 e0 e1) e2) e3) e4).trans (Proj10.ref46 _ _ _ _ _))

/-- The reference ends with its arguments as they were; it declares no semaphore. -/
theorem frame_reference11 : quiescent_Reference11Ideal (hReference11Ideal := Reference11Ideal.Gen.facts) := by
  intro m ρ _
  exact (θ_run Reference11Ideal.defs _ _).mono (fun r h => ⟨fun c => (h c).2.2.2.2,
      Idealize.ShloMosaic.sem_eq_zero_of_no_sems (by decide) r.2⟩)
    (Reference11Ideal.Value.run (F := Ideal) m ρ)

/-- The optimiser's step on one layer's matrices in. The kernel's results and the reference's are the same arrays. -/
theorem algebraic11 : algebraic_Kernel11Ideal_Reference11Ideal (hKernel11Ideal := Kernel11Ideal.Gen.facts)
    (hReference11Ideal := Reference11Ideal.Gen.facts) := by
  intro m g m' g' hpre hargs
  refine ⟨fun c => Adam.res (Adam.G m c) (m ((c : Thread Kernel11Ideal.nD Kernel11Ideal.τ).loc Kernel11Ideal.main_arg5)), fun c => Adam.res (Adam.D' m c) (m ((c : Thread Kernel11Ideal.nD Kernel11Ideal.τ).loc Kernel11Ideal.main_arg6)), fun c => Adam.res (Adam.M' m c) (m ((c : Thread Kernel11Ideal.nD Kernel11Ideal.τ).loc Kernel11Ideal.main_arg7)), fun c => Adam.res (Adam.V' m c) (m ((c : Thread Kernel11Ideal.nD Kernel11Ideal.τ).loc Kernel11Ideal.main_arg8)), ?_, ?_⟩
  · refine (θ_run Kernel11Ideal.defs _ _).mono (fun r h c => ?_) (Kernel11Ideal.Value.run_blocks m g)
    obtain ⟨h0, h1, h2, h3, ha⟩ := h c
    exact ⟨h0.trans (Adam.final5 m c), h1.trans (Adam.final6 m c), h2.trans (Adam.final7 m c), h3.trans (Adam.final8 m c), ha⟩
  · refine (θ_run Reference11Ideal.defs _ _).mono (fun r h c => ?_) (Reference11Ideal.Value.run (F := Ideal) m' g')
    obtain ⟨h0, h1, h2, h3, ha⟩ := h c
    obtain ⟨e0, e1, e2, e3, e4, e5, e6, e7, e8⟩ := hargs c
    refine ⟨h0.trans ?_, h1.trans ?_, h2.trans ?_, h3.trans ?_, ha⟩
    · exact (Reference11Ideal.Read.val_main_v34_eq _ _ _).trans ((congr (congrArg₂ Reference11Ideal.Read.val_main_v34 e3 e4) e5).trans (Adam.ref34 _ _ _))
    · exact (Reference11Ideal.Read.val_main_v36_eq _ _ _ _ _ _).trans ((congr (congr (congr (congr (congrArg₂ Reference11Ideal.Read.val_main_v36 e0 e1) e2) e3) e4) e6).trans (Adam.ref36 _ _ _ _ _ _))
    · exact (Reference11Ideal.Read.val_main_v38_eq _ _ _ _).trans ((congr (congr (congrArg₂ Reference11Ideal.Read.val_main_v38 e1 e3) e4) e7).trans (Adam.ref38 _ _ _ _))
    · exact (Reference11Ideal.Read.val_main_v40_eq _ _ _ _).trans ((congr (congr (congrArg₂ Reference11Ideal.Read.val_main_v40 e2 e3) e4) e8).trans (Adam.ref40 _ _ _ _))

/-- The reference ends with its arguments as they were; it declares no semaphore. -/
theorem frame_reference12 : quiescent_Reference12Ideal (hReference12Ideal := Reference12Ideal.Gen.facts) := by
  intro m ρ _
  exact (θ_run Reference12Ideal.defs _ _).mono (fun r h => ⟨fun c => (h c).2,
      Idealize.ShloMosaic.sem_eq_zero_of_no_sems (by decide) r.2⟩)
    (Reference12Ideal.Value.run (F := Ideal) m ρ)

/-- The sum of the slabs. The kernel's results and the reference's are the same arrays. -/
theorem algebraic12 : algebraic_Kernel12Ideal_Reference12Ideal (hKernel12Ideal := Kernel12Ideal.Gen.facts)
    (hReference12Ideal := Reference12Ideal.Gen.facts) := by
  intro m g m' g' hpre hargs
  refine ⟨fun c => Kernel12Ideal.Value.G1 (F := Ideal) (m ((c : Thread Kernel12Ideal.nD Kernel12Ideal.τ).loc Kernel12Ideal.main_arg0)), ?_, ?_⟩
  · refine (θ_run Kernel12Ideal.defs _ _).mono (fun r h c => ?_) (Kernel12Ideal.Value.run_blocks m g)
    obtain ⟨h0, ha⟩ := h c
    exact ⟨h0.trans (Kernel12Ideal.Value.final1 m c), ha⟩
  · refine (θ_run Reference12Ideal.defs _ _).mono (fun r h c => ?_) (Reference12Ideal.Value.run (F := Ideal) m' g')
    obtain ⟨h0, ha⟩ := h c
    have e0 := hargs c
    refine ⟨h0.trans ?_, ha⟩
    · exact (Reference12Ideal.Read.val_main_v0_eq _).trans ((congrArg Reference12Ideal.Read.val_main_v0 e0).trans ((Slab.sum_eq _).symm))

theorem claim : Cert.Claim := ⟨Kernel.Gen.facts,
  KernelIdeal.Gen.facts,
  ReferenceIdeal.Gen.facts,
  Kernel2.Gen.facts,
  Kernel2Ideal.Gen.facts,
  Reference2Ideal.Gen.facts,
  Kernel3.Gen.facts,
  Kernel3Ideal.Gen.facts,
  Reference3Ideal.Gen.facts,
  Kernel4.Gen.facts,
  Kernel4Ideal.Gen.facts,
  Reference4Ideal.Gen.facts,
  Kernel5.Gen.facts,
  Kernel5Ideal.Gen.facts,
  Reference5Ideal.Gen.facts,
  Kernel6.Gen.facts,
  Kernel6Ideal.Gen.facts,
  Reference6Ideal.Gen.facts,
  Kernel7.Gen.facts,
  Kernel7Ideal.Gen.facts,
  Reference7Ideal.Gen.facts,
  Kernel8.Gen.facts,
  Kernel8Ideal.Gen.facts,
  Reference8Ideal.Gen.facts,
  Kernel9.Gen.facts,
  Kernel9Ideal.Gen.facts,
  Reference9Ideal.Gen.facts,
  Kernel10.Gen.facts,
  Kernel10Ideal.Gen.facts,
  Reference10Ideal.Gen.facts,
  Kernel11.Gen.facts,
  Kernel11Ideal.Gen.facts,
  Reference11Ideal.Gen.facts,
  Kernel12.Gen.facts,
  Kernel12Ideal.Gen.facts,
  Reference12Ideal.Gen.facts,
  Pool.pre_facts,
  Fwd.pre_facts,
  RBwd.pre_facts,
  fun m ρ _ => Kernel.Gen.frame m ρ,
  fun m ρ _ => KernelIdeal.Gen.frame m ρ,
  fun m ρ _ => KernelIdeal.Gen.frame m ρ,
  frame_reference,
  fun m ρ _ => frame_reference m ρ trivial,
  fun m ρ _ => Kernel2.Gen.frame m ρ,
  fun m ρ _ => Kernel2Ideal.Gen.frame m ρ,
  frame_reference2,
  fun m ρ _ => Kernel3.Gen.frame m ρ,
  fun m ρ _ => Kernel3Ideal.Gen.frame m ρ,
  frame_reference3,
  fun m ρ _ => Kernel4.Gen.frame m ρ,
  fun m ρ _ => Kernel4Ideal.Gen.frame m ρ,
  frame_reference4,
  fun m ρ _ => Kernel5.Gen.frame m ρ,
  fun m ρ _ => Kernel5Ideal.Gen.frame m ρ,
  frame_reference5,
  fun m ρ _ => Kernel6.Gen.frame m ρ,
  fun m ρ _ => Kernel6Ideal.Gen.frame m ρ,
  frame_reference6,
  fun m ρ _ => Kernel7.Gen.frame m ρ,
  fun m ρ _ => Kernel7Ideal.Gen.frame m ρ,
  fun m ρ _ => Kernel7Ideal.Gen.frame m ρ,
  frame_reference7,
  fun m ρ _ => frame_reference7 m ρ trivial,
  fun m ρ _ => Kernel8.Gen.frame m ρ,
  fun m ρ _ => Kernel8Ideal.Gen.frame m ρ,
  frame_reference8,
  fun m ρ _ => Kernel9.Gen.frame m ρ,
  fun m ρ _ => Kernel9Ideal.Gen.frame m ρ,
  fun m ρ _ => Kernel9Ideal.Gen.frame m ρ,
  frame_reference9,
  fun m ρ _ => frame_reference9 m ρ trivial,
  fun m ρ _ => Kernel10.Gen.frame m ρ,
  fun m ρ _ => Kernel10Ideal.Gen.frame m ρ,
  frame_reference10,
  fun m ρ _ => Kernel11.Gen.frame m ρ,
  fun m ρ _ => Kernel11Ideal.Gen.frame m ρ,
  frame_reference11,
  fun m ρ _ => Kernel12.Gen.frame m ρ,
  fun m ρ _ => Kernel12Ideal.Gen.frame m ρ,
  frame_reference12,
  trivial,
  algebraic,
  trivial,
  algebraic2,
  trivial,
  algebraic3,
  trivial,
  algebraic4,
  trivial,
  algebraic5,
  trivial,
  algebraic6,
  trivial,
  algebraic7,
  trivial,
  algebraic8,
  trivial,
  algebraic9,
  trivial,
  algebraic10,
  trivial,
  algebraic11,
  trivial,
  algebraic12⟩

end Cert.Proof

end
